-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale2" .f32 0x3E0293EE#32 (((Real.sqrt 128)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v8_0)) (v1 : (c : Dev Cert.Kernel4Ideal.nD) → Buf (Elt Ideal) ((c.tc : Thread Cert.Kernel4Ideal.nD Cert.Kernel4Ideal.τ).loc Cert.Kernel4Ideal.main_v8_1)) (v2 : (c : Dev Cert.Kernel4Ideal.nD) → Buf (Elt Ideal) ((c.tc : Thread Cert.Kernel4Ideal.nD Cert.Kernel4Ideal.τ).loc Cert.Kernel4Ideal.main_v8_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8_0) = v0 c
          ∧ r.2.mem ((c.tc : Thread Cert.Kernel4Ideal.nD Cert.Kernel4Ideal.τ).loc Cert.Kernel4Ideal.main_v8_1) = v1 c
          ∧ r.2.mem ((c.tc : Thread Cert.Kernel4Ideal.nD Cert.Kernel4Ideal.τ).loc Cert.Kernel4Ideal.main_v8_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v29) = v0 c
          ∧ r.2.mem ((c.tc : Thread Cert.Reference4Ideal.nD Cert.Reference4Ideal.τ).loc Cert.Reference4Ideal.main_v30) = v1 c
          ∧ r.2.mem ((c.tc : Thread Cert.Reference4Ideal.nD Cert.Reference4Ideal.τ).loc Cert.Reference4Ideal.main_v32) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v29) = v0 c
          ∧ r.2.mem ((c.tc : Thread Cert.Reference5Ideal.nD Cert.Reference5Ideal.τ).loc Cert.Reference5Ideal.main_v30) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v30)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v30) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v89) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v9)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v9) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v20) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v8)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v8) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v19) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  IdealRules.named_const.Statement Cert.Kernel11Ideal.κ "mask11" .f32 0xF149F2CA#32 ⊥
  ∧ IdealRules.named_const.Statement Cert.Kernel11Ideal.κ "scale11" .f32 0x3DD53B95#32 (((Real.sqrt 192)⁻¹ * (Real.log 2)⁻¹ : ℝ) : EReal)

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v16)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v16) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v34) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v29)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v29) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v48) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v33)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v33) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v58) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v5)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v5) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v40) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v7) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v40) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hPre_finite : Cert.Pre_finite.Facts) (hPre_finite11 : Cert.Pre_finite11.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite11 (hKernel11Ideal := hKernel11Ideal) (hReference11Ideal := hReference11Ideal) (hPre_finite11 := hPre_finite11)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
-- ==== Pre_finite.lean ====
abbrev S2x4096x4x2x128 : Shape := ⟨5, ![2, 4096, 4, 2, 128]⟩
abbrev S2x4096x1024 : Shape := ⟨3, ![2, 4096, 1024]⟩
abbrev S_ : Shape := ⟨0, ![]⟩

class Facts : Prop where
  bcast_S_S2x4096x4x2x128 : S_.BroadcastsInDim S2x4096x4x2x128 (![] : Fin 0 → Fin S2x4096x4x2x128.rank)
  reducesTo_S2x4096x4x2x128_S_d0_1_2_3_4 : S2x4096x4x2x128.ReducesTo [0, 1, 2, 3, 4] S_
  h_S_ : 0 < S_.numel

variable [Facts]

def fn {F : FTy → Type} [FloatOps F] (main_arg0 : FVec F S2x4096x4x2x128 .f32) (main_arg1 : FVec F S2x4096x4x2x128 .f32) (main_arg2 : FVec F S2x4096x1024 .f32) : IVec S_ 1 :=
  let main_v0 : FVec F S2x4096x4x2x128 .f32 := Host.absf main_arg0
  let main_cst : FVec F S_ .f32 := constant S_ .f32 0x7F800000#32
  let main_v1 : FVec F S2x4096x4x2x128 .f32 := broadcastInDim S2x4096x4x2x128 ![] bcast_S_S2x4096x4x2x128 main_cst
  let main_v2 : IVec S2x4096x4x2x128 1 := cmpf .olt main_v0 main_v1
  let main_c : IVec S_ 1 := constantI S_ 1 1#1
  let main_v3 : IVec S_ 1 := (fun x v => Host.reduce IntOp.andi x v reducesTo_S2x4096x4x2x128_S_d0_1_2_3_4 h_S_) main_v2 main_c
  let main_v4 : FVec F S2x4096x4x2x128 .f32 := Host.absf main_arg1
  let main_cst_0 : FVec F S_ .f32 := constant S_ .f32 0x7F800000#32
  let main_v5 : FVec F S2x4096x4x2x128 .f32 := broadcastInDim S2x4096x4x2x128 ![] bcast_S_S2x4096x4x2x128 main_cst_0
  let main_v6 : IVec S2x4096x4x2x128 1 := cmpf .olt main_v4 main_v5
  let main_c_1 : IVec S_ 1 := constantI S_ 1 1#1
  let main_v7 : IVec S_ 1 := (fun x v => Host.reduce IntOp.andi x v reducesTo_S2x4096x4x2x128_S_d0_1_2_3_4 h_S_) main_v6 main_c_1
  let main_v8 : IVec S_ 1 := andi main_v3 main_v7
  main_v8
-- ==== Pre_finite11.lean ====
abbrev S2x4096x8x192 : Shape := ⟨4, ![2, 4096, 8, 192]⟩
abbrev S2x4096x8x256 : Shape := ⟨4, ![2, 4096, 8, 256]⟩
abbrev S2x4096x64 : Shape := ⟨3, ![2, 4096, 64]⟩
abbrev S_ : Shape := ⟨0, ![]⟩
abbrev S2x4096x8x128 : Shape := ⟨4, ![2, 4096, 8, 128]⟩

class Facts : Prop where
  bcast_S_S2x4096x8x192 : S_.BroadcastsInDim S2x4096x8x192 (![] : Fin 0 → Fin S2x4096x8x192.rank)
  reducesTo_S2x4096x8x192_S_d0_1_2_3 : S2x4096x8x192.ReducesTo [0, 1, 2, 3] S_
  h_S_ : 0 < S_.numel
  slices_S2x4096x8x256_S2x4096x8x128_0_0_0_0 : S2x4096x8x256.Slices ![0, 0, 0, 0] S2x4096x8x128
  bcast_S_S2x4096x8x128 : S_.BroadcastsInDim S2x4096x8x128 (![] : Fin 0 → Fin S2x4096x8x128.rank)
  reducesTo_S2x4096x8x128_S_d0_1_2_3 : S2x4096x8x128.ReducesTo [0, 1, 2, 3] S_
  bcast_S_S2x4096x64 : S_.BroadcastsInDim S2x4096x64 (![] : Fin 0 → Fin S2x4096x64.rank)
  reducesTo_S2x4096x64_S_d0_1_2 : S2x4096x64.ReducesTo [0, 1, 2] S_

variable [Facts]

def fn {F : FTy → Type} [FloatOps F] (main_arg0 : FVec F S2x4096x8x192 .f32) (main_arg1 : FVec F S2x4096x8x256 .f32) (main_arg2 : FVec F S2x4096x64 .f32) : IVec S_ 1 :=
  let main_v0 : FVec F S2x4096x8x192 .f32 := Host.absf main_arg0
  let main_cst : FVec F S_ .f32 := constant S_ .f32 0x7F800000#32
  let main_v1 : FVec F S2x4096x8x192 .f32 := broadcastInDim S2x4096x8x192 ![] bcast_S_S2x4096x8x192 main_cst
  let main_v2 : IVec S2x4096x8x192 1 := cmpf .olt main_v0 main_v1
  let main_c : IVec S_ 1 := constantI S_ 1 1#1
  let main_v3 : IVec S_ 1 := (fun x v => Host.reduce IntOp.andi x v reducesTo_S2x4096x8x192_S_d0_1_2_3 h_S_) main_v2 main_c
  let main_v4 : FVec F S2x4096x8x128 .f32 := (extractStridedSlice S2x4096x8x128 ![0, 0, 0, 0] · slices_S2x4096x8x256_S2x4096x8x128_0_0_0_0) main_arg1
  let main_v5 : FVec F S2x4096x8x128 .f32 := Host.absf main_v4
  let main_cst_0 : FVec F S_ .f32 := constant S_ .f32 0x7F800000#32
  let main_v6 : FVec F S2x4096x8x128 .f32 := broadcastInDim S2x4096x8x128 ![] bcast_S_S2x4096x8x128 main_cst_0
  let main_v7 : IVec S2x4096x8x128 1 := cmpf .olt main_v5 main_v6
  let main_c_1 : IVec S_ 1 := constantI S_ 1 1#1
  let main_v8 : IVec S_ 1 := (fun x v => Host.reduce IntOp.andi x v reducesTo_S2x4096x8x128_S_d0_1_2_3 h_S_) main_v7 main_c_1
  let main_v9 : IVec S_ 1 := andi main_v3 main_v8
  let main_v10 : FVec F S2x4096x64 .f32 := Host.absf main_arg2
  let main_cst_2 : FVec F S_ .f32 := constant S_ .f32 0x7F800000#32
  let main_v11 : FVec F S2x4096x64 .f32 := broadcastInDim S2x4096x64 ![] bcast_S_S2x4096x64 main_cst_2
  let main_v12 : IVec S2x4096x64 1 := cmpf .olt main_v10 main_v11
  let main_c_3 : IVec S_ 1 := constantI S_ 1 1#1
  let main_v13 : IVec S_ 1 := (fun x v => Host.reduce IntOp.andi x v reducesTo_S2x4096x64_S_d0_1_2 h_S_) main_v12 main_c_3
  let main_v14 : IVec S_ 1 := andi main_v9 main_v13
  main_v14
-- ==== Kernel.lean ====
abbrev S2x4096x4x2x128 : Shape := ⟨5, ![2, 4096, 4, 2, 128]⟩
abbrev S2x4096x1024 : Shape := ⟨3, ![2, 4096, 1024]⟩
abbrev S36 : Shape := ⟨1, ![36]⟩
abbrev S8192x1024 : Shape := ⟨2, ![8192, 1024]⟩
abbrev S8192x2048 : Shape := ⟨2, ![8192, 2048]⟩
abbrev S512x1024 : Shape := ⟨2, ![512, 1024]⟩
abbrev S1 : Shape := ⟨1, ![1]⟩
abbrev S512x2048 : Shape := ⟨2, ![512, 2048]⟩
abbrev S8x512x128 : Shape := ⟨3, ![8, 512, 128]⟩
abbrev S8x512x256 : Shape := ⟨3, ![8, 512, 256]⟩
abbrev S512x128 : Shape := ⟨2, ![512, 128]⟩
abbrev S512x256 : Shape := ⟨2, ![512, 256]⟩
abbrev S256x128 : Shape := ⟨2, ![256, 128]⟩
abbrev S256x512 : Shape := ⟨2, ![256, 512]⟩
abbrev S1x256x128 : Shape := ⟨3, ![1, 256, 128]⟩
abbrev S256 : Shape := ⟨1, ![256]⟩
abbrev S256x1 : Shape := ⟨2, ![256, 1]⟩
abbrev S256x256 : Shape := ⟨2, ![256, 256]⟩
abbrev S1x256x256 : Shape := ⟨3, ![1, 256, 256]⟩
abbrev S1x512x256 : Shape := ⟨3, ![1, 512, 256]⟩
abbrev S1x512x128 : Shape := ⟨3, ![1, 512, 128]⟩

abbrev nBuf : Space → Nat
  | .hbm => 10
  | .vmem => 11
  | .smem => 5
  | _ => 0

abbrev bufTy : (tb : Table) → Fin (tcTables nBuf tb) → BufTy
  | .hbm, ⟨0, _⟩ => ⟨S2x4096x4x2x128, .f32⟩
  | .hbm, ⟨1, _⟩ => ⟨S2x4096x4x2x128, .f32⟩
  | .hbm, ⟨2, _⟩ => ⟨S2x4096x1024, .f32⟩
  | .hbm, ⟨3, _⟩ => ⟨S8192x1024, .f32⟩
  | .hbm, ⟨4, _⟩ => ⟨S8192x1024, .f32⟩
  | .hbm, ⟨5, _⟩ => ⟨S8192x2048, .f32⟩
  | .hbm, ⟨6, _⟩ => ⟨S8192x2048, .bf16⟩
  | .hbm, ⟨7, _⟩ => ⟨S8192x1024, .f32⟩
  | .hbm, ⟨8, _⟩ => ⟨S8192x1024, .bf16⟩
  | .hbm, ⟨9, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .f32⟩
  | .local _ .vmem, ⟨7, _⟩ => ⟨S512x2048, .f32⟩
  | .local _ .vmem, ⟨8, _⟩ => ⟨S8x512x128, .f32⟩
  | .local _ .vmem, ⟨9, _⟩ => ⟨S8x512x256, .f32⟩
  | .local _ .vmem, ⟨10, _⟩ => ⟨S8x512x128, .f32⟩
  | .local _ .smem, ⟨0, _⟩ => ⟨S36, .i32⟩
  | .local _ .smem, ⟨1, _⟩ => ⟨S36, .i32⟩
  | .local _ .smem, ⟨2, _⟩ => ⟨S36, .i32⟩
  | .local _ .smem, ⟨3, _⟩ => ⟨S36, .i32⟩
  | .local _ .smem, ⟨4, _⟩ => ⟨S36, .i32⟩
  | _, _ => ⟨S2x4096x4x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.smem, 0, rfl⟩
abbrev main_c_0 : Ref sig .tc := ⟨.smem, 1, rfl⟩
abbrev main_c_1 : Ref sig .tc := ⟨.smem, 2, rfl⟩
abbrev main_c_2 : Ref sig .tc := ⟨.smem, 3, rfl⟩
abbrev main_c_3 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 36], ![false, false, false]⟩

abbrev pre0 : Pipeline.Prefetch sig := ⟨5, ![main_c.idx, main_c_0.idx, main_c_1.idx, main_c_2.idx, main_c_3.idx], fun | 0 => main_c.names | 1 => main_c_0.names | 2 => main_c_1.names | 3 => main_c_2.names | 4 => main_c_3.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg2 : BitVec 32 := BitVec.ofNat 32 (i 2).val
  let v1 : Index := Scalar.indexCast arg2
  ![v1.toNat]
def k0_off2 (i : grid0.Coords) : Fin 1 → Nat :=
  let arg2 : BitVec 32 := BitVec.ofNat 32 (i 2).val
  let v9 : Index := Scalar.indexCast arg2
  ![v9.toNat]
def k0_off3 (i : grid0.Coords) : Fin 1 → Nat :=
  let arg2 : BitVec 32 := BitVec.ofNat 32 (i 2).val
  let v14 : Index := Scalar.indexCast arg2
  ![v14.toNat]
def k0_off4 (i : grid0.Coords) : Fin 1 → Nat :=
  let arg2 : BitVec 32 := BitVec.ofNat 32 (i 2).val
  let v19 : Index := Scalar.indexCast arg2
  ![v19.toNat]
def k0_cond4 (v20 : BitVec 32) : BitVec 1 :=
  let c1_i32_4 : BitVec 32 := 1#32
  let v21 : BitVec 1 := Scalar.cmpi .eq v20 c1_i32_4
  let v22 : BitVec 32 := Scalar.extui v21
  let c0_i32_5 : BitVec 32 := 0#32
  let v23 : BitVec 1 := Scalar.cmpi .ne v22 c0_i32_5
  v23

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 0 (Rect.unit (s := S36) ![v1.toNat] S1.size (k0_off1_inb i)) numel1_S1
  let v3 : BitVec 32 := Scalar.addi v0 v2
  let c0_i32 : BitVec 32 := 0#32
  let v4 : BitVec 32 := Scalar.addi c0_i32 arg1
  let c0_i32_0 : BitVec 32 := 0#32
  ![v3.toNat, v4.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 1 (Rect.unit (s := S36) ![v1.toNat] S1.size (k0_off1_inb i)) numel1_S1
  let v3 : BitVec 32 := Scalar.addi v0 v2
  let c1_i32 : BitVec 32 := 1#32
  let v4 : BitVec 32 := Scalar.addi c1_i32 arg1
  let c0_i32 : BitVec 32 := 0#32
  ![v3.toNat, v4.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 1 (Rect.unit (s := S36) ![v1.toNat] S1.size (k0_off1_inb i)) numel1_S1
  let v3 : BitVec 32 := Scalar.addi v0 v2
  let c0_i32 : BitVec 32 := 0#32
  let v4 : BitVec 32 := Scalar.addi c0_i32 arg1
  let c0_i32_0 : BitVec 32 := 0#32
  ![v3.toNat, v4.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 0 (Rect.unit (s := S36) ![v1.toNat] S1.size (k0_off1_inb i)) numel1_S1
  let v3 : BitVec 32 := Scalar.addi v0 v2
  let c0_i32 : BitVec 32 := 0#32
  ![v3.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | "scale2" => some (((Real.sqrt 128)⁻¹ * (Real.log 2)⁻¹ : ℝ) : EReal)
  | _ => none
-- ==== ReferenceIdeal.lean ====
abbrev S2x4096x4x2x128 : Shape := ⟨5, ![2, 4096, 4, 2, 128]⟩
abbrev S2x4096x1024 : Shape := ⟨3, ![2, 4096, 1024]⟩
abbrev S2x4096x4x256 : Shape := ⟨4, ![2, 4096, 4, 256]⟩
abbrev S4096 : Shape := ⟨1, ![4096]⟩
abbrev S2x4x2x4096x4096 : Shape := ⟨5, ![2, 4, 2, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S2x4x2x4096 : Shape := ⟨4, ![2, 4, 2, 4096]⟩
abbrev S2x4x2x4096x1 : Shape := ⟨5, ![2, 4, 2, 4096, 1]⟩
abbrev S2x4x256x2x4096 : Shape := ⟨5, ![2, 4, 256, 2, 4096]⟩
abbrev S2x4096x4x2x256 : Shape := ⟨5, ![2, 4096, 4, 2, 256]⟩
abbrev S8192x2048 : Shape := ⟨2, ![8192, 2048]⟩

abbrev nBuf : Space → Nat
  | .hbm => 43
  | .vmem => 0
  | .smem => 0
  | _ => 0

abbrev bufTy : (tb : Table) → Fin (tcTables nBuf tb) → BufTy
  | .hbm, ⟨0, _⟩ => ⟨S2x4096x4x2x128, .f32⟩
  | .hbm, ⟨1, _⟩ => ⟨S2x4096x4x2x128, .f32⟩
  | .hbm, ⟨2, _⟩ => ⟨S2x4096x1024, .f32⟩
  | .hbm, ⟨3, _⟩ => ⟨S2x4096x4x256, .f32⟩
  | .hbm, ⟨4, _⟩ => ⟨S4096, .i32⟩
  | .hbm, ⟨5, _⟩ => ⟨S2x4x2x4096x4096, .f32⟩
  | .hbm, ⟨6, _⟩ => ⟨S_, .f32⟩
  | .hbm, ⟨7, _⟩ => ⟨S_, .f32⟩
  | .hbm, ⟨8, _⟩ => ⟨S2x4x2x4096x4096, .f32⟩
  | .hbm, ⟨9, _⟩ => ⟨S2x4x2x4096x4096, .f32⟩
  | .hbm, ⟨10, _⟩ => ⟨S1x4096, .i32⟩
  | .hbm, ⟨11, _⟩ => ⟨S_, .i32⟩
  | .hbm, ⟨12, _⟩ => ⟨S1x4096, .i32⟩
  | .hbm, ⟨13, _⟩ => ⟨S1x4096, .i32⟩
  | .hbm, ⟨14, _⟩ => ⟨S4096x1, .i32⟩
  | .hbm, ⟨15, _⟩ => ⟨S_, .i32⟩
  | .hbm, ⟨16, _⟩ => ⟨S4096x1, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S_, .f32⟩
  | .hbm, ⟨22, _⟩ => ⟨S_, .f32⟩
  | .hbm, ⟨23, _⟩ => ⟨S2x4x2x4096x4096, .i1⟩
  | .hbm, ⟨24, _⟩ => ⟨S2x4x2x4096x4096, .f32⟩
  | .hbm, ⟨25, _⟩ => ⟨S2x4x2x4096x4096, .f32⟩
  | .hbm, ⟨26, _⟩ => ⟨S_, .f32⟩
  | .hbm, ⟨27, _⟩ => ⟨S2x4x2x4096, .f32⟩
  | .hbm, ⟨28, _⟩ => ⟨S_, .f32⟩
  | .hbm, ⟨29, _⟩ => ⟨S2x4x2x4096, .f32⟩
  | .hbm, ⟨30, _⟩ => ⟨S2x4x2x4096, .f32⟩
  | .hbm, ⟨31, _⟩ => ⟨S2x4x2x4096x1, .f32⟩
  | .hbm, ⟨32, _⟩ => ⟨S2x4x2x4096x4096, .f32⟩
  | .hbm, ⟨33, _⟩ => ⟨S2x4x2x4096x4096, .f32⟩
  | .hbm, ⟨34, _⟩ => ⟨S2x4x2x4096x4096, .f32⟩
  | .hbm, ⟨35, _⟩ => ⟨S_, .f32⟩
  | .hbm, ⟨36, _⟩ => ⟨S2x4x2x4096, .f32⟩
  | .hbm, ⟨37, _⟩ => ⟨S2x4x2x4096x1, .f32⟩
  | .hbm, ⟨38, _⟩ => ⟨S2x4x2x4096x4096, .f32⟩
  | .hbm, ⟨39, _⟩ => ⟨S2x4x2x4096x4096, .f32⟩
  | .hbm, ⟨40, _⟩ => ⟨S2x4x256x2x4096, .f32⟩
  | .hbm, ⟨41, _⟩ => ⟨S2x4096x4x2x256, .f32⟩
  | .hbm, ⟨42, _⟩ => ⟨S8192x2048, .f32⟩
  | _, _ => ⟨S2x4096x4x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Kernel2.lean ====
abbrev S2x4096x2048 : Shape := ⟨3, ![2, 4096, 2048]⟩
abbrev S2048x6152 : Shape := ⟨2, ![2048, 6152]⟩
abbrev S8192x2048 : Shape := ⟨2, ![8192, 2048]⟩
abbrev S2048x1024 : Shape := ⟨2, ![2048, 1024]⟩
abbrev S2048x6144 : Shape := ⟨2, ![2048, 6144]⟩
abbrev S_ : Shape := ⟨0, ![]⟩
abbrev S2048 : Shape := ⟨1, ![2048]⟩
abbrev S4096 : Shape := ⟨1, ![4096]⟩
abbrev S6144 : Shape := ⟨1, ![6144]⟩
abbrev S1x6144 : Shape := ⟨2, ![1, 6144]⟩
abbrev S8192x6144 : Shape := ⟨2, ![8192, 6144]⟩
abbrev S1024x2048 : Shape := ⟨2, ![1024, 2048]⟩
abbrev S1x1024 : Shape := ⟨2, ![1, 1024]⟩
abbrev S1024x1024 : Shape := ⟨2, ![1024, 1024]⟩

abbrev nBuf : Space → Nat
  | .hbm => 19
  | .vmem => 8
  | .smem => 0
  | _ => 0

abbrev bufTy : (tb : Table) → Fin (tcTables nBuf tb) → BufTy
  | .hbm, ⟨0, _⟩ => ⟨S2x4096x2048, .f32⟩
  | .hbm, ⟨1, _⟩ => ⟨S2048x6152, .f32⟩
  | .hbm, ⟨2, _⟩ => ⟨S8192x2048, .f32⟩
  | .hbm, ⟨3, _⟩ => ⟨S8192x2048, .bf16⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x6144, .f32⟩
  | .hbm, ⟨11, _⟩ => ⟨S2048x6144, .bf16⟩
  | .hbm, ⟨12, _⟩ => ⟨S_, .f32⟩
  | .hbm, ⟨13, _⟩ => ⟨S2048, .f32⟩
  | .hbm, ⟨14, _⟩ => ⟨S_, .f32⟩
  | .hbm, ⟨15, _⟩ => ⟨S4096, .f32⟩
  | .hbm, ⟨16, _⟩ => ⟨S6144, .f32⟩
  | .hbm, ⟨17, _⟩ => ⟨S1x6144, .f32⟩
  | .hbm, ⟨18, _⟩ => ⟨S8192x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S2x4096x2048 : Shape := ⟨3, ![2, 4096, 2048]⟩
abbrev S2048x6152 : Shape := ⟨2, ![2048, 6152]⟩
abbrev S2x4096x6152 : Shape := ⟨3, ![2, 4096, 6152]⟩
abbrev S2x4096x1024 : Shape := ⟨3, ![2, 4096, 1024]⟩
abbrev S2x4096x8 : Shape := ⟨3, ![2, 4096, 8]⟩
abbrev S_ : Shape := ⟨0, ![]⟩
abbrev S2x4096x6144 : Shape := ⟨3, ![2, 4096, 6144]⟩
abbrev S8192x6144 : Shape := ⟨2, ![8192, 6144]⟩

abbrev nBuf : Space → Nat
  | .hbm => 19
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x6152, .f32⟩
  | .hbm, ⟨2, _⟩ => ⟨S2x4096x6152, .f32⟩
  | .hbm, ⟨3, _⟩ => ⟨S2x4096x1024, .f32⟩
  | .hbm, ⟨4, _⟩ => ⟨S2x4096x1024, .f32⟩
  | .hbm, ⟨5, _⟩ => ⟨S2x4096x1024, .f32⟩
  | .hbm, ⟨6, _⟩ => ⟨S2x4096x8, .f32⟩
  | .hbm, ⟨7, _⟩ => ⟨S2x4096x1024, .f32⟩
  | .hbm, ⟨8, _⟩ => ⟨S2x4096x1024, .f32⟩
  | .hbm, ⟨9, _⟩ => ⟨S2x4096x1024, .f32⟩
  | .hbm, ⟨10, _⟩ => ⟨S_, .f32⟩
  | .hbm, ⟨11, _⟩ => ⟨S2x4096x1024, .f32⟩
  | .hbm, ⟨12, _⟩ => ⟨S2x4096x1024, .f32⟩
  | .hbm, ⟨13, _⟩ => ⟨S_, .f32⟩
  | .hbm, ⟨14, _⟩ => ⟨S2x4096x1024, .f32⟩
  | .hbm, ⟨15, _⟩ => ⟨S2x4096x1024, .f32⟩
  | .hbm, ⟨16, _⟩ => ⟨S2x4096x6144, .f32⟩
  | .hbm, ⟨17, _⟩ => ⟨S8192x6144, .f32⟩
  | .hbm, ⟨18, _⟩ => ⟨S8192x6144, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Kernel3.lean ====
abbrev S2x4096x2048 : Shape := ⟨3, ![2, 4096, 2048]⟩
abbrev S2048x2048 : Shape := ⟨2, ![2048, 2048]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2x4096x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | .hbm, ⟨4, _⟩ => ⟨S2048x2048, .bf16⟩
  | .hbm, ⟨5, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S2x4096x2048 : Shape := ⟨3, ![2, 4096, 2048]⟩
abbrev S2048x2048 : Shape := ⟨2, ![2048, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x2048, .f32⟩
  | .hbm, ⟨2, _⟩ => ⟨S2x4096x2048, .f32⟩
  | .hbm, ⟨3, _⟩ => ⟨S8192x2048, .f32⟩
  | .hbm, ⟨4, _⟩ => ⟨S8192x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel4.lean ====
abbrev S2x4096x1024 : Shape := ⟨3, ![2, 4096, 1024]⟩
abbrev S2048x2048 : Shape := ⟨2, ![2048, 2048]⟩
abbrev S2x4096x2048 : Shape := ⟨3, ![2, 4096, 2048]⟩
abbrev S2048 : Shape := ⟨1, ![2048]⟩
abbrev S8192x1024 : Shape := ⟨2, ![8192, 1024]⟩
abbrev S8192x2048 : Shape := ⟨2, ![8192, 2048]⟩
abbrev S1x2048 : Shape := ⟨2, ![1, 2048]⟩
abbrev S2048x8192 : Shape := ⟨2, ![2048, 8192]⟩
abbrev S512x1024 : Shape := ⟨2, ![512, 1024]⟩
abbrev S512x2048 : Shape := ⟨2, ![512, 2048]⟩
abbrev S2048x512 : Shape := ⟨2, ![2048, 512]⟩
abbrev S1024x2048 : Shape := ⟨2, ![1024, 2048]⟩
abbrev S512 : Shape := ⟨1, ![512]⟩
abbrev S512x1 : Shape := ⟨2, ![512, 1]⟩

abbrev nBuf : Space → Nat
  | .hbm => 17
  | .vmem => 15
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2048x2048, .f32⟩
  | .hbm, ⟨3, _⟩ => ⟨S2x4096x2048, .f32⟩
  | .hbm, ⟨4, _⟩ => ⟨S2048, .f32⟩
  | .hbm, ⟨5, _⟩ => ⟨S2048, .f32⟩
  | .hbm, ⟨6, _⟩ => ⟨S8192x1024, .f32⟩
  | .hbm, ⟨7, _⟩ => ⟨S8192x1024, .bf16⟩
  | .hbm, ⟨8, _⟩ => ⟨S8192x1024, .f32⟩
  | .hbm, ⟨9, _⟩ => ⟨S8192x1024, .bf16⟩
  | .hbm, ⟨10, _⟩ => ⟨S2048x2048, .bf16⟩
  | .hbm, ⟨11, _⟩ => ⟨S8192x2048, .f32⟩
  | .hbm, ⟨12, _⟩ => ⟨S1x2048, .f32⟩
  | .hbm, ⟨13, _⟩ => ⟨S1x2048, .f32⟩
  | .hbm, ⟨14, _⟩ => ⟨S8192x2048, .f32⟩
  | .hbm, ⟨15, _⟩ => ⟨S8192x2048, .bf16⟩
  | .hbm, ⟨16, _⟩ => ⟨S2048x8192, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S2048x512, .bf16⟩
  | .local _ .vmem, ⟨14, _⟩ => ⟨S2048x512, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S2x4096x1024 : Shape := ⟨3, ![2, 4096, 1024]⟩
abbrev S2048x2048 : Shape := ⟨2, ![2048, 2048]⟩
abbrev S2x4096x2048 : Shape := ⟨3, ![2, 4096, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩
abbrev S2048x8192 : Shape := ⟨2, ![2048, 8192]⟩

abbrev nBuf : Space → Nat
  | .hbm => 45
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2048x2048, .f32⟩
  | .hbm, ⟨3, _⟩ => ⟨S2x4096x2048, .f32⟩
  | .hbm, ⟨4, _⟩ => ⟨S2048, .f32⟩
  | .hbm, ⟨5, _⟩ => ⟨S2048, .f32⟩
  | .hbm, ⟨6, _⟩ => ⟨S_, .f32⟩
  | .hbm, ⟨7, _⟩ => ⟨S2x4096x2048, .f32⟩
  | .hbm, ⟨8, _⟩ => ⟨S2x4096x2048, .f32⟩
  | .hbm, ⟨9, _⟩ => ⟨S2x4096x2048, .f32⟩
  | .hbm, ⟨10, _⟩ => ⟨S2x4096x2048, .f32⟩
  | .hbm, ⟨11, _⟩ => ⟨S2x4096x2048, .f32⟩
  | .hbm, ⟨12, _⟩ => ⟨S_, .f32⟩
  | .hbm, ⟨13, _⟩ => ⟨S2x4096, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S2x4096x2048, .f32⟩
  | .hbm, ⟨19, _⟩ => ⟨S2x4096x2048, .f32⟩
  | .hbm, ⟨20, _⟩ => ⟨S2x4096x2048, .f32⟩
  | .hbm, ⟨21, _⟩ => ⟨S_, .f32⟩
  | .hbm, ⟨22, _⟩ => ⟨S2x4096, .f32⟩
  | .hbm, ⟨23, _⟩ => ⟨S2x4096x1, .f32⟩
  | .hbm, ⟨24, _⟩ => ⟨S_, .f32⟩
  | .hbm, ⟨25, _⟩ => ⟨S2x4096x1, .f32⟩
  | .hbm, ⟨26, _⟩ => ⟨S2x4096x1, .f32⟩
  | .hbm, ⟨27, _⟩ => ⟨S2x4096x2048, .f32⟩
  | .hbm, ⟨28, _⟩ => ⟨S2x4096x2048, .f32⟩
  | .hbm, ⟨29, _⟩ => ⟨S_, .f32⟩
  | .hbm, ⟨30, _⟩ => ⟨S2x4096x1, .f32⟩
  | .hbm, ⟨31, _⟩ => ⟨S2x4096x1, .f32⟩
  | .hbm, ⟨32, _⟩ => ⟨S2x4096x1, .f32⟩
  | .hbm, ⟨33, _⟩ => ⟨S2x4096x2048, .f32⟩
  | .hbm, ⟨34, _⟩ => ⟨S2x4096x2048, .f32⟩
  | .hbm, ⟨35, _⟩ => ⟨S1x1x2048, .f32⟩
  | .hbm, ⟨36, _⟩ => ⟨S2x4096x2048, .f32⟩
  | .hbm, ⟨37, _⟩ => ⟨S2x4096x2048, .f32⟩
  | .hbm, ⟨38, _⟩ => ⟨S1x1x2048, .f32⟩
  | .hbm, ⟨39, _⟩ => ⟨S2x4096x2048, .f32⟩
  | .hbm, ⟨40, _⟩ => ⟨S2x4096x2048, .f32⟩
  | .hbm, ⟨41, _⟩ => ⟨S8192x2048, .f32⟩
  | .hbm, ⟨42, _⟩ => ⟨S8192x2048, .bf16⟩
  | .hbm, ⟨43, _⟩ => ⟨S2048x8192, .f32⟩
  | .hbm, ⟨44, _⟩ => ⟨S2048x8192, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel5.lean ====
abbrev S2x4096x2048 : Shape := ⟨3, ![2, 4096, 2048]⟩
abbrev S2048x8192 : Shape := ⟨2, ![2048, 8192]⟩
abbrev S2048 : Shape := ⟨1, ![2048]⟩
abbrev S8192x2048 : Shape := ⟨2, ![8192, 2048]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S2x4096x2048, .f32⟩
  | .hbm, ⟨1, _⟩ => ⟨S2048x8192, .f32⟩
  | .hbm, ⟨2, _⟩ => ⟨S2048, .f32⟩
  | .hbm, ⟨3, _⟩ => ⟨S2048, .f32⟩
  | .hbm, ⟨4, _⟩ => ⟨S8192x2048, .f32⟩
  | .hbm, ⟨5, _⟩ => ⟨S1x2048, .f32⟩
  | .hbm, ⟨6, _⟩ => ⟨S1x2048, .f32⟩
  | .hbm, ⟨7, _⟩ => ⟨S8192x2048, .f32⟩
  | .hbm, ⟨8, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S2048x512, .f32⟩
  | .local _ .vmem, ⟨3, _⟩ => ⟨S2048x512, .f32⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S2x4096x2048 : Shape := ⟨3, ![2, 4096, 2048]⟩
abbrev S2048x8192 : Shape := ⟨2, ![2048, 8192]⟩
abbrev S2048 : Shape := ⟨1, ![2048]⟩
abbrev S_ : Shape := ⟨0, ![]⟩
abbrev S8192x2048 : Shape := ⟨2, ![8192, 2048]⟩
abbrev S2x4096 : Shape := ⟨2, ![2, 4096]⟩
abbrev S2x4096x1 : Shape := ⟨3, ![2, 4096, 1]⟩
abbrev S1x1x2048 : Shape := ⟨3, ![1, 1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x8192, .f32⟩
  | .hbm, ⟨2, _⟩ => ⟨S2048, .f32⟩
  | .hbm, ⟨3, _⟩ => ⟨S2048, .f32⟩
  | .hbm, ⟨4, _⟩ => ⟨S_, .f32⟩
  | .hbm, ⟨5, _⟩ => ⟨S2x4096x2048, .f32⟩
  | .hbm, ⟨6, _⟩ => ⟨S2x4096x2048, .f32⟩
  | .hbm, ⟨7, _⟩ => ⟨S8192x2048, .f32⟩
  | .hbm, ⟨8, _⟩ => ⟨S2x4096x2048, .f32⟩
  | .hbm, ⟨9, _⟩ => ⟨S2x4096x2048, .f32⟩
  | .hbm, ⟨10, _⟩ => ⟨S_, .f32⟩
  | .hbm, ⟨11, _⟩ => ⟨S2x4096, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x2048, .f32⟩
  | .hbm, ⟨17, _⟩ => ⟨S2x4096x2048, .f32⟩
  | .hbm, ⟨18, _⟩ => ⟨S2x4096x2048, .f32⟩
  | .hbm, ⟨19, _⟩ => ⟨S_, .f32⟩
  | .hbm, ⟨20, _⟩ => ⟨S2x4096, .f32⟩
  | .hbm, ⟨21, _⟩ => ⟨S2x4096x1, .f32⟩
  | .hbm, ⟨22, _⟩ => ⟨S_, .f32⟩
  | .hbm, ⟨23, _⟩ => ⟨S2x4096x1, .f32⟩
  | .hbm, ⟨24, _⟩ => ⟨S2x4096x1, .f32⟩
  | .hbm, ⟨25, _⟩ => ⟨S2x4096x2048, .f32⟩
  | .hbm, ⟨26, _⟩ => ⟨S2x4096x2048, .f32⟩
  | .hbm, ⟨27, _⟩ => ⟨S_, .f32⟩
  | .hbm, ⟨28, _⟩ => ⟨S2x4096x1, .f32⟩
  | .hbm, ⟨29, _⟩ => ⟨S2x4096x1, .f32⟩
  | .hbm, ⟨30, _⟩ => ⟨S2x4096x1, .f32⟩
  | .hbm, ⟨31, _⟩ => ⟨S2x4096x2048, .f32⟩
  | .hbm, ⟨32, _⟩ => ⟨S2x4096x2048, .f32⟩
  | .hbm, ⟨33, _⟩ => ⟨S1x1x2048, .f32⟩
  | .hbm, ⟨34, _⟩ => ⟨S2x4096x2048, .f32⟩
  | .hbm, ⟨35, _⟩ => ⟨S2x4096x2048, .f32⟩
  | .hbm, ⟨36, _⟩ => ⟨S1x1x2048, .f32⟩
  | .hbm, ⟨37, _⟩ => ⟨S2x4096x2048, .f32⟩
  | .hbm, ⟨38, _⟩ => ⟨S2x4096x2048, .f32⟩
  | .hbm, ⟨39, _⟩ => ⟨S8192x2048, .f32⟩
  | .hbm, ⟨40, _⟩ => ⟨S8192x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Kernel6.lean ====
abbrev S2x4096x2048 : Shape := ⟨3, ![2, 4096, 2048]⟩
abbrev S2048x4160 : Shape := ⟨2, ![2048, 4160]⟩
abbrev S8192x2048 : Shape := ⟨2, ![8192, 2048]⟩
abbrev S2048x1024 : Shape := ⟨2, ![2048, 1024]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 7
  | .vmem => 5
  | .smem => 0
  | _ => 0

abbrev bufTy : (tb : Table) → Fin (tcTables nBuf tb) → BufTy
  | .hbm, ⟨0, _⟩ => ⟨S2x4096x2048, .f32⟩
  | .hbm, ⟨1, _⟩ => ⟨S2048x4160, .f32⟩
  | .hbm, ⟨2, _⟩ => ⟨S8192x2048, .f32⟩
  | .hbm, ⟨3, _⟩ => ⟨S8192x2048, .bf16⟩
  | .hbm, ⟨4, _⟩ => ⟨S2048x1024, .f32⟩
  | .hbm, ⟨5, _⟩ => ⟨S2048x1024, .bf16⟩
  | .hbm, ⟨6, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S2x4096x2048 : Shape := ⟨3, ![2, 4096, 2048]⟩
abbrev S2048x4160 : Shape := ⟨2, ![2048, 4160]⟩
abbrev S2x4096x4160 : Shape := ⟨3, ![2, 4096, 4160]⟩
abbrev S2x4096x512 : Shape := ⟨3, ![2, 4096, 512]⟩
abbrev S2x4096x64 : Shape := ⟨3, ![2, 4096, 64]⟩
abbrev S2x4096x1024 : Shape := ⟨3, ![2, 4096, 1024]⟩
abbrev S8192x1024 : Shape := ⟨2, ![8192, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x4160, .f32⟩
  | .hbm, ⟨2, _⟩ => ⟨S2x4096x4160, .f32⟩
  | .hbm, ⟨3, _⟩ => ⟨S2x4096x512, .f32⟩
  | .hbm, ⟨4, _⟩ => ⟨S2x4096x512, .f32⟩
  | .hbm, ⟨5, _⟩ => ⟨S2x4096x64, .f32⟩
  | .hbm, ⟨6, _⟩ => ⟨S2x4096x1024, .f32⟩
  | .hbm, ⟨7, _⟩ => ⟨S2x4096x1024, .f32⟩
  | .hbm, ⟨8, _⟩ => ⟨S2x4096x1024, .f32⟩
  | .hbm, ⟨9, _⟩ => ⟨S2x4096x1024, .f32⟩
  | .hbm, ⟨10, _⟩ => ⟨S8192x1024, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Kernel7.lean ====
abbrev S2x4096x2048 : Shape := ⟨3, ![2, 4096, 2048]⟩
abbrev S2048x4160 : Shape := ⟨2, ![2048, 4160]⟩
abbrev S8192x2048 : Shape := ⟨2, ![8192, 2048]⟩
abbrev S2048x1024 : Shape := ⟨2, ![2048, 1024]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 7
  | .vmem => 5
  | .smem => 0
  | _ => 0

abbrev bufTy : (tb : Table) → Fin (tcTables nBuf tb) → BufTy
  | .hbm, ⟨0, _⟩ => ⟨S2x4096x2048, .f32⟩
  | .hbm, ⟨1, _⟩ => ⟨S2048x4160, .f32⟩
  | .hbm, ⟨2, _⟩ => ⟨S8192x2048, .f32⟩
  | .hbm, ⟨3, _⟩ => ⟨S8192x2048, .bf16⟩
  | .hbm, ⟨4, _⟩ => ⟨S2048x1024, .f32⟩
  | .hbm, ⟨5, _⟩ => ⟨S2048x1024, .bf16⟩
  | .hbm, ⟨6, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S2x4096x2048 : Shape := ⟨3, ![2, 4096, 2048]⟩
abbrev S2048x4160 : Shape := ⟨2, ![2048, 4160]⟩
abbrev S2x4096x4160 : Shape := ⟨3, ![2, 4096, 4160]⟩
abbrev S2x4096x512 : Shape := ⟨3, ![2, 4096, 512]⟩
abbrev S2x4096x64 : Shape := ⟨3, ![2, 4096, 64]⟩
abbrev S2x4096x1024 : Shape := ⟨3, ![2, 4096, 1024]⟩
abbrev S8192x1024 : Shape := ⟨2, ![8192, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x4160, .f32⟩
  | .hbm, ⟨2, _⟩ => ⟨S2x4096x4160, .f32⟩
  | .hbm, ⟨3, _⟩ => ⟨S2x4096x512, .f32⟩
  | .hbm, ⟨4, _⟩ => ⟨S2x4096x512, .f32⟩
  | .hbm, ⟨5, _⟩ => ⟨S2x4096x64, .f32⟩
  | .hbm, ⟨6, _⟩ => ⟨S2x4096x1024, .f32⟩
  | .hbm, ⟨7, _⟩ => ⟨S2x4096x1024, .f32⟩
  | .hbm, ⟨8, _⟩ => ⟨S2x4096x1024, .f32⟩
  | .hbm, ⟨9, _⟩ => ⟨S8192x1024, .f32⟩
  | .hbm, ⟨10, _⟩ => ⟨S8192x1024, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Kernel8.lean ====
abbrev S2x4096x2048 : Shape := ⟨3, ![2, 4096, 2048]⟩
abbrev S2048x4160 : Shape := ⟨2, ![2048, 4160]⟩
abbrev S2048x2048 : Shape := ⟨2, ![2048, 2048]⟩
abbrev S64 : Shape := ⟨1, ![64]⟩
abbrev S_ : Shape := ⟨0, ![]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S4096x0 : Shape := ⟨2, ![4096, 0]⟩
abbrev S4096x128 : Shape := ⟨2, ![4096, 128]⟩
abbrev S1024 : Shape := ⟨1, ![1024]⟩
abbrev S2048 : Shape := ⟨1, ![2048]⟩
abbrev S8192x2048 : Shape := ⟨2, ![8192, 2048]⟩
abbrev S1x2048 : Shape := ⟨2, ![1, 2048]⟩
abbrev S1024x2048 : Shape := ⟨2, ![1024, 2048]⟩
abbrev S2048x1024 : Shape := ⟨2, ![2048, 1024]⟩
abbrev S1x1024 : Shape := ⟨2, ![1, 1024]⟩
abbrev S1024x128 : Shape := ⟨2, ![1024, 128]⟩
abbrev S1024x1024 : Shape := ⟨2, ![1024, 1024]⟩

abbrev nBuf : Space → Nat
  | .hbm => 40
  | .vmem => 12
  | .smem => 0
  | _ => 0

abbrev bufTy : (tb : Table) → Fin (tcTables nBuf tb) → BufTy
  | .hbm, ⟨0, _⟩ => ⟨S2x4096x2048, .f32⟩
  | .hbm, ⟨1, _⟩ => ⟨S2048x4160, .f32⟩
  | .hbm, ⟨2, _⟩ => ⟨S2048x2048, .f32⟩
  | .hbm, ⟨3, _⟩ => ⟨S2048x2048, .bf16⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S4096, .f32⟩
  | .hbm, ⟨19, _⟩ => ⟨S4096x1, .f32⟩
  | .hbm, ⟨20, _⟩ => ⟨S1x64, .f32⟩
  | .hbm, ⟨21, _⟩ => ⟨S4096x64, .f32⟩
  | .hbm, ⟨22, _⟩ => ⟨S4096x64, .f32⟩
  | .hbm, ⟨23, _⟩ => ⟨S4096x64, .f32⟩
  | .hbm, ⟨24, _⟩ => ⟨S4096x64, .f32⟩
  | .hbm, ⟨25, _⟩ => ⟨S4096x64, .f32⟩
  | .hbm, ⟨26, _⟩ => ⟨S_, .f32⟩
  | .hbm, ⟨27, _⟩ => ⟨S4096x0, .f32⟩
  | .hbm, ⟨28, _⟩ => ⟨S4096x128, .f32⟩
  | .hbm, ⟨29, _⟩ => ⟨S4096x64, .f32⟩
  | .hbm, ⟨30, _⟩ => ⟨S4096x128, .f32⟩
  | .hbm, ⟨31, _⟩ => ⟨S_, .f32⟩
  | .hbm, ⟨32, _⟩ => ⟨S1024, .f32⟩
  | .hbm, ⟨33, _⟩ => ⟨S_, .f32⟩
  | .hbm, ⟨34, _⟩ => ⟨S1024, .f32⟩
  | .hbm, ⟨35, _⟩ => ⟨S2048, .f32⟩
  | .hbm, ⟨36, _⟩ => ⟨S8192x2048, .f32⟩
  | .hbm, ⟨37, _⟩ => ⟨S8192x2048, .bf16⟩
  | .hbm, ⟨38, _⟩ => ⟨S1x2048, .f32⟩
  | .hbm, ⟨39, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | .local _ .vmem, ⟨11, _⟩ => ⟨S1024x1024, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_4 : Ref sig .tc := ⟨.hbm, 31, rfl⟩
abbrev main_v24 : Ref sig .tc := ⟨.hbm, 32, rfl⟩
abbrev main_cst_5 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference8Ideal.lean ====
abbrev S2x4096x2048 : Shape := ⟨3, ![2, 4096, 2048]⟩
abbrev S2048x4160 : Shape := ⟨2, ![2048, 4160]⟩
abbrev S2x4096x4160 : Shape := ⟨3, ![2, 4096, 4160]⟩
abbrev S2x4096x512 : Shape := ⟨3, ![2, 4096, 512]⟩
abbrev S2x4096x64 : Shape := ⟨3, ![2, 4096, 64]⟩
abbrev S2x4096x1024 : Shape := ⟨3, ![2, 4096, 1024]⟩
abbrev S_ : Shape := ⟨0, ![]⟩
abbrev S2x4096x8x128 : Shape := ⟨4, ![2, 4096, 8, 128]⟩
abbrev S64 : Shape := ⟨1, ![64]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S4096x1x64 : Shape := ⟨3, ![4096, 1, 64]⟩
abbrev S2x4096x8x64 : Shape := ⟨4, ![2, 4096, 8, 64]⟩
abbrev S1x4096x1x64 : Shape := ⟨4, ![1, 4096, 1, 64]⟩
abbrev S2x4096x16x128 : Shape := ⟨4, ![2, 4096, 16, 128]⟩
abbrev S8192x2048 : Shape := ⟨2, ![8192, 2048]⟩

abbrev nBuf : Space → Nat
  | .hbm => 101
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x4160, .f32⟩
  | .hbm, ⟨2, _⟩ => ⟨S2x4096x4160, .f32⟩
  | .hbm, ⟨3, _⟩ => ⟨S2x4096x512, .f32⟩
  | .hbm, ⟨4, _⟩ => ⟨S2x4096x512, .f32⟩
  | .hbm, ⟨5, _⟩ => ⟨S2x4096x64, .f32⟩
  | .hbm, ⟨6, _⟩ => ⟨S2x4096x1024, .f32⟩
  | .hbm, ⟨7, _⟩ => ⟨S2x4096x1024, .f32⟩
  | .hbm, ⟨8, _⟩ => ⟨S2x4096x1024, .f32⟩
  | .hbm, ⟨9, _⟩ => ⟨S_, .f32⟩
  | .hbm, ⟨10, _⟩ => ⟨S2x4096x1024, .f32⟩
  | .hbm, ⟨11, _⟩ => ⟨S2x4096x1024, .f32⟩
  | .hbm, ⟨12, _⟩ => ⟨S2x4096x8x128, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S4096, .i32⟩
  | .hbm, ⟨28, _⟩ => ⟨S4096, .f32⟩
  | .hbm, ⟨29, _⟩ => ⟨S4096x1, .f32⟩
  | .hbm, ⟨30, _⟩ => ⟨S1x64, .f32⟩
  | .hbm, ⟨31, _⟩ => ⟨S4096x64, .f32⟩
  | .hbm, ⟨32, _⟩ => ⟨S4096x64, .f32⟩
  | .hbm, ⟨33, _⟩ => ⟨S4096x64, .f32⟩
  | .hbm, ⟨34, _⟩ => ⟨S4096x64, .f32⟩
  | .hbm, ⟨35, _⟩ => ⟨S4096x1x64, .f32⟩
  | .hbm, ⟨36, _⟩ => ⟨S4096x64, .f32⟩
  | .hbm, ⟨37, _⟩ => ⟨S4096x1x64, .f32⟩
  | .hbm, ⟨38, _⟩ => ⟨S2x4096x8x64, .f32⟩
  | .hbm, ⟨39, _⟩ => ⟨S2x4096x8x64, .f32⟩
  | .hbm, ⟨40, _⟩ => ⟨S1x4096x1x64, .f32⟩
  | .hbm, ⟨41, _⟩ => ⟨S2x4096x8x64, .f32⟩
  | .hbm, ⟨42, _⟩ => ⟨S2x4096x8x64, .f32⟩
  | .hbm, ⟨43, _⟩ => ⟨S1x4096x1x64, .f32⟩
  | .hbm, ⟨44, _⟩ => ⟨S2x4096x8x64, .f32⟩
  | .hbm, ⟨45, _⟩ => ⟨S2x4096x8x64, .f32⟩
  | .hbm, ⟨46, _⟩ => ⟨S2x4096x8x64, .f32⟩
  | .hbm, ⟨47, _⟩ => ⟨S1x4096x1x64, .f32⟩
  | .hbm, ⟨48, _⟩ => ⟨S2x4096x8x64, .f32⟩
  | .hbm, ⟨49, _⟩ => ⟨S2x4096x8x64, .f32⟩
  | .hbm, ⟨50, _⟩ => ⟨S1x4096x1x64, .f32⟩
  | .hbm, ⟨51, _⟩ => ⟨S2x4096x8x64, .f32⟩
  | .hbm, ⟨52, _⟩ => ⟨S2x4096x8x64, .f32⟩
  | .hbm, ⟨53, _⟩ => ⟨S2x4096x8x64, .f32⟩
  | .hbm, ⟨54, _⟩ => ⟨S2x4096x8x128, .f32⟩
  | .hbm, ⟨55, _⟩ => ⟨S2x4096x8x128, .f32⟩
  | .hbm, ⟨56, _⟩ => ⟨S64, .f32⟩
  | .hbm, ⟨57, _⟩ => ⟨S_, .f32⟩
  | .hbm, ⟨58, _⟩ => ⟨S64, .f32⟩
  | .hbm, ⟨59, _⟩ => ⟨S64, .f32⟩
  | .hbm, ⟨60, _⟩ => ⟨S_, .f32⟩
  | .hbm, ⟨61, _⟩ => ⟨S64, .f32⟩
  | .hbm, ⟨62, _⟩ => ⟨S64, .f32⟩
  | .hbm, ⟨63, _⟩ => ⟨S64, .f32⟩
  | .hbm, ⟨64, _⟩ => ⟨S_, .f32⟩
  | .hbm, ⟨65, _⟩ => ⟨S64, .f32⟩
  | .hbm, ⟨66, _⟩ => ⟨S64, .f32⟩
  | .hbm, ⟨67, _⟩ => ⟨S_, .f32⟩
  | .hbm, ⟨68, _⟩ => ⟨S64, .f32⟩
  | .hbm, ⟨69, _⟩ => ⟨S64, .f32⟩
  | .hbm, ⟨70, _⟩ => ⟨S4096, .i32⟩
  | .hbm, ⟨71, _⟩ => ⟨S4096, .f32⟩
  | .hbm, ⟨72, _⟩ => ⟨S4096x1, .f32⟩
  | .hbm, ⟨73, _⟩ => ⟨S1x64, .f32⟩
  | .hbm, ⟨74, _⟩ => ⟨S4096x64, .f32⟩
  | .hbm, ⟨75, _⟩ => ⟨S4096x64, .f32⟩
  | .hbm, ⟨76, _⟩ => ⟨S4096x64, .f32⟩
  | .hbm, ⟨77, _⟩ => ⟨S4096x64, .f32⟩
  | .hbm, ⟨78, _⟩ => ⟨S4096x1x64, .f32⟩
  | .hbm, ⟨79, _⟩ => ⟨S4096x64, .f32⟩
  | .hbm, ⟨80, _⟩ => ⟨S4096x1x64, .f32⟩
  | .hbm, ⟨81, _⟩ => ⟨S2x4096x8x64, .f32⟩
  | .hbm, ⟨82, _⟩ => ⟨S2x4096x8x64, .f32⟩
  | .hbm, ⟨83, _⟩ => ⟨S1x4096x1x64, .f32⟩
  | .hbm, ⟨84, _⟩ => ⟨S2x4096x8x64, .f32⟩
  | .hbm, ⟨85, _⟩ => ⟨S2x4096x8x64, .f32⟩
  | .hbm, ⟨86, _⟩ => ⟨S1x4096x1x64, .f32⟩
  | .hbm, ⟨87, _⟩ => ⟨S2x4096x8x64, .f32⟩
  | .hbm, ⟨88, _⟩ => ⟨S2x4096x8x64, .f32⟩
  | .hbm, ⟨89, _⟩ => ⟨S2x4096x8x64, .f32⟩
  | .hbm, ⟨90, _⟩ => ⟨S1x4096x1x64, .f32⟩
  | .hbm, ⟨91, _⟩ => ⟨S2x4096x8x64, .f32⟩
  | .hbm, ⟨92, _⟩ => ⟨S2x4096x8x64, .f32⟩
  | .hbm, ⟨93, _⟩ => ⟨S1x4096x1x64, .f32⟩
  | .hbm, ⟨94, _⟩ => ⟨S2x4096x8x64, .f32⟩
  | .hbm, ⟨95, _⟩ => ⟨S2x4096x8x64, .f32⟩
  | .hbm, ⟨96, _⟩ => ⟨S2x4096x8x64, .f32⟩
  | .hbm, ⟨97, _⟩ => ⟨S2x4096x8x128, .f32⟩
  | .hbm, ⟨98, _⟩ => ⟨S2x4096x16x128, .f32⟩
  | .hbm, ⟨99, _⟩ => ⟨S8192x2048, .f32⟩
  | .hbm, ⟨100, _⟩ => ⟨S8192x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_cst_4 : Ref sig .tc := ⟨.hbm, 57, rfl⟩
abbrev main_v50 : Ref sig .tc := ⟨.hbm, 58, rfl⟩
abbrev main_v51 : Ref sig .tc := ⟨.hbm, 59, rfl⟩
abbrev main_cst_5 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_cst_6 : Ref sig .tc := ⟨.hbm, 64, rfl⟩
abbrev main_v55 : Ref sig .tc := ⟨.hbm, 65, rfl⟩
abbrev main_v56 : Ref sig .tc := ⟨.hbm, 66, rfl⟩
abbrev main_cst_7 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩

abbrev nD : Nat := 1
abbrev τ : Topo := Topo.v7x

variable {F : FTy → Type} [FloatOps F]
-- ==== Kernel9.lean ====
abbrev S2x4096x512 : Shape := ⟨3, ![2, 4096, 512]⟩
abbrev S512 : Shape := ⟨1, ![512]⟩
abbrev S512x2048 : Shape := ⟨2, ![512, 2048]⟩
abbrev S512x8x256 : Shape := ⟨3, ![512, 8, 256]⟩
abbrev S512x8x128 : Shape := ⟨3, ![512, 8, 128]⟩
abbrev S512x1024 : Shape := ⟨2, ![512, 1024]⟩
abbrev S8192x512 : Shape := ⟨2, ![8192, 512]⟩
abbrev S1x512 : Shape := ⟨2, ![1, 512]⟩
abbrev S8192x2048 : Shape := ⟨2, ![8192, 2048]⟩
abbrev S1024x512 : Shape := ⟨2, ![1024, 512]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 13
  | .vmem => 7
  | .smem => 0
  | _ => 0

abbrev bufTy : (tb : Table) → Fin (tcTables nBuf tb) → BufTy
  | .hbm, ⟨0, _⟩ => ⟨S2x4096x512, .f32⟩
  | .hbm, ⟨1, _⟩ => ⟨S512, .f32⟩
  | .hbm, ⟨2, _⟩ => ⟨S512x2048, .f32⟩
  | .hbm, ⟨3, _⟩ => ⟨S512x8x256, .f32⟩
  | .hbm, ⟨4, _⟩ => ⟨S512x8x128, .f32⟩
  | .hbm, ⟨5, _⟩ => ⟨S512x1024, .f32⟩
  | .hbm, ⟨6, _⟩ => ⟨S512x8x128, .f32⟩
  | .hbm, ⟨7, _⟩ => ⟨S512x1024, .f32⟩
  | .hbm, ⟨8, _⟩ => ⟨S512x2048, .f32⟩
  | .hbm, ⟨9, _⟩ => ⟨S8192x512, .f32⟩
  | .hbm, ⟨10, _⟩ => ⟨S512x2048, .bf16⟩
  | .hbm, ⟨11, _⟩ => ⟨S1x512, .f32⟩
  | .hbm, ⟨12, _⟩ => ⟨S8192x2048, .bf16⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S512x1024, .bf16⟩
  | .local _ .vmem, ⟨4, _⟩ => ⟨S1x512, .f32⟩
  | .local _ .vmem, ⟨5, _⟩ => ⟨S1024x1024, .bf16⟩
  | .local _ .vmem, ⟨6, _⟩ => ⟨S1024x1024, .bf16⟩
  | _, _ => ⟨S2x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S2x4096x512 : Shape := ⟨3, ![2, 4096, 512]⟩
abbrev S512 : Shape := ⟨1, ![512]⟩
abbrev S512x2048 : Shape := ⟨2, ![512, 2048]⟩
abbrev S_ : Shape := ⟨0, ![]⟩
abbrev S2x4096 : Shape := ⟨2, ![2, 4096]⟩
abbrev S2x4096x1 : Shape := ⟨3, ![2, 4096, 1]⟩
abbrev S1x1x512 : Shape := ⟨3, ![1, 1, 512]⟩
abbrev S2x4096x2048 : Shape := ⟨3, ![2, 4096, 2048]⟩
abbrev S2x4096x8x256 : Shape := ⟨4, ![2, 4096, 8, 256]⟩
abbrev S2x4096x8x128 : Shape := ⟨4, ![2, 4096, 8, 128]⟩
abbrev S8192x1024 : Shape := ⟨2, ![8192, 1024]⟩
abbrev S8192x2048 : Shape := ⟨2, ![8192, 2048]⟩

abbrev nBuf : Space → Nat
  | .hbm => 27
  | .vmem => 0
  | .smem => 0
  | _ => 0

abbrev bufTy : (tb : Table) → Fin (tcTables nBuf tb) → BufTy
  | .hbm, ⟨0, _⟩ => ⟨S2x4096x512, .f32⟩
  | .hbm, ⟨1, _⟩ => ⟨S512, .f32⟩
  | .hbm, ⟨2, _⟩ => ⟨S512x2048, .f32⟩
  | .hbm, ⟨3, _⟩ => ⟨S2x4096x512, .f32⟩
  | .hbm, ⟨4, _⟩ => ⟨S_, .f32⟩
  | .hbm, ⟨5, _⟩ => ⟨S2x4096, .f32⟩
  | .hbm, ⟨6, _⟩ => ⟨S2x4096x1, .f32⟩
  | .hbm, ⟨7, _⟩ => ⟨S_, .f32⟩
  | .hbm, ⟨8, _⟩ => ⟨S2x4096x1, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S2x4096x1, .f32⟩
  | .hbm, ⟨14, _⟩ => ⟨S2x4096x512, .f32⟩
  | .hbm, ⟨15, _⟩ => ⟨S2x4096x512, .f32⟩
  | .hbm, ⟨16, _⟩ => ⟨S1x1x512, .f32⟩
  | .hbm, ⟨17, _⟩ => ⟨S2x4096x512, .f32⟩
  | .hbm, ⟨18, _⟩ => ⟨S2x4096x512, .f32⟩
  | .hbm, ⟨19, _⟩ => ⟨S2x4096x2048, .f32⟩
  | .hbm, ⟨20, _⟩ => ⟨S2x4096x8x256, .f32⟩
  | .hbm, ⟨21, _⟩ => ⟨S2x4096x8x128, .f32⟩
  | .hbm, ⟨22, _⟩ => ⟨S8192x1024, .f32⟩
  | .hbm, ⟨23, _⟩ => ⟨S2x4096x8x128, .f32⟩
  | .hbm, ⟨24, _⟩ => ⟨S8192x1024, .f32⟩
  | .hbm, ⟨25, _⟩ => ⟨S8192x2048, .f32⟩
  | .hbm, ⟨26, _⟩ => ⟨S8192x2048, .bf16⟩
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Kernel10.lean ====
abbrev S2x4096x512 : Shape := ⟨3, ![2, 4096, 512]⟩
abbrev S512 : Shape := ⟨1, ![512]⟩
abbrev S512x1536 : Shape := ⟨2, ![512, 1536]⟩
abbrev S512x8x192 : Shape := ⟨3, ![512, 8, 192]⟩
abbrev S512x8x128 : Shape := ⟨3, ![512, 8, 128]⟩
abbrev S512x1024 : Shape := ⟨2, ![512, 1024]⟩
abbrev S_ : Shape := ⟨0, ![]⟩
abbrev S1024 : Shape := ⟨1, ![1024]⟩
abbrev S8192x512 : Shape := ⟨2, ![8192, 512]⟩
abbrev S1x512 : Shape := ⟨2, ![1, 512]⟩
abbrev S1x1024 : Shape := ⟨2, ![1, 1024]⟩
abbrev S8192x1024 : Shape := ⟨2, ![8192, 1024]⟩
abbrev S1024x512 : Shape := ⟨2, ![1024, 512]⟩
abbrev S1024x1024 : Shape := ⟨2, ![1024, 1024]⟩
abbrev S1024x1 : Shape := ⟨2, ![1024, 1]⟩

abbrev nBuf : Space → Nat
  | .hbm => 13
  | .vmem => 7
  | .smem => 0
  | _ => 0

abbrev bufTy : (tb : Table) → Fin (tcTables nBuf tb) → BufTy
  | .hbm, ⟨0, _⟩ => ⟨S2x4096x512, .f32⟩
  | .hbm, ⟨1, _⟩ => ⟨S512, .f32⟩
  | .hbm, ⟨2, _⟩ => ⟨S512x1536, .f32⟩
  | .hbm, ⟨3, _⟩ => ⟨S512x8x192, .f32⟩
  | .hbm, ⟨4, _⟩ => ⟨S512x8x128, .f32⟩
  | .hbm, ⟨5, _⟩ => ⟨S512x1024, .f32⟩
  | .hbm, ⟨6, _⟩ => ⟨S512x1024, .bf16⟩
  | .hbm, ⟨7, _⟩ => ⟨S_, .f32⟩
  | .hbm, ⟨8, _⟩ => ⟨S1024, .f32⟩
  | .hbm, ⟨9, _⟩ => ⟨S8192x512, .f32⟩
  | .hbm, ⟨10, _⟩ => ⟨S1x512, .f32⟩
  | .hbm, ⟨11, _⟩ => ⟨S1x1024, .f32⟩
  | .hbm, ⟨12, _⟩ => ⟨S8192x1024, .bf16⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S1x512, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | _, _ => ⟨S2x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference10Ideal.lean ====
abbrev S2x4096x512 : Shape := ⟨3, ![2, 4096, 512]⟩
abbrev S512 : Shape := ⟨1, ![512]⟩
abbrev S512x1536 : Shape := ⟨2, ![512, 1536]⟩
abbrev S_ : Shape := ⟨0, ![]⟩
abbrev S2x4096 : Shape := ⟨2, ![2, 4096]⟩
abbrev S2x4096x1 : Shape := ⟨3, ![2, 4096, 1]⟩
abbrev S1x1x512 : Shape := ⟨3, ![1, 1, 512]⟩
abbrev S2x4096x1536 : Shape := ⟨3, ![2, 4096, 1536]⟩
abbrev S2x4096x8x192 : Shape := ⟨4, ![2, 4096, 8, 192]⟩
abbrev S2x4096x8x128 : Shape := ⟨4, ![2, 4096, 8, 128]⟩
abbrev S8192x1024 : Shape := ⟨2, ![8192, 1024]⟩

abbrev nBuf : Space → Nat
  | .hbm => 27
  | .vmem => 0
  | .smem => 0
  | _ => 0

abbrev bufTy : (tb : Table) → Fin (tcTables nBuf tb) → BufTy
  | .hbm, ⟨0, _⟩ => ⟨S2x4096x512, .f32⟩
  | .hbm, ⟨1, _⟩ => ⟨S512, .f32⟩
  | .hbm, ⟨2, _⟩ => ⟨S512x1536, .f32⟩
  | .hbm, ⟨3, _⟩ => ⟨S2x4096x512, .f32⟩
  | .hbm, ⟨4, _⟩ => ⟨S_, .f32⟩
  | .hbm, ⟨5, _⟩ => ⟨S2x4096, .f32⟩
  | .hbm, ⟨6, _⟩ => ⟨S2x4096x1, .f32⟩
  | .hbm, ⟨7, _⟩ => ⟨S_, .f32⟩
  | .hbm, ⟨8, _⟩ => ⟨S2x4096x1, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S2x4096x1, .f32⟩
  | .hbm, ⟨14, _⟩ => ⟨S2x4096x512, .f32⟩
  | .hbm, ⟨15, _⟩ => ⟨S2x4096x512, .f32⟩
  | .hbm, ⟨16, _⟩ => ⟨S1x1x512, .f32⟩
  | .hbm, ⟨17, _⟩ => ⟨S2x4096x512, .f32⟩
  | .hbm, ⟨18, _⟩ => ⟨S2x4096x512, .f32⟩
  | .hbm, ⟨19, _⟩ => ⟨S2x4096x1536, .f32⟩
  | .hbm, ⟨20, _⟩ => ⟨S2x4096x8x192, .f32⟩
  | .hbm, ⟨21, _⟩ => ⟨S2x4096x8x128, .f32⟩
  | .hbm, ⟨22, _⟩ => ⟨S_, .f32⟩
  | .hbm, ⟨23, _⟩ => ⟨S2x4096x8x128, .f32⟩
  | .hbm, ⟨24, _⟩ => ⟨S2x4096x8x128, .f32⟩
  | .hbm, ⟨25, _⟩ => ⟨S8192x1024, .f32⟩
  | .hbm, ⟨26, _⟩ => ⟨S8192x1024, .bf16⟩
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel11.lean ====
abbrev S2x4096x8x192 : Shape := ⟨4, ![2, 4096, 8, 192]⟩
abbrev S2x4096x8x256 : Shape := ⟨4, ![2, 4096, 8, 256]⟩
abbrev S2x4096x64 : Shape := ⟨3, ![2, 4096, 64]⟩
abbrev S36 : Shape := ⟨1, ![36]⟩
abbrev S2x4096x8x128 : Shape := ⟨4, ![2, 4096, 8, 128]⟩
abbrev S8192x1024 : Shape := ⟨2, ![8192, 1024]⟩
abbrev S2x4096x8x64 : Shape := ⟨4, ![2, 4096, 8, 64]⟩
abbrev S_ : Shape := ⟨0, ![]⟩
abbrev S2x4096x128 : Shape := ⟨3, ![2, 4096, 128]⟩
abbrev S8192x128 : Shape := ⟨2, ![8192, 128]⟩
abbrev S8192x2048 : Shape := ⟨2, ![8192, 2048]⟩
abbrev S512x1024 : Shape := ⟨2, ![512, 1024]⟩
abbrev S1 : Shape := ⟨1, ![1]⟩
abbrev S512x128 : Shape := ⟨2, ![512, 128]⟩
abbrev S8x512x128 : Shape := ⟨3, ![8, 512, 128]⟩
abbrev S8x512x256 : Shape := ⟨3, ![8, 512, 256]⟩
abbrev S512x256 : Shape := ⟨2, ![512, 256]⟩
abbrev S256x128 : Shape := ⟨2, ![256, 128]⟩
abbrev S256x256 : Shape := ⟨2, ![256, 256]⟩
abbrev S256x512 : Shape := ⟨2, ![256, 512]⟩
abbrev S1x256x128 : Shape := ⟨3, ![1, 256, 128]⟩
abbrev S256 : Shape := ⟨1, ![256]⟩
abbrev S256x1 : Shape := ⟨2, ![256, 1]⟩
abbrev S1x256x256 : Shape := ⟨3, ![1, 256, 256]⟩
abbrev S1x512x128 : Shape := ⟨3, ![1, 512, 128]⟩

abbrev nBuf : Space → Nat
  | .hbm => 24
  | .vmem => 14
  | .smem => 5
  | _ => 0

abbrev bufTy : (tb : Table) → Fin (tcTables nBuf tb) → BufTy
  | .hbm, ⟨0, _⟩ => ⟨S2x4096x8x192, .f32⟩
  | .hbm, ⟨1, _⟩ => ⟨S2x4096x8x256, .f32⟩
  | .hbm, ⟨2, _⟩ => ⟨S2x4096x64, .f32⟩
  | .hbm, ⟨3, _⟩ => ⟨S2x4096x8x128, .f32⟩
  | .hbm, ⟨4, _⟩ => ⟨S8192x1024, .f32⟩
  | .hbm, ⟨5, _⟩ => ⟨S8192x1024, .bf16⟩
  | .hbm, ⟨6, _⟩ => ⟨S2x4096x8x64, .f32⟩
  | .hbm, ⟨7, _⟩ => ⟨S_, .i32⟩
  | .hbm, ⟨8, _⟩ => ⟨S_, .f32⟩
  | .hbm, ⟨9, _⟩ => ⟨S2x4096x8x128, .f32⟩
  | .hbm, ⟨10, _⟩ => ⟨S8192x1024, .f32⟩
  | .hbm, ⟨11, _⟩ => ⟨S8192x1024, .bf16⟩
  | .hbm, ⟨12, _⟩ => ⟨S_, .i32⟩
  | .hbm, ⟨13, _⟩ => ⟨S_, .f32⟩
  | .hbm, ⟨14, _⟩ => ⟨S2x4096x128, .f32⟩
  | .hbm, ⟨15, _⟩ => ⟨S8192x128, .f32⟩
  | .hbm, ⟨16, _⟩ => ⟨S8192x128, .bf16⟩
  | .hbm, ⟨17, _⟩ => ⟨S2x4096x8x128, .f32⟩
  | .hbm, ⟨18, _⟩ => ⟨S8192x1024, .f32⟩
  | .hbm, ⟨19, _⟩ => ⟨S2x4096x8x128, .f32⟩
  | .hbm, ⟨20, _⟩ => ⟨S8192x1024, .f32⟩
  | .hbm, ⟨21, _⟩ => ⟨S8192x2048, .f32⟩
  | .hbm, ⟨22, _⟩ => ⟨S8192x2048, .bf16⟩
  | .hbm, ⟨23, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x128, .bf16⟩
  | .local _ .vmem, ⟨9, _⟩ => ⟨S512x128, .bf16⟩
  | .local _ .vmem, ⟨10, _⟩ => ⟨S512x1024, .bf16⟩
  | .local _ .vmem, ⟨11, _⟩ => ⟨S512x1024, .bf16⟩
  | .local _ .vmem, ⟨12, _⟩ => ⟨S8x512x128, .f32⟩
  | .local _ .vmem, ⟨13, _⟩ => ⟨S8x512x256, .f32⟩
  | .local _ .smem, ⟨0, _⟩ => ⟨S36, .i32⟩
  | .local _ .smem, ⟨1, _⟩ => ⟨S36, .i32⟩
  | .local _ .smem, ⟨2, _⟩ => ⟨S36, .i32⟩
  | .local _ .smem, ⟨3, _⟩ => ⟨S36, .i32⟩
  | .local _ .smem, ⟨4, _⟩ => ⟨S36, .i32⟩
  | _, _ => ⟨S2x4096x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c_4 : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_5 : Ref sig .tc := ⟨.hbm, 12, rfl⟩
abbrev main_call1_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.smem, 0, rfl⟩
abbrev main_c_0 : Ref sig .tc := ⟨.smem, 1, rfl⟩
abbrev main_c_1 : Ref sig .tc := ⟨.smem, 2, rfl⟩
abbrev main_c_2 : Ref sig .tc := ⟨.smem, 3, rfl⟩
abbrev main_c_3 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 1, 36], ![false, false, false]⟩

abbrev pre0 : Pipeline.Prefetch sig := ⟨5, ![main_c.idx, main_c_0.idx, main_c_1.idx, main_c_2.idx, main_c_3.idx], fun | 0 => main_c.names | 1 => main_c_0.names | 2 => main_c_1.names | 3 => main_c_2.names | 4 => main_c_3.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg2 : BitVec 32 := BitVec.ofNat 32 (i 2).val
  let v1 : Index := Scalar.indexCast arg2
  ![v1.toNat]
def k0_off2 (i : grid0.Coords) : Fin 1 → Nat :=
  let arg2 : BitVec 32 := BitVec.ofNat 32 (i 2).val
  let v9 : Index := Scalar.indexCast arg2
  ![v9.toNat]
def k0_off3 (i : grid0.Coords) : Fin 1 → Nat :=
  let arg2 : BitVec 32 := BitVec.ofNat 32 (i 2).val
  let v14 : Index := Scalar.indexCast arg2
  ![v14.toNat]
def k0_off4 (i : grid0.Coords) : Fin 1 → Nat :=
  let arg2 : BitVec 32 := BitVec.ofNat 32 (i 2).val
  let v19 : Index := Scalar.indexCast arg2
  ![v19.toNat]
def k0_cond4 (v20 : BitVec 32) : BitVec 1 :=
  let c1_i32_4 : BitVec 32 := 1#32
  let v21 : BitVec 1 := Scalar.cmpi .eq v20 c1_i32_4
  let v22 : BitVec 32 := Scalar.extui v21
  let c0_i32_5 : BitVec 32 := 0#32
  let v23 : BitVec 1 := Scalar.cmpi .ne v22 c0_i32_5
  v23

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 0 (Rect.unit (s := S36) ![v1.toNat] S1.size (k0_off1_inb i)) numel1_S1
  let v3 : BitVec 32 := Scalar.addi v0 v2
  let c0_i32 : BitVec 32 := 0#32
  let v4 : BitVec 32 := Scalar.addi c0_i32 arg1
  let c0_i32_0 : BitVec 32 := 0#32
  ![v3.toNat, v4.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 1 (Rect.unit (s := S36) ![v1.toNat] S1.size (k0_off1_inb i)) numel1_S1
  let v3 : BitVec 32 := Scalar.addi v0 v2
  let c0_i32 : BitVec 32 := 0#32
  let v4 : BitVec 32 := Scalar.addi c0_i32 arg1
  let c0_i32_0 : BitVec 32 := 0#32
  ![v3.toNat, v4.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 1 (Rect.unit (s := S36) ![v1.toNat] S1.size (k0_off1_inb i)) numel1_S1
  let v3 : BitVec 32 := Scalar.addi v0 v2
  let c1_i32 : BitVec 32 := 1#32
  let v4 : BitVec 32 := Scalar.addi c1_i32 arg1
  let c0_i32 : BitVec 32 := 0#32
  ![v3.toNat, v4.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 0 (Rect.unit (s := S36) ![v1.toNat] S1.size (k0_off1_inb i)) numel1_S1
  let v3 : BitVec 32 := Scalar.addi v0 v2
  let c0_i32 : BitVec 32 := 0#32
  let v4 : BitVec 32 := Scalar.addi c0_i32 arg1
  let c0_i32_0 : BitVec 32 := 0#32
  ![v3.toNat, v4.toNat]

def cc0_transform_4 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 1 (Rect.unit (s := S36) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

def cc0_transform_5 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 0 (Rect.unit (s := S36) ![v1.toNat] S1.size (k0_off1_inb i)) numel1_S1
  let v3 : BitVec 32 := Scalar.addi v0 v2
  let c0_i32 : BitVec 32 := 0#32
  ![v3.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Kernel11Ideal.lean ====
variable {F : FTy → Type} [FloatOps F] [Named F]
def κ : String → Option EReal := fun
  | "mask11" => some ⊥
  | "scale11" => some (((Real.sqrt 192)⁻¹ * (Real.log 2)⁻¹ : ℝ) : EReal)
  | _ => none
-- ==== Reference11Ideal.lean ====
abbrev S2x4096x8x192 : Shape := ⟨4, ![2, 4096, 8, 192]⟩
abbrev S2x4096x8x256 : Shape := ⟨4, ![2, 4096, 8, 256]⟩
abbrev S2x4096x64 : Shape := ⟨3, ![2, 4096, 64]⟩
abbrev S2x4096x1x64 : Shape := ⟨4, ![2, 4096, 1, 64]⟩
abbrev S2x4096x8x64 : Shape := ⟨4, ![2, 4096, 8, 64]⟩
abbrev S2x4096x8x128 : Shape := ⟨4, ![2, 4096, 8, 128]⟩
abbrev S4096 : Shape := ⟨1, ![4096]⟩
abbrev S2x8x4096x4096 : Shape := ⟨4, ![2, 8, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S2x8x4096 : Shape := ⟨3, ![2, 8, 4096]⟩
abbrev S2x8x4096x1 : Shape := ⟨4, ![2, 8, 4096, 1]⟩
abbrev S2x8x128x4096 : Shape := ⟨4, ![2, 8, 128, 4096]⟩
abbrev S8192x1024 : Shape := ⟨2, ![8192, 1024]⟩

abbrev nBuf : Space → Nat
  | .hbm => 48
  | .vmem => 0
  | .smem => 0
  | _ => 0

abbrev bufTy : (tb : Table) → Fin (tcTables nBuf tb) → BufTy
  | .hbm, ⟨0, _⟩ => ⟨S2x4096x8x192, .f32⟩
  | .hbm, ⟨1, _⟩ => ⟨S2x4096x8x256, .f32⟩
  | .hbm, ⟨2, _⟩ => ⟨S2x4096x64, .f32⟩
  | .hbm, ⟨3, _⟩ => ⟨S2x4096x1x64, .f32⟩
  | .hbm, ⟨4, _⟩ => ⟨S2x4096x8x64, .f32⟩
  | .hbm, ⟨5, _⟩ => ⟨S2x4096x8x128, .f32⟩
  | .hbm, ⟨6, _⟩ => ⟨S2x4096x8x192, .f32⟩
  | .hbm, ⟨7, _⟩ => ⟨S2x4096x8x128, .f32⟩
  | .hbm, ⟨8, _⟩ => ⟨S4096, .i32⟩
  | .hbm, ⟨9, _⟩ => ⟨S2x8x4096x4096, .f32⟩
  | .hbm, ⟨10, _⟩ => ⟨S_, .f32⟩
  | .hbm, ⟨11, _⟩ => ⟨S_, .f32⟩
  | .hbm, ⟨12, _⟩ => ⟨S2x8x4096x4096, .f32⟩
  | .hbm, ⟨13, _⟩ => ⟨S2x8x4096x4096, .f32⟩
  | .hbm, ⟨14, _⟩ => ⟨S1x4096, .i32⟩
  | .hbm, ⟨15, _⟩ => ⟨S_, .i32⟩
  | .hbm, ⟨16, _⟩ => ⟨S1x4096, .i32⟩
  | .hbm, ⟨17, _⟩ => ⟨S1x4096, .i32⟩
  | .hbm, ⟨18, _⟩ => ⟨S4096x1, .i32⟩
  | .hbm, ⟨19, _⟩ => ⟨S_, .i32⟩
  | .hbm, ⟨20, _⟩ => ⟨S4096x1, .i32⟩
  | .hbm, ⟨21, _⟩ => ⟨S4096x1, .i32⟩
  | .hbm, ⟨22, _⟩ => ⟨S4096x4096, .i32⟩
  | .hbm, ⟨23, _⟩ => ⟨S4096x4096, .i32⟩
  | .hbm, ⟨24, _⟩ => ⟨S4096x4096, .i1⟩
  | .hbm, ⟨25, _⟩ => ⟨S_, .f32⟩
  | .hbm, ⟨26, _⟩ => ⟨S_, .f32⟩
  | .hbm, ⟨27, _⟩ => ⟨S2x8x4096x4096, .i1⟩
  | .hbm, ⟨28, _⟩ => ⟨S2x8x4096x4096, .f32⟩
  | .hbm, ⟨29, _⟩ => ⟨S2x8x4096x4096, .f32⟩
  | .hbm, ⟨30, _⟩ => ⟨S_, .f32⟩
  | .hbm, ⟨31, _⟩ => ⟨S2x8x4096, .f32⟩
  | .hbm, ⟨32, _⟩ => ⟨S_, .f32⟩
  | .hbm, ⟨33, _⟩ => ⟨S2x8x4096, .f32⟩
  | .hbm, ⟨34, _⟩ => ⟨S2x8x4096, .f32⟩
  | .hbm, ⟨35, _⟩ => ⟨S2x8x4096x1, .f32⟩
  | .hbm, ⟨36, _⟩ => ⟨S2x8x4096x4096, .f32⟩
  | .hbm, ⟨37, _⟩ => ⟨S2x8x4096x4096, .f32⟩
  | .hbm, ⟨38, _⟩ => ⟨S2x8x4096x4096, .f32⟩
  | .hbm, ⟨39, _⟩ => ⟨S_, .f32⟩
  | .hbm, ⟨40, _⟩ => ⟨S2x8x4096, .f32⟩
  | .hbm, ⟨41, _⟩ => ⟨S2x8x4096x1, .f32⟩
  | .hbm, ⟨42, _⟩ => ⟨S2x8x4096x4096, .f32⟩
  | .hbm, ⟨43, _⟩ => ⟨S2x8x4096x4096, .f32⟩
  | .hbm, ⟨44, _⟩ => ⟨S2x8x128x4096, .f32⟩
  | .hbm, ⟨45, _⟩ => ⟨S2x4096x8x128, .f32⟩
  | .hbm, ⟨46, _⟩ => ⟨S8192x1024, .f32⟩
  | .hbm, ⟨47, _⟩ => ⟨S8192x1024, .bf16⟩
  | _, _ => ⟨S2x4096x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Kernel12.lean ====
abbrev S2x4096x2048 : Shape := ⟨3, ![2, 4096, 2048]⟩
abbrev S2048x4160 : Shape := ⟨2, ![2048, 4160]⟩
abbrev S2048x64 : Shape := ⟨2, ![2048, 64]⟩
abbrev S_ : Shape := ⟨0, ![]⟩
abbrev S2048x128 : Shape := ⟨2, ![2048, 128]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x128 : Shape := ⟨2, ![4096, 128]⟩
abbrev S8192x2048 : Shape := ⟨2, ![8192, 2048]⟩
abbrev S8192x128 : Shape := ⟨2, ![8192, 128]⟩
abbrev S1024x2048 : Shape := ⟨2, ![1024, 2048]⟩
abbrev S1024x128 : Shape := ⟨2, ![1024, 128]⟩

abbrev nBuf : Space → Nat
  | .hbm => 40
  | .vmem => 11
  | .smem => 0
  | _ => 0

abbrev bufTy : (tb : Table) → Fin (tcTables nBuf tb) → BufTy
  | .hbm, ⟨0, _⟩ => ⟨S2x4096x2048, .f32⟩
  | .hbm, ⟨1, _⟩ => ⟨S2048x4160, .f32⟩
  | .hbm, ⟨2, _⟩ => ⟨S2048x64, .f32⟩
  | .hbm, ⟨3, _⟩ => ⟨S_, .i32⟩
  | .hbm, ⟨4, _⟩ => ⟨S_, .f32⟩
  | .hbm, ⟨5, _⟩ => ⟨S2048x128, .f32⟩
  | .hbm, ⟨6, _⟩ => ⟨S2048x128, .bf16⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S4096, .f32⟩
  | .hbm, ⟨22, _⟩ => ⟨S4096x1, .f32⟩
  | .hbm, ⟨23, _⟩ => ⟨S1x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S4096x32, .f32⟩
  | .hbm, ⟨29, _⟩ => ⟨S_, .f32⟩
  | .hbm, ⟨30, _⟩ => ⟨S4096x64, .f32⟩
  | .hbm, ⟨31, _⟩ => ⟨S4096x128, .f32⟩
  | .hbm, ⟨32, _⟩ => ⟨S_, .f32⟩
  | .hbm, ⟨33, _⟩ => ⟨S4096x32, .f32⟩
  | .hbm, ⟨34, _⟩ => ⟨S4096x32, .f32⟩
  | .hbm, ⟨35, _⟩ => ⟨S4096x128, .f32⟩
  | .hbm, ⟨36, _⟩ => ⟨S4096x128, .f32⟩
  | .hbm, ⟨37, _⟩ => ⟨S8192x2048, .f32⟩
  | .hbm, ⟨38, _⟩ => ⟨S8192x2048, .bf16⟩
  | .hbm, ⟨39, _⟩ => ⟨S8192x128, .bf16⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .bf16⟩
  | .local _ .vmem, ⟨10, _⟩ => ⟨S1024x128, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference12Ideal.lean ====
abbrev S2x4096x2048 : Shape := ⟨3, ![2, 4096, 2048]⟩
abbrev S2048x4160 : Shape := ⟨2, ![2048, 4160]⟩
abbrev S2x4096x4160 : Shape := ⟨3, ![2, 4096, 4160]⟩
abbrev S2x4096x512 : Shape := ⟨3, ![2, 4096, 512]⟩
abbrev S2x4096x64 : Shape := ⟨3, ![2, 4096, 64]⟩
abbrev S2x4096x1024 : Shape := ⟨3, ![2, 4096, 1024]⟩
abbrev S2x4096x1x64 : Shape := ⟨4, ![2, 4096, 1, 64]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S2x4096x1x32 : Shape := ⟨4, ![2, 4096, 1, 32]⟩
abbrev S1x4096x1x32 : Shape := ⟨4, ![1, 4096, 1, 32]⟩
abbrev S2x4096x1x128 : Shape := ⟨4, ![2, 4096, 1, 128]⟩
abbrev S8192x128 : Shape := ⟨2, ![8192, 128]⟩

abbrev nBuf : Space → Nat
  | .hbm => 56
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x4160, .f32⟩
  | .hbm, ⟨2, _⟩ => ⟨S2x4096x4160, .f32⟩
  | .hbm, ⟨3, _⟩ => ⟨S2x4096x512, .f32⟩
  | .hbm, ⟨4, _⟩ => ⟨S2x4096x512, .f32⟩
  | .hbm, ⟨5, _⟩ => ⟨S2x4096x64, .f32⟩
  | .hbm, ⟨6, _⟩ => ⟨S2x4096x1024, .f32⟩
  | .hbm, ⟨7, _⟩ => ⟨S2x4096x1024, .f32⟩
  | .hbm, ⟨8, _⟩ => ⟨S2x4096x1024, .f32⟩
  | .hbm, ⟨9, _⟩ => ⟨S2x4096x1x64, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S4096, .i32⟩
  | .hbm, ⟨25, _⟩ => ⟨S4096, .f32⟩
  | .hbm, ⟨26, _⟩ => ⟨S4096x1, .f32⟩
  | .hbm, ⟨27, _⟩ => ⟨S1x32, .f32⟩
  | .hbm, ⟨28, _⟩ => ⟨S4096x32, .f32⟩
  | .hbm, ⟨29, _⟩ => ⟨S4096x32, .f32⟩
  | .hbm, ⟨30, _⟩ => ⟨S4096x32, .f32⟩
  | .hbm, ⟨31, _⟩ => ⟨S4096x32, .f32⟩
  | .hbm, ⟨32, _⟩ => ⟨S4096x1x32, .f32⟩
  | .hbm, ⟨33, _⟩ => ⟨S4096x32, .f32⟩
  | .hbm, ⟨34, _⟩ => ⟨S4096x1x32, .f32⟩
  | .hbm, ⟨35, _⟩ => ⟨S2x4096x1x32, .f32⟩
  | .hbm, ⟨36, _⟩ => ⟨S2x4096x1x32, .f32⟩
  | .hbm, ⟨37, _⟩ => ⟨S1x4096x1x32, .f32⟩
  | .hbm, ⟨38, _⟩ => ⟨S2x4096x1x32, .f32⟩
  | .hbm, ⟨39, _⟩ => ⟨S2x4096x1x32, .f32⟩
  | .hbm, ⟨40, _⟩ => ⟨S1x4096x1x32, .f32⟩
  | .hbm, ⟨41, _⟩ => ⟨S2x4096x1x32, .f32⟩
  | .hbm, ⟨42, _⟩ => ⟨S2x4096x1x32, .f32⟩
  | .hbm, ⟨43, _⟩ => ⟨S2x4096x1x32, .f32⟩
  | .hbm, ⟨44, _⟩ => ⟨S1x4096x1x32, .f32⟩
  | .hbm, ⟨45, _⟩ => ⟨S2x4096x1x32, .f32⟩
  | .hbm, ⟨46, _⟩ => ⟨S2x4096x1x32, .f32⟩
  | .hbm, ⟨47, _⟩ => ⟨S1x4096x1x32, .f32⟩
  | .hbm, ⟨48, _⟩ => ⟨S2x4096x1x32, .f32⟩
  | .hbm, ⟨49, _⟩ => ⟨S2x4096x1x32, .f32⟩
  | .hbm, ⟨50, _⟩ => ⟨S2x4096x1x32, .f32⟩
  | .hbm, ⟨51, _⟩ => ⟨S2x4096x1x64, .f32⟩
  | .hbm, ⟨52, _⟩ => ⟨S_, .f32⟩
  | .hbm, ⟨53, _⟩ => ⟨S2x4096x1x128, .f32⟩
  | .hbm, ⟨54, _⟩ => ⟨S8192x128, .f32⟩
  | .hbm, ⟨55, _⟩ => ⟨S8192x128, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_cst_3 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩

abbrev nD : Nat := 1
abbrev τ : Topo := Topo.v7x

variable {F : FTy → Type} [FloatOps F]
-- ==== Kernel13.lean ====
abbrev S2x4096x512 : Shape := ⟨3, ![2, 4096, 512]⟩
abbrev S512 : Shape := ⟨1, ![512]⟩
abbrev S512x1536 : Shape := ⟨2, ![512, 1536]⟩
abbrev S512x8x192 : Shape := ⟨3, ![512, 8, 192]⟩
abbrev S512x8x64 : Shape := ⟨3, ![512, 8, 64]⟩
abbrev S_ : Shape := ⟨0, ![]⟩
abbrev S512x8x128 : Shape := ⟨3, ![512, 8, 128]⟩
abbrev S512x1024 : Shape := ⟨2, ![512, 1024]⟩
abbrev S1024 : Shape := ⟨1, ![1024]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x128 : Shape := ⟨2, ![4096, 128]⟩
abbrev S8192x512 : Shape := ⟨2, ![8192, 512]⟩
abbrev S1x512 : Shape := ⟨2, ![1, 512]⟩
abbrev S1x1024 : Shape := ⟨2, ![1, 1024]⟩
abbrev S8192x1024 : Shape := ⟨2, ![8192, 1024]⟩
abbrev S1024x512 : Shape := ⟨2, ![1024, 512]⟩
abbrev S1024x128 : Shape := ⟨2, ![1024, 128]⟩
abbrev S1024x1024 : Shape := ⟨2, ![1024, 1024]⟩
abbrev S1024x1 : Shape := ⟨2, ![1024, 1]⟩

abbrev nBuf : Space → Nat
  | .hbm => 46
  | .vmem => 13
  | .smem => 0
  | _ => 0

abbrev bufTy : (tb : Table) → Fin (tcTables nBuf tb) → BufTy
  | .hbm, ⟨0, _⟩ => ⟨S2x4096x512, .f32⟩
  | .hbm, ⟨1, _⟩ => ⟨S512, .f32⟩
  | .hbm, ⟨2, _⟩ => ⟨S512x1536, .f32⟩
  | .hbm, ⟨3, _⟩ => ⟨S512x8x192, .f32⟩
  | .hbm, ⟨4, _⟩ => ⟨S512x8x64, .f32⟩
  | .hbm, ⟨5, _⟩ => ⟨S_, .i32⟩
  | .hbm, ⟨6, _⟩ => ⟨S_, .f32⟩
  | .hbm, ⟨7, _⟩ => ⟨S512x8x128, .f32⟩
  | .hbm, ⟨8, _⟩ => ⟨S512x1024, .f32⟩
  | .hbm, ⟨9, _⟩ => ⟨S512x1024, .bf16⟩
  | .hbm, ⟨10, _⟩ => ⟨S_, .f32⟩
  | .hbm, ⟨11, _⟩ => ⟨S1024, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S4096, .f32⟩
  | .hbm, ⟨27, _⟩ => ⟨S4096x1, .f32⟩
  | .hbm, ⟨28, _⟩ => ⟨S1x32, .f32⟩
  | .hbm, ⟨29, _⟩ => ⟨S4096x32, .f32⟩
  | .hbm, ⟨30, _⟩ => ⟨S4096x32, .f32⟩
  | .hbm, ⟨31, _⟩ => ⟨S4096x32, .f32⟩
  | .hbm, ⟨32, _⟩ => ⟨S4096x32, .f32⟩
  | .hbm, ⟨33, _⟩ => ⟨S4096x32, .f32⟩
  | .hbm, ⟨34, _⟩ => ⟨S_, .f32⟩
  | .hbm, ⟨35, _⟩ => ⟨S4096x64, .f32⟩
  | .hbm, ⟨36, _⟩ => ⟨S4096x128, .f32⟩
  | .hbm, ⟨37, _⟩ => ⟨S_, .f32⟩
  | .hbm, ⟨38, _⟩ => ⟨S4096x32, .f32⟩
  | .hbm, ⟨39, _⟩ => ⟨S4096x32, .f32⟩
  | .hbm, ⟨40, _⟩ => ⟨S4096x128, .f32⟩
  | .hbm, ⟨41, _⟩ => ⟨S4096x128, .f32⟩
  | .hbm, ⟨42, _⟩ => ⟨S8192x512, .f32⟩
  | .hbm, ⟨43, _⟩ => ⟨S1x512, .f32⟩
  | .hbm, ⟨44, _⟩ => ⟨S1x1024, .f32⟩
  | .hbm, ⟨45, _⟩ => ⟨S8192x1024, .bf16⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S1x512, .f32⟩
  | .local _ .vmem, ⟨4, _⟩ => ⟨S1x1024, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x1024, .bf16⟩
  | .local _ .vmem, ⟨12, _⟩ => ⟨S1024x1024, .bf16⟩
  | _, _ => ⟨S2x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference13Ideal.lean ====
abbrev S2x4096x512 : Shape := ⟨3, ![2, 4096, 512]⟩
abbrev S512 : Shape := ⟨1, ![512]⟩
abbrev S512x1536 : Shape := ⟨2, ![512, 1536]⟩
abbrev S_ : Shape := ⟨0, ![]⟩
abbrev S2x4096 : Shape := ⟨2, ![2, 4096]⟩
abbrev S2x4096x1 : Shape := ⟨3, ![2, 4096, 1]⟩
abbrev S1x1x512 : Shape := ⟨3, ![1, 1, 512]⟩
abbrev S2x4096x1536 : Shape := ⟨3, ![2, 4096, 1536]⟩
abbrev S2x4096x8x192 : Shape := ⟨4, ![2, 4096, 8, 192]⟩
abbrev S2x4096x8x64 : Shape := ⟨4, ![2, 4096, 8, 64]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S2x4096x8x32 : Shape := ⟨4, ![2, 4096, 8, 32]⟩
abbrev S1x4096x1x32 : Shape := ⟨4, ![1, 4096, 1, 32]⟩
abbrev S2x4096x8x128 : Shape := ⟨4, ![2, 4096, 8, 128]⟩
abbrev S8192x1024 : Shape := ⟨2, ![8192, 1024]⟩

abbrev nBuf : Space → Nat
  | .hbm => 71
  | .vmem => 0
  | .smem => 0
  | _ => 0

abbrev bufTy : (tb : Table) → Fin (tcTables nBuf tb) → BufTy
  | .hbm, ⟨0, _⟩ => ⟨S2x4096x512, .f32⟩
  | .hbm, ⟨1, _⟩ => ⟨S512, .f32⟩
  | .hbm, ⟨2, _⟩ => ⟨S512x1536, .f32⟩
  | .hbm, ⟨3, _⟩ => ⟨S2x4096x512, .f32⟩
  | .hbm, ⟨4, _⟩ => ⟨S_, .f32⟩
  | .hbm, ⟨5, _⟩ => ⟨S2x4096, .f32⟩
  | .hbm, ⟨6, _⟩ => ⟨S2x4096x1, .f32⟩
  | .hbm, ⟨7, _⟩ => ⟨S_, .f32⟩
  | .hbm, ⟨8, _⟩ => ⟨S2x4096x1, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S2x4096x1, .f32⟩
  | .hbm, ⟨14, _⟩ => ⟨S2x4096x512, .f32⟩
  | .hbm, ⟨15, _⟩ => ⟨S2x4096x512, .f32⟩
  | .hbm, ⟨16, _⟩ => ⟨S1x1x512, .f32⟩
  | .hbm, ⟨17, _⟩ => ⟨S2x4096x512, .f32⟩
  | .hbm, ⟨18, _⟩ => ⟨S2x4096x512, .f32⟩
  | .hbm, ⟨19, _⟩ => ⟨S2x4096x1536, .f32⟩
  | .hbm, ⟨20, _⟩ => ⟨S2x4096x8x192, .f32⟩
  | .hbm, ⟨21, _⟩ => ⟨S2x4096x8x64, .f32⟩
  | .hbm, ⟨22, _⟩ => ⟨S_, .f32⟩
  | .hbm, ⟨23, _⟩ => ⟨S2x4096x8x64, .f32⟩
  | .hbm, ⟨24, _⟩ => ⟨S2x4096x8x64, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S4096, .i32⟩
  | .hbm, ⟨40, _⟩ => ⟨S4096, .f32⟩
  | .hbm, ⟨41, _⟩ => ⟨S4096x1, .f32⟩
  | .hbm, ⟨42, _⟩ => ⟨S1x32, .f32⟩
  | .hbm, ⟨43, _⟩ => ⟨S4096x32, .f32⟩
  | .hbm, ⟨44, _⟩ => ⟨S4096x32, .f32⟩
  | .hbm, ⟨45, _⟩ => ⟨S4096x32, .f32⟩
  | .hbm, ⟨46, _⟩ => ⟨S4096x32, .f32⟩
  | .hbm, ⟨47, _⟩ => ⟨S4096x1x32, .f32⟩
  | .hbm, ⟨48, _⟩ => ⟨S4096x32, .f32⟩
  | .hbm, ⟨49, _⟩ => ⟨S4096x1x32, .f32⟩
  | .hbm, ⟨50, _⟩ => ⟨S2x4096x8x32, .f32⟩
  | .hbm, ⟨51, _⟩ => ⟨S2x4096x8x32, .f32⟩
  | .hbm, ⟨52, _⟩ => ⟨S1x4096x1x32, .f32⟩
  | .hbm, ⟨53, _⟩ => ⟨S2x4096x8x32, .f32⟩
  | .hbm, ⟨54, _⟩ => ⟨S2x4096x8x32, .f32⟩
  | .hbm, ⟨55, _⟩ => ⟨S1x4096x1x32, .f32⟩
  | .hbm, ⟨56, _⟩ => ⟨S2x4096x8x32, .f32⟩
  | .hbm, ⟨57, _⟩ => ⟨S2x4096x8x32, .f32⟩
  | .hbm, ⟨58, _⟩ => ⟨S2x4096x8x32, .f32⟩
  | .hbm, ⟨59, _⟩ => ⟨S1x4096x1x32, .f32⟩
  | .hbm, ⟨60, _⟩ => ⟨S2x4096x8x32, .f32⟩
  | .hbm, ⟨61, _⟩ => ⟨S2x4096x8x32, .f32⟩
  | .hbm, ⟨62, _⟩ => ⟨S1x4096x1x32, .f32⟩
  | .hbm, ⟨63, _⟩ => ⟨S2x4096x8x32, .f32⟩
  | .hbm, ⟨64, _⟩ => ⟨S2x4096x8x32, .f32⟩
  | .hbm, ⟨65, _⟩ => ⟨S2x4096x8x32, .f32⟩
  | .hbm, ⟨66, _⟩ => ⟨S2x4096x8x64, .f32⟩
  | .hbm, ⟨67, _⟩ => ⟨S_, .f32⟩
  | .hbm, ⟨68, _⟩ => ⟨S2x4096x8x128, .f32⟩
  | .hbm, ⟨69, _⟩ => ⟨S8192x1024, .f32⟩
  | .hbm, ⟨70, _⟩ => ⟨S8192x1024, .bf16⟩
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_cst_7 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩

abbrev nD : Nat := 1
abbrev τ : Topo := Topo.v7x

variable {F : FTy → Type} [FloatOps F]
-- ==== Kernel14.lean ====
abbrev S2x4096x2048 : Shape := ⟨3, ![2, 4096, 2048]⟩
abbrev S2048x6152 : Shape := ⟨2, ![2048, 6152]⟩
abbrev S2048x8 : Shape := ⟨2, ![2048, 8]⟩
abbrev S_ : Shape := ⟨0, ![]⟩
abbrev S2048x128 : Shape := ⟨2, ![2048, 128]⟩
abbrev S8192x2048 : Shape := ⟨2, ![8192, 2048]⟩
abbrev S8192x128 : Shape := ⟨2, ![8192, 128]⟩
abbrev S1024x2048 : Shape := ⟨2, ![1024, 2048]⟩
abbrev S1024x128 : Shape := ⟨2, ![1024, 128]⟩

abbrev nBuf : Space → Nat
  | .hbm => 10
  | .vmem => 5
  | .smem => 0
  | _ => 0

abbrev bufTy : (tb : Table) → Fin (tcTables nBuf tb) → BufTy
  | .hbm, ⟨0, _⟩ => ⟨S2x4096x2048, .f32⟩
  | .hbm, ⟨1, _⟩ => ⟨S2048x6152, .f32⟩
  | .hbm, ⟨2, _⟩ => ⟨S2048x8, .f32⟩
  | .hbm, ⟨3, _⟩ => ⟨S_, .i32⟩
  | .hbm, ⟨4, _⟩ => ⟨S_, .f32⟩
  | .hbm, ⟨5, _⟩ => ⟨S2048x128, .f32⟩
  | .hbm, ⟨6, _⟩ => ⟨S2048x128, .bf16⟩
  | .hbm, ⟨7, _⟩ => ⟨S8192x2048, .f32⟩
  | .hbm, ⟨8, _⟩ => ⟨S8192x2048, .bf16⟩
  | .hbm, ⟨9, _⟩ => ⟨S8192x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S2x4096x2048 : Shape := ⟨3, ![2, 4096, 2048]⟩
abbrev S2048x6152 : Shape := ⟨2, ![2048, 6152]⟩
abbrev S2x4096x6152 : Shape := ⟨3, ![2, 4096, 6152]⟩
abbrev S2x4096x8 : Shape := ⟨3, ![2, 4096, 8]⟩
abbrev S_ : Shape := ⟨0, ![]⟩
abbrev S2x4096x128 : Shape := ⟨3, ![2, 4096, 128]⟩
abbrev S8192x128 : Shape := ⟨2, ![8192, 128]⟩

abbrev nBuf : Space → Nat
  | .hbm => 7
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x6152, .f32⟩
  | .hbm, ⟨2, _⟩ => ⟨S2x4096x6152, .f32⟩
  | .hbm, ⟨3, _⟩ => ⟨S2x4096x8, .f32⟩
  | .hbm, ⟨4, _⟩ => ⟨S_, .f32⟩
  | .hbm, ⟨5, _⟩ => ⟨S2x4096x128, .f32⟩
  | .hbm, ⟨6, _⟩ => ⟨S8192x128, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S8192x2048 : Shape := ⟨2, ![8192, 2048]⟩
abbrev S4x128 : Shape := ⟨2, ![4, 128]⟩
abbrev S256 : Shape := ⟨1, ![256]⟩
abbrev S1x256 : Shape := ⟨2, ![1, 256]⟩
abbrev S8192x1024 : Shape := ⟨2, ![8192, 1024]⟩
abbrev S512x2048 : Shape := ⟨2, ![512, 2048]⟩
abbrev S512x1024 : Shape := ⟨2, ![512, 1024]⟩
abbrev S1x128 : Shape := ⟨2, ![1, 128]⟩
abbrev S1 : Shape := ⟨1, ![1]⟩
abbrev S1x1 : Shape := ⟨2, ![1, 1]⟩
abbrev S512x256 : Shape := ⟨2, ![512, 256]⟩
abbrev S512 : Shape := ⟨1, ![512]⟩
abbrev S512x1 : Shape := ⟨2, ![512, 1]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S4x128, .f32⟩
  | .hbm, ⟨2, _⟩ => ⟨S256, .f32⟩
  | .hbm, ⟨3, _⟩ => ⟨S1x256, .f32⟩
  | .hbm, ⟨4, _⟩ => ⟨S8192x1024, .bf16⟩
  | .local _ .vmem, ⟨0, _⟩ => ⟨S512x2048, .f32⟩
  | .local _ .vmem, ⟨1, _⟩ => ⟨S512x2048, .f32⟩
  | .local _ .vmem, ⟨2, _⟩ => ⟨S4x128, .f32⟩
  | .local _ .vmem, ⟨3, _⟩ => ⟨S1x256, .f32⟩
  | .local _ .vmem, ⟨4, _⟩ => ⟨S512x1024, .bf16⟩
  | .local _ .vmem, ⟨5, _⟩ => ⟨S512x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference15Ideal.lean ====
abbrev S8192x2048 : Shape := ⟨2, ![8192, 2048]⟩
abbrev S4x128 : Shape := ⟨2, ![4, 128]⟩
abbrev S256 : Shape := ⟨1, ![256]⟩
abbrev S2x4096x4x2x256 : Shape := ⟨5, ![2, 4096, 4, 2, 256]⟩
abbrev S1x128 : Shape := ⟨2, ![1, 128]⟩
abbrev S128 : Shape := ⟨1, ![128]⟩
abbrev S_ : Shape := ⟨0, ![]⟩
abbrev S2x4096x4x1x256 : Shape := ⟨5, ![2, 4096, 4, 1, 256]⟩
abbrev S2x4096x4x256 : Shape := ⟨4, ![2, 4096, 4, 256]⟩
abbrev S2x4096x4 : Shape := ⟨3, ![2, 4096, 4]⟩
abbrev S2x4096x4x1 : Shape := ⟨4, ![2, 4096, 4, 1]⟩
abbrev S1x1x1x256 : Shape := ⟨4, ![1, 1, 1, 256]⟩
abbrev S8192x1024 : Shape := ⟨2, ![8192, 1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x128, .f32⟩
  | .hbm, ⟨2, _⟩ => ⟨S256, .f32⟩
  | .hbm, ⟨3, _⟩ => ⟨S2x4096x4x2x256, .f32⟩
  | .hbm, ⟨4, _⟩ => ⟨S1x128, .f32⟩
  | .hbm, ⟨5, _⟩ => ⟨S128, .f32⟩
  | .hbm, ⟨6, _⟩ => ⟨S1x128, .f32⟩
  | .hbm, ⟨7, _⟩ => ⟨S128, .f32⟩
  | .hbm, ⟨8, _⟩ => ⟨S128, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1x128, .f32⟩
  | .hbm, ⟨13, _⟩ => ⟨S128, .f32⟩
  | .hbm, ⟨14, _⟩ => ⟨S1x128, .f32⟩
  | .hbm, ⟨15, _⟩ => ⟨S128, .f32⟩
  | .hbm, ⟨16, _⟩ => ⟨S128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S2x4096x4x1x256, .f32⟩
  | .hbm, ⟨24, _⟩ => ⟨S2x4096x4x256, .f32⟩
  | .hbm, ⟨25, _⟩ => ⟨S2x4096x4x1x256, .f32⟩
  | .hbm, ⟨26, _⟩ => ⟨S2x4096x4x256, .f32⟩
  | .hbm, ⟨27, _⟩ => ⟨S2x4096x4x256, .f32⟩
  | .hbm, ⟨28, _⟩ => ⟨S2x4096x4x256, .f32⟩
  | .hbm, ⟨29, _⟩ => ⟨S2x4096x4x256, .f32⟩
  | .hbm, ⟨30, _⟩ => ⟨S2x4096x4x256, .f32⟩
  | .hbm, ⟨31, _⟩ => ⟨S_, .f32⟩
  | .hbm, ⟨32, _⟩ => ⟨S2x4096x4, .f32⟩
  | .hbm, ⟨33, _⟩ => ⟨S2x4096x4x1, .f32⟩
  | .hbm, ⟨34, _⟩ => ⟨S_, .f32⟩
  | .hbm, ⟨35, _⟩ => ⟨S2x4096x4x1, .f32⟩
  | .hbm, ⟨36, _⟩ => ⟨S2x4096x4x1, .f32⟩
  | .hbm, ⟨37, _⟩ => ⟨S_, .f32⟩
  | .hbm, ⟨38, _⟩ => ⟨S2x4096x4x1, .f32⟩
  | .hbm, ⟨39, _⟩ => ⟨S2x4096x4x1, .f32⟩
  | .hbm, ⟨40, _⟩ => ⟨S2x4096x4x1, .f32⟩
  | .hbm, ⟨41, _⟩ => ⟨S2x4096x4x256, .f32⟩
  | .hbm, ⟨42, _⟩ => ⟨S2x4096x4x256, .f32⟩
  | .hbm, ⟨43, _⟩ => ⟨S1x1x1x256, .f32⟩
  | .hbm, ⟨44, _⟩ => ⟨S2x4096x4x256, .f32⟩
  | .hbm, ⟨45, _⟩ => ⟨S2x4096x4x256, .f32⟩
  | .hbm, ⟨46, _⟩ => ⟨S_, .f32⟩
  | .hbm, ⟨47, _⟩ => ⟨S2x4096x4x256, .f32⟩
  | .hbm, ⟨48, _⟩ => ⟨S2x4096x4x256, .f32⟩
  | .hbm, ⟨49, _⟩ => ⟨S8192x1024, .f32⟩
  | .hbm, ⟨50, _⟩ => ⟨S8192x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩

abbrev nD : Nat := 1
abbrev τ : Topo := Topo.v7x

variable {F : FTy → Type} [FloatOps F]
-- ==== Kernel16.lean ====
abbrev S8192x128 : Shape := ⟨2, ![8192, 128]⟩
abbrev S8 : Shape := ⟨1, ![8]⟩
abbrev S_ : Shape := ⟨0, ![]⟩
abbrev S128 : Shape := ⟨1, ![128]⟩
abbrev S1x128 : Shape := ⟨2, ![1, 128]⟩
abbrev S4096x128 : Shape := ⟨2, ![4096, 128]⟩
abbrev S256x256 : Shape := ⟨2, ![256, 256]⟩
abbrev S256x128 : Shape := ⟨2, ![256, 128]⟩

abbrev nBuf : Space → Nat
  | .hbm => 7
  | .vmem => 5
  | .smem => 0
  | _ => 0

abbrev bufTy : (tb : Table) → Fin (tcTables nBuf tb) → BufTy
  | .hbm, ⟨0, _⟩ => ⟨S8192x128, .f32⟩
  | .hbm, ⟨1, _⟩ => ⟨S8, .f32⟩
  | .hbm, ⟨2, _⟩ => ⟨S_, .i32⟩
  | .hbm, ⟨3, _⟩ => ⟨S_, .f32⟩
  | .hbm, ⟨4, _⟩ => ⟨S128, .f32⟩
  | .hbm, ⟨5, _⟩ => ⟨S1x128, .f32⟩
  | .hbm, ⟨6, _⟩ => ⟨S8192x128, .f32⟩
  | .local _ .vmem, ⟨0, _⟩ => ⟨S4096x128, .f32⟩
  | .local _ .vmem, ⟨1, _⟩ => ⟨S4096x128, .f32⟩
  | .local _ .vmem, ⟨2, _⟩ => ⟨S1x128, .f32⟩
  | .local _ .vmem, ⟨3, _⟩ => ⟨S4096x128, .f32⟩
  | .local _ .vmem, ⟨4, _⟩ => ⟨S4096x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference16Ideal.lean ====
abbrev S8192x128 : Shape := ⟨2, ![8192, 128]⟩
abbrev S8 : Shape := ⟨1, ![8]⟩
abbrev S2x4096x128 : Shape := ⟨3, ![2, 4096, 128]⟩
abbrev S_ : Shape := ⟨0, ![]⟩
abbrev S128 : Shape := ⟨1, ![128]⟩
abbrev S1x1x128 : Shape := ⟨3, ![1, 1, 128]⟩

abbrev nBuf : Space → Nat
  | .hbm => 28
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8, .f32⟩
  | .hbm, ⟨2, _⟩ => ⟨S2x4096x128, .f32⟩
  | .hbm, ⟨3, _⟩ => ⟨S_, .f32⟩
  | .hbm, ⟨4, _⟩ => ⟨S128, .f32⟩
  | .hbm, ⟨5, _⟩ => ⟨S1x1x128, .f32⟩
  | .hbm, ⟨6, _⟩ => ⟨S2x4096x128, .f32⟩
  | .hbm, ⟨7, _⟩ => ⟨S2x4096x128, .f32⟩
  | .hbm, ⟨8, _⟩ => ⟨S2x4096x128, .f32⟩
  | .hbm, ⟨9, _⟩ => ⟨S_, .f32⟩
  | .hbm, ⟨10, _⟩ => ⟨S2x4096x128, .f32⟩
  | .hbm, ⟨11, _⟩ => ⟨S2x4096x128, .f32⟩
  | .hbm, ⟨12, _⟩ => ⟨S2x4096x128, .f32⟩
  | .hbm, ⟨13, _⟩ => ⟨S2x4096x128, .f32⟩
  | .hbm, ⟨14, _⟩ => ⟨S2x4096x128, .i1⟩
  | .hbm, ⟨15, _⟩ => ⟨S2x4096x128, .f32⟩
  | .hbm, ⟨16, _⟩ => ⟨S2x4096x128, .f32⟩
  | .hbm, ⟨17, _⟩ => ⟨S2x4096x128, .f32⟩
  | .hbm, ⟨18, _⟩ => ⟨S2x4096x128, .f32⟩
  | .hbm, ⟨19, _⟩ => ⟨S2x4096x128, .f32⟩
  | .hbm, ⟨20, _⟩ => ⟨S2x4096x128, .f32⟩
  | .hbm, ⟨21, _⟩ => ⟨S2x4096x128, .f32⟩
  | .hbm, ⟨22, _⟩ => ⟨S2x4096x128, .f32⟩
  | .hbm, ⟨23, _⟩ => ⟨S2x4096x128, .f32⟩
  | .hbm, ⟨24, _⟩ => ⟨S_, .f32⟩
  | .hbm, ⟨25, _⟩ => ⟨S_, .f32⟩
  | .hbm, ⟨26, _⟩ => ⟨S2x4096x128, .f32⟩
  | .hbm, ⟨27, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_v8 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_v1 : Ref sig .tc := ⟨.hbm, 22, rfl⟩
abbrev main_v5 : Ref sig .tc := ⟨.hbm, 23, rfl⟩
abbrev main_call1_call0_cst : Ref sig .tc := ⟨.hbm, 24, rfl⟩
abbrev main_call1_call0_v0 : Ref sig .tc := ⟨.hbm, 25, rfl⟩
abbrev main_v6 : Ref sig .tc := ⟨.hbm, 26, rfl⟩
abbrev main_v7 : Ref sig .tc := ⟨.hbm, 27, rfl⟩

abbrev nD : Nat := 1
abbrev τ : Topo := Topo.v7x

variable {F : FTy → Type} [FloatOps F]
-- ==== Kernel17.lean ====
abbrev S8192x2048 : Shape := ⟨2, ![8192, 2048]⟩
abbrev S4x128 : Shape := ⟨2, ![4, 128]⟩
abbrev S256 : Shape := ⟨1, ![256]⟩
abbrev S1x256 : Shape := ⟨2, ![1, 256]⟩
abbrev S8192x1024 : Shape := ⟨2, ![8192, 1024]⟩
abbrev S512x2048 : Shape := ⟨2, ![512, 2048]⟩
abbrev S512x1024 : Shape := ⟨2, ![512, 1024]⟩
abbrev S1x128 : Shape := ⟨2, ![1, 128]⟩
abbrev S1 : Shape := ⟨1, ![1]⟩
abbrev S1x1 : Shape := ⟨2, ![1, 1]⟩
abbrev S512x256 : Shape := ⟨2, ![512, 256]⟩
abbrev S512 : Shape := ⟨1, ![512]⟩
abbrev S512x1 : Shape := ⟨2, ![512, 1]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S4x128, .f32⟩
  | .hbm, ⟨2, _⟩ => ⟨S256, .f32⟩
  | .hbm, ⟨3, _⟩ => ⟨S1x256, .f32⟩
  | .hbm, ⟨4, _⟩ => ⟨S8192x1024, .bf16⟩
  | .local _ .vmem, ⟨0, _⟩ => ⟨S512x2048, .f32⟩
  | .local _ .vmem, ⟨1, _⟩ => ⟨S512x2048, .f32⟩
  | .local _ .vmem, ⟨2, _⟩ => ⟨S4x128, .f32⟩
  | .local _ .vmem, ⟨3, _⟩ => ⟨S1x256, .f32⟩
  | .local _ .vmem, ⟨4, _⟩ => ⟨S512x1024, .bf16⟩
  | .local _ .vmem, ⟨5, _⟩ => ⟨S512x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference17Ideal.lean ====
abbrev S8192x2048 : Shape := ⟨2, ![8192, 2048]⟩
abbrev S4x128 : Shape := ⟨2, ![4, 128]⟩
abbrev S256 : Shape := ⟨1, ![256]⟩
abbrev S2x4096x4x2x256 : Shape := ⟨5, ![2, 4096, 4, 2, 256]⟩
abbrev S1x128 : Shape := ⟨2, ![1, 128]⟩
abbrev S128 : Shape := ⟨1, ![128]⟩
abbrev S_ : Shape := ⟨0, ![]⟩
abbrev S2x4096x4x1x256 : Shape := ⟨5, ![2, 4096, 4, 1, 256]⟩
abbrev S2x4096x4x256 : Shape := ⟨4, ![2, 4096, 4, 256]⟩
abbrev S2x4096x4 : Shape := ⟨3, ![2, 4096, 4]⟩
abbrev S2x4096x4x1 : Shape := ⟨4, ![2, 4096, 4, 1]⟩
abbrev S1x1x1x256 : Shape := ⟨4, ![1, 1, 1, 256]⟩
abbrev S8192x1024 : Shape := ⟨2, ![8192, 1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x128, .f32⟩
  | .hbm, ⟨2, _⟩ => ⟨S256, .f32⟩
  | .hbm, ⟨3, _⟩ => ⟨S2x4096x4x2x256, .f32⟩
  | .hbm, ⟨4, _⟩ => ⟨S1x128, .f32⟩
  | .hbm, ⟨5, _⟩ => ⟨S128, .f32⟩
  | .hbm, ⟨6, _⟩ => ⟨S1x128, .f32⟩
  | .hbm, ⟨7, _⟩ => ⟨S128, .f32⟩
  | .hbm, ⟨8, _⟩ => ⟨S128, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1x128, .f32⟩
  | .hbm, ⟨13, _⟩ => ⟨S128, .f32⟩
  | .hbm, ⟨14, _⟩ => ⟨S1x128, .f32⟩
  | .hbm, ⟨15, _⟩ => ⟨S128, .f32⟩
  | .hbm, ⟨16, _⟩ => ⟨S128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S2x4096x4x1x256, .f32⟩
  | .hbm, ⟨24, _⟩ => ⟨S2x4096x4x256, .f32⟩
  | .hbm, ⟨25, _⟩ => ⟨S2x4096x4x1x256, .f32⟩
  | .hbm, ⟨26, _⟩ => ⟨S2x4096x4x256, .f32⟩
  | .hbm, ⟨27, _⟩ => ⟨S2x4096x4x256, .f32⟩
  | .hbm, ⟨28, _⟩ => ⟨S2x4096x4x256, .f32⟩
  | .hbm, ⟨29, _⟩ => ⟨S2x4096x4x256, .f32⟩
  | .hbm, ⟨30, _⟩ => ⟨S2x4096x4x256, .f32⟩
  | .hbm, ⟨31, _⟩ => ⟨S_, .f32⟩
  | .hbm, ⟨32, _⟩ => ⟨S2x4096x4, .f32⟩
  | .hbm, ⟨33, _⟩ => ⟨S2x4096x4x1, .f32⟩
  | .hbm, ⟨34, _⟩ => ⟨S_, .f32⟩
  | .hbm, ⟨35, _⟩ => ⟨S2x4096x4x1, .f32⟩
  | .hbm, ⟨36, _⟩ => ⟨S2x4096x4x1, .f32⟩
  | .hbm, ⟨37, _⟩ => ⟨S_, .f32⟩
  | .hbm, ⟨38, _⟩ => ⟨S2x4096x4x1, .f32⟩
  | .hbm, ⟨39, _⟩ => ⟨S2x4096x4x1, .f32⟩
  | .hbm, ⟨40, _⟩ => ⟨S2x4096x4x1, .f32⟩
  | .hbm, ⟨41, _⟩ => ⟨S2x4096x4x256, .f32⟩
  | .hbm, ⟨42, _⟩ => ⟨S2x4096x4x256, .f32⟩
  | .hbm, ⟨43, _⟩ => ⟨S1x1x1x256, .f32⟩
  | .hbm, ⟨44, _⟩ => ⟨S2x4096x4x256, .f32⟩
  | .hbm, ⟨45, _⟩ => ⟨S2x4096x4x256, .f32⟩
  | .hbm, ⟨46, _⟩ => ⟨S_, .f32⟩
  | .hbm, ⟨47, _⟩ => ⟨S2x4096x4x256, .f32⟩
  | .hbm, ⟨48, _⟩ => ⟨S2x4096x4x256, .f32⟩
  | .hbm, ⟨49, _⟩ => ⟨S8192x1024, .f32⟩
  | .hbm, ⟨50, _⟩ => ⟨S8192x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩

abbrev nD : Nat := 1
abbrev τ : Topo := Topo.v7x

variable {F : FTy → Type} [FloatOps F]
-- ==== Proof.Heads.lean ====
/- The kernel's body written by its heads: what one half of one head does to its three running arrays, eight heads of
   two halves a step, and the printed body is that program. -/
module

public import proofs.«01_k».proof.Proof.Gen.KernelIdeal
public import proofs.«01_k».proof.Proof.Gen.KernelIdeal.Skeleton
public import Idealize.ShloMosaic.Lib.VecWindow

@[expose] public section

set_option synthInstance.maxSize 4096
set_option maxRecDepth 65536

noncomputable section

namespace Cert.KernelIdeal.Att

open Idealize.ShloMosaic Idealize.ShloMosaic.TcCoe
open Idealize.SL Idealize.SL.Sem
open Cert.KernelIdeal Facts₀

variable {F : FTy → Type} [FloatOps F] [Named F] [Facts]

/-! ## Bounds of the blocks a head reads -/

theorem inbQ (r g : ℕ) (hr : r ≤ 256) (hg : g < 8) : ∀ a, (![r, 128 * g] : Fin 2 → ℕ) a + S256x128.size a ≤ S512x1024.size a := fun
  | 0 => show r + 256 ≤ 512 by omega
  | 1 => show 128 * g + 128 ≤ 1024 by omega
theorem inbK (g : ℕ) (hg : g < 8) : ∀ a, (![0, 128 * g] : Fin 2 → ℕ) a + S512x128.size a ≤ S512x1024.size a := fun
  | 0 => show 0 + 512 ≤ 512 by omega
  | 1 => show 128 * g + 128 ≤ 1024 by omega
theorem inbV (g : ℕ) (hg : g < 8) : ∀ a, (![0, 256 * (g / 2)] : Fin 2 → ℕ) a + S512x256.size a ≤ S512x1024.size a := fun
  | 0 => show 0 + 512 ≤ 512 by omega
  | 1 => show 256 * (g / 2) + 256 ≤ 1024 by omega
theorem inbM (r g : ℕ) (hr : r ≤ 256) (hg : g < 8) : ∀ a, (![g, r, 0] : Fin 3 → ℕ) a + S1x256x128.size a ≤ S8x512x128.size a := fun
  | 0 => show g + 1 ≤ 8 by omega
  | 1 => show r + 256 ≤ 512 by omega
  | 2 => show 0 + 128 ≤ 128 by omega
theorem inbA (r g : ℕ) (hr : r ≤ 256) (hg : g < 8) : ∀ a, (![g, r, 0] : Fin 3 → ℕ) a + S1x256x256.size a ≤ S8x512x256.size a := fun
  | 0 => show g + 1 ≤ 8 by omega
  | 1 => show r + 256 ≤ 512 by omega
  | 2 => show 0 + 256 ≤ 256 by omega
theorem inbFM (g : ℕ) (hg : g < 8) : ∀ a, (![g, 0, 0] : Fin 3 → ℕ) a + S1x512x128.size a ≤ S8x512x128.size a := fun
  | 0 => show g + 1 ≤ 8 by omega
  | 1 => show 0 + 512 ≤ 512 by omega
  | 2 => show 0 + 128 ≤ 128 by omega
theorem inbFA (g : ℕ) (hg : g < 8) : ∀ a, (![g, 0, 0] : Fin 3 → ℕ) a + S1x512x256.size a ≤ S8x512x256.size a := fun
  | 0 => show g + 1 ≤ 8 by omega
  | 1 => show 0 + 512 ≤ 512 by omega
  | 2 => show 0 + 256 ≤ 256 by omega
theorem inbO (g : ℕ) (hg : g < 8) : ∀ a, (![0, 256 * g] : Fin 2 → ℕ) a + S512x256.size a ≤ S512x2048.size a := fun
  | 0 => show 0 + 512 ≤ 512 by omega
  | 1 => show 256 * g + 256 ≤ 2048 by omega

/-! ## The values of one half of one head -/

/-- The queries times the scale, which holds the logarithms' base. -/
def scaled (q : Vec F S256x128 .bf16) : FVec F S256x128 .bf16 :=
  truncf .bf16 (mulf (extf .f32 (shapeCast S256x128 q shapeCasts_S256x128_S256x128) bitsLt_bf16_f32)
    (broadcast S256x128 (Named.named κ "scale2" 0x3E0293EE#32))) bitsLt_bf16_f32

/-- The scores of 256 queries against 512 keys. -/
def scores (q : Vec F S256x128 .bf16) (k : Vec F S512x128 .bf16) : FVec F S256x512 .f32 :=
  matmul dot_S256x128_S512x128_S256x512_1_1_0_0_n_n none (scaled q)
    (shapeCast S512x128 k shapeCasts_S512x128_S512x128) (constant S256x512 .f32 0x00000000#32)

/-- The scores with those of a later chunk of keys replaced; `r` is the half's first row. -/
def masked (qi ki r : BitVec 32) (s : FVec F S256x512 .f32) : FVec F S256x512 .f32 :=
  select (cmpi .sle
      (shrui (addi (broadcast S256x512 (Scalar.muli ki 512#32)) (iota .tc S256x512 32 [1] iota_S256x512_d1_w32)) (broadcast S256x512 6#32))
      (shrui (addi (broadcast S256x512 (Scalar.addi (Scalar.muli qi 512#32) r)) (iota .tc S256x512 32 [0] iota_S256x512_d0_w32)) (broadcast S256x512 6#32)))
    s (broadcast S256x512 (Named.named κ "mask" 0xF149F2CA#32))

/-- The new running maximum, on every lane. -/
def newMax (s : FVec F S256x512 .f32) (m : Vec F S1x256x128 .f32) : FVec F S256x128 .f32 :=
  maximumf (shapeCast S256x128 m shapeCasts_S1x256x128_S256x128)
    (broadcastTo S256x128 (shapeCast S256x1 (multiReduction .maximumf [1] S256 s 0xFF800000#32 reduces_S256x512_S256 (.inl rfl) rfl)
      shapeCasts_S256_S256x1) broadcasts_S256x1_S256x128)

/-- How much of the old sums is kept. -/
def keep (s : FVec F S256x512 .f32) (m : Vec F S1x256x128 .f32) : FVec F S256x128 .f32 :=
  exp2 (subf (shapeCast S256x128 m shapeCasts_S1x256x128_S256x128) (newMax s m))

/-- The keys' weights. -/
def weights (s : FVec F S256x512 .f32) (m : Vec F S1x256x128 .f32) : FVec F S256x512 .f32 :=
  exp2 (subf s (concatenate S256x512 1 [⟨S256x128, newMax s m⟩, ⟨S256x128, newMax s m⟩, ⟨S256x128, newMax s m⟩, ⟨S256x128, newMax s m⟩]
    concatenates_S256x128_S256x128_S256x128_S256x128_S256x512_d1))

/-- The new weighted sum of the values. -/
def newAcc (s : FVec F S256x512 .f32) (m : Vec F S1x256x128 .f32) (v : Vec F S512x256 .bf16) (a : Vec F S1x256x256 .f32) : FVec F S1x256x256 .f32 :=
  shapeCast S1x256x256 (addf
    (mulf (concatenate S256x256 1 [⟨S256x128, keep s m⟩, ⟨S256x128, keep s m⟩] concatenates_S256x128_S256x128_S256x256_d1)
      (shapeCast S256x256 a shapeCasts_S1x256x256_S256x256))
    (matmul dot_S256x512_S512x256_S256x256_1_0_0_1_n_n none (truncf .bf16 (weights s m) bitsLt_bf16_f32)
      (shapeCast S512x256 v shapeCasts_S512x256_S512x256) (constant S256x256 .f32 0x00000000#32))) shapeCasts_S256x256_S1x256x256

/-- The new sum of the weights. -/
def newSum (s : FVec F S256x512 .f32) (m l : Vec F S1x256x128 .f32) : FVec F S1x256x128 .f32 :=
  shapeCast S1x256x128 (addf (mulf (keep s m) (shapeCast S256x128 l shapeCasts_S1x256x128_S256x128))
    (broadcastTo S256x128 (shapeCast S256x1 (multiReduction .add [1] S256 (weights s m) 0x00000000#32 reduces_S256x512_S256 (.inl rfl) rfl)
      shapeCasts_S256_S256x1) broadcasts_S256x1_S256x128)) shapeCasts_S256x128_S1x256x128

/-- The stored maximum. -/
def putMax (s : FVec F S256x512 .f32) (m : Vec F S1x256x128 .f32) : FVec F S1x256x128 .f32 :=
  shapeCast S1x256x128 (newMax s m) shapeCasts_S256x128_S1x256x128

/-- One head's result: its sums of values over its sums of weights. -/
def quot (a : Vec F S1x512x256 .f32) (l : Vec F S1x512x128 .f32) : FVec F S512x256 .f32 :=
  divf (shapeCast S512x256 a shapeCasts_S1x512x256_S512x256)
    (concatenate S512x256 1 [⟨S512x128, shapeCast S512x128 l shapeCasts_S1x512x128_S512x128⟩, ⟨S512x128, shapeCast S512x128 l shapeCasts_S1x512x128_S512x128⟩]
      concatenates_S512x128_S512x128_S512x256_d1)

/-! ## The body as a program of those values -/

/-- Programs of the body. -/
abbrev Body (F : FTy → Type) := Prog (TpuEff nD τ sig (Elt F) Λ₀ .tc) PUnit

/-- One half of one head: reads its queries and its three running blocks, writes the three back. -/
def halfP (arg8 : Memref sig .tc .vmem S512x1024 .bf16) (arg12 : Memref sig .tc .vmem S8x512x128 .f32)
    (arg13 : Memref sig .tc .vmem S8x512x256 .f32) (arg14 : Memref sig .tc .vmem S8x512x128 .f32)
    (mk : FVec F S256x512 .f32 → FVec F S256x512 .f32) (r g : ℕ) (hr : r ≤ 256) (hg : g < 8)
    (k : Vec F S512x128 .bf16) (v : Vec F S512x256 .bf16) (K : Body F) : Body F :=
  .op (.load arg8 (Rect.unit (s := S512x1024) ![r, 128 * g] S256x128.size (inbQ r g hr hg)).toLoadRect (View.loadsAt_vmem h_S256x128)) fun q =>
  .op (.load arg12 (Rect.unit (s := S8x512x128) ![g, r, 0] S1x256x128.size (inbM r g hr hg)).toLoadRect (View.loadsAt_vmem h_S1x256x128)) fun m =>
  .op (.load arg13 (Rect.unit (s := S8x512x256) ![g, r, 0] S1x256x256.size (inbA r g hr hg)).toLoadRect (View.loadsAt_vmem h_S1x256x256)) fun a =>
  .op (.load arg13 (Rect.unit (s := S8x512x256) ![g, r, 0] S1x256x256.size (inbA r g hr hg)).toLoadRect (View.loadsAt_vmem h_S1x256x256)) fun _ =>
  .op (.store arg13 (Rect.unit (s := S8x512x256) ![g, r, 0] S1x256x256.size (inbA r g hr hg)) (newAcc (mk (scores q k)) m v a) Finset.univ
    (View.stores_vmem_bits_univ h_S1x256x256 rfl) (.inl rfl)) fun _ =>
  .op (.load arg14 (Rect.unit (s := S8x512x128) ![g, r, 0] S1x256x128.size (inbM r g hr hg)).toLoadRect (View.loadsAt_vmem h_S1x256x128)) fun l =>
  .op (.load arg14 (Rect.unit (s := S8x512x128) ![g, r, 0] S1x256x128.size (inbM r g hr hg)).toLoadRect (View.loadsAt_vmem h_S1x256x128)) fun _ =>
  .op (.store arg14 (Rect.unit (s := S8x512x128) ![g, r, 0] S1x256x128.size (inbM r g hr hg)) (newSum (mk (scores q k)) m l) Finset.univ
    (View.stores_vmem_bits_univ h_S1x256x128 rfl) (.inl rfl)) fun _ =>
  .op (.load arg12 (Rect.unit (s := S8x512x128) ![g, r, 0] S1x256x128.size (inbM r g hr hg)).toLoadRect (View.loadsAt_vmem h_S1x256x128)) fun _ =>
  .op (.store arg12 (Rect.unit (s := S8x512x128) ![g, r, 0] S1x256x128.size (inbM r g hr hg)) (putMax (mk (scores q k)) m) Finset.univ
    (View.stores_vmem_bits_univ h_S1x256x128 rfl) (.inl rfl)) fun _ => K

/-- One head: its keys and values are read once, then its two halves. -/
def headP (arg8 arg9 arg10 : Memref sig .tc .vmem S512x1024 .bf16) (arg12 : Memref sig .tc .vmem S8x512x128 .f32)
    (arg13 : Memref sig .tc .vmem S8x512x256 .f32) (arg14 : Memref sig .tc .vmem S8x512x128 .f32)
    (mk0 mk1 : FVec F S256x512 .f32 → FVec F S256x512 .f32) (g : ℕ) (hg : g < 8) (K : Body F) : Body F :=
  .op (.load arg9 (Rect.unit (s := S512x1024) ![0, 128 * g] S512x128.size (inbK g hg)).toLoadRect (View.loadsAt_vmem h_S512x128)) fun k =>
  .op (.load arg10 (Rect.unit (s := S512x1024) ![0, 256 * (g / 2)] S512x256.size (inbV g hg)).toLoadRect (View.loadsAt_vmem h_S512x256)) fun v =>
  halfP arg8 arg12 arg13 arg14 mk0 0 g (by omega) hg k v (halfP arg8 arg12 arg13 arg14 mk1 256 g (by omega) hg k v K)

/-- All eight heads. -/
def stepP (arg8 arg9 arg10 : Memref sig .tc .vmem S512x1024 .bf16) (arg12 : Memref sig .tc .vmem S8x512x128 .f32)
    (arg13 : Memref sig .tc .vmem S8x512x256 .f32) (arg14 : Memref sig .tc .vmem S8x512x128 .f32)
    (mk0 mk1 : FVec F S256x512 .f32 → FVec F S256x512 .f32) (K : Body F) : Body F :=
  headP arg8 arg9 arg10 arg12 arg13 arg14 mk0 mk1 0 (by omega) <| headP arg8 arg9 arg10 arg12 arg13 arg14 mk0 mk1 1 (by omega) <|
  headP arg8 arg9 arg10 arg12 arg13 arg14 mk0 mk1 2 (by omega) <| headP arg8 arg9 arg10 arg12 arg13 arg14 mk0 mk1 3 (by omega) <|
  headP arg8 arg9 arg10 arg12 arg13 arg14 mk0 mk1 4 (by omega) <| headP arg8 arg9 arg10 arg12 arg13 arg14 mk0 mk1 5 (by omega) <|
  headP arg8 arg9 arg10 arg12 arg13 arg14 mk0 mk1 6 (by omega) <| headP arg8 arg9 arg10 arg12 arg13 arg14 mk0 mk1 7 (by omega) K

/-- One head's result is stored. -/
def outP (arg11 : Memref sig .tc .vmem S512x2048 .f32)
    (arg13 : Memref sig .tc .vmem S8x512x256 .f32) (arg14 : Memref sig .tc .vmem S8x512x128 .f32) (g : ℕ) (hg : g < 8) (K : Body F) : Body F :=
  .op (.load arg13 (Rect.unit (s := S8x512x256) ![g, 0, 0] S1x512x256.size (inbFA g hg)).toLoadRect (View.loadsAt_vmem h_S1x512x256)) fun a =>
  .op (.load arg14 (Rect.unit (s := S8x512x128) ![g, 0, 0] S1x512x128.size (inbFM g hg)).toLoadRect (View.loadsAt_vmem h_S1x512x128)) fun l =>
  .op (.load arg11 (Rect.unit (s := S512x2048) ![0, 256 * g] S512x256.size (inbO g hg)).toLoadRect (View.loadsAt_vmem h_S512x256)) fun _ =>
  .op (.store arg11 (Rect.unit (s := S512x2048) ![0, 256 * g] S512x256.size (inbO g hg)) (quot a l) Finset.univ
    (View.stores_vmem_bits_univ h_S512x256 rfl) (.inl rfl)) fun _ => K

/-- Every head's result is stored. -/
def lastP (arg11 : Memref sig .tc .vmem S512x2048 .f32)
    (arg13 : Memref sig .tc .vmem S8x512x256 .f32) (arg14 : Memref sig .tc .vmem S8x512x128 .f32) (K : Body F) : Body F :=
  outP arg11 arg13 arg14 0 (by omega) <| outP arg11 arg13 arg14 1 (by omega) <| outP arg11 arg13 arg14 2 (by omega) <|
  outP arg11 arg13 arg14 3 (by omega) <| outP arg11 arg13 arg14 4 (by omega) <| outP arg11 arg13 arg14 5 (by omega) <|
  outP arg11 arg13 arg14 6 (by omega) <| outP arg11 arg13 arg14 7 (by omega) K

/-- The running arrays are set to their first values. -/
def initP (arg12 : Memref sig .tc .vmem S8x512x128 .f32)
    (arg13 : Memref sig .tc .vmem S8x512x256 .f32) (arg14 : Memref sig .tc .vmem S8x512x128 .f32) (K : Body F) : Body F :=
  .op (.load arg12 (Rect.unit (s := S8x512x128) ![0, 0, 0] S8x512x128.size inb_S8x512x128_S8x512x128_0_0_0).toLoadRect (View.loadsAt_vmem h_S8x512x128)) fun _ =>
  .op (.store arg12 (Rect.unit (s := S8x512x128) ![0, 0, 0] S8x512x128.size inb_S8x512x128_S8x512x128_0_0_0)
    (shapeCast S8x512x128 (broadcast S8x512x128 (Named.named κ "mask" 0xF149F2CA#32 : F .f32)) shapeCasts_S8x512x128_S8x512x128) Finset.univ
    (View.stores_vmem_bits_univ h_S8x512x128 rfl) (.inl rfl)) fun _ =>
  .op (.load arg13 (Rect.unit (s := S8x512x256) ![0, 0, 0] S8x512x256.size inb_S8x512x256_S8x512x256_0_0_0).toLoadRect (View.loadsAt_vmem h_S8x512x256)) fun _ =>
  .op (.store arg13 (Rect.unit (s := S8x512x256) ![0, 0, 0] S8x512x256.size inb_S8x512x256_S8x512x256_0_0_0)
    (shapeCast S8x512x256 (broadcast S8x512x256 (Scalar.ofBits .f32 0x00000000#32 : F .f32)) shapeCasts_S8x512x256_S8x512x256) Finset.univ
    (View.stores_vmem_bits_univ h_S8x512x256 rfl) (.inl rfl)) fun _ =>
  .op (.load arg14 (Rect.unit (s := S8x512x128) ![0, 0, 0] S8x512x128.size inb_S8x512x128_S8x512x128_0_0_0).toLoadRect (View.loadsAt_vmem h_S8x512x128)) fun _ =>
  .op (.store arg14 (Rect.unit (s := S8x512x128) ![0, 0, 0] S8x512x128.size inb_S8x512x128_S8x512x128_0_0_0)
    (shapeCast S8x512x128 (broadcast S8x512x128 (Scalar.ofBits .f32 0x00000000#32 : F .f32)) shapeCasts_S8x512x128_S8x512x128) Finset.univ
    (View.stores_vmem_bits_univ h_S8x512x128 rfl) (.inl rfl)) fun _ => K

/-- Whether a table's word is one, as the kernel tests it. -/
abbrev isOne (w : BitVec 32) : BitVec 1 := Scalar.cmpi .ne (Scalar.extui (Scalar.cmpi .eq w 1#32) : BitVec 32) 0#32
/-- Whether a table's word is zero, as the kernel tests it. -/
abbrev isZero (w : BitVec 32) : BitVec 1 := Scalar.cmpi .ne (Scalar.extui (Scalar.cmpi .eq w 0#32) : BitVec 32) 0#32

/-- The body at one grid point. -/
def bodyP (i : grid0.Coords) (arg3 arg4 arg5 arg6 arg7 : Memref sig .tc .smem S36 .i32)
    (arg8 arg9 arg10 : Memref sig .tc .vmem S512x1024 .bf16) (arg11 : Memref sig .tc .vmem S512x2048 .f32)
    (arg12 : Memref sig .tc .vmem S8x512x128 .f32)
    (arg13 : Memref sig .tc .vmem S8x512x256 .f32) (arg14 : Memref sig .tc .vmem S8x512x128 .f32) : Body F := do
  let v1 : Elt F .i32 ← smemLoad arg3 (Rect.unit (s := S36) (k0_off1 i) S1.size (k0_off1_inb i)) numel1_S1 rfl
  let v3 : Elt F .i32 ← smemLoad arg4 (Rect.unit (s := S36) (k0_off1 i) S1.size (k0_off1_inb i)) numel1_S1 rfl
  let v5 : Elt F .i32 ← smemLoad arg5 (Rect.unit (s := S36) (k0_off1 i) S1.size (k0_off1_inb i)) numel1_S1 rfl
  if isOne v5 = 1#1 then initP arg12 arg13 arg14 (pure ⟨⟩) else pure ⟨⟩
  let v10 : Elt F .i32 ← smemLoad arg7 (Rect.unit (s := S36) (k0_off2 i) S1.size (k0_off2_inb i)) numel1_S1 rfl
  if isOne v10 = 1#1 then stepP arg8 arg9 arg10 arg12 arg13 arg14 (masked v1 v3 0#32) (masked v1 v3 256#32) (pure ⟨⟩) else pure ⟨⟩
  let v15 : Elt F .i32 ← smemLoad arg7 (Rect.unit (s := S36) (k0_off3 i) S1.size (k0_off3_inb i)) numel1_S1 rfl
  if isZero v15 = 1#1 then stepP arg8 arg9 arg10 arg12 arg13 arg14 id id (pure ⟨⟩) else pure ⟨⟩
  let v20 : Elt F .i32 ← smemLoad arg6 (Rect.unit (s := S36) (k0_off4 i) S1.size (k0_off4_inb i)) numel1_S1 rfl
  if k0_cond4 v20 = 1#1 then lastP arg11 arg13 arg14 (pure ⟨⟩) else pure ⟨⟩
  pure ⟨⟩

/-- The printed body is that program. -/
theorem body_eq (i : grid0.Coords) (arg3 arg4 arg5 arg6 arg7 : Memref sig .tc .smem S36 .i32) (h3 : arg3.IsWhole) (h4 : arg4.IsWhole)
    (h5 : arg5.IsWhole) (h6 : arg6.IsWhole) (h7 : arg7.IsWhole)
    (arg8 arg9 arg10 : Memref sig .tc .vmem S512x1024 .bf16) (arg11 : Memref sig .tc .vmem S512x2048 .f32) (h8 : arg8.IsWhole) (h9 : arg9.IsWhole)
    (h10 : arg10.IsWhole) (h11 : arg11.IsWhole)
    (arg12 : Memref sig .tc .vmem S8x512x128 .f32)
    (arg13 : Memref sig .tc .vmem S8x512x256 .f32) (arg14 : Memref sig .tc .vmem S8x512x128 .f32) (h12 : arg12.IsWhole) (h13 : arg13.IsWhole) (h14 : arg14.IsWhole) :
    cc0_attn_chunk (F := F) i arg3 h3 arg4 h4 arg5 h5 arg6 h6 arg7 h7 arg8 h8 arg9 h9 arg10 h10 arg11 h11 arg12 h12 arg13 h13 arg14 h14
      = bodyP (F := F) i arg3 arg4 arg5 arg6 arg7 arg8 arg9 arg10 arg11 arg12 arg13 arg14 := rfl

end Cert.KernelIdeal.Att
end
-- ==== Proof.Steps.lean ====
/- What the body's pieces do to the running arrays, as functions, and the triples that say so. -/
module

public import proofs.«01_k».proof.Proof.Heads
public import proofs.«01_k».proof.Proof.Gen.KernelIdeal.Launch
public import Idealize.ShloMosaic.Lib.Pipeline.Frame
public import Idealize.ShloMosaic.Lib.Pipeline.TableIdle

@[expose] public section

set_option maxRecDepth 16384

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Facts₀
open VecWindow (window put)

variable {F : FTy → Type} [FloatOps F] [Named F] [Facts]

/-! ## The running arrays and what the pieces do to them -/

/-- The three running arrays: maxima, sums of values, sums of weights. -/
structure St (F : FTy → Type) where
  m : S8x512x128.Idx → Elt F .f32
  a : S8x512x256.Idx → Elt F .f32
  l : S8x512x128.Idx → Elt F .f32

/-- The scores of one half of one head before masking. -/
def scoresAt (r g : ℕ) (hr : r ≤ 256) (hg : g < 8) (Q K : S512x1024.Idx → Elt F .bf16) : FVec F S256x512 .f32 :=
  scores (window Q ![r, 128 * g] S256x128.size (inbQ r g hr hg)) (window K ![0, 128 * g] S512x128.size (inbK g hg))

/-- One half of one head. -/
def halfS (mk : FVec F S256x512 .f32 → FVec F S256x512 .f32) (r g : ℕ) (hr : r ≤ 256) (hg : g < 8)
    (Q K V : S512x1024.Idx → Elt F .bf16) (st : St F) : St F where
  m := put st.m ![g, r, 0] S1x256x128.size
    (putMax (mk (scoresAt r g hr hg Q K)) (window st.m ![g, r, 0] S1x256x128.size (inbM r g hr hg)))
  a := put st.a ![g, r, 0] S1x256x256.size
    (newAcc (mk (scoresAt r g hr hg Q K)) (window st.m ![g, r, 0] S1x256x128.size (inbM r g hr hg))
      (window V ![0, 256 * (g / 2)] S512x256.size (inbV g hg)) (window st.a ![g, r, 0] S1x256x256.size (inbA r g hr hg)))
  l := put st.l ![g, r, 0] S1x256x128.size
    (newSum (mk (scoresAt r g hr hg Q K)) (window st.m ![g, r, 0] S1x256x128.size (inbM r g hr hg))
      (window st.l ![g, r, 0] S1x256x128.size (inbM r g hr hg)))

/-- One head. -/
def headS (mk0 mk1 : FVec F S256x512 .f32 → FVec F S256x512 .f32) (g : ℕ) (hg : g < 8)
    (Q K V : S512x1024.Idx → Elt F .bf16) (st : St F) : St F :=
  halfS mk1 256 g (by omega) hg Q K V (halfS mk0 0 g (by omega) hg Q K V st)

/-- Eight heads. -/
def stepS (mk0 mk1 : FVec F S256x512 .f32 → FVec F S256x512 .f32) (Q K V : S512x1024.Idx → Elt F .bf16) (st : St F) : St F :=
  headS mk0 mk1 7 (by omega) Q K V <| headS mk0 mk1 6 (by omega) Q K V <| headS mk0 mk1 5 (by omega) Q K V <|
  headS mk0 mk1 4 (by omega) Q K V <| headS mk0 mk1 3 (by omega) Q K V <| headS mk0 mk1 2 (by omega) Q K V <|
  headS mk0 mk1 1 (by omega) Q K V <| headS mk0 mk1 0 (by omega) Q K V st

/-- The running arrays' first values. -/
def initS : St F where
  m := shapeCast S8x512x128 (broadcast S8x512x128 (Named.named κ "mask" 0xF149F2CA#32 : F .f32)) shapeCasts_S8x512x128_S8x512x128
  a := shapeCast S8x512x256 (broadcast S8x512x256 (Scalar.ofBits .f32 0x00000000#32 : F .f32)) shapeCasts_S8x512x256_S8x512x256
  l := shapeCast S8x512x128 (broadcast S8x512x128 (Scalar.ofBits .f32 0x00000000#32 : F .f32)) shapeCasts_S8x512x128_S8x512x128

/-- One head's result put in its place. -/
def outS (g : ℕ) (hg : g < 8) (st : St F) (Y : S512x2048.Idx → Elt F .f32) : S512x2048.Idx → Elt F .f32 :=
  put Y ![0, 256 * g] S512x256.size (quot (window st.a ![g, 0, 0] S1x512x256.size (inbFA g hg)) (window st.l ![g, 0, 0] S1x512x128.size (inbFM g hg)))

/-- Every head's result put in its place. -/
def lastS (st : St F) (Y : S512x2048.Idx → Elt F .f32) : S512x2048.Idx → Elt F .f32 :=
  outS 7 (by omega) st <| outS 6 (by omega) st <| outS 5 (by omega) st <| outS 4 (by omega) st <|
  outS 3 (by omega) st <| outS 2 (by omega) st <| outS 1 (by omega) st <| outS 0 (by omega) st Y

/-! ## Triples -/

local notation "𝕄" => MT nD τ sig Unit (Elt F) ℕ (UR sig nD τ) ℕ

/-- A memref held at the values `X`. -/
abbrev heldAt (c : Dev nD) {sp : Space} {s : Shape} {e : EltTy} (m : Memref sig .tc sp s e) (q : PosShare TreeShare) (X : s.Idx → Elt F e) : sProp 𝕄 :=
  (m.view.loc (c.tc : Thread nD τ)) ↦[m.view.set]{q} (m.view.rep X)

variable (c : Dev nD) (𝒱 : Variants)

/-- The verified run of a body program. -/
abbrev runs (p : Body F) (Φ : PUnit → sProp 𝕄) : sProp 𝕄 := wp frame (wpE (defs₀ (F := F)) 𝒱 (c.tc : Thread nD τ) none) Set.univ p Φ

theorem wp_ld {s : Shape} {e : EltTy} (m : Memref sig .tc .vmem s e) (q : PosShare TreeShare) (X : s.Idx → Elt F e)
    (off size : Fin s.rank → ℕ) (inb : ∀ a, off a + size a ≤ s.size a) (hl : m.view.LoadsAt (Rect.unit off size inb).toLoadRect)
    (k : ((Rect.unit off size inb).shape.Idx → Elt F e) → Body F) (Φ : PUnit → sProp 𝕄) :
    heldAt c m q X ⊢ iprop((heldAt c m q X -∗ runs c 𝒱 (k (window X off size inb)) Φ)
      -∗ runs c 𝒱 (.op (.load m (Rect.unit off size inb).toLoadRect hl) k) Φ) := by
  rw [← View.readAt_rep_unit (Val := Elt F) m.view X inb rfl inb]
  exact wp_load 𝒱 (c.tc : Thread nD τ) none Set.univ (m.view.setOn_subset_set _)

theorem wp_st {s : Shape} {e : EltTy} (m : Memref sig .tc .vmem s e) (X : s.Idx → Elt F e)
    (off size : Fin s.rank → ℕ) (inb : ∀ a, off a + size a ≤ s.size a) (w : (Rect.unit off size inb).shape.Idx → Elt F e)
    (hx : (m.access (Rect.unit off size inb)).Stores Finset.univ) (hm : Finset.univ = Finset.univ ∨ ∀ a, (Rect.unit off size inb).stride a = 1)
    (k : PUnit → Body F) (Φ : PUnit → sProp 𝕄) :
    heldAt c m fullShare X ⊢ iprop((heldAt c m fullShare (put X off size w) -∗ runs c 𝒱 (k ⟨⟩) Φ)
      -∗ runs c 𝒱 (.op (.store m (Rect.unit off size inb) w Finset.univ hx hm) k) Φ) := by
  have h := wp_store_writes₀ (Ix := Unit) (Val := Elt F) (Name := ℕ) (U := UR sig nD τ) (Lvl := ℕ) (defs := defs₀ (F := F)) (cs := .vmem) (m := m)
    (r := Rect.unit off size inb) (Q := Φ) (w := w) (hx := hx) (hm := hm) (k := k) (S := m.view.set) (f := m.view.rep X)
    𝒱 (c.tc : Thread nD τ) none Set.univ (m.setOn_access_subset _ Finset.univ)
  have h2 := pointsTo_rep_of_read (Ix := Unit) (Val := Elt F) (Name := ℕ) (U := UR sig nD τ) (Lvl := ℕ) (c.tc : Thread nD τ) m
    (m.view.writes (Elt F) (m.view.rep X) [⟨Rect.unit off size inb, w⟩]) fullShare (put X off size w) (View.read_writes_rep_unit m.view X inb w rfl)
  exact h.trans (wand_mono_left (wand_mono_left h2))

/-- The running arrays held in their scratch. -/
def heldSt (a12 : Memref sig .tc .vmem S8x512x128 .f32) (a13 : Memref sig .tc .vmem S8x512x256 .f32)
    (a14 : Memref sig .tc .vmem S8x512x128 .f32) (st : St F) : sProp 𝕄 :=
  iprop(heldAt c a12 fullShare st.m ∗ heldAt c a13 fullShare st.a ∗ heldAt c a14 fullShare st.l)

variable (a8 a9 a10 : Memref sig .tc .vmem S512x1024 .bf16) (a11 : Memref sig .tc .vmem S512x2048 .f32)
  (a12 : Memref sig .tc .vmem S8x512x128 .f32) (a13 : Memref sig .tc .vmem S8x512x256 .f32) (a14 : Memref sig .tc .vmem S8x512x128 .f32)

theorem wp_half (mk : FVec F S256x512 .f32 → FVec F S256x512 .f32) (r g : ℕ) (hr : r ≤ 256) (hg : g < 8)
    (Q K V : S512x1024.Idx → Elt F .bf16) (st : St F) (k : Body F) (Φ : PUnit → sProp 𝕄) :
    iprop(heldAt c a8 fullShare Q ∗ heldSt c a12 a13 a14 st)
    ⊢ iprop((iprop(heldAt c a8 fullShare Q ∗ heldSt c a12 a13 a14 (halfS mk r g hr hg Q K V st)) -∗ runs c 𝒱 k Φ)
      -∗ runs c 𝒱 (halfP a8 a12 a13 a14 mk r g hr hg (window K ![0, 128 * g] S512x128.size (inbK g hg))
        (window V ![0, 256 * (g / 2)] S512x256.size (inbV g hg)) k) Φ) := by
  unfold halfP heldSt
  iintro ⟨HQ, Hm, Ha, Hl⟩ Hk
  iapply (wp_ld c 𝒱 a8) $$ HQ
  iintro HQ
  iapply (wp_ld c 𝒱 a12) $$ Hm
  iintro Hm
  iapply (wp_ld c 𝒱 a13) $$ Ha
  iintro Ha
  iapply (wp_ld c 𝒱 a13) $$ Ha
  iintro Ha
  iapply (wp_st c 𝒱 a13) $$ Ha
  iintro Ha
  iapply (wp_ld c 𝒱 a14) $$ Hl
  iintro Hl
  iapply (wp_ld c 𝒱 a14) $$ Hl
  iintro Hl
  iapply (wp_st c 𝒱 a14) $$ Hl
  iintro Hl
  iapply (wp_ld c 𝒱 a12) $$ Hm
  iintro Hm
  iapply (wp_st c 𝒱 a12) $$ Hm
  iintro Hm
  iapply Hk
  isplitl [HQ]
  · iexact HQ
  isplitl [Hm]
  · iexact Hm
  isplitl [Ha]
  · iexact Ha
  iexact Hl

/-- The blocks a step reads, held. -/
abbrev heldIn (Q K V : S512x1024.Idx → Elt F .bf16) : sProp 𝕄 :=
  iprop(heldAt c a8 fullShare Q ∗ heldAt c a9 fullShare K ∗ heldAt c a10 fullShare V)

theorem wp_head (mk0 mk1 : FVec F S256x512 .f32 → FVec F S256x512 .f32) (g : ℕ) (hg : g < 8)
    (Q K V : S512x1024.Idx → Elt F .bf16) (st : St F) (k : Body F) (Φ : PUnit → sProp 𝕄) :
    iprop(heldIn c a8 a9 a10 Q K V ∗ heldSt c a12 a13 a14 st)
    ⊢ iprop((iprop(heldIn c a8 a9 a10 Q K V ∗ heldSt c a12 a13 a14 (headS mk0 mk1 g hg Q K V st)) -∗ runs c 𝒱 k Φ)
      -∗ runs c 𝒱 (headP a8 a9 a10 a12 a13 a14 mk0 mk1 g hg k) Φ) := by
  unfold headP headS
  iintro ⟨⟨HQ, HK, HV⟩, Hs⟩ Hk
  iapply (wp_ld c 𝒱 a9) $$ HK
  iintro HK
  iapply (wp_ld c 𝒱 a10) $$ HV
  iintro HV
  iapply (wp_half c 𝒱 a8 a12 a13 a14 mk0 0 g _ hg Q K V st) $$ [HQ Hs]
  · isplitl [HQ]
    · iexact HQ
    iexact Hs
  iintro ⟨HQ, Hs⟩
  iapply (wp_half c 𝒱 a8 a12 a13 a14 mk1 256 g _ hg Q K V _) $$ [HQ Hs]
  · isplitl [HQ]
    · iexact HQ
    iexact Hs
  iintro ⟨HQ, Hs⟩
  iapply Hk
  isplitr [Hs]
  · isplitl [HQ]
    · iexact HQ
    isplitl [HK]
    · iexact HK
    iexact HV
  iexact Hs

theorem wp_step (mk0 mk1 : FVec F S256x512 .f32 → FVec F S256x512 .f32)
    (Q K V : S512x1024.Idx → Elt F .bf16) (st : St F) (k : Body F) (Φ : PUnit → sProp 𝕄) :
    iprop(heldIn c a8 a9 a10 Q K V ∗ heldSt c a12 a13 a14 st)
    ⊢ iprop((iprop(heldIn c a8 a9 a10 Q K V ∗ heldSt c a12 a13 a14 (stepS mk0 mk1 Q K V st)) -∗ runs c 𝒱 k Φ)
      -∗ runs c 𝒱 (stepP a8 a9 a10 a12 a13 a14 mk0 mk1 k) Φ) := by
  unfold stepP stepS
  iintro H Hk
  iapply (wp_head c 𝒱 a8 a9 a10 a12 a13 a14 mk0 mk1 0 _ Q K V _) $$ H
  iintro H
  iapply (wp_head c 𝒱 a8 a9 a10 a12 a13 a14 mk0 mk1 1 _ Q K V _) $$ H
  iintro H
  iapply (wp_head c 𝒱 a8 a9 a10 a12 a13 a14 mk0 mk1 2 _ Q K V _) $$ H
  iintro H
  iapply (wp_head c 𝒱 a8 a9 a10 a12 a13 a14 mk0 mk1 3 _ Q K V _) $$ H
  iintro H
  iapply (wp_head c 𝒱 a8 a9 a10 a12 a13 a14 mk0 mk1 4 _ Q K V _) $$ H
  iintro H
  iapply (wp_head c 𝒱 a8 a9 a10 a12 a13 a14 mk0 mk1 5 _ Q K V _) $$ H
  iintro H
  iapply (wp_head c 𝒱 a8 a9 a10 a12 a13 a14 mk0 mk1 6 _ Q K V _) $$ H
  iintro H
  iapply (wp_head c 𝒱 a8 a9 a10 a12 a13 a14 mk0 mk1 7 _ Q K V _) $$ H
  iintro H
  iapply Hk
  iexact H

theorem wp_out (g : ℕ) (hg : g < 8) (st : St F) (Y : S512x2048.Idx → Elt F .f32) (k : Body F) (Φ : PUnit → sProp 𝕄) :
    iprop(heldAt c a11 fullShare Y ∗ heldSt c a12 a13 a14 st)
    ⊢ iprop((iprop(heldAt c a11 fullShare (outS g hg st Y) ∗ heldSt c a12 a13 a14 st) -∗ runs c 𝒱 k Φ)
      -∗ runs c 𝒱 (outP a11 a13 a14 g hg k) Φ) := by
  unfold outP heldSt
  iintro ⟨HY, Hm, Ha, Hl⟩ Hk
  iapply (wp_ld c 𝒱 a13) $$ Ha
  iintro Ha
  iapply (wp_ld c 𝒱 a14) $$ Hl
  iintro Hl
  iapply (wp_ld c 𝒱 a11) $$ HY
  iintro HY
  iapply (wp_st c 𝒱 a11) $$ HY
  iintro HY
  iapply Hk
  isplitl [HY]
  · iexact HY
  isplitl [Hm]
  · iexact Hm
  isplitl [Ha]
  · iexact Ha
  iexact Hl

theorem wp_last (st : St F) (Y : S512x2048.Idx → Elt F .f32) (k : Body F) (Φ : PUnit → sProp 𝕄) :
    iprop(heldAt c a11 fullShare Y ∗ heldSt c a12 a13 a14 st)
    ⊢ iprop((iprop(heldAt c a11 fullShare (lastS st Y) ∗ heldSt c a12 a13 a14 st) -∗ runs c 𝒱 k Φ)
      -∗ runs c 𝒱 (lastP a11 a13 a14 k) Φ) := by
  unfold lastP lastS
  iintro H Hk
  iapply (wp_out c 𝒱 a11 a12 a13 a14 0 _ st _) $$ H
  iintro H
  iapply (wp_out c 𝒱 a11 a12 a13 a14 1 _ st _) $$ H
  iintro H
  iapply (wp_out c 𝒱 a11 a12 a13 a14 2 _ st _) $$ H
  iintro H
  iapply (wp_out c 𝒱 a11 a12 a13 a14 3 _ st _) $$ H
  iintro H
  iapply (wp_out c 𝒱 a11 a12 a13 a14 4 _ st _) $$ H
  iintro H
  iapply (wp_out c 𝒱 a11 a12 a13 a14 5 _ st _) $$ H
  iintro H
  iapply (wp_out c 𝒱 a11 a12 a13 a14 6 _ st _) $$ H
  iintro H
  iapply (wp_out c 𝒱 a11 a12 a13 a14 7 _ st _) $$ H
  iintro H
  iapply Hk
  iexact H

/-- A whole array put over another is the array. -/
theorem put_whole {α : Type} {s : Shape} (x : s.Idx → α) (off : Fin s.rank → ℕ) (h : ∀ a, off a = 0) (w : s.Idx → α) :
    put x off s.size w = w := by
  funext i
  have hi : ∀ a, off a ≤ (i a : ℕ) ∧ (i a : ℕ) < off a + s.size a := fun a => by rw [h a]; exact ⟨Nat.zero_le _, by have := (i a).isLt; omega⟩
  unfold put
  rw [dif_pos hi]
  exact congrArg w (funext fun a => Fin.ext (by show (i a : ℕ) - off a = i a; rw [h a]; rfl))

theorem wp_init (st : St F) (k : Body F) (Φ : PUnit → sProp 𝕄) :
    heldSt c a12 a13 a14 st ⊢ iprop((heldSt c a12 a13 a14 initS -∗ runs c 𝒱 k Φ) -∗ runs c 𝒱 (initP a12 a13 a14 k) Φ) := by
  unfold initP heldSt
  have h3 : ∀ a, (![0, 0, 0] : Fin 3 → ℕ) a = 0 := fun | 0 => rfl | 1 => rfl | 2 => rfl
  iintro ⟨Hm, Ha, Hl⟩ Hk
  iapply (wp_ld c 𝒱 a12) $$ Hm
  iintro Hm
  iapply (wp_st c 𝒱 a12) $$ Hm
  rw [put_whole _ _ h3]
  iintro Hm
  iapply (wp_ld c 𝒱 a13) $$ Ha
  iintro Ha
  iapply (wp_st c 𝒱 a13) $$ Ha
  rw [put_whole _ _ h3]
  iintro Ha
  iapply (wp_ld c 𝒱 a14) $$ Hl
  iintro Hl
  iapply (wp_st c 𝒱 a14) $$ Hl
  rw [put_whole _ _ h3]
  iintro Hl
  iapply Hk
  isplitl [Hm]
  · iexact Hm
  isplitl [Ha]
  · iexact Ha
  iexact Hl

end Cert.KernelIdeal.Att
end
-- ==== Proof.Body.lean ====
/- The body at one grid point: what it does to the running arrays and to the output block, by the words of its tables. -/
module

public import proofs.«01_k».proof.Proof.Steps

@[expose] public section

set_option maxRecDepth 16384

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Facts₀

variable {F : FTy → Type} [FloatOps F] [Named F] [Facts]

/-- The word of a table a grid point reads. -/
def wd (i : grid0.Coords) (T : S36.Idx → BitVec 32) : BitVec 32 := T ((Rect.unit (s := S36) (k0_off1 i) S1.size (k0_off1_inb i)).emb (Shape.Idx.first (numel1_S1.symm ▸ Nat.one_pos)))

/-- The running arrays after one grid point. -/
def pointS (i : grid0.Coords) (T0 T1 T2 T4 : S36.Idx → BitVec 32) (Q K V : S512x1024.Idx → Elt F .bf16) (st : St F) : St F :=
  let st1 := if isOne (wd i T2) = 1#1 then initS else st
  let st2 := if isOne (wd i T4) = 1#1 then stepS (masked (wd i T0) (wd i T1) 0#32) (masked (wd i T0) (wd i T1) 256#32) Q K V st1 else st1
  if isZero (wd i T4) = 1#1 then stepS id id Q K V st2 else st2

/-- The output block after one grid point. -/
def pointY (i : grid0.Coords) (T3 : S36.Idx → BitVec 32) (st : St F) (Y : S512x2048.Idx → Elt F .f32) : S512x2048.Idx → Elt F .f32 :=
  if k0_cond4 (wd i T3) = 1#1 then lastS st Y else Y

local notation "𝕄" => MT nD τ sig Unit (Elt F) ℕ (UR sig nD τ) ℕ

variable (c : Dev nD) (𝒱 : Variants)
variable (a8 a9 a10 : Memref sig .tc .vmem S512x1024 .bf16) (a11 : Memref sig .tc .vmem S512x2048 .f32)
  (a12 : Memref sig .tc .vmem S8x512x128 .f32) (a13 : Memref sig .tc .vmem S8x512x256 .f32) (a14 : Memref sig .tc .vmem S8x512x128 .f32)

theorem wp_pure (Φ : PUnit → sProp 𝕄) : Φ ⟨⟩ ⊢ runs (F := F) c 𝒱 (pure ⟨⟩) Φ := by
  show _ ⊢ wp _ _ _ (.ret _) _
  rw [wp_ret]
  iintro H
  imodintro
  iexact H

theorem wp_init_if (b : BitVec 1) (st : St F) (k : Unit → Body F) (Φ : PUnit → sProp 𝕄) :
    heldSt c a12 a13 a14 st ⊢ iprop((heldSt c a12 a13 a14 (if b = 1#1 then initS else st) -∗ runs c 𝒱 (k ⟨⟩) Φ)
      -∗ runs c 𝒱 (if b = 1#1 then initP a12 a13 a14 (pure ⟨⟩) >>= k else k ⟨⟩) Φ) := by
  by_cases h : b = 1#1
  · rw [if_pos h, if_pos h]
    iintro H Hk
    unfold runs; rw [wp_bind]
    iapply (wp_init c 𝒱 a12 a13 a14 st) $$ H
    iintro H
    iapply (wp_pure c 𝒱 _)
    iapply Hk
    iexact H
  · rw [if_neg h, if_neg h]
    iintro H Hk
    iapply Hk
    iexact H

theorem wp_step_if (b : BitVec 1) (mk0 mk1 : FVec F S256x512 .f32 → FVec F S256x512 .f32)
    (Q K V : S512x1024.Idx → Elt F .bf16) (st : St F) (k : Unit → Body F) (Φ : PUnit → sProp 𝕄) :
    iprop(heldIn c a8 a9 a10 Q K V ∗ heldSt c a12 a13 a14 st)
    ⊢ iprop((iprop(heldIn c a8 a9 a10 Q K V ∗ heldSt c a12 a13 a14 (if b = 1#1 then stepS mk0 mk1 Q K V st else st)) -∗ runs c 𝒱 (k ⟨⟩) Φ)
      -∗ runs c 𝒱 (if b = 1#1 then stepP a8 a9 a10 a12 a13 a14 mk0 mk1 (pure ⟨⟩) >>= k else k ⟨⟩) Φ) := by
  by_cases h : b = 1#1
  · rw [if_pos h, if_pos h]
    iintro H Hk
    unfold runs; rw [wp_bind]
    iapply (wp_step c 𝒱 a8 a9 a10 a12 a13 a14 mk0 mk1 Q K V st) $$ H
    iintro H
    iapply (wp_pure c 𝒱 _)
    iapply Hk
    iexact H
  · rw [if_neg h, if_neg h]
    iintro H Hk
    iapply Hk
    iexact H

theorem wp_last_if (b : BitVec 1) (st : St F) (Y : S512x2048.Idx → Elt F .f32) (k : Unit → Body F) (Φ : PUnit → sProp 𝕄) :
    iprop(heldAt c a11 fullShare Y ∗ heldSt c a12 a13 a14 st)
    ⊢ iprop((iprop(heldAt c a11 fullShare (if b = 1#1 then lastS st Y else Y) ∗ heldSt c a12 a13 a14 st) -∗ runs c 𝒱 (k ⟨⟩) Φ)
      -∗ runs c 𝒱 (if b = 1#1 then lastP a11 a13 a14 (pure ⟨⟩) >>= k else k ⟨⟩) Φ) := by
  by_cases h : b = 1#1
  · rw [if_pos h, if_pos h]
    iintro H Hk
    unfold runs; rw [wp_bind]
    iapply (wp_last c 𝒱 a11 a12 a13 a14 st Y) $$ H
    iintro H
    iapply (wp_pure c 𝒱 _)
    iapply Hk
    iexact H
  · rw [if_neg h, if_neg h]
    iintro H Hk
    iapply Hk
    iexact H

theorem wp_word (m : Memref sig .tc .smem S36 .i32) (i : grid0.Coords) (q : PosShare TreeShare) (f : Buf (Elt F) (m.view.loc (c.tc : Thread nD τ)))
    (h : ∀ a, (k0_off1 i) a + S1.size a ≤ S36.size a) (k : Elt F .i32 → Body F) (Φ : PUnit → sProp 𝕄) :
    ((m.view.loc (c.tc : Thread nD τ)) ↦{q} f) ⊢ iprop((((m.view.loc (c.tc : Thread nD τ)) ↦{q} f) -∗ runs c 𝒱 (k (wd i (m.view.read (Elt F) f))) Φ)
      -∗ runs c 𝒱 (smemLoad m (Rect.unit (s := S36) (k0_off1 i) S1.size h) numel1_S1 rfl >>= k) Φ) :=
  wp_smemLoadElt (Ix := Unit) (Val := Elt F) (Name := ℕ) (U := UR sig nD τ) (Lvl := ℕ) (defs := defs₀ (F := F)) (m := m)
    (r := Rect.unit (s := S36) (k0_off1 i) S1.size h) (hw := View.loads_smem_one rfl numel1_S1) (x := Shape.Idx.first (numel1_S1.symm ▸ Nat.one_pos)) (k := k) (S := Finset.univ) (f := f)
    𝒱 (c.tc : Thread nD τ) none Set.univ (Finset.subset_univ _)

/-- The five tables held, each at a share. -/
def heldT (q : Fin 5 → PosShare TreeShare) (T : pre0.Contents (Elt F)) : sProp 𝕄 :=
  iprop((((c.tc : Thread nD τ).loc main_c) ↦{q 0} T 0) ∗ (((c.tc : Thread nD τ).loc main_c_0) ↦{q 1} T 1) ∗ (((c.tc : Thread nD τ).loc main_c_1) ↦{q 2} T 2)
    ∗ (((c.tc : Thread nD τ).loc main_c_2) ↦{q 3} T 3) ∗ (((c.tc : Thread nD τ).loc main_c_3) ↦{q 4} T 4))

/-- The body at one grid point. -/
theorem wp_body (i : grid0.Coords) (q : Fin 5 → PosShare TreeShare) (T : pre0.Contents (Elt F)) (Q K V : S512x1024.Idx → Elt F .bf16) (st : St F)
    (Y : S512x2048.Idx → Elt F .f32) (Φ : PUnit → sProp 𝕄) :
    iprop(heldT c q T ∗ heldIn c a8 a9 a10 Q K V ∗ heldAt c a11 fullShare Y ∗ heldSt c a12 a13 a14 st)
    ⊢ iprop((iprop(heldT c q T ∗ heldIn c a8 a9 a10 Q K V
          ∗ heldAt c a11 fullShare (pointY i (T 3) (pointS i (T 0) (T 1) (T 2) (T 4) Q K V st) Y)
          ∗ heldSt c a12 a13 a14 (pointS i (T 0) (T 1) (T 2) (T 4) Q K V st)) -∗ Φ ⟨⟩)
      -∗ runs c 𝒱 (bodyP i (Memref.whole main_c) (Memref.whole main_c_0) (Memref.whole main_c_1) (Memref.whole main_c_2) (Memref.whole main_c_3)
        a8 a9 a10 a11 a12 a13 a14) Φ) := by
  unfold bodyP heldT
  dsimp only
  iintro ⟨⟨H0, H1, H2, H3, H4⟩, HI, HY, Hs⟩ Hk
  iapply (wp_word c 𝒱 (Memref.whole main_c) i (q 0) (T 0)) $$ H0
  iintro H0
  iapply (wp_word c 𝒱 (Memref.whole main_c_0) i (q 1) (T 1)) $$ H1
  iintro H1
  iapply (wp_word c 𝒱 (Memref.whole main_c_1) i (q 2) (T 2)) $$ H2
  iintro H2
  iapply (wp_init_if c 𝒱 a12 a13 a14 _ st _) $$ Hs
  iintro Hs
  iapply (wp_word c 𝒱 (Memref.whole main_c_3) i (q 4) (T 4)) $$ H4
  iintro H4
  iapply (wp_step_if c 𝒱 a8 a9 a10 a12 a13 a14 _ _ _ Q K V _ _) $$ [HI Hs]
  · isplitl [HI]
    · iexact HI
    iexact Hs
  iintro ⟨HI, Hs⟩
  iapply (wp_word c 𝒱 (Memref.whole main_c_3) i (q 4) (T 4)) $$ H4
  iintro H4
  iapply (wp_step_if c 𝒱 a8 a9 a10 a12 a13 a14 _ _ _ Q K V _ _) $$ [HI Hs]
  · isplitl [HI]
    · iexact HI
    iexact Hs
  iintro ⟨HI, Hs⟩
  iapply (wp_word c 𝒱 (Memref.whole main_c_2) i (q 3) (T 3)) $$ H3
  iintro H3
  iapply (wp_last_if c 𝒱 a11 a12 a13 a14 _ _ Y _) $$ [HY Hs]
  · isplitl [HY]
    · iexact HY
    iexact Hs
  iintro ⟨HY, Hs⟩
  iapply (wp_pure c 𝒱 Φ)
  iapply Hk
  isplitl [H0 H1 H2 H3 H4]
  · isplitl [H0]
    · iexact H0
    isplitl [H1]
    · iexact H1
    isplitl [H2]
    · iexact H2
    isplitl [H3]
    · iexact H3
    iexact H4
  isplitl [HI]
  · iexact HI
  isplitl [HY]
  · iexact HY
  iexact Hs

end Cert.KernelIdeal.Att
end
-- ==== Proof.Sched.lean ====
/- The tables' words at every grid point: which tiles a point visits, where it begins and where it ends a row of tiles. -/
module

public import proofs.«01_k».proof.Proof.Body

@[expose] public section

set_option maxRecDepth 16384

noncomputable section

namespace Cert.KernelIdeal.Att

open Idealize.ShloMosaic Idealize.ShloMosaic.TcCoe
open Cert.KernelIdeal Facts₀ Facts

variable {F : FTy → Type} [FloatOps F] [Named F]

/-- The tile of queries, the tile of keys, and whether the point begins or ends its tile of queries. -/
def qn (j : Fin 36) : ℕ := (lit0 j).toNat
@[inherit_doc qn] def kn (j : Fin 36) : ℕ := (lit1 j).toNat

theorem qn_lt : ∀ j, qn j < 8 := by decide +kernel
theorem kn_lt : ∀ j, kn j < 8 := by decide +kernel
theorem kn_le : ∀ j, kn j ≤ qn j := by decide +kernel
theorem lit0_eq : ∀ j, lit0 j = BitVec.ofNat 32 (qn j) := by decide +kernel
theorem lit1_eq : ∀ j, lit1 j = BitVec.ofNat 32 (kn j) := by decide +kernel
theorem first_iff : ∀ j, isOne (lit2 j) = 1#1 ↔ kn j = 0 := by decide +kernel
theorem last_iff : ∀ j, k0_cond4 (lit3 j) = 1#1 ↔ kn j = qn j := by decide +kernel
theorem diag_iff : ∀ j, isOne (lit4 j) = 1#1 ↔ kn j = qn j := by decide +kernel
theorem below_iff : ∀ j, isZero (lit4 j) = 1#1 ↔ kn j ≠ qn j := by decide +kernel
/-- After a point that does not end its tile of queries the next point takes the next tile of keys. -/
theorem next_of_lt : ∀ j : Fin 36, kn j ≠ qn j → ∃ h : j.val + 1 < 36, qn ⟨j.val + 1, h⟩ = qn j ∧ kn ⟨j.val + 1, h⟩ = kn j + 1 := by decide +kernel
/-- After one that does, the next begins the next tile of queries. -/
theorem next_of_eq : ∀ j : Fin 36, kn j = qn j → ∀ h : j.val + 1 < 36, qn ⟨j.val + 1, h⟩ = qn j + 1 ∧ kn ⟨j.val + 1, h⟩ = 0 := by decide +kernel
theorem point_zero : qn 0 = 0 ∧ kn 0 = 0 := by decide +kernel
theorem point_last : qn 35 = 7 ∧ kn 35 = 7 := by decide +kernel

/-- A table's contents from its list of words. -/
abbrev tabOf (L : Fin 36 → BitVec 32) : S36.Idx → BitVec 32 := fun x => L (S36.rowMajor x)

set_option backward.proofsInPublic true in
/-- The tables' contents. -/
def pf : pre0.Contents (Elt F) := fun
  | ⟨0, _⟩ => tabOf lit0 | ⟨1, _⟩ => tabOf lit1 | ⟨2, _⟩ => tabOf lit2 | ⟨3, _⟩ => tabOf lit3 | ⟨4, _⟩ => tabOf lit4
  | ⟨_ + 5, h⟩ => absurd h (Nat.not_lt.2 (Nat.le_add_left _ _))

theorem off_val : ∀ i : Fin 36, (Scalar.indexCast (BitVec.ofNat 32 i.val) : BitVec 32).toNat = i.val := by decide +kernel
theorem rowMajor_val : ∀ x : S36.Idx, (S36.rowMajor x).val = (x 0).val := by decide +kernel

/-- The word a point reads of a table. -/
theorem wd_lit (i : grid0.Coords) (L : Fin 36 → BitVec 32) : wd i (tabOf L) = L (i 2) := by
  refine congrArg L (Fin.ext ?_)
  refine (rowMajor_val _).trans ?_
  refine Eq.trans ?_ (off_val (i 2))
  show (Scalar.indexCast (BitVec.ofNat 32 (i 2).val) : BitVec 32).toNat + 1 * 0 = _
  omega

theorem blk_row : ∀ (b : Fin 2) (q : Fin 8), (Scalar.addi (Scalar.muli (BitVec.ofNat 32 b.val) 8#32) (BitVec.ofNat 32 q.val)).toNat = 8 * b.val + q.val := by
  decide +kernel

theorem row_of (i : grid0.Coords) (L : Fin 36 → BitVec 32) (n : Fin 36 → ℕ) (hn : ∀ j, n j < 8) (hL : ∀ j, L j = BitVec.ofNat 32 (n j)) :
    (Scalar.addi (Scalar.muli (BitVec.ofNat 32 (i 0).val) 8#32) (wd i (tabOf L))).toNat = 8 * (i 0).val + n (i 2) := by
  have e : wd i (tabOf L) = BitVec.ofNat 32 (n (i 2)) := (wd_lit i L).trans (hL _)
  rw [e]
  exact blk_row (i 0) ⟨n (i 2), hn _⟩

theorem ix_q (i : grid0.Coords) : cc0_transform_0 (F := F) k0_off1_inb numel1_S1 pf i = ![8 * (i 0).val + qn (i 2), 0] := by
  have h := row_of i lit0 qn qn_lt lit0_eq
  have h1 : (Scalar.addi 0#32 (BitVec.ofNat 32 (i 1).val)).toNat = 0 := by
    have : ∀ b : Fin 1, (Scalar.addi 0#32 (BitVec.ofNat 32 b.val)).toNat = 0 := by decide +kernel
    exact this (i 1)
  exact congrArg₂ (fun x y => (![x, y] : Fin 2 → ℕ)) h h1
theorem ix_k (i : grid0.Coords) : cc0_transform_1 (F := F) k0_off1_inb numel1_S1 pf i = ![8 * (i 0).val + kn (i 2), 1] := by
  have h := row_of i lit1 kn kn_lt lit1_eq
  have h1 : (Scalar.addi 1#32 (BitVec.ofNat 32 (i 1).val)).toNat = 1 := by
    have : ∀ b : Fin 1, (Scalar.addi 1#32 (BitVec.ofNat 32 b.val)).toNat = 1 := by decide +kernel
    exact this (i 1)
  exact congrArg₂ (fun x y => (![x, y] : Fin 2 → ℕ)) h h1
theorem ix_v (i : grid0.Coords) : cc0_transform_2 (F := F) k0_off1_inb numel1_S1 pf i = ![8 * (i 0).val + kn (i 2), 0] := by
  have h := row_of i lit1 kn kn_lt lit1_eq
  have h1 : (Scalar.addi 0#32 (BitVec.ofNat 32 (i 1).val)).toNat = 0 := by
    have : ∀ b : Fin 1, (Scalar.addi 0#32 (BitVec.ofNat 32 b.val)).toNat = 0 := by decide +kernel
    exact this (i 1)
  exact congrArg₂ (fun x y => (![x, y] : Fin 2 → ℕ)) h h1
theorem ix_o (i : grid0.Coords) : cc0_transform_3 (F := F) k0_off1_inb numel1_S1 pf i = ![8 * (i 0).val + qn (i 2), 0] := by
  have h := row_of i lit0 qn qn_lt lit0_eq
  have h1 : (BitVec.ofNat 32 (i 1).val).toNat = 0 := by
    have : ∀ b : Fin 1, (BitVec.ofNat 32 b.val).toNat = 0 := by decide +kernel
    exact this (i 1)
  exact congrArg₂ (fun x y => (![x, y] : Fin 2 → ℕ)) h h1

theorem ok_qk : ∀ (r : Fin 16) (c : Fin 2), ∃ h : (∀ a, ((![r.val, c.val] : Fin 2 → ℕ) a + 1) * S512x1024.size a ≤ S8192x2048.size a),
    EltTy.bits .bf16 = 32 ∨ (Rect.block (s := S8192x2048) S512x1024.size ![r.val, c.val] h).WholeWords (EltTy.packing .bf16) := by decide +kernel
theorem ok_v : ∀ (r : Fin 16), ∃ h : (∀ a, ((![r.val, 0] : Fin 2 → ℕ) a + 1) * S512x1024.size a ≤ S8192x1024.size a),
    EltTy.bits .bf16 = 32 ∨ (Rect.block (s := S8192x1024) S512x1024.size ![r.val, 0] h).WholeWords (EltTy.packing .bf16) := by decide +kernel
theorem ok_o : ∀ (r : Fin 16), ∃ h : (∀ a, ((![r.val, 0] : Fin 2 → ℕ) a + 1) * S512x2048.size a ≤ S8192x2048.size a),
    EltTy.bits .f32 = 32 ∨ (Rect.block (s := S8192x2048) S512x2048.size ![r.val, 0] h).WholeWords (EltTy.packing .f32) := by decide +kernel

theorem row_lt (i : grid0.Coords) (n : ℕ) (h : n < 8) : 8 * (i 0).val + n < 16 := by
  have : (i 0).val < 2 := (i 0).isLt
  omega

/-- The blocks the tables name lie in their arrays. -/
theorem okT : ok0 (F := F) pf := by
  refine ⟨fun i => ?_, fun i => ?_, fun i => ?_, fun i => ?_⟩
  · rw [ix_q]; exact ok_qk ⟨_, row_lt i _ (qn_lt _)⟩ 0
  · rw [ix_k]; exact ok_qk ⟨_, row_lt i _ (kn_lt _)⟩ 1
  · rw [ix_v]; exact ok_v ⟨_, row_lt i _ (kn_lt _)⟩
  · rw [ix_o]; exact ok_o ⟨_, row_lt i _ (qn_lt _)⟩

/-- The tables as the pipeline takes them. -/
def adm : (pcfg0 (F := F)).Adm := ⟨pf, okT⟩

/-- Every pipeline's tables. -/
def adms : (p : Fin 1) → (pcfgs (F := F) p).Adm := fun _ => adm

end Cert.KernelIdeal.Att
end
-- ==== Proof.Frame.lean ====
/- The pipeline's run: what every point leaves, the body's obligation, and the whole program's frame. -/
module

public import proofs.«01_k».proof.Proof.Sched
public import Idealize.ShloMosaic.Lib.Pipeline.FrameBody

@[expose] public section

set_option maxRecDepth 16384

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.KernelIdeal Facts₀ Facts

variable {F : FTy → Type} [FloatOps F] [Named F]

local notation "𝕄" => MT nD τ sig Unit (Elt F) ℕ (UR sig nD τ) ℕ

/-- The pipeline at its tables. -/
abbrev cfgT : Cfg sig Λ₀ := pin (pcfgs (F := F)) adms 0

/-- The arrays as the host operations leave them. -/
def V (m : (ℓ : Loc nD τ sig) → Buf (Elt F) ℓ) (c : Dev nD) (b : Ref sig .tc) : Buf (Elt F) ((c.tc : Thread nD τ).loc b) :=
  StableHlo.after Gen.hostOps0 (fun b => m (c, b)) b

variable (m : (ℓ : Loc nD τ sig) → Buf (Elt F) ℓ) (c : Dev nD)

/-- The blocks a point reads. -/
def blkQ (t : Fin grid0.N) : S512x1024.Idx → Elt F .bf16 := (((cfgT (F := F)).win 0).blk t).view.read (Elt F) (V m c main_v3)
@[inherit_doc blkQ] def blkK (t : Fin grid0.N) : S512x1024.Idx → Elt F .bf16 := (((cfgT (F := F)).win 1).blk t).view.read (Elt F) (V m c main_v3)
@[inherit_doc blkQ] def blkV (t : Fin grid0.N) : S512x1024.Idx → Elt F .bf16 := (((cfgT (F := F)).win 2).blk t).view.read (Elt F) (V m c main_v5)

/-- The running arrays after a point that found `st`. -/
def stepAt (t : Fin grid0.N) (st : St F) : St F :=
  pointS (grid0.coords t) (tabOf lit0) (tabOf lit1) (tabOf lit2) (tabOf lit4) (blkQ m c t) (blkK m c t) (blkV m c t) st

/-- The running arrays before each point. -/
def traj : ℕ → St F
  | 0 => initS
  | n + 1 => if h : n < grid0.N then stepAt m c ⟨n, h⟩ (traj n) else traj n

/-- The output block where it is written. -/
def outBlk (t : Fin grid0.N) : S512x2048.Idx → Elt F .f32 := lastS (traj m c (t.val + 1)) (fun _ => Scalar.ofBits .f32 0x00000000#32)

/-- The pipeline's data. -/
def dat : Dat τ (Elt F) Unit ℕ (UR sig nD τ) ℕ (cfgT (F := F)) c where
  A := fun w => V m c (arrRef (cfgT (F := F)).spec w)
  after := fun
    | 0 => blkQ m c
    | 1 => blkK m c
    | 2 => blkV m c
    | 3 => outBlk m c
    | ⟨_ + 4, h⟩ => absurd h (Nat.not_lt.2 (Nat.le_add_left _ _))
  Φ := fun t => iprop(heldT c (fun _ => fullShare.right) pf ∗ (∃ r, prngReg c r)
    ∗ ∃ st : St F, ⌜0 < t.val → st = traj m c t.val⌝ ∗ heldSt c (Memref.whole cc0_scratch0) (Memref.whole cc0_scratch1) (Memref.whole cc0_scratch2) st)
  q := fun w => shareOf (cfgT (F := F)).spec w
  owed := fun _ => 0

/-! ## The schedule -/

theorem coord_two (t : Fin grid0.N) : ((grid0.coords t 2 : Fin 36) : ℕ) = t.val % 36 := by
  have : ∀ t : Fin grid0.N, ((grid0.coords t 2 : Fin 36) : ℕ) = t.val % 36 := by decide +kernel
  exact this t
theorem coord_zero (t : Fin grid0.N) : ((grid0.coords t 0 : Fin 2) : ℕ) = t.val / 36 := by
  have : ∀ t : Fin grid0.N, ((grid0.coords t 0 : Fin 2) : ℕ) = t.val / 36 := by decide +kernel
  exact this t

/-- The output's block index at a point. -/
def oix (t : Fin grid0.N) : Fin 2 → ℕ := ![8 * ((grid0.coords t 0 : Fin 2) : ℕ) + qn (grid0.coords t 2), 0]

theorem index_o (t : Fin grid0.N) : ((cfgT (F := F)).win 3).index t = oix t := ix_o (grid0.coords t)

theorem flush_oix : ∀ t : Fin grid0.N, ((t.val + 1 = grid0.N : Bool) || decide (∃ h : t.val + 1 < grid0.N, oix ⟨t.val + 1, h⟩ ≠ oix t))
    = decide (kn (grid0.coords t 2) = qn (grid0.coords t 2)) := by decide +kernel

/-- The output is written back exactly where a point ends its tile of queries. -/
theorem flush_o (t : Fin grid0.N) : ((cfgT (F := F)).win 3).flush t = decide (kn (grid0.coords t 2) = qn (grid0.coords t 2)) := by
  rw [← flush_oix]
  have e : (((cfgT (F := F)).win 3).index : Fin grid0.N → Fin 2 → ℕ) = oix := funext index_o
  have gen : ∀ f : Fin grid0.N → Fin 2 → ℕ, f = oix →
      (true && ((t.val + 1 = grid0.N : Bool) || decide (∃ h : t.val + 1 < grid0.N, f ⟨t.val + 1, h⟩ ≠ f t)))
        = ((t.val + 1 = grid0.N : Bool) || decide (∃ h : t.val + 1 < grid0.N, oix ⟨t.val + 1, h⟩ ≠ oix t)) := by
    rintro f rfl; rfl
  exact gen _ e

theorem idle_o (t : Fin grid0.N) : (cfgT (F := F)).idle 3 (grid0.coords t) = !decide (kn (grid0.coords t 2) = qn (grid0.coords t 2)) := by
  have hb : ∀ a, (k0_off4 (grid0.coords t)) a + 1 ≤ S36.size a := fun | 0 => k0_off4_inb (grid0.coords t) 0
  have e : (pf (F := F)).atD 3 (k0_off4 (grid0.coords t)) = lit3 (grid0.coords t 2) := by
    refine (dif_pos hb).trans ?_
    exact wd_lit (grid0.coords t) lit3
  show (!(k0_cond4 ((pf (F := F)).atD 3 (k0_off4 (grid0.coords t))) == 1#1)) = _
  rw [e]
  by_cases h : kn (grid0.coords t 2) = qn (grid0.coords t 2)
  · rw [(last_iff _).2 h, decide_eq_true h]; rfl
  · have : k0_cond4 (lit3 (grid0.coords t 2)) ≠ 1#1 := fun hh => h ((last_iff _).1 hh)
    rw [decide_eq_false h, beq_eq_false_iff_ne.2 this]

/-! ## The output block does not depend on what it held -/

theorem put_at {α : Type} {s : Shape} (x : s.Idx → α) (off size : Fin s.rank → ℕ) (w : ((a : Fin s.rank) → Fin (size a)) → α) (i : s.Idx)
    (h : ∀ a, off a ≤ (i a).val ∧ (i a).val < off a + size a) :
    VecWindow.put x off size w i = w (Rect.unitLocal (s := s) (off := off) (size := size) i h) := dif_pos h
theorem put_off {α : Type} {s : Shape} (x : s.Idx → α) (off size : Fin s.rank → ℕ) (w : ((a : Fin s.rank) → Fin (size a)) → α) (i : s.Idx)
    (h : ¬ ∀ a, off a ≤ (i a).val ∧ (i a).val < off a + size a) :
    VecWindow.put x off size w i = x i := dif_neg h

theorem inO (g : ℕ) (i : S512x2048.Idx) : (∀ a, (![0, 256 * g] : Fin 2 → ℕ) a ≤ (i a).val ∧ (i a).val < (![0, 256 * g] : Fin 2 → ℕ) a + S512x256.size a)
    ↔ (i 1).val / 256 = g := by
  constructor
  · intro h
    have h1 : 256 * g ≤ (i 1).val ∧ (i 1).val < 256 * g + 256 := h 1
    omega
  · intro h
    have h0 : (i 0).val < 512 := (i 0).isLt
    exact fun
      | 0 => show 0 ≤ (i 0).val ∧ (i 0).val < 0 + 512 by omega
      | 1 => show 256 * g ≤ (i 1).val ∧ (i 1).val < 256 * g + 256 by omega

/-- One head's result, by itself. -/
def quotS (st : St F) (g : ℕ) (hg : g < 8) : FVec F S512x256 .f32 :=
  quot (VecWindow.window st.a ![g, 0, 0] S1x512x256.size (inbFA g hg)) (VecWindow.window st.l ![g, 0, 0] S1x512x128.size (inbFM g hg))

theorem outS_at (g : ℕ) (hg : g < 8) (st : St F) (Y : S512x2048.Idx → Elt F .f32) (i : S512x2048.Idx) (h : (i 1).val / 256 = g) :
    outS g hg st Y i = quotS st g hg (Rect.unitLocal (s := S512x2048) (off := ![0, 256 * g]) (size := S512x256.size) i ((inO g i).2 h)) := put_at _ _ _ _ _ _
theorem outS_off (g : ℕ) (hg : g < 8) (st : St F) (Y : S512x2048.Idx → Elt F .f32) (i : S512x2048.Idx) (h : (i 1).val / 256 ≠ g) :
    outS g hg st Y i = Y i := put_off _ _ _ _ _ (fun hh => h ((inO g i).1 hh))

/-- An element of the output block. -/
theorem lastS_at (st : St F) (Y : S512x2048.Idx → Elt F .f32) (i : S512x2048.Idx) (g : ℕ) (hg : g < 8) (h : (i 1).val / 256 = g) :
    lastS st Y i = quotS st g hg (Rect.unitLocal (s := S512x2048) (off := ![0, 256 * g]) (size := S512x256.size) i ((inO g i).2 h)) := by
  unfold lastS
  have hne : ∀ n, n ≠ g → (i 1).val / 256 ≠ n := fun n hn hh => hn (hh.symm.trans h)
  by_cases h7 : g = 7
  · subst h7; exact outS_at 7 _ st _ i h
  rw [outS_off 7 _ st _ i (hne 7 (Ne.symm h7))]
  by_cases h6 : g = 6
  · subst h6; exact outS_at 6 _ st _ i h
  rw [outS_off 6 _ st _ i (hne 6 (Ne.symm h6))]
  by_cases h5 : g = 5
  · subst h5; exact outS_at 5 _ st _ i h
  rw [outS_off 5 _ st _ i (hne 5 (Ne.symm h5))]
  by_cases h4 : g = 4
  · subst h4; exact outS_at 4 _ st _ i h
  rw [outS_off 4 _ st _ i (hne 4 (Ne.symm h4))]
  by_cases h3 : g = 3
  · subst h3; exact outS_at 3 _ st _ i h
  rw [outS_off 3 _ st _ i (hne 3 (Ne.symm h3))]
  by_cases h2 : g = 2
  · subst h2; exact outS_at 2 _ st _ i h
  rw [outS_off 2 _ st _ i (hne 2 (Ne.symm h2))]
  by_cases h1 : g = 1
  · subst h1; exact outS_at 1 _ st _ i h
  rw [outS_off 1 _ st _ i (hne 1 (Ne.symm h1))]
  have h0 : g = 0 := by omega
  subst h0; exact outS_at 0 _ st _ i h

theorem lastS_any (st : St F) (Y Y' : S512x2048.Idx → Elt F .f32) : lastS st Y = lastS st Y' := by
  funext i
  have hi : (i 1).val < 2048 := (i 1).isLt
  have hg : (i 1).val / 256 < 8 := by omega
  rw [lastS_at st Y i _ hg rfl, lastS_at st Y' i _ hg rfl]

/-! ## The body's obligation -/

theorem before_q (t : Fin grid0.N) (d) : (dat m c).before 0 t d = blkQ m c t :=
  (dat m c).before_in_eq_fetched 0 rfl (fun _ => rfl) (fun _ _ _ => rfl) (fun _ => rfl) t d
theorem before_k (t : Fin grid0.N) (d) : (dat m c).before 1 t d = blkK m c t :=
  (dat m c).before_in_eq_fetched 1 rfl (fun _ => rfl) (fun _ _ _ => rfl) (fun _ => rfl) t d
theorem before_v (t : Fin grid0.N) (d) : (dat m c).before 2 t d = blkV m c t :=
  (dat m c).before_in_eq_fetched 2 rfl (fun _ => rfl) (fun _ _ _ => rfl) (fun _ => rfl) t d

theorem first_zero (t : Fin grid0.N) (h : t.val = 0) (Q K Vv : S512x1024.Idx → Elt F .bf16) (st st' : St F) :
    pointS (grid0.coords t) (tabOf lit0) (tabOf lit1) (tabOf lit2) (tabOf lit4) Q K Vv st
      = pointS (grid0.coords t) (tabOf lit0) (tabOf lit1) (tabOf lit2) (tabOf lit4) Q K Vv st' := by
  have h1 : isOne (wd (grid0.coords t) (tabOf lit2)) = 1#1 := by
    rw [wd_lit]
    have e : ∀ t : Fin grid0.N, t.val = 0 → isOne (lit2 (grid0.coords t 2)) = 1#1 := by decide +kernel
    exact e t h
  unfold pointS
  simp only [if_pos h1]

theorem stepAt_traj (t : Fin grid0.N) (st : St F) (h : 0 < t.val → st = traj m c t.val) :
    stepAt m c t st = traj m c (t.val + 1) := by
  have e : traj m c (t.val + 1) = stepAt m c t (traj m c t.val) := by
    show (if h : t.val < grid0.N then stepAt m c ⟨t.val, h⟩ (traj m c t.val) else traj m c t.val) = _
    rw [dif_pos t.isLt]
  rw [e]
  rcases Nat.eq_zero_or_pos t.val with h0 | h0
  · exact first_zero t h0 _ _ _ _ _
  · rw [h h0]

theorem pointY_eq (t : Fin grid0.N) (st : St F) (Y : S512x2048.Idx → Elt F .f32) :
    pointY (grid0.coords t) (tabOf lit3) st Y = if kn (grid0.coords t 2) = qn (grid0.coords t 2) then lastS st Y else Y := by
  unfold pointY
  rw [wd_lit]
  by_cases h : kn (grid0.coords t 2) = qn (grid0.coords t 2)
  · rw [if_pos h, if_pos ((last_iff _).2 h)]
  · rw [if_neg h, if_neg (fun hh => h ((last_iff _).1 hh))]

/-- The invariant written out. -/
theorem phi_eq (t : Fin (grid0.N + 1)) : (dat m c).Φ t = iprop(heldT c (fun _ => fullShare.right) pf ∗ (∃ r, prngReg c r)
    ∗ ∃ st : St F, ⌜0 < t.val → st = traj m c t.val⌝ ∗ heldSt c (Memref.whole cc0_scratch0) (Memref.whole cc0_scratch1) (Memref.whole cc0_scratch2) st) := rfl

theorem owns_held {s : Shape} {e : EltTy} (mm : Memref sig .tc .vmem s e) (X Y : s.Idx → Elt F e) (h : X = Y) :
    (owns (c.tc : Thread nD τ) mm fullShare X : sProp 𝕄) ⊢ heldAt c mm fullShare Y := by
  subst h; rw [owns_eq_rep]
theorem held_owns {s : Shape} {e : EltTy} (mm : Memref sig .tc .vmem s e) (X Y : s.Idx → Elt F e) (h : X = Y) :
    heldAt c mm fullShare X ⊢ (owns (c.tc : Thread nD τ) mm fullShare Y : sProp 𝕄) := by
  subst h; rw [owns_eq_rep]
/-- The staging buffers of a point, as memrefs. -/
abbrev stq (t : Fin grid0.N) : Memref sig .tc .vmem S512x1024 .bf16 := stage0_0 ((cfgT (F := F)).slots t 0)
@[inherit_doc stq] abbrev stk (t : Fin grid0.N) : Memref sig .tc .vmem S512x1024 .bf16 := stage0_1 ((cfgT (F := F)).slots t 1)
@[inherit_doc stq] abbrev stv (t : Fin grid0.N) : Memref sig .tc .vmem S512x1024 .bf16 := stage0_2 ((cfgT (F := F)).slots t 2)
@[inherit_doc stq] abbrev sto (t : Fin grid0.N) : Memref sig .tc .vmem S512x2048 .f32 := stage0_3 ((cfgT (F := F)).slots t 3)

/-- What a point is handed of a window and what it hands back. -/
def giv_q (t : Fin grid0.N) : sProp 𝕄 := iprop(∃ d, owns (c.tc : Thread nD τ) (((cfgT (F := F)).win 0).stage ((cfgT (F := F)).slots t 0)) fullShare ((dat m c).before 0 t d))
@[inherit_doc giv_q] def ret_q (t : Fin grid0.N) : sProp 𝕄 := owns (c.tc : Thread nD τ) (((cfgT (F := F)).win 0).stage ((cfgT (F := F)).slots t 0)) fullShare ((dat m c).after 0 t)
theorem open_q (t : Fin grid0.N) : giv_q m c t ⊢ heldAt c (stq (F := F) t) fullShare (blkQ m c t) := by
  unfold giv_q
  exact exists_elim fun d => owns_held c (stq (F := F) t) _ _ (before_q m c t d)
theorem close_q (t : Fin grid0.N) : heldAt c (stq (F := F) t) fullShare (blkQ m c t) ⊢ ret_q m c t :=
  held_owns c (stq (F := F) t) _ _ rfl
/-- What a point is handed of a window and what it hands back. -/
def giv_k (t : Fin grid0.N) : sProp 𝕄 := iprop(∃ d, owns (c.tc : Thread nD τ) (((cfgT (F := F)).win 1).stage ((cfgT (F := F)).slots t 1)) fullShare ((dat m c).before 1 t d))
@[inherit_doc giv_k] def ret_k (t : Fin grid0.N) : sProp 𝕄 := owns (c.tc : Thread nD τ) (((cfgT (F := F)).win 1).stage ((cfgT (F := F)).slots t 1)) fullShare ((dat m c).after 1 t)
theorem open_k (t : Fin grid0.N) : giv_k m c t ⊢ heldAt c (stk (F := F) t) fullShare (blkK m c t) := by
  unfold giv_k
  exact exists_elim fun d => owns_held c (stk (F := F) t) _ _ (before_k m c t d)
theorem close_k (t : Fin grid0.N) : heldAt c (stk (F := F) t) fullShare (blkK m c t) ⊢ ret_k m c t :=
  held_owns c (stk (F := F) t) _ _ rfl
/-- What a point is handed of a window and what it hands back. -/
def giv_v (t : Fin grid0.N) : sProp 𝕄 := iprop(∃ d, owns (c.tc : Thread nD τ) (((cfgT (F := F)).win 2).stage ((cfgT (F := F)).slots t 2)) fullShare ((dat m c).before 2 t d))
@[inherit_doc giv_v] def ret_v (t : Fin grid0.N) : sProp 𝕄 := owns (c.tc : Thread nD τ) (((cfgT (F := F)).win 2).stage ((cfgT (F := F)).slots t 2)) fullShare ((dat m c).after 2 t)
theorem open_v (t : Fin grid0.N) : giv_v m c t ⊢ heldAt c (stv (F := F) t) fullShare (blkV m c t) := by
  unfold giv_v
  exact exists_elim fun d => owns_held c (stv (F := F) t) _ _ (before_v m c t d)
theorem close_v (t : Fin grid0.N) : heldAt c (stv (F := F) t) fullShare (blkV m c t) ⊢ ret_v m c t :=
  held_owns c (stv (F := F) t) _ _ rfl
/-- The output block as a point finds it. -/
def foundO (t : Fin grid0.N) (d : S512x2048.Idx → Elt F .f32) : S512x2048.Idx → Elt F .f32 := (dat m c).before 3 t d
/-- What a point is handed of the output's window and what it hands back. -/
def giv_o (t : Fin grid0.N) : sProp 𝕄 := iprop(∃ d, owns (c.tc : Thread nD τ) (sto (F := F) t) fullShare (foundO m c t d))
@[inherit_doc giv_o] def ret_o (t : Fin grid0.N) : sProp 𝕄 :=
  match (cfgT (F := F)).idle 3 (grid0.coords t) with
  | true => match ((cfgT (F := F)).win 3).flush t with
    | false => giv_o m c t
    | true => owns (c.tc : Thread nD τ) (sto (F := F) t) fullShare (outBlk m c t)
  | false => owns (c.tc : Thread nD τ) (sto (F := F) t) fullShare (outBlk m c t)
theorem open_o (t : Fin grid0.N) : giv_o m c t ⊢ iprop(∃ d, heldAt c (sto (F := F) t) fullShare (foundO m c t d)) := by
  unfold giv_o
  iintro ⟨%d, H⟩
  iexists d
  iapply (owns_held c (sto (F := F) t) _ _ rfl) $$ H
theorem close_o (t : Fin grid0.N) (d) : heldAt c (sto (F := F) t) fullShare (pointY (grid0.coords t) (tabOf lit3) (traj m c (t.val + 1)) (foundO m c t d)) ⊢ ret_o m c t := by
  unfold ret_o
  rw [idle_o, flush_o, pointY_eq]
  by_cases h : kn (grid0.coords t 2) = qn (grid0.coords t 2)
  · rw [if_pos h, decide_eq_true h]
    exact held_owns c (sto (F := F) t) _ _ (lastS_any _ _ _)
  · rw [if_neg h, decide_eq_false h]
    exact (held_owns c (sto (F := F) t) _ _ rfl).trans (exists_intro (Φ := fun d => (owns (c.tc : Thread nD τ) (sto (F := F) t) fullShare (foundO m c t d) : sProp 𝕄)) d)

/-- The invariant between points. -/
def phi (n : ℕ) : sProp 𝕄 := iprop(heldT c (fun _ => fullShare.right) (pf (F := F)) ∗ (∃ r, prngReg c r)
    ∗ ∃ st : St F, ⌜0 < n → st = traj m c n⌝ ∗ heldSt c (Memref.whole cc0_scratch0) (Memref.whole cc0_scratch1) (Memref.whole cc0_scratch2) st)

theorem body_run (𝒱 : Variants) (t : Fin grid0.N) (O : sProp 𝕄) :
    iprop(phi m c t.val ∗ O ∗ giv_q m c t ∗ giv_k m c t ∗ giv_v m c t ∗ giv_o m c t)
    ⊢ runs c 𝒱 (bodyP (grid0.coords t) (Memref.whole main_c) (Memref.whole main_c_0) (Memref.whole main_c_1) (Memref.whole main_c_2) (Memref.whole main_c_3)
        (stq (F := F) t) (stk (F := F) t) (stv (F := F) t) (sto (F := F) t) (Memref.whole cc0_scratch0) (Memref.whole cc0_scratch1) (Memref.whole cc0_scratch2))
      fun _ => iprop(phi m c (t.val + 1) ∗ O ∗ ret_q m c t ∗ ret_k m c t ∗ ret_v m c t ∗ ret_o m c t) := by
  unfold phi
  iintro ⟨⟨HT, Hp, %st, %hst, Hs⟩, Ho, H0, H1, H2, H3⟩
  ihave H0 := (open_q m c t) $$ H0
  ihave H1 := (open_k m c t) $$ H1
  ihave H2 := (open_v m c t) $$ H2
  ihave H3 := (open_o m c t) $$ H3
  icases H3 with ⟨%d3, H3⟩
  iapply (wp_body c 𝒱 (stq (F := F) t) (stk (F := F) t) (stv (F := F) t) (sto (F := F) t)
    (Memref.whole cc0_scratch0) (Memref.whole cc0_scratch1) (Memref.whole cc0_scratch2)
    (grid0.coords t) (fun _ => fullShare.right) pf (blkQ m c t) (blkK m c t) (blkV m c t) st (foundO m c t d3)) $$ [HT H0 H1 H2 H3 Hs]
  · isplitl [HT]
    · iexact HT
    isplitl [H0 H1 H2]
    · isplitl [H0]
      · iexact H0
      isplitl [H1]
      · iexact H1
      iexact H2
    isplitl [H3]
    · iexact H3
    iexact Hs
  have e : pointS (grid0.coords t) (tabOf lit0) (tabOf lit1) (tabOf lit2) (tabOf lit4) (blkQ m c t) (blkK m c t) (blkV m c t) st
      = traj m c (t.val + 1) := stepAt_traj m c t st hst
  have e' : pointS (grid0.coords t) (pf (F := F) 0) (pf (F := F) 1) (pf (F := F) 2) (pf (F := F) 4) (blkQ m c t) (blkK m c t) (blkV m c t) st
      = traj m c (t.val + 1) := e
  rw [e', show pf (F := F) 3 = tabOf lit3 from rfl]
  iintro ⟨HT, ⟨H0, H1, H2⟩, H3, Hs⟩
  isplitl [HT Hp Hs]
  · isplitl [HT]
    · iexact HT
    isplitl [Hp]
    · iexact Hp
    iexists traj m c (t.val + 1)
    isplitr
    · ipureintro
      exact fun _ => rfl
    iexact Hs
  isplitl [Ho]
  · iexact Ho
  isplitl [H0]
  · iapply (close_q m c t) $$ H0
  isplitl [H1]
  · iapply (close_k m c t) $$ H1
  isplitl [H2]
  · iapply (close_v m c t) $$ H2
  iapply (close_o m c t d3) $$ H3

theorem phi_at (t : Fin grid0.N) : (dat m c).Φ t.castSucc = phi m c t.val := rfl
theorem phi_next (t : Fin grid0.N) : (dat m c).Φ t.succ = phi m c (t.val + 1) := rfl
theorem found_q (t : Fin grid0.N) : iprop(∃ d, owns (c.tc : Thread nD τ) (((cfgT (F := F)).win 0).stage ((cfgT (F := F)).slots t 0)) fullShare ((dat m c).before 0 t d)) = giv_q m c t := rfl
theorem found_k (t : Fin grid0.N) : iprop(∃ d, owns (c.tc : Thread nD τ) (((cfgT (F := F)).win 1).stage ((cfgT (F := F)).slots t 1)) fullShare ((dat m c).before 1 t d)) = giv_k m c t := rfl
theorem found_v (t : Fin grid0.N) : iprop(∃ d, owns (c.tc : Thread nD τ) (((cfgT (F := F)).win 2).stage ((cfgT (F := F)).slots t 2)) fullShare ((dat m c).before 2 t d)) = giv_v m c t := rfl
theorem found_o (t : Fin grid0.N) : iprop(∃ d, owns (c.tc : Thread nD τ) (((cfgT (F := F)).win 3).stage ((cfgT (F := F)).slots t 3)) fullShare ((dat m c).before 3 t d)) = giv_o m c t := rfl

/-- One grid point, as the pipeline asks for it. -/
theorem body_ok (𝒱 : Variants) : BodyObligationLoose (dat m c) (defs₀ (F := F)) 𝒱 () Set.univ := by
  intro t
  rw [Gen.bigSep_W0, Gen.bigSep_W0]
  refine BIBase.Entails.trans (Q := (runs c 𝒱 (defs₀ (F := F) .tc (cfgT (F := F)).body ((cfgT (F := F)).bodyArgs t ((cfgT (F := F)).slots t)))
      fun _ => iprop(phi m c (t.val + 1) ∗ (dat m c).owesAt () t.castSucc ∗ ret_q m c t ∗ ret_k m c t ∗ ret_v m c t ∗ ret_o m c t))) ?_ (wp_mono _ _ _ fun u => ?_)
  · refine BIBase.Entails.trans ?_ (body_run m c 𝒱 t ((dat m c).owesAt () t.castSucc))
    exact BIClass.sep_mono (BIBase.Entails.of_eq (phi_at m c t)) (BIClass.sep_mono BIBase.Entails.rfl (BIClass.sep_mono (BIBase.Entails.of_eq (found_q m c t))
      (BIClass.sep_mono (BIBase.Entails.of_eq (found_k m c t)) (BIClass.sep_mono (BIBase.Entails.of_eq (found_v m c t)) (BIBase.Entails.of_eq (found_o m c t))))))
  exact BIClass.sep_mono (BIBase.Entails.of_eq (phi_next m c t).symm) (BIClass.sep_mono BIBase.Entails.rfl (BIClass.sep_mono BIBase.Entails.rfl (BIClass.sep_mono BIBase.Entails.rfl (BIClass.sep_mono BIBase.Entails.rfl BIBase.Entails.rfl))))

end Cert.KernelIdeal.Att
end
-- ==== Proof.Run.lean ====
/- The whole run: from any memory the program ends, its arguments unchanged, every counter at zero and the result at
   the pipeline's last contents of its array. -/
module

public import proofs.«01_k».proof.Proof.Frame
public import Idealize.ShloMosaic.Lib.Pipeline.BigSepL

@[expose] public section

set_option maxRecDepth 16384

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.KernelIdeal Facts₀ Facts

variable {F : FTy → Type} [FloatOps F] [Named F]

local notation "𝕄" => MT nD τ sig Unit (Elt F) ℕ (UR sig nD τ) ℕ

variable (m : (ℓ : Loc nD τ sig) → Buf (Elt F) ℓ) (c : Dev nD)

/-- The tables as the pipeline hands them. -/
theorem tables_eq : (prefHeld (Ix := Unit) (Name := ℕ) (U := UR sig nD τ) (Lvl := ℕ) pre0 c (fun _ => fullShare.right) (pf (F := F)) : sProp 𝕄)
    = heldT c (fun _ => fullShare.right) pf := by
  unfold prefHeld
  exact bigSep_univ_eq_bigSepL [(0 : Fin 5), (1 : Fin 5), (2 : Fin 5), (3 : Fin 5), (4 : Fin 5)] (by decide) (by decide) _

/-- A running array held at some contents is held at what it reads, and back. -/
theorem scr_in {sp : Space} {s : Shape} {e : EltTy} (mm : Memref sig .tc sp s e) (hv : mm.view.set = Finset.univ)
    (f : Buf (Elt F) (mm.view.loc (c.tc : Thread nD τ))) :
    ((mm.view.loc (c.tc : Thread nD τ)) ↦{fullShare} f : sProp 𝕄) ⊢ heldAt c mm fullShare (mm.view.read (Elt F) f) := by
  have h := pointsTo_rep_of_read (Ix := Unit) (Val := Elt F) (Name := ℕ) (U := UR sig nD τ) (Lvl := ℕ) (c.tc : Thread nD τ) mm f fullShare _ rfl
  rw [hv] at h; unfold heldAt; rw [hv]; exact h
theorem scr_out {sp : Space} {s : Shape} {e : EltTy} (mm : Memref sig .tc sp s e) (hv : mm.view.set = Finset.univ) (X : s.Idx → Elt F e) :
    heldAt c mm fullShare X ⊢ (iprop(∃ f : Buf (Elt F) (mm.view.loc (c.tc : Thread nD τ)), (mm.view.loc (c.tc : Thread nD τ)) ↦{fullShare} f) : sProp 𝕄) := by
  unfold heldAt; rw [hv]
  exact exists_intro (Φ := fun f => iprop((mm.view.loc (c.tc : Thread nD τ)) ↦{fullShare} f)) _

theorem set0 : (Memref.whole cc0_scratch0 : Memref sig .tc .vmem S8x512x128 .f32).view.set = Finset.univ := View.set_whole _
theorem set1 : (Memref.whole cc0_scratch1 : Memref sig .tc .vmem S8x512x256 .f32).view.set = Finset.univ := View.set_whole _
theorem set2 : (Memref.whole cc0_scratch2 : Memref sig .tc .vmem S8x512x128 .f32).view.set = Finset.univ := View.set_whole _

/-- The running arrays as found. -/
def readSt (f0 : Buf (Elt F) ((c.tc : Thread nD τ).loc cc0_scratch0)) (f1 : Buf (Elt F) ((c.tc : Thread nD τ).loc cc0_scratch1))
    (f2 : Buf (Elt F) ((c.tc : Thread nD τ).loc cc0_scratch2)) : St F where
  m := (Memref.whole cc0_scratch0 : Memref sig .tc .vmem S8x512x128 .f32).view.read (Elt F) f0
  a := (Memref.whole cc0_scratch1 : Memref sig .tc .vmem S8x512x256 .f32).view.read (Elt F) f1
  l := (Memref.whole cc0_scratch2 : Memref sig .tc .vmem S8x512x128 .f32).view.read (Elt F) f2

theorem found (f0 : Buf (Elt F) ((c.tc : Thread nD τ).loc cc0_scratch0)) (f1 : Buf (Elt F) ((c.tc : Thread nD τ).loc cc0_scratch1))
    (f2 : Buf (Elt F) ((c.tc : Thread nD τ).loc cc0_scratch2)) :
    iprop((((c.tc : Thread nD τ).loc cc0_scratch0) ↦{fullShare} f0) ∗ (((c.tc : Thread nD τ).loc cc0_scratch1) ↦{fullShare} f1)
      ∗ (((c.tc : Thread nD τ).loc cc0_scratch2) ↦{fullShare} f2) : sProp 𝕄)
    ⊢ heldSt c (Memref.whole cc0_scratch0) (Memref.whole cc0_scratch1) (Memref.whole cc0_scratch2) (readSt c f0 f1 f2) :=
  BIClass.sep_mono (scr_in c (Memref.whole cc0_scratch0) set0 f0)
    (BIClass.sep_mono (scr_in c (Memref.whole cc0_scratch1) set1 f1) (scr_in c (Memref.whole cc0_scratch2) set2 f2))

theorem phi_first : iprop(ΦA (U := UR sig nD τ) (Val := Elt F) spec0 c ∗ ΦT (U := UR sig nD τ) pre0 (pf (F := F)) c) ⊢ phi m c 0 := by
  unfold ΦA ΦT phi
  rw [Gen.scopedRest0_eq, tables_eq]
  generalize heldT c (fun _ => fullShare.right) (pf (F := F)) = T
  iintro ⟨⟨⟨⟨%f0, H0⟩, ⟨%f1, H1⟩, ⟨%f2, H2⟩⟩, Hp⟩, HT⟩
  ihave H := (found c f0 f1 f2) $$ [H0 H1 H2]
  · isplitl [H0]
    · iexact H0
    isplitl [H1]
    · iexact H1
    iexact H2
  isplitl [HT]
  · iexact HT
  isplitl [Hp]
  · iexact Hp
  iexists (readSt c f0 f1 f2)
  isplitr
  · ipureintro; exact fun h => absurd h (lt_irrefl 0)
  iexact H

theorem phi_last (n : ℕ) : phi m c n ⊢ ΦA (U := UR sig nD τ) (Val := Elt F) spec0 c := by
  unfold ΦA phi heldSt
  rw [Gen.scopedRest0_eq]
  iintro ⟨HT, Hp, %st, %hst, H0, H1, H2⟩
  ihave H0 := (scr_out c (Memref.whole cc0_scratch0) set0 _) $$ H0
  ihave H1 := (scr_out c (Memref.whole cc0_scratch1) set1 _) $$ H1
  ihave H2 := (scr_out c (Memref.whole cc0_scratch2) set2 _) $$ H2
  iclear HT
  isplitr [Hp]
  · isplitl [H0]
    · iexact H0
    isplitl [H1]
    · iexact H1
    iexact H2
  iexact Hp

/-- The result at the end. -/
def result : S8192x2048.Idx → Elt F .f32 := (dat m c).arrAt 3 (cfgT (F := F)).N

theorem fresh : (Gen.hostOps0 : List (HloOp τ sig (Elt F))).Forall fun op => op.fresh = ∅ :=
  ⟨rfl, rfl, rfl, rfl, rfl, rfl, rfl, rfl, rfl, rfl, rfl⟩

theorem tables_V : ∀ k, V m c ((pcfgs (F := F) 0).pre.ref k) = (adms (F := F) 0).1 k := fun
  | ⟨0, _⟩ => rfl | ⟨1, _⟩ => rfl | ⟨2, _⟩ => rfl | ⟨3, _⟩ => rfl | ⟨4, _⟩ => rfl
  | ⟨_ + 5, h⟩ => absurd h (Nat.not_lt.2 (Nat.le_add_left _ _))

theorem arg_rest0 : main_arg0 ∈ restRefs sig spec0 := mem_restRefs_of _ rfl (by decide)
theorem arg_rest1 : main_arg1 ∈ restRefs sig spec0 := mem_restRefs_of _ rfl (by decide)
theorem arg_rest2 : main_arg2 ∈ restRefs sig spec0 := mem_restRefs_of _ rfl (by decide)
theorem V_arg0 : V m c main_arg0 = m (c, main_arg0) := rfl
theorem V_arg1 : V m c main_arg1 = m (c, main_arg1) := rfl
theorem V_arg2 : V m c main_arg2 = m (c, main_arg2) := rfl

/-- Every execution ends, with the arguments as they were and the result as computed. -/
theorem run (g : Dev nD → PrngReg) : θ_run (defs (F := F)) (onTc (main (F := F))) ⟨m, fun _ => 0, g⟩ fun r =>
    (∀ c : Dev nD, r.2.mem (c.tc.loc main_v6) = result m c ∧ r.2.mem (c.tc.loc main_arg0) = m (c.tc.loc main_arg0)
      ∧ r.2.mem (c.tc.loc main_arg1) = m (c.tc.loc main_arg1) ∧ r.2.mem (c.tc.loc main_arg2) = m (c.tc.loc main_arg2))
    ∧ r.2.sem = fun _ => 0 := by
  refine θ_run_frameP_track_shared (pcfgs (F := F)) adms (fun p c => match p with | 0 => dat m c) 0 Gen.launch₀0 (defs₀ (F := F)) Variants.none m g
    (main (F := F)) (fun c => body_ok m c _) (fun _ _ _ => rfl) (fun _ _ => rfl) (V m)
    (hmainP_prefix (pcfgs (F := F)) 0 (defs₀ (F := F)) _ m (main (F := F)) Gen.hostOps0 Gen.hostOps0_sub fresh Gen.main_chain)
    (fun _ _ => rfl) (fun c k => tables_V m c k) (fun c => phi_first m c) (fun c => phi_last m c _) _ ?_
  rintro r ⟨h, hs⟩
  refine ⟨fun c => ⟨(h c).1 3, ?_, ?_, ?_⟩, hs⟩
  · exact ((h c).2 main_arg0 arg_rest0).trans (V_arg0 m c)
  · exact ((h c).2 main_arg1 arg_rest1).trans (V_arg1 m c)
  · exact ((h c).2 main_arg2 arg_rest2).trans (V_arg2 m c)

end Cert.KernelIdeal.Att
end
-- ==== Proof.LatHeads.lean ====
/- The latent attention's body written by its heads: what one half of one head does to its two running arrays, eight heads of
   two halves a step, and the printed body is that program. -/
module

public import proofs.«01_k».proof.Proof.Gen.Kernel11Ideal
public import proofs.«01_k».proof.Proof.Gen.Kernel11Ideal.Skeleton
public import Idealize.ShloMosaic.Lib.VecWindow

@[expose] public section

set_option synthInstance.maxSize 4096
set_option maxRecDepth 65536

noncomputable section

namespace Cert.Kernel11Ideal.Lat

open Idealize.ShloMosaic Idealize.ShloMosaic.TcCoe
open Idealize.SL Idealize.SL.Sem
open Cert.Kernel11Ideal Facts₀

variable {F : FTy → Type} [FloatOps F] [Named F] [Facts]

/-! ## Bounds of the blocks a head reads -/

theorem inbQ (r g : ℕ) (hr : r ≤ 256) (hg : g < 8) : ∀ a, (![r, 128 * g] : Fin 2 → ℕ) a + S256x128.size a ≤ S512x1024.size a := fun
  | 0 => show r + 256 ≤ 512 by omega
  | 1 => show 128 * g + 128 ≤ 1024 by omega
omit [Facts] in
theorem inbK (g : ℕ) (hg : g < 8) : ∀ a, (![0, 128 * g] : Fin 2 → ℕ) a + S512x128.size a ≤ S512x1024.size a := fun
  | 0 => show 0 + 512 ≤ 512 by omega
  | 1 => show 128 * g + 128 ≤ 1024 by omega
theorem inbX : ∀ a, (![0, 0] : Fin 2 → ℕ) a + S512x128.size a ≤ S512x128.size a := fun
  | 0 => show 0 + 512 ≤ 512 by omega
  | 1 => show 0 + 128 ≤ 128 by omega
theorem inbM (r g : ℕ) (hr : r ≤ 256) (hg : g < 8) : ∀ a, (![g, r, 0] : Fin 3 → ℕ) a + S1x256x128.size a ≤ S8x512x128.size a := fun
  | 0 => show g + 1 ≤ 8 by omega
  | 1 => show r + 256 ≤ 512 by omega
  | 2 => show 0 + 128 ≤ 128 by omega
theorem inbA (r g : ℕ) (hr : r ≤ 256) (hg : g < 8) : ∀ a, (![g, r, 0] : Fin 3 → ℕ) a + S1x256x256.size a ≤ S8x512x256.size a := fun
  | 0 => show g + 1 ≤ 8 by omega
  | 1 => show r + 256 ≤ 512 by omega
  | 2 => show 0 + 256 ≤ 256 by omega
theorem inbN (g o : ℕ) (hg : g < 8) (ho : o ≤ 128) : ∀ a, (![g, 0, o] : Fin 3 → ℕ) a + S1x512x128.size a ≤ S8x512x256.size a := fun
  | 0 => show g + 1 ≤ 8 by omega
  | 1 => show 0 + 512 ≤ 512 by omega
  | 2 => show o + 128 ≤ 256 by omega

/-! ## The values of one half of one head -/

/-- The queries' two parts side by side, times the scale, which holds the logarithms' base. -/
def scaled (q x : Vec F S256x128 .bf16) : FVec F S256x256 .bf16 :=
  truncf .bf16 (mulf (extf .f32 (concatenate S256x256 1 [⟨S256x128, shapeCast S256x128 q shapeCasts_S256x128_S256x128⟩,
      ⟨S256x128, shapeCast S256x128 x shapeCasts_S256x128_S256x128⟩] concatenates_S256x128_S256x128_S256x256_d1) bitsLt_bf16_f32)
    (broadcast S256x256 (Named.named κ "scale11" 0x3DD53B95#32))) bitsLt_bf16_f32

/-- The keys' two parts side by side. -/
def keyMat (k y : Vec F S512x128 .bf16) : FVec F S512x256 .bf16 :=
  concatenate S512x256 1 [⟨S512x128, shapeCast S512x128 k shapeCasts_S512x128_S512x128⟩,
    ⟨S512x128, shapeCast S512x128 y shapeCasts_S512x128_S512x128⟩] concatenates_S512x128_S512x128_S512x256_d1

/-- The values beside ones, whose sums are the sums of the weights. -/
def valMat (v : Vec F S512x128 .bf16) : FVec F S512x256 .bf16 :=
  concatenate S512x256 1 [⟨S512x128, shapeCast S512x128 v shapeCasts_S512x128_S512x128⟩,
    ⟨S512x128, broadcast S512x128 (Scalar.ofBits .bf16 0x3F80#16 : F .bf16)⟩] concatenates_S512x128_S512x128_S512x256_d1

/-- The scores of 256 queries against 512 keys. -/
def scores (q x : Vec F S256x128 .bf16) (k y : Vec F S512x128 .bf16) : FVec F S256x512 .f32 :=
  matmul dot_S256x256_S512x256_S256x512_1_1_0_0_n_n none (scaled q x) (keyMat k y) (constant S256x512 .f32 0x00000000#32)

/-- The scores with those of a later chunk of keys replaced; `r` is the half's first row. -/
def masked (qi ki r : BitVec 32) (s : FVec F S256x512 .f32) : FVec F S256x512 .f32 :=
  select (cmpi .sle
      (shrui (addi (broadcast S256x512 (Scalar.muli ki 512#32)) (iota .tc S256x512 32 [1] iota_S256x512_d1_w32)) (broadcast S256x512 6#32))
      (shrui (addi (broadcast S256x512 (Scalar.addi (Scalar.muli qi 512#32) r)) (iota .tc S256x512 32 [0] iota_S256x512_d0_w32)) (broadcast S256x512 6#32)))
    s (broadcast S256x512 (Named.named κ "mask11" 0xF149F2CA#32))

/-- The new running maximum, on every lane. -/
def newMax (s : FVec F S256x512 .f32) (m : Vec F S1x256x128 .f32) : FVec F S256x128 .f32 :=
  maximumf (shapeCast S256x128 m shapeCasts_S1x256x128_S256x128)
    (broadcastTo S256x128 (shapeCast S256x1 (multiReduction .maximumf [1] S256 s 0xFF800000#32 reduces_S256x512_S256 (.inl rfl) rfl)
      shapeCasts_S256_S256x1) broadcasts_S256x1_S256x128)

/-- How much of the old sums is kept. -/
def keep (s : FVec F S256x512 .f32) (m : Vec F S1x256x128 .f32) : FVec F S256x128 .f32 :=
  exp2 (subf (shapeCast S256x128 m shapeCasts_S1x256x128_S256x128) (newMax s m))

/-- The keys' weights. -/
def weights (s : FVec F S256x512 .f32) (m : Vec F S1x256x128 .f32) : FVec F S256x512 .f32 :=
  exp2 (subf s (concatenate S256x512 1 [⟨S256x128, newMax s m⟩, ⟨S256x128, newMax s m⟩, ⟨S256x128, newMax s m⟩, ⟨S256x128, newMax s m⟩]
    concatenates_S256x128_S256x128_S256x128_S256x128_S256x512_d1))

/-- The new weighted sums of the values and of the ones. -/
def newAcc (s : FVec F S256x512 .f32) (m : Vec F S1x256x128 .f32) (v : Vec F S512x128 .bf16) (a : Vec F S1x256x256 .f32) : FVec F S1x256x256 .f32 :=
  shapeCast S1x256x256 (addf
    (mulf (concatenate S256x256 1 [⟨S256x128, keep s m⟩, ⟨S256x128, keep s m⟩] concatenates_S256x128_S256x128_S256x256_d1)
      (shapeCast S256x256 a shapeCasts_S1x256x256_S256x256))
    (matmul dot_S256x512_S512x256_S256x256_1_0_0_1_n_n none (truncf .bf16 (weights s m) bitsLt_bf16_f32)
      (valMat v) (constant S256x256 .f32 0x00000000#32))) shapeCasts_S256x256_S1x256x256

/-- The stored maximum. -/
def putMax (s : FVec F S256x512 .f32) (m : Vec F S1x256x128 .f32) : FVec F S1x256x128 .f32 :=
  shapeCast S1x256x128 (newMax s m) shapeCasts_S256x128_S1x256x128

/-- One head's result: its sums of values over its sums of weights. -/
def quot (a l : Vec F S1x512x128 .f32) : FVec F S512x128 .bf16 :=
  truncf .bf16 (divf (shapeCast S512x128 a shapeCasts_S1x512x128_S512x128) (shapeCast S512x128 l shapeCasts_S1x512x128_S512x128)) bitsLt_bf16_f32

/-! ## The body as a program of those values -/

/-- Programs of the body. -/
abbrev Body (F : FTy → Type) := Prog (TpuEff nD τ sig (Elt F) Λ₀ .tc) PUnit

/-- One half of one head: reads its queries and its two running blocks, writes the two back. -/
def halfP (arg8 arg11 : Memref sig .tc .vmem S512x1024 .bf16) (arg14 : Memref sig .tc .vmem S8x512x128 .f32)
    (arg15 : Memref sig .tc .vmem S8x512x256 .f32)
    (mk : FVec F S256x512 .f32 → FVec F S256x512 .f32) (r g : ℕ) (hr : r ≤ 256) (hg : g < 8)
    (k y v : Vec F S512x128 .bf16) (K : Body F) : Body F :=
  .op (.load arg8 (Rect.unit (s := S512x1024) ![r, 128 * g] S256x128.size (inbQ r g hr hg)).toLoadRect (View.loadsAt_vmem h_S256x128)) fun q =>
  .op (.load arg11 (Rect.unit (s := S512x1024) ![r, 128 * g] S256x128.size (inbQ r g hr hg)).toLoadRect (View.loadsAt_vmem h_S256x128)) fun x =>
  .op (.load arg14 (Rect.unit (s := S8x512x128) ![g, r, 0] S1x256x128.size (inbM r g hr hg)).toLoadRect (View.loadsAt_vmem h_S1x256x128)) fun m =>
  .op (.load arg15 (Rect.unit (s := S8x512x256) ![g, r, 0] S1x256x256.size (inbA r g hr hg)).toLoadRect (View.loadsAt_vmem h_S1x256x256)) fun a =>
  .op (.load arg15 (Rect.unit (s := S8x512x256) ![g, r, 0] S1x256x256.size (inbA r g hr hg)).toLoadRect (View.loadsAt_vmem h_S1x256x256)) fun _ =>
  .op (.store arg15 (Rect.unit (s := S8x512x256) ![g, r, 0] S1x256x256.size (inbA r g hr hg)) (newAcc (mk (scores q x k y)) m v a) Finset.univ
    (View.stores_vmem_bits_univ h_S1x256x256 rfl) (.inl rfl)) fun _ =>
  .op (.load arg14 (Rect.unit (s := S8x512x128) ![g, r, 0] S1x256x128.size (inbM r g hr hg)).toLoadRect (View.loadsAt_vmem h_S1x256x128)) fun _ =>
  .op (.store arg14 (Rect.unit (s := S8x512x128) ![g, r, 0] S1x256x128.size (inbM r g hr hg)) (putMax (mk (scores q x k y)) m) Finset.univ
    (View.stores_vmem_bits_univ h_S1x256x128 rfl) (.inl rfl)) fun _ => K

/-- One head: its keys and values are read once, then its two halves. -/
def headP (arg8 arg9 arg10 arg11 : Memref sig .tc .vmem S512x1024 .bf16) (arg12 : Memref sig .tc .vmem S512x128 .bf16)
    (arg14 : Memref sig .tc .vmem S8x512x128 .f32) (arg15 : Memref sig .tc .vmem S8x512x256 .f32)
    (mk0 mk1 : FVec F S256x512 .f32 → FVec F S256x512 .f32) (g : ℕ) (hg : g < 8) (K : Body F) : Body F :=
  .op (.load arg9 (Rect.unit (s := S512x1024) ![0, 128 * g] S512x128.size (inbK g hg)).toLoadRect (View.loadsAt_vmem h_S512x128)) fun k =>
  .op (.load arg12 (Rect.unit (s := S512x128) ![0, 0] S512x128.size inbX).toLoadRect (View.loadsAt_vmem h_S512x128)) fun y =>
  .op (.load arg10 (Rect.unit (s := S512x1024) ![0, 128 * g] S512x128.size (inbK g hg)).toLoadRect (View.loadsAt_vmem h_S512x128)) fun v =>
  halfP arg8 arg11 arg14 arg15 mk0 0 g (by omega) hg k y v (halfP arg8 arg11 arg14 arg15 mk1 256 g (by omega) hg k y v K)

/-- All eight heads. -/
def stepP (arg8 arg9 arg10 arg11 : Memref sig .tc .vmem S512x1024 .bf16) (arg12 : Memref sig .tc .vmem S512x128 .bf16)
    (arg14 : Memref sig .tc .vmem S8x512x128 .f32) (arg15 : Memref sig .tc .vmem S8x512x256 .f32)
    (mk0 mk1 : FVec F S256x512 .f32 → FVec F S256x512 .f32) (K : Body F) : Body F :=
  headP arg8 arg9 arg10 arg11 arg12 arg14 arg15 mk0 mk1 0 (by omega) <| headP arg8 arg9 arg10 arg11 arg12 arg14 arg15 mk0 mk1 1 (by omega) <|
  headP arg8 arg9 arg10 arg11 arg12 arg14 arg15 mk0 mk1 2 (by omega) <| headP arg8 arg9 arg10 arg11 arg12 arg14 arg15 mk0 mk1 3 (by omega) <|
  headP arg8 arg9 arg10 arg11 arg12 arg14 arg15 mk0 mk1 4 (by omega) <| headP arg8 arg9 arg10 arg11 arg12 arg14 arg15 mk0 mk1 5 (by omega) <|
  headP arg8 arg9 arg10 arg11 arg12 arg14 arg15 mk0 mk1 6 (by omega) <| headP arg8 arg9 arg10 arg11 arg12 arg14 arg15 mk0 mk1 7 (by omega) K

/-- One head's result is stored. -/
def outP (arg13 : Memref sig .tc .vmem S512x1024 .bf16) (arg15 : Memref sig .tc .vmem S8x512x256 .f32) (g : ℕ) (hg : g < 8)
    (hx : (arg13.access (Rect.unit (s := S512x1024) ![0, 128 * g] S512x128.size (inbK g hg))).Stores Finset.univ) (K : Body F) : Body F :=
  .op (.load arg15 (Rect.unit (s := S8x512x256) ![g, 0, 0] S1x512x128.size (inbN g 0 hg (by omega))).toLoadRect (View.loadsAt_vmem h_S1x512x128)) fun a =>
  .op (.load arg15 (Rect.unit (s := S8x512x256) ![g, 0, 128] S1x512x128.size (inbN g 128 hg (by omega))).toLoadRect (View.loadsAt_vmem h_S1x512x128)) fun l =>
  .op (.load arg13 (Rect.unit (s := S512x1024) ![0, 128 * g] S512x128.size (inbK g hg)).toLoadRect (View.loadsAt_vmem h_S512x128)) fun _ =>
  .op (.store arg13 (Rect.unit (s := S512x1024) ![0, 128 * g] S512x128.size (inbK g hg)) (quot a l) Finset.univ hx (.inl rfl)) fun _ => K

omit [Facts] in
/-- The words a head's result is stored in are its own. -/
theorem packed (g : ℕ) (hg : g < 8) :
    (Rect.unit (s := S512x1024) ![0, 128 * g] S512x128.size (inbK g hg)).PackedRows (EltTy.packing .bf16) := by
  have h : ∀ g : Fin 8, (Rect.unit (s := S512x1024) ![0, 128 * g.val] S512x128.size (inbK g.val g.isLt)).PackedRows (EltTy.packing .bf16) := by
    decide +kernel
  exact h ⟨g, hg⟩

theorem storesO {arg13 : Memref sig .tc .vmem S512x1024 .bf16} (h13 : arg13.IsWhole) (g : ℕ) (hg : g < 8) :
    (arg13.access (Rect.unit (s := S512x1024) ![0, 128 * g] S512x128.size (inbK g hg))).Stores Finset.univ :=
  View.stores_vmem h_S512x128 (h13.storeExact_slice rfl _ (packed g hg)) (fun _ => rfl)

/-- Every head's result is stored. -/
def lastP (arg13 : Memref sig .tc .vmem S512x1024 .bf16) (h13 : arg13.IsWhole) (arg15 : Memref sig .tc .vmem S8x512x256 .f32) (K : Body F) : Body F :=
  outP arg13 arg15 0 (by omega) (storesO h13 0 (by omega)) <| outP arg13 arg15 1 (by omega) (storesO h13 1 (by omega)) <|
  outP arg13 arg15 2 (by omega) (storesO h13 2 (by omega)) <| outP arg13 arg15 3 (by omega) (storesO h13 3 (by omega)) <|
  outP arg13 arg15 4 (by omega) (storesO h13 4 (by omega)) <| outP arg13 arg15 5 (by omega) (storesO h13 5 (by omega)) <|
  outP arg13 arg15 6 (by omega) (storesO h13 6 (by omega)) <| outP arg13 arg15 7 (by omega) (storesO h13 7 (by omega)) K

/-- The running arrays are set to their first values. -/
def initP (arg14 : Memref sig .tc .vmem S8x512x128 .f32) (arg15 : Memref sig .tc .vmem S8x512x256 .f32) (K : Body F) : Body F :=
  .op (.load arg14 (Rect.unit (s := S8x512x128) ![0, 0, 0] S8x512x128.size inb_S8x512x128_S8x512x128_0_0_0).toLoadRect (View.loadsAt_vmem h_S8x512x128)) fun _ =>
  .op (.store arg14 (Rect.unit (s := S8x512x128) ![0, 0, 0] S8x512x128.size inb_S8x512x128_S8x512x128_0_0_0)
    (shapeCast S8x512x128 (broadcast S8x512x128 (Named.named κ "mask11" 0xF149F2CA#32 : F .f32)) shapeCasts_S8x512x128_S8x512x128) Finset.univ
    (View.stores_vmem_bits_univ h_S8x512x128 rfl) (.inl rfl)) fun _ =>
  .op (.load arg15 (Rect.unit (s := S8x512x256) ![0, 0, 0] S8x512x256.size inb_S8x512x256_S8x512x256_0_0_0).toLoadRect (View.loadsAt_vmem h_S8x512x256)) fun _ =>
  .op (.store arg15 (Rect.unit (s := S8x512x256) ![0, 0, 0] S8x512x256.size inb_S8x512x256_S8x512x256_0_0_0)
    (shapeCast S8x512x256 (broadcast S8x512x256 (Scalar.ofBits .f32 0x00000000#32 : F .f32)) shapeCasts_S8x512x256_S8x512x256) Finset.univ
    (View.stores_vmem_bits_univ h_S8x512x256 rfl) (.inl rfl)) fun _ => K

/-- Whether a table's word is one, as the kernel tests it. -/
abbrev isOne (w : BitVec 32) : BitVec 1 := Scalar.cmpi .ne (Scalar.extui (Scalar.cmpi .eq w 1#32) : BitVec 32) 0#32
/-- Whether a table's word is zero, as the kernel tests it. -/
abbrev isZero (w : BitVec 32) : BitVec 1 := Scalar.cmpi .ne (Scalar.extui (Scalar.cmpi .eq w 0#32) : BitVec 32) 0#32

/-- The body at one grid point. -/
def bodyP (i : grid0.Coords) (arg3 arg4 arg5 arg6 arg7 : Memref sig .tc .smem S36 .i32)
    (arg8 arg9 arg10 arg11 : Memref sig .tc .vmem S512x1024 .bf16) (arg12 : Memref sig .tc .vmem S512x128 .bf16)
    (arg13 : Memref sig .tc .vmem S512x1024 .bf16) (h13 : arg13.IsWhole)
    (arg14 : Memref sig .tc .vmem S8x512x128 .f32) (arg15 : Memref sig .tc .vmem S8x512x256 .f32) : Body F := do
  let v1 : Elt F .i32 ← smemLoad arg3 (Rect.unit (s := S36) (k0_off1 i) S1.size (k0_off1_inb i)) numel1_S1 rfl
  let v3 : Elt F .i32 ← smemLoad arg4 (Rect.unit (s := S36) (k0_off1 i) S1.size (k0_off1_inb i)) numel1_S1 rfl
  let v5 : Elt F .i32 ← smemLoad arg5 (Rect.unit (s := S36) (k0_off1 i) S1.size (k0_off1_inb i)) numel1_S1 rfl
  if isOne v5 = 1#1 then initP arg14 arg15 (pure ⟨⟩) else pure ⟨⟩
  let v10 : Elt F .i32 ← smemLoad arg7 (Rect.unit (s := S36) (k0_off2 i) S1.size (k0_off2_inb i)) numel1_S1 rfl
  if isOne v10 = 1#1 then stepP arg8 arg9 arg10 arg11 arg12 arg14 arg15 (masked v1 v3 0#32) (masked v1 v3 256#32) (pure ⟨⟩) else pure ⟨⟩
  let v15 : Elt F .i32 ← smemLoad arg7 (Rect.unit (s := S36) (k0_off3 i) S1.size (k0_off3_inb i)) numel1_S1 rfl
  if isZero v15 = 1#1 then stepP arg8 arg9 arg10 arg11 arg12 arg14 arg15 id id (pure ⟨⟩) else pure ⟨⟩
  let v20 : Elt F .i32 ← smemLoad arg6 (Rect.unit (s := S36) (k0_off4 i) S1.size (k0_off4_inb i)) numel1_S1 rfl
  if k0_cond4 v20 = 1#1 then lastP arg13 h13 arg15 (pure ⟨⟩) else pure ⟨⟩
  pure ⟨⟩

/-- The printed body is that program. -/
theorem body_eq (i : grid0.Coords) (arg3 arg4 arg5 arg6 arg7 : Memref sig .tc .smem S36 .i32) (h3 : arg3.IsWhole) (h4 : arg4.IsWhole)
    (h5 : arg5.IsWhole) (h6 : arg6.IsWhole) (h7 : arg7.IsWhole)
    (arg8 arg9 arg10 arg11 : Memref sig .tc .vmem S512x1024 .bf16) (arg12 : Memref sig .tc .vmem S512x128 .bf16)
    (arg13 : Memref sig .tc .vmem S512x1024 .bf16) (h8 : arg8.IsWhole) (h9 : arg9.IsWhole)
    (h10 : arg10.IsWhole) (h11 : arg11.IsWhole) (h12 : arg12.IsWhole) (h13 : arg13.IsWhole)
    (arg14 : Memref sig .tc .vmem S8x512x128 .f32) (arg15 : Memref sig .tc .vmem S8x512x256 .f32) (h14 : arg14.IsWhole) (h15 : arg15.IsWhole) :
    cc0_attn_chunk (F := F) i arg3 h3 arg4 h4 arg5 h5 arg6 h6 arg7 h7 arg8 h8 arg9 h9 arg10 h10 arg11 h11 arg12 h12 arg13 h13 arg14 h14 arg15 h15
      = bodyP (F := F) i arg3 arg4 arg5 arg6 arg7 arg8 arg9 arg10 arg11 arg12 arg13 h13 arg14 arg15 := rfl

end Cert.Kernel11Ideal.Lat
end
-- ==== Proof.LatSteps.lean ====
/- What the body's pieces do to the running arrays, as functions, and the triples that say so. -/
module

public import proofs.«01_k».proof.Proof.LatHeads
public import proofs.«01_k».proof.Proof.Gen.Kernel11Ideal.Launch
public import Idealize.ShloMosaic.Lib.Pipeline.Frame
public import Idealize.ShloMosaic.Lib.Pipeline.TableIdle

@[expose] public section

set_option maxRecDepth 16384

noncomputable section

namespace Cert.Kernel11Ideal.Lat

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel11Ideal Facts₀
open VecWindow (window put)

variable {F : FTy → Type} [FloatOps F] [Named F] [Facts]

/-! ## The running arrays and what the pieces do to them -/

/-- The two running arrays: maxima, and sums of values beside sums of weights. -/
structure St (F : FTy → Type) where
  m : S8x512x128.Idx → Elt F .f32
  a : S8x512x256.Idx → Elt F .f32

/-- The blocks a point reads: the queries' two parts, the keys' two parts and the values. -/
structure In (F : FTy → Type) where
  q : S512x1024.Idx → Elt F .bf16
  k : S512x1024.Idx → Elt F .bf16
  v : S512x1024.Idx → Elt F .bf16
  x : S512x1024.Idx → Elt F .bf16
  y : S512x128.Idx → Elt F .bf16

/-- The scores of one half of one head before masking. -/
def scoresAt (r g : ℕ) (hr : r ≤ 256) (hg : g < 8) (I : In F) : FVec F S256x512 .f32 :=
  scores (window I.q ![r, 128 * g] S256x128.size (inbQ r g hr hg)) (window I.x ![r, 128 * g] S256x128.size (inbQ r g hr hg))
    (window I.k ![0, 128 * g] S512x128.size (inbK g hg)) (window I.y ![0, 0] S512x128.size inbX)

/-- One half of one head. -/
def halfS (mk : FVec F S256x512 .f32 → FVec F S256x512 .f32) (r g : ℕ) (hr : r ≤ 256) (hg : g < 8)
    (I : In F) (st : St F) : St F where
  m := put st.m ![g, r, 0] S1x256x128.size
    (putMax (mk (scoresAt r g hr hg I)) (window st.m ![g, r, 0] S1x256x128.size (inbM r g hr hg)))
  a := put st.a ![g, r, 0] S1x256x256.size
    (newAcc (mk (scoresAt r g hr hg I)) (window st.m ![g, r, 0] S1x256x128.size (inbM r g hr hg))
      (window I.v ![0, 128 * g] S512x128.size (inbK g hg)) (window st.a ![g, r, 0] S1x256x256.size (inbA r g hr hg)))

/-- One head. -/
def headS (mk0 mk1 : FVec F S256x512 .f32 → FVec F S256x512 .f32) (g : ℕ) (hg : g < 8) (I : In F) (st : St F) : St F :=
  halfS mk1 256 g (by omega) hg I (halfS mk0 0 g (by omega) hg I st)

/-- Eight heads. -/
def stepS (mk0 mk1 : FVec F S256x512 .f32 → FVec F S256x512 .f32) (I : In F) (st : St F) : St F :=
  headS mk0 mk1 7 (by omega) I <| headS mk0 mk1 6 (by omega) I <|
  headS mk0 mk1 5 (by omega) I <| headS mk0 mk1 4 (by omega) I <|
  headS mk0 mk1 3 (by omega) I <| headS mk0 mk1 2 (by omega) I <|
  headS mk0 mk1 1 (by omega) I <| headS mk0 mk1 0 (by omega) I st

/-- The running arrays' first values. -/
def initS : St F where
  m := shapeCast S8x512x128 (broadcast S8x512x128 (Named.named κ "mask11" 0xF149F2CA#32 : F .f32)) shapeCasts_S8x512x128_S8x512x128
  a := shapeCast S8x512x256 (broadcast S8x512x256 (Scalar.ofBits .f32 0x00000000#32 : F .f32)) shapeCasts_S8x512x256_S8x512x256

/-- One head's result put in its place. -/
def outS (g : ℕ) (hg : g < 8) (st : St F) (Y : S512x1024.Idx → Elt F .bf16) : S512x1024.Idx → Elt F .bf16 :=
  put Y ![0, 128 * g] S512x128.size (quot (window st.a ![g, 0, 0] S1x512x128.size (inbN g 0 hg (by omega)))
    (window st.a ![g, 0, 128] S1x512x128.size (inbN g 128 hg (by omega))))

/-- Every head's result put in its place. -/
def lastS (st : St F) (Y : S512x1024.Idx → Elt F .bf16) : S512x1024.Idx → Elt F .bf16 :=
  outS 7 (by omega) st <| outS 6 (by omega) st <| outS 5 (by omega) st <| outS 4 (by omega) st <|
  outS 3 (by omega) st <| outS 2 (by omega) st <| outS 1 (by omega) st <| outS 0 (by omega) st Y

/-! ## Triples -/

local notation "𝕄" => MT nD τ sig Unit (Elt F) ℕ (UR sig nD τ) ℕ

/-- A memref held at the values `X`. -/
abbrev heldAt (c : Dev nD) {sp : Space} {s : Shape} {e : EltTy} (m : Memref sig .tc sp s e) (q : PosShare TreeShare) (X : s.Idx → Elt F e) : sProp 𝕄 :=
  (m.view.loc (c.tc : Thread nD τ)) ↦[m.view.set]{q} (m.view.rep X)

variable (c : Dev nD) (𝒱 : Variants)

/-- The verified run of a body program. -/
abbrev runs (p : Body F) (Φ : PUnit → sProp 𝕄) : sProp 𝕄 := wp frame (wpE (defs₀ (F := F)) 𝒱 (c.tc : Thread nD τ) none) Set.univ p Φ

theorem wp_ld {s : Shape} {e : EltTy} (m : Memref sig .tc .vmem s e) (q : PosShare TreeShare) (X : s.Idx → Elt F e)
    (off size : Fin s.rank → ℕ) (inb : ∀ a, off a + size a ≤ s.size a) (hl : m.view.LoadsAt (Rect.unit off size inb).toLoadRect)
    (k : ((Rect.unit off size inb).shape.Idx → Elt F e) → Body F) (Φ : PUnit → sProp 𝕄) :
    heldAt c m q X ⊢ iprop((heldAt c m q X -∗ runs c 𝒱 (k (window X off size inb)) Φ)
      -∗ runs c 𝒱 (.op (.load m (Rect.unit off size inb).toLoadRect hl) k) Φ) := by
  rw [← View.readAt_rep_unit (Val := Elt F) m.view X inb rfl inb]
  exact wp_load 𝒱 (c.tc : Thread nD τ) none Set.univ (m.view.setOn_subset_set _)

theorem wp_st {s : Shape} {e : EltTy} (m : Memref sig .tc .vmem s e) (X : s.Idx → Elt F e)
    (off size : Fin s.rank → ℕ) (inb : ∀ a, off a + size a ≤ s.size a) (w : (Rect.unit off size inb).shape.Idx → Elt F e)
    (hx : (m.access (Rect.unit off size inb)).Stores Finset.univ) (hm : Finset.univ = Finset.univ ∨ ∀ a, (Rect.unit off size inb).stride a = 1)
    (k : PUnit → Body F) (Φ : PUnit → sProp 𝕄) :
    heldAt c m fullShare X ⊢ iprop((heldAt c m fullShare (put X off size w) -∗ runs c 𝒱 (k ⟨⟩) Φ)
      -∗ runs c 𝒱 (.op (.store m (Rect.unit off size inb) w Finset.univ hx hm) k) Φ) := by
  have h := wp_store_writes₀ (Ix := Unit) (Val := Elt F) (Name := ℕ) (U := UR sig nD τ) (Lvl := ℕ) (defs := defs₀ (F := F)) (cs := .vmem) (m := m)
    (r := Rect.unit off size inb) (Q := Φ) (w := w) (hx := hx) (hm := hm) (k := k) (S := m.view.set) (f := m.view.rep X)
    𝒱 (c.tc : Thread nD τ) none Set.univ (m.setOn_access_subset _ Finset.univ)
  have h2 := pointsTo_rep_of_read (Ix := Unit) (Val := Elt F) (Name := ℕ) (U := UR sig nD τ) (Lvl := ℕ) (c.tc : Thread nD τ) m
    (m.view.writes (Elt F) (m.view.rep X) [⟨Rect.unit off size inb, w⟩]) fullShare (put X off size w) (View.read_writes_rep_unit m.view X inb w rfl)
  exact h.trans (wand_mono_left (wand_mono_left h2))

/-- The running arrays held in their scratch. -/
def heldSt (a14 : Memref sig .tc .vmem S8x512x128 .f32) (a15 : Memref sig .tc .vmem S8x512x256 .f32) (st : St F) : sProp 𝕄 :=
  iprop(heldAt c a14 fullShare st.m ∗ heldAt c a15 fullShare st.a)

variable (a8 a9 a10 a11 : Memref sig .tc .vmem S512x1024 .bf16) (a12 : Memref sig .tc .vmem S512x128 .bf16)
  (a13 : Memref sig .tc .vmem S512x1024 .bf16) (h13 : a13.IsWhole)
  (a14 : Memref sig .tc .vmem S8x512x128 .f32) (a15 : Memref sig .tc .vmem S8x512x256 .f32)

theorem wp_half (mk : FVec F S256x512 .f32 → FVec F S256x512 .f32) (r g : ℕ) (hr : r ≤ 256) (hg : g < 8)
    (I : In F) (st : St F) (k : Body F) (Φ : PUnit → sProp 𝕄) :
    iprop(heldAt c a8 fullShare I.q ∗ heldAt c a11 fullShare I.x ∗ heldSt c a14 a15 st)
    ⊢ iprop((iprop(heldAt c a8 fullShare I.q ∗ heldAt c a11 fullShare I.x ∗ heldSt c a14 a15 (halfS mk r g hr hg I st)) -∗ runs c 𝒱 k Φ)
      -∗ runs c 𝒱 (halfP a8 a11 a14 a15 mk r g hr hg (window I.k ![0, 128 * g] S512x128.size (inbK g hg))
        (window I.y ![0, 0] S512x128.size inbX) (window I.v ![0, 128 * g] S512x128.size (inbK g hg)) k) Φ) := by
  unfold halfP heldSt
  iintro ⟨HQ, HX, Hm, Ha⟩ Hk
  iapply (wp_ld c 𝒱 a8) $$ HQ
  iintro HQ
  iapply (wp_ld c 𝒱 a11) $$ HX
  iintro HX
  iapply (wp_ld c 𝒱 a14) $$ Hm
  iintro Hm
  iapply (wp_ld c 𝒱 a15) $$ Ha
  iintro Ha
  iapply (wp_ld c 𝒱 a15) $$ Ha
  iintro Ha
  iapply (wp_st c 𝒱 a15) $$ Ha
  iintro Ha
  iapply (wp_ld c 𝒱 a14) $$ Hm
  iintro Hm
  iapply (wp_st c 𝒱 a14) $$ Hm
  iintro Hm
  iapply Hk
  isplitl [HQ]
  · iexact HQ
  isplitl [HX]
  · iexact HX
  isplitl [Hm]
  · iexact Hm
  iexact Ha

/-- The blocks a step reads, held. -/
abbrev heldIn (I : In F) : sProp 𝕄 :=
  iprop(heldAt c a8 fullShare I.q ∗ heldAt c a9 fullShare I.k ∗ heldAt c a10 fullShare I.v ∗ heldAt c a11 fullShare I.x ∗ heldAt c a12 fullShare I.y)

theorem wp_head (mk0 mk1 : FVec F S256x512 .f32 → FVec F S256x512 .f32) (g : ℕ) (hg : g < 8)
    (I : In F) (st : St F) (k : Body F) (Φ : PUnit → sProp 𝕄) :
    iprop(heldIn c a8 a9 a10 a11 a12 I ∗ heldSt c a14 a15 st)
    ⊢ iprop((iprop(heldIn c a8 a9 a10 a11 a12 I ∗ heldSt c a14 a15 (headS mk0 mk1 g hg I st)) -∗ runs c 𝒱 k Φ)
      -∗ runs c 𝒱 (headP a8 a9 a10 a11 a12 a14 a15 mk0 mk1 g hg k) Φ) := by
  unfold headP headS
  iintro ⟨⟨HQ, HK, HV, HX, HY⟩, Hs⟩ Hk
  iapply (wp_ld c 𝒱 a9) $$ HK
  iintro HK
  iapply (wp_ld c 𝒱 a12) $$ HY
  iintro HY
  iapply (wp_ld c 𝒱 a10) $$ HV
  iintro HV
  iapply (wp_half c 𝒱 a8 a11 a14 a15 mk0 0 g _ hg I st) $$ [HQ HX Hs]
  · isplitl [HQ]
    · iexact HQ
    isplitl [HX]
    · iexact HX
    iexact Hs
  iintro ⟨HQ, HX, Hs⟩
  iapply (wp_half c 𝒱 a8 a11 a14 a15 mk1 256 g _ hg I _) $$ [HQ HX Hs]
  · isplitl [HQ]
    · iexact HQ
    isplitl [HX]
    · iexact HX
    iexact Hs
  iintro ⟨HQ, HX, Hs⟩
  iapply Hk
  isplitr [Hs]
  · isplitl [HQ]
    · iexact HQ
    isplitl [HK]
    · iexact HK
    isplitl [HV]
    · iexact HV
    isplitl [HX]
    · iexact HX
    iexact HY
  iexact Hs

theorem wp_step (mk0 mk1 : FVec F S256x512 .f32 → FVec F S256x512 .f32) (I : In F) (st : St F) (k : Body F) (Φ : PUnit → sProp 𝕄) :
    iprop(heldIn c a8 a9 a10 a11 a12 I ∗ heldSt c a14 a15 st)
    ⊢ iprop((iprop(heldIn c a8 a9 a10 a11 a12 I ∗ heldSt c a14 a15 (stepS mk0 mk1 I st)) -∗ runs c 𝒱 k Φ)
      -∗ runs c 𝒱 (stepP a8 a9 a10 a11 a12 a14 a15 mk0 mk1 k) Φ) := by
  unfold stepP stepS
  iintro H Hk
  iapply (wp_head c 𝒱 a8 a9 a10 a11 a12 a14 a15 mk0 mk1 0 _ I _) $$ H
  iintro H
  iapply (wp_head c 𝒱 a8 a9 a10 a11 a12 a14 a15 mk0 mk1 1 _ I _) $$ H
  iintro H
  iapply (wp_head c 𝒱 a8 a9 a10 a11 a12 a14 a15 mk0 mk1 2 _ I _) $$ H
  iintro H
  iapply (wp_head c 𝒱 a8 a9 a10 a11 a12 a14 a15 mk0 mk1 3 _ I _) $$ H
  iintro H
  iapply (wp_head c 𝒱 a8 a9 a10 a11 a12 a14 a15 mk0 mk1 4 _ I _) $$ H
  iintro H
  iapply (wp_head c 𝒱 a8 a9 a10 a11 a12 a14 a15 mk0 mk1 5 _ I _) $$ H
  iintro H
  iapply (wp_head c 𝒱 a8 a9 a10 a11 a12 a14 a15 mk0 mk1 6 _ I _) $$ H
  iintro H
  iapply (wp_head c 𝒱 a8 a9 a10 a11 a12 a14 a15 mk0 mk1 7 _ I _) $$ H
  iintro H
  iapply Hk
  iexact H

theorem wp_out (g : ℕ) (hg : g < 8) (st : St F) (Y : S512x1024.Idx → Elt F .bf16) (k : Body F) (Φ : PUnit → sProp 𝕄) :
    iprop(heldAt c a13 fullShare Y ∗ heldSt c a14 a15 st)
    ⊢ iprop((iprop(heldAt c a13 fullShare (outS g hg st Y) ∗ heldSt c a14 a15 st) -∗ runs c 𝒱 k Φ)
      -∗ runs c 𝒱 (outP a13 a15 g hg (storesO h13 g hg) k) Φ) := by
  unfold outP heldSt
  iintro ⟨HY, Hm, Ha⟩ Hk
  iapply (wp_ld c 𝒱 a15) $$ Ha
  iintro Ha
  iapply (wp_ld c 𝒱 a15) $$ Ha
  iintro Ha
  iapply (wp_ld c 𝒱 a13) $$ HY
  iintro HY
  iapply (wp_st c 𝒱 a13) $$ HY
  iintro HY
  iapply Hk
  isplitl [HY]
  · iexact HY
  isplitl [Hm]
  · iexact Hm
  iexact Ha

theorem wp_last (st : St F) (Y : S512x1024.Idx → Elt F .bf16) (k : Body F) (Φ : PUnit → sProp 𝕄) :
    iprop(heldAt c a13 fullShare Y ∗ heldSt c a14 a15 st)
    ⊢ iprop((iprop(heldAt c a13 fullShare (lastS st Y) ∗ heldSt c a14 a15 st) -∗ runs c 𝒱 k Φ)
      -∗ runs c 𝒱 (lastP a13 h13 a15 k) Φ) := by
  unfold lastP lastS
  iintro H Hk
  iapply (wp_out c 𝒱 a13 h13 a14 a15 0 _ st _) $$ H
  iintro H
  iapply (wp_out c 𝒱 a13 h13 a14 a15 1 _ st _) $$ H
  iintro H
  iapply (wp_out c 𝒱 a13 h13 a14 a15 2 _ st _) $$ H
  iintro H
  iapply (wp_out c 𝒱 a13 h13 a14 a15 3 _ st _) $$ H
  iintro H
  iapply (wp_out c 𝒱 a13 h13 a14 a15 4 _ st _) $$ H
  iintro H
  iapply (wp_out c 𝒱 a13 h13 a14 a15 5 _ st _) $$ H
  iintro H
  iapply (wp_out c 𝒱 a13 h13 a14 a15 6 _ st _) $$ H
  iintro H
  iapply (wp_out c 𝒱 a13 h13 a14 a15 7 _ st _) $$ H
  iintro H
  iapply Hk
  iexact H

/-- A whole array put over another is the array. -/
theorem put_whole {α : Type} {s : Shape} (x : s.Idx → α) (off : Fin s.rank → ℕ) (h : ∀ a, off a = 0) (w : s.Idx → α) :
    put x off s.size w = w := by
  funext i
  have hi : ∀ a, off a ≤ (i a : ℕ) ∧ (i a : ℕ) < off a + s.size a := fun a => by rw [h a]; exact ⟨Nat.zero_le _, by have := (i a).isLt; omega⟩
  unfold put
  rw [dif_pos hi]
  exact congrArg w (funext fun a => Fin.ext (by show (i a : ℕ) - off a = i a; rw [h a]; rfl))

theorem wp_init (st : St F) (k : Body F) (Φ : PUnit → sProp 𝕄) :
    heldSt c a14 a15 st ⊢ iprop((heldSt c a14 a15 initS -∗ runs c 𝒱 k Φ) -∗ runs c 𝒱 (initP a14 a15 k) Φ) := by
  unfold initP heldSt
  have h3 : ∀ a, (![0, 0, 0] : Fin 3 → ℕ) a = 0 := fun | 0 => rfl | 1 => rfl | 2 => rfl
  iintro ⟨Hm, Ha⟩ Hk
  iapply (wp_ld c 𝒱 a14) $$ Hm
  iintro Hm
  iapply (wp_st c 𝒱 a14) $$ Hm
  rw [put_whole _ _ h3]
  iintro Hm
  iapply (wp_ld c 𝒱 a15) $$ Ha
  iintro Ha
  iapply (wp_st c 𝒱 a15) $$ Ha
  rw [put_whole _ _ h3]
  iintro Ha
  iapply Hk
  isplitl [Hm]
  · iexact Hm
  iexact Ha

end Cert.Kernel11Ideal.Lat
end
-- ==== Proof.LatBody.lean ====
/- The body at one grid point: what it does to the running arrays and to the output block, by the words of its tables. -/
module

public import proofs.«01_k».proof.Proof.LatSteps

@[expose] public section

set_option maxRecDepth 16384

noncomputable section

namespace Cert.Kernel11Ideal.Lat

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel11Ideal Facts₀

variable {F : FTy → Type} [FloatOps F] [Named F] [Facts]

/-- The word of a table a grid point reads. -/
def wd (i : grid0.Coords) (T : S36.Idx → BitVec 32) : BitVec 32 := T ((Rect.unit (s := S36) (k0_off1 i) S1.size (k0_off1_inb i)).emb (Shape.Idx.first (numel1_S1.symm ▸ Nat.one_pos)))

/-- The running arrays after one grid point. -/
def pointS (i : grid0.Coords) (T0 T1 T2 T4 : S36.Idx → BitVec 32) (I : In F) (st : St F) : St F :=
  let st1 := if isOne (wd i T2) = 1#1 then initS else st
  let st2 := if isOne (wd i T4) = 1#1 then stepS (masked (wd i T0) (wd i T1) 0#32) (masked (wd i T0) (wd i T1) 256#32) I st1 else st1
  if isZero (wd i T4) = 1#1 then stepS id id I st2 else st2

/-- The output block after one grid point. -/
def pointY (i : grid0.Coords) (T3 : S36.Idx → BitVec 32) (st : St F) (Y : S512x1024.Idx → Elt F .bf16) : S512x1024.Idx → Elt F .bf16 :=
  if k0_cond4 (wd i T3) = 1#1 then lastS st Y else Y

local notation "𝕄" => MT nD τ sig Unit (Elt F) ℕ (UR sig nD τ) ℕ

variable (c : Dev nD) (𝒱 : Variants)
variable (a8 a9 a10 a11 : Memref sig .tc .vmem S512x1024 .bf16) (a12 : Memref sig .tc .vmem S512x128 .bf16)
  (a13 : Memref sig .tc .vmem S512x1024 .bf16) (h13 : a13.IsWhole)
  (a14 : Memref sig .tc .vmem S8x512x128 .f32) (a15 : Memref sig .tc .vmem S8x512x256 .f32)

theorem wp_pure (Φ : PUnit → sProp 𝕄) : Φ ⟨⟩ ⊢ runs (F := F) c 𝒱 (pure ⟨⟩) Φ := by
  show _ ⊢ wp _ _ _ (.ret _) _
  rw [wp_ret]
  iintro H
  imodintro
  iexact H

theorem wp_init_if (b : BitVec 1) (st : St F) (k : Unit → Body F) (Φ : PUnit → sProp 𝕄) :
    heldSt c a14 a15 st ⊢ iprop((heldSt c a14 a15 (if b = 1#1 then initS else st) -∗ runs c 𝒱 (k ⟨⟩) Φ)
      -∗ runs c 𝒱 (if b = 1#1 then initP a14 a15 (pure ⟨⟩) >>= k else k ⟨⟩) Φ) := by
  by_cases h : b = 1#1
  · rw [if_pos h, if_pos h]
    iintro H Hk
    unfold runs; rw [wp_bind]
    iapply (wp_init c 𝒱 a14 a15 st) $$ H
    iintro H
    iapply (wp_pure c 𝒱 _)
    iapply Hk
    iexact H
  · rw [if_neg h, if_neg h]
    iintro H Hk
    iapply Hk
    iexact H

theorem wp_step_if (b : BitVec 1) (mk0 mk1 : FVec F S256x512 .f32 → FVec F S256x512 .f32)
    (I : In F) (st : St F) (k : Unit → Body F) (Φ : PUnit → sProp 𝕄) :
    iprop(heldIn c a8 a9 a10 a11 a12 I ∗ heldSt c a14 a15 st)
    ⊢ iprop((iprop(heldIn c a8 a9 a10 a11 a12 I ∗ heldSt c a14 a15 (if b = 1#1 then stepS mk0 mk1 I st else st)) -∗ runs c 𝒱 (k ⟨⟩) Φ)
      -∗ runs c 𝒱 (if b = 1#1 then stepP a8 a9 a10 a11 a12 a14 a15 mk0 mk1 (pure ⟨⟩) >>= k else k ⟨⟩) Φ) := by
  by_cases h : b = 1#1
  · rw [if_pos h, if_pos h]
    iintro H Hk
    unfold runs; rw [wp_bind]
    iapply (wp_step c 𝒱 a8 a9 a10 a11 a12 a14 a15 mk0 mk1 I st) $$ H
    iintro H
    iapply (wp_pure c 𝒱 _)
    iapply Hk
    iexact H
  · rw [if_neg h, if_neg h]
    iintro H Hk
    iapply Hk
    iexact H

theorem wp_last_if (b : BitVec 1) (st : St F) (Y : S512x1024.Idx → Elt F .bf16) (k : Unit → Body F) (Φ : PUnit → sProp 𝕄) :
    iprop(heldAt c a13 fullShare Y ∗ heldSt c a14 a15 st)
    ⊢ iprop((iprop(heldAt c a13 fullShare (if b = 1#1 then lastS st Y else Y) ∗ heldSt c a14 a15 st) -∗ runs c 𝒱 (k ⟨⟩) Φ)
      -∗ runs c 𝒱 (if b = 1#1 then lastP a13 h13 a15 (pure ⟨⟩) >>= k else k ⟨⟩) Φ) := by
  by_cases h : b = 1#1
  · rw [if_pos h, if_pos h]
    iintro H Hk
    unfold runs; rw [wp_bind]
    iapply (wp_last c 𝒱 a13 h13 a14 a15 st Y) $$ H
    iintro H
    iapply (wp_pure c 𝒱 _)
    iapply Hk
    iexact H
  · rw [if_neg h, if_neg h]
    iintro H Hk
    iapply Hk
    iexact H

theorem wp_word (m : Memref sig .tc .smem S36 .i32) (i : grid0.Coords) (q : PosShare TreeShare) (f : Buf (Elt F) (m.view.loc (c.tc : Thread nD τ)))
    (h : ∀ a, (k0_off1 i) a + S1.size a ≤ S36.size a) (k : Elt F .i32 → Body F) (Φ : PUnit → sProp 𝕄) :
    ((m.view.loc (c.tc : Thread nD τ)) ↦{q} f) ⊢ iprop((((m.view.loc (c.tc : Thread nD τ)) ↦{q} f) -∗ runs c 𝒱 (k (wd i (m.view.read (Elt F) f))) Φ)
      -∗ runs c 𝒱 (smemLoad m (Rect.unit (s := S36) (k0_off1 i) S1.size h) numel1_S1 rfl >>= k) Φ) :=
  wp_smemLoadElt (Ix := Unit) (Val := Elt F) (Name := ℕ) (U := UR sig nD τ) (Lvl := ℕ) (defs := defs₀ (F := F)) (m := m)
    (r := Rect.unit (s := S36) (k0_off1 i) S1.size h) (hw := View.loads_smem_one rfl numel1_S1) (x := Shape.Idx.first (numel1_S1.symm ▸ Nat.one_pos)) (k := k) (S := Finset.univ) (f := f)
    𝒱 (c.tc : Thread nD τ) none Set.univ (Finset.subset_univ _)

/-- The five tables held, each at a share. -/
def heldT (q : Fin 5 → PosShare TreeShare) (T : pre0.Contents (Elt F)) : sProp 𝕄 :=
  iprop((((c.tc : Thread nD τ).loc main_c) ↦{q 0} T 0) ∗ (((c.tc : Thread nD τ).loc main_c_0) ↦{q 1} T 1) ∗ (((c.tc : Thread nD τ).loc main_c_1) ↦{q 2} T 2)
    ∗ (((c.tc : Thread nD τ).loc main_c_2) ↦{q 3} T 3) ∗ (((c.tc : Thread nD τ).loc main_c_3) ↦{q 4} T 4))

/-- The body at one grid point. -/
theorem wp_body (i : grid0.Coords) (q : Fin 5 → PosShare TreeShare) (T : pre0.Contents (Elt F)) (I : In F) (st : St F)
    (Y : S512x1024.Idx → Elt F .bf16) (Φ : PUnit → sProp 𝕄) :
    iprop(heldT c q T ∗ heldIn c a8 a9 a10 a11 a12 I ∗ heldAt c a13 fullShare Y ∗ heldSt c a14 a15 st)
    ⊢ iprop((iprop(heldT c q T ∗ heldIn c a8 a9 a10 a11 a12 I
          ∗ heldAt c a13 fullShare (pointY i (T 3) (pointS i (T 0) (T 1) (T 2) (T 4) I st) Y)
          ∗ heldSt c a14 a15 (pointS i (T 0) (T 1) (T 2) (T 4) I st)) -∗ Φ ⟨⟩)
      -∗ runs c 𝒱 (bodyP i (Memref.whole main_c) (Memref.whole main_c_0) (Memref.whole main_c_1) (Memref.whole main_c_2) (Memref.whole main_c_3)
        a8 a9 a10 a11 a12 a13 h13 a14 a15) Φ) := by
  unfold bodyP heldT
  dsimp only
  iintro ⟨⟨H0, H1, H2, H3, H4⟩, HI, HY, Hs⟩ Hk
  iapply (wp_word c 𝒱 (Memref.whole main_c) i (q 0) (T 0)) $$ H0
  iintro H0
  iapply (wp_word c 𝒱 (Memref.whole main_c_0) i (q 1) (T 1)) $$ H1
  iintro H1
  iapply (wp_word c 𝒱 (Memref.whole main_c_1) i (q 2) (T 2)) $$ H2
  iintro H2
  iapply (wp_init_if c 𝒱 a14 a15 _ st _) $$ Hs
  iintro Hs
  iapply (wp_word c 𝒱 (Memref.whole main_c_3) i (q 4) (T 4)) $$ H4
  iintro H4
  iapply (wp_step_if c 𝒱 a8 a9 a10 a11 a12 a14 a15 _ _ _ I _ _) $$ [HI Hs]
  · isplitl [HI]
    · iexact HI
    iexact Hs
  iintro ⟨HI, Hs⟩
  iapply (wp_word c 𝒱 (Memref.whole main_c_3) i (q 4) (T 4)) $$ H4
  iintro H4
  iapply (wp_step_if c 𝒱 a8 a9 a10 a11 a12 a14 a15 _ _ _ I _ _) $$ [HI Hs]
  · isplitl [HI]
    · iexact HI
    iexact Hs
  iintro ⟨HI, Hs⟩
  iapply (wp_word c 𝒱 (Memref.whole main_c_2) i (q 3) (T 3)) $$ H3
  iintro H3
  iapply (wp_last_if c 𝒱 a13 h13 a14 a15 _ _ Y _) $$ [HY Hs]
  · isplitl [HY]
    · iexact HY
    iexact Hs
  iintro ⟨HY, Hs⟩
  iapply (wp_pure c 𝒱 Φ)
  iapply Hk
  isplitl [H0 H1 H2 H3 H4]
  · isplitl [H0]
    · iexact H0
    isplitl [H1]
    · iexact H1
    isplitl [H2]
    · iexact H2
    isplitl [H3]
    · iexact H3
    iexact H4
  isplitl [HI]
  · iexact HI
  isplitl [HY]
  · iexact HY
  iexact Hs

end Cert.Kernel11Ideal.Lat
end
-- ==== Proof.LatSched.lean ====
/- The tables' words at every grid point: which tiles a point visits, where it begins and where it ends a row of tiles. -/
module

public import proofs.«01_k».proof.Proof.LatBody

@[expose] public section

set_option maxRecDepth 16384

noncomputable section

namespace Cert.Kernel11Ideal.Lat

open Idealize.ShloMosaic Idealize.ShloMosaic.TcCoe
open Cert.Kernel11Ideal Facts₀ Facts

variable {F : FTy → Type} [FloatOps F] [Named F]

/-- The tile of queries, the tile of keys, and whether the point begins or ends its tile of queries. -/
def qn (j : Fin 36) : ℕ := (lit0 j).toNat
@[inherit_doc qn] def kn (j : Fin 36) : ℕ := (lit1 j).toNat

theorem qn_lt : ∀ j, qn j < 8 := by decide +kernel
theorem kn_lt : ∀ j, kn j < 8 := by decide +kernel
theorem kn_le : ∀ j, kn j ≤ qn j := by decide +kernel
theorem lit0_eq : ∀ j, lit0 j = BitVec.ofNat 32 (qn j) := by decide +kernel
theorem lit1_eq : ∀ j, lit1 j = BitVec.ofNat 32 (kn j) := by decide +kernel
theorem first_iff : ∀ j, isOne (lit2 j) = 1#1 ↔ kn j = 0 := by decide +kernel
theorem last_iff : ∀ j, k0_cond4 (lit3 j) = 1#1 ↔ kn j = qn j := by decide +kernel
theorem diag_iff : ∀ j, isOne (lit4 j) = 1#1 ↔ kn j = qn j := by decide +kernel
theorem below_iff : ∀ j, isZero (lit4 j) = 1#1 ↔ kn j ≠ qn j := by decide +kernel
/-- After a point that does not end its tile of queries the next point takes the next tile of keys. -/
theorem next_of_lt : ∀ j : Fin 36, kn j ≠ qn j → ∃ h : j.val + 1 < 36, qn ⟨j.val + 1, h⟩ = qn j ∧ kn ⟨j.val + 1, h⟩ = kn j + 1 := by decide +kernel
/-- After one that does, the next begins the next tile of queries. -/
theorem next_of_eq : ∀ j : Fin 36, kn j = qn j → ∀ h : j.val + 1 < 36, qn ⟨j.val + 1, h⟩ = qn j + 1 ∧ kn ⟨j.val + 1, h⟩ = 0 := by decide +kernel
theorem point_zero : qn 0 = 0 ∧ kn 0 = 0 := by decide +kernel
theorem point_last : qn 35 = 7 ∧ kn 35 = 7 := by decide +kernel

/-- A table's contents from its list of words. -/
abbrev tabOf (L : Fin 36 → BitVec 32) : S36.Idx → BitVec 32 := fun x => L (S36.rowMajor x)

set_option backward.proofsInPublic true in
/-- The tables' contents. -/
def pf : pre0.Contents (Elt F) := fun
  | ⟨0, _⟩ => tabOf lit0 | ⟨1, _⟩ => tabOf lit1 | ⟨2, _⟩ => tabOf lit2 | ⟨3, _⟩ => tabOf lit3 | ⟨4, _⟩ => tabOf lit4
  | ⟨_ + 5, h⟩ => absurd h (Nat.not_lt.2 (Nat.le_add_left _ _))

theorem off_val : ∀ i : Fin 36, (Scalar.indexCast (BitVec.ofNat 32 i.val) : BitVec 32).toNat = i.val := by decide +kernel
theorem rowMajor_val : ∀ x : S36.Idx, (S36.rowMajor x).val = (x 0).val := by decide +kernel

/-- The word a point reads of a table. -/
theorem wd_lit (i : grid0.Coords) (L : Fin 36 → BitVec 32) : wd i (tabOf L) = L (i 2) := by
  refine congrArg L (Fin.ext ?_)
  refine (rowMajor_val _).trans ?_
  refine Eq.trans ?_ (off_val (i 2))
  show (Scalar.indexCast (BitVec.ofNat 32 (i 2).val) : BitVec 32).toNat + 1 * 0 = _
  omega

theorem blk_row : ∀ (b : Fin 2) (q : Fin 8), (Scalar.addi (Scalar.muli (BitVec.ofNat 32 b.val) 8#32) (BitVec.ofNat 32 q.val)).toNat = 8 * b.val + q.val := by
  decide +kernel

theorem row_of (i : grid0.Coords) (L : Fin 36 → BitVec 32) (n : Fin 36 → ℕ) (hn : ∀ j, n j < 8) (hL : ∀ j, L j = BitVec.ofNat 32 (n j)) :
    (Scalar.addi (Scalar.muli (BitVec.ofNat 32 (i 0).val) 8#32) (wd i (tabOf L))).toNat = 8 * (i 0).val + n (i 2) := by
  have e : wd i (tabOf L) = BitVec.ofNat 32 (n (i 2)) := (wd_lit i L).trans (hL _)
  rw [e]
  exact blk_row (i 0) ⟨n (i 2), hn _⟩

theorem ix_q (i : grid0.Coords) : cc0_transform_0 (F := F) k0_off1_inb numel1_S1 pf i = ![8 * (i 0).val + qn (i 2), 0] := by
  have h := row_of i lit0 qn qn_lt lit0_eq
  have h1 : (Scalar.addi 0#32 (BitVec.ofNat 32 (i 1).val)).toNat = 0 := by
    have : ∀ b : Fin 1, (Scalar.addi 0#32 (BitVec.ofNat 32 b.val)).toNat = 0 := by decide +kernel
    exact this (i 1)
  exact congrArg₂ (fun x y => (![x, y] : Fin 2 → ℕ)) h h1
theorem ix_k (i : grid0.Coords) : cc0_transform_1 (F := F) k0_off1_inb numel1_S1 pf i = ![8 * (i 0).val + kn (i 2), 0] := by
  have h := row_of i lit1 kn kn_lt lit1_eq
  have h1 : (Scalar.addi 0#32 (BitVec.ofNat 32 (i 1).val)).toNat = 0 := by
    have : ∀ b : Fin 1, (Scalar.addi 0#32 (BitVec.ofNat 32 b.val)).toNat = 0 := by decide +kernel
    exact this (i 1)
  exact congrArg₂ (fun x y => (![x, y] : Fin 2 → ℕ)) h h1
theorem ix_v (i : grid0.Coords) : cc0_transform_2 (F := F) k0_off1_inb numel1_S1 pf i = ![8 * (i 0).val + kn (i 2), 1] := by
  have h := row_of i lit1 kn kn_lt lit1_eq
  have h1 : (Scalar.addi 1#32 (BitVec.ofNat 32 (i 1).val)).toNat = 1 := by
    have : ∀ b : Fin 1, (Scalar.addi 1#32 (BitVec.ofNat 32 b.val)).toNat = 1 := by decide +kernel
    exact this (i 1)
  exact congrArg₂ (fun x y => (![x, y] : Fin 2 → ℕ)) h h1
theorem ix_x (i : grid0.Coords) : cc0_transform_3 (F := F) k0_off1_inb numel1_S1 pf i = ![8 * (i 0).val + qn (i 2), 0] := by
  have h := row_of i lit0 qn qn_lt lit0_eq
  have h1 : (Scalar.addi 0#32 (BitVec.ofNat 32 (i 1).val)).toNat = 0 := by
    have : ∀ b : Fin 1, (Scalar.addi 0#32 (BitVec.ofNat 32 b.val)).toNat = 0 := by decide +kernel
    exact this (i 1)
  exact congrArg₂ (fun x y => (![x, y] : Fin 2 → ℕ)) h h1
theorem ix_y (i : grid0.Coords) : cc0_transform_4 (F := F) k0_off1_inb numel1_S1 pf i = ![8 * (i 0).val + kn (i 2), 0] :=
  congrArg₂ (fun x y => (![x, y] : Fin 2 → ℕ)) (row_of i lit1 kn kn_lt lit1_eq) (rfl : (0#32 : BitVec 32).toNat = 0)
theorem ix_o (i : grid0.Coords) : cc0_transform_5 (F := F) k0_off1_inb numel1_S1 pf i = ![8 * (i 0).val + qn (i 2), 0] := by
  have h := row_of i lit0 qn qn_lt lit0_eq
  have h1 : (BitVec.ofNat 32 (i 1).val).toNat = 0 := by
    have : ∀ b : Fin 1, (BitVec.ofNat 32 b.val).toNat = 0 := by decide +kernel
    exact this (i 1)
  exact congrArg₂ (fun x y => (![x, y] : Fin 2 → ℕ)) h h1

theorem ok_kv : ∀ (r : Fin 16) (c : Fin 2), ∃ h : (∀ a, ((![r.val, c.val] : Fin 2 → ℕ) a + 1) * S512x1024.size a ≤ S8192x2048.size a),
    EltTy.bits .bf16 = 32 ∨ (Rect.block (s := S8192x2048) S512x1024.size ![r.val, c.val] h).WholeWords (EltTy.packing .bf16) := by decide +kernel
theorem ok_q : ∀ (r : Fin 16), ∃ h : (∀ a, ((![r.val, 0] : Fin 2 → ℕ) a + 1) * S512x1024.size a ≤ S8192x1024.size a),
    EltTy.bits .bf16 = 32 ∨ (Rect.block (s := S8192x1024) S512x1024.size ![r.val, 0] h).WholeWords (EltTy.packing .bf16) := by decide +kernel
theorem ok_y : ∀ (r : Fin 16), ∃ h : (∀ a, ((![r.val, 0] : Fin 2 → ℕ) a + 1) * S512x128.size a ≤ S8192x128.size a),
    EltTy.bits .bf16 = 32 ∨ (Rect.block (s := S8192x128) S512x128.size ![r.val, 0] h).WholeWords (EltTy.packing .bf16) := by decide +kernel

theorem row_lt (i : grid0.Coords) (n : ℕ) (h : n < 8) : 8 * (i 0).val + n < 16 := by
  have : (i 0).val < 2 := (i 0).isLt
  omega

/-- The blocks the tables name lie in their arrays. -/
theorem okT : ok0 (F := F) pf := by
  refine ⟨fun i => ?_, fun i => ?_, fun i => ?_, fun i => ?_, fun i => ?_, fun i => ?_⟩
  · rw [ix_q]; exact ok_q ⟨_, row_lt i _ (qn_lt _)⟩
  · rw [ix_k]; exact ok_kv ⟨_, row_lt i _ (kn_lt _)⟩ 0
  · rw [ix_v]; exact ok_kv ⟨_, row_lt i _ (kn_lt _)⟩ 1
  · rw [ix_x]; exact ok_q ⟨_, row_lt i _ (qn_lt _)⟩
  · rw [ix_y]; exact ok_y ⟨_, row_lt i _ (kn_lt _)⟩
  · rw [ix_o]; exact ok_q ⟨_, row_lt i _ (qn_lt _)⟩

/-- The tables as the pipeline takes them. -/
def adm : (pcfg0 (F := F)).Adm := ⟨pf, okT⟩

/-- Every pipeline's tables. -/
def adms : (p : Fin 1) → (pcfgs (F := F) p).Adm := fun _ => adm

end Cert.Kernel11Ideal.Lat
end
-- ==== Proof.LatFrame.lean ====
/- The pipeline's run: what every point leaves, the body's obligation, and the whole program's frame. -/
module

public import proofs.«01_k».proof.Proof.LatSched
public import Idealize.ShloMosaic.Lib.Pipeline.FrameBody

@[expose] public section

set_option maxRecDepth 16384

noncomputable section

namespace Cert.Kernel11Ideal.Lat

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.Kernel11Ideal Facts₀ Facts

variable {F : FTy → Type} [FloatOps F] [Named F]

local notation "𝕄" => MT nD τ sig Unit (Elt F) ℕ (UR sig nD τ) ℕ

/-- The pipeline at its tables. -/
abbrev cfgT : Cfg sig Λ₀ := pin (pcfgs (F := F)) adms 0

/-- The host operations before the kernel, in order. -/
abbrev hostOps : List (List (HloOp τ sig (Elt F))) := [Gen.hostOps0, Gen.hostOps0_1, Gen.hostOps0_2, Gen.hostOps0_3, Gen.hostOps0_4]

/-- The arrays as the host operations leave them. -/
def V (m : (ℓ : Loc nD τ sig) → Buf (Elt F) ℓ) (c : Dev nD) (b : Ref sig .tc) : Buf (Elt F) ((c.tc : Thread nD τ).loc b) :=
  StableHlo.after (hostOps (F := F)).flatten (fun b => m (c, b)) b

variable (m : (ℓ : Loc nD τ sig) → Buf (Elt F) ℓ) (c : Dev nD)

/-- The blocks a point reads. -/
def blkQ (t : Fin grid0.N) : S512x1024.Idx → Elt F .bf16 := (((cfgT (F := F)).win 0).blk t).view.read (Elt F) (V m c main_v2)
@[inherit_doc blkQ] def blkK (t : Fin grid0.N) : S512x1024.Idx → Elt F .bf16 := (((cfgT (F := F)).win 1).blk t).view.read (Elt F) (V m c main_v15)
@[inherit_doc blkQ] def blkV (t : Fin grid0.N) : S512x1024.Idx → Elt F .bf16 := (((cfgT (F := F)).win 2).blk t).view.read (Elt F) (V m c main_v15)
@[inherit_doc blkQ] def blkX (t : Fin grid0.N) : S512x1024.Idx → Elt F .bf16 := (((cfgT (F := F)).win 3).blk t).view.read (Elt F) (V m c main_v6)
@[inherit_doc blkQ] def blkY (t : Fin grid0.N) : S512x128.Idx → Elt F .bf16 := (((cfgT (F := F)).win 4).blk t).view.read (Elt F) (V m c main_v9)
/-- Those blocks together. -/
def blkI (t : Fin grid0.N) : In F := ⟨blkQ m c t, blkK m c t, blkV m c t, blkX m c t, blkY m c t⟩

/-- The running arrays after a point that found `st`. -/
def stepAt (t : Fin grid0.N) (st : St F) : St F :=
  pointS (grid0.coords t) (tabOf lit0) (tabOf lit1) (tabOf lit2) (tabOf lit4) (blkI m c t) st

/-- The running arrays before each point. -/
def traj : ℕ → St F
  | 0 => initS
  | n + 1 => if h : n < grid0.N then stepAt m c ⟨n, h⟩ (traj n) else traj n

/-- The output block where it is written. -/
def outBlk (t : Fin grid0.N) : S512x1024.Idx → Elt F .bf16 := lastS (traj m c (t.val + 1)) (fun _ => Scalar.ofBits .bf16 0x0000#16)

/-- The pipeline's data. -/
def dat : Dat τ (Elt F) Unit ℕ (UR sig nD τ) ℕ (cfgT (F := F)) c where
  A := fun w => V m c (arrRef (cfgT (F := F)).spec w)
  after := fun
    | 0 => blkQ m c
    | 1 => blkK m c
    | 2 => blkV m c
    | 3 => blkX m c
    | 4 => blkY m c
    | 5 => outBlk m c
    | ⟨_ + 6, h⟩ => absurd h (Nat.not_lt.2 (Nat.le_add_left _ _))
  Φ := fun t => iprop(heldT c (fun _ => fullShare.right) pf ∗ (∃ r, prngReg c r)
    ∗ ∃ st : St F, ⌜0 < t.val → st = traj m c t.val⌝ ∗ heldSt c (Memref.whole cc0_scratch0) (Memref.whole cc0_scratch1) st)
  q := fun w => shareOf (cfgT (F := F)).spec w
  owed := fun _ => 0

/-! ## The schedule -/

theorem coord_two (t : Fin grid0.N) : ((grid0.coords t 2 : Fin 36) : ℕ) = t.val % 36 := by
  have : ∀ t : Fin grid0.N, ((grid0.coords t 2 : Fin 36) : ℕ) = t.val % 36 := by decide +kernel
  exact this t
theorem coord_zero (t : Fin grid0.N) : ((grid0.coords t 0 : Fin 2) : ℕ) = t.val / 36 := by
  have : ∀ t : Fin grid0.N, ((grid0.coords t 0 : Fin 2) : ℕ) = t.val / 36 := by decide +kernel
  exact this t

/-- The output's block index at a point. -/
def oix (t : Fin grid0.N) : Fin 2 → ℕ := ![8 * ((grid0.coords t 0 : Fin 2) : ℕ) + qn (grid0.coords t 2), 0]

theorem index_o (t : Fin grid0.N) : ((cfgT (F := F)).win 5).index t = oix t := ix_o (grid0.coords t)

theorem flush_oix : ∀ t : Fin grid0.N, ((t.val + 1 = grid0.N : Bool) || decide (∃ h : t.val + 1 < grid0.N, oix ⟨t.val + 1, h⟩ ≠ oix t))
    = decide (kn (grid0.coords t 2) = qn (grid0.coords t 2)) := by decide +kernel

/-- The output is written back exactly where a point ends its tile of queries. -/
theorem flush_o (t : Fin grid0.N) : ((cfgT (F := F)).win 5).flush t = decide (kn (grid0.coords t 2) = qn (grid0.coords t 2)) := by
  rw [← flush_oix]
  have e : (((cfgT (F := F)).win 5).index : Fin grid0.N → Fin 2 → ℕ) = oix := funext index_o
  have gen : ∀ f : Fin grid0.N → Fin 2 → ℕ, f = oix →
      (true && ((t.val + 1 = grid0.N : Bool) || decide (∃ h : t.val + 1 < grid0.N, f ⟨t.val + 1, h⟩ ≠ f t)))
        = ((t.val + 1 = grid0.N : Bool) || decide (∃ h : t.val + 1 < grid0.N, oix ⟨t.val + 1, h⟩ ≠ oix t)) := by
    rintro f rfl; rfl
  exact gen _ e

theorem idle_o (t : Fin grid0.N) : (cfgT (F := F)).idle 5 (grid0.coords t) = !decide (kn (grid0.coords t 2) = qn (grid0.coords t 2)) := by
  have hb : ∀ a, (k0_off4 (grid0.coords t)) a + 1 ≤ S36.size a := fun | 0 => k0_off4_inb (grid0.coords t) 0
  have e : (pf (F := F)).atD 3 (k0_off4 (grid0.coords t)) = lit3 (grid0.coords t 2) := by
    refine (dif_pos hb).trans ?_
    exact wd_lit (grid0.coords t) lit3
  show (!(k0_cond4 ((pf (F := F)).atD 3 (k0_off4 (grid0.coords t))) == 1#1)) = _
  rw [e]
  by_cases h : kn (grid0.coords t 2) = qn (grid0.coords t 2)
  · rw [(last_iff _).2 h, decide_eq_true h]; rfl
  · have : k0_cond4 (lit3 (grid0.coords t 2)) ≠ 1#1 := fun hh => h ((last_iff _).1 hh)
    rw [decide_eq_false h, beq_eq_false_iff_ne.2 this]

/-! ## The output block does not depend on what it held -/

theorem put_at {α : Type} {s : Shape} (x : s.Idx → α) (off size : Fin s.rank → ℕ) (w : ((a : Fin s.rank) → Fin (size a)) → α) (i : s.Idx)
    (h : ∀ a, off a ≤ (i a).val ∧ (i a).val < off a + size a) :
    VecWindow.put x off size w i = w (Rect.unitLocal (s := s) (off := off) (size := size) i h) := dif_pos h
theorem put_off {α : Type} {s : Shape} (x : s.Idx → α) (off size : Fin s.rank → ℕ) (w : ((a : Fin s.rank) → Fin (size a)) → α) (i : s.Idx)
    (h : ¬ ∀ a, off a ≤ (i a).val ∧ (i a).val < off a + size a) :
    VecWindow.put x off size w i = x i := dif_neg h

theorem inO (g : ℕ) (i : S512x1024.Idx) : (∀ a, (![0, 128 * g] : Fin 2 → ℕ) a ≤ (i a).val ∧ (i a).val < (![0, 128 * g] : Fin 2 → ℕ) a + S512x128.size a)
    ↔ (i 1).val / 128 = g := by
  constructor
  · intro h
    have h1 : 128 * g ≤ (i 1).val ∧ (i 1).val < 128 * g + 128 := h 1
    omega
  · intro h
    have h0 : (i 0).val < 512 := (i 0).isLt
    exact fun
      | 0 => show 0 ≤ (i 0).val ∧ (i 0).val < 0 + 512 by omega
      | 1 => show 128 * g ≤ (i 1).val ∧ (i 1).val < 128 * g + 128 by omega

/-- One head's result, by itself. -/
def quotS (st : St F) (g : ℕ) (hg : g < 8) : FVec F S512x128 .bf16 :=
  quot (VecWindow.window st.a ![g, 0, 0] S1x512x128.size (inbN g 0 hg (by omega))) (VecWindow.window st.a ![g, 0, 128] S1x512x128.size (inbN g 128 hg (by omega)))

theorem outS_at (g : ℕ) (hg : g < 8) (st : St F) (Y : S512x1024.Idx → Elt F .bf16) (i : S512x1024.Idx) (h : (i 1).val / 128 = g) :
    outS g hg st Y i = quotS st g hg (Rect.unitLocal (s := S512x1024) (off := ![0, 128 * g]) (size := S512x128.size) i ((inO g i).2 h)) := put_at _ _ _ _ _ _
theorem outS_off (g : ℕ) (hg : g < 8) (st : St F) (Y : S512x1024.Idx → Elt F .bf16) (i : S512x1024.Idx) (h : (i 1).val / 128 ≠ g) :
    outS g hg st Y i = Y i := put_off _ _ _ _ _ (fun hh => h ((inO g i).1 hh))

/-- An element of the output block. -/
theorem lastS_at (st : St F) (Y : S512x1024.Idx → Elt F .bf16) (i : S512x1024.Idx) (g : ℕ) (hg : g < 8) (h : (i 1).val / 128 = g) :
    lastS st Y i = quotS st g hg (Rect.unitLocal (s := S512x1024) (off := ![0, 128 * g]) (size := S512x128.size) i ((inO g i).2 h)) := by
  unfold lastS
  have hne : ∀ n, n ≠ g → (i 1).val / 128 ≠ n := fun n hn hh => hn (hh.symm.trans h)
  by_cases h7 : g = 7
  · subst h7; exact outS_at 7 _ st _ i h
  rw [outS_off 7 _ st _ i (hne 7 (Ne.symm h7))]
  by_cases h6 : g = 6
  · subst h6; exact outS_at 6 _ st _ i h
  rw [outS_off 6 _ st _ i (hne 6 (Ne.symm h6))]
  by_cases h5 : g = 5
  · subst h5; exact outS_at 5 _ st _ i h
  rw [outS_off 5 _ st _ i (hne 5 (Ne.symm h5))]
  by_cases h4 : g = 4
  · subst h4; exact outS_at 4 _ st _ i h
  rw [outS_off 4 _ st _ i (hne 4 (Ne.symm h4))]
  by_cases h3 : g = 3
  · subst h3; exact outS_at 3 _ st _ i h
  rw [outS_off 3 _ st _ i (hne 3 (Ne.symm h3))]
  by_cases h2 : g = 2
  · subst h2; exact outS_at 2 _ st _ i h
  rw [outS_off 2 _ st _ i (hne 2 (Ne.symm h2))]
  by_cases h1 : g = 1
  · subst h1; exact outS_at 1 _ st _ i h
  rw [outS_off 1 _ st _ i (hne 1 (Ne.symm h1))]
  have h0 : g = 0 := by omega
  subst h0; exact outS_at 0 _ st _ i h

theorem lastS_any (st : St F) (Y Y' : S512x1024.Idx → Elt F .bf16) : lastS st Y = lastS st Y' := by
  funext i
  have hi : (i 1).val < 1024 := (i 1).isLt
  have hg : (i 1).val / 128 < 8 := by omega
  rw [lastS_at st Y i _ hg rfl, lastS_at st Y' i _ hg rfl]

/-! ## The body's obligation -/

theorem before_q (t : Fin grid0.N) (d) : (dat m c).before 0 t d = blkQ m c t :=
  (dat m c).before_in_eq_fetched 0 rfl (fun _ => rfl) (fun _ _ _ => rfl) (fun _ => rfl) t d
theorem before_k (t : Fin grid0.N) (d) : (dat m c).before 1 t d = blkK m c t :=
  (dat m c).before_in_eq_fetched 1 rfl (fun _ => rfl) (fun _ _ _ => rfl) (fun _ => rfl) t d
theorem before_v (t : Fin grid0.N) (d) : (dat m c).before 2 t d = blkV m c t :=
  (dat m c).before_in_eq_fetched 2 rfl (fun _ => rfl) (fun _ _ _ => rfl) (fun _ => rfl) t d
theorem before_x (t : Fin grid0.N) (d) : (dat m c).before 3 t d = blkX m c t :=
  (dat m c).before_in_eq_fetched 3 rfl (fun _ => rfl) (fun _ _ _ => rfl) (fun _ => rfl) t d
theorem before_y (t : Fin grid0.N) (d) : (dat m c).before 4 t d = blkY m c t :=
  (dat m c).before_in_eq_fetched 4 rfl (fun _ => rfl) (fun _ _ _ => rfl) (fun _ => rfl) t d

theorem first_zero (t : Fin grid0.N) (h : t.val = 0) (I : In F) (st st' : St F) :
    pointS (grid0.coords t) (tabOf lit0) (tabOf lit1) (tabOf lit2) (tabOf lit4) I st
      = pointS (grid0.coords t) (tabOf lit0) (tabOf lit1) (tabOf lit2) (tabOf lit4) I st' := by
  have h1 : isOne (wd (grid0.coords t) (tabOf lit2)) = 1#1 := by
    rw [wd_lit]
    have e : ∀ t : Fin grid0.N, t.val = 0 → isOne (lit2 (grid0.coords t 2)) = 1#1 := by decide +kernel
    exact e t h
  unfold pointS
  simp only [if_pos h1]

theorem stepAt_traj (t : Fin grid0.N) (st : St F) (h : 0 < t.val → st = traj m c t.val) :
    stepAt m c t st = traj m c (t.val + 1) := by
  have e : traj m c (t.val + 1) = stepAt m c t (traj m c t.val) := by
    show (if h : t.val < grid0.N then stepAt m c ⟨t.val, h⟩ (traj m c t.val) else traj m c t.val) = _
    rw [dif_pos t.isLt]
  rw [e]
  rcases Nat.eq_zero_or_pos t.val with h0 | h0
  · exact first_zero t h0 _ _ _
  · rw [h h0]

theorem pointY_eq (t : Fin grid0.N) (st : St F) (Y : S512x1024.Idx → Elt F .bf16) :
    pointY (grid0.coords t) (tabOf lit3) st Y = if kn (grid0.coords t 2) = qn (grid0.coords t 2) then lastS st Y else Y := by
  unfold pointY
  rw [wd_lit]
  by_cases h : kn (grid0.coords t 2) = qn (grid0.coords t 2)
  · rw [if_pos h, if_pos ((last_iff _).2 h)]
  · rw [if_neg h, if_neg (fun hh => h ((last_iff _).1 hh))]

/-- The invariant written out. -/
theorem phi_eq (t : Fin (grid0.N + 1)) : (dat m c).Φ t = iprop(heldT c (fun _ => fullShare.right) pf ∗ (∃ r, prngReg c r)
    ∗ ∃ st : St F, ⌜0 < t.val → st = traj m c t.val⌝ ∗ heldSt c (Memref.whole cc0_scratch0) (Memref.whole cc0_scratch1) st) := rfl

theorem owns_held {s : Shape} {e : EltTy} (mm : Memref sig .tc .vmem s e) (X Y : s.Idx → Elt F e) (h : X = Y) :
    (owns (c.tc : Thread nD τ) mm fullShare X : sProp 𝕄) ⊢ heldAt c mm fullShare Y := by
  subst h; rw [owns_eq_rep]
theorem held_owns {s : Shape} {e : EltTy} (mm : Memref sig .tc .vmem s e) (X Y : s.Idx → Elt F e) (h : X = Y) :
    heldAt c mm fullShare X ⊢ (owns (c.tc : Thread nD τ) mm fullShare Y : sProp 𝕄) := by
  subst h; rw [owns_eq_rep]
/-- The staging buffers of a point, as memrefs. -/
abbrev stq (t : Fin grid0.N) : Memref sig .tc .vmem S512x1024 .bf16 := stage0_0 ((cfgT (F := F)).slots t 0)
@[inherit_doc stq] abbrev stk (t : Fin grid0.N) : Memref sig .tc .vmem S512x1024 .bf16 := stage0_1 ((cfgT (F := F)).slots t 1)
@[inherit_doc stq] abbrev stv (t : Fin grid0.N) : Memref sig .tc .vmem S512x1024 .bf16 := stage0_2 ((cfgT (F := F)).slots t 2)
@[inherit_doc stq] abbrev stx (t : Fin grid0.N) : Memref sig .tc .vmem S512x1024 .bf16 := stage0_3 ((cfgT (F := F)).slots t 3)
@[inherit_doc stq] abbrev sty (t : Fin grid0.N) : Memref sig .tc .vmem S512x128 .bf16 := stage0_4 ((cfgT (F := F)).slots t 4)
@[inherit_doc stq] abbrev sto (t : Fin grid0.N) : Memref sig .tc .vmem S512x1024 .bf16 := stage0_5 ((cfgT (F := F)).slots t 5)
theorem sto_whole (t : Fin grid0.N) : (sto (F := F) t).IsWhole := hstage0_5 ((cfgT (F := F)).slots t 5)

/-- What a point is handed of a window and what it hands back. -/
def giv_q (t : Fin grid0.N) : sProp 𝕄 := iprop(∃ d, owns (c.tc : Thread nD τ) (((cfgT (F := F)).win 0).stage ((cfgT (F := F)).slots t 0)) fullShare ((dat m c).before 0 t d))
@[inherit_doc giv_q] def ret_q (t : Fin grid0.N) : sProp 𝕄 := owns (c.tc : Thread nD τ) (((cfgT (F := F)).win 0).stage ((cfgT (F := F)).slots t 0)) fullShare ((dat m c).after 0 t)
theorem open_q (t : Fin grid0.N) : giv_q m c t ⊢ heldAt c (stq (F := F) t) fullShare (blkQ m c t) := by
  unfold giv_q
  exact exists_elim fun d => owns_held c (stq (F := F) t) _ _ (before_q m c t d)
theorem close_q (t : Fin grid0.N) : heldAt c (stq (F := F) t) fullShare (blkI m c t).q ⊢ ret_q m c t :=
  held_owns c (stq (F := F) t) _ _ rfl
/-- What a point is handed of a window and what it hands back. -/
def giv_k (t : Fin grid0.N) : sProp 𝕄 := iprop(∃ d, owns (c.tc : Thread nD τ) (((cfgT (F := F)).win 1).stage ((cfgT (F := F)).slots t 1)) fullShare ((dat m c).before 1 t d))
@[inherit_doc giv_k] def ret_k (t : Fin grid0.N) : sProp 𝕄 := owns (c.tc : Thread nD τ) (((cfgT (F := F)).win 1).stage ((cfgT (F := F)).slots t 1)) fullShare ((dat m c).after 1 t)
theorem open_k (t : Fin grid0.N) : giv_k m c t ⊢ heldAt c (stk (F := F) t) fullShare (blkK m c t) := by
  unfold giv_k
  exact exists_elim fun d => owns_held c (stk (F := F) t) _ _ (before_k m c t d)
theorem close_k (t : Fin grid0.N) : heldAt c (stk (F := F) t) fullShare (blkI m c t).k ⊢ ret_k m c t :=
  held_owns c (stk (F := F) t) _ _ rfl
/-- What a point is handed of a window and what it hands back. -/
def giv_v (t : Fin grid0.N) : sProp 𝕄 := iprop(∃ d, owns (c.tc : Thread nD τ) (((cfgT (F := F)).win 2).stage ((cfgT (F := F)).slots t 2)) fullShare ((dat m c).before 2 t d))
@[inherit_doc giv_v] def ret_v (t : Fin grid0.N) : sProp 𝕄 := owns (c.tc : Thread nD τ) (((cfgT (F := F)).win 2).stage ((cfgT (F := F)).slots t 2)) fullShare ((dat m c).after 2 t)
theorem open_v (t : Fin grid0.N) : giv_v m c t ⊢ heldAt c (stv (F := F) t) fullShare (blkV m c t) := by
  unfold giv_v
  exact exists_elim fun d => owns_held c (stv (F := F) t) _ _ (before_v m c t d)
theorem close_v (t : Fin grid0.N) : heldAt c (stv (F := F) t) fullShare (blkI m c t).v ⊢ ret_v m c t :=
  held_owns c (stv (F := F) t) _ _ rfl
/-- What a point is handed of a window and what it hands back. -/
def giv_x (t : Fin grid0.N) : sProp 𝕄 := iprop(∃ d, owns (c.tc : Thread nD τ) (((cfgT (F := F)).win 3).stage ((cfgT (F := F)).slots t 3)) fullShare ((dat m c).before 3 t d))
@[inherit_doc giv_x] def ret_x (t : Fin grid0.N) : sProp 𝕄 := owns (c.tc : Thread nD τ) (((cfgT (F := F)).win 3).stage ((cfgT (F := F)).slots t 3)) fullShare ((dat m c).after 3 t)
theorem open_x (t : Fin grid0.N) : giv_x m c t ⊢ heldAt c (stx (F := F) t) fullShare (blkX m c t) := by
  unfold giv_x
  exact exists_elim fun d => owns_held c (stx (F := F) t) _ _ (before_x m c t d)
theorem close_x (t : Fin grid0.N) : heldAt c (stx (F := F) t) fullShare (blkI m c t).x ⊢ ret_x m c t :=
  held_owns c (stx (F := F) t) _ _ rfl
/-- What a point is handed of a window and what it hands back. -/
def giv_y (t : Fin grid0.N) : sProp 𝕄 := iprop(∃ d, owns (c.tc : Thread nD τ) (((cfgT (F := F)).win 4).stage ((cfgT (F := F)).slots t 4)) fullShare ((dat m c).before 4 t d))
@[inherit_doc giv_y] def ret_y (t : Fin grid0.N) : sProp 𝕄 := owns (c.tc : Thread nD τ) (((cfgT (F := F)).win 4).stage ((cfgT (F := F)).slots t 4)) fullShare ((dat m c).after 4 t)
theorem open_y (t : Fin grid0.N) : giv_y m c t ⊢ heldAt c (sty (F := F) t) fullShare (blkY m c t) := by
  unfold giv_y
  exact exists_elim fun d => owns_held c (sty (F := F) t) _ _ (before_y m c t d)
theorem close_y (t : Fin grid0.N) : heldAt c (sty (F := F) t) fullShare (blkI m c t).y ⊢ ret_y m c t :=
  held_owns c (sty (F := F) t) _ _ rfl
/-- The output block as a point finds it. -/
def foundO (t : Fin grid0.N) (d : S512x1024.Idx → Elt F .bf16) : S512x1024.Idx → Elt F .bf16 := (dat m c).before 5 t d
/-- What a point is handed of the output's window and what it hands back. -/
def giv_o (t : Fin grid0.N) : sProp 𝕄 := iprop(∃ d, owns (c.tc : Thread nD τ) (sto (F := F) t) fullShare (foundO m c t d))
@[inherit_doc giv_o] def ret_o (t : Fin grid0.N) : sProp 𝕄 :=
  match (cfgT (F := F)).idle 5 (grid0.coords t) with
  | true => match ((cfgT (F := F)).win 5).flush t with
    | false => giv_o m c t
    | true => owns (c.tc : Thread nD τ) (sto (F := F) t) fullShare (outBlk m c t)
  | false => owns (c.tc : Thread nD τ) (sto (F := F) t) fullShare (outBlk m c t)
theorem open_o (t : Fin grid0.N) : giv_o m c t ⊢ iprop(∃ d, heldAt c (sto (F := F) t) fullShare (foundO m c t d)) := by
  unfold giv_o
  iintro ⟨%d, H⟩
  iexists d
  iapply (owns_held c (sto (F := F) t) _ _ rfl) $$ H
theorem close_o (t : Fin grid0.N) (d) : heldAt c (sto (F := F) t) fullShare (pointY (grid0.coords t) (tabOf lit3) (traj m c (t.val + 1)) (foundO m c t d)) ⊢ ret_o m c t := by
  unfold ret_o
  rw [idle_o, flush_o, pointY_eq]
  by_cases h : kn (grid0.coords t 2) = qn (grid0.coords t 2)
  · rw [if_pos h, decide_eq_true h]
    exact held_owns c (sto (F := F) t) _ _ (lastS_any _ _ _)
  · rw [if_neg h, decide_eq_false h]
    exact (held_owns c (sto (F := F) t) _ _ rfl).trans (exists_intro (Φ := fun d => (owns (c.tc : Thread nD τ) (sto (F := F) t) fullShare (foundO m c t d) : sProp 𝕄)) d)

/-- The invariant between points. -/
def phi (n : ℕ) : sProp 𝕄 := iprop(heldT c (fun _ => fullShare.right) (pf (F := F)) ∗ (∃ r, prngReg c r)
    ∗ ∃ st : St F, ⌜0 < n → st = traj m c n⌝ ∗ heldSt c (Memref.whole cc0_scratch0) (Memref.whole cc0_scratch1) st)

theorem body_run (𝒱 : Variants) (t : Fin grid0.N) (O : sProp 𝕄) :
    iprop(phi m c t.val ∗ O ∗ giv_q m c t ∗ giv_k m c t ∗ giv_v m c t ∗ giv_x m c t ∗ giv_y m c t ∗ giv_o m c t)
    ⊢ runs c 𝒱 (bodyP (grid0.coords t) (Memref.whole main_c) (Memref.whole main_c_0) (Memref.whole main_c_1) (Memref.whole main_c_2) (Memref.whole main_c_3)
        (stq (F := F) t) (stk (F := F) t) (stv (F := F) t) (stx (F := F) t) (sty (F := F) t) (sto (F := F) t) (sto_whole t) (Memref.whole cc0_scratch0) (Memref.whole cc0_scratch1))
      fun _ => iprop(phi m c (t.val + 1) ∗ O ∗ ret_q m c t ∗ ret_k m c t ∗ ret_v m c t ∗ ret_x m c t ∗ ret_y m c t ∗ ret_o m c t) := by
  unfold phi
  iintro ⟨⟨HT, Hp, %st, %hst, Hs⟩, Ho, H0, H1, H2, H3, H4, H5⟩
  ihave H0 := (open_q m c t) $$ H0
  ihave H1 := (open_k m c t) $$ H1
  ihave H2 := (open_v m c t) $$ H2
  ihave H3 := (open_x m c t) $$ H3
  ihave H4 := (open_y m c t) $$ H4
  ihave H5 := (open_o m c t) $$ H5
  icases H5 with ⟨%d5, H5⟩
  iapply (wp_body c 𝒱 (stq (F := F) t) (stk (F := F) t) (stv (F := F) t) (stx (F := F) t) (sty (F := F) t) (sto (F := F) t) (sto_whole t)
    (Memref.whole cc0_scratch0) (Memref.whole cc0_scratch1)
    (grid0.coords t) (fun _ => fullShare.right) pf (blkI m c t) st (foundO m c t d5)) $$ [HT H0 H1 H2 H3 H4 H5 Hs]
  · isplitl [HT]
    · iexact HT
    isplitl [H0 H1 H2 H3 H4]
    · isplitl [H0]
      · iexact H0
      isplitl [H1]
      · iexact H1
      isplitl [H2]
      · iexact H2
      isplitl [H3]
      · iexact H3
      iexact H4
    isplitl [H5]
    · iexact H5
    iexact Hs
  have e' : pointS (grid0.coords t) (pf (F := F) 0) (pf (F := F) 1) (pf (F := F) 2) (pf (F := F) 4) (blkI m c t) st
      = traj m c (t.val + 1) := stepAt_traj m c t st hst
  rw [e', show pf (F := F) 3 = tabOf lit3 from rfl]
  iintro ⟨HT, ⟨H0, H1, H2, H3, H4⟩, H5, Hs⟩
  isplitl [HT Hp Hs]
  · isplitl [HT]
    · iexact HT
    isplitl [Hp]
    · iexact Hp
    iexists traj m c (t.val + 1)
    isplitr
    · ipureintro
      exact fun _ => rfl
    iexact Hs
  isplitl [Ho]
  · iexact Ho
  isplitl [H0]
  · iapply (close_q m c t) $$ H0
  isplitl [H1]
  · iapply (close_k m c t) $$ H1
  isplitl [H2]
  · iapply (close_v m c t) $$ H2
  isplitl [H3]
  · iapply (close_x m c t) $$ H3
  isplitl [H4]
  · iapply (close_y m c t) $$ H4
  iapply (close_o m c t d5) $$ H5

theorem phi_at (t : Fin grid0.N) : (dat m c).Φ t.castSucc = phi m c t.val := rfl
theorem phi_next (t : Fin grid0.N) : (dat m c).Φ t.succ = phi m c (t.val + 1) := rfl
theorem found_q (t : Fin grid0.N) : iprop(∃ d, owns (c.tc : Thread nD τ) (((cfgT (F := F)).win 0).stage ((cfgT (F := F)).slots t 0)) fullShare ((dat m c).before 0 t d)) = giv_q m c t := rfl
theorem found_k (t : Fin grid0.N) : iprop(∃ d, owns (c.tc : Thread nD τ) (((cfgT (F := F)).win 1).stage ((cfgT (F := F)).slots t 1)) fullShare ((dat m c).before 1 t d)) = giv_k m c t := rfl
theorem found_v (t : Fin grid0.N) : iprop(∃ d, owns (c.tc : Thread nD τ) (((cfgT (F := F)).win 2).stage ((cfgT (F := F)).slots t 2)) fullShare ((dat m c).before 2 t d)) = giv_v m c t := rfl
theorem found_x (t : Fin grid0.N) : iprop(∃ d, owns (c.tc : Thread nD τ) (((cfgT (F := F)).win 3).stage ((cfgT (F := F)).slots t 3)) fullShare ((dat m c).before 3 t d)) = giv_x m c t := rfl
theorem found_y (t : Fin grid0.N) : iprop(∃ d, owns (c.tc : Thread nD τ) (((cfgT (F := F)).win 4).stage ((cfgT (F := F)).slots t 4)) fullShare ((dat m c).before 4 t d)) = giv_y m c t := rfl
theorem found_o (t : Fin grid0.N) : iprop(∃ d, owns (c.tc : Thread nD τ) (((cfgT (F := F)).win 5).stage ((cfgT (F := F)).slots t 5)) fullShare ((dat m c).before 5 t d)) = giv_o m c t := rfl

/-- One grid point, as the pipeline asks for it. -/
theorem body_ok (𝒱 : Variants) : BodyObligationLoose (dat m c) (defs₀ (F := F)) 𝒱 () Set.univ := by
  intro t
  rw [Gen.bigSep_W0, Gen.bigSep_W0]
  refine BIBase.Entails.trans (Q := (runs c 𝒱 (defs₀ (F := F) .tc (cfgT (F := F)).body ((cfgT (F := F)).bodyArgs t ((cfgT (F := F)).slots t)))
      fun _ => iprop(phi m c (t.val + 1) ∗ (dat m c).owesAt () t.castSucc ∗ ret_q m c t ∗ ret_k m c t ∗ ret_v m c t ∗ ret_x m c t ∗ ret_y m c t ∗ ret_o m c t))) ?_ (wp_mono _ _ _ fun u => ?_)
  · refine BIBase.Entails.trans ?_ (body_run m c 𝒱 t ((dat m c).owesAt () t.castSucc))
    exact BIClass.sep_mono (BIBase.Entails.of_eq (phi_at m c t)) (BIClass.sep_mono BIBase.Entails.rfl (BIClass.sep_mono (BIBase.Entails.of_eq (found_q m c t)) (BIClass.sep_mono (BIBase.Entails.of_eq (found_k m c t)) (BIClass.sep_mono (BIBase.Entails.of_eq (found_v m c t)) (BIClass.sep_mono (BIBase.Entails.of_eq (found_x m c t)) (BIClass.sep_mono (BIBase.Entails.of_eq (found_y m c t)) (BIBase.Entails.of_eq (found_o m c t))))))))
  exact BIClass.sep_mono (BIBase.Entails.of_eq (phi_next m c t).symm) (BIClass.sep_mono BIBase.Entails.rfl (BIClass.sep_mono BIBase.Entails.rfl (BIClass.sep_mono BIBase.Entails.rfl (BIClass.sep_mono BIBase.Entails.rfl (BIClass.sep_mono BIBase.Entails.rfl (BIClass.sep_mono BIBase.Entails.rfl BIBase.Entails.rfl))))))

end Cert.Kernel11Ideal.Lat
end
-- ==== Proof.LatRun.lean ====
/- The whole run: from any memory the program ends, its arguments unchanged, every counter at zero and the result at
   the pipeline's last contents of its array. -/
module

public import proofs.«01_k».proof.Proof.LatFrame
public import Idealize.ShloMosaic.Lib.Pipeline.BigSepL

@[expose] public section

set_option maxRecDepth 16384

noncomputable section

namespace Cert.Kernel11Ideal.Lat

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.Kernel11Ideal Facts₀ Facts

variable {F : FTy → Type} [FloatOps F] [Named F]

local notation "𝕄" => MT nD τ sig Unit (Elt F) ℕ (UR sig nD τ) ℕ

variable (m : (ℓ : Loc nD τ sig) → Buf (Elt F) ℓ) (c : Dev nD)

/-- The tables as the pipeline hands them. -/
theorem tables_eq : (prefHeld (Ix := Unit) (Name := ℕ) (U := UR sig nD τ) (Lvl := ℕ) pre0 c (fun _ => fullShare.right) (pf (F := F)) : sProp 𝕄)
    = heldT c (fun _ => fullShare.right) pf := by
  unfold prefHeld
  exact bigSep_univ_eq_bigSepL [(0 : Fin 5), (1 : Fin 5), (2 : Fin 5), (3 : Fin 5), (4 : Fin 5)] (by decide) (by decide) _

/-- A running array held at some contents is held at what it reads, and back. -/
theorem scr_in {sp : Space} {s : Shape} {e : EltTy} (mm : Memref sig .tc sp s e) (hv : mm.view.set = Finset.univ)
    (f : Buf (Elt F) (mm.view.loc (c.tc : Thread nD τ))) :
    ((mm.view.loc (c.tc : Thread nD τ)) ↦{fullShare} f : sProp 𝕄) ⊢ heldAt c mm fullShare (mm.view.read (Elt F) f) := by
  have h := pointsTo_rep_of_read (Ix := Unit) (Val := Elt F) (Name := ℕ) (U := UR sig nD τ) (Lvl := ℕ) (c.tc : Thread nD τ) mm f fullShare _ rfl
  rw [hv] at h; unfold heldAt; rw [hv]; exact h
theorem scr_out {sp : Space} {s : Shape} {e : EltTy} (mm : Memref sig .tc sp s e) (hv : mm.view.set = Finset.univ) (X : s.Idx → Elt F e) :
    heldAt c mm fullShare X ⊢ (iprop(∃ f : Buf (Elt F) (mm.view.loc (c.tc : Thread nD τ)), (mm.view.loc (c.tc : Thread nD τ)) ↦{fullShare} f) : sProp 𝕄) := by
  unfold heldAt; rw [hv]
  exact exists_intro (Φ := fun f => iprop((mm.view.loc (c.tc : Thread nD τ)) ↦{fullShare} f)) _

theorem set0 : (Memref.whole cc0_scratch0 : Memref sig .tc .vmem S8x512x128 .f32).view.set = Finset.univ := View.set_whole _
theorem set1 : (Memref.whole cc0_scratch1 : Memref sig .tc .vmem S8x512x256 .f32).view.set = Finset.univ := View.set_whole _

/-- The running arrays as found. -/
def readSt (f0 : Buf (Elt F) ((c.tc : Thread nD τ).loc cc0_scratch0)) (f1 : Buf (Elt F) ((c.tc : Thread nD τ).loc cc0_scratch1)) : St F where
  m := (Memref.whole cc0_scratch0 : Memref sig .tc .vmem S8x512x128 .f32).view.read (Elt F) f0
  a := (Memref.whole cc0_scratch1 : Memref sig .tc .vmem S8x512x256 .f32).view.read (Elt F) f1

theorem found (f0 : Buf (Elt F) ((c.tc : Thread nD τ).loc cc0_scratch0)) (f1 : Buf (Elt F) ((c.tc : Thread nD τ).loc cc0_scratch1)) :
    iprop((((c.tc : Thread nD τ).loc cc0_scratch0) ↦{fullShare} f0) ∗ (((c.tc : Thread nD τ).loc cc0_scratch1) ↦{fullShare} f1) : sProp 𝕄)
    ⊢ heldSt c (Memref.whole cc0_scratch0) (Memref.whole cc0_scratch1) (readSt c f0 f1) :=
  BIClass.sep_mono (scr_in c (Memref.whole cc0_scratch0) set0 f0) (scr_in c (Memref.whole cc0_scratch1) set1 f1)

theorem phi_first : iprop(ΦA (U := UR sig nD τ) (Val := Elt F) spec0 c ∗ ΦT (U := UR sig nD τ) pre0 (pf (F := F)) c) ⊢ phi m c 0 := by
  unfold ΦA ΦT phi
  rw [Gen.scopedRest0_eq, tables_eq]
  generalize heldT c (fun _ => fullShare.right) (pf (F := F)) = T
  iintro ⟨⟨⟨⟨%f0, H0⟩, ⟨%f1, H1⟩⟩, Hp⟩, HT⟩
  ihave H := (found c f0 f1) $$ [H0 H1]
  · isplitl [H0]
    · iexact H0
    iexact H1
  isplitl [HT]
  · iexact HT
  isplitl [Hp]
  · iexact Hp
  iexists (readSt c f0 f1)
  isplitr
  · ipureintro; exact fun h => absurd h (lt_irrefl 0)
  iexact H

theorem phi_last (n : ℕ) : phi m c n ⊢ ΦA (U := UR sig nD τ) (Val := Elt F) spec0 c := by
  unfold ΦA phi heldSt
  rw [Gen.scopedRest0_eq]
  iintro ⟨HT, Hp, %st, %hst, H0, H1⟩
  ihave H0 := (scr_out c (Memref.whole cc0_scratch0) set0 _) $$ H0
  ihave H1 := (scr_out c (Memref.whole cc0_scratch1) set1 _) $$ H1
  iclear HT
  isplitr [Hp]
  · isplitl [H0]
    · iexact H0
    iexact H1
  iexact Hp

/-- The result at the end. -/
def result : S8192x1024.Idx → Elt F .bf16 := (dat m c).arrAt 5 (cfgT (F := F)).N

theorem fresh : (hostOps (F := F)).Forall fun ops => ops.Forall fun op => op.fresh = ∅ :=
  ⟨⟨rfl, rfl, rfl, rfl, rfl, rfl, rfl, rfl, rfl, rfl⟩, ⟨rfl, rfl⟩, ⟨rfl, rfl, rfl⟩, ⟨rfl, rfl⟩, ⟨rfl, rfl, rfl, rfl, rfl, rfl, rfl, rfl⟩⟩

theorem bufs_sub : (hostOps (F := F)).Forall fun ops => ops.Forall fun op => op.bufs ⊆ StableHlo.tcRefs τ sig :=
  ⟨Gen.hostOps0_sub, Gen.hostOps0_1_sub, Gen.hostOps0_2_sub, Gen.hostOps0_3_sub, Gen.hostOps0_4_sub⟩

theorem tables_V : ∀ k, V m c ((pcfgs (F := F) 0).pre.ref k) = (adms (F := F) 0).1 k := fun
  | ⟨0, _⟩ => rfl | ⟨1, _⟩ => rfl | ⟨2, _⟩ => rfl | ⟨3, _⟩ => rfl | ⟨4, _⟩ => rfl
  | ⟨_ + 5, h⟩ => absurd h (Nat.not_lt.2 (Nat.le_add_left _ _))

theorem arg_rest0 : main_arg0 ∈ restRefs sig spec0 := mem_restRefs_of _ rfl (by decide)
theorem arg_rest1 : main_arg1 ∈ restRefs sig spec0 := mem_restRefs_of _ rfl (by decide)
theorem arg_rest2 : main_arg2 ∈ restRefs sig spec0 := mem_restRefs_of _ rfl (by decide)
theorem V_arg0 : V m c main_arg0 = m (c, main_arg0) := rfl
theorem V_arg1 : V m c main_arg1 = m (c, main_arg1) := rfl
theorem V_arg2 : V m c main_arg2 = m (c, main_arg2) := rfl

/-- Every execution ends, with the arguments as they were and the result as computed. -/
theorem run (g : Dev nD → PrngReg) : θ_run (defs (F := F)) (onTc (main (F := F))) ⟨m, fun _ => 0, g⟩ fun r =>
    (∀ c : Dev nD, r.2.mem (c.tc.loc main_v16) = result m c ∧ r.2.mem (c.tc.loc main_arg0) = m (c.tc.loc main_arg0)
      ∧ r.2.mem (c.tc.loc main_arg1) = m (c.tc.loc main_arg1) ∧ r.2.mem (c.tc.loc main_arg2) = m (c.tc.loc main_arg2))
    ∧ r.2.sem = fun _ => 0 := by
  refine θ_run_frameP_track_shared (pcfgs (F := F)) adms (fun p c => match p with | 0 => dat m c) 0 Gen.launch₀0 (defs₀ (F := F)) Variants.none m g
    (main (F := F)) (fun c => body_ok m c _) (fun _ _ _ => rfl) (fun _ _ => rfl) (V m)
    (hmainP_prefixes (pcfgs (F := F)) 0 (defs₀ (F := F)) _ m (main (F := F)) hostOps bufs_sub fresh Gen.main_chain)
    (fun _ _ => rfl) (fun c k => tables_V m c k) (fun c => phi_first m c) (fun c => phi_last m c _) _ ?_
  rintro r ⟨h, hs⟩
  refine ⟨fun c => ⟨(h c).1 5, ?_, ?_, ?_⟩, hs⟩
  · exact ((h c).2 main_arg0 arg_rest0).trans (V_arg0 m c)
  · exact ((h c).2 main_arg1 arg_rest1).trans (V_arg1 m c)
  · exact ((h c).2 main_arg2 arg_rest2).trans (V_arg2 m c)

end Cert.Kernel11Ideal.Lat
end
-- ==== Proof.Exact.lean ====
/- The attention kernels' runs at the bits: each is the idealized kernel with the named constants read as their numbers. -/
module

public import proofs.«01_k».proof.Proof.Gen.Kernel
public import proofs.«01_k».proof.Proof.Gen.Kernel11
public import proofs.«01_k».proof.Proof.Run
public import proofs.«01_k».proof.Proof.LatRun
public import proofs.«01_k».proof.Defs

@[expose] public section

set_option maxRecDepth 65536

noncomputable section

namespace Cert.Exact

open Idealize.ShloMosaic Idealize.SL.Sem

/-- A named constant read as the number the kernel has. -/
abbrev plain : Named Bits := ⟨fun _ _ φ bits => Scalar.ofBits φ bits⟩

attribute [local instance] plain

theorem defs : Cert.Kernel.defs (F := Bits) = Cert.KernelIdeal.defs (F := Bits) :=
  congrArg (Pipeline.defs (Cert.Kernel.pcfgs (F := Bits))) (congrArg Defs.onTc (funext fun l => funext fun a => match l, a with | 0, (t, s) => rfl))

/-- The run at the bits. -/
theorem run (m : (ℓ : Loc Cert.KernelIdeal.nD Cert.KernelIdeal.τ Cert.KernelIdeal.sig) → Buf (Elt Bits) ℓ) (g : Dev Cert.KernelIdeal.nD → PrngReg) :
    θ_run (Cert.KernelIdeal.defs (F := Bits)) (onTc (τ := Cert.KernelIdeal.τ) (Cert.KernelIdeal.main (F := Bits))) ⟨m, fun _ => 0, g⟩ fun r =>
      (∀ c : Dev Cert.KernelIdeal.nD, r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1) ∧ r.2.mem (c.tc.loc Cert.KernelIdeal.main_arg2) = m (c.tc.loc Cert.KernelIdeal.main_arg2))
      ∧ r.2.sem = fun _ => 0 :=
  (θ_run Cert.KernelIdeal.defs _ _).mono (fun r hr => ⟨fun c => (hr.1 c).2, hr.2⟩) (Cert.KernelIdeal.Att.run (F := Bits) m g)

set_option maxHeartbeats 2000000 in
/-- The kernel's run, its arguments unchanged and every counter at zero. -/
theorem frame : Cert.quiescent_Kernel := fun m g _ => by
  rw [defs]
  exact run m g

theorem defs11 : Cert.Kernel11.defs (F := Bits) = Cert.Kernel11Ideal.defs (F := Bits) :=
  congrArg (Pipeline.defs (Cert.Kernel11.pcfgs (F := Bits))) (congrArg Defs.onTc (funext fun l => funext fun a => match l, a with | 0, (t, s) => rfl))

@[inherit_doc run] theorem run11 (m : (ℓ : Loc Cert.Kernel11Ideal.nD Cert.Kernel11Ideal.τ Cert.Kernel11Ideal.sig) → Buf (Elt Bits) ℓ) (g : Dev Cert.Kernel11Ideal.nD → PrngReg) :
    θ_run (Cert.Kernel11Ideal.defs (F := Bits)) (onTc (τ := Cert.Kernel11Ideal.τ) (Cert.Kernel11Ideal.main (F := Bits))) ⟨m, fun _ => 0, g⟩ fun r =>
      (∀ c : Dev Cert.Kernel11Ideal.nD, r.2.mem (c.tc.loc Cert.Kernel11Ideal.main_arg0) = m (c.tc.loc Cert.Kernel11Ideal.main_arg0)
        ∧ r.2.mem (c.tc.loc Cert.Kernel11Ideal.main_arg1) = m (c.tc.loc Cert.Kernel11Ideal.main_arg1) ∧ r.2.mem (c.tc.loc Cert.Kernel11Ideal.main_arg2) = m (c.tc.loc Cert.Kernel11Ideal.main_arg2))
      ∧ r.2.sem = fun _ => 0 :=
  (θ_run Cert.Kernel11Ideal.defs _ _).mono (fun r hr => ⟨fun c => (hr.1 c).2, hr.2⟩) (Cert.Kernel11Ideal.Lat.run (F := Bits) m g)

set_option maxHeartbeats 2000000 in
/-- The latent attention's run. -/
theorem frame11 : Cert.quiescent_Kernel11 := fun m g _ => by
  rw [defs11]
  exact run11 m g

end Cert.Exact

end
-- ==== Proof.Online.lean ====
/- One row's running softmax: what a tile of keys does to the running maximum, the running sums, and the result. -/
module

public import Idealize.ShloMosaic.PureOps.Ideal.Laws
public import Mathlib.Data.EReal.Operations
public import Mathlib.Analysis.SpecialFunctions.Pow.Real

@[expose] public section

noncomputable section

namespace Cert.Softmax

open Idealize.ShloMosaic
open Finset

/-- A score: the number `r` where `p` holds, else minus infinity. -/
def sc (p : Prop) [Decidable p] (r : ℝ) : EReal := if p then (r : EReal) else ⊥
/-- A score's weight. -/
def wt (p : Prop) [Decidable p] (r : ℝ) : ℝ := if p then (2 : ℝ) ^ r else 0

theorem wt_nonneg (p : Prop) [Decidable p] (r : ℝ) : 0 ≤ wt p r := by
  unfold wt; split
  · positivity
  · exact le_rfl
theorem wt_pos {p : Prop} [Decidable p] (h : p) (r : ℝ) : 0 < wt p r := by
  unfold wt; rw [if_pos h]; positivity
theorem wt_zero {p : Prop} [Decidable p] (h : ¬ p) (r : ℝ) : wt p r = 0 := if_neg h

theorem sc_ne_top (p : Prop) [Decidable p] (r : ℝ) : sc p r ≠ ⊤ := by
  unfold sc; split
  · exact EReal.coe_ne_top r
  · exact bot_ne_top

/-- A score less a number, as a power of two. -/
theorem exp2_sub (p : Prop) [Decidable p] (r μ : ℝ) :
    Ideal.exp2 (sc p r - (μ : EReal)) = (((2 : ℝ) ^ (-μ) * wt p r : ℝ) : EReal) := by
  unfold sc wt
  split
  · rw [← EReal.coe_sub, Ideal.exp2_coe]
    refine congrArg _ ?_
    show (2 : ℝ) ^ (r - μ) = _
    rw [← Real.rpow_add (by norm_num : (0:ℝ) < 2)]
    congr 1; ring
  · rw [EReal.bot_sub, Ideal.exp2_bot, mul_zero]; rfl

/-- The same for the exponential, of a score in natural units. -/
theorem exp_sub (p : Prop) [Decidable p] (s ρ : ℝ) :
    Ideal.exp (sc p s - (ρ : EReal)) = ((Real.exp (-ρ) * wt p (s * (Real.log 2)⁻¹) : ℝ) : EReal) := by
  unfold sc wt
  split
  · rw [← EReal.coe_sub, Ideal.exp_coe]
    refine congrArg _ ?_
    have h2 : Real.log 2 ≠ 0 := (Real.log_pos (by norm_num)).ne'
    rw [Real.rpow_def_of_pos (by norm_num : (0:ℝ) < 2), ← Real.exp_add]
    congr 1
    field_simp
    ring
  · rw [EReal.bot_sub, Ideal.exp_bot, mul_zero]; rfl

theorem coe_sum {ι : Type} (s : Finset ι) (f : ι → ℝ) : ((∑ i ∈ s, f i : ℝ) : EReal) = ∑ i ∈ s, (f i : EReal) := by
  classical
  refine Finset.induction_on s ?_ fun a s ha ih => ?_
  · rfl
  · rw [Finset.sum_insert ha, Finset.sum_insert ha, EReal.coe_add, ih]

/-- A nonnegative number goes into a sum. -/
theorem mul_sum {ι : Type} (s : Finset ι) (c : ℝ) (hc : 0 ≤ c) (f : ι → EReal) : (c : EReal) * ∑ i ∈ s, f i = ∑ i ∈ s, (c : EReal) * f i := by
  classical
  refine Finset.induction_on s ?_ fun a s ha ih => ?_
  · exact mul_zero _
  · rw [Finset.sum_insert ha, Finset.sum_insert ha, EReal.left_distrib_of_nonneg_of_ne_top (EReal.coe_nonneg.2 hc) (EReal.coe_ne_top c), ih]

variable (E : ℕ → ℝ) (W : Fin 256 → ℕ → EReal)

/-- What the running arrays hold of one row once `n` keys are in: nothing yet, or the weights' sum and the weighted values' sum, both
    relative to one running maximum that every lane holds. -/
def Row (n : ℕ) (m l : Fin 128 → EReal) (a : Fin 256 → EReal) : Prop :=
  (n = 0 ∧ (∀ c, m c = ⊥) ∧ (∀ c, l c = 0) ∧ ∀ e, a e = 0)
  ∨ ∃ μ : ℝ, (∀ c, m c = μ) ∧ (∀ c, l c = (((2 : ℝ) ^ (-μ) * ∑ j ∈ range n, E j : ℝ) : EReal))
      ∧ ∀ e, a e = (((2 : ℝ) ^ (-μ) : ℝ) : EReal) * ∑ j ∈ range n, (E j : EReal) * W e j

/-- A lane of 256 or of 512 columns among the 128 lanes. -/
def lane {n : ℕ} (e : Fin n) : Fin 128 := ⟨e.val % 128, Nat.mod_lt _ (by decide)⟩

theorem step (n : ℕ) (p : ℕ → Prop) [DecidablePred p] (r : ℕ → ℝ) (hE : ∀ j, E j = wt (p j) (r j))
    (m l m' l' : Fin 128 → EReal) (a a' : Fin 256 → EReal) (h : Row E W n m l a) (x : Fin 512 → EReal)
    (hx : ∀ j : Fin 512, x j = sc (p (n + j.val)) (r (n + j.val))) (M : EReal) (hM : M ≠ ⊤) (hM0 : n = 0 → M ≠ ⊥)
    (hm : ∀ c, m' c = max (m c) M)
    (hl : ∀ c, l' c = Ideal.exp2 (m c - m' c) * l c + ∑ j : Fin 512, Ideal.exp2 (x j - m' (lane j)))
    (ha : ∀ e, a' e = Ideal.exp2 (m (lane e) - m' (lane e)) * a e + ∑ j : Fin 512, Ideal.exp2 (x j - m' (lane j)) * W e (n + j.val)) :
    Row E W (n + 512) m' l' a' := by
  right
  obtain ⟨ν, hν⟩ : ∃ ν : ℝ, ∀ c, m' c = ν := by
    rcases h with ⟨h0, hb, -, -⟩ | ⟨μ, hμ, -, -⟩
    · refine ⟨M.toReal, fun c => ?_⟩
      rw [hm, hb, max_eq_right bot_le, EReal.coe_toReal hM (hM0 h0)]
    · by_cases hb : M = ⊥
      · exact ⟨μ, fun c => by rw [hm, hμ, hb, max_eq_left bot_le]⟩
      · refine ⟨max μ M.toReal, fun c => ?_⟩
        rw [hm, hμ, EReal.coe_strictMono.monotone.map_max, EReal.coe_toReal hM hb]
  have hpos : (0 : ℝ) ≤ (2 : ℝ) ^ (-ν) := by positivity
  have hw : ∀ j : Fin 512, Ideal.exp2 (x j - m' (lane j)) = (((2 : ℝ) ^ (-ν) * E (n + j.val) : ℝ) : EReal) := fun j => by
    rw [hν, hx, exp2_sub, ← hE]
  have hsl : ∑ j : Fin 512, Ideal.exp2 (x j - m' (lane j)) = (((2 : ℝ) ^ (-ν) * ∑ j ∈ range 512, E (n + j) : ℝ) : EReal) := by
    rw [Finset.sum_congr rfl fun j _ => hw j, ← coe_sum, ← Finset.mul_sum, Finset.sum_range]
  have hsa : ∀ e, ∑ j : Fin 512, Ideal.exp2 (x j - m' (lane j)) * W e (n + j.val)
      = (((2 : ℝ) ^ (-ν) : ℝ) : EReal) * ∑ j ∈ range 512, (E (n + j) : EReal) * W e (n + j) := fun e => by
    rw [mul_sum _ _ hpos, Finset.sum_range]
    exact Finset.sum_congr rfl fun j _ => by rw [hw, EReal.coe_mul, mul_assoc]
  refine ⟨ν, hν, fun c => ?_, fun e => ?_⟩
  · rw [hl, hsl]
    rcases h with ⟨h0, -, hb, -⟩ | ⟨μ, hμ, hL, -⟩
    · subst h0
      rw [hb, mul_zero, zero_add, zero_add]
      simp only [zero_add]
    · rw [hμ, hν, hL, Finset.sum_range_add, ← EReal.coe_sub, Ideal.exp2_coe, ← EReal.coe_mul, ← EReal.coe_add]
      refine congrArg _ ?_
      have e1 : Real.rpow 2 (μ - ν) * (2 : ℝ) ^ (-μ) = (2 : ℝ) ^ (-ν) := by
        show (2 : ℝ) ^ (μ - ν) * (2 : ℝ) ^ (-μ) = _
        rw [← Real.rpow_add (by norm_num : (0:ℝ) < 2)]; congr 1; ring
      rw [← mul_assoc, e1, mul_add]
  · rw [ha, hsa]
    rcases h with ⟨h0, -, -, hb⟩ | ⟨μ, hμ, -, hA⟩
    · subst h0
      rw [hb, mul_zero, zero_add, zero_add]
      simp only [zero_add]
    · rw [hμ, hν, hA, Finset.sum_range_add, ← EReal.coe_sub, Ideal.exp2_coe, ← mul_assoc, ← EReal.coe_mul]
      have e1 : Real.rpow 2 (μ - ν) * (2 : ℝ) ^ (-μ) = (2 : ℝ) ^ (-ν) := by
        show (2 : ℝ) ^ (μ - ν) * (2 : ℝ) ^ (-μ) = _
        rw [← Real.rpow_add (by norm_num : (0:ℝ) < 2)]; congr 1; ring
      rw [e1, EReal.left_distrib_of_nonneg_of_ne_top (EReal.coe_nonneg.2 hpos) (EReal.coe_ne_top _)]

/-- The quotient of the two sums: the running maximum cancels. -/
theorem quotient (n : ℕ) (hn : n ≠ 0) (m l : Fin 128 → EReal) (a : Fin 256 → EReal) (h : Row E W n m l a)
    (hS : 0 < ∑ j ∈ range n, E j) (e : Fin 256) (c : Fin 128) :
    Ideal.div (a e) (l c) = (∑ j ∈ range n, (E j : EReal) * W e j) * (((∑ j ∈ range n, E j)⁻¹ : ℝ) : EReal) := by
  rcases h with ⟨h0, -⟩ | ⟨μ, -, hL, hA⟩
  · exact absurd h0 hn
  have hp : (0 : ℝ) < (2 : ℝ) ^ (-μ) := by positivity
  rw [hL, hA, Ideal.div_coe (mul_pos hp hS).ne', mul_comm ((((2 : ℝ) ^ (-μ) : ℝ)) : EReal), mul_assoc, ← EReal.coe_mul]
  congr 2
  field_simp

/-- The plain softmax of a row and its weighted sum of values: the maximum cancels, and keys from `n` on, which are masked, add nothing. -/
theorem plain (n N : ℕ) (hn : n ≤ N) (w : ℕ → EReal) (hE0 : ∀ j, 0 ≤ E j) (hz : ∀ j, n ≤ j → E j = 0) (hS : 0 < ∑ j ∈ range n, E j)
    (t : ℝ) (ht : 0 < t) (q : Fin N → EReal) (hq : ∀ j : Fin N, q j = ((t * E j.val : ℝ) : EReal)) :
    ∑ j : Fin N, w j.val * Ideal.div (q j) (0 + ∑ i : Fin N, q i)
      = (∑ j ∈ range n, (E j : EReal) * w j) * (((∑ j ∈ range n, E j)⁻¹ : ℝ) : EReal) := by
  have hR : ∑ j ∈ range N, E j = ∑ j ∈ range n, E j := by
    obtain ⟨d, rfl⟩ := Nat.exists_eq_add_of_le hn
    rw [Finset.sum_range_add, Finset.sum_eq_zero (fun j _ => hz (n + j) (Nat.le_add_right _ _)), add_zero]
  have hsum : 0 + ∑ i : Fin N, q i = ((t * ∑ j ∈ range n, E j : ℝ) : EReal) := by
    rw [zero_add, Finset.sum_congr rfl fun j _ => hq j, ← coe_sum, ← Finset.mul_sum, ← hR, Finset.sum_range]
  have hinv : (0 : ℝ) ≤ (∑ j ∈ range n, E j)⁻¹ := (inv_pos.2 hS).le
  rw [hsum, mul_comm _ ((((∑ j ∈ range n, E j)⁻¹ : ℝ)) : EReal), mul_sum _ _ hinv]
  have hterm : ∀ j : Fin N, w j.val * Ideal.div (q j) ((t * ∑ j ∈ range n, E j : ℝ) : EReal)
      = (((∑ j ∈ range n, E j)⁻¹ : ℝ) : EReal) * ((E j.val : EReal) * w j.val) := fun j => by
    rw [Ideal.div_coe (mul_pos ht hS).ne', hq, ← EReal.coe_mul, mul_comm (w j.val), ← mul_assoc, ← EReal.coe_mul]
    congr 2
    field_simp
  rw [Finset.sum_congr rfl fun j _ => hterm j,
    ← Finset.sum_range (fun j => (((∑ j ∈ range n, E j)⁻¹ : ℝ) : EReal) * ((E j : EReal) * w j))]
  obtain ⟨d, rfl⟩ := Nat.exists_eq_add_of_le hn
  rw [Finset.sum_range_add, Finset.sum_eq_zero (s := range d), add_zero]
  intro j _
  rw [hz (n + j) (Nat.le_add_right _ _), EReal.coe_zero, zero_mul, mul_zero]

end Cert.Softmax
end
-- ==== Proof.Half.lean ====
/- The values of one half of one head, element by element, over the extended reals. -/
module

public import proofs.«01_k».proof.Proof.Heads
public import proofs.«01_k».proof.Proof.Online
public import Idealize.ShloMosaic.Lib.Pointwise

@[expose] public section

set_option maxRecDepth 16384

noncomputable section

namespace Cert.KernelIdeal.Att

open Idealize.ShloMosaic
open Cert.KernelIdeal Facts₀
open Cert.Softmax (lane)

variable [Facts]

/-- The scale the kernel multiplies its queries by. -/
def scaleR : ℝ := (Real.sqrt 128)⁻¹ * (Real.log 2)⁻¹

theorem named_scale : (Named.named κ "scale2" 0x3E0293EE#32 : Ideal .f32) = ((scaleR : ℝ) : EReal) := rfl
theorem named_mask : (Named.named κ "mask" 0xF149F2CA#32 : Ideal .f32) = (⊥ : EReal) := rfl

theorem scores_apply (q : Vec Ideal S256x128 .bf16) (k : Vec Ideal S512x128 .bf16) (i : Fin 256) (j : Fin 512) :
    scores q k (ix2 i j) = ∑ d : Fin 128, (q (ix2 i d) * ((scaleR : ℝ) : EReal)) * k (ix2 j d) := by
  pointwise [scores, scaled, named_scale]

theorem ofBits_neg_inf : (Ideal.ofBits .f32 0xFF800000#32 : EReal) = ⊥ := by
  simp [Ideal.ofBits, Ideal.ieee]

theorem shr_word : ∀ n : Fin 4096, IntOp.shrui .vector (BitVec.ofNat 32 n.val) 6#32 = BitVec.ofNat 32 (n.val / 64) := by decide +kernel
theorem le_word : ∀ a b : Fin 64, IntOp.cmpi .sle (BitVec.ofNat 32 a.val) (BitVec.ofNat 32 b.val) = BitVec.ofBool (decide (a.val ≤ b.val)) := by decide +kernel

theorem key_word (k j : ℕ) (hk : k < 8) (hj : j < 512) :
    IntOp.addi (Scalar.muli (BitVec.ofNat 32 k) 512#32) (BitVec.ofNat 32 j) = BitVec.ofNat 32 (512 * k + j) := by
  show BitVec.ofNat 32 k * 512#32 + BitVec.ofNat 32 j = _
  apply BitVec.eq_of_toNat_eq
  simp only [BitVec.toNat_add, BitVec.toNat_mul, BitVec.toNat_ofNat]
  omega
theorem query_word (q r i : ℕ) (hq : q < 8) (hi : r + i < 512) :
    IntOp.addi (Scalar.addi (Scalar.muli (BitVec.ofNat 32 q) 512#32) (BitVec.ofNat 32 r)) (BitVec.ofNat 32 i) = BitVec.ofNat 32 (512 * q + (r + i)) := by
  show BitVec.ofNat 32 q * 512#32 + BitVec.ofNat 32 r + BitVec.ofNat 32 i = _
  apply BitVec.eq_of_toNat_eq
  simp only [BitVec.toNat_add, BitVec.toNat_mul, BitVec.toNat_ofNat]
  omega

/-- Whether a key's chunk is not after a query's. -/
theorem chunk_le (ki j qi r i : ℕ) (hk : ki < 8) (hj : j < 512) (hq : qi < 8) (hi : r + i < 512) :
    IntOp.cmpi .sle
      (IntOp.shrui .vector (IntOp.addi (Scalar.muli (BitVec.ofNat 32 ki) 512#32) (BitVec.ofNat 32 j)) 6#32)
      (IntOp.shrui .vector (IntOp.addi (Scalar.addi (Scalar.muli (BitVec.ofNat 32 qi) 512#32) (BitVec.ofNat 32 r)) (BitVec.ofNat 32 i)) 6#32)
      = BitVec.ofBool (decide ((512 * ki + j) / 64 ≤ (512 * qi + (r + i)) / 64)) := by
  rw [key_word ki j hk hj, query_word qi r i hq hi, shr_word ⟨512 * ki + j, by omega⟩, shr_word ⟨512 * qi + (r + i), by omega⟩]
  exact le_word ⟨(512 * ki + j) / 64, by omega⟩ ⟨(512 * qi + (r + i)) / 64, by omega⟩

theorem select_bool {α : Type} (p : Prop) [Decidable p] (a b : α) : Scalar.select (BitVec.ofBool (decide p)) a b = if p then a else b := by
  by_cases h : p
  · rw [decide_eq_true h, if_pos h]; rfl
  · rw [decide_eq_false h, if_neg h]; rfl

theorem masked_apply (qi ki r : ℕ) (hk : ki < 8) (hq : qi < 8) (s : FVec Ideal S256x512 .f32) (i : Fin 256) (j : Fin 512) (hr : r ≤ 256) :
    masked (BitVec.ofNat 32 qi) (BitVec.ofNat 32 ki) (BitVec.ofNat 32 r) s (ix2 i j)
      = if (512 * ki + j.val) / 64 ≤ (512 * qi + (r + i.val)) / 64 then s (ix2 i j) else ⊥ := by
  pointwise [masked, named_mask]
  rw [chunk_le ki j.val qi r i.val hk j.isLt hq (by have := i.isLt; omega), select_bool]

theorem newMax_apply (s : FVec Ideal S256x512 .f32) (m : Vec Ideal S1x256x128 .f32) (i : Fin 256) (c : Fin 128) :
    newMax s m (ix2 i c) = max (m (ix3 0 i c)) (Finset.univ.fold max ⊥ fun j : Fin 512 => s (ix2 i j)) := by
  pointwise [newMax]
  rw [ofBits_neg_inf]

theorem keep_apply (s : FVec Ideal S256x512 .f32) (m : Vec Ideal S1x256x128 .f32) (i : Fin 256) (c : Fin 128) :
    keep s m (ix2 i c) = Ideal.exp2 (m (ix3 0 i c) - newMax s m (ix2 i c)) := by
  pointwise [keep]; rfl

theorem weights_apply (s : FVec Ideal S256x512 .f32) (m : Vec Ideal S1x256x128 .f32) (i : Fin 256) (j : Fin 512) :
    weights s m (ix2 i j) = Ideal.exp2 (s (ix2 i j) - newMax s m (ix2 i (lane j))) := by
  pointwise [weights]
  have hj : j.val < 512 := j.isLt
  refine congrArg (fun x => Ideal.exp2 (s (ix2 i j) - x)) ?_
  have e : ∀ c : Fin 128, c.val = j.val % 128 → newMax s m (ix2 i c) = newMax s m (ix2 i (lane j)) := fun c hc => by
    rw [show c = lane j from Fin.ext hc]
  split
  · exact e _ (by simp only; omega)
  · split
    · exact e _ (by simp only; omega)
    · split
      · exact e _ (by simp only; omega)
      · exact e _ (by simp only; omega)

theorem newAcc_apply (s : FVec Ideal S256x512 .f32) (m : Vec Ideal S1x256x128 .f32) (v : Vec Ideal S512x256 .bf16) (a : Vec Ideal S1x256x256 .f32)
    (i : Fin 256) (e : Fin 256) :
    newAcc s m v a (ix3 0 i e) = keep s m (ix2 i (lane e)) * a (ix3 0 i e) + ∑ j : Fin 512, weights s m (ix2 i j) * v (ix2 j e) := by
  pointwise [newAcc]
  have he : e.val < 256 := e.isLt
  refine congrArg (fun x => x * a (ix3 0 i e) + ∑ j : Fin 512, weights s m (ix2 i j) * v (ix2 j e)) ?_
  have h : ∀ c : Fin 128, c.val = e.val % 128 → keep s m (ix2 i c) = keep s m (ix2 i (lane e)) := fun c hc => by
    rw [show c = lane e from Fin.ext hc]
  split
  · exact h _ (by simp only; omega)
  · exact h _ (by simp only; omega)

theorem newSum_apply (s : FVec Ideal S256x512 .f32) (m l : Vec Ideal S1x256x128 .f32) (i : Fin 256) (c : Fin 128) :
    newSum s m l (ix3 0 i c) = keep s m (ix2 i c) * l (ix3 0 i c) + ∑ j : Fin 512, weights s m (ix2 i j) := by
  pointwise [newSum]

theorem putMax_apply (s : FVec Ideal S256x512 .f32) (m : Vec Ideal S1x256x128 .f32) (i : Fin 256) (c : Fin 128) :
    putMax s m (ix3 0 i c) = newMax s m (ix2 i c) := by
  pointwise [putMax]

theorem quot_apply (a : Vec Ideal S1x512x256 .f32) (l : Vec Ideal S1x512x128 .f32) (i : Fin 512) (e : Fin 256) :
    quot a l (ix2 i e) = Ideal.div (a (ix3 0 i e)) (l (ix3 0 i (lane e))) := by
  pointwise [quot]
  have he : e.val < 256 := e.isLt
  refine congrArg (fun x => Ideal.div (a (ix3 0 i e)) x) ?_
  have h : ∀ c : Fin 128, c.val = e.val % 128 → l (ix3 0 i c) = l (ix3 0 i (lane e)) := fun c hc => by
    rw [show c = lane e from Fin.ext hc]
  split
  · exact h _ (by simp only; omega)
  · exact h _ (by simp only; omega)

end Cert.KernelIdeal.Att
end
-- ==== Proof.Blocks.lean ====
/- The running arrays by blocks: what one step of eight heads leaves in each half of each head. -/
module

public import proofs.«01_k».proof.Proof.Steps

@[expose] public section

set_option maxRecDepth 16384

noncomputable section

namespace Cert.KernelIdeal.Att

open Idealize.ShloMosaic
open Cert.KernelIdeal Facts₀
open VecWindow (window put)

variable {F : FTy → Type} [FloatOps F] [Named F] [Facts]

/-- One half of one head of the running arrays. -/
structure Blk (F : FTy → Type) where
  m : Vec F S1x256x128 .f32
  a : Vec F S1x256x256 .f32
  l : Vec F S1x256x128 .f32

/-- The block of head `g` at row `r`. -/
def blkOf (r g : ℕ) (hr : r ≤ 256) (hg : g < 8) (st : St F) : Blk F where
  m := window st.m ![g, r, 0] S1x256x128.size (inbM r g hr hg)
  a := window st.a ![g, r, 0] S1x256x256.size (inbA r g hr hg)
  l := window st.l ![g, r, 0] S1x256x128.size (inbM r g hr hg)

/-- What a step makes of one block. -/
def nextBlk (mk : FVec F S256x512 .f32 → FVec F S256x512 .f32) (r g : ℕ) (hr : r ≤ 256) (hg : g < 8)
    (Q K V : S512x1024.Idx → Elt F .bf16) (b : Blk F) : Blk F where
  m := putMax (mk (scoresAt r g hr hg Q K)) b.m
  a := newAcc (mk (scoresAt r g hr hg Q K)) b.m (window V ![0, 256 * (g / 2)] S512x256.size (inbV g hg)) b.a
  l := newSum (mk (scoresAt r g hr hg Q K)) b.m b.l

theorem blkOf_half (mk : FVec F S256x512 .f32 → FVec F S256x512 .f32) (r g : ℕ) (hr : r ≤ 256) (hg : g < 8)
    (Q K V : S512x1024.Idx → Elt F .bf16) (st : St F) :
    blkOf r g hr hg (halfS mk r g hr hg Q K V st) = nextBlk mk r g hr hg Q K V (blkOf r g hr hg st) := by
  unfold blkOf nextBlk halfS
  rw [VecWindow.window_put_same, VecWindow.window_put_same, VecWindow.window_put_same]

theorem blkOf_other (mk : FVec F S256x512 .f32 → FVec F S256x512 .f32) (r g r' g' : ℕ) (hr : r ≤ 256) (hg : g < 8) (hr' : r' ≤ 256) (hg' : g' < 8)
    (Q K V : S512x1024.Idx → Elt F .bf16) (st : St F) (h : g' ≠ g ∨ r' + 256 ≤ r ∨ r + 256 ≤ r') :
    blkOf r' g' hr' hg' (halfS mk r g hr hg Q K V st) = blkOf r' g' hr' hg' st := by
  unfold blkOf halfS
  rcases h with h | h
  · have h0 : g' + 1 ≤ g ∨ g + 1 ≤ g' := by omega
    rw [VecWindow.window_put_of_disjoint _ _ _ _ _ _ _ 0 h0, VecWindow.window_put_of_disjoint _ _ _ _ _ _ _ 0 h0,
      VecWindow.window_put_of_disjoint _ _ _ _ _ _ _ 0 h0]
  · rw [VecWindow.window_put_of_disjoint _ _ _ _ _ _ _ 1 h, VecWindow.window_put_of_disjoint _ _ _ _ _ _ _ 1 h,
      VecWindow.window_put_of_disjoint _ _ _ _ _ _ _ 1 h]

variable (mk0 mk1 : FVec F S256x512 .f32 → FVec F S256x512 .f32) (Q K V : S512x1024.Idx → Elt F .bf16) (st : St F)

theorem blkOf_head_ne (r g g' : ℕ) (hr : r ≤ 256) (hg : g < 8) (hg' : g' < 8) (h : g' ≠ g) :
    blkOf r g' hr hg' (headS mk0 mk1 g hg Q K V st) = blkOf r g' hr hg' st := by
  unfold headS
  rw [blkOf_other _ _ _ _ _ _ _ _ _ _ _ _ _ (.inl h), blkOf_other _ _ _ _ _ _ _ _ _ _ _ _ _ (.inl h)]

theorem blkOf_head0 (g : ℕ) (hg : g < 8) (h0 : 0 ≤ 256) :
    blkOf 0 g h0 hg (headS mk0 mk1 g hg Q K V st) = nextBlk mk0 0 g h0 hg Q K V (blkOf 0 g h0 hg st) := by
  unfold headS
  rw [blkOf_other _ _ _ _ _ _ _ _ _ _ _ _ _ (.inr (.inl (by omega))), blkOf_half]

theorem blkOf_head1 (g : ℕ) (hg : g < 8) (h0 : 256 ≤ 256) :
    blkOf 256 g h0 hg (headS mk0 mk1 g hg Q K V st) = nextBlk mk1 256 g h0 hg Q K V (blkOf 256 g h0 hg st) := by
  unfold headS
  rw [blkOf_half, blkOf_other _ _ _ _ _ _ _ _ _ _ _ _ _ (.inr (.inr (by omega)))]

/-- A step on a first half. -/
theorem blkOf_step0 (g : ℕ) (hg : g < 8) (h0 : 0 ≤ 256) :
    blkOf 0 g h0 hg (stepS mk0 mk1 Q K V st) = nextBlk mk0 0 g h0 hg Q K V (blkOf 0 g h0 hg st) := by
  unfold stepS
  match g, hg with
  | 0, hg => simp (disch := decide) only [blkOf_head0, blkOf_head_ne]
  | 1, hg => simp (disch := decide) only [blkOf_head0, blkOf_head_ne]
  | 2, hg => simp (disch := decide) only [blkOf_head0, blkOf_head_ne]
  | 3, hg => simp (disch := decide) only [blkOf_head0, blkOf_head_ne]
  | 4, hg => simp (disch := decide) only [blkOf_head0, blkOf_head_ne]
  | 5, hg => simp (disch := decide) only [blkOf_head0, blkOf_head_ne]
  | 6, hg => simp (disch := decide) only [blkOf_head0, blkOf_head_ne]
  | 7, hg => simp (disch := decide) only [blkOf_head0, blkOf_head_ne]
  | n + 8, hg => exact absurd hg (by omega)

/-- A step on a second half. -/
theorem blkOf_step1 (g : ℕ) (hg : g < 8) (h0 : 256 ≤ 256) :
    blkOf 256 g h0 hg (stepS mk0 mk1 Q K V st) = nextBlk mk1 256 g h0 hg Q K V (blkOf 256 g h0 hg st) := by
  unfold stepS
  match g, hg with
  | 0, hg => simp (disch := decide) only [blkOf_head1, blkOf_head_ne]
  | 1, hg => simp (disch := decide) only [blkOf_head1, blkOf_head_ne]
  | 2, hg => simp (disch := decide) only [blkOf_head1, blkOf_head_ne]
  | 3, hg => simp (disch := decide) only [blkOf_head1, blkOf_head_ne]
  | 4, hg => simp (disch := decide) only [blkOf_head1, blkOf_head_ne]
  | 5, hg => simp (disch := decide) only [blkOf_head1, blkOf_head_ne]
  | 6, hg => simp (disch := decide) only [blkOf_head1, blkOf_head_ne]
  | 7, hg => simp (disch := decide) only [blkOf_head1, blkOf_head_ne]
  | n + 8, hg => exact absurd hg (by omega)

end Cert.KernelIdeal.Att
end
-- ==== Proof.Value.lean ====
/- One block of the running arrays over the extended reals: a step adds its tile of keys to every row. -/
module

public import proofs.«01_k».proof.Proof.Half
public import proofs.«01_k».proof.Proof.Blocks

@[expose] public section

set_option maxRecDepth 16384

noncomputable section

namespace Cert.KernelIdeal.Att

open Idealize.ShloMosaic
open Cert.KernelIdeal Facts₀
open Cert.Softmax (lane Row sc wt)
open VecWindow (window put)

variable [Facts]

theorem window2 {α : Type} {n0 n1 k0 k1 : ℕ} (x : (⟨2, ![n0, n1]⟩ : Shape).Idx → α) (o0 o1 : ℕ)
    (inb : ∀ a, (![o0, o1] : Fin 2 → ℕ) a + (![k0, k1] : Fin 2 → ℕ) a ≤ (⟨2, ![n0, n1]⟩ : Shape).size a) (i : Fin k0) (j : Fin k1)
    (i' : Fin n0) (j' : Fin n1) (hi : i'.val = o0 + i.val) (hj : j'.val = o1 + j.val) :
    (window (s := ⟨2, ![n0, n1]⟩) x ![o0, o1] ![k0, k1] inb : (⟨2, ![k0, k1]⟩ : Shape).Idx → α) (ix2 i j) = x (ix2 i' j') := by
  refine congrArg x (funext fun a => ?_)
  match a with
  | ⟨0, _⟩ => exact Fin.ext (show o0 + 1 * i.val = i'.val by omega)
  | ⟨1, _⟩ => exact Fin.ext (show o1 + 1 * j.val = j'.val by omega)

/-- Row `i` of a block holds the first `n` keys' sums. -/
def RowB (E : ℕ → ℝ) (W : Fin 256 → ℕ → EReal) (n : ℕ) (i : Fin 256) (b : Blk Ideal) : Prop :=
  Row E W n (fun c => b.m (ix3 0 i c)) (fun c => b.l (ix3 0 i c)) (fun e => b.a (ix3 0 i e))

theorem next_row (mk : FVec Ideal S256x512 .f32 → FVec Ideal S256x512 .f32) (r g : ℕ) (hr : r ≤ 256) (hg : g < 8)
    (Q K V : S512x1024.Idx → Elt Ideal .bf16) (b : Blk Ideal) (n : ℕ) (i : Fin 256) (p : ℕ → Prop) [DecidablePred p] (R : ℕ → ℝ)
    (W : Fin 256 → ℕ → EReal) (h : RowB (fun j => wt (p j) (R j)) W n i b)
    (hs : ∀ j : Fin 512, mk (scoresAt r g hr hg Q K) (ix2 i j) = sc (p (n + j.val)) (R (n + j.val)))
    (hV : ∀ (j : Fin 512) (e : Fin 256), window V ![0, 256 * (g / 2)] S512x256.size (inbV g hg) (ix2 j e) = W e (n + j.val))
    (h0 : n = 0 → p 0) :
    RowB (fun j => wt (p j) (R j)) W (n + 512) i (nextBlk mk r g hr hg Q K V b) := by
  refine Cert.Softmax.step _ W n p R (fun _ => rfl) _ _ _ _ _ _ h (fun j => mk (scoresAt r g hr hg Q K) (ix2 i j)) hs
    (Finset.univ.fold max ⊥ fun j : Fin 512 => mk (scoresAt r g hr hg Q K) (ix2 i j)) ?_ ?_ ?_ ?_ ?_
  · refine ne_of_lt (Finset.fold_max_lt _ |>.2 ⟨bot_lt_top, fun j _ => ?_⟩)
    rw [hs]; exact lt_top_iff_ne_top.2 (Cert.Softmax.sc_ne_top _ _)
  · intro hn
    refine ne_of_gt (Finset.lt_fold_max _ |>.2 (.inr ⟨0, Finset.mem_univ _, ?_⟩))
    rw [hs]
    have e : n + (0 : Fin 512).val = 0 := by rw [hn]; rfl
    rw [e]
    unfold sc; rw [if_pos (h0 hn)]; exact EReal.bot_lt_coe _
  · intro c
    exact (putMax_apply _ _ i c).trans (newMax_apply _ _ i c)
  · intro c
    refine (newSum_apply _ _ _ i c).trans ?_
    rw [keep_apply, Finset.sum_congr rfl fun j _ => weights_apply _ _ i j]
    refine congrArg₂ (· + ·) ?_ (Finset.sum_congr rfl fun j _ => ?_)
    · exact congrArg (fun x => Ideal.exp2 (b.m (ix3 0 i c) - x) * b.l (ix3 0 i c)) (putMax_apply _ _ i c).symm
    · exact congrArg (fun x => Ideal.exp2 (mk (scoresAt r g hr hg Q K) (ix2 i j) - x)) (putMax_apply _ _ i _).symm
  · intro e
    refine (newAcc_apply _ _ _ _ i e).trans ?_
    rw [keep_apply]
    refine congrArg₂ (· + ·) ?_ (Finset.sum_congr rfl fun j _ => ?_)
    · exact congrArg (fun x => Ideal.exp2 (b.m (ix3 0 i (lane e)) - x) * b.a (ix3 0 i e)) (putMax_apply _ _ i _).symm
    · rw [weights_apply]
      exact congrArg₂ (fun x y => Ideal.exp2 (mk (scoresAt r g hr hg Q K) (ix2 i j) - x) * y) (putMax_apply _ _ i _).symm (hV j e)

/-- The scores of real queries and keys. -/
theorem scoresAt_apply (r g : ℕ) (hr : r ≤ 256) (hg : g < 8) (Q K : S512x1024.Idx → Elt Ideal .bf16) (i : Fin 256) (j : Fin 512)
    (x y : ℕ → ℝ) (hQ : ∀ (d : Fin 128) (i' : Fin 512) (d' : Fin 1024), i'.val = r + i.val → d'.val = 128 * g + d.val → Q (ix2 i' d') = ((x d.val : ℝ) : EReal))
    (hK : ∀ (d : Fin 128) (d' : Fin 1024), d'.val = 128 * g + d.val → K (ix2 j d') = ((y d.val : ℝ) : EReal)) :
    scoresAt r g hr hg Q K (ix2 i j) = ((scaleR * ∑ d ∈ Finset.range 128, x d * y d : ℝ) : EReal) := by
  unfold scoresAt
  rw [scores_apply, Finset.mul_sum, Finset.sum_range, Cert.Softmax.coe_sum]
  refine Finset.sum_congr rfl fun d _ => ?_
  have hd : 128 * g + d.val < 1024 := by have := d.isLt; omega
  have hi : r + i.val < 512 := by have := i.isLt; omega
  have e1 : window Q ![r, 128 * g] S256x128.size (inbQ r g hr hg) (ix2 i d) = ((x d.val : ℝ) : EReal) :=
    (window2 Q r (128 * g) (inbQ r g hr hg) i d ⟨r + i.val, hi⟩ ⟨128 * g + d.val, hd⟩ rfl rfl).trans (hQ d _ _ rfl rfl)
  have e2 : window K ![0, 128 * g] S512x128.size (inbK g hg) (ix2 j d) = ((y d.val : ℝ) : EReal) :=
    (window2 K 0 (128 * g) (inbK g hg) j d j ⟨128 * g + d.val, hd⟩ (by omega) rfl).trans (hK d _ rfl)
  rw [e1, e2, ← EReal.coe_mul, ← EReal.coe_mul]
  congr 1; ring

end Cert.KernelIdeal.Att
end
-- ==== Proof.Reads.lean ====
/- The blocks a point reads, as elements of the arguments. -/
module

public import proofs.«01_k».proof.Proof.Frame
public import Idealize.ShloMosaic.Lib.Pointwise
public import Idealize.ShloMosaic.Lib.Claim

@[expose] public section

set_option maxRecDepth 16384

noncomputable section

namespace Cert.KernelIdeal.Att

open Idealize.ShloMosaic Idealize.ShloMosaic.TcCoe
open Idealize.ShloMosaic.Pipeline
open Idealize.SL Idealize.SL.Sem
open Cert.KernelIdeal Facts₀ Facts

variable (m : (ℓ : Loc nD τ sig) → Buf (Elt Ideal) ℓ) (c : Dev nD)

/-- The queries, the keys and the values a device is given. -/
def argQ : S2x4096x4x2x128.Idx → EReal := m ((c.tc : Thread nD τ).loc main_arg0)
@[inherit_doc argQ] def argK : S2x4096x4x2x128.Idx → EReal := m ((c.tc : Thread nD τ).loc main_arg1)
@[inherit_doc argQ] def argV : S2x4096x1024.Idx → EReal := m ((c.tc : Thread nD τ).loc main_arg2)

theorem V_qk : V m c main_v3 = (truncf .bf16 (concatenate S8192x2048 1
      [⟨S8192x1024, shapeCast S8192x1024 (argQ m c) shapeCasts_S2x4096x4x2x128_S8192x1024⟩,
       ⟨S8192x1024, shapeCast S8192x1024 (argK m c) shapeCasts_S2x4096x4x2x128_S8192x1024⟩] concatenates_S8192x1024_S8192x1024_S8192x2048_d1
      : FVec Ideal S8192x2048 .f32) bitsLt_bf16_f32 : FVec Ideal S8192x2048 .bf16) := by
  unfold V
  after_results
  rfl

theorem V_v : V m c main_v5 = (truncf .bf16 (shapeCast S8192x1024 (argV m c) shapeCasts_S2x4096x1024_S8192x1024 : FVec Ideal S8192x1024 .f32)
      bitsLt_bf16_f32 : FVec Ideal S8192x1024 .bf16) := by
  unfold V
  after_results
  rfl

/-- The query of a row of the joined array. -/
theorem V_q_apply (r : Fin 8192) (n : Fin 1024) (n' : Fin 2048) (h : n'.val = n.val) :
    (V m c main_v3 : S8192x2048.Idx → EReal) (ix2 r n') = argQ m c (ix5 ⟨r.val / 4096, by omega⟩ ⟨r.val % 4096, by omega⟩ ⟨n.val / 256, by omega⟩ ⟨n.val / 128 % 2, by omega⟩ ⟨n.val % 128, by omega⟩) := by
  rw [V_qk]
  pointwise
  have hn : n.val < 1024 := n.isLt
  rw [dif_pos (by omega)]
  simp only [h]

/-- The key of a row of the joined array. -/
theorem V_k_apply (r : Fin 8192) (n : Fin 1024) (n' : Fin 2048) (h : n'.val = 1024 + n.val) :
    (V m c main_v3 : S8192x2048.Idx → EReal) (ix2 r n') = argK m c (ix5 ⟨r.val / 4096, by omega⟩ ⟨r.val % 4096, by omega⟩ ⟨n.val / 256, by omega⟩ ⟨n.val / 128 % 2, by omega⟩ ⟨n.val % 128, by omega⟩) := by
  rw [V_qk]
  pointwise
  have hn : n.val < 1024 := n.isLt
  rw [dif_neg (by omega)]
  have e : n'.val - 1024 = n.val := by omega
  simp only [e]

theorem V_v_apply (r : Fin 8192) (n : Fin 1024) :
    (V m c main_v5 : S8192x1024.Idx → EReal) (ix2 r n) = argV m c (ix3 ⟨r.val / 4096, by omega⟩ ⟨r.val % 4096, by omega⟩ n) := by
  rw [V_v]
  pointwise

theorem blkQ_apply (t : Fin grid0.N) (i : Fin 512) (n : Fin 1024) (r : Fin 8192) (n' : Fin 2048)
    (hr : r.val = 512 * (8 * ((grid0.coords t 0 : Fin 2) : ℕ) + qn (grid0.coords t 2)) + i.val) (hn : n'.val = n.val) :
    blkQ m c t (ix2 i n) = (V m c main_v3 : S8192x2048.Idx → EReal) (ix2 r n') := by
  refine congrArg (V m c main_v3 : S8192x2048.Idx → EReal) (funext fun a => Fin.ext ?_)
  have e : ((cfgT (F := Ideal)).win 0).index t = ![8 * ((grid0.coords t 0 : Fin 2) : ℕ) + qn (grid0.coords t 2), 0] := ix_q (F := Ideal) (grid0.coords t)
  refine (Pipeline.Window.rect_emb_val ((cfgT (F := Ideal)).win 0) t (ix2 i n) a).trans ?_
  rw [e]
  match a with
  | ⟨0, _⟩ => exact show (8 * ((grid0.coords t 0 : Fin 2) : ℕ) + qn (grid0.coords t 2)) * 512 + i.val = r.val by omega
  | ⟨1, _⟩ => exact show 0 * 1024 + n.val = n'.val by omega

theorem blkK_apply (t : Fin grid0.N) (i : Fin 512) (n : Fin 1024) (r : Fin 8192) (n' : Fin 2048)
    (hr : r.val = 512 * (8 * ((grid0.coords t 0 : Fin 2) : ℕ) + kn (grid0.coords t 2)) + i.val) (hn : n'.val = 1024 + n.val) :
    blkK m c t (ix2 i n) = (V m c main_v3 : S8192x2048.Idx → EReal) (ix2 r n') := by
  refine congrArg (V m c main_v3 : S8192x2048.Idx → EReal) (funext fun a => Fin.ext ?_)
  have e : ((cfgT (F := Ideal)).win 1).index t = ![8 * ((grid0.coords t 0 : Fin 2) : ℕ) + kn (grid0.coords t 2), 1] := ix_k (F := Ideal) (grid0.coords t)
  refine (Pipeline.Window.rect_emb_val ((cfgT (F := Ideal)).win 1) t (ix2 i n) a).trans ?_
  rw [e]
  match a with
  | ⟨0, _⟩ => exact show (8 * ((grid0.coords t 0 : Fin 2) : ℕ) + kn (grid0.coords t 2)) * 512 + i.val = r.val by omega
  | ⟨1, _⟩ => exact show 1 * 1024 + n.val = n'.val by omega

theorem blkV_apply (t : Fin grid0.N) (i : Fin 512) (n : Fin 1024) (r : Fin 8192)
    (hr : r.val = 512 * (8 * ((grid0.coords t 0 : Fin 2) : ℕ) + kn (grid0.coords t 2)) + i.val) :
    blkV m c t (ix2 i n) = (V m c main_v5 : S8192x1024.Idx → EReal) (ix2 r n) := by
  refine congrArg (V m c main_v5 : S8192x1024.Idx → EReal) (funext fun a => Fin.ext ?_)
  have e : ((cfgT (F := Ideal)).win 2).index t = ![8 * ((grid0.coords t 0 : Fin 2) : ℕ) + kn (grid0.coords t 2), 0] := ix_v (F := Ideal) (grid0.coords t)
  refine (Pipeline.Window.rect_emb_val ((cfgT (F := Ideal)).win 2) t (ix2 i n) a).trans ?_
  rw [e]
  match a with
  | ⟨0, _⟩ => exact show (8 * ((grid0.coords t 0 : Fin 2) : ℕ) + kn (grid0.coords t 2)) * 512 + i.val = r.val by omega
  | ⟨1, _⟩ => exact show 0 * 1024 + n.val = n.val by omega

/-! ## The same by natural numbers -/

/-- One number of the queries or of the keys: device batch `b`, position `s`, head `g`, lane `d`. -/
def at5 (x : S2x4096x4x2x128.Idx → EReal) (b s g d : ℕ) : EReal :=
  x (ix5 ⟨b % 2, Nat.mod_lt _ (by decide)⟩ ⟨s % 4096, Nat.mod_lt _ (by decide)⟩ ⟨g / 2 % 4, Nat.mod_lt _ (by decide)⟩ ⟨g % 2, Nat.mod_lt _ (by decide)⟩ ⟨d % 128, Nat.mod_lt _ (by decide)⟩)
/-- One number of the values. -/
def at3 (x : S2x4096x1024.Idx → EReal) (b s n : ℕ) : EReal :=
  x (ix3 ⟨b % 2, Nat.mod_lt _ (by decide)⟩ ⟨s % 4096, Nat.mod_lt _ (by decide)⟩ ⟨n % 1024, Nat.mod_lt _ (by decide)⟩)

/-- A point's batch. -/
def bn (t : Fin grid0.N) : ℕ := ((grid0.coords t 0 : Fin 2) : ℕ)
theorem bn_lt (t : Fin grid0.N) : bn t < 2 := (grid0.coords t 0 : Fin 2).isLt

theorem blkQ_at (t : Fin grid0.N) (i : Fin 512) (n : Fin 1024) (g d : ℕ) (hg : g < 8) (hd : d < 128) (hn : n.val = 128 * g + d) :
    blkQ m c t (ix2 i n) = at5 (argQ m c) (bn t) (512 * qn (grid0.coords t 2) + i.val) g d := by
  have hb := bn_lt t
  have hq := qn_lt (grid0.coords t 2)
  have hi : i.val < 512 := i.isLt
  have hlt : 512 * (8 * bn t + qn (grid0.coords t 2)) + i.val < 8192 := by omega
  rw [blkQ_apply m c t i n ⟨_, hlt⟩ ⟨n.val, by omega⟩ rfl rfl, V_q_apply m c _ n _ rfl]
  unfold at5
  congr 1
  congr 1 <;> apply Fin.ext <;> simp only <;> omega

theorem blkK_at (t : Fin grid0.N) (i : Fin 512) (n : Fin 1024) (g d : ℕ) (hg : g < 8) (hd : d < 128) (hn : n.val = 128 * g + d) :
    blkK m c t (ix2 i n) = at5 (argK m c) (bn t) (512 * kn (grid0.coords t 2) + i.val) g d := by
  have hb := bn_lt t
  have hq := kn_lt (grid0.coords t 2)
  have hi : i.val < 512 := i.isLt
  have hlt : 512 * (8 * bn t + kn (grid0.coords t 2)) + i.val < 8192 := by omega
  rw [blkK_apply m c t i n ⟨_, hlt⟩ ⟨1024 + n.val, by omega⟩ rfl rfl, V_k_apply m c _ n _ rfl]
  unfold at5
  congr 1
  congr 1 <;> apply Fin.ext <;> simp only <;> omega

theorem blkV_at (t : Fin grid0.N) (i : Fin 512) (n : Fin 1024) :
    blkV m c t (ix2 i n) = at3 (argV m c) (bn t) (512 * kn (grid0.coords t 2) + i.val) n.val := by
  have hb := bn_lt t
  have hq := kn_lt (grid0.coords t 2)
  have hi : i.val < 512 := i.isLt
  have hlt : 512 * (8 * bn t + kn (grid0.coords t 2)) + i.val < 8192 := by omega
  rw [blkV_apply m c t i n ⟨_, hlt⟩ rfl, V_v_apply m c _ n]
  unfold at3
  congr 1
  congr 1 <;> apply Fin.ext <;> simp only <;> omega

end Cert.KernelIdeal.Att
end
-- ==== Proof.Traj.lean ====
/- The running arrays along the schedule: after a tile of keys every row holds the sums over the keys so far. -/
module

public import proofs.«01_k».proof.Proof.Value
public import proofs.«01_k».proof.Proof.Reads

@[expose] public section

set_option maxRecDepth 16384

noncomputable section

namespace Cert.KernelIdeal.Att

open Idealize.ShloMosaic Idealize.ShloMosaic.TcCoe
open Idealize.SL Idealize.SL.Sem
open Cert.KernelIdeal Facts₀ Facts
open Cert.Softmax (lane Row sc wt)
open VecWindow (window put)

/-! ## The attention's numbers -/

section Gold

variable (q k : S2x4096x4x2x128.Idx → EReal) (v : S2x4096x1024.Idx → EReal)

/-- The product of a query and a key. -/
def dotR (b g s j : ℕ) : ℝ := ∑ d ∈ Finset.range 128, (at5 q b s g d).toReal * (at5 k b j g d).toReal
/-- A key's weight for a query: a power of two where the key's chunk is not after the query's. -/
def wgt (b g s : ℕ) : ℕ → ℝ := fun j => wt (j / 64 ≤ s / 64) (scaleR * dotR q k b g s j)
/-- A key's value. -/
def vals (b g : ℕ) (e : Fin 256) (j : ℕ) : EReal := at3 v b j (256 * (g / 2) + e.val)
/-- The attention's result: the weighted values over the weights, over the keys up to the query's tile. -/
def gold (b s g : ℕ) (e : Fin 256) : EReal :=
  (∑ j ∈ Finset.range (512 * (s / 512 + 1)), (wgt q k b g s j : EReal) * vals v b g e j)
    * (((∑ j ∈ Finset.range (512 * (s / 512 + 1)), wgt q k b g s j)⁻¹ : ℝ) : EReal)

theorem wgt_sum_pos (b g s : ℕ) (n : ℕ) (hn : 0 < n) : 0 < ∑ j ∈ Finset.range n, wgt q k b g s j := by
  refine Finset.sum_pos' (fun j _ => Cert.Softmax.wt_nonneg _ _) ⟨0, Finset.mem_range.2 hn, Cert.Softmax.wt_pos ?_ _⟩
  show 0 / 64 ≤ s / 64
  omega

end Gold

/-- Every element is a number. -/
def Real5 (x : S2x4096x4x2x128.Idx → EReal) : Prop := ∀ i, x i ≠ ⊤ ∧ x i ≠ ⊥

theorem at5_coe (x : S2x4096x4x2x128.Idx → EReal) (h : Real5 x) (b s g d : ℕ) : at5 x b s g d = (((at5 x b s g d).toReal : ℝ) : EReal) :=
  (EReal.coe_toReal (h _).1 (h _).2).symm

variable (m : (ℓ : Loc nD τ sig) → Buf (Elt Ideal) ℓ) (c : Dev nD)

theorem scores_at (hq : Real5 (argQ m c)) (hk : Real5 (argK m c)) (t : Fin grid0.N) (r g : ℕ) (hr : r ≤ 256) (hg : g < 8) (i : Fin 256) (j : Fin 512) :
    scoresAt r g hr hg (blkQ m c t) (blkK m c t) (ix2 i j)
      = ((scaleR * dotR (argQ m c) (argK m c) (bn t) g (512 * qn (grid0.coords t 2) + (r + i.val)) (512 * kn (grid0.coords t 2) + j.val) : ℝ) : EReal) := by
  refine scoresAt_apply r g hr hg _ _ i j (fun d => (at5 (argQ m c) (bn t) (512 * qn (grid0.coords t 2) + (r + i.val)) g d).toReal)
    (fun d => (at5 (argK m c) (bn t) (512 * kn (grid0.coords t 2) + j.val) g d).toReal) ?_ ?_
  · intro d i' d' hi hd
    rw [blkQ_at m c t i' d' g d.val hg d.isLt hd, hi]
    exact at5_coe _ hq _ _ _ _
  · intro d d' hd
    rw [blkK_at m c t j d' g d.val hg d.isLt hd]
    exact at5_coe _ hk _ _ _ _

theorem vals_at (t : Fin grid0.N) (g : ℕ) (hg : g < 8) (j : Fin 512) (e : Fin 256) :
    window (blkV m c t) ![0, 256 * (g / 2)] S512x256.size (inbV g hg) (ix2 j e) = vals (argV m c) (bn t) g e (512 * kn (grid0.coords t 2) + j.val) := by
  have he : 256 * (g / 2) + e.val < 1024 := by have := e.isLt; omega
  refine (window2 (blkV m c t) 0 (256 * (g / 2)) (inbV g hg) j e j ⟨256 * (g / 2) + e.val, he⟩ (by omega) rfl).trans ?_
  exact blkV_at m c t j _

/-- The row that a half's row is among the positions. -/
def pos (t : Fin grid0.N) (r : ℕ) (i : Fin 256) : ℕ := 512 * qn (grid0.coords t 2) + (r + i.val)

/-- After `n` keys, a row of a half of a head. -/
def RowAt (t : Fin grid0.N) (r g : ℕ) (hr : r ≤ 256) (hg : g < 8) (i : Fin 256) (n : ℕ) (st : St Ideal) : Prop :=
  RowB (wgt (argQ m c) (argK m c) (bn t) g (pos t r i)) (vals (argV m c) (bn t) g) n i (blkOf r g hr hg st)

theorem init_row (t : Fin grid0.N) (r g : ℕ) (hr : r ≤ 256) (hg : g < 8) (i : Fin 256) : RowAt m c t r g hr hg i 0 (initS (F := Ideal)) :=
  .inl ⟨rfl, fun _ => rfl, fun _ => Ideal.ofBits_zero_f32, fun _ => Ideal.ofBits_zero_f32⟩

/-- A half's step where the keys' tile lies wholly before the queries'. -/
theorem below_row (hq : Real5 (argQ m c)) (hk : Real5 (argK m c)) (t : Fin grid0.N) (h : kn (grid0.coords t 2) ≠ qn (grid0.coords t 2))
    (r g : ℕ) (hr : r ≤ 256) (hg : g < 8) (i : Fin 256) (b : Blk Ideal)
    (hb : RowB (wgt (argQ m c) (argK m c) (bn t) g (pos t r i)) (vals (argV m c) (bn t) g) (512 * kn (grid0.coords t 2)) i b) :
    RowB (wgt (argQ m c) (argK m c) (bn t) g (pos t r i)) (vals (argV m c) (bn t) g) (512 * kn (grid0.coords t 2) + 512) i
      (nextBlk id r g hr hg (blkQ m c t) (blkK m c t) (blkV m c t) b) := by
  have hle := kn_le (grid0.coords t 2)
  refine next_row id r g hr hg _ _ _ b _ i (fun j => j / 64 ≤ pos t r i / 64) (fun j => scaleR * dotR (argQ m c) (argK m c) (bn t) g (pos t r i) j)
    _ hb (fun j => ?_) (fun j e => vals_at m c t g hg j e) (fun _ => by show 0 / 64 ≤ _; omega)
  refine (scores_at m c hq hk t r g hr hg i j).trans ?_
  have hj := j.isLt
  unfold sc
  rw [if_pos (by unfold pos; omega)]
  rfl

/-- A half's step on the tiles' diagonal. -/
theorem diag_row (hq : Real5 (argQ m c)) (hk : Real5 (argK m c)) (t : Fin grid0.N)
    (r g : ℕ) (hr : r ≤ 256) (hg : g < 8) (i : Fin 256) (b : Blk Ideal)
    (hb : RowB (wgt (argQ m c) (argK m c) (bn t) g (pos t r i)) (vals (argV m c) (bn t) g) (512 * kn (grid0.coords t 2)) i b) :
    RowB (wgt (argQ m c) (argK m c) (bn t) g (pos t r i)) (vals (argV m c) (bn t) g) (512 * kn (grid0.coords t 2) + 512) i
      (nextBlk (masked (BitVec.ofNat 32 (qn (grid0.coords t 2))) (BitVec.ofNat 32 (kn (grid0.coords t 2))) (BitVec.ofNat 32 r)) r g hr hg
        (blkQ m c t) (blkK m c t) (blkV m c t) b) := by
  refine next_row _ r g hr hg _ _ _ b _ i (fun j => j / 64 ≤ pos t r i / 64) (fun j => scaleR * dotR (argQ m c) (argK m c) (bn t) g (pos t r i) j)
    _ hb (fun j => ?_) (fun j e => vals_at m c t g hg j e) (fun _ => by show 0 / 64 ≤ _; omega)
  refine (masked_apply _ _ _ (kn_lt _) (qn_lt _) _ i j hr).trans ?_
  exact congrArg (fun x : EReal => if (512 * kn (grid0.coords t 2) + j.val) / 64 ≤ pos t r i / 64 then x else ⊥) (scores_at m c hq hk t r g hr hg i j)

/-- A point's step on a half. -/
theorem step_row (hq : Real5 (argQ m c)) (hk : Real5 (argK m c)) (t : Fin grid0.N) (r g : ℕ) (hr : r ≤ 256) (hg : g < 8) (h2 : r = 0 ∨ r = 256) (i : Fin 256)
    (st : St Ideal) (hs : kn (grid0.coords t 2) ≠ 0 → RowAt m c t r g hr hg i (512 * kn (grid0.coords t 2)) st) :
    RowAt m c t r g hr hg i (512 * kn (grid0.coords t 2) + 512) (stepAt m c t st) := by
  unfold stepAt pointS
  rw [wd_lit, wd_lit, wd_lit, wd_lit]
  have h1 : RowAt m c t r g hr hg i (512 * kn (grid0.coords t 2)) (if isOne (lit2 (grid0.coords t 2)) = 1#1 then initS else st) := by
    by_cases h0 : kn (grid0.coords t 2) = 0
    · rw [if_pos ((first_iff _).2 h0), h0]; exact init_row m c t r g hr hg i
    · rw [if_neg (fun hh => h0 ((first_iff _).1 hh))]; exact hs h0
  generalize (if isOne (lit2 (grid0.coords t 2)) = 1#1 then (initS : St Ideal) else st) = st1 at h1
  by_cases hd : kn (grid0.coords t 2) = qn (grid0.coords t 2)
  · simp only [if_pos ((diag_iff _).2 hd), if_neg (fun hh => (below_iff _).1 hh hd)]
    suffices gen : ∀ x y : BitVec 32, x = BitVec.ofNat 32 (qn (grid0.coords t 2)) → y = BitVec.ofNat 32 (kn (grid0.coords t 2)) →
        RowAt m c t r g hr hg i (512 * kn (grid0.coords t 2) + 512) (stepS (masked x y 0#32) (masked x y 256#32) (blkQ m c t) (blkK m c t) (blkV m c t) st1) from
      gen _ _ (lit0_eq _) (lit1_eq _)
    rintro _ _ rfl rfl
    rcases h2 with rfl | rfl
    · have := diag_row m c hq hk t 0 g hr hg i _ h1
      unfold RowAt
      rw [blkOf_step0]; exact this
    · have := diag_row m c hq hk t 256 g hr hg i _ h1
      unfold RowAt
      rw [blkOf_step1]; exact this
  · simp only [if_neg (fun hh => hd ((diag_iff _).1 hh)), if_pos ((below_iff _).2 hd)]
    rcases h2 with rfl | rfl
    · have := below_row m c hq hk t hd 0 g hr hg i _ h1
      unfold RowAt
      rw [blkOf_step0]; exact this
    · have := below_row m c hq hk t hd 256 g hr hg i _ h1
      unfold RowAt
      rw [blkOf_step1]; exact this

theorem prev_point : ∀ t : Fin grid0.N, kn (grid0.coords t 2) ≠ 0 → ∃ h : t.val - 1 < grid0.N, 0 < t.val
    ∧ ((grid0.coords ⟨t.val - 1, h⟩ 0 : Fin 2) : ℕ) = ((grid0.coords t 0 : Fin 2) : ℕ)
    ∧ qn (grid0.coords ⟨t.val - 1, h⟩ 2) = qn (grid0.coords t 2) ∧ kn (grid0.coords ⟨t.val - 1, h⟩ 2) + 1 = kn (grid0.coords t 2) := by decide +kernel

/-- After every point, every row of every half of every head holds the keys so far. -/
theorem traj_row (hq : Real5 (argQ m c)) (hk : Real5 (argK m c)) (r g : ℕ) (hr : r ≤ 256) (hg : g < 8) (h2 : r = 0 ∨ r = 256) (i : Fin 256) :
    ∀ n : ℕ, ∀ t : Fin grid0.N, t.val = n → RowAt m c t r g hr hg i (512 * kn (grid0.coords t 2) + 512) (traj m c (t.val + 1)) := by
  intro n
  induction n with
  | zero =>
    intro t ht
    have e : traj m c (t.val + 1) = stepAt m c t (traj m c t.val) := dif_pos t.isLt
    rw [e]
    exact step_row m c hq hk t r g hr hg h2 i _ fun h => by obtain ⟨_, hp, _⟩ := prev_point t h; omega
  | succ n ih =>
    intro t ht
    have e : traj m c (t.val + 1) = stepAt m c t (traj m c t.val) := dif_pos t.isLt
    rw [e]
    refine step_row m c hq hk t r g hr hg h2 i _ fun h => ?_
    obtain ⟨hl, hp, hb, hqn, hkn⟩ := prev_point t h
    have := ih ⟨t.val - 1, hl⟩ (by show t.val - 1 = n; omega)
    unfold RowAt pos bn at this ⊢
    rw [hb, hqn] at this
    have e1 : t.val - 1 + 1 = t.val := by omega
    have e2 : 512 * kn (grid0.coords ⟨t.val - 1, hl⟩ 2) + 512 = 512 * kn (grid0.coords t 2) := by omega
    rw [e2] at this
    simp only [e1] at this
    exact this

end Cert.KernelIdeal.Att
end
-- ==== Proof.Out.lean ====
/- The kernel's result: every element is the attention's weighted mean of the values. -/
module

public import proofs.«01_k».proof.Proof.Traj
public import proofs.«01_k».proof.Proof.Run
public import Idealize.ShloMosaic.Lib.Pipeline.ValueKit

@[expose] public section

set_option maxRecDepth 16384

noncomputable section

namespace Cert.KernelIdeal.Att

open Idealize.ShloMosaic Idealize.ShloMosaic.TcCoe
open Idealize.ShloMosaic.Pipeline
open Idealize.SL Idealize.SL.Sem
open Cert.KernelIdeal Facts₀ Facts
open Cert.Softmax (lane Row sc wt)
open VecWindow (window put)

variable (m : (ℓ : Loc nD τ sig) → Buf (Elt Ideal) ℓ) (c : Dev nD)

/-- The attention's result as one array: position, then head and column. -/
def goldArr (q k : S2x4096x4x2x128.Idx → EReal) (v : S2x4096x1024.Idx → EReal) : S8192x2048.Idx → EReal := fun y =>
  gold q k v ((y 0).val / 4096) ((y 0).val % 4096) ((y 1).val / 256) ⟨(y 1).val % 256, Nat.mod_lt _ (by decide)⟩

theorem window3 {α : Type} {n0 n1 n2 k0 k1 k2 : ℕ} (x : (⟨3, ![n0, n1, n2]⟩ : Shape).Idx → α) (o0 o1 o2 : ℕ)
    (inb : ∀ a, (![o0, o1, o2] : Fin 3 → ℕ) a + (![k0, k1, k2] : Fin 3 → ℕ) a ≤ (⟨3, ![n0, n1, n2]⟩ : Shape).size a) (h : Fin k0) (i : Fin k1) (j : Fin k2)
    (h' : Fin n0) (i' : Fin n1) (j' : Fin n2) (hh : h'.val = o0 + h.val) (hi : i'.val = o1 + i.val) (hj : j'.val = o2 + j.val) :
    (window (s := ⟨3, ![n0, n1, n2]⟩) x ![o0, o1, o2] ![k0, k1, k2] inb : (⟨3, ![k0, k1, k2]⟩ : Shape).Idx → α) (ix3 h i j) = x (ix3 h' i' j') := by
  refine congrArg x (funext fun a => ?_)
  match a with
  | ⟨0, _⟩ => exact Fin.ext (show o0 + 1 * h.val = h'.val by omega)
  | ⟨1, _⟩ => exact Fin.ext (show o1 + 1 * i.val = i'.val by omega)
  | ⟨2, _⟩ => exact Fin.ext (show o2 + 1 * j.val = j'.val by omega)

/-- An element of a head's result, from a half's block. -/
theorem quotS_blk (st : St Ideal) (r g : ℕ) (hr : r ≤ 256) (hg : g < 8) (i : Fin 256) (i' : Fin 512) (hi : i'.val = r + i.val) (e : Fin 256) :
    quotS st g hg (ix2 i' e) = Ideal.div ((blkOf r g hr hg st).a (ix3 0 i e)) ((blkOf r g hr hg st).l (ix3 0 i (lane e))) := by
  unfold quotS
  refine (quot_apply _ _ i' e).trans ?_
  have ha : window st.a ![g, 0, 0] S1x512x256.size (inbFA g hg) (ix3 0 i' e) = (blkOf r g hr hg st).a (ix3 0 i e) :=
    (window3 st.a g 0 0 (inbFA g hg) 0 i' e ⟨g, hg⟩ i' e rfl (by omega) (by omega)).trans
      (window3 st.a g r 0 (inbA r g hr hg) 0 i e ⟨g, hg⟩ i' e rfl hi (by omega)).symm
  have hl : window st.l ![g, 0, 0] S1x512x128.size (inbFM g hg) (ix3 0 i' (lane e)) = (blkOf r g hr hg st).l (ix3 0 i (lane e)) :=
    (window3 st.l g 0 0 (inbFM g hg) 0 i' (lane e) ⟨g, hg⟩ i' (lane e) rfl (by omega) (by omega)).trans
      (window3 st.l g r 0 (inbM r g hr hg) 0 i (lane e) ⟨g, hg⟩ i' (lane e) rfl hi (by omega)).symm
  exact congrArg₂ Ideal.div ha hl

/-- The result of a head where a tile of queries ends. -/
theorem quot_gold (hq : Real5 (argQ m c)) (hk : Real5 (argK m c)) (t : Fin grid0.N) (h : kn (grid0.coords t 2) = qn (grid0.coords t 2))
    (g : ℕ) (hg : g < 8) (i' : Fin 512) (e : Fin 256) :
    quotS (traj m c (t.val + 1)) g hg (ix2 i' e) = gold (argQ m c) (argK m c) (argV m c) (bn t) (512 * qn (grid0.coords t 2) + i'.val) g e := by
  have hi' := i'.isLt
  obtain ⟨r, i, hr, h2, hi⟩ : ∃ (r : ℕ) (i : Fin 256), r ≤ 256 ∧ (r = 0 ∨ r = 256) ∧ i'.val = r + i.val := by
    by_cases hlt : i'.val < 256
    · exact ⟨0, ⟨i'.val, hlt⟩, by omega, .inl rfl, by simp only; omega⟩
    · exact ⟨256, ⟨i'.val - 256, by omega⟩, by omega, .inr rfl, by simp only; omega⟩
  rw [quotS_blk _ r g hr hg i i' hi e]
  have hrow := traj_row m c hq hk r g hr hg h2 i t.val t rfl
  unfold RowAt at hrow
  have hp : pos t r i = 512 * qn (grid0.coords t 2) + i'.val := by unfold pos; omega
  have hn : 512 * kn (grid0.coords t 2) + 512 = 512 * ((512 * qn (grid0.coords t 2) + i'.val) / 512 + 1) := by omega
  rw [hp, hn] at hrow
  exact Cert.Softmax.quotient _ _ _ (by omega) _ _ _ hrow (wgt_sum_pos _ _ _ _ _ _ (by omega)) e (lane e)

/-- The block that a point writes back is the attention's result there. -/
theorem out_gold (hq : Real5 (argQ m c)) (hk : Real5 (argK m c)) (t : Fin grid0.N) (h : kn (grid0.coords t 2) = qn (grid0.coords t 2))
    (i : Fin 512) (n : Fin 2048) :
    outBlk m c t (ix2 i n) = gold (argQ m c) (argK m c) (argV m c) (bn t) (512 * qn (grid0.coords t 2) + i.val) (n.val / 256) ⟨n.val % 256, Nat.mod_lt _ (by decide)⟩ := by
  have hn := n.isLt
  have hg : n.val / 256 < 8 := by omega
  unfold outBlk
  refine (lastS_at _ _ (ix2 i n) (n.val / 256) hg rfl).trans ?_
  refine Eq.trans ?_ (quot_gold m c hq hk t h (n.val / 256) hg i ⟨n.val % 256, Nat.mod_lt _ (by decide)⟩)
  refine congrArg (quotS (traj m c (t.val + 1)) (n.val / 256) hg) (funext fun a => ?_)
  match a with
  | ⟨0, _⟩ => exact Fin.ext (show i.val - 0 = i.val by omega)
  | ⟨1, _⟩ => exact Fin.ext (show n.val - 256 * (n.val / 256) = n.val % 256 by omega)

theorem cover_point : ∀ (b : Fin 2) (q : Fin 8), ∃ t : Fin grid0.N, kn (grid0.coords t 2) = qn (grid0.coords t 2)
    ∧ ((grid0.coords t 0 : Fin 2) : ℕ) = b.val ∧ qn (grid0.coords t 2) = q.val := by decide +kernel

/-- Where a point's block lies in the result. -/
theorem out_row (t : Fin grid0.N) (y : S512x2048.Idx) (a : Fin 2) :
    ((((cfgT (F := Ideal)).win 3).blk t).view.emb y a : ℕ) = ![8 * ((grid0.coords t 0 : Fin 2) : ℕ) + qn (grid0.coords t 2), 0] a * ![512, 2048] a + (y a).val := by
  refine (Pipeline.Window.rect_emb_val ((cfgT (F := Ideal)).win 3) t y a).trans ?_
  rw [index_o]
  match a with
  | ⟨0, _⟩ => rfl
  | ⟨1, _⟩ => rfl

theorem gold_emb (t : Fin grid0.N) (i : Fin 512) (n : Fin 2048) (y : S8192x2048.Idx)
    (h0 : (y 0).val = 4096 * bn t + (512 * qn (grid0.coords t 2) + i.val)) (h1 : (y 1).val = n.val) :
    goldArr (argQ m c) (argK m c) (argV m c) y = gold (argQ m c) (argK m c) (argV m c) (bn t) (512 * qn (grid0.coords t 2) + i.val) (n.val / 256) ⟨n.val % 256, Nat.mod_lt _ (by decide)⟩ := by
  have hq := qn_lt (grid0.coords t 2)
  have hi := i.isLt
  unfold goldArr
  have e0 : (y 0).val / 4096 = bn t := by omega
  have e1 : (y 0).val % 4096 = 512 * qn (grid0.coords t 2) + i.val := by omega
  simp only [e0, e1, h1]

/-- The kernel's result. -/
theorem result_gold (hq : Real5 (argQ m c)) (hk : Real5 (argK m c)) : result m c = goldArr (argQ m c) (argK m c) (argV m c) := by
  refine (dat m c).arrAt_eq_of_emb 3 (goldArr (argQ m c) (argK m c) (argV m c)) (fun t hf y => ?_) (fun x => ?_)
  · rw [flush_o] at hf
    have hd := of_decide_eq_true hf
    obtain ⟨i, n, rfl⟩ : ∃ (i : Fin 512) (n : Fin 2048), y = (ix2 i n : S512x2048.Idx) :=
      ⟨y 0, y 1, funext fun a => by match a with | ⟨0, _⟩ => rfl | ⟨1, _⟩ => rfl⟩
    refine (out_gold m c hq hk t hd i n).trans ?_
    refine (gold_emb m c t i n _ ?_ ?_).symm
    · exact (out_row t (ix2 i n) 0).trans (by show (8 * bn t + qn (grid0.coords t 2)) * 512 + i.val = _; omega)
    · exact (out_row t (ix2 i n) 1).trans (by show 0 * 2048 + n.val = _; omega)
  · have h0 : (x 0).val < 8192 := (x 0).isLt
    have h1 : (x 1).val < 2048 := (x 1).isLt
    obtain ⟨t, hd, hb, hqn⟩ := cover_point ⟨(x 0).val / 4096, by omega⟩ ⟨(x 0).val % 4096 / 512, by omega⟩
    refine ⟨t, by rw [flush_o]; exact decide_eq_true hd, ?_⟩
    have e : x = (((cfgT (F := Ideal)).win 3).blk t).view.emb (ix2 (⟨(x 0).val % 512, Nat.mod_lt _ (by decide)⟩ : Fin 512) (⟨(x 1).val, h1⟩ : Fin 2048)) := by
      refine funext fun a => Fin.ext ((out_row t _ a).trans ?_).symm
      match a with
      | ⟨0, _⟩ => exact show (8 * ((grid0.coords t 0 : Fin 2) : ℕ) + qn (grid0.coords t 2)) * 512 + (x 0).val % 512 = (x 0).val by rw [hb, hqn]; simp only; omega
      | ⟨1, _⟩ => exact show 0 * 2048 + (x 1).val = (x 1).val by omega
    rw [e]
    exact (((cfgT (F := Ideal)).win 3).blk t).view.emb_mem_set _

end Cert.KernelIdeal.Att
end
-- ==== Proof.Ref.lean ====
/- The reference's value, element by element. -/
module

public import proofs.«01_k».proof.Proof.Gen.ReferenceIdeal.Read
public import proofs.«01_k».proof.Proof.Online
public import Idealize.ShloMosaic.Lib.Pointwise

@[expose] public section

set_option maxRecDepth 16384

noncomputable section

namespace Cert.ReferenceIdeal.Att

open Idealize.ShloMosaic
open Cert.ReferenceIdeal Cert.ReferenceIdeal.Read Facts₀
open Cert.Softmax (sc wt)

variable (q k : S2x4096x4x2x128.Idx → EReal) (v : S2x4096x1024.Idx → EReal)

theorem div_word : ∀ n : Fin 4096, IntOp.divsi .host (BitVec.ofNat 32 n.val) 64#32 = BitVec.ofNat 32 (n.val / 64) := by decide +kernel
theorem le_word : ∀ a b : Fin 64, IntOp.cmpi .sle (BitVec.ofNat 32 a.val) (BitVec.ofNat 32 b.val) = BitVec.ofBool (decide (a.val ≤ b.val)) := by decide +kernel
theorem ofBits_neg_inf : (Ideal.ofBits .f32 0xFF800000#32 : EReal) = ⊥ := by
  simp [Ideal.ofBits, Ideal.ieee]
theorem ofBits_128 : (Ideal.ofBits .f32 0x43000000#32 : EReal) = ((128 : ℝ) : EReal) := by
  simp [Ideal.ofBits, Ideal.ieee]
  norm_num
  rw [← EReal.coe_mul]
  norm_num

/-- The mask: whether a key's chunk is not after the query's. -/
theorem mask_apply (b : Fin 2) (h : Fin 4) (c : Fin 2) (s j : Fin 4096) :
    val_main_call0_v1 (F := Ideal) (ix5 b h c s j) = BitVec.ofBool (decide (j.val / 64 ≤ s.val / 64)) := by
  have e : val_main_call0_v1 (F := Ideal) (ix5 b h c s j)
      = IntOp.cmpi .sle (IntOp.divsi .host (BitVec.ofNat 32 j.val) 64#32) (IntOp.divsi .host (BitVec.ofNat 32 s.val) 64#32) := by
    pointwise [val_main_call0_v1, val_main_v14, val_main_v12, val_main_v13, val_main_v8, val_main_v11, val_main_v6, val_main_v7, val_main_v9, val_main_v10, val_main_c, val_main_c_0, val_main_v1]
  rw [e, div_word j, div_word s]
  exact le_word ⟨j.val / 64, by omega⟩ ⟨s.val / 64, by omega⟩

theorem dot_apply (b : Fin 2) (h : Fin 4) (c : Fin 2) (s j : Fin 4096) :
    val_main_v2 (F := Ideal) q k (ix5 b h c s j) = ∑ d : Fin 128, q (ix5 b s h c d) * k (ix5 b j h c d) := by
  pointwise [val_main_v2]

theorem root_apply (b : Fin 2) (h : Fin 4) (c : Fin 2) (s j : Fin 4096) :
    val_main_v4 (F := Ideal) (ix5 b h c s j) = ((Real.sqrt 128 : ℝ) : EReal) := by
  have e : val_main_v4 (F := Ideal) (ix5 b h c s j) = Ideal.sqrt (Ideal.ofBits .f32 0x43000000#32) := by
    pointwise [val_main_v4, val_main_v3, val_main_cst]
  rw [e, ofBits_128]
  exact (Ideal.sqrt_coe _).trans (if_neg (by norm_num))

/-- The masked score of a real product. -/
theorem score_apply (b : Fin 2) (h : Fin 4) (c : Fin 2) (s j : Fin 4096) (x : ℝ)
    (hx : ∑ d : Fin 128, q (ix5 b s h c d) * k (ix5 b j h c d) = ((x : ℝ) : EReal)) :
    val_main_v15 (F := Ideal) q k (ix5 b h c s j) = sc (j.val / 64 ≤ s.val / 64) (x * (1 / Real.sqrt 128)) := by
  rw [val_main_v15_apply, mask_apply, val_main_v5_apply, dot_apply, root_apply, hx, val_main_call0_v2_apply, val_main_call0_v0_apply, val_main_cst_1_apply]
  have hn : FloatOps.hostDivf (F := Ideal) (φ := .f32) ((x : ℝ) : EReal) ((Real.sqrt 128 : ℝ) : EReal) = ((x * (1 / Real.sqrt 128) : ℝ) : EReal) := by
    show Ideal.div _ _ = _
    rw [Ideal.div_coe (by positivity), EReal.coe_mul]
  rw [hn]
  by_cases hp : j.val / 64 ≤ s.val / 64
  · unfold sc; rw [decide_eq_true hp, if_pos hp]; rfl
  · unfold sc; rw [decide_eq_false hp, if_neg hp]; exact ofBits_neg_inf

/-- A maximum that reads no plus infinity and something above minus infinity is a number. -/
theorem reduce_real {s t u : Shape} {axes : List (Fin s.rank)} (y : s.Idx → EReal) (init : u.Idx → EReal) (hd : s.ReducesTo axes t) (hu : 0 < u.numel)
    (j : t.Idx) (hi : init (Shape.Idx.first hu) = ⊥) (hy : ∀ i, y i ≠ ⊤) (i0 : s.Idx) (h0 : hd.drop i0 = j) (hb : y i0 ≠ ⊥) :
    ∃ ρ : ℝ, Host.reduce (FloatOps.maximumf (F := Ideal) (φ := .f32)) y init hd hu j = (ρ : EReal) := by
  have e : Host.reduce (FloatOps.maximumf (F := Ideal) (φ := .f32)) y init hd hu j = Host.reduce (max : EReal → EReal → EReal) y init hd hu j := rfl
  rw [e, Host.reduce_eq_fold, hi]
  refine ⟨_, (EReal.coe_toReal ?_ ?_).symm⟩
  · exact ne_of_lt ((Finset.fold_max_lt _).2 ⟨bot_lt_top, fun i _ => lt_top_iff_ne_top.2 (hy i)⟩)
  · exact ne_of_gt ((Finset.lt_fold_max _).2 (.inr ⟨i0, by rw [Finset.mem_filter]; exact ⟨Finset.mem_univ _, h0⟩, bot_lt_iff_ne_bot.2 hb⟩))

/-- A row's maximum is a number. -/
theorem max_real (b : Fin 2) (h : Fin 4) (c : Fin 2) (s : Fin 4096) (hy : ∀ i, val_main_v15 (F := Ideal) q k i ≠ ⊤)
    (hb : val_main_v15 (F := Ideal) q k (ix5 b h c s 0) ≠ ⊥) :
    ∃ ρ : ℝ, val_main_v18 (F := Ideal) q k (ix4 b h c s) = (ρ : EReal) := by
  obtain ⟨ρ, hρ⟩ := reduce_real (val_main_v15 (F := Ideal) q k) (val_main_cst_2 (F := Ideal)) reducesTo_S2x4x2x4096x4096_S2x4x2x4096_d4 h_S_
    (ix4 b h c s) ofBits_neg_inf hy (ix5 b h c s 0)
    (funext fun a => Fin.ext (by match a with | ⟨0, _⟩ => rfl | ⟨1, _⟩ => rfl | ⟨2, _⟩ => rfl | ⟨3, _⟩ => rfl)) hb
  refine ⟨ρ, ?_⟩
  have e : val_main_v16 (F := Ideal) q k (ix4 b h c s) = (ρ : EReal) := hρ
  rw [val_main_v18_apply, e, val_main_v17_apply, val_main_cst_3_apply]
  show max (Ideal.ofBits .f32 0xFF800000#32 : EReal) _ = _
  rw [ofBits_neg_inf, max_eq_right bot_le]

theorem exp_apply (b : Fin 2) (h : Fin 4) (c : Fin 2) (s j : Fin 4096) :
    val_main_v22 (F := Ideal) q k (ix5 b h c s j) = Ideal.exp (val_main_v15 (F := Ideal) q k (ix5 b h c s j) - val_main_v18 (F := Ideal) q k (ix4 b h c s)) := by
  pointwise [val_main_v22, val_main_v21, val_main_v20, val_main_v19]

theorem prob_apply (b : Fin 2) (h : Fin 4) (c : Fin 2) (s j : Fin 4096) :
    val_main_v26 (F := Ideal) q k (ix5 b h c s j) = Ideal.div (val_main_v22 (F := Ideal) q k (ix5 b h c s j)) (0 + ∑ i : Fin 4096, val_main_v22 (F := Ideal) q k (ix5 b h c s i)) := by
  pointwise [val_main_v26, val_main_v25, val_main_v24, val_main_v23, val_main_cst_4]

theorem out_apply (r : Fin 8192) (n : Fin 2048) :
    val_main_v29 (F := Ideal) q k v (ix2 r n)
      = ∑ j : Fin 4096, v (ix3 ⟨r.val / 4096, by omega⟩ j ⟨n.val / 512 * 256 + n.val % 256, by omega⟩)
          * val_main_v26 (F := Ideal) q k (ix5 ⟨r.val / 4096, by omega⟩ ⟨n.val / 512, by omega⟩ ⟨n.val / 256 % 2, by omega⟩ ⟨r.val % 4096, by omega⟩ j) := by
  pointwise [val_main_v29, val_main_v28, val_main_v27, val_main_v0]

end Cert.ReferenceIdeal.Att
end
-- ==== Proof.RefValue.lean ====
/- The reference's result: the same weighted mean of the values as the kernel's. -/
module

public import proofs.«01_k».proof.Proof.Traj
public import proofs.«01_k».proof.Proof.Ref

@[expose] public section

set_option maxRecDepth 16384

noncomputable section

namespace Cert.ReferenceIdeal.Att

open Idealize.ShloMosaic
open Cert.ReferenceIdeal Cert.ReferenceIdeal.Read Facts₀
open Cert.Softmax (sc wt)
open Cert.KernelIdeal.Att (dotR wgt vals gold at5 at3 at5_coe Real5 scaleR wgt_sum_pos)

variable (q k : S2x4096x4x2x128.Idx → EReal) (v : S2x4096x1024.Idx → EReal)

/-- A head's number from its two parts. -/
def hd (h : Fin 4) (c : Fin 2) : ℕ := 2 * h.val + c.val

theorem at5_ix (x : S2x4096x4x2x128.Idx → EReal) (b : Fin 2) (s : Fin 4096) (h : Fin 4) (c : Fin 2) (d : Fin 128) :
    x (ix5 b s h c d) = at5 x b.val s.val (hd h c) d.val := by
  have hb := b.isLt; have hs := s.isLt; have hh := h.isLt; have hc := c.isLt; have hd' := d.isLt
  unfold at5 hd
  congr 1
  congr 1 <;> apply Fin.ext <;> simp only <;> omega

theorem dot_real (hq : Real5 q) (hk : Real5 k) (b : Fin 2) (h : Fin 4) (c : Fin 2) (s j : Fin 4096) :
    ∑ d : Fin 128, q (ix5 b s h c d) * k (ix5 b j h c d) = ((dotR q k b.val (hd h c) s.val j.val : ℝ) : EReal) := by
  unfold dotR
  rw [Finset.sum_range, Cert.Softmax.coe_sum]
  refine Finset.sum_congr rfl fun d _ => ?_
  rw [at5_ix q, at5_ix k, EReal.coe_mul, ← at5_coe q hq, ← at5_coe k hk]

theorem score_real (hq : Real5 q) (hk : Real5 k) (b : Fin 2) (h : Fin 4) (c : Fin 2) (s j : Fin 4096) :
    val_main_v15 (F := Ideal) q k (ix5 b h c s j) = sc (j.val / 64 ≤ s.val / 64) (dotR q k b.val (hd h c) s.val j.val * (1 / Real.sqrt 128)) :=
  score_apply q k b h c s j _ (dot_real q k hq hk b h c s j)

theorem scale_eq (x : ℝ) : x * (1 / Real.sqrt 128) * (Real.log 2)⁻¹ = scaleR * x := by
  unfold scaleR
  rw [one_div]; ring

theorem exp_real (hq : Real5 q) (hk : Real5 k) (b : Fin 2) (h : Fin 4) (c : Fin 2) (s : Fin 4096) :
    ∃ ρ : ℝ, ∀ j : Fin 4096, val_main_v22 (F := Ideal) q k (ix5 b h c s j) = ((Real.exp (-ρ) * wgt q k b.val (hd h c) s.val j.val : ℝ) : EReal) := by
  obtain ⟨ρ, hρ⟩ := max_real q k b h c s (fun i => by
      obtain ⟨b', h', c', s', j', rfl⟩ : ∃ b' h' c' s' j', i = ix5 b' h' c' s' j' :=
        ⟨i 0, i 1, i 2, i 3, i 4, funext fun a => by match a with | ⟨0, _⟩ => rfl | ⟨1, _⟩ => rfl | ⟨2, _⟩ => rfl | ⟨3, _⟩ => rfl | ⟨4, _⟩ => rfl⟩
      rw [score_real q k hq hk b' h' c' s' j']
      exact Cert.Softmax.sc_ne_top _ _) (by
      rw [score_real q k hq hk b h c s 0]
      unfold sc
      rw [if_pos (show ((0 : Fin 4096) : ℕ) / 64 ≤ s.val / 64 from by simp)]
      exact EReal.coe_ne_bot _)
  refine ⟨ρ, fun j => ?_⟩
  rw [exp_apply, hρ, score_real q k hq hk b h c s j, Cert.Softmax.exp_sub, scale_eq]
  rfl

theorem prob_gold (hq : Real5 q) (hk : Real5 k) (b : Fin 2) (h : Fin 4) (c : Fin 2) (s : Fin 4096) (w : ℕ → EReal) :
    ∑ j : Fin 4096, w j.val * val_main_v26 (F := Ideal) q k (ix5 b h c s j)
      = (∑ j ∈ Finset.range (512 * (s.val / 512 + 1)), (wgt q k b.val (hd h c) s.val j : EReal) * w j)
        * (((∑ j ∈ Finset.range (512 * (s.val / 512 + 1)), wgt q k b.val (hd h c) s.val j)⁻¹ : ℝ) : EReal) := by
  obtain ⟨ρ, hρ⟩ := exp_real q k hq hk b h c s
  have hs := s.isLt
  refine (Finset.sum_congr rfl fun j _ => congrArg (w j.val * ·) (prob_apply q k b h c s j)).trans ?_
  refine Cert.Softmax.plain (wgt q k b.val (hd h c) s.val) (512 * (s.val / 512 + 1)) 4096 (by omega) w (fun j => Cert.Softmax.wt_nonneg _ _) (fun j hj => ?_)
    (wgt_sum_pos _ _ _ _ _ _ (by omega)) (Real.exp (-ρ)) (Real.exp_pos _) (fun j => val_main_v22 (F := Ideal) q k (ix5 b h c s j)) hρ
  exact Cert.Softmax.wt_zero (by omega) _

/-- The reference's result, element by element. -/
theorem out_gold (hq : Real5 q) (hk : Real5 k) (r : Fin 8192) (n : Fin 2048) :
    val_main_v29 (F := Ideal) q k v (ix2 r n) = gold q k v (r.val / 4096) (r.val % 4096) (n.val / 256) ⟨n.val % 256, Nat.mod_lt _ (by decide)⟩ := by
  have hr := r.isLt
  have hn := n.isLt
  rw [out_apply]
  have hv : ∀ j : Fin 4096, v (ix3 ⟨r.val / 4096, by omega⟩ j ⟨n.val / 512 * 256 + n.val % 256, by omega⟩)
      = vals v (r.val / 4096) (n.val / 256) ⟨n.val % 256, Nat.mod_lt _ (by decide)⟩ j.val := fun j => by
    have hj := j.isLt
    unfold vals at3
    congr 1
    congr 1 <;> apply Fin.ext <;> simp only <;> omega
  refine (Finset.sum_congr rfl fun j _ => congrArg (· * _) (hv j)).trans ?_
  refine (prob_gold q k hq hk _ _ _ _ (vals v (r.val / 4096) (n.val / 256) ⟨n.val % 256, Nat.mod_lt _ (by decide)⟩)).trans ?_
  have e : hd ⟨n.val / 512, by omega⟩ ⟨n.val / 256 % 2, by omega⟩ = n.val / 256 := by unfold hd; simp only; omega
  rw [e]
  rfl

end Cert.ReferenceIdeal.Att
end
-- ==== Proof.Finite.lean ====
/- What the precondition says: every query and every key is a real number. -/
module

public import proofs.«01_k».proof.Defs
public import proofs.«01_k».proof.Proof.Traj
public import Idealize.ShloMosaic.Lib.ReduceAll

@[expose] public section

noncomputable section

namespace Cert.Finite

open Idealize.ShloMosaic
open Cert.KernelIdeal.Att (Real5)

/-- The predicate's shape relations. -/
theorem facts : Cert.Pre_finite.Facts := ⟨by decide, by decide, by decide⟩

theorem ofBits_inf : (Ideal.ofBits .f32 0x7F800000#32 : EReal) = ⊤ := by simp [Ideal.ofBits, Ideal.ieee]

/-- A magnitude below plus infinity is a number's. -/
theorem real_of_lt (x : EReal) (h : FloatOps.cmpf (F := Ideal) (φ := .f32) .olt (FloatOps.hostAbsf (F := Ideal) (φ := .f32) x) (FloatOps.ofBits (F := Ideal) .f32 0x7F800000#32) = 1#1) :
    x ≠ ⊤ ∧ x ≠ ⊥ := by
  have h' : Ideal.cmp .olt (max (x : EReal) (-x)) (Ideal.ofBits .f32 0x7F800000#32) = 1#1 := h
  rw [ofBits_inf] at h'
  unfold Ideal.cmp at h'
  constructor
  · rintro rfl; simp at h'
  · rintro rfl; simp at h'

theorem and_one (a b : BitVec 1) (h : IntOp.andi a b = 1#1) : a = 1#1 ∧ b = 1#1 := IntOp.andi_eq_one.1 h

/-- Where the predicate is one, the queries and the keys are real. -/
theorem real [hP : Cert.Pre_finite.Facts] (q k : Cert.Pre_finite.S2x4096x4x2x128.Idx → EReal) (v : Cert.Pre_finite.S2x4096x1024.Idx → EReal)
    (h : Cert.Pre_finite.fn (F := Ideal) q k v = fun _ => 1#1) : Real5 q ∧ Real5 k := by
  have hs : Subsingleton Cert.Pre_finite.S_.Idx := ⟨fun a b => funext fun i => i.elim0⟩
  obtain ⟨h1, h2⟩ := and_one _ _ (congrFun h ix0)
  exact ⟨fun i => real_of_lt _ (Host.reduce_andi_all _ _ _ _ _ h1 i), fun i => real_of_lt _ (Host.reduce_andi_all _ _ _ _ _ h2 i)⟩

end Cert.Finite
end
-- ==== Proof.Further.lean ====
/- The frames of the further calls at the words: the run of the idealized program, whose text is the same, over the words. -/
module

public import proofs.«01_k».proof.Proof.Gen.Kernel2
public import proofs.«01_k».proof.Proof.Gen.Kernel2Ideal.Frame
public import proofs.«01_k».proof.Proof.Gen.Kernel3
public import proofs.«01_k».proof.Proof.Gen.Kernel3Ideal.Frame
public import proofs.«01_k».proof.Proof.Gen.Kernel4
public import proofs.«01_k».proof.Proof.Gen.Kernel4Ideal.Frame
public import proofs.«01_k».proof.Proof.Gen.Kernel5
public import proofs.«01_k».proof.Proof.Gen.Kernel5Ideal.Frame
public import proofs.«01_k».proof.Proof.Gen.Kernel6
public import proofs.«01_k».proof.Proof.Gen.Kernel6Ideal.Frame
public import proofs.«01_k».proof.Proof.Gen.Kernel7
public import proofs.«01_k».proof.Proof.Gen.Kernel7Ideal.Frame
public import proofs.«01_k».proof.Proof.Gen.Kernel8
public import proofs.«01_k».proof.Proof.Gen.Kernel8Ideal.Frame
public import proofs.«01_k».proof.Proof.Gen.Kernel9
public import proofs.«01_k».proof.Proof.Gen.Kernel9Ideal.Frame
public import proofs.«01_k».proof.Proof.Gen.Kernel10
public import proofs.«01_k».proof.Proof.Gen.Kernel10Ideal.Frame
public import proofs.«01_k».proof.Proof.Gen.Kernel12
public import proofs.«01_k».proof.Proof.Gen.Kernel12Ideal.Frame
public import proofs.«01_k».proof.Proof.Gen.Kernel13
public import proofs.«01_k».proof.Proof.Gen.Kernel13Ideal.Frame
public import proofs.«01_k».proof.Proof.Gen.Kernel14
public import proofs.«01_k».proof.Proof.Gen.Kernel14Ideal.Frame
public import proofs.«01_k».proof.Proof.Gen.Kernel15
public import proofs.«01_k».proof.Proof.Gen.Kernel15Ideal.Frame
public import proofs.«01_k».proof.Proof.Gen.Kernel16
public import proofs.«01_k».proof.Proof.Gen.Kernel16Ideal.Frame
public import proofs.«01_k».proof.Proof.Gen.Kernel17
public import proofs.«01_k».proof.Proof.Gen.Kernel17Ideal.Frame
public import proofs.«01_k».proof.Defs

@[expose] public section

set_option maxRecDepth 16384

namespace Cert.Further

open Idealize.ShloMosaic

theorem defs2 : Cert.Kernel2.defs (F := Bits) = Cert.Kernel2Ideal.defs (F := Bits) :=
  congrArg (Pipeline.defs (Cert.Kernel2.pcfgs (F := Bits))) (congrArg Defs.onTc (funext fun l => funext fun a => match l, a with | 0, (t, s) => rfl))

theorem frame2 : Cert.quiescent_Kernel2 := fun m g _ => by
  rw [defs2]
  exact Cert.Kernel2Ideal.Gen.frame (F := Bits) m g

theorem defs3 : Cert.Kernel3.defs (F := Bits) = Cert.Kernel3Ideal.defs (F := Bits) :=
  congrArg (Pipeline.defs (Cert.Kernel3.pcfgs (F := Bits))) (congrArg Defs.onTc (funext fun l => funext fun a => match l, a with | 0, (t, s) => rfl))

theorem frame3 : Cert.quiescent_Kernel3 := fun m g _ => by
  rw [defs3]
  exact Cert.Kernel3Ideal.Gen.frame (F := Bits) m g

theorem defs4 : Cert.Kernel4.defs (F := Bits) = Cert.Kernel4Ideal.defs (F := Bits) :=
  congrArg (Pipeline.defs (Cert.Kernel4.pcfgs (F := Bits))) (congrArg Defs.onTc (funext fun l => funext fun a => match l, a with | 0, (t, s) => rfl))

theorem frame4 : Cert.quiescent_Kernel4 := fun m g _ => by
  rw [defs4]
  exact Cert.Kernel4Ideal.Gen.frame (F := Bits) m g

theorem defs5 : Cert.Kernel5.defs (F := Bits) = Cert.Kernel5Ideal.defs (F := Bits) :=
  congrArg (Pipeline.defs (Cert.Kernel5.pcfgs (F := Bits))) (congrArg Defs.onTc (funext fun l => funext fun a => match l, a with | 0, (t, s) => rfl))

theorem frame5 : Cert.quiescent_Kernel5 := fun m g _ => by
  rw [defs5]
  exact Cert.Kernel5Ideal.Gen.frame (F := Bits) m g

theorem defs6 : Cert.Kernel6.defs (F := Bits) = Cert.Kernel6Ideal.defs (F := Bits) :=
  congrArg (Pipeline.defs (Cert.Kernel6.pcfgs (F := Bits))) (congrArg Defs.onTc (funext fun l => funext fun a => match l, a with | 0, (t, s) => rfl))

theorem frame6 : Cert.quiescent_Kernel6 := fun m g _ => by
  rw [defs6]
  exact Cert.Kernel6Ideal.Gen.frame (F := Bits) m g

theorem defs7 : Cert.Kernel7.defs (F := Bits) = Cert.Kernel7Ideal.defs (F := Bits) :=
  congrArg (Pipeline.defs (Cert.Kernel7.pcfgs (F := Bits))) (congrArg Defs.onTc (funext fun l => funext fun a => match l, a with | 0, (t, s) => rfl))

theorem frame7 : Cert.quiescent_Kernel7 := fun m g _ => by
  rw [defs7]
  exact Cert.Kernel7Ideal.Gen.frame (F := Bits) m g

theorem defs8 : Cert.Kernel8.defs (F := Bits) = Cert.Kernel8Ideal.defs (F := Bits) :=
  congrArg (Pipeline.defs (Cert.Kernel8.pcfgs (F := Bits))) (congrArg Defs.onTc (funext fun l => funext fun a => match l, a with | 0, (t, s) => rfl))

theorem frame8 : Cert.quiescent_Kernel8 := fun m g _ => by
  rw [defs8]
  exact Cert.Kernel8Ideal.Gen.frame (F := Bits) m g

theorem defs9 : Cert.Kernel9.defs (F := Bits) = Cert.Kernel9Ideal.defs (F := Bits) :=
  congrArg (Pipeline.defs (Cert.Kernel9.pcfgs (F := Bits))) (congrArg Defs.onTc (funext fun l => funext fun a => match l, a with | 0, (t, s) => rfl))

theorem frame9 : Cert.quiescent_Kernel9 := fun m g _ => by
  rw [defs9]
  exact Cert.Kernel9Ideal.Gen.frame (F := Bits) m g

theorem defs10 : Cert.Kernel10.defs (F := Bits) = Cert.Kernel10Ideal.defs (F := Bits) :=
  congrArg (Pipeline.defs (Cert.Kernel10.pcfgs (F := Bits))) (congrArg Defs.onTc (funext fun l => funext fun a => match l, a with | 0, (t, s) => rfl))

theorem frame10 : Cert.quiescent_Kernel10 := fun m g _ => by
  rw [defs10]
  exact Cert.Kernel10Ideal.Gen.frame (F := Bits) m g

theorem defs12 : Cert.Kernel12.defs (F := Bits) = Cert.Kernel12Ideal.defs (F := Bits) :=
  congrArg (Pipeline.defs (Cert.Kernel12.pcfgs (F := Bits))) (congrArg Defs.onTc (funext fun l => funext fun a => match l, a with | 0, (t, s) => rfl))

theorem frame12 : Cert.quiescent_Kernel12 := fun m g _ => by
  rw [defs12]
  exact Cert.Kernel12Ideal.Gen.frame (F := Bits) m g

theorem defs13 : Cert.Kernel13.defs (F := Bits) = Cert.Kernel13Ideal.defs (F := Bits) :=
  congrArg (Pipeline.defs (Cert.Kernel13.pcfgs (F := Bits))) (congrArg Defs.onTc (funext fun l => funext fun a => match l, a with | 0, (t, s) => rfl))

set_option maxHeartbeats 2000000 in
theorem frame13 : Cert.quiescent_Kernel13 := fun m g _ => by
  rw [defs13]
  exact Cert.Kernel13Ideal.Gen.frame (F := Bits) m g

theorem defs14 : Cert.Kernel14.defs (F := Bits) = Cert.Kernel14Ideal.defs (F := Bits) :=
  congrArg (Pipeline.defs (Cert.Kernel14.pcfgs (F := Bits))) (congrArg Defs.onTc (funext fun l => funext fun a => match l, a with | 0, (t, s) => rfl))

theorem frame14 : Cert.quiescent_Kernel14 := fun m g _ => by
  rw [defs14]
  exact Cert.Kernel14Ideal.Gen.frame (F := Bits) m g

theorem defs15 : Cert.Kernel15.defs (F := Bits) = Cert.Kernel15Ideal.defs (F := Bits) :=
  congrArg (Pipeline.defs (Cert.Kernel15.pcfgs (F := Bits))) (congrArg Defs.onTc (funext fun l => funext fun a => match l, a with | 0, (t, s) => rfl))

theorem frame15 : Cert.quiescent_Kernel15 := fun m g _ => by
  rw [defs15]
  exact Cert.Kernel15Ideal.Gen.frame (F := Bits) m g

theorem defs16 : Cert.Kernel16.defs (F := Bits) = Cert.Kernel16Ideal.defs (F := Bits) :=
  congrArg (Pipeline.defs (Cert.Kernel16.pcfgs (F := Bits))) (congrArg Defs.onTc (funext fun l => funext fun a => match l, a with | 0, (t, s) => rfl))

theorem frame16 : Cert.quiescent_Kernel16 := fun m g _ => by
  rw [defs16]
  exact Cert.Kernel16Ideal.Gen.frame (F := Bits) m g

theorem defs17 : Cert.Kernel17.defs (F := Bits) = Cert.Kernel17Ideal.defs (F := Bits) :=
  congrArg (Pipeline.defs (Cert.Kernel17.pcfgs (F := Bits))) (congrArg Defs.onTc (funext fun l => funext fun a => match l, a with | 0, (t, s) => rfl))

theorem frame17 : Cert.quiescent_Kernel17 := fun m g _ => by
  rw [defs17]
  exact Cert.Kernel17Ideal.Gen.frame (F := Bits) m g

end Cert.Further
end
-- ==== Proof.Query.lean ====
/- PEER's queries: every element of the projection is the product of a row and a column. -/
module

public import proofs.«01_k».proof.Proof.Gen.Kernel3Ideal.Value
public import proofs.«01_k».proof.Proof.Gen.Reference3Ideal.Read
public import Idealize.ShloMosaic.Lib.Pointwise
public import Idealize.ShloMosaic.Lib.Pipeline.ValueKit

@[expose] public section

set_option maxRecDepth 16384

noncomputable section

namespace Cert.Kernel3Ideal.Val

open Idealize.ShloMosaic Idealize.ShloMosaic.TcCoe
open Idealize.ShloMosaic.Pipeline
open Cert.Kernel3Ideal Cert.Kernel3Ideal.Gen

/-- The product as one array. -/
def prod (x : S2x4096x2048.Idx → EReal) (w : S2048x2048.Idx → EReal) : S8192x2048.Idx → EReal := fun y =>
  ∑ d : Fin 2048, x (ix3 ⟨(y 0).val / 4096, by have h : (y 0).val < 8192 := (y 0).isLt; omega⟩ ⟨(y 0).val % 4096, Nat.mod_lt _ (by decide)⟩ d) * w (ix2 d ⟨(y 1).val, (y 1).isLt⟩)

theorem block_apply (a : Vec Ideal S1024x2048 .bf16) (b : Vec Ideal S2048x1024 .bf16) (i j : Fin 1024) :
    out0_2 a b (ix2 i j) = ∑ d : Fin 2048, a (ix2 i d) * b (ix2 d j) := by
  unfold out0_2
  frame_out
  pointwise [k0_pay1]

variable (m : (ℓ : Loc nD τ sig) → Buf (Elt Ideal) ℓ) (c : Dev nD)

/-- What a device is given. -/
def argX : S2x4096x2048.Idx → EReal := m ((c.tc : Thread nD τ).loc main_arg0)
@[inherit_doc argX] def argW : S2048x2048.Idx → EReal := m ((c.tc : Thread nD τ).loc main_arg1)

theorem V_x : V m c main_v1 = (truncf .bf16 (shapeCast S8192x2048 (argX m c) shapeCasts_S2x4096x2048_S8192x2048 : FVec Ideal S8192x2048 .f32) bitsLt_bf16_f32 : FVec Ideal S8192x2048 .bf16) := by
  unfold V
  after_results
  rfl

theorem V_w : V m c main_v2 = (truncf .bf16 (argW m c : FVec Ideal S2048x2048 .f32) bitsLt_bf16_f32 : FVec Ideal S2048x2048 .bf16) := by
  unfold V
  after_results
  rfl

theorem V_x_apply (r : Fin 8192) (n : Fin 2048) :
    (V m c main_v1 : S8192x2048.Idx → EReal) (ix2 r n) = argX m c (ix3 ⟨r.val / 4096, by omega⟩ ⟨r.val % 4096, by omega⟩ n) := by
  rw [V_x]
  pointwise

theorem V_w_apply (i n : Fin 2048) : (V m c main_v2 : S2048x2048.Idx → EReal) (ix2 i n) = argW m c (ix2 i n) := by
  rw [V_w]
  pointwise

theorem index_x : ∀ t : Fin grid0.N, win0_0.index t = ![(grid0.coords t 0).val, 0] := by decide +kernel
theorem index_w : ∀ t : Fin grid0.N, win0_1.index t = ![0, (grid0.coords t 1).val] := by decide +kernel
theorem index_o : ∀ t : Fin grid0.N, win0_2.index t = ![(grid0.coords t 0).val, (grid0.coords t 1).val] := by decide +kernel

/-- An index is its two coordinates. -/
theorem exists_ix2 {p q : ℕ} (y : (⟨2, ![p, q]⟩ : Shape).Idx) : ∃ (a : Fin p) (b : Fin q), y = ix2 a b :=
  ⟨y 0, y 1, funext fun a => by match a with | ⟨0, _⟩ => rfl | ⟨1, _⟩ => rfl⟩

theorem ix_of {p q : ℕ} (y : (⟨2, ![p, q]⟩ : Shape).Idx) (a : Fin p) (b : Fin q) (h0 : (y 0).val = a.val) (h1 : (y 1).val = b.val) : y = ix2 a b :=
  funext fun k => match k with
    | ⟨0, _⟩ => Fin.ext h0
    | ⟨1, _⟩ => Fin.ext h1

theorem row_x (t : Fin grid0.N) (y : S1024x2048.Idx) (a : Fin 2) :
    ((win0_0.blk t).view.emb y a : ℕ) = ![(grid0.coords t 0).val, 0] a * ![1024, 2048] a + (y a).val := (win0_0.rect_emb_val t y a).trans (by rw [index_x])

theorem row_w (t : Fin grid0.N) (y : S2048x1024.Idx) (a : Fin 2) :
    ((win0_1.blk t).view.emb y a : ℕ) = ![0, (grid0.coords t 1).val] a * ![2048, 1024] a + (y a).val := (win0_1.rect_emb_val t y a).trans (by rw [index_w])

theorem row_o (t : Fin grid0.N) (y : S1024x1024.Idx) (a : Fin 2) :
    ((win0_2.blk t).view.emb y a : ℕ) = ![(grid0.coords t 0).val, (grid0.coords t 1).val] a * ![1024, 1024] a + (y a).val := (win0_2.rect_emb_val t y a).trans (by rw [index_o])

theorem lt0 (t : Fin grid0.N) : (grid0.coords t 0).val < 8 := (grid0.coords t 0).isLt
theorem lt1 (t : Fin grid0.N) : (grid0.coords t 1).val < 2 := (grid0.coords t 1).isLt

theorem iblk_x (t : Fin grid0.N) (i : Fin 1024) (d : Fin 2048) (r : Fin 8192) (hr : r.val = (grid0.coords t 0).val * 1024 + i.val) :
    (iblk m c 0 t : S1024x2048.Idx → EReal) (ix2 i d) = argX m c (ix3 ⟨r.val / 4096, by omega⟩ ⟨r.val % 4096, by omega⟩ d) := by
  refine Eq.trans ?_ (V_x_apply m c r d)
  refine congrArg (V m c main_v1 : S8192x2048.Idx → EReal) (ix_of _ r d ?_ ?_)
  · exact (row_x t (ix2 i d) 0).trans hr.symm
  · exact (row_x t (ix2 i d) 1).trans (by show 0 * 2048 + d.val = _; omega)

theorem iblk_w (t : Fin grid0.N) (d : Fin 2048) (j : Fin 1024) (n : Fin 2048) (hn : n.val = (grid0.coords t 1).val * 1024 + j.val) :
    (iblk m c 1 t : S2048x1024.Idx → EReal) (ix2 d j) = argW m c (ix2 d n) := by
  refine Eq.trans ?_ (V_w_apply m c d n)
  refine congrArg (V m c main_v2 : S2048x2048.Idx → EReal) (ix_of _ d n ?_ ?_)
  · exact (row_w t (ix2 d j) 0).trans (by show 0 * 2048 + d.val = _; omega)
  · exact (row_w t (ix2 d j) 1).trans hn.symm

theorem prod_ix (x : S2x4096x2048.Idx → EReal) (w : S2048x2048.Idx → EReal) (r : Fin 8192) (n : Fin 2048) :
    prod x w (ix2 r n) = ∑ d : Fin 2048, x (ix3 ⟨r.val / 4096, by omega⟩ ⟨r.val % 4096, by omega⟩ d) * w (ix2 d n) := rfl

/-- The kernel's result. -/
theorem result_eq : (dats m 0 c).arrAt 2 cfg0.N = prod (argX m c) (argW m c) := by
  refine (dats m 0 c).arrAt_eq_of_covers 2 (prod (argX m c) (argW m c)) (by decide +kernel) fun t hf y => ?_
  obtain ⟨i, j, rfl⟩ := exists_ix2 y
  blk_simp
  rw [after0_2]
  refine (block_apply _ _ i j).trans ?_
  have h0 := lt0 t
  have h1 := lt1 t
  have e : (win0_2.blk t).view.emb (ix2 i j) = ix2 (⟨(grid0.coords t 0).val * 1024 + i.val, by omega⟩ : Fin 8192) (⟨(grid0.coords t 1).val * 1024 + j.val, by omega⟩ : Fin 2048) :=
    ix_of _ _ _ (row_o t (ix2 i j) 0) (row_o t (ix2 i j) 1)
  rw [e, prod_ix]
  refine Finset.sum_congr rfl fun d _ => ?_
  exact congrArg₂ (· * ·) (iblk_x m c t i d _ rfl) (iblk_w m c t d j _ rfl)

end Cert.Kernel3Ideal.Val

namespace Cert.Reference3Ideal.Val

open Idealize.ShloMosaic Idealize.ShloMosaic.TcCoe
open Cert.Reference3Ideal Cert.Reference3Ideal.Read

/-- The reference is the same product. -/
theorem out_eq (x : Vec Ideal S2x4096x2048 .f32) (w : Vec Ideal S2048x2048 .f32) :
    val_main_v2 x w = Cert.Kernel3Ideal.Val.prod x w := by
  funext y
  obtain ⟨r, n, rfl⟩ := Cert.Kernel3Ideal.Val.exists_ix2 y
  rw [Cert.Kernel3Ideal.Val.prod_ix]
  pointwise [val_main_v2, val_main_v1, val_main_v0]

end Cert.Reference3Ideal.Val
end
-- ==== Proof.InProj.lean ====
/- The even layers' input projection: a row times a column of the reordered weights, the query columns scaled. -/
module

public import proofs.«01_k».proof.Proof.Gen.Kernel2Ideal.Value
public import proofs.«01_k».proof.Proof.Gen.Reference2Ideal.Read
public import proofs.«01_k».proof.Proof.Query

@[expose] public section

set_option maxRecDepth 16384

noncomputable section

namespace Cert.Kernel2Ideal.Val

open Idealize.ShloMosaic Idealize.ShloMosaic.TcCoe
open Idealize.ShloMosaic.Pipeline
open Cert.Kernel2Ideal Cert.Kernel2Ideal.Gen
open Cert.Kernel3Ideal.Val (ix_of exists_ix2)

/-- The column of the weights a column of the result is made of. -/
def src (n : ℕ) : ℕ :=
  if n < 1024 then n else if n < 2048 then n + 2056 else if n < 4096 then n - 1024 else n + 8

theorem src_lt (n : ℕ) (h : n < 6144) : src n < 6152 := by
  unfold src
  split_ifs <;> omega

/-- The scale of a column. -/
def scl (n : ℕ) : EReal := if n < 2048 then Ideal.ofBits .f32 0x3E0293EE#32 else 1

/-- The projection as one array. -/
def proj (x : S2x4096x2048.Idx → EReal) (w : S2048x6152.Idx → EReal) : S8192x6144.Idx → EReal := fun y =>
  (∑ d : Fin 2048, x (ix3 ⟨(y 0).val / 4096, by have h : (y 0).val < 8192 := (y 0).isLt; omega⟩ ⟨(y 0).val % 4096, Nat.mod_lt _ (by decide)⟩ d)
    * w (ix2 d ⟨src (y 1).val, src_lt _ (y 1).isLt⟩)) * scl (y 1).val

theorem block_apply (a : Vec Ideal S1024x2048 .bf16) (b : Vec Ideal S2048x1024 .bf16) (s : Vec Ideal S1x1024 .f32) (i j : Fin 1024) :
    out0_3 a b s (ix2 i j) = (∑ d : Fin 2048, a (ix2 i d) * b (ix2 d j)) * s (ix2 0 j) := by
  unfold out0_3
  frame_out
  pointwise [k0_pay1]

variable (m : (ℓ : Loc nD τ sig) → Buf (Elt Ideal) ℓ) (c : Dev nD)

/-- What a device is given. -/
def argX : S2x4096x2048.Idx → EReal := m ((c.tc : Thread nD τ).loc main_arg0)
@[inherit_doc argX] def argW : S2048x6152.Idx → EReal := m ((c.tc : Thread nD τ).loc main_arg1)

theorem V_x : V m c main_v1 = (truncf .bf16 (shapeCast S8192x2048 (argX m c) shapeCasts_S2x4096x2048_S8192x2048 : FVec Ideal S8192x2048 .f32) bitsLt_bf16_f32 : FVec Ideal S8192x2048 .bf16) := by
  unfold V
  after_results
  rfl

theorem V_w : V m c main_v9 = (truncf .bf16 (concatenate S2048x6144 1
      [⟨S2048x1024, extractStridedSlice S2048x1024 ![0, 0] (argW m c) slices_S2048x6152_S2048x1024_0_0⟩,
       ⟨S2048x1024, extractStridedSlice S2048x1024 ![0, 3080] (argW m c) slices_S2048x6152_S2048x1024_0_3080⟩,
       ⟨S2048x1024, extractStridedSlice S2048x1024 ![0, 1024] (argW m c) slices_S2048x6152_S2048x1024_0_1024⟩,
       ⟨S2048x1024, extractStridedSlice S2048x1024 ![0, 2048] (argW m c) slices_S2048x6152_S2048x1024_0_2048⟩,
       ⟨S2048x1024, extractStridedSlice S2048x1024 ![0, 4104] (argW m c) slices_S2048x6152_S2048x1024_0_4104⟩,
       ⟨S2048x1024, extractStridedSlice S2048x1024 ![0, 5128] (argW m c) slices_S2048x6152_S2048x1024_0_5128⟩]
      concatenates_S2048x1024_S2048x1024_S2048x1024_S2048x1024_S2048x1024_S2048x1024_S2048x6144_d1 : FVec Ideal S2048x6144 .f32) bitsLt_bf16_f32 : FVec Ideal S2048x6144 .bf16) := by
  unfold V
  after_results
  rfl

theorem V_s : V m c main_v13 = (shapeCast S1x6144 (concatenate S6144 0
      [⟨S2048, broadcastInDim S2048 ![] bcast_S_S2048 (constant (F := Ideal) S_ .f32 0x3E0293EE#32)⟩,
       ⟨S4096, broadcastInDim S4096 ![] bcast_S_S4096 (constant (F := Ideal) S_ .f32 0x3F800000#32)⟩] concatenates_S2048_S4096_S6144_d0
      : FVec Ideal S6144 .f32) shapeCasts_S6144_S1x6144 : FVec Ideal S1x6144 .f32) := by
  unfold V
  after_results
  rfl

theorem V_x_apply (r : Fin 8192) (n : Fin 2048) :
    (V m c main_v1 : S8192x2048.Idx → EReal) (ix2 r n) = argX m c (ix3 ⟨r.val / 4096, by omega⟩ ⟨r.val % 4096, by omega⟩ n) := by
  rw [V_x]
  pointwise

theorem V_w_apply (i : Fin 2048) (n : Fin 6144) : (V m c main_v9 : S2048x6144.Idx → EReal) (ix2 i n) = argW m c (ix2 i ⟨src n.val, src_lt _ n.isLt⟩) := by
  rw [V_w]
  have hn := n.isLt
  pointwise
  split_ifs <;> refine congrArg (fun k => argW m c (ix2 i k)) (Fin.ext ?_) <;> simp only [src] <;> split_ifs <;> omega

theorem V_s_apply (n : Fin 6144) : (V m c main_v13 : S1x6144.Idx → EReal) (ix2 0 n) = scl n.val := by
  rw [V_s]
  unfold scl
  pointwise
  split_ifs <;> rfl

theorem index_x : ∀ t : Fin grid0.N, win0_0.index t = ![(grid0.coords t 0).val, 0] := by decide +kernel
theorem index_w : ∀ t : Fin grid0.N, win0_1.index t = ![0, (grid0.coords t 1).val] := by decide +kernel
theorem index_s : ∀ t : Fin grid0.N, win0_2.index t = ![0, (grid0.coords t 1).val] := by decide +kernel
theorem index_o : ∀ t : Fin grid0.N, win0_3.index t = ![(grid0.coords t 0).val, (grid0.coords t 1).val] := by decide +kernel

theorem row_x (t : Fin grid0.N) (y : S1024x2048.Idx) (a : Fin 2) :
    ((win0_0.blk t).view.emb y a : ℕ) = ![(grid0.coords t 0).val, 0] a * ![1024, 2048] a + (y a).val := (win0_0.rect_emb_val t y a).trans (by rw [index_x])

theorem row_w (t : Fin grid0.N) (y : S2048x1024.Idx) (a : Fin 2) :
    ((win0_1.blk t).view.emb y a : ℕ) = ![0, (grid0.coords t 1).val] a * ![2048, 1024] a + (y a).val := (win0_1.rect_emb_val t y a).trans (by rw [index_w])

theorem row_s (t : Fin grid0.N) (y : S1x1024.Idx) (a : Fin 2) :
    ((win0_2.blk t).view.emb y a : ℕ) = ![0, (grid0.coords t 1).val] a * ![1, 1024] a + (y a).val := (win0_2.rect_emb_val t y a).trans (by rw [index_s])

theorem row_o (t : Fin grid0.N) (y : S1024x1024.Idx) (a : Fin 2) :
    ((win0_3.blk t).view.emb y a : ℕ) = ![(grid0.coords t 0).val, (grid0.coords t 1).val] a * ![1024, 1024] a + (y a).val := (win0_3.rect_emb_val t y a).trans (by rw [index_o])

theorem lt0 (t : Fin grid0.N) : (grid0.coords t 0).val < 8 := (grid0.coords t 0).isLt
theorem lt1 (t : Fin grid0.N) : (grid0.coords t 1).val < 6 := (grid0.coords t 1).isLt

theorem iblk_x (t : Fin grid0.N) (i : Fin 1024) (d : Fin 2048) (r : Fin 8192) (hr : r.val = (grid0.coords t 0).val * 1024 + i.val) :
    (iblk m c 0 t : S1024x2048.Idx → EReal) (ix2 i d) = argX m c (ix3 ⟨r.val / 4096, by omega⟩ ⟨r.val % 4096, by omega⟩ d) := by
  refine Eq.trans ?_ (V_x_apply m c r d)
  refine congrArg (V m c main_v1 : S8192x2048.Idx → EReal) (ix_of _ r d ?_ ?_)
  · exact (row_x t (ix2 i d) 0).trans hr.symm
  · exact (row_x t (ix2 i d) 1).trans (by show 0 * 2048 + d.val = _; omega)

theorem iblk_w (t : Fin grid0.N) (d : Fin 2048) (j : Fin 1024) (n : Fin 6144) (hn : n.val = (grid0.coords t 1).val * 1024 + j.val) :
    (iblk m c 1 t : S2048x1024.Idx → EReal) (ix2 d j) = argW m c (ix2 d ⟨src n.val, src_lt _ n.isLt⟩) := by
  refine Eq.trans ?_ (V_w_apply m c d n)
  refine congrArg (V m c main_v9 : S2048x6144.Idx → EReal) (ix_of _ d n ?_ ?_)
  · exact (row_w t (ix2 d j) 0).trans (by show 0 * 2048 + d.val = _; omega)
  · exact (row_w t (ix2 d j) 1).trans hn.symm

theorem iblk_s (t : Fin grid0.N) (j : Fin 1024) (n : Fin 6144) (hn : n.val = (grid0.coords t 1).val * 1024 + j.val) :
    (iblk m c 2 t : S1x1024.Idx → EReal) (ix2 0 j) = scl n.val := by
  refine Eq.trans ?_ (V_s_apply m c n)
  refine congrArg (V m c main_v13 : S1x6144.Idx → EReal) (ix_of _ 0 n ?_ ?_)
  · exact (row_s t (ix2 0 j) 0).trans (by show 0 * 1 + 0 = 0; omega)
  · exact (row_s t (ix2 0 j) 1).trans hn.symm

theorem proj_ix (x : S2x4096x2048.Idx → EReal) (w : S2048x6152.Idx → EReal) (r : Fin 8192) (n : Fin 6144) :
    proj x w (ix2 r n) = (∑ d : Fin 2048, x (ix3 ⟨r.val / 4096, by omega⟩ ⟨r.val % 4096, by omega⟩ d) * w (ix2 d ⟨src n.val, src_lt _ n.isLt⟩)) * scl n.val := rfl

/-- The kernel's result. -/
theorem result_eq : (dats m 0 c).arrAt 3 cfg0.N = proj (argX m c) (argW m c) := by
  refine (dats m 0 c).arrAt_eq_of_covers 3 (proj (argX m c) (argW m c)) (by decide +kernel) fun t hf y => ?_
  obtain ⟨i, j, rfl⟩ := exists_ix2 y
  blk_simp
  rw [after0_3]
  refine (block_apply _ _ _ i j).trans ?_
  have h0 := lt0 t
  have h1 := lt1 t
  have e : (win0_3.blk t).view.emb (ix2 i j) = ix2 (⟨(grid0.coords t 0).val * 1024 + i.val, by omega⟩ : Fin 8192) (⟨(grid0.coords t 1).val * 1024 + j.val, by omega⟩ : Fin 6144) :=
    ix_of _ _ _ (row_o t (ix2 i j) 0) (row_o t (ix2 i j) 1)
  rw [e, proj_ix]
  refine congrArg₂ (· * ·) (Finset.sum_congr rfl fun d _ => ?_) (iblk_s m c t j _ rfl)
  exact congrArg₂ (· * ·) (iblk_x m c t i d _ rfl) (iblk_w m c t d j _ rfl)

end Cert.Kernel2Ideal.Val

namespace Cert.Reference2Ideal.Val

open Idealize.ShloMosaic Idealize.ShloMosaic.TcCoe
open Cert.Reference2Ideal Cert.Reference2Ideal.Read
open Cert.Kernel2Ideal.Val (src src_lt scl)

/-- The six groups of columns, put back in one formula. -/
theorem pick (f : (k : ℕ) → k < 6152 → EReal) (n : ℕ) (hn : n < 6144) :
    (if h : n < 1024 then f n (by omega) * Ideal.ofBits .f32 0x3E0293EE#32
    else if h : n - 1024 < 1024 then f (3080 + (n - 1024)) (by omega) * Ideal.ofBits .f32 0x3E0293EE#32
    else if h : n - 1024 - 1024 < 1024 then f (1024 + (n - 1024 - 1024)) (by omega)
    else if h : n - 1024 - 1024 - 1024 < 1024 then f (2048 + (n - 1024 - 1024 - 1024)) (by omega)
    else if h : n - 1024 - 1024 - 1024 - 1024 < 1024 then f (4104 + (n - 1024 - 1024 - 1024 - 1024)) (by omega)
    else f (5128 + (n - 1024 - 1024 - 1024 - 1024 - 1024)) (by omega))
      = f (src n) (src_lt n hn) * (if n < 2048 then Ideal.ofBits .f32 0x3E0293EE#32 else 1) := by
  have g : ∀ (k : ℕ) (hk : k < 6152), k = src n → f k hk = f (src n) (src_lt n hn) := by
    rintro k hk rfl
    rfl
  split_ifs <;> first
    | omega
    | exact congrArg (· * Ideal.ofBits .f32 0x3E0293EE#32) (g _ _ (by unfold src; split_ifs <;> omega))
    | exact (g _ _ (by unfold src; split_ifs <;> omega)).trans (mul_one _).symm

/-- The reference is the same projection. -/
theorem out_eq (x : Vec Ideal S2x4096x2048 .f32) (w : Vec Ideal S2048x6152 .f32) :
    val_main_v14 x w = Cert.Kernel2Ideal.Val.proj x w := by
  funext y
  obtain ⟨r, n, rfl⟩ := Cert.Kernel3Ideal.Val.exists_ix2 y
  rw [Cert.Kernel2Ideal.Val.proj_ix]
  unfold scl
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0]
  have hn := n.isLt
  exact pick (fun k hk => ∑ d : Fin 2048, x (ix3 ⟨r.val / 4096, by omega⟩ ⟨r.val % 4096, by omega⟩ d) * w (ix2 d ⟨k, hk⟩)) n.val hn

end Cert.Reference2Ideal.Val
end
-- ==== Proof.Norm.lean ====
/- A row's layer norm, and the last residual: the norm of the scaled input plus the layer's output. -/
module

public import proofs.«01_k».proof.Proof.Gen.Kernel5Ideal.Value
public import proofs.«01_k».proof.Proof.Gen.Reference5Ideal.Read
public import proofs.«01_k».proof.Proof.Query

@[expose] public section

set_option maxRecDepth 16384

noncomputable section

namespace Cert.Norm

open Idealize.ShloMosaic

/-- The layer norm of a row `z` with gain `g` and bias `b`. -/
def ln (z g b : Fin 2048 → EReal) (n : Fin 2048) : EReal :=
  (z n - Ideal.div (∑ k, z k) (Ideal.ofBits .f32 0x45000000#32))
    * Ideal.rsqrt (Ideal.div (∑ k, (z k - Ideal.div (∑ l, z l) (Ideal.ofBits .f32 0x45000000#32)) * (z k - Ideal.div (∑ l, z l) (Ideal.ofBits .f32 0x45000000#32))) (Ideal.ofBits .f32 0x45000000#32)
        + Ideal.ofBits .f32 0x3727C5AC#32) * g n + b n

end Cert.Norm

namespace Cert.Kernel5Ideal.Val

open Idealize.ShloMosaic Idealize.ShloMosaic.TcCoe
open Idealize.ShloMosaic.Pipeline
open Cert.Kernel5Ideal Cert.Kernel5Ideal.Gen
open Cert.Kernel3Ideal.Val (ix_of exists_ix2)
open Cert.Norm

/-- A row before its norm. -/
def zrow (x : S2x4096x2048.Idx → EReal) (y : S2048x8192.Idx → EReal) (r : Fin 8192) (n : Fin 2048) : EReal :=
  Ideal.ofBits .f32 0x3FD744FD#32 * x (ix3 ⟨r.val / 4096, by omega⟩ ⟨r.val % 4096, by omega⟩ n) + y (ix2 n r)

/-- The result as one array. -/
def res (x : S2x4096x2048.Idx → EReal) (y : S2048x8192.Idx → EReal) (g b : S2048.Idx → EReal) : S8192x2048.Idx → EReal := fun i =>
  ln (zrow x y (i 0)) (fun k => g (ix1 k)) (fun k => b (ix1 k)) (i 1)

theorem block_apply (x : Vec Ideal S512x2048 .f32) (y : Vec Ideal S2048x512 .f32) (g b : Vec Ideal S1x2048 .f32) (i : Fin 512) (n : Fin 2048) :
    out0_4 x y g b (ix2 i n) = ln (fun k => Ideal.ofBits .f32 0x3FD744FD#32 * x (ix2 i k) + y (ix2 k i)) (fun k => g (ix2 0 k)) (fun k => b (ix2 0 k)) n := by
  unfold out0_4 ln
  frame_out
  pointwise [k0_pay1]

theorem block_apply' (x : Vec Ideal S512x2048 .f32) (y : Vec Ideal S2048x512 .f32) (g b : Vec Ideal S1x2048 .f32) (i : Fin 512) (n : Fin 2048) :
    out0_5 x y g b (ix2 i n) = ln (fun k => Ideal.ofBits .f32 0x3FD744FD#32 * x (ix2 i k) + y (ix2 k i)) (fun k => g (ix2 0 k)) (fun k => b (ix2 0 k)) n := by
  unfold out0_5 ln
  frame_out
  pointwise [k0_pay2, k0_pay1]

variable (m : (ℓ : Loc nD τ sig) → Buf (Elt Ideal) ℓ) (c : Dev nD)

/-- What a device is given. -/
def argX : S2x4096x2048.Idx → EReal := m ((c.tc : Thread nD τ).loc main_arg0)
@[inherit_doc argX] def argY : S2048x8192.Idx → EReal := m ((c.tc : Thread nD τ).loc main_arg1)
@[inherit_doc argX] def argG : S2048.Idx → EReal := m ((c.tc : Thread nD τ).loc main_arg2)
@[inherit_doc argX] def argB : S2048.Idx → EReal := m ((c.tc : Thread nD τ).loc main_arg3)

theorem V_x : V m c main_v0 = (shapeCast S8192x2048 (argX m c) shapeCasts_S2x4096x2048_S8192x2048 : FVec Ideal S8192x2048 .f32) := by
  unfold V
  after_results
  rfl

theorem V_g : V m c main_v1 = (shapeCast S1x2048 (argG m c) shapeCasts_S2048_S1x2048 : FVec Ideal S1x2048 .f32) := by
  unfold V
  after_results
  rfl

theorem V_b : V m c main_v2 = (shapeCast S1x2048 (argB m c) shapeCasts_S2048_S1x2048 : FVec Ideal S1x2048 .f32) := by
  unfold V
  after_results
  rfl

theorem V_x_apply (r : Fin 8192) (n : Fin 2048) :
    (V m c main_v0 : S8192x2048.Idx → EReal) (ix2 r n) = argX m c (ix3 ⟨r.val / 4096, by omega⟩ ⟨r.val % 4096, by omega⟩ n) := by
  rw [V_x]
  pointwise

theorem V_g_apply (n : Fin 2048) : (V m c main_v1 : S1x2048.Idx → EReal) (ix2 0 n) = argG m c (ix1 n) := by
  rw [V_g]
  pointwise

theorem V_b_apply (n : Fin 2048) : (V m c main_v2 : S1x2048.Idx → EReal) (ix2 0 n) = argB m c (ix1 n) := by
  rw [V_b]
  pointwise

theorem index_x : ∀ t : Fin grid0.N, win0_0.index t = ![(grid0.coords t 0).val, 0] := by decide +kernel
theorem index_y : ∀ t : Fin grid0.N, win0_1.index t = ![0, (grid0.coords t 0).val] := by decide +kernel
theorem index_g : ∀ t : Fin grid0.N, win0_2.index t = ![0, 0] := by decide +kernel
theorem index_b : ∀ t : Fin grid0.N, win0_3.index t = ![0, 0] := by decide +kernel
theorem index_o : ∀ t : Fin grid0.N, win0_4.index t = ![(grid0.coords t 0).val, 0] := by decide +kernel
theorem index_p : ∀ t : Fin grid0.N, win0_5.index t = ![(grid0.coords t 0).val, 0] := by decide +kernel

theorem row_x (t : Fin grid0.N) (y : S512x2048.Idx) (a : Fin 2) :
    ((win0_0.blk t).view.emb y a : ℕ) = ![(grid0.coords t 0).val, 0] a * ![512, 2048] a + (y a).val := (win0_0.rect_emb_val t y a).trans (by rw [index_x])

theorem row_y (t : Fin grid0.N) (y : S2048x512.Idx) (a : Fin 2) :
    ((win0_1.blk t).view.emb y a : ℕ) = ![0, (grid0.coords t 0).val] a * ![2048, 512] a + (y a).val := (win0_1.rect_emb_val t y a).trans (by rw [index_y])

theorem row_g (t : Fin grid0.N) (y : S1x2048.Idx) (a : Fin 2) :
    ((win0_2.blk t).view.emb y a : ℕ) = ![0, 0] a * ![1, 2048] a + (y a).val := (win0_2.rect_emb_val t y a).trans (by rw [index_g])

theorem row_b (t : Fin grid0.N) (y : S1x2048.Idx) (a : Fin 2) :
    ((win0_3.blk t).view.emb y a : ℕ) = ![0, 0] a * ![1, 2048] a + (y a).val := (win0_3.rect_emb_val t y a).trans (by rw [index_b])

theorem row_o (t : Fin grid0.N) (y : S512x2048.Idx) (a : Fin 2) :
    ((win0_4.blk t).view.emb y a : ℕ) = ![(grid0.coords t 0).val, 0] a * ![512, 2048] a + (y a).val := (win0_4.rect_emb_val t y a).trans (by rw [index_o])

theorem row_p (t : Fin grid0.N) (y : S512x2048.Idx) (a : Fin 2) :
    ((win0_5.blk t).view.emb y a : ℕ) = ![(grid0.coords t 0).val, 0] a * ![512, 2048] a + (y a).val := (win0_5.rect_emb_val t y a).trans (by rw [index_p])

theorem lt0 (t : Fin grid0.N) : (grid0.coords t 0).val < 16 := (grid0.coords t 0).isLt

/-- The row of the whole array a block's row is. -/
def rowOf (t : Fin grid0.N) (i : Fin 512) : Fin 8192 := ⟨(grid0.coords t 0).val * 512 + i.val, by have := lt0 t; omega⟩

theorem iblk_x (t : Fin grid0.N) (i : Fin 512) (d : Fin 2048) :
    (iblk m c 0 t : S512x2048.Idx → EReal) (ix2 i d) = argX m c (ix3 ⟨(rowOf t i).val / 4096, by omega⟩ ⟨(rowOf t i).val % 4096, by omega⟩ d) := by
  refine Eq.trans ?_ (V_x_apply m c (rowOf t i) d)
  refine congrArg (V m c main_v0 : S8192x2048.Idx → EReal) (ix_of _ (rowOf t i) d ?_ ?_)
  · exact row_x t (ix2 i d) 0
  · exact (row_x t (ix2 i d) 1).trans (by show 0 * 2048 + d.val = _; omega)

theorem iblk_y (t : Fin grid0.N) (i : Fin 512) (d : Fin 2048) :
    (iblk m c 1 t : S2048x512.Idx → EReal) (ix2 d i) = argY m c (ix2 d (rowOf t i)) := by
  refine Eq.trans ?_ (congrFun (V_main_arg1 m c) (ix2 d (rowOf t i)))
  refine congrArg (V m c main_arg1 : S2048x8192.Idx → EReal) (ix_of _ d (rowOf t i) ?_ ?_)
  · exact (row_y t (ix2 d i) 0).trans (by show 0 * 2048 + d.val = _; omega)
  · exact row_y t (ix2 d i) 1

theorem iblk_g (t : Fin grid0.N) (n : Fin 2048) : (iblk m c 2 t : S1x2048.Idx → EReal) (ix2 0 n) = argG m c (ix1 n) := by
  refine Eq.trans ?_ (V_g_apply m c n)
  refine congrArg (V m c main_v1 : S1x2048.Idx → EReal) (ix_of _ 0 n ?_ ?_)
  · exact (row_g t (ix2 0 n) 0).trans (by show 0 * 1 + 0 = 0; omega)
  · exact (row_g t (ix2 0 n) 1).trans (by show 0 * 2048 + n.val = _; omega)

theorem iblk_b (t : Fin grid0.N) (n : Fin 2048) : (iblk m c 3 t : S1x2048.Idx → EReal) (ix2 0 n) = argB m c (ix1 n) := by
  refine Eq.trans ?_ (V_b_apply m c n)
  refine congrArg (V m c main_v2 : S1x2048.Idx → EReal) (ix_of _ 0 n ?_ ?_)
  · exact (row_b t (ix2 0 n) 0).trans (by show 0 * 1 + 0 = 0; omega)
  · exact (row_b t (ix2 0 n) 1).trans (by show 0 * 2048 + n.val = _; omega)

/-- The norm of a block's row, of the arguments. -/
theorem block_eq (t : Fin grid0.N) (i : Fin 512) (n : Fin 2048) :
    ln (fun k => Ideal.ofBits .f32 0x3FD744FD#32 * (iblk m c 0 t : S512x2048.Idx → EReal) (ix2 i k) + (iblk m c 1 t : S2048x512.Idx → EReal) (ix2 k i))
      (fun k => (iblk m c 2 t : S1x2048.Idx → EReal) (ix2 0 k)) (fun k => (iblk m c 3 t : S1x2048.Idx → EReal) (ix2 0 k)) n
      = res (argX m c) (argY m c) (argG m c) (argB m c) (ix2 (rowOf t i) n) := by
  have ez : (fun k => Ideal.ofBits .f32 0x3FD744FD#32 * (iblk m c 0 t : S512x2048.Idx → EReal) (ix2 i k) + (iblk m c 1 t : S2048x512.Idx → EReal) (ix2 k i))
      = zrow (argX m c) (argY m c) (rowOf t i) := funext fun k => congrArg₂ (fun u v => Ideal.ofBits .f32 0x3FD744FD#32 * u + v) (iblk_x m c t i k) (iblk_y m c t i k)
  have eg : (fun k => (iblk m c 2 t : S1x2048.Idx → EReal) (ix2 0 k)) = fun k => argG m c (ix1 k) := funext fun k => iblk_g m c t k
  have eb : (fun k => (iblk m c 3 t : S1x2048.Idx → EReal) (ix2 0 k)) = fun k => argB m c (ix1 k) := funext fun k => iblk_b m c t k
  rw [ez, eg, eb]
  rfl

/-- The kernel's first result. -/
theorem result_eq : (dats m 0 c).arrAt 4 cfg0.N = res (argX m c) (argY m c) (argG m c) (argB m c) := by
  refine (dats m 0 c).arrAt_eq_of_covers 4 (res (argX m c) (argY m c) (argG m c) (argB m c)) (by decide +kernel) fun t hf y => ?_
  obtain ⟨i, n, rfl⟩ := exists_ix2 y
  blk_simp
  rw [after0_4]
  refine (block_apply _ _ _ _ i n).trans ((block_eq m c t i n).trans ?_)
  refine congrArg (res (argX m c) (argY m c) (argG m c) (argB m c)) (ix_of _ (rowOf t i) n ?_ ?_).symm
  · exact row_o t (ix2 i n) 0
  · exact (row_o t (ix2 i n) 1).trans (by show 0 * 2048 + n.val = _; omega)

/-- The kernel's second result. -/
theorem result_eq' : (dats m 0 c).arrAt 5 cfg0.N = res (argX m c) (argY m c) (argG m c) (argB m c) := by
  refine (dats m 0 c).arrAt_eq_of_covers 5 (res (argX m c) (argY m c) (argG m c) (argB m c)) (by decide +kernel) fun t hf y => ?_
  obtain ⟨i, n, rfl⟩ := exists_ix2 y
  blk_simp
  rw [after0_5]
  refine (block_apply' _ _ _ _ i n).trans ((block_eq m c t i n).trans ?_)
  refine congrArg (res (argX m c) (argY m c) (argG m c) (argB m c)) (ix_of _ (rowOf t i) n ?_ ?_).symm
  · exact row_p t (ix2 i n) 0
  · exact (row_p t (ix2 i n) 1).trans (by show 0 * 2048 + n.val = _; omega)

end Cert.Kernel5Ideal.Val

namespace Cert.Reference5Ideal.Val

open Idealize.ShloMosaic Idealize.ShloMosaic.TcCoe
open Cert.Reference5Ideal Cert.Reference5Ideal.Read
open Cert.Kernel5Ideal.Val (res zrow)
open Cert.Norm

/-- The reference is the same array. -/
theorem out_eq (x : Vec Ideal S2x4096x2048 .f32) (y : Vec Ideal S2048x8192 .f32) (g b : Vec Ideal S2048 .f32) :
    val_main_v29 x y g b = res x y g b := by
  funext i
  obtain ⟨r, n, rfl⟩ := Cert.Kernel3Ideal.Val.exists_ix2 i
  show _ = ln (zrow x y r) (fun k => g (ix1 k)) (fun k => b (ix1 k)) n
  unfold ln zrow
  pointwise [val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4]

theorem out_eq' (x : Vec Ideal S2x4096x2048 .f32) (y : Vec Ideal S2048x8192 .f32) (g b : Vec Ideal S2048 .f32) :
    val_main_v30 x y g b = res x y g b :=
  (funext fun i => rfl : val_main_v30 x y g b = val_main_v29 x y g b).trans (out_eq x y g b)

end Cert.Reference5Ideal.Val
end
-- ==== Proof.ProjLn.lean ====
/- The output projection with its residual norm: a row of the two joined outputs times the weights, added to the scaled
   input, then the layer norm. -/
module

public import proofs.«01_k».proof.Proof.Gen.Kernel4Ideal.Value
public import proofs.«01_k».proof.Proof.Gen.Reference4Ideal.Read
public import proofs.«01_k».proof.Proof.Norm

@[expose] public section

set_option maxRecDepth 16384

noncomputable section

namespace Cert.Kernel4Ideal.Val

open Idealize.ShloMosaic Idealize.ShloMosaic.TcCoe
open Idealize.ShloMosaic.Pipeline
open Cert.Kernel4Ideal Cert.Kernel4Ideal.Gen
open Cert.Kernel3Ideal.Val (ix_of exists_ix2)
open Cert.Norm

/-- A row before its norm. -/
def zrow (p q : S2x4096x1024.Idx → EReal) (w : S2048x2048.Idx → EReal) (x : S2x4096x2048.Idx → EReal) (r : Fin 8192) (n : Fin 2048) : EReal :=
  Ideal.ofBits .f32 0x3FD744FD#32 * x (ix3 ⟨r.val / 4096, by omega⟩ ⟨r.val % 4096, by omega⟩ n)
    + (∑ d : Fin 1024, p (ix3 ⟨r.val / 4096, by omega⟩ ⟨r.val % 4096, by omega⟩ d) * w (ix2 ⟨d.val, by omega⟩ n)
      + ∑ d : Fin 1024, q (ix3 ⟨r.val / 4096, by omega⟩ ⟨r.val % 4096, by omega⟩ d) * w (ix2 ⟨1024 + d.val, by omega⟩ n))

/-- The result as one array. -/
def res (p q : S2x4096x1024.Idx → EReal) (w : S2048x2048.Idx → EReal) (x : S2x4096x2048.Idx → EReal) (g b : S2048.Idx → EReal) : S8192x2048.Idx → EReal := fun i =>
  ln (zrow p q w x (i 0)) (fun k => g (ix1 k)) (fun k => b (ix1 k)) (i 1)

/-- The result with its two axes exchanged. -/
def resT (p q : S2x4096x1024.Idx → EReal) (w : S2048x2048.Idx → EReal) (x : S2x4096x2048.Idx → EReal) (g b : S2048.Idx → EReal) : S2048x8192.Idx → EReal := fun i =>
  ln (zrow p q w x (i 1)) (fun k => g (ix1 k)) (fun k => b (ix1 k)) (i 0)

/-- A block's row before its norm. -/
def zblk (p q : Vec Ideal S512x1024 .bf16) (w : Vec Ideal S2048x2048 .bf16) (x : Vec Ideal S512x2048 .f32) (i : Fin 512) (n : Fin 2048) : EReal :=
  Ideal.ofBits .f32 0x3FD744FD#32 * x (ix2 i n)
    + (∑ d : Fin 1024, p (ix2 i d) * w (ix2 ⟨d.val, by omega⟩ n) + ∑ d : Fin 1024, q (ix2 i d) * w (ix2 ⟨1024 + d.val, by omega⟩ n))

theorem block_apply (p q : Vec Ideal S512x1024 .bf16) (w : Vec Ideal S2048x2048 .bf16) (x : Vec Ideal S512x2048 .f32) (g b : Vec Ideal S1x2048 .f32) (i : Fin 512) (n : Fin 2048) :
    out0_6 p q w x g b (ix2 i n) = ln (zblk p q w x i) (fun k => g (ix2 0 k)) (fun k => b (ix2 0 k)) n := by
  unfold out0_6 ln zblk k0_pay5
  frame_out
  pointwise [k0_pay1, k0_pay4]

theorem block_apply' (p q : Vec Ideal S512x1024 .bf16) (w : Vec Ideal S2048x2048 .bf16) (x : Vec Ideal S512x2048 .f32) (g b : Vec Ideal S1x2048 .f32) (i : Fin 512) (n : Fin 2048) :
    out0_7 p q w x g b (ix2 i n) = ln (zblk p q w x i) (fun k => g (ix2 0 k)) (fun k => b (ix2 0 k)) n := by
  refine Eq.trans ?_ (block_apply p q w x g b i n)
  unfold out0_7 out0_6
  frame_out
  pointwise [k0_pay2]

theorem block_applyT (p q : Vec Ideal S512x1024 .bf16) (w : Vec Ideal S2048x2048 .bf16) (x : Vec Ideal S512x2048 .f32) (g b : Vec Ideal S1x2048 .f32) (i : Fin 512) (n : Fin 2048) :
    out0_8 p q w x g b (ix2 n i) = ln (zblk p q w x i) (fun k => g (ix2 0 k)) (fun k => b (ix2 0 k)) n := by
  refine Eq.trans ?_ (block_apply p q w x g b i n)
  unfold out0_8 out0_6
  frame_out
  pointwise [k0_pay3]

variable (m : (ℓ : Loc nD τ sig) → Buf (Elt Ideal) ℓ) (c : Dev nD)

/-- What a device is given. -/
def argP : S2x4096x1024.Idx → EReal := m ((c.tc : Thread nD τ).loc main_arg0)
@[inherit_doc argP] def argQ : S2x4096x1024.Idx → EReal := m ((c.tc : Thread nD τ).loc main_arg1)
@[inherit_doc argP] def argW : S2048x2048.Idx → EReal := m ((c.tc : Thread nD τ).loc main_arg2)
@[inherit_doc argP] def argX : S2x4096x2048.Idx → EReal := m ((c.tc : Thread nD τ).loc main_arg3)
@[inherit_doc argP] def argG : S2048.Idx → EReal := m ((c.tc : Thread nD τ).loc main_arg4)
@[inherit_doc argP] def argB : S2048.Idx → EReal := m ((c.tc : Thread nD τ).loc main_arg5)

theorem V_p : V m c main_v1 = (truncf .bf16 (shapeCast S8192x1024 (argP m c) shapeCasts_S2x4096x1024_S8192x1024 : FVec Ideal S8192x1024 .f32) bitsLt_bf16_f32 : FVec Ideal S8192x1024 .bf16) := by
  unfold V
  after_results
  rfl

theorem V_q : V m c main_v3 = (truncf .bf16 (shapeCast S8192x1024 (argQ m c) shapeCasts_S2x4096x1024_S8192x1024 : FVec Ideal S8192x1024 .f32) bitsLt_bf16_f32 : FVec Ideal S8192x1024 .bf16) := by
  unfold V
  after_results
  rfl

theorem V_w : V m c main_v4 = (truncf .bf16 (argW m c : FVec Ideal S2048x2048 .f32) bitsLt_bf16_f32 : FVec Ideal S2048x2048 .bf16) := by
  unfold V
  after_results
  rfl

theorem V_x : V m c main_v5 = (shapeCast S8192x2048 (argX m c) shapeCasts_S2x4096x2048_S8192x2048 : FVec Ideal S8192x2048 .f32) := by
  unfold V
  after_results
  rfl

theorem V_g : V m c main_v6 = (shapeCast S1x2048 (argG m c) shapeCasts_S2048_S1x2048 : FVec Ideal S1x2048 .f32) := by
  unfold V
  after_results
  rfl

theorem V_b : V m c main_v7 = (shapeCast S1x2048 (argB m c) shapeCasts_S2048_S1x2048 : FVec Ideal S1x2048 .f32) := by
  unfold V
  after_results
  rfl

theorem V_p_apply (r : Fin 8192) (n : Fin 1024) :
    (V m c main_v1 : S8192x1024.Idx → EReal) (ix2 r n) = argP m c (ix3 ⟨r.val / 4096, by omega⟩ ⟨r.val % 4096, by omega⟩ n) := by
  rw [V_p]
  pointwise

theorem V_q_apply (r : Fin 8192) (n : Fin 1024) :
    (V m c main_v3 : S8192x1024.Idx → EReal) (ix2 r n) = argQ m c (ix3 ⟨r.val / 4096, by omega⟩ ⟨r.val % 4096, by omega⟩ n) := by
  rw [V_q]
  pointwise

theorem V_x_apply (r : Fin 8192) (n : Fin 2048) :
    (V m c main_v5 : S8192x2048.Idx → EReal) (ix2 r n) = argX m c (ix3 ⟨r.val / 4096, by omega⟩ ⟨r.val % 4096, by omega⟩ n) := by
  rw [V_x]
  pointwise

theorem V_w_apply (i n : Fin 2048) : (V m c main_v4 : S2048x2048.Idx → EReal) (ix2 i n) = argW m c (ix2 i n) := by
  rw [V_w]
  pointwise

theorem V_g_apply (n : Fin 2048) : (V m c main_v6 : S1x2048.Idx → EReal) (ix2 0 n) = argG m c (ix1 n) := by
  rw [V_g]
  pointwise

theorem V_b_apply (n : Fin 2048) : (V m c main_v7 : S1x2048.Idx → EReal) (ix2 0 n) = argB m c (ix1 n) := by
  rw [V_b]
  pointwise

theorem index_p : ∀ t : Fin grid0.N, win0_0.index t = ![(grid0.coords t 0).val, 0] := by decide +kernel
theorem index_q : ∀ t : Fin grid0.N, win0_1.index t = ![(grid0.coords t 0).val, 0] := by decide +kernel
theorem index_w : ∀ t : Fin grid0.N, win0_2.index t = ![0, 0] := by decide +kernel
theorem index_x : ∀ t : Fin grid0.N, win0_3.index t = ![(grid0.coords t 0).val, 0] := by decide +kernel
theorem index_g : ∀ t : Fin grid0.N, win0_4.index t = ![0, 0] := by decide +kernel
theorem index_b : ∀ t : Fin grid0.N, win0_5.index t = ![0, 0] := by decide +kernel
theorem index_o : ∀ t : Fin grid0.N, win0_6.index t = ![(grid0.coords t 0).val, 0] := by decide +kernel
theorem index_o2 : ∀ t : Fin grid0.N, win0_7.index t = ![(grid0.coords t 0).val, 0] := by decide +kernel
theorem index_o3 : ∀ t : Fin grid0.N, win0_8.index t = ![0, (grid0.coords t 0).val] := by decide +kernel

theorem row_p (t : Fin grid0.N) (y : S512x1024.Idx) (a : Fin 2) :
    ((win0_0.blk t).view.emb y a : ℕ) = ![(grid0.coords t 0).val, 0] a * ![512, 1024] a + (y a).val := (win0_0.rect_emb_val t y a).trans (by rw [index_p])

theorem row_q (t : Fin grid0.N) (y : S512x1024.Idx) (a : Fin 2) :
    ((win0_1.blk t).view.emb y a : ℕ) = ![(grid0.coords t 0).val, 0] a * ![512, 1024] a + (y a).val := (win0_1.rect_emb_val t y a).trans (by rw [index_q])

theorem row_w (t : Fin grid0.N) (y : S2048x2048.Idx) (a : Fin 2) :
    ((win0_2.blk t).view.emb y a : ℕ) = ![0, 0] a * ![2048, 2048] a + (y a).val := (win0_2.rect_emb_val t y a).trans (by rw [index_w])

theorem row_x (t : Fin grid0.N) (y : S512x2048.Idx) (a : Fin 2) :
    ((win0_3.blk t).view.emb y a : ℕ) = ![(grid0.coords t 0).val, 0] a * ![512, 2048] a + (y a).val := (win0_3.rect_emb_val t y a).trans (by rw [index_x])

theorem row_g (t : Fin grid0.N) (y : S1x2048.Idx) (a : Fin 2) :
    ((win0_4.blk t).view.emb y a : ℕ) = ![0, 0] a * ![1, 2048] a + (y a).val := (win0_4.rect_emb_val t y a).trans (by rw [index_g])

theorem row_b (t : Fin grid0.N) (y : S1x2048.Idx) (a : Fin 2) :
    ((win0_5.blk t).view.emb y a : ℕ) = ![0, 0] a * ![1, 2048] a + (y a).val := (win0_5.rect_emb_val t y a).trans (by rw [index_b])

theorem row_o (t : Fin grid0.N) (y : S512x2048.Idx) (a : Fin 2) :
    ((win0_6.blk t).view.emb y a : ℕ) = ![(grid0.coords t 0).val, 0] a * ![512, 2048] a + (y a).val := (win0_6.rect_emb_val t y a).trans (by rw [index_o])

theorem row_o2 (t : Fin grid0.N) (y : S512x2048.Idx) (a : Fin 2) :
    ((win0_7.blk t).view.emb y a : ℕ) = ![(grid0.coords t 0).val, 0] a * ![512, 2048] a + (y a).val := (win0_7.rect_emb_val t y a).trans (by rw [index_o2])

theorem row_o3 (t : Fin grid0.N) (y : S2048x512.Idx) (a : Fin 2) :
    ((win0_8.blk t).view.emb y a : ℕ) = ![0, (grid0.coords t 0).val] a * ![2048, 512] a + (y a).val := (win0_8.rect_emb_val t y a).trans (by rw [index_o3])

theorem lt0 (t : Fin grid0.N) : (grid0.coords t 0).val < 16 := (grid0.coords t 0).isLt

/-- The row of the whole array a block's row is. -/
def rowOf (t : Fin grid0.N) (i : Fin 512) : Fin 8192 := ⟨(grid0.coords t 0).val * 512 + i.val, by have := lt0 t; omega⟩

theorem iblk_p (t : Fin grid0.N) (i : Fin 512) (d : Fin 1024) :
    (iblk m c 0 t : S512x1024.Idx → EReal) (ix2 i d) = argP m c (ix3 ⟨(rowOf t i).val / 4096, by omega⟩ ⟨(rowOf t i).val % 4096, by omega⟩ d) := by
  refine Eq.trans ?_ (V_p_apply m c (rowOf t i) d)
  refine congrArg (V m c main_v1 : S8192x1024.Idx → EReal) (ix_of _ (rowOf t i) d ?_ ?_)
  · exact row_p t (ix2 i d) 0
  · exact (row_p t (ix2 i d) 1).trans (by show 0 * 1024 + d.val = _; omega)

theorem iblk_q (t : Fin grid0.N) (i : Fin 512) (d : Fin 1024) :
    (iblk m c 1 t : S512x1024.Idx → EReal) (ix2 i d) = argQ m c (ix3 ⟨(rowOf t i).val / 4096, by omega⟩ ⟨(rowOf t i).val % 4096, by omega⟩ d) := by
  refine Eq.trans ?_ (V_q_apply m c (rowOf t i) d)
  refine congrArg (V m c main_v3 : S8192x1024.Idx → EReal) (ix_of _ (rowOf t i) d ?_ ?_)
  · exact row_q t (ix2 i d) 0
  · exact (row_q t (ix2 i d) 1).trans (by show 0 * 1024 + d.val = _; omega)

theorem iblk_x (t : Fin grid0.N) (i : Fin 512) (d : Fin 2048) :
    (iblk m c 3 t : S512x2048.Idx → EReal) (ix2 i d) = argX m c (ix3 ⟨(rowOf t i).val / 4096, by omega⟩ ⟨(rowOf t i).val % 4096, by omega⟩ d) := by
  refine Eq.trans ?_ (V_x_apply m c (rowOf t i) d)
  refine congrArg (V m c main_v5 : S8192x2048.Idx → EReal) (ix_of _ (rowOf t i) d ?_ ?_)
  · exact row_x t (ix2 i d) 0
  · exact (row_x t (ix2 i d) 1).trans (by show 0 * 2048 + d.val = _; omega)

theorem iblk_w (t : Fin grid0.N) (i n : Fin 2048) : (iblk m c 2 t : S2048x2048.Idx → EReal) (ix2 i n) = argW m c (ix2 i n) := by
  refine Eq.trans ?_ (V_w_apply m c i n)
  refine congrArg (V m c main_v4 : S2048x2048.Idx → EReal) (ix_of _ i n ?_ ?_)
  · exact (row_w t (ix2 i n) 0).trans (by show 0 * 2048 + i.val = _; omega)
  · exact (row_w t (ix2 i n) 1).trans (by show 0 * 2048 + n.val = _; omega)

theorem iblk_g (t : Fin grid0.N) (n : Fin 2048) : (iblk m c 4 t : S1x2048.Idx → EReal) (ix2 0 n) = argG m c (ix1 n) := by
  refine Eq.trans ?_ (V_g_apply m c n)
  refine congrArg (V m c main_v6 : S1x2048.Idx → EReal) (ix_of _ 0 n ?_ ?_)
  · exact (row_g t (ix2 0 n) 0).trans (by show 0 * 1 + 0 = 0; omega)
  · exact (row_g t (ix2 0 n) 1).trans (by show 0 * 2048 + n.val = _; omega)

theorem iblk_b (t : Fin grid0.N) (n : Fin 2048) : (iblk m c 5 t : S1x2048.Idx → EReal) (ix2 0 n) = argB m c (ix1 n) := by
  refine Eq.trans ?_ (V_b_apply m c n)
  refine congrArg (V m c main_v7 : S1x2048.Idx → EReal) (ix_of _ 0 n ?_ ?_)
  · exact (row_b t (ix2 0 n) 0).trans (by show 0 * 1 + 0 = 0; omega)
  · exact (row_b t (ix2 0 n) 1).trans (by show 0 * 2048 + n.val = _; omega)

theorem zblk_eq (t : Fin grid0.N) (i : Fin 512) :
    zblk (iblk m c 0 t) (iblk m c 1 t) (iblk m c 2 t) (iblk m c 3 t) i = zrow (argP m c) (argQ m c) (argW m c) (argX m c) (rowOf t i) := by
  funext n
  unfold zblk zrow
  refine congrArg₂ (· + ·) (congrArg (Ideal.ofBits .f32 0x3FD744FD#32 * ·) (iblk_x m c t i n)) (congrArg₂ (· + ·) ?_ ?_)
  · exact Finset.sum_congr rfl fun d _ => congrArg₂ (· * ·) (iblk_p m c t i d) (iblk_w m c t _ n)
  · exact Finset.sum_congr rfl fun d _ => congrArg₂ (· * ·) (iblk_q m c t i d) (iblk_w m c t _ n)

/-- The norm of a block's row, of the arguments. -/
theorem block_eq (t : Fin grid0.N) (i : Fin 512) (n : Fin 2048) :
    ln (zblk (iblk m c 0 t) (iblk m c 1 t) (iblk m c 2 t) (iblk m c 3 t) i)
      (fun k => (iblk m c 4 t : S1x2048.Idx → EReal) (ix2 0 k)) (fun k => (iblk m c 5 t : S1x2048.Idx → EReal) (ix2 0 k)) n
      = res (argP m c) (argQ m c) (argW m c) (argX m c) (argG m c) (argB m c) (ix2 (rowOf t i) n) := by
  have eg : (fun k => (iblk m c 4 t : S1x2048.Idx → EReal) (ix2 0 k)) = fun k => argG m c (ix1 k) := funext fun k => iblk_g m c t k
  have eb : (fun k => (iblk m c 5 t : S1x2048.Idx → EReal) (ix2 0 k)) = fun k => argB m c (ix1 k) := funext fun k => iblk_b m c t k
  rw [zblk_eq, eg, eb]
  rfl

theorem block_eqT (t : Fin grid0.N) (i : Fin 512) (n : Fin 2048) :
    ln (zblk (iblk m c 0 t) (iblk m c 1 t) (iblk m c 2 t) (iblk m c 3 t) i)
      (fun k => (iblk m c 4 t : S1x2048.Idx → EReal) (ix2 0 k)) (fun k => (iblk m c 5 t : S1x2048.Idx → EReal) (ix2 0 k)) n
      = resT (argP m c) (argQ m c) (argW m c) (argX m c) (argG m c) (argB m c) (ix2 n (rowOf t i)) :=
  (block_eq m c t i n).trans rfl

/-- The kernel's first result. -/
theorem result_eq : (dats m 0 c).arrAt 6 cfg0.N = res (argP m c) (argQ m c) (argW m c) (argX m c) (argG m c) (argB m c) := by
  refine (dats m 0 c).arrAt_eq_of_covers 6 (res (argP m c) (argQ m c) (argW m c) (argX m c) (argG m c) (argB m c)) (by decide +kernel) fun t hf y => ?_
  obtain ⟨i, n, rfl⟩ := exists_ix2 y
  blk_simp
  rw [after0_6]
  refine (block_apply _ _ _ _ _ _ i n).trans ((block_eq m c t i n).trans ?_)
  refine congrArg (res (argP m c) (argQ m c) (argW m c) (argX m c) (argG m c) (argB m c)) (ix_of _ (rowOf t i) n ?_ ?_).symm
  · exact row_o t (ix2 i n) 0
  · exact (row_o t (ix2 i n) 1).trans (by show 0 * 2048 + n.val = _; omega)

/-- The kernel's second result. -/
theorem result_eq' : (dats m 0 c).arrAt 7 cfg0.N = res (argP m c) (argQ m c) (argW m c) (argX m c) (argG m c) (argB m c) := by
  refine (dats m 0 c).arrAt_eq_of_covers 7 (res (argP m c) (argQ m c) (argW m c) (argX m c) (argG m c) (argB m c)) (by decide +kernel) fun t hf y => ?_
  obtain ⟨i, n, rfl⟩ := exists_ix2 y
  blk_simp
  rw [after0_7]
  refine (block_apply' _ _ _ _ _ _ i n).trans ((block_eq m c t i n).trans ?_)
  refine congrArg (res (argP m c) (argQ m c) (argW m c) (argX m c) (argG m c) (argB m c)) (ix_of _ (rowOf t i) n ?_ ?_).symm
  · exact row_o2 t (ix2 i n) 0
  · exact (row_o2 t (ix2 i n) 1).trans (by show 0 * 2048 + n.val = _; omega)

/-- The kernel's third result. -/
theorem result_eqT : (dats m 0 c).arrAt 8 cfg0.N = resT (argP m c) (argQ m c) (argW m c) (argX m c) (argG m c) (argB m c) := by
  refine (dats m 0 c).arrAt_eq_of_covers 8 (resT (argP m c) (argQ m c) (argW m c) (argX m c) (argG m c) (argB m c)) (by decide +kernel) fun t hf y => ?_
  obtain ⟨n, i, rfl⟩ := exists_ix2 y
  blk_simp
  rw [after0_8]
  refine (block_applyT _ _ _ _ _ _ i n).trans ((block_eqT m c t i n).trans ?_)
  refine congrArg (resT (argP m c) (argQ m c) (argW m c) (argX m c) (argG m c) (argB m c)) (ix_of _ n (rowOf t i) ?_ ?_).symm
  · exact (row_o3 t (ix2 n i) 0).trans (by show 0 * 2048 + n.val = _; omega)
  · exact row_o3 t (ix2 n i) 1

end Cert.Kernel4Ideal.Val

namespace Cert.Reference4Ideal.Val

open Idealize.ShloMosaic Idealize.ShloMosaic.TcCoe
open Cert.Reference4Ideal Cert.Reference4Ideal.Read
open Cert.Kernel4Ideal.Val (res resT zrow)
open Cert.Norm

/-- The row before the norm: one product over the joined outputs, cut in two. -/
theorem row_eq (p q : Vec Ideal S2x4096x1024 .f32) (w : Vec Ideal S2048x2048 .f32) (x : Vec Ideal S2x4096x2048 .f32) (r : Fin 8192) (n : Fin 2048) :
    val_main_v4 p q w x (ix3 ⟨r.val / 4096, by omega⟩ ⟨r.val % 4096, by omega⟩ n) = zrow p q w x r n := by
  unfold zrow
  pointwise [val_main_v4, val_main_v3, val_main_v2, val_main_v1, val_main_v0, val_main_cst]

/-- The reference is the same array. -/
theorem out_eq (p q : Vec Ideal S2x4096x1024 .f32) (w : Vec Ideal S2048x2048 .f32) (x : Vec Ideal S2x4096x2048 .f32) (g b : Vec Ideal S2048 .f32) :
    val_main_v29 p q w x g b = res p q w x g b := by
  funext i
  obtain ⟨r, n, rfl⟩ := Cert.Kernel3Ideal.Val.exists_ix2 i
  show _ = ln (zrow p q w x r) (fun k => g (ix1 k)) (fun k => b (ix1 k)) n
  rw [← (funext fun k => row_eq p q w x r k : (fun k => val_main_v4 p q w x (ix3 ⟨r.val / 4096, by omega⟩ ⟨r.val % 4096, by omega⟩ k)) = zrow p q w x r)]
  unfold ln
  pointwise [val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_cst_0, val_main_cst_1, val_main_cst_2, val_main_cst_3, val_main_cst_4]

theorem out_eq' (p q : Vec Ideal S2x4096x1024 .f32) (w : Vec Ideal S2048x2048 .f32) (x : Vec Ideal S2x4096x2048 .f32) (g b : Vec Ideal S2048 .f32) :
    val_main_v30 p q w x g b = res p q w x g b :=
  (funext fun i => rfl : val_main_v30 p q w x g b = val_main_v29 p q w x g b).trans (out_eq p q w x g b)

theorem out_eqT (p q : Vec Ideal S2x4096x1024 .f32) (w : Vec Ideal S2048x2048 .f32) (x : Vec Ideal S2x4096x2048 .f32) (g b : Vec Ideal S2048 .f32) :
    val_main_v32 p q w x g b = resT p q w x g b := by
  funext i
  obtain ⟨n, r, rfl⟩ := Cert.Kernel3Ideal.Val.exists_ix2 i
  refine Eq.trans ?_ (congrFun (out_eq p q w x g b) (ix2 r n))
  unfold val_main_v32 val_main_v31
  generalize val_main_v29 p q w x g b = z
  pointwise

end Cert.Reference4Ideal.Val
end
-- ==== Proof.Latents.lean ====
/- The odd layers' projection to the two latents: a row times one of the first 1024 columns of the weights. -/
module

public import proofs.«01_k».proof.Proof.Gen.Kernel6Ideal.Value
public import proofs.«01_k».proof.Proof.Gen.Reference6Ideal.Read
public import proofs.«01_k».proof.Proof.Query

@[expose] public section

set_option maxRecDepth 16384

noncomputable section

namespace Cert.Kernel6Ideal.Val

open Idealize.ShloMosaic Idealize.ShloMosaic.TcCoe
open Idealize.ShloMosaic.Pipeline
open Cert.Kernel6Ideal Cert.Kernel6Ideal.Gen
open Cert.Kernel3Ideal.Val (ix_of exists_ix2)

/-- The two latents side by side, as one array. -/
def prod (x : S2x4096x2048.Idx → EReal) (w : S2048x4160.Idx → EReal) : S8192x1024.Idx → EReal := fun y =>
  ∑ d : Fin 2048, x (ix3 ⟨(y 0).val / 4096, by have h : (y 0).val < 8192 := (y 0).isLt; omega⟩ ⟨(y 0).val % 4096, Nat.mod_lt _ (by decide)⟩ d) * w (ix2 d ⟨0 + (y 1).val, by have h : (y 1).val < 1024 := (y 1).isLt; omega⟩)

theorem block_apply (a : Vec Ideal S1024x2048 .bf16) (b : Vec Ideal S2048x1024 .bf16) (i j : Fin 1024) :
    out0_2 a b (ix2 i j) = ∑ d : Fin 2048, a (ix2 i d) * b (ix2 d j) := by
  unfold out0_2
  frame_out
  pointwise [k0_pay1]

variable (m : (ℓ : Loc nD τ sig) → Buf (Elt Ideal) ℓ) (c : Dev nD)

/-- What a device is given. -/
def argX : S2x4096x2048.Idx → EReal := m ((c.tc : Thread nD τ).loc main_arg0)
@[inherit_doc argX] def argW : S2048x4160.Idx → EReal := m ((c.tc : Thread nD τ).loc main_arg1)

theorem V_x : V m c main_v1 = (truncf .bf16 (shapeCast S8192x2048 (argX m c) shapeCasts_S2x4096x2048_S8192x2048 : FVec Ideal S8192x2048 .f32) bitsLt_bf16_f32 : FVec Ideal S8192x2048 .bf16) := by
  unfold V
  after_results
  rfl

theorem V_w : V m c main_v3 = (truncf .bf16 (extractStridedSlice S2048x1024 ![0, 0] (argW m c) slices_S2048x4160_S2048x1024_0_0 : FVec Ideal S2048x1024 .f32) bitsLt_bf16_f32 : FVec Ideal S2048x1024 .bf16) := by
  unfold V
  after_results
  rfl

theorem V_x_apply (r : Fin 8192) (n : Fin 2048) :
    (V m c main_v1 : S8192x2048.Idx → EReal) (ix2 r n) = argX m c (ix3 ⟨r.val / 4096, by omega⟩ ⟨r.val % 4096, by omega⟩ n) := by
  rw [V_x]
  pointwise

theorem V_w_apply (i : Fin 2048) (n : Fin 1024) : (V m c main_v3 : S2048x1024.Idx → EReal) (ix2 i n) = argW m c (ix2 i ⟨0 + n.val, by omega⟩) := by
  rw [V_w]
  pointwise

theorem index_x : ∀ t : Fin grid0.N, win0_0.index t = ![(grid0.coords t 0).val, 0] := by decide +kernel
theorem index_w : ∀ t : Fin grid0.N, win0_1.index t = ![0, (grid0.coords t 1).val] := by decide +kernel
theorem index_o : ∀ t : Fin grid0.N, win0_2.index t = ![(grid0.coords t 0).val, (grid0.coords t 1).val] := by decide +kernel

theorem row_x (t : Fin grid0.N) (y : S1024x2048.Idx) (a : Fin 2) :
    ((win0_0.blk t).view.emb y a : ℕ) = ![(grid0.coords t 0).val, 0] a * ![1024, 2048] a + (y a).val := (win0_0.rect_emb_val t y a).trans (by rw [index_x])

theorem row_w (t : Fin grid0.N) (y : S2048x1024.Idx) (a : Fin 2) :
    ((win0_1.blk t).view.emb y a : ℕ) = ![0, (grid0.coords t 1).val] a * ![2048, 1024] a + (y a).val := (win0_1.rect_emb_val t y a).trans (by rw [index_w])

theorem row_o (t : Fin grid0.N) (y : S1024x1024.Idx) (a : Fin 2) :
    ((win0_2.blk t).view.emb y a : ℕ) = ![(grid0.coords t 0).val, (grid0.coords t 1).val] a * ![1024, 1024] a + (y a).val := (win0_2.rect_emb_val t y a).trans (by rw [index_o])

theorem lt0 (t : Fin grid0.N) : (grid0.coords t 0).val < 8 := (grid0.coords t 0).isLt
theorem lt1 (t : Fin grid0.N) : (grid0.coords t 1).val < 1 := (grid0.coords t 1).isLt

theorem iblk_x (t : Fin grid0.N) (i : Fin 1024) (d : Fin 2048) (r : Fin 8192) (hr : r.val = (grid0.coords t 0).val * 1024 + i.val) :
    (iblk m c 0 t : S1024x2048.Idx → EReal) (ix2 i d) = argX m c (ix3 ⟨r.val / 4096, by omega⟩ ⟨r.val % 4096, by omega⟩ d) := by
  refine Eq.trans ?_ (V_x_apply m c r d)
  refine congrArg (V m c main_v1 : S8192x2048.Idx → EReal) (ix_of _ r d ?_ ?_)
  · exact (row_x t (ix2 i d) 0).trans hr.symm
  · exact (row_x t (ix2 i d) 1).trans (by show 0 * 2048 + d.val = _; omega)

theorem iblk_w (t : Fin grid0.N) (d : Fin 2048) (j : Fin 1024) (n : Fin 1024) (hn : n.val = (grid0.coords t 1).val * 1024 + j.val) :
    (iblk m c 1 t : S2048x1024.Idx → EReal) (ix2 d j) = argW m c (ix2 d ⟨0 + n.val, by omega⟩) := by
  refine Eq.trans ?_ (V_w_apply m c d n)
  refine congrArg (V m c main_v3 : S2048x1024.Idx → EReal) (ix_of _ d n ?_ ?_)
  · exact (row_w t (ix2 d j) 0).trans (by show 0 * 2048 + d.val = _; omega)
  · exact (row_w t (ix2 d j) 1).trans hn.symm

theorem prod_ix (x : S2x4096x2048.Idx → EReal) (w : S2048x4160.Idx → EReal) (r : Fin 8192) (n : Fin 1024) :
    prod x w (ix2 r n) = ∑ d : Fin 2048, x (ix3 ⟨r.val / 4096, by omega⟩ ⟨r.val % 4096, by omega⟩ d) * w (ix2 d ⟨0 + n.val, by omega⟩) := rfl

/-- The kernel's result. -/
theorem result_eq : (dats m 0 c).arrAt 2 cfg0.N = prod (argX m c) (argW m c) := by
  refine (dats m 0 c).arrAt_eq_of_covers 2 (prod (argX m c) (argW m c)) (by decide +kernel) fun t hf y => ?_
  obtain ⟨i, j, rfl⟩ := exists_ix2 y
  blk_simp
  rw [after0_2]
  refine (block_apply _ _ i j).trans ?_
  have h0 := lt0 t
  have h1 := lt1 t
  have e : (win0_2.blk t).view.emb (ix2 i j) = ix2 (⟨(grid0.coords t 0).val * 1024 + i.val, by omega⟩ : Fin 8192) (⟨(grid0.coords t 1).val * 1024 + j.val, by omega⟩ : Fin 1024) :=
    ix_of _ _ _ (row_o t (ix2 i j) 0) (row_o t (ix2 i j) 1)
  rw [e, prod_ix]
  refine Finset.sum_congr rfl fun d _ => ?_
  exact congrArg₂ (· * ·) (iblk_x m c t i d _ rfl) (iblk_w m c t d j _ rfl)

end Cert.Kernel6Ideal.Val

namespace Cert.Reference6Ideal.Val

open Idealize.ShloMosaic Idealize.ShloMosaic.TcCoe
open Cert.Reference6Ideal Cert.Reference6Ideal.Read

/-- The reference is the same product. -/
theorem out_eq (x : Vec Ideal S2x4096x2048 .f32) (w : Vec Ideal S2048x4160 .f32) :
    val_main_v8 x w = Cert.Kernel6Ideal.Val.prod x w := by
  funext y
  obtain ⟨r, n, rfl⟩ := Cert.Kernel3Ideal.Val.exists_ix2 y
  rw [Cert.Kernel6Ideal.Val.prod_ix]
  have e : (⟨0 + n.val, by omega⟩ : Fin 4160) = ⟨n.val, by omega⟩ := Fin.ext (Nat.zero_add _)
  rw [e]
  pointwise [val_main_v8, val_main_v7, val_main_v2, val_main_v1, val_main_v0]
  split_ifs <;> refine Finset.sum_congr rfl fun d _ => congrArg (fun k => _ * w (ix2 d k)) (Fin.ext ?_) <;> first
    | rfl
    | (show 512 + (n.val - 512) = n.val; omega)

end Cert.Reference6Ideal.Val
end
-- ==== Proof.DiffValues.lean ====
/- The differential attention's values: a row times one of the last 1024 columns of the weights. -/
module

public import proofs.«01_k».proof.Proof.Gen.Kernel7Ideal.Value
public import proofs.«01_k».proof.Proof.Gen.Reference7Ideal.Read
public import proofs.«01_k».proof.Proof.Query

@[expose] public section

set_option maxRecDepth 16384

noncomputable section

namespace Cert.Kernel7Ideal.Val

open Idealize.ShloMosaic Idealize.ShloMosaic.TcCoe
open Idealize.ShloMosaic.Pipeline
open Cert.Kernel7Ideal Cert.Kernel7Ideal.Gen
open Cert.Kernel3Ideal.Val (ix_of exists_ix2)

/-- The values as one array. -/
def prod (x : S2x4096x2048.Idx → EReal) (w : S2048x4160.Idx → EReal) : S8192x1024.Idx → EReal := fun y =>
  ∑ d : Fin 2048, x (ix3 ⟨(y 0).val / 4096, by have h : (y 0).val < 8192 := (y 0).isLt; omega⟩ ⟨(y 0).val % 4096, Nat.mod_lt _ (by decide)⟩ d) * w (ix2 d ⟨3136 + (y 1).val, by have h : (y 1).val < 1024 := (y 1).isLt; omega⟩)

theorem block_apply (a : Vec Ideal S1024x2048 .bf16) (b : Vec Ideal S2048x1024 .bf16) (i j : Fin 1024) :
    out0_2 a b (ix2 i j) = ∑ d : Fin 2048, a (ix2 i d) * b (ix2 d j) := by
  unfold out0_2
  frame_out
  pointwise [k0_pay1]

variable (m : (ℓ : Loc nD τ sig) → Buf (Elt Ideal) ℓ) (c : Dev nD)

/-- What a device is given. -/
def argX : S2x4096x2048.Idx → EReal := m ((c.tc : Thread nD τ).loc main_arg0)
@[inherit_doc argX] def argW : S2048x4160.Idx → EReal := m ((c.tc : Thread nD τ).loc main_arg1)

theorem V_x : V m c main_v1 = (truncf .bf16 (shapeCast S8192x2048 (argX m c) shapeCasts_S2x4096x2048_S8192x2048 : FVec Ideal S8192x2048 .f32) bitsLt_bf16_f32 : FVec Ideal S8192x2048 .bf16) := by
  unfold V
  after_results
  rfl

theorem V_w : V m c main_v3 = (truncf .bf16 (extractStridedSlice S2048x1024 ![0, 3136] (argW m c) slices_S2048x4160_S2048x1024_0_3136 : FVec Ideal S2048x1024 .f32) bitsLt_bf16_f32 : FVec Ideal S2048x1024 .bf16) := by
  unfold V
  after_results
  rfl

theorem V_x_apply (r : Fin 8192) (n : Fin 2048) :
    (V m c main_v1 : S8192x2048.Idx → EReal) (ix2 r n) = argX m c (ix3 ⟨r.val / 4096, by omega⟩ ⟨r.val % 4096, by omega⟩ n) := by
  rw [V_x]
  pointwise

theorem V_w_apply (i : Fin 2048) (n : Fin 1024) : (V m c main_v3 : S2048x1024.Idx → EReal) (ix2 i n) = argW m c (ix2 i ⟨3136 + n.val, by omega⟩) := by
  rw [V_w]
  pointwise

theorem index_x : ∀ t : Fin grid0.N, win0_0.index t = ![(grid0.coords t 0).val, 0] := by decide +kernel
theorem index_w : ∀ t : Fin grid0.N, win0_1.index t = ![0, (grid0.coords t 1).val] := by decide +kernel
theorem index_o : ∀ t : Fin grid0.N, win0_2.index t = ![(grid0.coords t 0).val, (grid0.coords t 1).val] := by decide +kernel

theorem row_x (t : Fin grid0.N) (y : S1024x2048.Idx) (a : Fin 2) :
    ((win0_0.blk t).view.emb y a : ℕ) = ![(grid0.coords t 0).val, 0] a * ![1024, 2048] a + (y a).val := (win0_0.rect_emb_val t y a).trans (by rw [index_x])

theorem row_w (t : Fin grid0.N) (y : S2048x1024.Idx) (a : Fin 2) :
    ((win0_1.blk t).view.emb y a : ℕ) = ![0, (grid0.coords t 1).val] a * ![2048, 1024] a + (y a).val := (win0_1.rect_emb_val t y a).trans (by rw [index_w])

theorem row_o (t : Fin grid0.N) (y : S1024x1024.Idx) (a : Fin 2) :
    ((win0_2.blk t).view.emb y a : ℕ) = ![(grid0.coords t 0).val, (grid0.coords t 1).val] a * ![1024, 1024] a + (y a).val := (win0_2.rect_emb_val t y a).trans (by rw [index_o])

theorem lt0 (t : Fin grid0.N) : (grid0.coords t 0).val < 8 := (grid0.coords t 0).isLt
theorem lt1 (t : Fin grid0.N) : (grid0.coords t 1).val < 1 := (grid0.coords t 1).isLt

theorem iblk_x (t : Fin grid0.N) (i : Fin 1024) (d : Fin 2048) (r : Fin 8192) (hr : r.val = (grid0.coords t 0).val * 1024 + i.val) :
    (iblk m c 0 t : S1024x2048.Idx → EReal) (ix2 i d) = argX m c (ix3 ⟨r.val / 4096, by omega⟩ ⟨r.val % 4096, by omega⟩ d) := by
  refine Eq.trans ?_ (V_x_apply m c r d)
  refine congrArg (V m c main_v1 : S8192x2048.Idx → EReal) (ix_of _ r d ?_ ?_)
  · exact (row_x t (ix2 i d) 0).trans hr.symm
  · exact (row_x t (ix2 i d) 1).trans (by show 0 * 2048 + d.val = _; omega)

theorem iblk_w (t : Fin grid0.N) (d : Fin 2048) (j : Fin 1024) (n : Fin 1024) (hn : n.val = (grid0.coords t 1).val * 1024 + j.val) :
    (iblk m c 1 t : S2048x1024.Idx → EReal) (ix2 d j) = argW m c (ix2 d ⟨3136 + n.val, by omega⟩) := by
  refine Eq.trans ?_ (V_w_apply m c d n)
  refine congrArg (V m c main_v3 : S2048x1024.Idx → EReal) (ix_of _ d n ?_ ?_)
  · exact (row_w t (ix2 d j) 0).trans (by show 0 * 2048 + d.val = _; omega)
  · exact (row_w t (ix2 d j) 1).trans hn.symm

theorem prod_ix (x : S2x4096x2048.Idx → EReal) (w : S2048x4160.Idx → EReal) (r : Fin 8192) (n : Fin 1024) :
    prod x w (ix2 r n) = ∑ d : Fin 2048, x (ix3 ⟨r.val / 4096, by omega⟩ ⟨r.val % 4096, by omega⟩ d) * w (ix2 d ⟨3136 + n.val, by omega⟩) := rfl

/-- The kernel's result. -/
theorem result_eq : (dats m 0 c).arrAt 2 cfg0.N = prod (argX m c) (argW m c) := by
  refine (dats m 0 c).arrAt_eq_of_covers 2 (prod (argX m c) (argW m c)) (by decide +kernel) fun t hf y => ?_
  obtain ⟨i, j, rfl⟩ := exists_ix2 y
  blk_simp
  rw [after0_2]
  refine (block_apply _ _ i j).trans ?_
  have h0 := lt0 t
  have h1 := lt1 t
  have e : (win0_2.blk t).view.emb (ix2 i j) = ix2 (⟨(grid0.coords t 0).val * 1024 + i.val, by omega⟩ : Fin 8192) (⟨(grid0.coords t 1).val * 1024 + j.val, by omega⟩ : Fin 1024) :=
    ix_of _ _ _ (row_o t (ix2 i j) 0) (row_o t (ix2 i j) 1)
  rw [e, prod_ix]
  refine Finset.sum_congr rfl fun d _ => ?_
  exact congrArg₂ (· * ·) (iblk_x m c t i d _ rfl) (iblk_w m c t d j _ rfl)

end Cert.Kernel7Ideal.Val

namespace Cert.Reference7Ideal.Val

open Idealize.ShloMosaic Idealize.ShloMosaic.TcCoe
open Cert.Reference7Ideal Cert.Reference7Ideal.Read

/-- The reference is the same product. -/
theorem out_eq (x : Vec Ideal S2x4096x2048 .f32) (w : Vec Ideal S2048x4160 .f32) :
    val_main_v8 x w = Cert.Kernel7Ideal.Val.prod x w := by
  funext y
  obtain ⟨r, n, rfl⟩ := Cert.Kernel3Ideal.Val.exists_ix2 y
  rw [Cert.Kernel7Ideal.Val.prod_ix]
  pointwise [val_main_v8, val_main_v7, val_main_v6, val_main_v0]

end Cert.Reference7Ideal.Val
end
-- ==== Proof.DiffRot.lean ====
/- The differential attention's queries and keys: a row times a column of the weights, the queries scaled, each group of 128 columns rotated by the row's position. -/
module

public import proofs.«01_k».proof.Proof.Gen.Kernel8Ideal.Value
public import proofs.«01_k».proof.Proof.Gen.Reference8Ideal.Read
public import proofs.«01_k».proof.Proof.Query

@[expose] public section

set_option maxRecDepth 16384
noncomputable section
namespace Cert.Kernel8Ideal.Val
open Idealize.ShloMosaic Idealize.ShloMosaic.TcCoe
open Idealize.ShloMosaic.Pipeline
open Cert.Kernel8Ideal Cert.Kernel8Ideal.Gen
open Cert.Kernel3Ideal.Val (ix_of exists_ix2)

/-- A product with its columns scaled. -/
def lin (a : S1024x2048.Idx → EReal) (b : S2048x1024.Idx → EReal) (s : S1x1024.Idx → EReal) (i j : Fin 1024) : EReal :=
  (∑ e : Fin 2048, a (ix2 i e) * b (ix2 e j)) * s (ix2 0 j)

/-- The other half's column, in the same group of 128. -/
def other (j : Fin 1024) : Fin 1024 := ⟨128 * (j.val / 128) + (j.val + 64) % 128, by omega⟩

/-- Each group of 128 columns times its cosines, plus its halves exchanged times its sines. -/
def rot (A : Fin 1024 → Fin 1024 → EReal) (c s : S1024x128.Idx → EReal) : S1024x1024.Idx → EReal := fun y =>
  A ⟨(y 0).val, (y 0).isLt⟩ ⟨(y 1).val, (y 1).isLt⟩ * c (ix2 ⟨(y 0).val, (y 0).isLt⟩ ⟨(y 1).val % 128, Nat.mod_lt _ (by decide)⟩)
    + A ⟨(y 0).val, (y 0).isLt⟩ (other ⟨(y 1).val, (y 1).isLt⟩) * s (ix2 ⟨(y 0).val, (y 0).isLt⟩ ⟨(y 1).val % 128, Nat.mod_lt _ (by decide)⟩)

theorem rot_at (A : Fin 1024 → Fin 1024 → EReal) (c s : S1024x128.Idx → EReal) (i : Fin 1024) (l : Fin 128) (o : ℕ) (ho : o % 128 = 0) (hm : o + 128 ≤ 1024)
    (y : S1024x1024.Idx) (h0 : (y 0).val = 0 + i.val) (h1 : (y 1).val = o + l.val) :
    A i ⟨o + l.val, by omega⟩ * c (ix2 i l) + A i ⟨o + (l.val + 128 - 64) % 128, by omega⟩ * s (ix2 i l) = rot A c s y := by
  have e0 : (⟨(y 0).val, (y 0).isLt⟩ : Fin 1024) = i := Fin.ext (h0.trans (Nat.zero_add _))
  have e1 : (⟨(y 1).val, (y 1).isLt⟩ : Fin 1024) = ⟨o + l.val, by omega⟩ := Fin.ext h1
  have e2 : (⟨(y 1).val % 128, Nat.mod_lt _ (by decide)⟩ : Fin 128) = l := Fin.ext (by show (y 1).val % 128 = l.val; omega)
  have e3 : other ⟨o + l.val, by omega⟩ = ⟨o + (l.val + 128 - 64) % 128, by omega⟩ := Fin.ext (by
    show 128 * ((o + l.val) / 128) + (o + l.val + 64) % 128 = o + (l.val + 128 - 64) % 128
    omega)
  unfold rot
  rw [e0, e1, e2, e3]

theorem block_apply (a : Vec Ideal S1024x2048 .bf16) (b : Vec Ideal S2048x1024 .bf16) (s : Vec Ideal S1x1024 .f32) (c d : Vec Ideal S1024x128 .f32) (y : S1024x1024.Idx) :
    out0_5 a b s c d y = rot (lin a b s) c d y := by
  unfold out0_5
  refine View.canon_apply_of_pieces (Val := Elt Ideal) (e := .bf16) (rot (lin a b s) c d) _ ?_ y (cover0_5 _ _ _ _ _ _ _ _ y)
  intro p hp x
  have go : ∀ (o : ℕ) (inb) (v : S1024x128.Idx → EReal), o % 128 = 0 → ∀ (hm : o + 128 ≤ 1024),
      (∀ (i : Fin 1024) (l : Fin 128), v (ix2 i l) = lin a b s i ⟨o + l.val, by omega⟩ * c (ix2 i l) + lin a b s i ⟨o + (l.val + 128 - 64) % 128, by omega⟩ * d (ix2 i l)) →
      ∀ x : S1024x128.Idx, v x = rot (lin a b s) c d ((Rect.unit (s := S1024x1024) ![0, o] S1024x128.size inb).emb x) := by
    intro o inb v ho hm hv x
    obtain ⟨i, l, rfl⟩ := exists_ix2 x
    exact (hv i l).trans (rot_at (lin a b s) c d i l o ho hm _ (ValueKit.rect_emb_unit_val _ _ inb (ix2 i l) 0) (ValueKit.rect_emb_unit_val _ _ inb (ix2 i l) 1))
  simp only [List.mem_cons, List.not_mem_nil, or_false] at hp
  rcases hp with rfl | rfl | rfl | rfl | rfl | rfl | rfl | rfl
  · exact go 896 (by decide) _ rfl (by decide) (fun i l => by unfold lin; pointwise [k0_pay5, k0_pay13, k0_pay14, k0_pay15, k0_pay6, k0_pay7, k0_pay8]) x
  · exact go 768 (by decide) _ rfl (by decide) (fun i l => by unfold lin; pointwise [k0_pay4, k0_pay13, k0_pay14, k0_pay15, k0_pay6, k0_pay7, k0_pay8]) x
  · exact go 640 (by decide) _ rfl (by decide) (fun i l => by unfold lin; pointwise [k0_pay3, k0_pay13, k0_pay14, k0_pay15, k0_pay6, k0_pay7, k0_pay8]) x
  · exact go 512 (by decide) _ rfl (by decide) (fun i l => by unfold lin; pointwise [k0_pay2, k0_pay13, k0_pay14, k0_pay15, k0_pay6, k0_pay7, k0_pay8]) x
  · exact go 384 (by decide) _ rfl (by decide) (fun i l => by unfold lin; pointwise [k0_pay1, k0_pay12, k0_pay14, k0_pay15, k0_pay6, k0_pay7, k0_pay8]) x
  · exact go 256 (by decide) _ rfl (by decide) (fun i l => by unfold lin; pointwise [k0_pay11, k0_pay6, k0_pay7, k0_pay8]) x
  · exact go 128 (by decide) _ rfl (by decide) (fun i l => by unfold lin; pointwise [k0_pay10, k0_pay6, k0_pay7, k0_pay8]) x
  · exact go 0 (by decide) _ rfl (by decide) (fun i l => by unfold lin; pointwise [k0_pay9, k0_pay6, k0_pay7, k0_pay8]) x

variable (m : (ℓ : Loc nD τ sig) → Buf (Elt Ideal) ℓ) (c : Dev nD)

/-- What a device is given. -/
def argX : S2x4096x2048.Idx → EReal := m ((c.tc : Thread nD τ).loc main_arg0)
@[inherit_doc argX] def argW : S2048x4160.Idx → EReal := m ((c.tc : Thread nD τ).loc main_arg1)

/-- The angle of each position and column of half a group. -/
def ang : FVec Ideal S4096x64 .f32 :=
  mulf (broadcastInDim S4096x64 ![0, 1] bcast_S4096x1_S4096x64_0_1 (broadcastInDim S4096x1 ![0] bcast_S4096_S4096x1_0 (sitofp .f32 (iotaInDim S4096 32 0))))
    (broadcastInDim S4096x64 ![0, 1] bcast_S1x64_S4096x64_0_1 (broadcastInDim S1x64 ![1] bcast_S64_S1x64_1
      (Host.powf (broadcastInDim S64 ![] bcast_S_S64 (constant S_ .f32 1176256512#32))
        (Host.divf (Host.negf (addf (broadcastInDim S64 ![] bcast_S_S64 (constant S_ .f32 0#32))
          (mulf (broadcastInDim S64 ![] bcast_S_S64 (constant S_ .f32 1073741824#32)) (sitofp .f32 (iotaInDim S64 32 0)))))
          (broadcastInDim S64 ![] bcast_S_S64 (constant S_ .f32 1124073472#32))))))

/-- Its cosine and its sine. -/
def cosT : S4096x64.Idx → EReal := (Host.cos ang : FVec Ideal S4096x64 .f32)
@[inherit_doc cosT] def sinT : S4096x64.Idx → EReal := (Host.sin ang : FVec Ideal S4096x64 .f32)

theorem V_t0 : V m c main_v21 = (concatenate S4096x128 1
      [⟨S4096x64, cosT⟩, ⟨S4096x64, cosT⟩, ⟨S4096x0, broadcastInDim S4096x0 ![] bcast_S_S4096x0 (constant (F := Ideal) S_ .f32 0#32)⟩] concatenates_S4096x64_S4096x64_S4096x0_S4096x128_d1 : FVec Ideal S4096x128 .f32) := by
  unfold V
  after_results
  rfl

theorem V_t1 : V m c main_v23 = (concatenate S4096x128 1
      [⟨S4096x64, Host.negf (sinT : FVec Ideal S4096x64 .f32)⟩, ⟨S4096x64, sinT⟩] concatenates_S4096x64_S4096x64_S4096x128_d1 : FVec Ideal S4096x128 .f32) := by
  unfold V
  after_results
  rfl

theorem V_x : V m c main_v28 = (truncf .bf16 (shapeCast S8192x2048 (argX m c) shapeCasts_S2x4096x2048_S8192x2048 : FVec Ideal S8192x2048 .f32) bitsLt_bf16_f32 : FVec Ideal S8192x2048 .bf16) := by
  unfold V
  after_results
  rfl

theorem V_w : V m c main_v1 = (truncf .bf16 (extractStridedSlice S2048x2048 ![0, 1088] (argW m c) slices_S2048x4160_S2048x2048_0_1088 : FVec Ideal S2048x2048 .f32) bitsLt_bf16_f32 : FVec Ideal S2048x2048 .bf16) := by
  unfold V
  after_results
  rfl

theorem V_s : V m c main_v29 = (shapeCast S1x2048 (concatenate S2048 0
      [⟨S1024, broadcastInDim S1024 ![] bcast_S_S1024 (constant (F := Ideal) S_ .f32 0x3E0293EE#32)⟩,
       ⟨S1024, broadcastInDim S1024 ![] bcast_S_S1024 (constant (F := Ideal) S_ .f32 0x3F800000#32)⟩] concatenates_S1024_S1024_S2048_d0
      : FVec Ideal S2048 .f32) shapeCasts_S2048_S1x2048 : FVec Ideal S1x2048 .f32) := by
  unfold V
  after_results
  rfl

/-- The scale of a column. -/
def scl (n : ℕ) : EReal := if n < 1024 then Ideal.ofBits .f32 0x3E0293EE#32 else 1

/-- The sine with the sign of a column's half. -/
def sgn (p : Fin 4096) (l : ℕ) : EReal := if l % 128 < 64 then -sinT (ix2 p ⟨l % 64, Nat.mod_lt _ (by decide)⟩) else sinT (ix2 p ⟨l % 64, Nat.mod_lt _ (by decide)⟩)

theorem V_t0_apply (p : Fin 4096) (l : Fin 128) : (V m c main_v21 : S4096x128.Idx → EReal) (ix2 p l) = cosT (ix2 p ⟨l.val % 64, Nat.mod_lt _ (by decide)⟩) := by
  rw [V_t0]
  pointwise
  split_ifs <;> first
    | omega
    | refine congrArg (fun k => cosT (ix2 p k)) (Fin.ext ?_) <;> (show _ = l.val % 64) <;> dsimp only <;> omega

theorem V_t1_apply (p : Fin 4096) (l : Fin 128) : (V m c main_v23 : S4096x128.Idx → EReal) (ix2 p l) = sgn p l.val := by
  rw [V_t1]
  unfold sgn
  pointwise
  have h : l.val < 128 := l.isLt
  rw [show l.val % 128 = l.val by omega]
  by_cases g : l.val < 64
  · rw [dif_pos g, if_pos g]
    exact congrArg (fun k => -sinT (ix2 p k)) (Fin.ext (by show l.val = l.val % 64; omega))
  · rw [dif_neg g, if_neg g]
    exact congrArg (fun k => sinT (ix2 p k)) (Fin.ext (by show l.val - 64 = l.val % 64; omega))

theorem V_x_apply (r : Fin 8192) (n : Fin 2048) :
    (V m c main_v28 : S8192x2048.Idx → EReal) (ix2 r n) = argX m c (ix3 ⟨r.val / 4096, by omega⟩ ⟨r.val % 4096, by omega⟩ n) := by
  rw [V_x]
  pointwise

theorem V_w_apply (i n : Fin 2048) : (V m c main_v1 : S2048x2048.Idx → EReal) (ix2 i n) = argW m c (ix2 i ⟨1088 + n.val, by omega⟩) := by
  rw [V_w]
  pointwise

theorem V_s_apply (n : Fin 2048) : (V m c main_v29 : S1x2048.Idx → EReal) (ix2 0 n) = scl n.val := by
  rw [V_s]
  unfold scl
  pointwise
  split_ifs <;> rfl

theorem index_x : ∀ t : Fin grid0.N, win0_0.index t = ![(grid0.coords t 0).val, 0] := by decide +kernel
theorem index_w : ∀ t : Fin grid0.N, win0_1.index t = ![0, (grid0.coords t 1).val] := by decide +kernel
theorem index_s : ∀ t : Fin grid0.N, win0_2.index t = ![0, (grid0.coords t 1).val] := by decide +kernel
theorem index_c : ∀ t : Fin grid0.N, win0_3.index t = ![(grid0.coords t 0).val % 4, 0] := by decide +kernel
theorem index_d : ∀ t : Fin grid0.N, win0_4.index t = ![(grid0.coords t 0).val % 4, 0] := by decide +kernel
theorem index_o : ∀ t : Fin grid0.N, win0_5.index t = ![(grid0.coords t 0).val, (grid0.coords t 1).val] := by decide +kernel

theorem row_x (t : Fin grid0.N) (y : S1024x2048.Idx) (a : Fin 2) :
    ((win0_0.blk t).view.emb y a : ℕ) = ![(grid0.coords t 0).val, 0] a * ![1024, 2048] a + (y a).val := (win0_0.rect_emb_val t y a).trans (by rw [index_x])

theorem row_w (t : Fin grid0.N) (y : S2048x1024.Idx) (a : Fin 2) :
    ((win0_1.blk t).view.emb y a : ℕ) = ![0, (grid0.coords t 1).val] a * ![2048, 1024] a + (y a).val := (win0_1.rect_emb_val t y a).trans (by rw [index_w])

theorem row_s (t : Fin grid0.N) (y : S1x1024.Idx) (a : Fin 2) :
    ((win0_2.blk t).view.emb y a : ℕ) = ![0, (grid0.coords t 1).val] a * ![1, 1024] a + (y a).val := (win0_2.rect_emb_val t y a).trans (by rw [index_s])

theorem row_c (t : Fin grid0.N) (y : S1024x128.Idx) (a : Fin 2) :
    ((win0_3.blk t).view.emb y a : ℕ) = ![(grid0.coords t 0).val % 4, 0] a * ![1024, 128] a + (y a).val := (win0_3.rect_emb_val t y a).trans (by rw [index_c])

theorem row_d (t : Fin grid0.N) (y : S1024x128.Idx) (a : Fin 2) :
    ((win0_4.blk t).view.emb y a : ℕ) = ![(grid0.coords t 0).val % 4, 0] a * ![1024, 128] a + (y a).val := (win0_4.rect_emb_val t y a).trans (by rw [index_d])

theorem row_o (t : Fin grid0.N) (y : S1024x1024.Idx) (a : Fin 2) :
    ((win0_5.blk t).view.emb y a : ℕ) = ![(grid0.coords t 0).val, (grid0.coords t 1).val] a * ![1024, 1024] a + (y a).val := (win0_5.rect_emb_val t y a).trans (by rw [index_o])

theorem lt0 (t : Fin grid0.N) : (grid0.coords t 0).val < 8 := (grid0.coords t 0).isLt
theorem lt1 (t : Fin grid0.N) : (grid0.coords t 1).val < 2 := (grid0.coords t 1).isLt

theorem iblk_x (t : Fin grid0.N) (i : Fin 1024) (d : Fin 2048) (r : Fin 8192) (hr : r.val = (grid0.coords t 0).val * 1024 + i.val) :
    (iblk m c 0 t : S1024x2048.Idx → EReal) (ix2 i d) = argX m c (ix3 ⟨r.val / 4096, by omega⟩ ⟨r.val % 4096, by omega⟩ d) := by
  refine Eq.trans ?_ (V_x_apply m c r d)
  refine congrArg (V m c main_v28 : S8192x2048.Idx → EReal) (ix_of _ r d ?_ ?_)
  · exact (row_x t (ix2 i d) 0).trans hr.symm
  · exact (row_x t (ix2 i d) 1).trans (by show 0 * 2048 + d.val = _; omega)

theorem iblk_w (t : Fin grid0.N) (d : Fin 2048) (j : Fin 1024) (n : Fin 2048) (hn : n.val = (grid0.coords t 1).val * 1024 + j.val) :
    (iblk m c 1 t : S2048x1024.Idx → EReal) (ix2 d j) = argW m c (ix2 d ⟨1088 + n.val, by omega⟩) := by
  refine Eq.trans ?_ (V_w_apply m c d n)
  refine congrArg (V m c main_v1 : S2048x2048.Idx → EReal) (ix_of _ d n ?_ ?_)
  · exact (row_w t (ix2 d j) 0).trans (by show 0 * 2048 + d.val = _; omega)
  · exact (row_w t (ix2 d j) 1).trans hn.symm

theorem iblk_s (t : Fin grid0.N) (j : Fin 1024) (n : Fin 2048) (hn : n.val = (grid0.coords t 1).val * 1024 + j.val) :
    (iblk m c 2 t : S1x1024.Idx → EReal) (ix2 0 j) = scl n.val := by
  refine Eq.trans ?_ (V_s_apply m c n)
  refine congrArg (V m c main_v29 : S1x2048.Idx → EReal) (ix_of _ 0 n ?_ ?_)
  · exact (row_s t (ix2 0 j) 0).trans (by show 0 * 1 + 0 = 0; omega)
  · exact (row_s t (ix2 0 j) 1).trans hn.symm

theorem iblk_c (t : Fin grid0.N) (i : Fin 1024) (l : Fin 128) (p : Fin 4096) (hp : p.val = (grid0.coords t 0).val % 4 * 1024 + i.val) :
    (iblk m c 3 t : S1024x128.Idx → EReal) (ix2 i l) = cosT (ix2 p ⟨l.val % 64, Nat.mod_lt _ (by decide)⟩) := by
  refine Eq.trans ?_ (V_t0_apply m c p l)
  refine congrArg (V m c main_v21 : S4096x128.Idx → EReal) (ix_of _ p l ?_ ?_)
  · exact (row_c t (ix2 i l) 0).trans hp.symm
  · exact (row_c t (ix2 i l) 1).trans (by show 0 * 128 + l.val = _; omega)

theorem iblk_d (t : Fin grid0.N) (i : Fin 1024) (l : Fin 128) (p : Fin 4096) (hp : p.val = (grid0.coords t 0).val % 4 * 1024 + i.val) :
    (iblk m c 4 t : S1024x128.Idx → EReal) (ix2 i l) = sgn p l.val := by
  refine Eq.trans ?_ (V_t1_apply m c p l)
  refine congrArg (V m c main_v23 : S4096x128.Idx → EReal) (ix_of _ p l ?_ ?_)
  · exact (row_d t (ix2 i l) 0).trans hp.symm
  · exact (row_d t (ix2 i l) 1).trans (by show 0 * 128 + l.val = _; omega)

/-- The projection before the rotation. -/
def raw (x : S2x4096x2048.Idx → EReal) (w : S2048x4160.Idx → EReal) (r : Fin 8192) (n : Fin 2048) : EReal :=
  (∑ d : Fin 2048, x (ix3 ⟨r.val / 4096, by omega⟩ ⟨r.val % 4096, by omega⟩ d) * w (ix2 d ⟨1088 + n.val, by omega⟩)) * scl n.val

/-- The other half's column of the whole projection. -/
def far (n : Fin 2048) : Fin 2048 := ⟨128 * (n.val / 128) + (n.val + 64) % 128, by omega⟩

/-- The rotated projection at a row and a column. -/
def res (x : S2x4096x2048.Idx → EReal) (w : S2048x4160.Idx → EReal) (r : Fin 8192) (n : Fin 2048) : EReal :=
  raw x w r n * cosT (ix2 ⟨r.val % 4096, by omega⟩ ⟨n.val % 64, Nat.mod_lt _ (by decide)⟩) + raw x w r (far n) * sgn ⟨r.val % 4096, by omega⟩ n.val

/-- The rotated projection as one array. -/
def arr (x : S2x4096x2048.Idx → EReal) (w : S2048x4160.Idx → EReal) : S8192x2048.Idx → EReal := fun y => res x w ⟨(y 0).val, (y 0).isLt⟩ ⟨(y 1).val, (y 1).isLt⟩

theorem arr_ix (x : S2x4096x2048.Idx → EReal) (w : S2048x4160.Idx → EReal) (r : Fin 8192) (n : Fin 2048) : arr x w (ix2 r n) = res x w r n := rfl

theorem lin_eq (t : Fin grid0.N) (i j : Fin 1024) (r : Fin 8192) (n : Fin 2048) (hr : r.val = (grid0.coords t 0).val * 1024 + i.val) (hn : n.val = (grid0.coords t 1).val * 1024 + j.val) :
    lin (iblk m c 0 t) (iblk m c 1 t) (iblk m c 2 t) i j = raw (argX m c) (argW m c) r n := by
  refine congrArg₂ (· * ·) (Finset.sum_congr rfl fun d _ => ?_) (iblk_s m c t j n hn)
  exact congrArg₂ (· * ·) (iblk_x m c t i d r hr) (iblk_w m c t d j n hn)

theorem sgn_mod (p : Fin 4096) (a b : ℕ) (h : a % 128 = b % 128) : sgn p a = sgn p b := by
  have e : (⟨a % 64, Nat.mod_lt _ (by decide)⟩ : Fin 64) = ⟨b % 64, Nat.mod_lt _ (by decide)⟩ := Fin.ext (by show a % 64 = b % 64; omega)
  unfold sgn
  rw [h, e]

/-- The kernel's result. -/
theorem result_eq : (dats m 0 c).arrAt 5 cfg0.N = arr (argX m c) (argW m c) := by
  refine (dats m 0 c).arrAt_eq_of_covers 5 (arr (argX m c) (argW m c)) (by decide +kernel) fun t hf y => ?_
  obtain ⟨i, j, rfl⟩ := exists_ix2 y
  blk_simp
  rw [after0_5]
  refine (block_apply _ _ _ _ _ (ix2 i j)).trans ?_
  have h0 := lt0 t
  have h1 := lt1 t
  have e : (win0_5.blk t).view.emb (ix2 i j) = ix2 (⟨(grid0.coords t 0).val * 1024 + i.val, by omega⟩ : Fin 8192) (⟨(grid0.coords t 1).val * 1024 + j.val, by omega⟩ : Fin 2048) :=
    ix_of _ _ _ (row_o t (ix2 i j) 0) (row_o t (ix2 i j) 1)
  rw [e, arr_ix]
  refine congrArg₂ (· + ·) (congrArg₂ (· * ·) (lin_eq m c t i j _ _ rfl rfl) ?_) (congrArg₂ (· * ·) (lin_eq m c t i (other j) _ _ rfl ?_) ?_)
  · refine (iblk_c m c t i _ ⟨((grid0.coords t 0).val * 1024 + i.val) % 4096, by omega⟩ (by show ((grid0.coords t 0).val * 1024 + i.val) % 4096 = _; omega)).trans ?_
    exact congrArg (fun k => cosT (ix2 _ k)) (Fin.ext (by show j.val % 128 % 64 = ((grid0.coords t 1).val * 1024 + j.val) % 64; omega))
  · show 128 * (((grid0.coords t 1).val * 1024 + j.val) / 128) + ((grid0.coords t 1).val * 1024 + j.val + 64) % 128 = (grid0.coords t 1).val * 1024 + (128 * (j.val / 128) + (j.val + 64) % 128)
    omega
  · refine (iblk_d m c t i _ ⟨((grid0.coords t 0).val * 1024 + i.val) % 4096, by omega⟩ (by show ((grid0.coords t 0).val * 1024 + i.val) % 4096 = _; omega)).trans ?_
    exact sgn_mod _ _ _ (by show j.val % 128 % 128 = ((grid0.coords t 1).val * 1024 + j.val) % 128; omega)

end Cert.Kernel8Ideal.Val

namespace Cert.Reference8Ideal.Val

open Idealize.ShloMosaic Idealize.ShloMosaic.TcCoe
open Cert.Reference8Ideal Cert.Reference8Ideal.Read
open Cert.Kernel8Ideal.Val (cosT sinT arr arr_ix res raw far sgn scl)

variable (x : Vec Ideal S2x4096x2048 .f32) (w : Vec Ideal S2048x4160 .f32)

theorem cos_eq : val_main_v27 (F := Ideal) = cosT := rfl
theorem sin_eq : val_main_v29 (F := Ideal) = sinT := rfl
theorem cos_eq' : val_main_v66 (F := Ideal) = cosT := rfl
theorem sin_eq' : val_main_v68 (F := Ideal) = sinT := rfl

/-- A column and the one half a group away, turned by a position's angle. -/
theorem turn (A : Fin 128 → EReal) (p : Fin 4096) (r : Fin 8192) (n : Fin 2048) (l : Fin 128) (hp : r.val % 4096 = p.val) (hl : n.val % 128 = l.val)
    (hA : ∀ (k : Fin 128) (n' : Fin 2048), n'.val = 128 * (n.val / 128) + k.val → A k = raw x w r n') :
    (if h : l.val < 64 then A l * cosT (ix2 p ⟨l.val, h⟩) - A ⟨64 + l.val, by omega⟩ * sinT (ix2 p ⟨l.val, h⟩)
      else A ⟨64 + (l.val - 64), by omega⟩ * cosT (ix2 p ⟨l.val - 64, by omega⟩) + A ⟨l.val - 64, by omega⟩ * sinT (ix2 p ⟨l.val - 64, by omega⟩)) = res x w r n := by
  have ep : (⟨r.val % 4096, Nat.mod_lt _ (by decide)⟩ : Fin 4096) = p := Fin.ext hp
  unfold res sgn
  rw [ep, hl]
  by_cases g : l.val < 64
  · rw [dif_pos g, if_pos g, hA l n (by omega), hA ⟨64 + l.val, by omega⟩ (far n) (by show 128 * (n.val / 128) + (n.val + 64) % 128 = _ + (64 + l.val); omega), sub_eq_add_neg, ← mul_neg]
    have e : (⟨n.val % 64, Nat.mod_lt _ (by decide)⟩ : Fin 64) = ⟨l.val, g⟩ := Fin.ext (by show n.val % 64 = l.val; omega)
    rw [e]
  · rw [dif_neg g, if_neg g, hA ⟨64 + (l.val - 64), by omega⟩ n (by show n.val = _ + (64 + (l.val - 64)); omega), hA ⟨l.val - 64, by omega⟩ (far n) (by show 128 * (n.val / 128) + (n.val + 64) % 128 = _ + (l.val - 64); omega)]
    have e : (⟨n.val % 64, Nat.mod_lt _ (by decide)⟩ : Fin 64) = ⟨l.val - 64, by omega⟩ := Fin.ext (by show n.val % 64 = l.val - 64; omega)
    rw [e]

theorem raw_of (b : Fin 2) (p : Fin 4096) (r : Fin 8192) (n : Fin 2048) (k : Fin 4160) (s : EReal) (hb : r.val / 4096 = b.val) (hp : r.val % 4096 = p.val) (hk : 1088 + n.val = k.val) (hs : scl n.val = s) :
    (∑ d : Fin 2048, x (ix3 b p d) * w (ix2 d k)) * s = raw x w r n := by
  have e0 : (⟨r.val / 4096, by omega⟩ : Fin 2) = b := Fin.ext hb
  have e1 : (⟨r.val % 4096, by omega⟩ : Fin 4096) = p := Fin.ext hp
  have e2 : (⟨1088 + n.val, by omega⟩ : Fin 4160) = k := Fin.ext hk
  unfold raw
  rw [hs, e0, e1, e2]

theorem q_apply (b : Fin 2) (p : Fin 4096) (h : Fin 8) (l : Fin 128) : val_main_v9 x w (ix4 b p h l)
      = (∑ d : Fin 2048, x (ix3 b p d) * w (ix2 d ⟨1088 + (h.val * 128 + l.val), by omega⟩)) * Ideal.ofBits .f32 0x3E0293EE#32 := by
  pointwise [val_main_v9, val_main_v8, val_main_v7, val_main_cst, val_main_v4, val_main_v0]

theorem k_apply (b : Fin 2) (p : Fin 4096) (h : Fin 8) (l : Fin 128) : val_main_v48 x w (ix4 b p h l)
      = (∑ d : Fin 2048, x (ix3 b p d) * w (ix2 d ⟨2112 + (h.val * 128 + l.val), by omega⟩)) * 1 := by
  pointwise [val_main_v48, val_main_v6, val_main_v5, val_main_v4, val_main_v3, val_main_v2, val_main_v1, val_main_v0]

theorem q_lo (b : Fin 2) (p : Fin 4096) (h : Fin 8) (l : Fin 64) : val_main_v39 x w (ix4 b p h l)
      = val_main_v9 x w (ix4 b p h ⟨l.val, by omega⟩) * cosT (ix2 p l) - val_main_v9 x w (ix4 b p h ⟨64 + l.val, by omega⟩) * sinT (ix2 p l) := by
  rw [← cos_eq, ← sin_eq]
  pointwise [val_main_v39, val_main_v38, val_main_v37, val_main_v36, val_main_v35, val_main_v34, val_main_v33, val_main_v32, val_main_v31, val_main_v30, val_main_v28]

theorem q_hi (b : Fin 2) (p : Fin 4096) (h : Fin 8) (l : Fin 64) : val_main_v46 x w (ix4 b p h l)
      = val_main_v9 x w (ix4 b p h ⟨64 + l.val, by omega⟩) * cosT (ix2 p l) + val_main_v9 x w (ix4 b p h ⟨l.val, by omega⟩) * sinT (ix2 p l) := by
  rw [← cos_eq, ← sin_eq]
  pointwise [val_main_v46, val_main_v45, val_main_v44, val_main_v43, val_main_v42, val_main_v41, val_main_v40, val_main_v32, val_main_v31, val_main_v30, val_main_v28]

theorem q_rot (b : Fin 2) (p : Fin 4096) (h : Fin 8) (l : Fin 128) (r : Fin 8192) (n : Fin 2048) (hb : r.val / 4096 = b.val) (hp : r.val % 4096 = p.val) (hh : n.val / 128 = h.val) (hl : n.val % 128 = l.val) :
    val_main_v47 x w (ix4 b p h l) = res x w r n := by
  refine Eq.trans ?_ (turn x w (fun k => val_main_v9 x w (ix4 b p h k)) p r n l hp hl fun k n' hn => ?_)
  · pointwise [val_main_v47]
    split_ifs with g
    · exact q_lo x w b p h ⟨l.val, g⟩
    all_goals exact q_hi x w b p h ⟨l.val - 64, by omega⟩
  · exact (q_apply x w b p h k).trans (raw_of x w b p r n' _ _ hb hp (by show 1088 + n'.val = 1088 + (h.val * 128 + k.val); omega) (if_pos (by omega)))

theorem k_lo (b : Fin 2) (p : Fin 4096) (h : Fin 8) (l : Fin 64) : val_main_v78 x w (ix4 b p h l)
      = val_main_v48 x w (ix4 b p h ⟨l.val, by omega⟩) * cosT (ix2 p l) - val_main_v48 x w (ix4 b p h ⟨64 + l.val, by omega⟩) * sinT (ix2 p l) := by
  rw [← cos_eq', ← sin_eq']
  pointwise [val_main_v78, val_main_v77, val_main_v76, val_main_v75, val_main_v74, val_main_v73, val_main_v72, val_main_v71, val_main_v70, val_main_v69, val_main_v67]

theorem k_hi (b : Fin 2) (p : Fin 4096) (h : Fin 8) (l : Fin 64) : val_main_v85 x w (ix4 b p h l)
      = val_main_v48 x w (ix4 b p h ⟨64 + l.val, by omega⟩) * cosT (ix2 p l) + val_main_v48 x w (ix4 b p h ⟨l.val, by omega⟩) * sinT (ix2 p l) := by
  rw [← cos_eq', ← sin_eq']
  pointwise [val_main_v85, val_main_v84, val_main_v83, val_main_v82, val_main_v81, val_main_v80, val_main_v79, val_main_v71, val_main_v70, val_main_v69, val_main_v67]

theorem k_rot (b : Fin 2) (p : Fin 4096) (h : Fin 8) (l : Fin 128) (r : Fin 8192) (n : Fin 2048) (hb : r.val / 4096 = b.val) (hp : r.val % 4096 = p.val) (hh : n.val / 128 = h.val + 8) (hl : n.val % 128 = l.val) :
    val_main_v86 x w (ix4 b p h l) = res x w r n := by
  refine Eq.trans ?_ (turn x w (fun k => val_main_v48 x w (ix4 b p h k)) p r n l hp hl fun k n' hn => ?_)
  · pointwise [val_main_v86]
    split_ifs with g
    · exact k_lo x w b p h ⟨l.val, g⟩
    all_goals exact k_hi x w b p h ⟨l.val - 64, by omega⟩
  · exact (k_apply x w b p h k).trans (raw_of x w b p r n' _ _ hb hp (by show 1088 + n'.val = 2112 + (h.val * 128 + k.val); omega) (if_neg (by omega)))

theorem out_eq : val_main_v89 x w = arr x w := by
  funext y
  obtain ⟨r, n, rfl⟩ := Cert.Kernel3Ideal.Val.exists_ix2 y
  rw [arr_ix]
  pointwise [val_main_v89, val_main_v88, val_main_v87]
  by_cases g : n.val / 128 < 8
  · rw [dif_pos g]
    exact q_rot x w _ _ _ _ r n rfl rfl rfl rfl
  · rw [dif_neg g]
    exact k_rot x w _ _ _ _ r n rfl rfl (by show n.val / 128 = n.val / 128 - 8 + 8; omega) rfl

end Cert.Reference8Ideal.Val
end
-- ==== Proof.LatentKv.lean ====
/- The latent attention's keys and values: a normed row of the latent times a column of the weights, the keys of all heads and then the values. -/
module

public import proofs.«01_k».proof.Proof.Gen.Kernel9
public import proofs.«01_k».proof.Proof.Gen.Kernel9Ideal.Value
public import proofs.«01_k».proof.Proof.Gen.Reference9Ideal.Read
public import proofs.«01_k».proof.Proof.Gen.Reference9Ideal.Run
public import proofs.«01_k».proof.Proof.Query

@[expose] public section

set_option maxRecDepth 16384

noncomputable section

namespace Cert.Rms

open Idealize.ShloMosaic

/-- The root-mean-square norm of a row `z` with gain `g`. -/
def rms (z g : Fin 512 → EReal) (d : Fin 512) : EReal :=
  z d * Ideal.rsqrt (Ideal.div (∑ k, z k * z k) (Ideal.ofBits .f32 0x44000000#32) + Ideal.ofBits .f32 0x358637BD#32) * g d

end Cert.Rms
namespace Cert.Kernel9Ideal.Val

open Idealize.ShloMosaic Idealize.ShloMosaic.TcCoe
open Idealize.ShloMosaic.Pipeline
open Cert.Kernel9Ideal Cert.Kernel9Ideal.Gen
open Cert.Kernel3Ideal.Val (ix_of exists_ix2)
open Cert.Rms

/-- The column of the weights behind a result's column. -/
def col (n : Fin 2048) : Fin 2048 := ⟨n.val % 1024 / 128 * 256 + n.val / 1024 * 128 + n.val % 128, by have h := n.isLt; omega⟩

/-- The result at a row and a column. -/
def res (x : S2x4096x512.Idx → EReal) (g : S512.Idx → EReal) (w : S512x2048.Idx → EReal) (r : Fin 8192) (n : Fin 2048) : EReal :=
  (∑ d : Fin 512, rms (fun k => x (ix3 ⟨r.val / 4096, by omega⟩ ⟨r.val % 4096, by omega⟩ k)) (fun k => g (ix1 k)) d * w (ix2 d (col n)))

/-- The result as one array. -/
def arr (x : S2x4096x512.Idx → EReal) (g : S512.Idx → EReal) (w : S512x2048.Idx → EReal) : S8192x2048.Idx → EReal := fun y => res x g w (y 0) (y 1)

theorem arr_ix (x : S2x4096x512.Idx → EReal) (g : S512.Idx → EReal) (w : S512x2048.Idx → EReal) (r : Fin 8192) (n : Fin 2048) : arr x g w (ix2 r n) = res x g w r n := rfl

theorem block_apply (a : Vec Ideal S1024x512 .f32) (b : Vec Ideal S512x1024 .bf16) (g : Vec Ideal S1x512 .f32) (i j : Fin 1024) :
    out0_3 a b g (ix2 i j) = (∑ d : Fin 512, rms (fun k => a (ix2 i k)) (fun k => g (ix2 0 k)) d * b (ix2 d j)) := by
  unfold out0_3 rms
  frame_out
  pointwise [k0_pay1]

variable (m : (ℓ : Loc nD τ sig) → Buf (Elt Ideal) ℓ) (c : Dev nD)

/-- What a device is given. -/
def argX : S2x4096x512.Idx → EReal := m ((c.tc : Thread nD τ).loc main_arg0)
@[inherit_doc argX] def argG : S512.Idx → EReal := m ((c.tc : Thread nD τ).loc main_arg1)
@[inherit_doc argX] def argW : S512x2048.Idx → EReal := m ((c.tc : Thread nD τ).loc main_arg2)

theorem V_x : V m c main_v6 = (shapeCast S8192x512 (argX m c) shapeCasts_S2x4096x512_S8192x512 : FVec Ideal S8192x512 .f32) := by
  unfold V
  after_results
  rfl

theorem V_w : V m c main_v7 = (truncf .bf16 (concatenate S512x2048 1
      [⟨S512x1024, shapeCast S512x1024 (extractStridedSlice S512x8x128 ![0, 0, 0] (shapeCast S512x8x256 (argW m c) shapeCasts_S512x2048_S512x8x256 : FVec Ideal S512x8x256 .f32) slices_S512x8x256_S512x8x128_0_0_0) shapeCasts_S512x8x128_S512x1024⟩,
       ⟨S512x1024, shapeCast S512x1024 (extractStridedSlice S512x8x128 ![0, 0, 128] (shapeCast S512x8x256 (argW m c) shapeCasts_S512x2048_S512x8x256 : FVec Ideal S512x8x256 .f32) slices_S512x8x256_S512x8x128_0_0_128) shapeCasts_S512x8x128_S512x1024⟩]
      concatenates_S512x1024_S512x1024_S512x2048_d1 : FVec Ideal S512x2048 .f32) bitsLt_bf16_f32 : FVec Ideal S512x2048 .bf16) := by
  unfold V
  after_results
  rfl

theorem V_g : V m c main_v8 = (shapeCast S1x512 (argG m c) shapeCasts_S512_S1x512 : FVec Ideal S1x512 .f32) := by
  unfold V
  after_results
  rfl

theorem V_x_apply (r : Fin 8192) (n : Fin 512) :
    (V m c main_v6 : S8192x512.Idx → EReal) (ix2 r n) = argX m c (ix3 ⟨r.val / 4096, by omega⟩ ⟨r.val % 4096, by omega⟩ n) := by
  rw [V_x]
  pointwise

theorem V_w_apply (i : Fin 512) (n : Fin 2048) : (V m c main_v7 : S512x2048.Idx → EReal) (ix2 i n) = argW m c (ix2 i (col n)) := by
  rw [V_w]
  unfold col
  pointwise
  have hn : n.val < 2048 := n.isLt
  by_cases h : n.val < 1024
  · rw [dif_pos h]
    exact congrArg (fun k => argW m c (ix2 i k)) (Fin.ext (by show n.val / 128 * 256 + n.val % 128 = n.val % 1024 / 128 * 256 + n.val / 1024 * 128 + n.val % 128; omega))
  · rw [dif_neg h]
    exact congrArg (fun k => argW m c (ix2 i k)) (Fin.ext (by show (n.val - 1024) / 128 * 256 + (128 + (n.val - 1024) % 128) = n.val % 1024 / 128 * 256 + n.val / 1024 * 128 + n.val % 128; omega))

theorem V_g_apply (n : Fin 512) : (V m c main_v8 : S1x512.Idx → EReal) (ix2 0 n) = argG m c (ix1 n) := by
  rw [V_g]
  pointwise

theorem index_x : ∀ t : Fin grid0.N, win0_0.index t = ![(grid0.coords t 0).val, 0] := by decide +kernel
theorem index_w : ∀ t : Fin grid0.N, win0_1.index t = ![0, (grid0.coords t 1).val] := by decide +kernel
theorem index_g : ∀ t : Fin grid0.N, win0_2.index t = ![0, 0] := by decide +kernel
theorem index_o : ∀ t : Fin grid0.N, win0_3.index t = ![(grid0.coords t 0).val, (grid0.coords t 1).val] := by decide +kernel

theorem row_x (t : Fin grid0.N) (y : S1024x512.Idx) (a : Fin 2) :
    ((win0_0.blk t).view.emb y a : ℕ) = ![(grid0.coords t 0).val, 0] a * ![1024, 512] a + (y a).val := (win0_0.rect_emb_val t y a).trans (by rw [index_x])

theorem row_w (t : Fin grid0.N) (y : S512x1024.Idx) (a : Fin 2) :
    ((win0_1.blk t).view.emb y a : ℕ) = ![0, (grid0.coords t 1).val] a * ![512, 1024] a + (y a).val := (win0_1.rect_emb_val t y a).trans (by rw [index_w])

theorem row_g (t : Fin grid0.N) (y : S1x512.Idx) (a : Fin 2) :
    ((win0_2.blk t).view.emb y a : ℕ) = ![0, 0] a * ![1, 512] a + (y a).val := (win0_2.rect_emb_val t y a).trans (by rw [index_g])

theorem row_o (t : Fin grid0.N) (y : S1024x1024.Idx) (a : Fin 2) :
    ((win0_3.blk t).view.emb y a : ℕ) = ![(grid0.coords t 0).val, (grid0.coords t 1).val] a * ![1024, 1024] a + (y a).val := (win0_3.rect_emb_val t y a).trans (by rw [index_o])

theorem lt0 (t : Fin grid0.N) : (grid0.coords t 0).val < 8 := (grid0.coords t 0).isLt
theorem lt1 (t : Fin grid0.N) : (grid0.coords t 1).val < 2 := (grid0.coords t 1).isLt

theorem iblk_x (t : Fin grid0.N) (i : Fin 1024) (d : Fin 512) (r : Fin 8192) (hr : r.val = (grid0.coords t 0).val * 1024 + i.val) :
    (iblk m c 0 t : S1024x512.Idx → EReal) (ix2 i d) = argX m c (ix3 ⟨r.val / 4096, by omega⟩ ⟨r.val % 4096, by omega⟩ d) := by
  refine Eq.trans ?_ (V_x_apply m c r d)
  refine congrArg (V m c main_v6 : S8192x512.Idx → EReal) (ix_of _ r d ?_ ?_)
  · exact (row_x t (ix2 i d) 0).trans hr.symm
  · exact (row_x t (ix2 i d) 1).trans (by show 0 * 512 + d.val = _; omega)

theorem iblk_w (t : Fin grid0.N) (d : Fin 512) (j : Fin 1024) (n : Fin 2048) (hn : n.val = (grid0.coords t 1).val * 1024 + j.val) :
    (iblk m c 1 t : S512x1024.Idx → EReal) (ix2 d j) = argW m c (ix2 d (col n)) := by
  refine Eq.trans ?_ (V_w_apply m c d n)
  refine congrArg (V m c main_v7 : S512x2048.Idx → EReal) (ix_of _ d n ?_ ?_)
  · exact (row_w t (ix2 d j) 0).trans (by show 0 * 512 + d.val = _; omega)
  · exact (row_w t (ix2 d j) 1).trans hn.symm

theorem iblk_g (t : Fin grid0.N) (d : Fin 512) : (iblk m c 2 t : S1x512.Idx → EReal) (ix2 0 d) = argG m c (ix1 d) := by
  refine Eq.trans ?_ (V_g_apply m c d)
  refine congrArg (V m c main_v8 : S1x512.Idx → EReal) (ix_of _ 0 d ?_ ?_)
  · exact (row_g t (ix2 0 d) 0).trans (by show 0 * 1 + 0 = 0; omega)
  · exact (row_g t (ix2 0 d) 1).trans (by show 0 * 512 + d.val = _; omega)

theorem sum_eq (t : Fin grid0.N) (i j : Fin 1024) (r : Fin 8192) (n : Fin 2048) (hr : r.val = (grid0.coords t 0).val * 1024 + i.val) (hn : n.val = (grid0.coords t 1).val * 1024 + j.val) :
    (∑ d : Fin 512, rms (fun k => (iblk m c 0 t : S1024x512.Idx → EReal) (ix2 i k)) (fun k => (iblk m c 2 t : S1x512.Idx → EReal) (ix2 0 k)) d * (iblk m c 1 t : S512x1024.Idx → EReal) (ix2 d j))
      = ∑ d : Fin 512, rms (fun k => argX m c (ix3 ⟨r.val / 4096, by omega⟩ ⟨r.val % 4096, by omega⟩ k)) (fun k => argG m c (ix1 k)) d * argW m c (ix2 d (col n)) := by
  refine Finset.sum_congr rfl fun d _ => congrArg₂ (· * ·) ?_ (iblk_w m c t d j n hn)
  exact congrArg₂ (fun z g => rms z g d) (funext fun k => iblk_x m c t i k r hr) (funext fun k => iblk_g m c t k)

/-- The kernel's result. -/
theorem result_eq : (dats m 0 c).arrAt 3 cfg0.N = arr (argX m c) (argG m c) (argW m c) := by
  refine (dats m 0 c).arrAt_eq_of_covers 3 (arr (argX m c) (argG m c) (argW m c)) (by decide +kernel) fun t hf y => ?_
  obtain ⟨i, j, rfl⟩ := exists_ix2 y
  blk_simp
  rw [after0_3]
  refine (block_apply _ _ _ i j).trans ?_
  have h0 := lt0 t
  have h1 := lt1 t
  have e : (win0_3.blk t).view.emb (ix2 i j) = ix2 (⟨(grid0.coords t 0).val * 1024 + i.val, by omega⟩ : Fin 8192) (⟨(grid0.coords t 1).val * 1024 + j.val, by omega⟩ : Fin 2048) :=
    ix_of _ _ _ (row_o t (ix2 i j) 0) (row_o t (ix2 i j) 1)
  rw [e, arr_ix]
  exact sum_eq m c t i j _ _ rfl rfl

end Cert.Kernel9Ideal.Val

namespace Cert.Reference9Ideal.Val

open Idealize.ShloMosaic Idealize.ShloMosaic.TcCoe
open Cert.Reference9Ideal Cert.Reference9Ideal.Read
open Cert.Kernel9Ideal.Val (arr arr_ix res col)
open Cert.Rms

variable (x : Vec Ideal S2x4096x512 .f32) (g : Vec Ideal S512 .f32) (w : Vec Ideal S512x2048 .f32)

theorem prod_eq (b : Fin 2) (p : Fin 4096) (k : Fin 2048) : val_main_v13 x g w (ix3 b p k)
      = ∑ d : Fin 512, rms (fun k => x (ix3 b p k)) (fun k => g (ix1 k)) d * w (ix2 d k) := by
  unfold rms
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]

/-- The reference is the same. -/
theorem out_eq : val_main_v20 x g w = arr x g w := by
  funext y
  obtain ⟨r, n, rfl⟩ := Cert.Kernel3Ideal.Val.exists_ix2 y
  rw [arr_ix]
  pointwise [val_main_v20, val_main_v19, val_main_v18, val_main_v17, val_main_v16, val_main_v15, val_main_v14]
  have hn : n.val < 2048 := n.isLt
  by_cases h : n.val < 1024
  · rw [dif_pos h]
    exact (congrArg (fun k => val_main_v13 x g w (ix3 (⟨r.val / 4096, by omega⟩ : Fin 2) (⟨r.val % 4096, by omega⟩ : Fin 4096) k)) (Fin.ext (by show n.val / 128 * 256 + n.val % 128 = n.val % 1024 / 128 * 256 + n.val / 1024 * 128 + n.val % 128; omega))).trans (prod_eq x g w _ _ (col n))
  · rw [dif_neg h]
    exact (congrArg (fun k => val_main_v13 x g w (ix3 (⟨r.val / 4096, by omega⟩ : Fin 2) (⟨r.val % 4096, by omega⟩ : Fin 4096) k)) (Fin.ext (by show (n.val - 1024) / 128 * 256 + (128 + (n.val - 1024) % 128) = n.val % 1024 / 128 * 256 + n.val / 1024 * 128 + n.val % 128; omega))).trans (prod_eq x g w _ _ (col n))

end Cert.Reference9Ideal.Val
end
-- ==== Proof.LatentQ.lean ====
/- The latent attention's queries that are not rotated: a normed row of the latent times a column of the weights, scaled. -/
module

public import proofs.«01_k».proof.Proof.Gen.Kernel10
public import proofs.«01_k».proof.Proof.Gen.Kernel10Ideal.Value
public import proofs.«01_k».proof.Proof.Gen.Reference10Ideal.Read
public import proofs.«01_k».proof.Proof.Gen.Reference10Ideal.Run
public import proofs.«01_k».proof.Proof.Query
public import proofs.«01_k».proof.Proof.LatentKv

@[expose] public section

set_option maxRecDepth 16384

noncomputable section

namespace Cert.Kernel10Ideal.Val

open Idealize.ShloMosaic Idealize.ShloMosaic.TcCoe
open Idealize.ShloMosaic.Pipeline
open Cert.Kernel10Ideal Cert.Kernel10Ideal.Gen
open Cert.Kernel3Ideal.Val (ix_of exists_ix2)
open Cert.Rms

/-- The column of the weights behind a result's column. -/
def col (n : Fin 1024) : Fin 1536 := ⟨n.val / 128 * 192 + n.val % 128, by have h := n.isLt; omega⟩

/-- The result at a row and a column. -/
def res (x : S2x4096x512.Idx → EReal) (g : S512.Idx → EReal) (w : S512x1536.Idx → EReal) (r : Fin 8192) (n : Fin 1024) : EReal :=
  (∑ d : Fin 512, rms (fun k => x (ix3 ⟨r.val / 4096, by omega⟩ ⟨r.val % 4096, by omega⟩ k)) (fun k => g (ix1 k)) d * w (ix2 d (col n))) * Ideal.ofBits .f32 0x3DD53B95#32

/-- The result as one array. -/
def arr (x : S2x4096x512.Idx → EReal) (g : S512.Idx → EReal) (w : S512x1536.Idx → EReal) : S8192x1024.Idx → EReal := fun y => res x g w (y 0) (y 1)

theorem arr_ix (x : S2x4096x512.Idx → EReal) (g : S512.Idx → EReal) (w : S512x1536.Idx → EReal) (r : Fin 8192) (n : Fin 1024) : arr x g w (ix2 r n) = res x g w r n := rfl

theorem block_apply (a : Vec Ideal S1024x512 .f32) (b : Vec Ideal S512x1024 .bf16) (g : Vec Ideal S1x512 .f32) (s : Vec Ideal S1x1024 .f32) (i j : Fin 1024) :
    out0_4 a b g s (ix2 i j) = (∑ d : Fin 512, rms (fun k => a (ix2 i k)) (fun k => g (ix2 0 k)) d * b (ix2 d j)) * s (ix2 0 j) := by
  unfold out0_4 rms
  frame_out
  pointwise [k0_pay1]

variable (m : (ℓ : Loc nD τ sig) → Buf (Elt Ideal) ℓ) (c : Dev nD)

/-- What a device is given. -/
def argX : S2x4096x512.Idx → EReal := m ((c.tc : Thread nD τ).loc main_arg0)
@[inherit_doc argX] def argG : S512.Idx → EReal := m ((c.tc : Thread nD τ).loc main_arg1)
@[inherit_doc argX] def argW : S512x1536.Idx → EReal := m ((c.tc : Thread nD τ).loc main_arg2)

theorem V_x : V m c main_v5 = (shapeCast S8192x512 (argX m c) shapeCasts_S2x4096x512_S8192x512 : FVec Ideal S8192x512 .f32) := by
  unfold V
  after_results
  rfl

theorem V_w : V m c main_v3 = (truncf .bf16 (shapeCast S512x1024 (extractStridedSlice S512x8x128 ![0, 0, 0] (shapeCast S512x8x192 (argW m c) shapeCasts_S512x1536_S512x8x192 : FVec Ideal S512x8x192 .f32) slices_S512x8x192_S512x8x128_0_0_0) shapeCasts_S512x8x128_S512x1024 : FVec Ideal S512x1024 .f32) bitsLt_bf16_f32 : FVec Ideal S512x1024 .bf16) := by
  unfold V
  after_results
  rfl

theorem V_g : V m c main_v6 = (shapeCast S1x512 (argG m c) shapeCasts_S512_S1x512 : FVec Ideal S1x512 .f32) := by
  unfold V
  after_results
  rfl

theorem V_x_apply (r : Fin 8192) (n : Fin 512) :
    (V m c main_v5 : S8192x512.Idx → EReal) (ix2 r n) = argX m c (ix3 ⟨r.val / 4096, by omega⟩ ⟨r.val % 4096, by omega⟩ n) := by
  rw [V_x]
  pointwise

theorem V_w_apply (i : Fin 512) (n : Fin 1024) : (V m c main_v3 : S512x1024.Idx → EReal) (ix2 i n) = argW m c (ix2 i (col n)) := by
  rw [V_w]
  unfold col
  pointwise

theorem V_g_apply (n : Fin 512) : (V m c main_v6 : S1x512.Idx → EReal) (ix2 0 n) = argG m c (ix1 n) := by
  rw [V_g]
  pointwise

theorem index_x : ∀ t : Fin grid0.N, win0_0.index t = ![(grid0.coords t 0).val, 0] := by decide +kernel
theorem index_w : ∀ t : Fin grid0.N, win0_1.index t = ![0, (grid0.coords t 1).val] := by decide +kernel
theorem index_g : ∀ t : Fin grid0.N, win0_2.index t = ![0, 0] := by decide +kernel
theorem index_o : ∀ t : Fin grid0.N, win0_4.index t = ![(grid0.coords t 0).val, (grid0.coords t 1).val] := by decide +kernel

theorem row_x (t : Fin grid0.N) (y : S1024x512.Idx) (a : Fin 2) :
    ((win0_0.blk t).view.emb y a : ℕ) = ![(grid0.coords t 0).val, 0] a * ![1024, 512] a + (y a).val := (win0_0.rect_emb_val t y a).trans (by rw [index_x])

theorem row_w (t : Fin grid0.N) (y : S512x1024.Idx) (a : Fin 2) :
    ((win0_1.blk t).view.emb y a : ℕ) = ![0, (grid0.coords t 1).val] a * ![512, 1024] a + (y a).val := (win0_1.rect_emb_val t y a).trans (by rw [index_w])

theorem row_g (t : Fin grid0.N) (y : S1x512.Idx) (a : Fin 2) :
    ((win0_2.blk t).view.emb y a : ℕ) = ![0, 0] a * ![1, 512] a + (y a).val := (win0_2.rect_emb_val t y a).trans (by rw [index_g])

theorem row_o (t : Fin grid0.N) (y : S1024x1024.Idx) (a : Fin 2) :
    ((win0_4.blk t).view.emb y a : ℕ) = ![(grid0.coords t 0).val, (grid0.coords t 1).val] a * ![1024, 1024] a + (y a).val := (win0_4.rect_emb_val t y a).trans (by rw [index_o])

theorem lt0 (t : Fin grid0.N) : (grid0.coords t 0).val < 8 := (grid0.coords t 0).isLt
theorem lt1 (t : Fin grid0.N) : (grid0.coords t 1).val < 1 := (grid0.coords t 1).isLt

theorem iblk_x (t : Fin grid0.N) (i : Fin 1024) (d : Fin 512) (r : Fin 8192) (hr : r.val = (grid0.coords t 0).val * 1024 + i.val) :
    (iblk m c 0 t : S1024x512.Idx → EReal) (ix2 i d) = argX m c (ix3 ⟨r.val / 4096, by omega⟩ ⟨r.val % 4096, by omega⟩ d) := by
  refine Eq.trans ?_ (V_x_apply m c r d)
  refine congrArg (V m c main_v5 : S8192x512.Idx → EReal) (ix_of _ r d ?_ ?_)
  · exact (row_x t (ix2 i d) 0).trans hr.symm
  · exact (row_x t (ix2 i d) 1).trans (by show 0 * 512 + d.val = _; omega)

theorem iblk_w (t : Fin grid0.N) (d : Fin 512) (j : Fin 1024) (n : Fin 1024) (hn : n.val = (grid0.coords t 1).val * 1024 + j.val) :
    (iblk m c 1 t : S512x1024.Idx → EReal) (ix2 d j) = argW m c (ix2 d (col n)) := by
  refine Eq.trans ?_ (V_w_apply m c d n)
  refine congrArg (V m c main_v3 : S512x1024.Idx → EReal) (ix_of _ d n ?_ ?_)
  · exact (row_w t (ix2 d j) 0).trans (by show 0 * 512 + d.val = _; omega)
  · exact (row_w t (ix2 d j) 1).trans hn.symm

theorem iblk_g (t : Fin grid0.N) (d : Fin 512) : (iblk m c 2 t : S1x512.Idx → EReal) (ix2 0 d) = argG m c (ix1 d) := by
  refine Eq.trans ?_ (V_g_apply m c d)
  refine congrArg (V m c main_v6 : S1x512.Idx → EReal) (ix_of _ 0 d ?_ ?_)
  · exact (row_g t (ix2 0 d) 0).trans (by show 0 * 1 + 0 = 0; omega)
  · exact (row_g t (ix2 0 d) 1).trans (by show 0 * 512 + d.val = _; omega)

theorem V_s : V m c main_v7 = (shapeCast S1x1024 (broadcastInDim S1024 ![] bcast_S_S1024 (constant (F := Ideal) S_ .f32 0x3DD53B95#32) : FVec Ideal S1024 .f32) shapeCasts_S1024_S1x1024 : FVec Ideal S1x1024 .f32) := by
  unfold V
  after_results
  rfl

theorem iblk_s (t : Fin grid0.N) (j : Fin 1024) : (iblk m c 3 t : S1x1024.Idx → EReal) (ix2 0 j) = Ideal.ofBits .f32 0x3DD53B95#32 := by
  show (V m c main_v7 : S1x1024.Idx → EReal) ((win0_3.blk t).view.emb (ix2 0 j)) = _
  rw [V_s]
  rfl

theorem sum_eq (t : Fin grid0.N) (i j : Fin 1024) (r : Fin 8192) (n : Fin 1024) (hr : r.val = (grid0.coords t 0).val * 1024 + i.val) (hn : n.val = (grid0.coords t 1).val * 1024 + j.val) :
    (∑ d : Fin 512, rms (fun k => (iblk m c 0 t : S1024x512.Idx → EReal) (ix2 i k)) (fun k => (iblk m c 2 t : S1x512.Idx → EReal) (ix2 0 k)) d * (iblk m c 1 t : S512x1024.Idx → EReal) (ix2 d j))
      = ∑ d : Fin 512, rms (fun k => argX m c (ix3 ⟨r.val / 4096, by omega⟩ ⟨r.val % 4096, by omega⟩ k)) (fun k => argG m c (ix1 k)) d * argW m c (ix2 d (col n)) := by
  refine Finset.sum_congr rfl fun d _ => congrArg₂ (· * ·) ?_ (iblk_w m c t d j n hn)
  exact congrArg₂ (fun z g => rms z g d) (funext fun k => iblk_x m c t i k r hr) (funext fun k => iblk_g m c t k)

/-- The kernel's result. -/
theorem result_eq : (dats m 0 c).arrAt 4 cfg0.N = arr (argX m c) (argG m c) (argW m c) := by
  refine (dats m 0 c).arrAt_eq_of_covers 4 (arr (argX m c) (argG m c) (argW m c)) (by decide +kernel) fun t hf y => ?_
  obtain ⟨i, j, rfl⟩ := exists_ix2 y
  blk_simp
  rw [after0_4]
  refine (block_apply _ _ _ _ i j).trans ?_
  have h0 := lt0 t
  have h1 := lt1 t
  have e : (win0_4.blk t).view.emb (ix2 i j) = ix2 (⟨(grid0.coords t 0).val * 1024 + i.val, by omega⟩ : Fin 8192) (⟨(grid0.coords t 1).val * 1024 + j.val, by omega⟩ : Fin 1024) :=
    ix_of _ _ _ (row_o t (ix2 i j) 0) (row_o t (ix2 i j) 1)
  rw [e, arr_ix]
  exact congrArg₂ (· * ·) (sum_eq m c t i j _ _ rfl rfl) (iblk_s m c t j)

end Cert.Kernel10Ideal.Val

namespace Cert.Reference10Ideal.Val

open Idealize.ShloMosaic Idealize.ShloMosaic.TcCoe
open Cert.Reference10Ideal Cert.Reference10Ideal.Read
open Cert.Kernel10Ideal.Val (arr arr_ix res col)
open Cert.Rms

variable (x : Vec Ideal S2x4096x512 .f32) (g : Vec Ideal S512 .f32) (w : Vec Ideal S512x1536 .f32)

theorem prod_eq (b : Fin 2) (p : Fin 4096) (k : Fin 1536) : val_main_v13 x g w (ix3 b p k)
      = ∑ d : Fin 512, rms (fun k => x (ix3 b p k)) (fun k => g (ix1 k)) d * w (ix2 d k) := by
  unfold rms
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]

/-- The reference is the same. -/
theorem out_eq : val_main_v19 x g w = arr x g w := by
  funext y
  obtain ⟨r, n, rfl⟩ := Cert.Kernel3Ideal.Val.exists_ix2 y
  rw [arr_ix]
  pointwise [val_main_v19, val_main_v18, val_main_v17, val_main_v16, val_main_cst_2, val_main_v15, val_main_v14]
  exact congrArg (· * Ideal.ofBits .f32 0x3DD53B95#32) (prod_eq x g w _ _ (col n))

end Cert.Reference10Ideal.Val
end
-- ==== Proof.LatKpe.lean ====
/- The rotated keys that the latent attention's heads share: a row times a column of the weights, the 64 columns rotated by the row's position, 64 columns of zeros. -/
module

public import proofs.«01_k».proof.Proof.Gen.Kernel12
public import proofs.«01_k».proof.Proof.Gen.Kernel12Ideal.Value
public import proofs.«01_k».proof.Proof.Gen.Reference12Ideal.Read
public import proofs.«01_k».proof.Proof.Gen.Reference12Ideal.Run
public import proofs.«01_k».proof.Proof.Query

@[expose] public section

set_option maxRecDepth 16384

noncomputable section

namespace Cert.Rot64

open Idealize.ShloMosaic

/-- The tables of a position: its cosines for both halves, its negated sines for the first, its sines for the second, zeros beyond. -/
def t0 (c : Fin 32 → EReal) (l : Fin 128) : EReal :=
  if h : l.val < 32 then c ⟨l.val, h⟩ else if h' : l.val < 64 then c ⟨l.val - 32, by omega⟩ else 0
@[inherit_doc t0] def t1 (s : Fin 32 → EReal) (l : Fin 128) : EReal := if h : l.val < 32 then -s ⟨l.val, h⟩ else 0
@[inherit_doc t0] def t2 (s : Fin 32 → EReal) (l : Fin 128) : EReal :=
  if h : l.val < 32 then 0 else if h' : l.val < 64 then s ⟨l.val - 32, by omega⟩ else 0

/-- 64 columns rotated, and 64 zeros. -/
def rot (c s : Fin 32 → EReal) (A : Fin 128 → EReal) (l : Fin 128) : EReal :=
  if h : l.val < 32 then A ⟨l.val, by omega⟩ * c ⟨l.val, h⟩ - A ⟨32 + l.val, by omega⟩ * s ⟨l.val, h⟩
  else if h' : l.val < 64 then A ⟨32 + (l.val - 32), by omega⟩ * c ⟨l.val - 32, by omega⟩ + A ⟨l.val - 32, by omega⟩ * s ⟨l.val - 32, by omega⟩
  else 0

/-- The kernel's three products are the rotation. -/
theorem turn (c s : Fin 32 → EReal) (A : Fin 128 → EReal) (l : Fin 128) :
    A l * t0 c l + A ⟨(l.val + 128 - 96) % 128, by omega⟩ * t1 s l + A ⟨(l.val + 128 - 32) % 128, by omega⟩ * t2 s l = rot c s A l := by
  unfold t0 t1 t2 rot
  by_cases h : l.val < 32
  · rw [dif_pos h, dif_pos h, dif_pos h, dif_pos h, mul_zero, add_zero, mul_neg, sub_eq_add_neg]
    have e : (⟨(l.val + 128 - 96) % 128, by omega⟩ : Fin 128) = ⟨32 + l.val, by omega⟩ := Fin.ext (by show (l.val + 128 - 96) % 128 = 32 + l.val; omega)
    rw [e]
  · rw [dif_neg h, dif_neg h, dif_neg h, dif_neg h, mul_zero, add_zero]
    by_cases g : l.val < 64
    · rw [dif_pos g, dif_pos g, dif_pos g]
      have e : (⟨(l.val + 128 - 32) % 128, by omega⟩ : Fin 128) = ⟨l.val - 32, by omega⟩ := Fin.ext (by show (l.val + 128 - 32) % 128 = l.val - 32; omega)
      have e' : (⟨32 + (l.val - 32), by omega⟩ : Fin 128) = l := Fin.ext (by show 32 + (l.val - 32) = l.val; omega)
      rw [e, e']
    · rw [dif_neg g, dif_neg g, dif_neg g, mul_zero, mul_zero, add_zero]

/-- Only the first 64 columns count. -/
theorem rot_congr (c s : Fin 32 → EReal) (A B : Fin 128 → EReal) (l : Fin 128) (h : ∀ k : Fin 128, k.val < 64 → A k = B k) : rot c s A l = rot c s B l := by
  unfold rot
  split_ifs with h1 h2
  · rw [h ⟨l.val, by omega⟩ (by show l.val < 64; omega), h ⟨32 + l.val, by omega⟩ (by show 32 + l.val < 64; omega)]
  · rw [h ⟨32 + (l.val - 32), by omega⟩ (by show 32 + (l.val - 32) < 64; omega), h ⟨l.val - 32, by omega⟩ (by show l.val - 32 < 64; omega)]
  · rfl

theorem zero_row (b n : ℕ) : 0 * b + n = n := by omega

end Cert.Rot64

namespace Cert.Kernel12Ideal.Val

open Idealize.ShloMosaic Idealize.ShloMosaic.TcCoe
open Idealize.ShloMosaic.Pipeline
open Cert.Kernel12Ideal Cert.Kernel12Ideal.Gen
open Cert.Kernel3Ideal.Val (ix_of exists_ix2)
open Cert.Rot64

/-- A product. -/
def lin (a : S1024x2048.Idx → EReal) (b : S2048x128.Idx → EReal) (i : Fin 1024) (j : Fin 128) : EReal := ∑ e : Fin 2048, a (ix2 i e) * b (ix2 e j)

theorem block_apply (a : Vec Ideal S1024x2048 .bf16) (b : Vec Ideal S2048x128 .bf16) (c d e : Vec Ideal S1024x128 .f32) (i : Fin 1024) (l : Fin 128) :
    out0_5 a b c d e (ix2 i l) = lin a b i l * c (ix2 i l) + lin a b i ⟨(l.val + 128 - 96) % 128, by omega⟩ * d (ix2 i l) + lin a b i ⟨(l.val + 128 - 32) % 128, by omega⟩ * e (ix2 i l) := by
  unfold out0_5 lin
  frame_out
  pointwise [k0_pay1]

variable (m : (ℓ : Loc nD τ sig) → Buf (Elt Ideal) ℓ) (c : Dev nD)

/-- What a device is given. -/
def argX : S2x4096x2048.Idx → EReal := m ((c.tc : Thread nD τ).loc main_arg0)
@[inherit_doc argX] def argW : S2048x4160.Idx → EReal := m ((c.tc : Thread nD τ).loc main_arg1)

/-- The angle of each position and column of half a group. -/
def ang : FVec Ideal S4096x32 .f32 :=
  mulf (broadcastInDim S4096x32 ![0, 1] bcast_S4096x1_S4096x32_0_1 (broadcastInDim S4096x1 ![0] bcast_S4096_S4096x1_0 (sitofp .f32 (iotaInDim S4096 32 0))))
    (broadcastInDim S4096x32 ![0, 1] bcast_S1x32_S4096x32_0_1 (broadcastInDim S1x32 ![1] bcast_S32_S1x32_1
      (Host.powf (broadcastInDim S32 ![] bcast_S_S32 (constant S_ .f32 0x461C4000#32))
        (Host.divf (Host.negf (addf (broadcastInDim S32 ![] bcast_S_S32 (constant S_ .f32 0#32))
          (mulf (broadcastInDim S32 ![] bcast_S_S32 (constant S_ .f32 0x40000000#32)) (sitofp .f32 (iotaInDim S32 32 0)))))
          (broadcastInDim S32 ![] bcast_S_S32 (constant S_ .f32 0x42800000#32))))))

/-- Its cosine and its sine. -/
def cosT : S4096x32.Idx → EReal := (Host.cos ang : FVec Ideal S4096x32 .f32)
@[inherit_doc cosT] def sinT : S4096x32.Idx → EReal := (Host.sin ang : FVec Ideal S4096x32 .f32)

/-- The cosines and the sines of a position. -/
def cosP (p : Fin 4096) (k : Fin 32) : EReal := cosT (ix2 p k)
@[inherit_doc cosP] def sinP (p : Fin 4096) (k : Fin 32) : EReal := sinT (ix2 p k)

/-- The three tables as arrays. -/
def tab0 : FVec Ideal S4096x128 .f32 := concatenate S4096x128 1
  [⟨S4096x32, cosT⟩, ⟨S4096x32, cosT⟩, ⟨S4096x64, broadcastInDim S4096x64 ![] bcast_S_S4096x64 (constant (F := Ideal) S_ .f32 0#32)⟩] concatenates_S4096x32_S4096x32_S4096x64_S4096x128_d1
@[inherit_doc tab0] def tab1 : FVec Ideal S4096x128 .f32 := concatenate S4096x128 1
  [⟨S4096x32, Host.negf (sinT : FVec Ideal S4096x32 .f32)⟩, ⟨S4096x32, broadcastInDim S4096x32 ![] bcast_S_S4096x32 (constant (F := Ideal) S_ .f32 0#32)⟩,
   ⟨S4096x64, broadcastInDim S4096x64 ![] bcast_S_S4096x64 (constant (F := Ideal) S_ .f32 0#32)⟩] concatenates_S4096x32_S4096x32_S4096x64_S4096x128_d1
@[inherit_doc tab0] def tab2 : FVec Ideal S4096x128 .f32 := concatenate S4096x128 1
  [⟨S4096x32, broadcastInDim S4096x32 ![] bcast_S_S4096x32 (constant (F := Ideal) S_ .f32 0#32)⟩, ⟨S4096x32, sinT⟩,
   ⟨S4096x64, broadcastInDim S4096x64 ![] bcast_S_S4096x64 (constant (F := Ideal) S_ .f32 0#32)⟩] concatenates_S4096x32_S4096x32_S4096x64_S4096x128_d1

theorem tab0_apply (p : Fin 4096) (l : Fin 128) : (tab0 : S4096x128.Idx → EReal) (ix2 p l) = t0 (cosP p) l := by
  unfold tab0 t0 cosP
  pointwise
  split_ifs <;> first | omega | rfl | rw [dif_pos (show l.val < 64 by omega)]

theorem tab1_apply (p : Fin 4096) (l : Fin 128) : (tab1 : S4096x128.Idx → EReal) (ix2 p l) = t1 (sinP p) l := by
  unfold tab1 t1 sinP
  pointwise
  split_ifs <;> first | omega | rfl | rw [dif_pos (show l.val < 64 by omega)]

theorem tab2_apply (p : Fin 4096) (l : Fin 128) : (tab2 : S4096x128.Idx → EReal) (ix2 p l) = t2 (sinP p) l := by
  unfold tab2 t2 sinP
  pointwise
  split_ifs <;> first | omega | rfl | rw [dif_pos (show l.val < 64 by omega)]

/-- What the kernel reads of what the host makes. -/
theorem V_host :
    V m c main_v22 = tab0
    ∧ V m c main_v25 = tab1
    ∧ V m c main_v26 = tab2
    ∧ V m c main_v28 = (truncf .bf16 (shapeCast S8192x2048 (argX m c) shapeCasts_S2x4096x2048_S8192x2048 : FVec Ideal S8192x2048 .f32) bitsLt_bf16_f32 : FVec Ideal S8192x2048 .bf16)
    ∧ V m c main_v2 = (truncf .bf16 (pad S2048x128 ![0, 0] ![0, 64] ![0, 0] (extractStridedSlice S2048x64 ![0, 1024] (argW m c) slices_S2048x4160_S2048x64_0_1024)
        (sitofp .f32 (constantI S_ 32 0#32) : FVec Ideal S_ .f32) pads_S2048x64_S2048x128_000_0640 h_S_ : FVec Ideal S2048x128 .f32) bitsLt_bf16_f32 : FVec Ideal S2048x128 .bf16) := by
  refine ⟨?_, ?_, ?_, ?_, ?_⟩ <;>
    (unfold V; simp only [hostOps0, hostOps0_1, hostOps0_2, List.flatten_cons, List.flatten_nil, List.cons_append, List.nil_append, List.append_nil]; after_results; rfl)

theorem V_x_apply (r : Fin 8192) (n : Fin 2048) :
    (V m c main_v28 : S8192x2048.Idx → EReal) (ix2 r n) = argX m c (ix3 ⟨r.val / 4096, by omega⟩ ⟨r.val % 4096, by omega⟩ n) := by
  rw [(V_host m c).2.2.2.1]
  pointwise

theorem V_w_apply (i : Fin 2048) (n : Fin 128) (hn : n.val < 64) : (V m c main_v2 : S2048x128.Idx → EReal) (ix2 i n) = argW m c (ix2 i ⟨1024 + n.val, by omega⟩) := by
  rw [(V_host m c).2.2.2.2]
  pointwise
  rw [dif_pos (by omega)]

theorem index_x : ∀ t : Fin grid0.N, win0_0.index t = ![(grid0.coords t 0).val, 0] := by decide +kernel
theorem index_w : ∀ t : Fin grid0.N, win0_1.index t = ![0, 0] := by decide +kernel
theorem index_t0 : ∀ t : Fin grid0.N, win0_2.index t = ![(grid0.coords t 0).val % 4, 0] := by decide +kernel
theorem index_t1 : ∀ t : Fin grid0.N, win0_3.index t = ![(grid0.coords t 0).val % 4, 0] := by decide +kernel
theorem index_t2 : ∀ t : Fin grid0.N, win0_4.index t = ![(grid0.coords t 0).val % 4, 0] := by decide +kernel
theorem index_o : ∀ t : Fin grid0.N, win0_5.index t = ![(grid0.coords t 0).val, 0] := by decide +kernel

theorem lt0 (t : Fin grid0.N) : (grid0.coords t 0).val < 8 := (grid0.coords t 0).isLt

theorem iblk_x (t : Fin grid0.N) (i : Fin 1024) (d : Fin 2048) (r : Fin 8192) (hr : r.val = (grid0.coords t 0).val * 1024 + i.val) :
    (iblk m c 0 t : S1024x2048.Idx → EReal) (ix2 i d) = argX m c (ix3 ⟨r.val / 4096, by omega⟩ ⟨r.val % 4096, by omega⟩ d) := by
  refine Eq.trans ?_ (V_x_apply m c r d)
  refine congrArg (V m c main_v28 : S8192x2048.Idx → EReal) (ix_of _ r d ?_ ?_)
  · exact (win0_0.rect_emb_val t _ 0).trans (by rw [index_x]; exact hr.symm)
  · exact (win0_0.rect_emb_val t _ 1).trans (by rw [index_x]; exact zero_row _ _)

theorem iblk_w (t : Fin grid0.N) (d : Fin 2048) (n : Fin 128) (hn : n.val < 64) :
    (iblk m c 1 t : S2048x128.Idx → EReal) (ix2 d n) = argW m c (ix2 d ⟨1024 + n.val, by omega⟩) := by
  refine Eq.trans ?_ (V_w_apply m c d n hn)
  refine congrArg (V m c main_v2 : S2048x128.Idx → EReal) (ix_of _ d n ?_ ?_)
  · exact (win0_1.rect_emb_val t _ 0).trans (by rw [index_w]; exact zero_row _ _)
  · exact (win0_1.rect_emb_val t _ 1).trans (by rw [index_w]; exact zero_row _ _)

theorem iblk_t0 (t : Fin grid0.N) (i : Fin 1024) (l : Fin 128) (p : Fin 4096) (hp : p.val = (grid0.coords t 0).val % 4 * 1024 + i.val) :
    (iblk m c 2 t : S1024x128.Idx → EReal) (ix2 i l) = t0 (cosP p) l := by
  refine Eq.trans ?_ (tab0_apply p l)
  rw [← (V_host m c).1]
  refine congrArg (V m c main_v22 : S4096x128.Idx → EReal) (ix_of _ p l ?_ ?_)
  · exact (win0_2.rect_emb_val t _ 0).trans (by rw [index_t0]; exact hp.symm)
  · exact (win0_2.rect_emb_val t _ 1).trans (by rw [index_t0]; exact zero_row _ _)

theorem iblk_t1 (t : Fin grid0.N) (i : Fin 1024) (l : Fin 128) (p : Fin 4096) (hp : p.val = (grid0.coords t 0).val % 4 * 1024 + i.val) :
    (iblk m c 3 t : S1024x128.Idx → EReal) (ix2 i l) = t1 (sinP p) l := by
  refine Eq.trans ?_ (tab1_apply p l)
  rw [← (V_host m c).2.1]
  refine congrArg (V m c main_v25 : S4096x128.Idx → EReal) (ix_of _ p l ?_ ?_)
  · exact (win0_3.rect_emb_val t _ 0).trans (by rw [index_t1]; exact hp.symm)
  · exact (win0_3.rect_emb_val t _ 1).trans (by rw [index_t1]; exact zero_row _ _)

theorem iblk_t2 (t : Fin grid0.N) (i : Fin 1024) (l : Fin 128) (p : Fin 4096) (hp : p.val = (grid0.coords t 0).val % 4 * 1024 + i.val) :
    (iblk m c 4 t : S1024x128.Idx → EReal) (ix2 i l) = t2 (sinP p) l := by
  refine Eq.trans ?_ (tab2_apply p l)
  rw [← (V_host m c).2.2.1]
  refine congrArg (V m c main_v26 : S4096x128.Idx → EReal) (ix_of _ p l ?_ ?_)
  · exact (win0_4.rect_emb_val t _ 0).trans (by rw [index_t2]; exact hp.symm)
  · exact (win0_4.rect_emb_val t _ 1).trans (by rw [index_t2]; exact zero_row _ _)

/-- The projection before the rotation; beyond its 64 columns the number does not count. -/
def raw (x : S2x4096x2048.Idx → EReal) (w : S2048x4160.Idx → EReal) (r : Fin 8192) (n : Fin 128) : EReal :=
  ∑ d : Fin 2048, x (ix3 ⟨r.val / 4096, by omega⟩ ⟨r.val % 4096, by omega⟩ d) * w (ix2 d ⟨1024 + n.val, by omega⟩)

/-- The rotated keys at a row and a column. -/
def res (x : S2x4096x2048.Idx → EReal) (w : S2048x4160.Idx → EReal) (r : Fin 8192) (n : Fin 128) : EReal :=
  rot (cosP ⟨r.val % 4096, by omega⟩) (sinP ⟨r.val % 4096, by omega⟩) (raw x w r) n

/-- The rotated keys as one array. -/
def arr (x : S2x4096x2048.Idx → EReal) (w : S2048x4160.Idx → EReal) : S8192x128.Idx → EReal := fun y => res x w ⟨(y 0).val, (y 0).isLt⟩ ⟨(y 1).val, (y 1).isLt⟩

theorem arr_ix (x : S2x4096x2048.Idx → EReal) (w : S2048x4160.Idx → EReal) (r : Fin 8192) (n : Fin 128) : arr x w (ix2 r n) = res x w r n := rfl

theorem lin_eq (t : Fin grid0.N) (i : Fin 1024) (r : Fin 8192) (n : Fin 128) (hr : r.val = (grid0.coords t 0).val * 1024 + i.val) (hn : n.val < 64) :
    lin (iblk m c 0 t) (iblk m c 1 t) i n = raw (argX m c) (argW m c) r n :=
  Finset.sum_congr rfl fun d _ => congrArg₂ (· * ·) (iblk_x m c t i d r hr) (iblk_w m c t d n hn)

/-- The kernel's result. -/
theorem result_eq : (dats m 0 c).arrAt 5 cfg0.N = arr (argX m c) (argW m c) := by
  refine (dats m 0 c).arrAt_eq_of_covers 5 (arr (argX m c) (argW m c)) (by decide +kernel) fun t hf y => ?_
  obtain ⟨i, l, rfl⟩ := exists_ix2 y
  blk_simp
  rw [after0_5]
  refine (block_apply _ _ _ _ _ i l).trans ?_
  have h0 := lt0 t
  have e : (win0_5.blk t).view.emb (ix2 i l) = ix2 (⟨(grid0.coords t 0).val * 1024 + i.val, by omega⟩ : Fin 8192) l := by
    refine ix_of _ _ _ ?_ ?_
    · exact (win0_5.rect_emb_val t _ 0).trans (by rw [index_o]; rfl)
    · exact (win0_5.rect_emb_val t _ 1).trans (by rw [index_o]; exact zero_row _ _)
  rw [e, arr_ix]
  have hp : (⟨((grid0.coords t 0).val * 1024 + i.val) % 4096, by omega⟩ : Fin 4096).val = (grid0.coords t 0).val % 4 * 1024 + i.val := by
    show ((grid0.coords t 0).val * 1024 + i.val) % 4096 = _
    omega
  rw [iblk_t0 m c t i l _ hp, iblk_t1 m c t i l _ hp, iblk_t2 m c t i l _ hp]
  refine (turn _ _ (lin (iblk m c 0 t) (iblk m c 1 t) i) l).trans ?_
  exact rot_congr _ _ _ _ l fun k hk => lin_eq m c t i _ k rfl hk

end Cert.Kernel12Ideal.Val

namespace Cert.Reference12Ideal.Val

open Idealize.ShloMosaic Idealize.ShloMosaic.TcCoe
open Cert.Reference12Ideal Cert.Reference12Ideal.Read
open Cert.Kernel12Ideal.Val (cosT sinT cosP sinP arr arr_ix res raw)
open Cert.Rot64

variable (x : Vec Ideal S2x4096x2048 .f32) (w : Vec Ideal S2048x4160 .f32)

theorem cos_eq : val_main_v25 (F := Ideal) = cosT := rfl
theorem sin_eq : val_main_v27 (F := Ideal) = sinT := rfl

theorem raw_apply (b : Fin 2) (p : Fin 4096) (l : Fin 64) (r : Fin 8192) (hb : r.val / 4096 = b.val) (hp : r.val % 4096 = p.val) :
    val_main_v7 x w (ix4 b p 0 l) = raw x w r ⟨l.val, by omega⟩ := by
  have e0 : (⟨r.val / 4096, by omega⟩ : Fin 2) = b := Fin.ext hb
  have e1 : (⟨r.val % 4096, by omega⟩ : Fin 4096) = p := Fin.ext hp
  unfold raw
  rw [e0, e1]
  pointwise [val_main_v7, val_main_v3, val_main_v0]

theorem lo (b : Fin 2) (p : Fin 4096) (l : Fin 32) : val_main_v37 x w (ix4 b p 0 l)
      = val_main_v7 x w (ix4 b p 0 ⟨l.val, by omega⟩) * cosP p l - val_main_v7 x w (ix4 b p 0 ⟨32 + l.val, by omega⟩) * sinP p l := by
  unfold cosP sinP
  rw [← cos_eq, ← sin_eq]
  pointwise [val_main_v37, val_main_v36, val_main_v35, val_main_v34, val_main_v33, val_main_v32, val_main_v31, val_main_v30, val_main_v29, val_main_v28, val_main_v26]

theorem hi (b : Fin 2) (p : Fin 4096) (l : Fin 32) : val_main_v44 x w (ix4 b p 0 l)
      = val_main_v7 x w (ix4 b p 0 ⟨32 + l.val, by omega⟩) * cosP p l + val_main_v7 x w (ix4 b p 0 ⟨l.val, by omega⟩) * sinP p l := by
  unfold cosP sinP
  rw [← cos_eq, ← sin_eq]
  pointwise [val_main_v44, val_main_v43, val_main_v42, val_main_v41, val_main_v40, val_main_v39, val_main_v38, val_main_v30, val_main_v29, val_main_v28, val_main_v26]

theorem padded (b : Fin 2) (p : Fin 4096) (l : Fin 128) (r : Fin 8192) (hb : r.val / 4096 = b.val) (hp : r.val % 4096 = p.val) :
    val_main_v46 x w (ix4 b p 0 l) = res x w r l := by
  have e1 : (⟨r.val % 4096, by omega⟩ : Fin 4096) = p := Fin.ext hp
  unfold res rot
  rw [e1]
  by_cases g : l.val < 64
  · by_cases h : l.val < 32
    · rw [dif_pos h]
      refine Eq.trans ?_ ((lo x w b p ⟨l.val, h⟩).trans ?_)
      · pointwise [val_main_v46, val_main_v45]
        rw [dif_pos (by omega), dif_pos (by omega)]
      · rw [raw_apply x w b p _ r hb hp, raw_apply x w b p _ r hb hp]
    · rw [dif_neg h, dif_pos g]
      refine Eq.trans ?_ ((hi x w b p ⟨l.val - 32, by omega⟩).trans ?_)
      · pointwise [val_main_v46, val_main_v45]
        rw [dif_pos (by omega), dif_neg (by omega)]
      · rw [raw_apply x w b p _ r hb hp, raw_apply x w b p _ r hb hp]
  · rw [dif_neg (by omega), dif_neg g]
    pointwise [val_main_v46, val_main_cst_3]
    rw [dif_neg (by omega)]

/-- The reference is the same. -/
theorem out_eq : val_main_v48 x w = arr x w := by
  funext y
  obtain ⟨r, n, rfl⟩ := Cert.Kernel3Ideal.Val.exists_ix2 y
  rw [arr_ix]
  refine Eq.trans ?_ (padded x w ⟨r.val / 4096, by omega⟩ ⟨r.val % 4096, by omega⟩ n r rfl rfl)
  pointwise [val_main_v48, val_main_v47]

end Cert.Reference12Ideal.Val
end
-- ==== Proof.LatQRot.lean ====
/- The latent attention's rotated queries: a normed row of the latent times a column of the weights, scaled, each head's 64 columns rotated by the row's position, 64 columns of zeros. -/
module

public import proofs.«01_k».proof.Proof.Gen.Kernel13
public import proofs.«01_k».proof.Proof.Gen.Kernel13Ideal.Value
public import proofs.«01_k».proof.Proof.Gen.Reference13Ideal.Read
public import proofs.«01_k».proof.Proof.Gen.Reference13Ideal.Run
public import proofs.«01_k».proof.Proof.Query
public import proofs.«01_k».proof.Proof.LatentKv
public import proofs.«01_k».proof.Proof.LatKpe

@[expose] public section

set_option maxRecDepth 16384

noncomputable section

namespace Cert.Kernel13Ideal.Val

open Idealize.ShloMosaic Idealize.ShloMosaic.TcCoe
open Idealize.ShloMosaic.Pipeline
open Cert.Kernel13Ideal Cert.Kernel13Ideal.Gen
open Cert.Kernel3Ideal.Val (ix_of exists_ix2)
open Cert.Kernel12Ideal.Val (cosT sinT cosP sinP tab0 tab1 tab2 tab0_apply tab1_apply tab2_apply)
open Cert.Rms Cert.Rot64

/-- A normed row times a column, scaled. -/
def lin (a : S1024x512.Idx → EReal) (b : S512x1024.Idx → EReal) (g : S1x512.Idx → EReal) (s : S1x1024.Idx → EReal) (i j : Fin 1024) : EReal :=
  (∑ d : Fin 512, rms (fun k => a (ix2 i k)) (fun k => g (ix2 0 k)) d * b (ix2 d j)) * s (ix2 0 j)

/-- Each group of 128 columns through the three tables. -/
def tri (A : Fin 1024 → Fin 1024 → EReal) (c d e : S1024x128.Idx → EReal) (i : Fin 1024) (h : Fin 8) (l : Fin 128) : EReal :=
  A i ⟨128 * h.val + l.val, by omega⟩ * c (ix2 i l) + A i ⟨128 * h.val + (l.val + 128 - 96) % 128, by omega⟩ * d (ix2 i l)
    + A i ⟨128 * h.val + (l.val + 128 - 32) % 128, by omega⟩ * e (ix2 i l)

/-- The groups as one array. -/
def block (A : Fin 1024 → Fin 1024 → EReal) (c d e : S1024x128.Idx → EReal) : S1024x1024.Idx → EReal := fun y =>
  tri A c d e ⟨(y 0).val, (y 0).isLt⟩ ⟨(y 1).val / 128, by have h : (y 1).val < 1024 := (y 1).isLt; omega⟩ ⟨(y 1).val % 128, Nat.mod_lt _ (by decide)⟩

theorem block_at (A : Fin 1024 → Fin 1024 → EReal) (c d e : S1024x128.Idx → EReal) (i : Fin 1024) (h : Fin 8) (l : Fin 128)
    (y : S1024x1024.Idx) (h0 : (y 0).val = 0 + i.val) (h1 : (y 1).val = 128 * h.val + l.val) : tri A c d e i h l = block A c d e y := by
  have e0 : (⟨(y 0).val, (y 0).isLt⟩ : Fin 1024) = i := Fin.ext (h0.trans (Nat.zero_add _))
  have e1 : (⟨(y 1).val / 128, by have h : (y 1).val < 1024 := (y 1).isLt; omega⟩ : Fin 8) = h := Fin.ext (by show (y 1).val / 128 = h.val; omega)
  have e2 : (⟨(y 1).val % 128, Nat.mod_lt _ (by decide)⟩ : Fin 128) = l := Fin.ext (by show (y 1).val % 128 = l.val; omega)
  unfold block
  rw [e0, e1, e2]

theorem block_apply (a : Vec Ideal S1024x512 .f32) (b : Vec Ideal S512x1024 .bf16) (g : Vec Ideal S1x512 .f32) (s : Vec Ideal S1x1024 .f32) (c d e : Vec Ideal S1024x128 .f32) (y : S1024x1024.Idx) :
    out0_7 a b g s c d e y = block (lin a b g s) c d e y := by
  unfold out0_7
  refine View.canon_apply_of_pieces (Val := Elt Ideal) (e := .bf16) (block (lin a b g s) c d e) _ ?_ y (cover0_7 _ _ _ _ _ _ _ _ y)
  intro p hp x
  have go : ∀ (h : Fin 8) (inb) (v : S1024x128.Idx → EReal), (∀ (i : Fin 1024) (l : Fin 128), v (ix2 i l) = tri (lin a b g s) c d e i h l) →
      ∀ x : S1024x128.Idx, v x = block (lin a b g s) c d e ((Rect.unit (s := S1024x1024) ![0, 128 * h.val] S1024x128.size inb).emb x) := by
    intro h inb v hv x
    obtain ⟨i, l, rfl⟩ := exists_ix2 x
    exact (hv i l).trans (block_at (lin a b g s) c d e i h l _ (ValueKit.rect_emb_unit_val _ _ inb (ix2 i l) 0) (ValueKit.rect_emb_unit_val _ _ inb (ix2 i l) 1))
  simp only [List.mem_cons, List.not_mem_nil, or_false] at hp
  rcases hp with rfl | rfl | rfl | rfl | rfl | rfl | rfl | rfl
  · exact go 7 (by decide) _ (fun i l => by unfold tri lin rms; pointwise [k0_pay4, k0_pay15, k0_pay16, k0_pay17, k0_pay18, k0_pay5, k0_pay6, k0_pay7, k0_pay8]) x
  · exact go 6 (by decide) _ (fun i l => by unfold tri lin rms; pointwise [k0_pay3, k0_pay15, k0_pay16, k0_pay17, k0_pay18, k0_pay5, k0_pay6, k0_pay7, k0_pay8]) x
  · exact go 5 (by decide) _ (fun i l => by unfold tri lin rms; pointwise [k0_pay2, k0_pay15, k0_pay16, k0_pay17, k0_pay18, k0_pay5, k0_pay6, k0_pay7, k0_pay8]) x
  · exact go 4 (by decide) _ (fun i l => by unfold tri lin rms; pointwise [k0_pay1, k0_pay14, k0_pay15, k0_pay16, k0_pay17, k0_pay18, k0_pay5, k0_pay6, k0_pay7, k0_pay8]) x
  · exact go 3 (by decide) _ (fun i l => by unfold tri lin rms; pointwise [k0_pay13, k0_pay15, k0_pay16, k0_pay17, k0_pay18, k0_pay5, k0_pay6, k0_pay7, k0_pay8]) x
  · exact go 2 (by decide) _ (fun i l => by unfold tri lin rms; pointwise [k0_pay12, k0_pay15, k0_pay16, k0_pay17, k0_pay18, k0_pay5, k0_pay6, k0_pay7, k0_pay8]) x
  · exact go 1 (by decide) _ (fun i l => by unfold tri lin rms; pointwise [k0_pay11, k0_pay15, k0_pay16, k0_pay17, k0_pay18, k0_pay5, k0_pay6, k0_pay7, k0_pay8]) x
  · exact go 0 (by decide) _ (fun i l => by unfold tri lin rms; pointwise [k0_pay10, k0_pay9, k0_pay5, k0_pay6, k0_pay7, k0_pay8]) x

variable (m : (ℓ : Loc nD τ sig) → Buf (Elt Ideal) ℓ) (c : Dev nD)

/-- What a device is given. -/
def argX : S2x4096x512.Idx → EReal := m ((c.tc : Thread nD τ).loc main_arg0)
@[inherit_doc argX] def argG : S512.Idx → EReal := m ((c.tc : Thread nD τ).loc main_arg1)
@[inherit_doc argX] def argW : S512x1536.Idx → EReal := m ((c.tc : Thread nD τ).loc main_arg2)

/-- What the kernel reads of what the host makes. -/
theorem V_host :
    V m c main_v30 = (shapeCast S8192x512 (argX m c) shapeCasts_S2x4096x512_S8192x512 : FVec Ideal S8192x512 .f32)
    ∧ V m c main_v4 = (truncf .bf16 (shapeCast S512x1024 (pad S512x8x128 ![0, 0, 0] ![0, 0, 64] ![0, 0, 0]
        (extractStridedSlice S512x8x64 ![0, 0, 128] (shapeCast S512x8x192 (argW m c) shapeCasts_S512x1536_S512x8x192 : FVec Ideal S512x8x192 .f32) slices_S512x8x192_S512x8x64_0_0_128)
        (sitofp .f32 (constantI S_ 32 0#32) : FVec Ideal S_ .f32) pads_S512x8x64_S512x8x128_000_000_0640 h_S_) shapeCasts_S512x8x128_S512x1024 : FVec Ideal S512x1024 .f32) bitsLt_bf16_f32 : FVec Ideal S512x1024 .bf16)
    ∧ V m c main_v31 = (shapeCast S1x512 (argG m c) shapeCasts_S512_S1x512 : FVec Ideal S1x512 .f32)
    ∧ V m c main_v32 = (shapeCast S1x1024 (broadcastInDim S1024 ![] bcast_S_S1024 (constant (F := Ideal) S_ .f32 0x3DD53B95#32) : FVec Ideal S1024 .f32) shapeCasts_S1024_S1x1024 : FVec Ideal S1x1024 .f32)
    ∧ V m c main_v25 = tab0
    ∧ V m c main_v28 = tab1
    ∧ V m c main_v29 = tab2 := by
  refine ⟨?_, ?_, ?_, ?_, ?_, ?_, ?_⟩ <;>
    (unfold V; simp only [hostOps0, hostOps0_1, hostOps0_2, List.flatten_cons, List.flatten_nil, List.cons_append, List.nil_append, List.append_nil]; after_results; rfl)

/-- The column of the weights behind a head's rotated column. -/
def col (h : Fin 8) (k : ℕ) : Fin 1536 := ⟨h.val * 192 + (128 + k % 64), by omega⟩

theorem V_x_apply (r : Fin 8192) (n : Fin 512) :
    (V m c main_v30 : S8192x512.Idx → EReal) (ix2 r n) = argX m c (ix3 ⟨r.val / 4096, by omega⟩ ⟨r.val % 4096, by omega⟩ n) := by
  rw [(V_host m c).1]
  pointwise

theorem V_w_apply (i : Fin 512) (h : Fin 8) (k : Fin 128) (hk : k.val < 64) :
    (V m c main_v4 : S512x1024.Idx → EReal) (ix2 i ⟨128 * h.val + k.val, by omega⟩) = argW m c (ix2 i (col h k.val)) := by
  rw [(V_host m c).2.1]
  unfold col
  pointwise
  rw [dif_pos (by omega)]
  congr 1
  congr 1
  apply Fin.ext
  simp only
  omega

theorem V_g_apply (n : Fin 512) : (V m c main_v31 : S1x512.Idx → EReal) (ix2 0 n) = argG m c (ix1 n) := by
  rw [(V_host m c).2.2.1]
  pointwise

theorem index_x : ∀ t : Fin grid0.N, win0_0.index t = ![(grid0.coords t 0).val, 0] := by decide +kernel
theorem index_w : ∀ t : Fin grid0.N, win0_1.index t = ![0, 0] := by decide +kernel
theorem index_g : ∀ t : Fin grid0.N, win0_2.index t = ![0, 0] := by decide +kernel
theorem index_t0 : ∀ t : Fin grid0.N, win0_4.index t = ![(grid0.coords t 0).val % 4, 0] := by decide +kernel
theorem index_t1 : ∀ t : Fin grid0.N, win0_5.index t = ![(grid0.coords t 0).val % 4, 0] := by decide +kernel
theorem index_t2 : ∀ t : Fin grid0.N, win0_6.index t = ![(grid0.coords t 0).val % 4, 0] := by decide +kernel
theorem index_o : ∀ t : Fin grid0.N, win0_7.index t = ![(grid0.coords t 0).val, 0] := by decide +kernel

theorem lt0 (t : Fin grid0.N) : (grid0.coords t 0).val < 8 := (grid0.coords t 0).isLt

theorem iblk_x (t : Fin grid0.N) (i : Fin 1024) (d : Fin 512) (r : Fin 8192) (hr : r.val = (grid0.coords t 0).val * 1024 + i.val) :
    (iblk m c 0 t : S1024x512.Idx → EReal) (ix2 i d) = argX m c (ix3 ⟨r.val / 4096, by omega⟩ ⟨r.val % 4096, by omega⟩ d) := by
  refine Eq.trans ?_ (V_x_apply m c r d)
  refine congrArg (V m c main_v30 : S8192x512.Idx → EReal) (ix_of _ r d ?_ ?_)
  · exact (win0_0.rect_emb_val t _ 0).trans (by rw [index_x]; exact hr.symm)
  · exact (win0_0.rect_emb_val t _ 1).trans (by rw [index_x]; exact zero_row _ _)

theorem iblk_w (t : Fin grid0.N) (d : Fin 512) (h : Fin 8) (k : Fin 128) (hk : k.val < 64) :
    (iblk m c 1 t : S512x1024.Idx → EReal) (ix2 d ⟨128 * h.val + k.val, by omega⟩) = argW m c (ix2 d (col h k.val)) := by
  refine Eq.trans ?_ (V_w_apply m c d h k hk)
  refine congrArg (V m c main_v4 : S512x1024.Idx → EReal) (ix_of _ d _ ?_ ?_)
  · exact (win0_1.rect_emb_val t _ 0).trans (by rw [index_w]; exact zero_row _ _)
  · exact (win0_1.rect_emb_val t _ 1).trans (by rw [index_w]; exact zero_row _ _)

theorem iblk_g (t : Fin grid0.N) (d : Fin 512) : (iblk m c 2 t : S1x512.Idx → EReal) (ix2 0 d) = argG m c (ix1 d) := by
  refine Eq.trans ?_ (V_g_apply m c d)
  refine congrArg (V m c main_v31 : S1x512.Idx → EReal) (ix_of _ 0 d ?_ ?_)
  · exact (win0_2.rect_emb_val t _ 0).trans (by rw [index_g]; exact zero_row _ _)
  · exact (win0_2.rect_emb_val t _ 1).trans (by rw [index_g]; exact zero_row _ _)

theorem iblk_s (t : Fin grid0.N) (j : Fin 1024) : (iblk m c 3 t : S1x1024.Idx → EReal) (ix2 0 j) = Ideal.ofBits .f32 0x3DD53B95#32 := by
  show (V m c main_v32 : S1x1024.Idx → EReal) ((win0_3.blk t).view.emb (ix2 0 j)) = _
  rw [(V_host m c).2.2.2.1]
  rfl

theorem iblk_t0 (t : Fin grid0.N) (i : Fin 1024) (l : Fin 128) (p : Fin 4096) (hp : p.val = (grid0.coords t 0).val % 4 * 1024 + i.val) :
    (iblk m c 4 t : S1024x128.Idx → EReal) (ix2 i l) = t0 (cosP p) l := by
  refine Eq.trans ?_ (tab0_apply p l)
  rw [← (V_host m c).2.2.2.2.1]
  refine congrArg (V m c main_v25 : S4096x128.Idx → EReal) (ix_of _ p l ?_ ?_)
  · exact (win0_4.rect_emb_val t _ 0).trans (by rw [index_t0]; exact hp.symm)
  · exact (win0_4.rect_emb_val t _ 1).trans (by rw [index_t0]; exact zero_row _ _)

theorem iblk_t1 (t : Fin grid0.N) (i : Fin 1024) (l : Fin 128) (p : Fin 4096) (hp : p.val = (grid0.coords t 0).val % 4 * 1024 + i.val) :
    (iblk m c 5 t : S1024x128.Idx → EReal) (ix2 i l) = t1 (sinP p) l := by
  refine Eq.trans ?_ (tab1_apply p l)
  rw [← (V_host m c).2.2.2.2.2.1]
  refine congrArg (V m c main_v28 : S4096x128.Idx → EReal) (ix_of _ p l ?_ ?_)
  · exact (win0_5.rect_emb_val t _ 0).trans (by rw [index_t1]; exact hp.symm)
  · exact (win0_5.rect_emb_val t _ 1).trans (by rw [index_t1]; exact zero_row _ _)

theorem iblk_t2 (t : Fin grid0.N) (i : Fin 1024) (l : Fin 128) (p : Fin 4096) (hp : p.val = (grid0.coords t 0).val % 4 * 1024 + i.val) :
    (iblk m c 6 t : S1024x128.Idx → EReal) (ix2 i l) = t2 (sinP p) l := by
  refine Eq.trans ?_ (tab2_apply p l)
  rw [← (V_host m c).2.2.2.2.2.2]
  refine congrArg (V m c main_v29 : S4096x128.Idx → EReal) (ix_of _ p l ?_ ?_)
  · exact (win0_6.rect_emb_val t _ 0).trans (by rw [index_t2]; exact hp.symm)
  · exact (win0_6.rect_emb_val t _ 1).trans (by rw [index_t2]; exact zero_row _ _)

/-- A head's projection before the rotation; beyond its 64 columns the number does not count. -/
def raw (x : S2x4096x512.Idx → EReal) (g : S512.Idx → EReal) (w : S512x1536.Idx → EReal) (r : Fin 8192) (h : Fin 8) (k : Fin 128) : EReal :=
  (∑ d : Fin 512, rms (fun k => x (ix3 ⟨r.val / 4096, by omega⟩ ⟨r.val % 4096, by omega⟩ k)) (fun k => g (ix1 k)) d * w (ix2 d (col h k.val))) * Ideal.ofBits .f32 0x3DD53B95#32

/-- The rotated queries at a row, a head and a column. -/
def res (x : S2x4096x512.Idx → EReal) (g : S512.Idx → EReal) (w : S512x1536.Idx → EReal) (r : Fin 8192) (h : Fin 8) (l : Fin 128) : EReal :=
  rot (cosP ⟨r.val % 4096, by omega⟩) (sinP ⟨r.val % 4096, by omega⟩) (raw x g w r h) l

/-- The rotated queries as one array. -/
def arr (x : S2x4096x512.Idx → EReal) (g : S512.Idx → EReal) (w : S512x1536.Idx → EReal) : S8192x1024.Idx → EReal := fun y =>
  res x g w ⟨(y 0).val, (y 0).isLt⟩ ⟨(y 1).val / 128, by have h : (y 1).val < 1024 := (y 1).isLt; omega⟩ ⟨(y 1).val % 128, Nat.mod_lt _ (by decide)⟩

theorem arr_ix (x : S2x4096x512.Idx → EReal) (g : S512.Idx → EReal) (w : S512x1536.Idx → EReal) (r : Fin 8192) (n : Fin 1024) :
    arr x g w (ix2 r n) = res x g w r ⟨n.val / 128, by omega⟩ ⟨n.val % 128, Nat.mod_lt _ (by decide)⟩ := rfl

theorem lin_eq (t : Fin grid0.N) (i : Fin 1024) (r : Fin 8192) (h : Fin 8) (k : Fin 128) (hr : r.val = (grid0.coords t 0).val * 1024 + i.val) (hk : k.val < 64) :
    lin (iblk m c 0 t) (iblk m c 1 t) (iblk m c 2 t) (iblk m c 3 t) i ⟨128 * h.val + k.val, by omega⟩ = raw (argX m c) (argG m c) (argW m c) r h k := by
  refine congrArg₂ (· * ·) (Finset.sum_congr rfl fun d _ => congrArg₂ (· * ·) ?_ (iblk_w m c t d h k hk)) (iblk_s m c t _)
  exact congrArg₂ (fun z g => rms z g d) (funext fun k => iblk_x m c t i k r hr) (funext fun k => iblk_g m c t k)

/-- The kernel's result. -/
theorem result_eq : (dats m 0 c).arrAt 7 cfg0.N = arr (argX m c) (argG m c) (argW m c) := by
  refine (dats m 0 c).arrAt_eq_of_covers 7 (arr (argX m c) (argG m c) (argW m c)) (by decide +kernel) fun t hf y => ?_
  obtain ⟨i, j, rfl⟩ := exists_ix2 y
  blk_simp
  rw [after0_7]
  refine (block_apply _ _ _ _ _ _ _ (ix2 i j)).trans ?_
  have h0 := lt0 t
  have e : (win0_7.blk t).view.emb (ix2 i j) = ix2 (⟨(grid0.coords t 0).val * 1024 + i.val, by omega⟩ : Fin 8192) j := by
    refine ix_of _ _ _ ?_ ?_
    · exact (win0_7.rect_emb_val t _ 0).trans (by rw [index_o]; rfl)
    · exact (win0_7.rect_emb_val t _ 1).trans (by rw [index_o]; exact zero_row _ _)
  rw [e, arr_ix]
  have hp : (⟨((grid0.coords t 0).val * 1024 + i.val) % 4096, by omega⟩ : Fin 4096).val = (grid0.coords t 0).val % 4 * 1024 + i.val := by
    show ((grid0.coords t 0).val * 1024 + i.val) % 4096 = _
    omega
  show tri (lin (iblk m c 0 t) (iblk m c 1 t) (iblk m c 2 t) (iblk m c 3 t)) (iblk m c 4 t) (iblk m c 5 t) (iblk m c 6 t) i ⟨j.val / 128, by omega⟩ ⟨j.val % 128, Nat.mod_lt _ (by decide)⟩ = _
  unfold tri
  rw [iblk_t0 m c t i _ _ hp, iblk_t1 m c t i _ _ hp, iblk_t2 m c t i _ _ hp]
  refine (turn _ _ (fun k => lin (iblk m c 0 t) (iblk m c 1 t) (iblk m c 2 t) (iblk m c 3 t) i ⟨128 * (j.val / 128) + k.val, by omega⟩) _).trans ?_
  exact rot_congr _ _ _ _ _ fun k hk => lin_eq m c t i _ ⟨j.val / 128, by omega⟩ k rfl hk

end Cert.Kernel13Ideal.Val

namespace Cert.Reference13Ideal.Val

open Idealize.ShloMosaic Idealize.ShloMosaic.TcCoe
open Cert.Reference13Ideal Cert.Reference13Ideal.Read
open Cert.Kernel12Ideal.Val (cosT sinT cosP sinP)
open Cert.Kernel13Ideal.Val (arr arr_ix res raw col)
open Cert.Rms Cert.Rot64

variable (x : Vec Ideal S2x4096x512 .f32) (g : Vec Ideal S512 .f32) (w : Vec Ideal S512x1536 .f32)

theorem cos_eq : val_main_v35 (F := Ideal) = cosT := rfl
theorem sin_eq : val_main_v37 (F := Ideal) = sinT := rfl

theorem prod_eq (b : Fin 2) (p : Fin 4096) (k : Fin 1536) : val_main_v13 x g w (ix3 b p k)
      = ∑ d : Fin 512, rms (fun k => x (ix3 b p k)) (fun k => g (ix1 k)) d * w (ix2 d k) := by
  unfold rms
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]

theorem raw_apply (b : Fin 2) (p : Fin 4096) (h : Fin 8) (l : Fin 64) (r : Fin 8192) (hb : r.val / 4096 = b.val) (hp : r.val % 4096 = p.val) :
    val_main_v17 x g w (ix4 b p h l) = raw x g w r h ⟨l.val, by omega⟩ := by
  have e0 : (⟨r.val / 4096, by omega⟩ : Fin 2) = b := Fin.ext hb
  have e1 : (⟨r.val % 4096, by omega⟩ : Fin 4096) = p := Fin.ext hp
  unfold raw
  rw [e0, e1]
  pointwise [val_main_v17, val_main_v16, val_main_cst_2, val_main_v15, val_main_v14]
  refine congrArg (· * Ideal.ofBits .f32 0x3DD53B95#32) ((prod_eq x g w b p (col h l.val)).symm.trans ?_).symm
  refine congrArg (fun k => val_main_v13 x g w (ix3 b p k)) (Fin.ext ?_)
  show h.val * 192 + (128 + l.val % 64) = _
  dsimp only
  omega

theorem lo (b : Fin 2) (p : Fin 4096) (h : Fin 8) (l : Fin 32) : val_main_v47 x g w (ix4 b p h l)
      = val_main_v17 x g w (ix4 b p h ⟨l.val, by omega⟩) * cosP p l - val_main_v17 x g w (ix4 b p h ⟨32 + l.val, by omega⟩) * sinP p l := by
  unfold cosP sinP
  rw [← cos_eq, ← sin_eq]
  pointwise [val_main_v47, val_main_v46, val_main_v45, val_main_v44, val_main_v43, val_main_v42, val_main_v41, val_main_v40, val_main_v39, val_main_v38, val_main_v36]

theorem hi (b : Fin 2) (p : Fin 4096) (h : Fin 8) (l : Fin 32) : val_main_v54 x g w (ix4 b p h l)
      = val_main_v17 x g w (ix4 b p h ⟨32 + l.val, by omega⟩) * cosP p l + val_main_v17 x g w (ix4 b p h ⟨l.val, by omega⟩) * sinP p l := by
  unfold cosP sinP
  rw [← cos_eq, ← sin_eq]
  pointwise [val_main_v54, val_main_v53, val_main_v52, val_main_v51, val_main_v50, val_main_v49, val_main_v48, val_main_v40, val_main_v39, val_main_v38, val_main_v36]

theorem padded (b : Fin 2) (p : Fin 4096) (h : Fin 8) (l : Fin 128) (r : Fin 8192) (hb : r.val / 4096 = b.val) (hp : r.val % 4096 = p.val) :
    val_main_v56 x g w (ix4 b p h l) = res x g w r h l := by
  have e1 : (⟨r.val % 4096, by omega⟩ : Fin 4096) = p := Fin.ext hp
  unfold res rot
  rw [e1]
  by_cases g0 : l.val < 64
  · by_cases g1 : l.val < 32
    · rw [dif_pos g1]
      refine Eq.trans ?_ ((lo x g w b p h ⟨l.val, g1⟩).trans ?_)
      · pointwise [val_main_v56, val_main_v55]
        rw [dif_pos (by omega), dif_pos (by omega)]
      · rw [raw_apply x g w b p h _ r hb hp, raw_apply x g w b p h _ r hb hp]
    · rw [dif_neg g1, dif_pos g0]
      refine Eq.trans ?_ ((hi x g w b p h ⟨l.val - 32, by omega⟩).trans ?_)
      · pointwise [val_main_v56, val_main_v55]
        rw [dif_pos (by omega), dif_neg (by omega)]
      · rw [raw_apply x g w b p h _ r hb hp, raw_apply x g w b p h _ r hb hp]
  · rw [dif_neg (by omega), dif_neg g0]
    pointwise [val_main_v56, val_main_cst_7]
    rw [dif_neg (by omega)]

/-- The reference is the same. -/
theorem out_eq : val_main_v58 x g w = arr x g w := by
  funext y
  obtain ⟨r, n, rfl⟩ := Cert.Kernel3Ideal.Val.exists_ix2 y
  rw [arr_ix]
  refine Eq.trans ?_ (padded x g w ⟨r.val / 4096, by omega⟩ ⟨r.val % 4096, by omega⟩ ⟨n.val / 128, by omega⟩ ⟨n.val % 128, Nat.mod_lt _ (by decide)⟩ r rfl rfl)
  pointwise [val_main_v58, val_main_v57]

end Cert.Reference13Ideal.Val
end
-- ==== Proof.Gates.lean ====
/- The forget gates' projection: a row times one of eight columns of the weights, 120 columns of zeros. -/
module

public import proofs.«01_k».proof.Proof.Gen.Kernel14
public import proofs.«01_k».proof.Proof.Gen.Kernel14Ideal.Value
public import proofs.«01_k».proof.Proof.Gen.Reference14Ideal.Read
public import proofs.«01_k».proof.Proof.Gen.Reference14Ideal.Run
public import proofs.«01_k».proof.Proof.LatKpe

@[expose] public section

set_option maxRecDepth 16384

noncomputable section

namespace Cert.Kernel14Ideal.Val

open Idealize.ShloMosaic Idealize.ShloMosaic.TcCoe
open Idealize.ShloMosaic.Pipeline
open Cert.Kernel14Ideal Cert.Kernel14Ideal.Gen
open Cert.Kernel3Ideal.Val (ix_of exists_ix2)
open Cert.Rot64 (zero_row)

/-- The product at a row and a column. -/
def res (x : S2x4096x2048.Idx → EReal) (w : S2048x6152.Idx → EReal) (r : Fin 8192) (n : Fin 128) : EReal :=
  if h : n.val < 8 then ∑ d : Fin 2048, x (ix3 ⟨r.val / 4096, by omega⟩ ⟨r.val % 4096, by omega⟩ d) * w (ix2 d ⟨3072 + n.val, by omega⟩) else 0

/-- The product as one array. -/
def arr (x : S2x4096x2048.Idx → EReal) (w : S2048x6152.Idx → EReal) : S8192x128.Idx → EReal := fun y => res x w ⟨(y 0).val, (y 0).isLt⟩ ⟨(y 1).val, (y 1).isLt⟩

theorem arr_ix (x : S2x4096x2048.Idx → EReal) (w : S2048x6152.Idx → EReal) (r : Fin 8192) (n : Fin 128) : arr x w (ix2 r n) = res x w r n := rfl

theorem block_apply (a : Vec Ideal S1024x2048 .bf16) (b : Vec Ideal S2048x128 .bf16) (i : Fin 1024) (j : Fin 128) :
    out0_2 a b (ix2 i j) = ∑ d : Fin 2048, a (ix2 i d) * b (ix2 d j) := by
  unfold out0_2
  frame_out
  pointwise [k0_pay1]

variable (m : (ℓ : Loc nD τ sig) → Buf (Elt Ideal) ℓ) (c : Dev nD)

/-- What a device is given. -/
def argX : S2x4096x2048.Idx → EReal := m ((c.tc : Thread nD τ).loc main_arg0)
@[inherit_doc argX] def argW : S2048x6152.Idx → EReal := m ((c.tc : Thread nD τ).loc main_arg1)

/-- What the kernel reads of what the host makes. -/
theorem V_host :
    V m c main_v4 = (truncf .bf16 (shapeCast S8192x2048 (argX m c) shapeCasts_S2x4096x2048_S8192x2048 : FVec Ideal S8192x2048 .f32) bitsLt_bf16_f32 : FVec Ideal S8192x2048 .bf16)
    ∧ V m c main_v2 = (truncf .bf16 (pad S2048x128 ![0, 0] ![0, 120] ![0, 0] (extractStridedSlice S2048x8 ![0, 3072] (argW m c) slices_S2048x6152_S2048x8_0_3072)
        (sitofp .f32 (constantI S_ 32 0#32) : FVec Ideal S_ .f32) pads_S2048x8_S2048x128_000_01200 h_S_ : FVec Ideal S2048x128 .f32) bitsLt_bf16_f32 : FVec Ideal S2048x128 .bf16) := by
  refine ⟨?_, ?_⟩ <;>
    (unfold V; simp only [hostOps0, hostOps0_1, hostOps0_2, List.flatten_cons, List.flatten_nil, List.cons_append, List.nil_append, List.append_nil]; after_results; rfl)

theorem V_x_apply (r : Fin 8192) (n : Fin 2048) :
    (V m c main_v4 : S8192x2048.Idx → EReal) (ix2 r n) = argX m c (ix3 ⟨r.val / 4096, by omega⟩ ⟨r.val % 4096, by omega⟩ n) := by
  rw [(V_host m c).1]
  pointwise

/-- The padding is zero. -/
theorem sitofp_zero : (FloatOps.sitofp (F := Ideal) .f32 (0#32) : EReal) = 0 := by
  show (((0#32 : BitVec 32).toInt : ℝ) : EReal) = 0
  simp

theorem V_w_apply (i : Fin 2048) (n : Fin 128) :
    (V m c main_v2 : S2048x128.Idx → EReal) (ix2 i n) = if h : n.val < 8 then argW m c (ix2 i ⟨3072 + n.val, by omega⟩) else 0 := by
  rw [(V_host m c).2]
  pointwise
  split_ifs <;> first | omega | rfl | exact sitofp_zero

theorem index_x : ∀ t : Fin grid0.N, win0_0.index t = ![(grid0.coords t 0).val, 0] := by decide +kernel
theorem index_w : ∀ t : Fin grid0.N, win0_1.index t = ![0, 0] := by decide +kernel
theorem index_o : ∀ t : Fin grid0.N, win0_2.index t = ![(grid0.coords t 0).val, 0] := by decide +kernel

theorem iblk_x (t : Fin grid0.N) (i : Fin 1024) (d : Fin 2048) (r : Fin 8192) (hr : r.val = (grid0.coords t 0).val * 1024 + i.val) :
    (iblk m c 0 t : S1024x2048.Idx → EReal) (ix2 i d) = argX m c (ix3 ⟨r.val / 4096, by omega⟩ ⟨r.val % 4096, by omega⟩ d) := by
  refine Eq.trans ?_ (V_x_apply m c r d)
  refine congrArg (V m c main_v4 : S8192x2048.Idx → EReal) (ix_of _ r d ?_ ?_)
  · exact (win0_0.rect_emb_val t _ 0).trans (by rw [index_x]; exact hr.symm)
  · exact (win0_0.rect_emb_val t _ 1).trans (by rw [index_x]; exact zero_row _ _)

theorem iblk_w (t : Fin grid0.N) (d : Fin 2048) (n : Fin 128) :
    (iblk m c 1 t : S2048x128.Idx → EReal) (ix2 d n) = if h : n.val < 8 then argW m c (ix2 d ⟨3072 + n.val, by omega⟩) else 0 := by
  refine Eq.trans ?_ (V_w_apply m c d n)
  refine congrArg (V m c main_v2 : S2048x128.Idx → EReal) (ix_of _ d n ?_ ?_)
  · exact (win0_1.rect_emb_val t _ 0).trans (by rw [index_w]; exact zero_row _ _)
  · exact (win0_1.rect_emb_val t _ 1).trans (by rw [index_w]; exact zero_row _ _)

/-- The kernel's result. -/
theorem result_eq : (dats m 0 c).arrAt 2 cfg0.N = arr (argX m c) (argW m c) := by
  refine (dats m 0 c).arrAt_eq_of_covers 2 (arr (argX m c) (argW m c)) (by decide +kernel) fun t hf y => ?_
  obtain ⟨i, j, rfl⟩ := exists_ix2 y
  blk_simp
  rw [after0_2]
  refine (block_apply _ _ i j).trans ?_
  have h0 : (grid0.coords t 0).val < 8 := (grid0.coords t 0).isLt
  have e : (win0_2.blk t).view.emb (ix2 i j) = ix2 (⟨(grid0.coords t 0).val * 1024 + i.val, by omega⟩ : Fin 8192) j :=
    ix_of _ _ _ ((win0_2.rect_emb_val t _ 0).trans (by rw [index_o]; rfl)) ((win0_2.rect_emb_val t _ 1).trans (by rw [index_o]; exact zero_row _ _))
  rw [e, arr_ix]
  simp only [iblk_x m c t i _ (⟨(grid0.coords t 0).val * 1024 + i.val, by omega⟩ : Fin 8192) rfl, iblk_w]
  unfold res
  by_cases h : j.val < 8
  · simp only [dif_pos h]
  · simp only [dif_neg h, mul_zero, Finset.sum_const_zero]

end Cert.Kernel14Ideal.Val

namespace Cert.Reference14Ideal.Val

open Idealize.ShloMosaic Idealize.ShloMosaic.TcCoe
open Cert.Reference14Ideal Cert.Reference14Ideal.Read
open Cert.Kernel14Ideal.Val (arr arr_ix res)

/-- The reference is the same. -/
theorem out_eq (x : Vec Ideal S2x4096x2048 .f32) (w : Vec Ideal S2048x6152 .f32) : val_main_v3 x w = arr x w := by
  funext y
  obtain ⟨r, n, rfl⟩ := Cert.Kernel3Ideal.Val.exists_ix2 y
  rw [arr_ix]
  unfold res
  pointwise [val_main_v3, val_main_v2, val_main_cst, val_main_v1, val_main_v0]
  exact dite_congr (propext ⟨fun h => h.2.2, fun h => ⟨by omega, by omega, h⟩⟩) (fun _ => rfl) fun _ => rfl

end Cert.Reference14Ideal.Val
end
-- ==== Proof.DiffNorm.lean ====
/- The difference of the two maps of each head and its norm. -/
module

public import proofs.«01_k».proof.Proof.Gen.Kernel15
public import proofs.«01_k».proof.Proof.Gen.Kernel15Ideal.Value
public import proofs.«01_k».proof.Proof.Gen.Reference15Ideal.Read
public import proofs.«01_k».proof.Proof.Gen.Reference15Ideal.Run
public import proofs.«01_k».proof.Proof.LatKpe

@[expose] public section

set_option maxRecDepth 16384

noncomputable section

namespace Cert.Kernel15Ideal.Val

open Idealize.ShloMosaic Idealize.ShloMosaic.TcCoe
open Idealize.ShloMosaic.Pipeline
open Cert.Kernel15Ideal Cert.Kernel15Ideal.Gen
open Cert.Kernel3Ideal.Val (ix_of exists_ix2)
open Cert.Rot64 (zero_row)

/-- The share of the second map, `u` the bits of the constant added to it. -/
def lam (u : BitVec 32) (l : S4x128.Idx → EReal) : EReal :=
  Ideal.exp (∑ k : Fin 128, l (ix2 0 k) * l (ix2 1 k)) - Ideal.exp (∑ k : Fin 128, l (ix2 2 k) * l (ix2 3 k)) + Ideal.ofBits .f32 u

/-- One head's row, normed and scaled by the constant of bits `v`. -/
def nrm (v : BitVec 32) (d g : Fin 256 → EReal) (k : Fin 256) : EReal :=
  d k * Ideal.rsqrt (Ideal.div (∑ e : Fin 256, d e * d e) (Ideal.ofBits .f32 0x43800000#32) + Ideal.ofBits .f32 0x358637BD#32) * g k * Ideal.ofBits .f32 v

/-- The result at a row, a head and a column, of `a` rows. -/
def res {p : ℕ} (u v : BitVec 32) (a : Fin p → Fin 2048 → EReal) (l : S4x128.Idx → EReal) (g : Fin 256 → EReal) (i : Fin p) (h : Fin 4) (k : Fin 256) : EReal :=
  nrm v (fun e => a i ⟨512 * h.val + e.val, by omega⟩ - lam u l * a i ⟨512 * h.val + 256 + e.val, by omega⟩) g k

/-- The heads as one array. -/
def arr {p : ℕ} (u v : BitVec 32) (a : Fin p → Fin 2048 → EReal) (l : S4x128.Idx → EReal) (g : Fin 256 → EReal) : (⟨2, ![p, 1024]⟩ : Shape).Idx → EReal := fun y =>
  res u v a l g ⟨(y 0).val, (y 0).isLt⟩ ⟨(y 1).val / 256, by have h : (y 1).val < 1024 := (y 1).isLt; omega⟩ ⟨(y 1).val % 256, Nat.mod_lt _ (by decide)⟩

theorem arr_at {p : ℕ} (u v : BitVec 32) (a : Fin p → Fin 2048 → EReal) (l : S4x128.Idx → EReal) (g : Fin 256 → EReal) (i : Fin p) (h : Fin 4) (k : Fin 256)
    (y : (⟨2, ![p, 1024]⟩ : Shape).Idx) (h0 : (y 0).val = 0 + i.val) (h1 : (y 1).val = 256 * h.val + k.val) : res u v a l g i h k = arr u v a l g y := by
  have e0 : (⟨(y 0).val, (y 0).isLt⟩ : Fin p) = i := Fin.ext (h0.trans (Nat.zero_add _))
  have e1 : (⟨(y 1).val / 256, by have h : (y 1).val < 1024 := (y 1).isLt; omega⟩ : Fin 4) = h := Fin.ext (by show (y 1).val / 256 = h.val; omega)
  have e2 : (⟨(y 1).val % 256, Nat.mod_lt _ (by decide)⟩ : Fin 256) = k := Fin.ext (by show (y 1).val % 256 = k.val; omega)
  unfold arr
  rw [e0, e1, e2]

theorem block_apply (a : Vec Ideal S512x2048 .f32) (l : Vec Ideal S4x128 .f32) (g : Vec Ideal S1x256 .f32) (y : S512x1024.Idx) :
    out0_3 a l g y = arr 0x3EB60549#32 0x3F24FD5C#32 (fun (i : Fin 512) k => a (ix2 i k)) l (fun k => g (ix2 0 k)) y := by
  unfold out0_3
  refine View.canon_apply_of_pieces (Val := Elt Ideal) (e := .bf16) (arr 0x3EB60549#32 0x3F24FD5C#32 (fun (i : Fin 512) k => a (ix2 i k)) l (fun k => g (ix2 0 k)) : S512x1024.Idx → EReal) _ ?_ y (cover0_3 _ _ _ _ y)
  intro p hp x
  have go : ∀ (h : Fin 4) (inb) (v : S512x256.Idx → EReal), (∀ (i : Fin 512) (k : Fin 256), v (ix2 i k) = res 0x3EB60549#32 0x3F24FD5C#32 (fun (i : Fin 512) k => a (ix2 i k)) l (fun k => g (ix2 0 k)) i h k) →
      ∀ x : S512x256.Idx, v x = arr 0x3EB60549#32 0x3F24FD5C#32 (fun (i : Fin 512) k => a (ix2 i k)) l (fun k => g (ix2 0 k)) ((Rect.unit (s := S512x1024) ![0, 256 * h.val] S512x256.size inb).emb x) := by
    intro h inb v hv x
    obtain ⟨i, k, rfl⟩ := exists_ix2 x
    exact (hv i k).trans (arr_at _ _ _ l _ i h k _ (ValueKit.rect_emb_unit_val _ _ inb (ix2 i k) 0) (ValueKit.rect_emb_unit_val _ _ inb (ix2 i k) 1))
  simp only [List.mem_cons, List.not_mem_nil, or_false] at hp
  rcases hp with rfl | rfl | rfl | rfl
  · exact go 3 (by decide) _ (fun i k => by unfold res nrm lam; pointwise [k0_pay2, k0_pay8, k0_pay3]) x
  · exact go 2 (by decide) _ (fun i k => by unfold res nrm lam; pointwise [k0_pay1, k0_pay6, k0_pay7, k0_pay8, k0_pay3]) x
  · exact go 1 (by decide) _ (fun i k => by unfold res nrm lam; pointwise [k0_pay5, k0_pay8, k0_pay3]) x
  · exact go 0 (by decide) _ (fun i k => by unfold res nrm lam; pointwise [k0_pay4, k0_pay3]) x

variable (m : (ℓ : Loc nD τ sig) → Buf (Elt Ideal) ℓ) (c : Dev nD)

/-- What a device is given. -/
def argA : S8192x2048.Idx → EReal := m ((c.tc : Thread nD τ).loc main_arg0)
@[inherit_doc argA] def argL : S4x128.Idx → EReal := m ((c.tc : Thread nD τ).loc main_arg1)
@[inherit_doc argA] def argG : S256.Idx → EReal := m ((c.tc : Thread nD τ).loc main_arg2)

/-- What the kernel reads. -/
theorem V_host : V m c main_arg0 = argA m c ∧ V m c main_arg1 = argL m c ∧ V m c main_v0 = (shapeCast S1x256 (argG m c) shapeCasts_S256_S1x256 : FVec Ideal S1x256 .f32) := by
  refine ⟨?_, ?_, ?_⟩ <;> (unfold V; after_results; rfl)

theorem index_a : ∀ t : Fin grid0.N, win0_0.index t = ![(grid0.coords t 0).val, 0] := by decide +kernel
theorem index_l : ∀ t : Fin grid0.N, win0_1.index t = ![0, 0] := by decide +kernel
theorem index_g : ∀ t : Fin grid0.N, win0_2.index t = ![0, 0] := by decide +kernel
theorem index_o : ∀ t : Fin grid0.N, win0_3.index t = ![(grid0.coords t 0).val, 0] := by decide +kernel

theorem iblk_a (t : Fin grid0.N) (i : Fin 512) (k : Fin 2048) (r : Fin 8192) (hr : r.val = (grid0.coords t 0).val * 512 + i.val) :
    (iblk m c 0 t : S512x2048.Idx → EReal) (ix2 i k) = argA m c (ix2 r k) := by
  rw [← (V_host m c).1]
  refine congrArg (V m c main_arg0 : S8192x2048.Idx → EReal) (ix_of _ r k ?_ ?_)
  · exact (win0_0.rect_emb_val t _ 0).trans (by rw [index_a]; exact hr.symm)
  · exact (win0_0.rect_emb_val t _ 1).trans (by rw [index_a]; exact zero_row _ _)

theorem iblk_l (t : Fin grid0.N) : (iblk m c 1 t : S4x128.Idx → EReal) = argL m c := by
  funext y
  obtain ⟨i, k, rfl⟩ := exists_ix2 y
  rw [← (V_host m c).2.1]
  refine congrArg (V m c main_arg1 : S4x128.Idx → EReal) (ix_of _ i k ?_ ?_)
  · exact (win0_1.rect_emb_val t _ 0).trans (by rw [index_l]; exact zero_row _ _)
  · exact (win0_1.rect_emb_val t _ 1).trans (by rw [index_l]; exact zero_row _ _)

theorem iblk_g (t : Fin grid0.N) (k : Fin 256) : (iblk m c 2 t : S1x256.Idx → EReal) (ix2 0 k) = argG m c (ix1 k) := by
  have e : (V m c main_v0 : S1x256.Idx → EReal) (ix2 0 k) = argG m c (ix1 k) := by
    rw [(V_host m c).2.2]
    pointwise
  refine Eq.trans (congrArg (V m c main_v0 : S1x256.Idx → EReal) (ix_of _ 0 k ?_ ?_)) e
  · exact (win0_2.rect_emb_val t _ 0).trans (by rw [index_g]; exact zero_row _ _)
  · exact (win0_2.rect_emb_val t _ 1).trans (by rw [index_g]; exact zero_row _ _)

/-- The kernel's result. -/
theorem result_eq : (dats m 0 c).arrAt 3 cfg0.N = arr 0x3EB60549#32 0x3F24FD5C#32 (fun (r : Fin 8192) k => argA m c (ix2 r k)) (argL m c) (fun k => argG m c (ix1 k)) := by
  refine (dats m 0 c).arrAt_eq_of_covers 3 (arr 0x3EB60549#32 0x3F24FD5C#32 (fun (r : Fin 8192) k => argA m c (ix2 r k)) (argL m c) (fun k => argG m c (ix1 k)) : S8192x1024.Idx → EReal) (by decide +kernel) fun t hf y => ?_
  obtain ⟨i, j, rfl⟩ := exists_ix2 y
  blk_simp
  rw [after0_3]
  refine (block_apply _ _ _ (ix2 i j)).trans ?_
  have h0 : (grid0.coords t 0).val < 16 := (grid0.coords t 0).isLt
  have e : (win0_3.blk t).view.emb (ix2 i j) = ix2 (⟨(grid0.coords t 0).val * 512 + i.val, by omega⟩ : Fin 8192) j :=
    ix_of _ _ _ ((win0_3.rect_emb_val t _ 0).trans (by rw [index_o]; rfl)) ((win0_3.rect_emb_val t _ 1).trans (by rw [index_o]; exact zero_row _ _))
  rw [e]
  unfold arr res
  rw [iblk_l]
  exact congrArg₂ (fun d g => nrm 0x3F24FD5C#32 d g _) (funext fun k => congrArg₂ (fun u v => u - lam 0x3EB60549#32 (argL m c) * v) (iblk_a m c t i _ _ rfl) (iblk_a m c t i _ _ rfl)) (funext fun k => iblk_g m c t k)

end Cert.Kernel15Ideal.Val

namespace Cert.Reference15Ideal.Val

open Idealize.ShloMosaic Idealize.ShloMosaic.TcCoe
open Cert.Reference15Ideal Cert.Reference15Ideal.Read
open Cert.Kernel15Ideal.Val (arr res nrm lam)

variable (a : Vec Ideal S8192x2048 .f32) (l : Vec Ideal S4x128 .f32) (g : Vec Ideal S256 .f32)

theorem lam_eq : val_main_v16 (F := Ideal) l ix0 = lam 0x3EB60549#32 l := by
  unfold lam
  pointwise [val_main_v16, val_main_cst_1, val_main_v15, val_main_v14, val_main_v13, val_main_cst_0, val_main_v12, val_main_v11, val_main_v10, val_main_v9, val_main_v8, val_main_v7, val_main_v6, val_main_cst, val_main_v5, val_main_v4, val_main_v3, val_main_v2, val_main_v1]

theorem dif_eq (b : Fin 2) (p : Fin 4096) (h : Fin 4) (k : Fin 256) (r : Fin 8192) (hr : b.val * 4096 + p.val = r.val) :
    val_main_v23 a l (ix4 b p h k) = a (ix2 r ⟨512 * h.val + k.val, by omega⟩) - lam 0x3EB60549#32 l * a (ix2 r ⟨512 * h.val + 256 + k.val, by omega⟩) := by
  rw [← lam_eq]
  pointwise [val_main_v23, val_main_v22, val_main_v21, val_main_v20, val_main_v19, val_main_v18, val_main_v17, val_main_v0]
  simp only [hr, Nat.mul_comm h.val 512]

/-- The reference is the same. -/
theorem out_eq : val_main_v40 a l g = arr 0x3EB60549#32 0x3F24FD5C#32 (fun (r : Fin 8192) k => a (ix2 r k)) l (fun k => g (ix1 k)) := by
  funext y
  obtain ⟨r, n, rfl⟩ := Cert.Kernel3Ideal.Val.exists_ix2 y
  show _ = res _ _ _ _ _ r ⟨n.val / 256, by omega⟩ ⟨n.val % 256, Nat.mod_lt _ (by decide)⟩
  unfold res nrm
  pointwise [val_main_v40, val_main_v39, val_main_v38, val_main_v37, val_main_cst_5, val_main_v36, val_main_v35, val_main_v34, val_main_v33, val_main_v32, val_main_v31, val_main_v30, val_main_v29, val_main_cst_4, val_main_v28, val_main_v27, val_main_cst_3, val_main_v26, val_main_v25, val_main_cst_2, val_main_v24]
  simp only [dif_eq a l ⟨r.val / 4096, by omega⟩ ⟨r.val % 4096, by omega⟩ _ _ r (Nat.div_add_mod' _ _)]

end Cert.Reference15Ideal.Val
end
-- ==== Proof.DiffNorm3.lean ====
/- The same difference as the second odd layer makes it. -/
module

public import proofs.«01_k».proof.Proof.Gen.Kernel17
public import proofs.«01_k».proof.Proof.Gen.Kernel17Ideal.Value
public import proofs.«01_k».proof.Proof.Gen.Reference17Ideal.Read
public import proofs.«01_k».proof.Proof.Gen.Reference17Ideal.Run
public import proofs.«01_k».proof.Proof.DiffNorm

@[expose] public section

set_option maxRecDepth 16384

noncomputable section

namespace Cert.Kernel17Ideal.Val

open Idealize.ShloMosaic Idealize.ShloMosaic.TcCoe
open Idealize.ShloMosaic.Pipeline
open Cert.Kernel17Ideal Cert.Kernel17Ideal.Gen
open Cert.Kernel3Ideal.Val (ix_of exists_ix2)
open Cert.Rot64 (zero_row)
open Cert.Kernel15Ideal.Val (lam nrm res arr arr_at)

theorem block_apply (a : Vec Ideal S512x2048 .f32) (l : Vec Ideal S4x128 .f32) (g : Vec Ideal S1x256 .f32) (y : S512x1024.Idx) :
    out0_3 a l g y = arr 0x3F0E59D5#32 0x3EE34C57#32 (fun (i : Fin 512) k => a (ix2 i k)) l (fun k => g (ix2 0 k)) y := by
  unfold out0_3
  refine View.canon_apply_of_pieces (Val := Elt Ideal) (e := .bf16) (arr 0x3F0E59D5#32 0x3EE34C57#32 (fun (i : Fin 512) k => a (ix2 i k)) l (fun k => g (ix2 0 k)) : S512x1024.Idx → EReal) _ ?_ y (cover0_3 _ _ _ _ y)
  intro p hp x
  have go : ∀ (h : Fin 4) (inb) (v : S512x256.Idx → EReal), (∀ (i : Fin 512) (k : Fin 256), v (ix2 i k) = res 0x3F0E59D5#32 0x3EE34C57#32 (fun (i : Fin 512) k => a (ix2 i k)) l (fun k => g (ix2 0 k)) i h k) →
      ∀ x : S512x256.Idx, v x = arr 0x3F0E59D5#32 0x3EE34C57#32 (fun (i : Fin 512) k => a (ix2 i k)) l (fun k => g (ix2 0 k)) ((Rect.unit (s := S512x1024) ![0, 256 * h.val] S512x256.size inb).emb x) := by
    intro h inb v hv x
    obtain ⟨i, k, rfl⟩ := exists_ix2 x
    exact (hv i k).trans (arr_at _ _ _ l _ i h k _ (ValueKit.rect_emb_unit_val _ _ inb (ix2 i k) 0) (ValueKit.rect_emb_unit_val _ _ inb (ix2 i k) 1))
  simp only [List.mem_cons, List.not_mem_nil, or_false] at hp
  rcases hp with rfl | rfl | rfl | rfl
  · exact go 3 (by decide) _ (fun i k => by unfold res nrm lam; pointwise [k0_pay2, k0_pay8, k0_pay3]) x
  · exact go 2 (by decide) _ (fun i k => by unfold res nrm lam; pointwise [k0_pay1, k0_pay6, k0_pay7, k0_pay8, k0_pay3]) x
  · exact go 1 (by decide) _ (fun i k => by unfold res nrm lam; pointwise [k0_pay5, k0_pay8, k0_pay3]) x
  · exact go 0 (by decide) _ (fun i k => by unfold res nrm lam; pointwise [k0_pay4, k0_pay3]) x

variable (m : (ℓ : Loc nD τ sig) → Buf (Elt Ideal) ℓ) (c : Dev nD)

/-- What a device is given. -/
def argA : S8192x2048.Idx → EReal := m ((c.tc : Thread nD τ).loc main_arg0)
@[inherit_doc argA] def argL : S4x128.Idx → EReal := m ((c.tc : Thread nD τ).loc main_arg1)
@[inherit_doc argA] def argG : S256.Idx → EReal := m ((c.tc : Thread nD τ).loc main_arg2)

/-- What the kernel reads. -/
theorem V_host : V m c main_arg0 = argA m c ∧ V m c main_arg1 = argL m c ∧ V m c main_v0 = (shapeCast S1x256 (argG m c) shapeCasts_S256_S1x256 : FVec Ideal S1x256 .f32) := by
  refine ⟨?_, ?_, ?_⟩ <;> (unfold V; after_results; rfl)

theorem index_a : ∀ t : Fin grid0.N, win0_0.index t = ![(grid0.coords t 0).val, 0] := by decide +kernel
theorem index_l : ∀ t : Fin grid0.N, win0_1.index t = ![0, 0] := by decide +kernel
theorem index_g : ∀ t : Fin grid0.N, win0_2.index t = ![0, 0] := by decide +kernel
theorem index_o : ∀ t : Fin grid0.N, win0_3.index t = ![(grid0.coords t 0).val, 0] := by decide +kernel

theorem iblk_a (t : Fin grid0.N) (i : Fin 512) (k : Fin 2048) (r : Fin 8192) (hr : r.val = (grid0.coords t 0).val * 512 + i.val) :
    (iblk m c 0 t : S512x2048.Idx → EReal) (ix2 i k) = argA m c (ix2 r k) := by
  rw [← (V_host m c).1]
  refine congrArg (V m c main_arg0 : S8192x2048.Idx → EReal) (ix_of _ r k ?_ ?_)
  · exact (win0_0.rect_emb_val t _ 0).trans (by rw [index_a]; exact hr.symm)
  · exact (win0_0.rect_emb_val t _ 1).trans (by rw [index_a]; exact zero_row _ _)

theorem iblk_l (t : Fin grid0.N) : (iblk m c 1 t : S4x128.Idx → EReal) = argL m c := by
  funext y
  obtain ⟨i, k, rfl⟩ := exists_ix2 y
  rw [← (V_host m c).2.1]
  refine congrArg (V m c main_arg1 : S4x128.Idx → EReal) (ix_of _ i k ?_ ?_)
  · exact (win0_1.rect_emb_val t _ 0).trans (by rw [index_l]; exact zero_row _ _)
  · exact (win0_1.rect_emb_val t _ 1).trans (by rw [index_l]; exact zero_row _ _)

theorem iblk_g (t : Fin grid0.N) (k : Fin 256) : (iblk m c 2 t : S1x256.Idx → EReal) (ix2 0 k) = argG m c (ix1 k) := by
  have e : (V m c main_v0 : S1x256.Idx → EReal) (ix2 0 k) = argG m c (ix1 k) := by
    rw [(V_host m c).2.2]
    pointwise
  refine Eq.trans (congrArg (V m c main_v0 : S1x256.Idx → EReal) (ix_of _ 0 k ?_ ?_)) e
  · exact (win0_2.rect_emb_val t _ 0).trans (by rw [index_g]; exact zero_row _ _)
  · exact (win0_2.rect_emb_val t _ 1).trans (by rw [index_g]; exact zero_row _ _)

/-- The kernel's result. -/
theorem result_eq : (dats m 0 c).arrAt 3 cfg0.N = arr 0x3F0E59D5#32 0x3EE34C57#32 (fun (r : Fin 8192) k => argA m c (ix2 r k)) (argL m c) (fun k => argG m c (ix1 k)) := by
  refine (dats m 0 c).arrAt_eq_of_covers 3 (arr 0x3F0E59D5#32 0x3EE34C57#32 (fun (r : Fin 8192) k => argA m c (ix2 r k)) (argL m c) (fun k => argG m c (ix1 k)) : S8192x1024.Idx → EReal) (by decide +kernel) fun t hf y => ?_
  obtain ⟨i, j, rfl⟩ := exists_ix2 y
  blk_simp
  rw [after0_3]
  refine (block_apply _ _ _ (ix2 i j)).trans ?_
  have h0 : (grid0.coords t 0).val < 16 := (grid0.coords t 0).isLt
  have e : (win0_3.blk t).view.emb (ix2 i j) = ix2 (⟨(grid0.coords t 0).val * 512 + i.val, by omega⟩ : Fin 8192) j :=
    ix_of _ _ _ ((win0_3.rect_emb_val t _ 0).trans (by rw [index_o]; rfl)) ((win0_3.rect_emb_val t _ 1).trans (by rw [index_o]; exact zero_row _ _))
  rw [e]
  unfold arr res
  rw [iblk_l]
  exact congrArg₂ (fun d g => nrm 0x3EE34C57#32 d g _) (funext fun k => congrArg₂ (fun u v => u - lam 0x3F0E59D5#32 (argL m c) * v) (iblk_a m c t i _ _ rfl) (iblk_a m c t i _ _ rfl)) (funext fun k => iblk_g m c t k)

end Cert.Kernel17Ideal.Val

namespace Cert.Reference17Ideal.Val

open Idealize.ShloMosaic Idealize.ShloMosaic.TcCoe
open Cert.Reference17Ideal Cert.Reference17Ideal.Read
open Cert.Kernel15Ideal.Val (arr res nrm lam)

variable (a : Vec Ideal S8192x2048 .f32) (l : Vec Ideal S4x128 .f32) (g : Vec Ideal S256 .f32)

theorem lam_eq : val_main_v16 (F := Ideal) l ix0 = lam 0x3F0E59D5#32 l := by
  unfold lam
  pointwise [val_main_v16, val_main_cst_1, val_main_v15, val_main_v14, val_main_v13, val_main_cst_0, val_main_v12, val_main_v11, val_main_v10, val_main_v9, val_main_v8, val_main_v7, val_main_v6, val_main_cst, val_main_v5, val_main_v4, val_main_v3, val_main_v2, val_main_v1]

theorem dif_eq (b : Fin 2) (p : Fin 4096) (h : Fin 4) (k : Fin 256) (r : Fin 8192) (hr : b.val * 4096 + p.val = r.val) :
    val_main_v23 a l (ix4 b p h k) = a (ix2 r ⟨512 * h.val + k.val, by omega⟩) - lam 0x3F0E59D5#32 l * a (ix2 r ⟨512 * h.val + 256 + k.val, by omega⟩) := by
  rw [← lam_eq]
  pointwise [val_main_v23, val_main_v22, val_main_v21, val_main_v20, val_main_v19, val_main_v18, val_main_v17, val_main_v0]
  simp only [hr, Nat.mul_comm h.val 512]

/-- The reference is the same. -/
theorem out_eq : val_main_v40 a l g = arr 0x3F0E59D5#32 0x3EE34C57#32 (fun (r : Fin 8192) k => a (ix2 r k)) l (fun k => g (ix1 k)) := by
  funext y
  obtain ⟨r, n, rfl⟩ := Cert.Kernel3Ideal.Val.exists_ix2 y
  show _ = res _ _ _ _ _ r ⟨n.val / 256, by omega⟩ ⟨n.val % 256, Nat.mod_lt _ (by decide)⟩
  unfold res nrm
  pointwise [val_main_v40, val_main_v39, val_main_v38, val_main_v37, val_main_cst_5, val_main_v36, val_main_v35, val_main_v34, val_main_v33, val_main_v32, val_main_v31, val_main_v30, val_main_v29, val_main_cst_4, val_main_v28, val_main_v27, val_main_cst_3, val_main_v26, val_main_v25, val_main_cst_2, val_main_v24]
  simp only [dif_eq a l ⟨r.val / 4096, by omega⟩ ⟨r.val % 4096, by omega⟩ _ _ r (Nat.div_add_mod' _ _)]

end Cert.Reference17Ideal.Val
end
-- ==== Proof.Scan.lean ====
/- The forget gates' scan: the running sums of the logarithms of the gates, a batch at a time. -/
module

public import proofs.«01_k».proof.Proof.Gen.Kernel16
public import proofs.«01_k».proof.Proof.Gen.Kernel16Ideal.Value
public import proofs.«01_k».proof.Proof.Gates

@[expose] public section

set_option maxRecDepth 16384

noncomputable section

namespace Cert.Kernel16Ideal.Val

open Idealize.ShloMosaic Idealize.ShloMosaic.TcCoe
open Idealize.ShloMosaic.Pipeline
open Cert.Kernel16Ideal Cert.Kernel16Ideal.Gen
open Cert.Kernel3Ideal.Val (ix_of exists_ix2)
open Cert.Rot64 (zero_row)

/-- The logarithm of the gate of a logit. -/
def lg (z : EReal) : EReal := min z 0 - Ideal.log (1 + Ideal.exp (0 - max z (-z)))

/-- The logarithm of one plus an exponential is not the lowest value. -/
theorem log_ne_bot (w : EReal) : Ideal.log (1 + Ideal.exp w) ≠ ⊥ := by
  induction w with
  | bot =>
    rw [show Ideal.exp ⊥ = ((0 : ℝ) : EReal) from rfl, ← EReal.coe_one, ← EReal.coe_add]
    show (if (1 + 0 : ℝ) ≤ 0 then (⊥ : EReal) else (Real.log (1 + 0) : EReal)) ≠ ⊥
    rw [if_neg (by norm_num)]
    exact EReal.coe_ne_bot _
  | top =>
    rw [show Ideal.exp ⊤ = (⊤ : EReal) from rfl, ← EReal.coe_one, EReal.coe_add_top]
    exact top_ne_bot
  | coe r =>
    rw [show Ideal.exp (r : EReal) = (Real.exp r : EReal) from rfl, ← EReal.coe_one, ← EReal.coe_add]
    show (if 1 + Real.exp r ≤ 0 then (⊥ : EReal) else (Real.log (1 + Real.exp r) : EReal)) ≠ ⊥
    rw [if_neg (by have := Real.exp_pos r; linarith)]
    exact EReal.coe_ne_bot _

/-- The same logarithm as the negated softplus of the negated logit. -/
theorem lg_eq (y : EReal) : lg y = -(max (-y) 0 + Ideal.log (1 + Ideal.exp (-max (-y) y))) := by
  unfold lg
  rw [EReal.neg_add (Or.inl (ne_of_gt (lt_of_lt_of_le EReal.bot_lt_zero (le_max_right _ _)))) (Or.inr (log_ne_bot _)), sub_eq_add_neg 0, zero_add, max_comm y]
  congr 1
  rcases le_total y 0 with h | h
  · rw [min_eq_left h, max_eq_left (by rw [← neg_zero]; exact EReal.neg_le_neg_iff.mpr h), neg_neg]
  · rw [min_eq_right h, max_eq_right (by rw [← neg_zero]; exact EReal.neg_le_neg_iff.mpr h), neg_zero]

/-- A step: the running sums within 256 rows, after the carry. -/
def stp (a : Vec Ideal S256x128 .f32) (b : Vec Ideal S1x128 .f32) (c : FVec Ideal S1x128 .f32) : FVec Ideal S256x128 .f32 := k0_pay1 (k0_pay2 (F := Ideal)) c a b

theorem le_bit : ∀ d i : Fin 256, IntOp.cmpi .sle (BitVec.ofNat 32 d.val) (BitVec.ofNat 32 i.val) = BitVec.ofBool (decide (d.val ≤ i.val)) := by decide +kernel

theorem stp_apply (a : Vec Ideal S256x128 .f32) (b : Vec Ideal S1x128 .f32) (c : FVec Ideal S1x128 .f32) (i : Fin 256) (n : Fin 128) :
    stp a b c (ix2 i n) = (∑ d : Fin 256, (if d.val ≤ i.val then lg (a (ix2 d n) + b (ix2 0 n)) else 0)) + c (ix2 0 n) := by
  unfold lg stp
  pointwise [k0_pay1, k0_pay2]
  refine congrArg (· + c (ix2 0 n)) (Finset.sum_congr rfl fun d _ => ?_)
  rw [le_bit]
  by_cases h : d.val ≤ i.val
  · rw [if_pos h, decide_eq_true h]; rfl
  · rw [if_neg h, decide_eq_false h]; rfl

/-- A row's logarithm in a block, and none past its end. -/
def row (x : Vec Ideal S4096x128 .f32) (b : Vec Ideal S1x128 .f32) (n : Fin 128) (j : ℕ) : EReal := if h : j < 4096 then lg (x (ix2 ⟨j, h⟩ n) + b (ix2 0 n)) else 0

/-- A carry that holds the sums over the first `o` rows. -/
def Good (x : Vec Ideal S4096x128 .f32) (b : Vec Ideal S1x128 .f32) (o : ℕ) (c : FVec Ideal S1x128 .f32) : Prop := ∀ n : Fin 128, c (ix2 0 n) = ∑ j ∈ Finset.range o, row x b n j

/-- A sum over the columns up to the diagonal. -/
theorem sum_upto (L : ℕ → EReal) (q N : ℕ) (h : q < N) : (∑ d ∈ Finset.range N, if d ≤ q then L d else 0) = ∑ d ∈ Finset.range (q + 1), L d := by
  obtain ⟨e, rfl⟩ : ∃ e, N = q + 1 + e := ⟨N - (q + 1), by omega⟩
  rw [Finset.sum_range_add, Finset.sum_eq_zero (s := Finset.range e) (fun d _ => if_neg (by omega)), add_zero]
  exact Finset.sum_congr rfl fun d hd => if_pos (by have := Finset.mem_range.mp hd; omega)

variable {x : Vec Ideal S4096x128 .f32} {b : Vec Ideal S1x128 .f32}

theorem stp_eq (o : ℕ) (inb) (c : FVec Ideal S1x128 .f32) (hc : Good x b o c) (ho : o + 256 ≤ 4096) (i : Fin 256) (n : Fin 128) :
    stp (View.ld x (Rect.unit (s := S4096x128) ![o, 0] S256x128.size inb)) (View.ld b r0_1) c (ix2 i n) = ∑ j ∈ Finset.range (o + (i.val + 1)), row x b n j := by
  have eb : View.ld b r0_1 (ix2 0 n) = b (ix2 0 n) :=
    congrArg b (ix_of _ 0 n (ValueKit.rect_emb_unit_val (s := S1x128) ![0, 0] S1x128.size inb_S1x128_S1x128_0_0 (ix2 0 n) 0) ((ValueKit.rect_emb_unit_val (s := S1x128) ![0, 0] S1x128.size inb_S1x128_S1x128_0_0 (ix2 0 n) 1).trans (Nat.zero_add _)))
  have ea : ∀ d : Fin 256, lg (View.ld x (Rect.unit (s := S4096x128) ![o, 0] S256x128.size inb) (ix2 d n) + View.ld b r0_1 (ix2 0 n)) = row x b n (o + d.val) := fun d => by
    rw [eb]
    unfold row
    rw [dif_pos (by omega)]
    exact congrArg (fun u => lg (u + b (ix2 0 n))) (congrArg x (ix_of _ ⟨o + d.val, by omega⟩ n (ValueKit.rect_emb_unit_val _ _ inb (ix2 d n) 0) ((ValueKit.rect_emb_unit_val _ _ inb (ix2 d n) 1).trans (Nat.zero_add _))))
  rw [stp_apply, hc n, Finset.sum_range_add, add_comm]
  refine congrArg (_ + ·) ?_
  simp only [ea]
  exact (Fin.sum_univ_eq_sum_range (fun d => if d ≤ i.val then row x b n (o + d) else 0) 256).trans (sum_upto (fun d => row x b n (o + d)) i.val 256 i.isLt)

/-- The carry after a step. -/
theorem next (o : ℕ) (inb) (c : FVec Ideal S1x128 .f32) (hc : Good x b o c) (ho : o + 256 ≤ 4096) :
    Good x b (o + 256) (extractStridedSlice S1x128 ![255, 0] (stp (View.ld x (Rect.unit (s := S4096x128) ![o, 0] S256x128.size inb)) (View.ld b r0_1) c) slices_S256x128_o255_0_S1x128) := by
  intro n
  pointwise
  exact stp_eq o inb c hc ho 255 n

theorem good_zero : Good x b 0 (broadcast S1x128 (Scalar.ofBits .f32 0x00000000#32 : Ideal .f32)) := by
  intro n
  pointwise
  exact (Finset.sum_range_zero _).symm

/-- The running sums of a block. -/
def blk (x : Vec Ideal S4096x128 .f32) (b : Vec Ideal S1x128 .f32) : S4096x128.Idx → EReal := fun y => ∑ j ∈ Finset.range ((y 0).val + 1), row x b ⟨(y 1).val, (y 1).isLt⟩ j

theorem block_apply (x : Vec Ideal S4096x128 .f32) (b : Vec Ideal S1x128 .f32) (y : S4096x128.Idx) : out0_2 x b y = blk x b y := by
  unfold out0_2
  refine View.canon_apply_of_pieces (Val := Elt Ideal) (e := .f32) (blk x b) _ ?_ y (cover0_2 _ _ _ _ _ _ _ _ _ _ _ _ _ _ _ _ y)
  intro p hp z
  have go : ∀ (o : ℕ) (inb) (c : FVec Ideal S1x128 .f32), Good x b o c → o + 256 ≤ 4096 → ∀ z : S256x128.Idx,
      stp (View.ld x (Rect.unit (s := S4096x128) ![o, 0] S256x128.size inb)) (View.ld b r0_1) c z = blk x b ((Rect.unit (s := S4096x128) ![o, 0] S256x128.size inb).emb z) := by
    intro o inb c hc ho z
    obtain ⟨i, n, rfl⟩ := exists_ix2 z
    have e0 := ValueKit.rect_emb_unit_val (s := S4096x128) ![o, 0] S256x128.size inb (ix2 i n) 0
    have e1 := (ValueKit.rect_emb_unit_val (s := S4096x128) ![o, 0] S256x128.size inb (ix2 i n) 1).trans (Nat.zero_add _)
    refine (stp_eq o inb c hc ho i n).trans ?_
    unfold blk
    exact congrArg₂ (fun q k => ∑ j ∈ Finset.range (q + 1), row x b k j) e0.symm (Fin.ext e1.symm)
  have g1 : Good x b 256 (k0_pay40 x b) := next 0 _ _ good_zero (by decide)
  have g2 := next 256 inb_S4096x128_S256x128_256_0 _ g1 (by decide)
  have g3 : Good x b 768 (k0_pay43 x b) := next 512 inb_S4096x128_S256x128_512_0 _ g2 (by decide)
  have g4 := next 768 inb_S4096x128_S256x128_768_0 _ g3 (by decide)
  have g5 : Good x b 1280 (k0_pay46 x b) := next 1024 inb_S4096x128_S256x128_1024_0 _ g4 (by decide)
  have g6 := next 1280 inb_S4096x128_S256x128_1280_0 _ g5 (by decide)
  have g7 : Good x b 1792 (k0_pay49 x b) := next 1536 inb_S4096x128_S256x128_1536_0 _ g6 (by decide)
  have g8 := next 1792 inb_S4096x128_S256x128_1792_0 _ g7 (by decide)
  have g9 : Good x b 2304 (k0_pay52 x b) := next 2048 inb_S4096x128_S256x128_2048_0 _ g8 (by decide)
  have g10 := next 2304 inb_S4096x128_S256x128_2304_0 _ g9 (by decide)
  have g11 : Good x b 2816 (k0_pay54 x b) := next 2560 inb_S4096x128_S256x128_2560_0 _ g10 (by decide)
  have g12 := next 2816 inb_S4096x128_S256x128_2816_0 _ g11 (by decide)
  have g13 : Good x b 3328 (k0_pay56 x b) := next 3072 inb_S4096x128_S256x128_3072_0 _ g12 (by decide)
  have g14 := next 3328 inb_S4096x128_S256x128_3328_0 _ g13 (by decide)
  have g15 := next 3584 inb_S4096x128_S256x128_3584_0 _ g14 (by decide)
  simp only [List.mem_cons, List.not_mem_nil, or_false] at hp
  rcases hp with rfl | rfl | rfl | rfl | rfl | rfl | rfl | rfl | rfl | rfl | rfl | rfl | rfl | rfl | rfl | rfl
  · exact go 3840 _ _ g15 (by decide) z
  · exact go 3584 _ _ g14 (by decide) z
  · exact go 3328 _ _ g13 (by decide) z
  · exact go 3072 _ _ g12 (by decide) z
  · exact go 2816 _ _ g11 (by decide) z
  · exact go 2560 _ _ g10 (by decide) z
  · exact go 2304 _ _ g9 (by decide) z
  · exact go 2048 _ _ g8 (by decide) z
  · exact go 1792 _ _ g7 (by decide) z
  · exact go 1536 _ _ g6 (by decide) z
  · exact go 1280 _ _ g5 (by decide) z
  · exact go 1024 _ _ g4 (by decide) z
  · exact go 768 _ _ g3 (by decide) z
  · exact go 512 _ _ g2 (by decide) z
  · exact go 256 _ _ g1 (by decide) z
  · exact go 0 _ _ good_zero (by decide) z

/-- The bias of a column. -/
def bias (f : S8.Idx → EReal) (n : Fin 128) : EReal := if h : n.val < 8 then f (ix1 ⟨n.val, h⟩) else 0

/-- The running sum at a row and a column: over the rows of its batch up to it. -/
def res (z : S8192x128.Idx → EReal) (f : S8.Idx → EReal) (r : Fin 8192) (n : Fin 128) : EReal :=
  ∑ j ∈ Finset.range (r.val % 4096 + 1), if h : j < 4096 then lg (z (ix2 ⟨r.val / 4096 * 4096 + j, by omega⟩ n) + bias f n) else 0

/-- The sums as one array. -/
def arr (z : S8192x128.Idx → EReal) (f : S8.Idx → EReal) : S8192x128.Idx → EReal := fun y => res z f ⟨(y 0).val, (y 0).isLt⟩ ⟨(y 1).val, (y 1).isLt⟩

theorem arr_ix (z : S8192x128.Idx → EReal) (f : S8.Idx → EReal) (r : Fin 8192) (n : Fin 128) : arr z f (ix2 r n) = res z f r n := rfl

variable (m : (ℓ : Loc nD τ sig) → Buf (Elt Ideal) ℓ) (c : Dev nD)

/-- What a device is given. -/
def argZ : S8192x128.Idx → EReal := m ((c.tc : Thread nD τ).loc main_arg0)
@[inherit_doc argZ] def argF : S8.Idx → EReal := m ((c.tc : Thread nD τ).loc main_arg1)

/-- What the kernel reads. -/
theorem V_host : V m c main_arg0 = argZ m c ∧ V m c main_v1 = (shapeCast S1x128 (pad S128 ![0] ![120] ![0] (argF m c) (sitofp .f32 (constantI S_ 32 0#32) : FVec Ideal S_ .f32) pads_S8_S128_01200 h_S_ : FVec Ideal S128 .f32) shapeCasts_S128_S1x128 : FVec Ideal S1x128 .f32) := by
  refine ⟨?_, ?_⟩ <;>
    (unfold V; simp only [hostOps0, hostOps0_1, hostOps0_2, List.flatten_cons, List.flatten_nil, List.cons_append, List.nil_append, List.append_nil]; after_results; rfl)

theorem index_z : ∀ t : Fin grid0.N, win0_0.index t = ![(grid0.coords t 0).val, 0] := by decide +kernel
theorem index_b : ∀ t : Fin grid0.N, win0_1.index t = ![0, 0] := by decide +kernel
theorem index_o : ∀ t : Fin grid0.N, win0_2.index t = ![(grid0.coords t 0).val, 0] := by decide +kernel

theorem iblk_z (t : Fin grid0.N) (i : Fin 4096) (n : Fin 128) (r : Fin 8192) (hr : r.val = (grid0.coords t 0).val * 4096 + i.val) :
    (iblk m c 0 t : S4096x128.Idx → EReal) (ix2 i n) = argZ m c (ix2 r n) := by
  rw [← (V_host m c).1]
  refine congrArg (V m c main_arg0 : S8192x128.Idx → EReal) (ix_of _ r n ?_ ?_)
  · exact (win0_0.rect_emb_val t _ 0).trans (by rw [index_z]; exact hr.symm)
  · exact (win0_0.rect_emb_val t _ 1).trans (by rw [index_z]; exact zero_row _ _)

theorem iblk_b (t : Fin grid0.N) (n : Fin 128) : (iblk m c 1 t : S1x128.Idx → EReal) (ix2 0 n) = bias (argF m c) n := by
  have e : (V m c main_v1 : S1x128.Idx → EReal) (ix2 0 n) = bias (argF m c) n := by
    rw [(V_host m c).2]
    unfold bias
    pointwise
    split_ifs <;> first | omega | rfl | exact Cert.Kernel14Ideal.Val.sitofp_zero
  refine Eq.trans (congrArg (V m c main_v1 : S1x128.Idx → EReal) (ix_of _ 0 n ?_ ?_)) e
  · exact (win0_1.rect_emb_val t _ 0).trans (by rw [index_b]; exact zero_row _ _)
  · exact (win0_1.rect_emb_val t _ 1).trans (by rw [index_b]; exact zero_row _ _)

/-- The kernel's result. -/
theorem result_eq : (dats m 0 c).arrAt 2 cfg0.N = arr (argZ m c) (argF m c) := by
  refine (dats m 0 c).arrAt_eq_of_covers 2 (arr (argZ m c) (argF m c)) (by decide +kernel) fun t hf y => ?_
  obtain ⟨i, j, rfl⟩ := exists_ix2 y
  blk_simp
  rw [after0_2]
  refine (block_apply _ _ (ix2 i j)).trans ?_
  have h0 : (grid0.coords t 0).val < 2 := (grid0.coords t 0).isLt
  have e : (win0_2.blk t).view.emb (ix2 i j) = ix2 (⟨(grid0.coords t 0).val * 4096 + i.val, by omega⟩ : Fin 8192) j :=
    ix_of _ _ _ ((win0_2.rect_emb_val t _ 0).trans (by rw [index_o]; rfl)) ((win0_2.rect_emb_val t _ 1).trans (by rw [index_o]; exact zero_row _ _))
  rw [e, arr_ix]
  show (∑ q ∈ Finset.range (i.val + 1), row _ _ j q) = _
  unfold res row
  simp only [iblk_b]
  have e1 : ((grid0.coords t 0).val * 4096 + i.val) % 4096 = i.val := by omega
  have e2 : ((grid0.coords t 0).val * 4096 + i.val) / 4096 = (grid0.coords t 0).val := by omega
  simp only [e1]
  refine Finset.sum_congr rfl fun q _ => dite_congr rfl (fun h => ?_) fun _ => rfl
  exact congrArg (fun u => lg (u + bias (argF m c) j)) (iblk_z m c t ⟨q, h⟩ j _ (by show _ / 4096 * 4096 + q = _; rw [e2]))

end Cert.Kernel16Ideal.Val
end
-- ==== Proof.ScanRef.lean ====
/- The reference's running sums are the forget gates' scan. -/
module

public import proofs.«01_k».proof.Proof.Gen.Reference16Ideal.Read
public import proofs.«01_k».proof.Proof.Gen.Reference16Ideal.Run
public import proofs.«01_k».proof.Proof.Scan

@[expose] public section

set_option maxRecDepth 16384

noncomputable section

namespace Cert.Reference16Ideal.Val

open Idealize.ShloMosaic Idealize.ShloMosaic.TcCoe
open Cert.Reference16Ideal Cert.Reference16Ideal.Gen Cert.Reference16Ideal.Read
open Cert.Kernel16Ideal.Val (lg lg_eq bias arr arr_ix res)

/-- A window of a column, read at a position. -/
theorem window_ix (k : Fin (⟨3, ![1, 4096, 1]⟩ : Shape).numel) :
    (((⟨3, ![1, 4096, 1]⟩ : Shape).rowMajor.symm k) 0).val = 0 ∧ (((⟨3, ![1, 4096, 1]⟩ : Shape).rowMajor.symm k) 1).val = k.val ∧ (((⟨3, ![1, 4096, 1]⟩ : Shape).rowMajor.symm k) 2).val = 0 := by
  have h := Shape.rowMajor_val_three ((⟨3, ![1, 4096, 1]⟩ : Shape).rowMajor.symm k)
  rw [Equiv.apply_symm_apply] at h
  have h0 : (((⟨3, ![1, 4096, 1]⟩ : Shape).rowMajor.symm k) 0).val < 1 := (((⟨3, ![1, 4096, 1]⟩ : Shape).rowMajor.symm k) 0).isLt
  have h2 : (((⟨3, ![1, 4096, 1]⟩ : Shape).rowMajor.symm k) 2).val < 1 := (((⟨3, ![1, 4096, 1]⟩ : Shape).rowMajor.symm k) 2).isLt
  have h' : k.val = ((((⟨3, ![1, 4096, 1]⟩ : Shape).rowMajor.symm k) 0).val * 4096 + (((⟨3, ![1, 4096, 1]⟩ : Shape).rowMajor.symm k) 1).val) * 1 + (((⟨3, ![1, 4096, 1]⟩ : Shape).rowMajor.symm k) 2).val := h
  refine ⟨?_, ?_, ?_⟩ <;> omega

/-- A fold that adds is a sum. -/
theorem fold_add {ι : Type} (g : ι → EReal) : ∀ (l : List ι) (v : EReal), l.foldl (fun r k => r + g k) v = v + (l.map g).sum
  | [], v => by simp
  | k :: l, v => by rw [List.foldl_cons, fold_add g l, List.map_cons, List.sum_cons, add_assoc]

/-- What a window that ends at a row holds at a position: nothing before the first row. -/
def wnd (x : S2x4096x128.Idx → EReal) (b : Fin 2) (p : Fin 4096) (n : Fin 128) (q : ℕ) : EReal :=
  if 4095 ≤ p.val + q then (if hj : p.val + q - 4095 < 4096 then x (ix3 b ⟨p.val + q - 4095, hj⟩ n) else 0) else 0

theorem wnd_pos (x : S2x4096x128.Idx → EReal) (b : Fin 2) (p : Fin 4096) (n : Fin 128) (q : ℕ) (j : Fin 4096) (hj : p.val + q = j.val + 4095) :
    wnd x b p n q = x (ix3 b j n) := by
  unfold wnd
  rw [if_pos (by omega), dif_pos (by omega)]
  exact congrArg (fun j => x (ix3 b j n)) (Fin.ext (by show p.val + q - 4095 = j.val; omega))

theorem wnd_neg (x : S2x4096x128.Idx → EReal) (b : Fin 2) (p : Fin 4096) (n : Fin 128) (q : ℕ) (hp : ¬ 4095 ≤ p.val + q) : wnd x b p n q = 0 := by
  unfold wnd
  rw [if_neg hp]

/-- The sums over the windows that end at a row are the running sums. -/
theorem window_sum (h : S2x4096x128.ReduceWindows ![1, 4096, 1] ![1, 1, 1] ![0, 4095, 0] ![0, 0, 0] S2x4096x128) (x : S2x4096x128.Idx → EReal) (b : Fin 2) (p : Fin 4096) (n : Fin 128) :
    Ideal.hostReduceWindowAdd ![1, 4096, 1] ![1, 1, 1] ![0, 4095, 0] ![0, 0, 0] h x 0 (ix3 b p n) = ∑ j ∈ Finset.range (p.val + 1), if hj : j < 4096 then x (ix3 b ⟨j, hj⟩ n) else 0 := by
  unfold Ideal.hostReduceWindowAdd Host.reduceWindow
  refine (fold_add _ _ _).trans ?_
  rw [zero_add, ← Fin.sum_univ_def]
  refine (Finset.sum_congr rfl (g := fun k => wnd x b p n k.val) fun k _ => ?_).trans ?_
  · obtain ⟨w0, w1, w2⟩ := window_ix k
    have hk : k.val < 4096 := k.isLt
    by_cases hp : 4095 ≤ p.val + k.val
    · obtain ⟨j, hj⟩ : ∃ j : Fin 4096, p.val + k.val = j.val + 4095 := ⟨⟨p.val + k.val - 4095, by omega⟩, by show _ = p.val + k.val - 4095 + 4095; omega⟩
      have hin : ∀ a : Fin 3, ![0, 4095, 0] a ≤ ((ix3 b p n : S2x4096x128.Idx) a).val * ![1, 1, 1] a + (((⟨3, ![1, 4096, 1]⟩ : Shape).rowMajor.symm k) a).val ∧ ((ix3 b p n : S2x4096x128.Idx) a).val * ![1, 1, 1] a + (((⟨3, ![1, 4096, 1]⟩ : Shape).rowMajor.symm k) a).val - ![0, 4095, 0] a < S2x4096x128.size a := by
        intro a
        match a with
        | 0 => exact ⟨Nat.zero_le _, by show b.val * 1 + _ - 0 < 2; rw [w0]; omega⟩
        | 1 => exact ⟨by show 4095 ≤ p.val * 1 + _; rw [w1]; omega, by show p.val * 1 + _ - 4095 < 4096; rw [w1]; omega⟩
        | 2 => exact ⟨Nat.zero_le _, by show n.val * 1 + _ - 0 < 128; rw [w2]; omega⟩
      have hs : ∀ a : Fin 3, ((ix3 b p n : S2x4096x128.Idx) a).val * ![1, 1, 1] a + (((⟨3, ![1, 4096, 1]⟩ : Shape).rowMajor.symm k) a).val - ![0, 4095, 0] a = ((ix3 b j n : S2x4096x128.Idx) a).val := by
        intro a
        match a with
        | 0 => show b.val * 1 + _ - 0 = b.val; rw [w0]; omega
        | 1 => show p.val * 1 + _ - 4095 = j.val; rw [w1]; omega
        | 2 => show n.val * 1 + _ - 0 = n.val; rw [w2]; omega
      exact (dif_pos hin).trans ((congrArg x (funext fun a => Fin.ext (hs a))).trans (wnd_pos x b p n k.val j hj).symm)
    · refine (dif_neg fun hin => hp ?_).trans (wnd_neg x b p n k.val hp).symm
      have h1 : 4095 ≤ p.val * 1 + (((⟨3, ![1, 4096, 1]⟩ : Shape).rowMajor.symm k) 1).val := (hin 1).1
      omega
  · rw [Fin.sum_univ_eq_sum_range (wnd x b p n),
      show (⟨3, ![1, 4096, 1]⟩ : Shape).numel = (4095 - p.val) + (p.val + 1) from (show (⟨3, ![1, 4096, 1]⟩ : Shape).numel = 4096 by decide).trans (by omega), Finset.sum_range_add,
      Finset.sum_eq_zero (s := Finset.range (4095 - p.val)) (fun q hq => wnd_neg x b p n q (by have := Finset.mem_range.mp hq; omega)), zero_add]
    refine Finset.sum_congr rfl fun q _ => ?_
    have e : p.val + (4095 - p.val + q) - 4095 = q := by omega
    unfold wnd
    rw [if_pos (by omega)]
    simp only [e]

variable (z : Vec Ideal S8192x128 .f32) (f : Vec Ideal S8 .f32)

theorem log_eq (b : Fin 2) (p : Fin 4096) (n : Fin 128) (r : Fin 8192) (hr : b.val * 4096 + p.val = r.val) : val_main_v5 z f (ix3 b p n) = lg (z (ix2 r n) + bias f n) := by
  rw [lg_eq]
  unfold bias
  pointwise [val_main_v5, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0, val_main_v4, val_main_v3, val_main_v2, val_main_v1, val_main_cst, val_main_v0]
  simp only [hr]
  rw [if_neg (not_not.mpr rfl)]
  show -(max _ 0 + Ideal.log (1 + Ideal.exp (-max _ (- -_)))) = _
  rw [neg_neg]

/-- The reference is the same. -/
theorem out_eq : val_main_v7 z f = arr z f := by
  funext y
  obtain ⟨r, n, rfl⟩ := Cert.Kernel3Ideal.Val.exists_ix2 y
  rw [arr_ix]
  have e0 : val_main_call1_call0_v0 (F := Ideal) (Shape.Idx.first h_S_) = (0 : EReal) := by
    pointwise [val_main_call1_call0_v0, val_main_call1_call0_cst]
  have e : val_main_v6 z f (ix3 ⟨r.val / 4096, by omega⟩ ⟨r.val % 4096, by omega⟩ n) = res z f r n := by
    unfold val_main_v6
    simp only [Host.reduceWindowAdd, Ideal.hostReduceWindowAdd_def]
    rw [e0, window_sum]
    unfold res
    exact Finset.sum_congr rfl fun j _ => dite_congr rfl (fun h => log_eq z f _ ⟨j, h⟩ n _ rfl) fun _ => rfl
  refine Eq.trans ?_ e
  pointwise [val_main_v7]

end Cert.Reference16Ideal.Val
end
-- ==== Proof.Calls.lean ====
/- The further calls: each reference's run and the equal results. -/
module

public import proofs.«01_k».proof.Defs
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference10Ideal.Run
public import proofs.«01_k».proof.Proof.Further
public import proofs.«01_k».proof.Proof.Query
public import proofs.«01_k».proof.Proof.InProj
public import proofs.«01_k».proof.Proof.Norm
public import proofs.«01_k».proof.Proof.ProjLn
public import proofs.«01_k».proof.Proof.Latents
public import proofs.«01_k».proof.Proof.DiffValues
public import proofs.«01_k».proof.Proof.DiffRot
public import proofs.«01_k».proof.Proof.LatentKv
public import proofs.«01_k».proof.Proof.LatentQ
public import proofs.«01_k».proof.Proof.LatQRot
public import proofs.«01_k».proof.Proof.Gates
public import proofs.«01_k».proof.Proof.DiffNorm3
public import proofs.«01_k».proof.Proof.ScanRef

@[expose] public section

noncomputable section

namespace Cert.Further

open Idealize.ShloMosaic Idealize.SL.Sem

theorem frame_r2 : Cert.quiescent_Reference2Ideal := fun m g _ =>
  (θ_run Cert.Reference2Ideal.defs _ _).mono (fun r hr => ⟨fun c => (hr c).2, sem_eq_zero_of_no_sems (by decide) r.2⟩) (Cert.Reference2Ideal.Value.run m g)

theorem frame_r3 : Cert.quiescent_Reference3Ideal := fun m g _ =>
  (θ_run Cert.Reference3Ideal.defs _ _).mono (fun r hr => ⟨fun c => (hr c).2, sem_eq_zero_of_no_sems (by decide) r.2⟩) (Cert.Reference3Ideal.Value.run m g)

theorem frame_r4 : Cert.quiescent_Reference4Ideal := fun m g _ =>
  (θ_run Cert.Reference4Ideal.defs _ _).mono (fun r hr => ⟨fun c => (hr c).2.2.2, sem_eq_zero_of_no_sems (by decide) r.2⟩) (Cert.Reference4Ideal.Value.run m g)

theorem frame_r5 : Cert.quiescent_Reference5Ideal := fun m g _ =>
  (θ_run Cert.Reference5Ideal.defs _ _).mono (fun r hr => ⟨fun c => (hr c).2.2, sem_eq_zero_of_no_sems (by decide) r.2⟩) (Cert.Reference5Ideal.Value.run m g)

theorem frame_r6 : Cert.quiescent_Reference6Ideal := fun m g _ =>
  (θ_run Cert.Reference6Ideal.defs _ _).mono (fun r hr => ⟨fun c => (hr c).2, sem_eq_zero_of_no_sems (by decide) r.2⟩) (Cert.Reference6Ideal.Value.run m g)

theorem frame_r7 : Cert.quiescent_Reference7Ideal := fun m g _ =>
  (θ_run Cert.Reference7Ideal.defs _ _).mono (fun r hr => ⟨fun c => (hr c).2, sem_eq_zero_of_no_sems (by decide) r.2⟩) (Cert.Reference7Ideal.Value.run m g)

theorem frame_r8 : Cert.quiescent_Reference8Ideal := fun m g _ =>
  (θ_run Cert.Reference8Ideal.defs _ _).mono (fun r hr => ⟨fun c => (hr c).2, sem_eq_zero_of_no_sems (by decide) r.2⟩) (Cert.Reference8Ideal.Value.run m g)

theorem frame_r9 : Cert.quiescent_Reference9Ideal := fun m g _ =>
  (θ_run Cert.Reference9Ideal.defs _ _).mono (fun r hr => ⟨fun c => (hr c).2, sem_eq_zero_of_no_sems (by decide) r.2⟩) (Cert.Reference9Ideal.Value.run m g)

theorem frame_r10 : Cert.quiescent_Reference10Ideal := fun m g _ =>
  (θ_run Cert.Reference10Ideal.defs _ _).mono (fun r hr => ⟨fun c => (hr c).2, sem_eq_zero_of_no_sems (by decide) r.2⟩) (Cert.Reference10Ideal.Value.run m g)

theorem frame_r12 : Cert.quiescent_Reference12Ideal := fun m g _ =>
  (θ_run Cert.Reference12Ideal.defs _ _).mono (fun r hr => ⟨fun c => (hr c).2, sem_eq_zero_of_no_sems (by decide) r.2⟩) (Cert.Reference12Ideal.Value.run m g)

theorem frame_r13 : Cert.quiescent_Reference13Ideal := fun m g _ =>
  (θ_run Cert.Reference13Ideal.defs _ _).mono (fun r hr => ⟨fun c => (hr c).2, sem_eq_zero_of_no_sems (by decide) r.2⟩) (Cert.Reference13Ideal.Value.run m g)

theorem frame_r14 : Cert.quiescent_Reference14Ideal := fun m g _ =>
  (θ_run Cert.Reference14Ideal.defs _ _).mono (fun r hr => ⟨fun c => (hr c).2, sem_eq_zero_of_no_sems (by decide) r.2⟩) (Cert.Reference14Ideal.Value.run m g)

theorem frame_r15 : Cert.quiescent_Reference15Ideal := fun m g _ =>
  (θ_run Cert.Reference15Ideal.defs _ _).mono (fun r hr => ⟨fun c => (hr c).2, sem_eq_zero_of_no_sems (by decide) r.2⟩) (Cert.Reference15Ideal.Value.run m g)

theorem frame_r16 : Cert.quiescent_Reference16Ideal := fun m g _ =>
  (θ_run Cert.Reference16Ideal.defs _ _).mono (fun r hr => ⟨fun c => (hr c).2, sem_eq_zero_of_no_sems (by decide) r.2⟩) (Cert.Reference16Ideal.Value.run m g)

theorem frame_r17 : Cert.quiescent_Reference17Ideal := fun m g _ =>
  (θ_run Cert.Reference17Ideal.defs _ _).mono (fun r hr => ⟨fun c => (hr c).2, sem_eq_zero_of_no_sems (by decide) r.2⟩) (Cert.Reference17Ideal.Value.run m g)

/-- The even layers' input projection. -/
theorem equal2 : Cert.algebraic_Kernel2Ideal_Reference2Ideal := by
  intro m g m' g' _ hargs
  refine ⟨fun c => (Cert.Kernel2Ideal.Gen.dats m 0 c).arrAt 3 Cert.Kernel2Ideal.cfg0.N, Cert.Kernel2Ideal.Value.run_blocks m g,
    (θ_run Cert.Reference2Ideal.defs _ _).mono (fun r hr c => ⟨(hr c).1.trans ?_, (hr c).2⟩) (Cert.Reference2Ideal.Value.run m' g')⟩
  obtain ⟨e0, e1⟩ := hargs c
  rw [Cert.Reference2Ideal.Read.val_main_v14_eq, e0, e1]
  exact (Cert.Reference2Ideal.Val.out_eq _ _).trans (Cert.Kernel2Ideal.Val.result_eq m c).symm

/-- PEER's queries. -/
theorem equal3 : Cert.algebraic_Kernel3Ideal_Reference3Ideal := by
  intro m g m' g' _ hargs
  refine ⟨fun c => (Cert.Kernel3Ideal.Gen.dats m 0 c).arrAt 2 Cert.Kernel3Ideal.cfg0.N, Cert.Kernel3Ideal.Value.run_blocks m g,
    (θ_run Cert.Reference3Ideal.defs _ _).mono (fun r hr c => ⟨(hr c).1.trans ?_, (hr c).2⟩) (Cert.Reference3Ideal.Value.run m' g')⟩
  obtain ⟨e0, e1⟩ := hargs c
  rw [Cert.Reference3Ideal.Read.val_main_v2_eq, e0, e1]
  exact (Cert.Reference3Ideal.Val.out_eq _ _).trans (Cert.Kernel3Ideal.Val.result_eq m c).symm

/-- The output projection with its residual norm. -/
theorem equal4 : Cert.algebraic_Kernel4Ideal_Reference4Ideal := by
  intro m g m' g' _ hargs
  refine ⟨fun c => (Cert.Kernel4Ideal.Gen.dats m 0 c).arrAt 6 Cert.Kernel4Ideal.cfg0.N, fun c => (Cert.Kernel4Ideal.Gen.dats m 0 c).arrAt 7 Cert.Kernel4Ideal.cfg0.N,
    fun c => (Cert.Kernel4Ideal.Gen.dats m 0 c).arrAt 8 Cert.Kernel4Ideal.cfg0.N, Cert.Kernel4Ideal.Value.run_blocks m g,
    (θ_run Cert.Reference4Ideal.defs _ _).mono (fun r hr c => ⟨(hr c).1.trans ?_, (hr c).2.1.trans ?_, (hr c).2.2.1.trans ?_, (hr c).2.2.2⟩) (Cert.Reference4Ideal.Value.run m' g')⟩
  all_goals obtain ⟨e0, e1, e2, e3, e4, e5⟩ := hargs c
  · rw [Cert.Reference4Ideal.Read.val_main_v29_eq, e0, e1, e2, e3, e4, e5]
    exact (Cert.Reference4Ideal.Val.out_eq _ _ _ _ _ _).trans (Cert.Kernel4Ideal.Val.result_eq m c).symm
  · rw [Cert.Reference4Ideal.Read.val_main_v30_eq, e0, e1, e2, e3, e4, e5]
    exact (Cert.Reference4Ideal.Val.out_eq' _ _ _ _ _ _).trans (Cert.Kernel4Ideal.Val.result_eq' m c).symm
  · rw [Cert.Reference4Ideal.Read.val_main_v32_eq, e0, e1, e2, e3, e4, e5]
    exact (Cert.Reference4Ideal.Val.out_eqT _ _ _ _ _ _).trans (Cert.Kernel4Ideal.Val.result_eqT m c).symm

/-- The last residual norm. -/
theorem equal5 : Cert.algebraic_Kernel5Ideal_Reference5Ideal := by
  intro m g m' g' _ hargs
  refine ⟨fun c => (Cert.Kernel5Ideal.Gen.dats m 0 c).arrAt 4 Cert.Kernel5Ideal.cfg0.N, fun c => (Cert.Kernel5Ideal.Gen.dats m 0 c).arrAt 5 Cert.Kernel5Ideal.cfg0.N, Cert.Kernel5Ideal.Value.run_blocks m g,
    (θ_run Cert.Reference5Ideal.defs _ _).mono (fun r hr c => ⟨(hr c).1.trans ?_, (hr c).2.1.trans ?_, (hr c).2.2⟩) (Cert.Reference5Ideal.Value.run m' g')⟩
  all_goals obtain ⟨e0, e1, e2, e3⟩ := hargs c
  · rw [Cert.Reference5Ideal.Read.val_main_v29_eq, e0, e1, e2, e3]
    exact (Cert.Reference5Ideal.Val.out_eq _ _ _ _).trans (Cert.Kernel5Ideal.Val.result_eq m c).symm
  · rw [Cert.Reference5Ideal.Read.val_main_v30_eq, e0, e1, e2, e3]
    exact (Cert.Reference5Ideal.Val.out_eq' _ _ _ _).trans (Cert.Kernel5Ideal.Val.result_eq' m c).symm

/-- The odd layers' two latents. -/
theorem equal6 : Cert.algebraic_Kernel6Ideal_Reference6Ideal := by
  intro m g m' g' _ hargs
  refine ⟨fun c => (Cert.Kernel6Ideal.Gen.dats m 0 c).arrAt 2 Cert.Kernel6Ideal.cfg0.N, Cert.Kernel6Ideal.Value.run_blocks m g,
    (θ_run Cert.Reference6Ideal.defs _ _).mono (fun r hr c => ⟨(hr c).1.trans ?_, (hr c).2⟩) (Cert.Reference6Ideal.Value.run m' g')⟩
  obtain ⟨e0, e1⟩ := hargs c
  rw [Cert.Reference6Ideal.Read.val_main_v8_eq, e0, e1]
  exact (Cert.Reference6Ideal.Val.out_eq _ _).trans (Cert.Kernel6Ideal.Val.result_eq m c).symm

/-- The differential attention's values. -/
theorem equal7 : Cert.algebraic_Kernel7Ideal_Reference7Ideal := by
  intro m g m' g' _ hargs
  refine ⟨fun c => (Cert.Kernel7Ideal.Gen.dats m 0 c).arrAt 2 Cert.Kernel7Ideal.cfg0.N, Cert.Kernel7Ideal.Value.run_blocks m g,
    (θ_run Cert.Reference7Ideal.defs _ _).mono (fun r hr c => ⟨(hr c).1.trans ?_, (hr c).2⟩) (Cert.Reference7Ideal.Value.run m' g')⟩
  obtain ⟨e0, e1⟩ := hargs c
  rw [Cert.Reference7Ideal.Read.val_main_v8_eq, e0, e1]
  exact (Cert.Reference7Ideal.Val.out_eq _ _).trans (Cert.Kernel7Ideal.Val.result_eq m c).symm

/-- The differential attention's rotated queries and keys. -/
theorem equal8 : Cert.algebraic_Kernel8Ideal_Reference8Ideal := by
  intro m g m' g' _ hargs
  refine ⟨fun c => (Cert.Kernel8Ideal.Gen.dats m 0 c).arrAt 5 Cert.Kernel8Ideal.cfg0.N, Cert.Kernel8Ideal.Value.run_blocks m g,
    (θ_run Cert.Reference8Ideal.defs _ _).mono (fun r hr c => ⟨(hr c).1.trans ?_, (hr c).2⟩) (Cert.Reference8Ideal.Value.run m' g')⟩
  obtain ⟨e0, e1⟩ := hargs c
  rw [Cert.Reference8Ideal.Read.val_main_v89_eq, e0, e1]
  exact (Cert.Reference8Ideal.Val.out_eq _ _).trans (Cert.Kernel8Ideal.Val.result_eq m c).symm

/-- The latent attention's keys and values. -/
theorem equal9 : Cert.algebraic_Kernel9Ideal_Reference9Ideal := by
  intro m g m' g' _ hargs
  refine ⟨fun c => (Cert.Kernel9Ideal.Gen.dats m 0 c).arrAt 3 Cert.Kernel9Ideal.cfg0.N, Cert.Kernel9Ideal.Value.run_blocks m g,
    (θ_run Cert.Reference9Ideal.defs _ _).mono (fun r hr c => ⟨(hr c).1.trans ?_, (hr c).2⟩) (Cert.Reference9Ideal.Value.run m' g')⟩
  obtain ⟨e0, e1, e2⟩ := hargs c
  rw [Cert.Reference9Ideal.Read.val_main_v20_eq, e0, e1, e2]
  exact (Cert.Reference9Ideal.Val.out_eq _ _ _).trans (Cert.Kernel9Ideal.Val.result_eq m c).symm

/-- The latent attention's queries. -/
theorem equal10 : Cert.algebraic_Kernel10Ideal_Reference10Ideal := by
  intro m g m' g' _ hargs
  refine ⟨fun c => (Cert.Kernel10Ideal.Gen.dats m 0 c).arrAt 4 Cert.Kernel10Ideal.cfg0.N, Cert.Kernel10Ideal.Value.run_blocks m g,
    (θ_run Cert.Reference10Ideal.defs _ _).mono (fun r hr c => ⟨(hr c).1.trans ?_, (hr c).2⟩) (Cert.Reference10Ideal.Value.run m' g')⟩
  obtain ⟨e0, e1, e2⟩ := hargs c
  rw [Cert.Reference10Ideal.Read.val_main_v19_eq, e0, e1, e2]
  exact (Cert.Reference10Ideal.Val.out_eq _ _ _).trans (Cert.Kernel10Ideal.Val.result_eq m c).symm

/-- The rotated keys the latent attention's heads share. -/
theorem equal12 : Cert.algebraic_Kernel12Ideal_Reference12Ideal := by
  intro m g m' g' _ hargs
  refine ⟨fun c => (Cert.Kernel12Ideal.Gen.dats m 0 c).arrAt 5 Cert.Kernel12Ideal.cfg0.N, Cert.Kernel12Ideal.Value.run_blocks m g,
    (θ_run Cert.Reference12Ideal.defs _ _).mono (fun r hr c => ⟨(hr c).1.trans ?_, (hr c).2⟩) (Cert.Reference12Ideal.Value.run m' g')⟩
  obtain ⟨e0, e1⟩ := hargs c
  rw [Cert.Reference12Ideal.Read.val_main_v48_eq, e0, e1]
  exact (Cert.Reference12Ideal.Val.out_eq _ _).trans (Cert.Kernel12Ideal.Val.result_eq m c).symm

/-- The latent attention's rotated queries. -/
theorem equal13 : Cert.algebraic_Kernel13Ideal_Reference13Ideal := by
  intro m g m' g' _ hargs
  refine ⟨fun c => (Cert.Kernel13Ideal.Gen.dats m 0 c).arrAt 7 Cert.Kernel13Ideal.cfg0.N, Cert.Kernel13Ideal.Value.run_blocks m g,
    (θ_run Cert.Reference13Ideal.defs _ _).mono (fun r hr c => ⟨(hr c).1.trans ?_, (hr c).2⟩) (Cert.Reference13Ideal.Value.run m' g')⟩
  obtain ⟨e0, e1, e2⟩ := hargs c
  rw [Cert.Reference13Ideal.Read.val_main_v58_eq, e0, e1, e2]
  exact (Cert.Reference13Ideal.Val.out_eq _ _ _).trans (Cert.Kernel13Ideal.Val.result_eq m c).symm

/-- The forget gates' projection. -/
theorem equal14 : Cert.algebraic_Kernel14Ideal_Reference14Ideal := by
  intro m g m' g' _ hargs
  refine ⟨fun c => (Cert.Kernel14Ideal.Gen.dats m 0 c).arrAt 2 Cert.Kernel14Ideal.cfg0.N, Cert.Kernel14Ideal.Value.run_blocks m g,
    (θ_run Cert.Reference14Ideal.defs _ _).mono (fun r hr c => ⟨(hr c).1.trans ?_, (hr c).2⟩) (Cert.Reference14Ideal.Value.run m' g')⟩
  obtain ⟨e0, e1⟩ := hargs c
  rw [Cert.Reference14Ideal.Read.val_main_v3_eq, e0, e1]
  exact (Cert.Reference14Ideal.Val.out_eq _ _).trans (Cert.Kernel14Ideal.Val.result_eq m c).symm

/-- The difference of the two maps and its norm. -/
theorem equal15 : Cert.algebraic_Kernel15Ideal_Reference15Ideal := by
  intro m g m' g' _ hargs
  refine ⟨fun c => (Cert.Kernel15Ideal.Gen.dats m 0 c).arrAt 3 Cert.Kernel15Ideal.cfg0.N, Cert.Kernel15Ideal.Value.run_blocks m g,
    (θ_run Cert.Reference15Ideal.defs _ _).mono (fun r hr c => ⟨(hr c).1.trans ?_, (hr c).2⟩) (Cert.Reference15Ideal.Value.run m' g')⟩
  obtain ⟨e0, e1, e2⟩ := hargs c
  rw [Cert.Reference15Ideal.Read.val_main_v40_eq, e0, e1, e2]
  exact (Cert.Reference15Ideal.Val.out_eq _ _ _).trans (Cert.Kernel15Ideal.Val.result_eq m c).symm

/-- The forget gates' scan. -/
theorem equal16 : Cert.algebraic_Kernel16Ideal_Reference16Ideal := by
  intro m g m' g' _ hargs
  refine ⟨fun c => (Cert.Kernel16Ideal.Gen.dats m 0 c).arrAt 2 Cert.Kernel16Ideal.cfg0.N, Cert.Kernel16Ideal.Value.run_blocks m g,
    (θ_run Cert.Reference16Ideal.defs _ _).mono (fun r hr c => ⟨(hr c).1.trans ?_, (hr c).2⟩) (Cert.Reference16Ideal.Value.run m' g')⟩
  obtain ⟨e0, e1⟩ := hargs c
  rw [Cert.Reference16Ideal.Read.val_main_v7_eq, e0, e1]
  exact (Cert.Reference16Ideal.Val.out_eq _ _).trans (Cert.Kernel16Ideal.Val.result_eq m c).symm

/-- The difference of the two maps and its norm, in the second odd layer. -/
theorem equal17 : Cert.algebraic_Kernel17Ideal_Reference17Ideal := by
  intro m g m' g' _ hargs
  refine ⟨fun c => (Cert.Kernel17Ideal.Gen.dats m 0 c).arrAt 3 Cert.Kernel17Ideal.cfg0.N, Cert.Kernel17Ideal.Value.run_blocks m g,
    (θ_run Cert.Reference17Ideal.defs _ _).mono (fun r hr c => ⟨(hr c).1.trans ?_, (hr c).2⟩) (Cert.Reference17Ideal.Value.run m' g')⟩
  obtain ⟨e0, e1, e2⟩ := hargs c
  rw [Cert.Reference17Ideal.Read.val_main_v40_eq, e0, e1, e2]
  exact (Cert.Reference17Ideal.Val.out_eq _ _ _).trans (Cert.Kernel17Ideal.Val.result_eq m c).symm

end Cert.Further
end
-- ==== Proof.LatHalf.lean ====
/- The values of one half of one head of the latent attention, element by element, over the extended reals. -/
module

public import proofs.«01_k».proof.Proof.LatHeads
public import proofs.«01_k».proof.Proof.Half
public import proofs.«01_k».proof.Proof.Online
public import Idealize.ShloMosaic.Lib.Pointwise

@[expose] public section

set_option maxRecDepth 16384

noncomputable section

namespace Cert.Kernel11Ideal.Lat

open Idealize.ShloMosaic
open Cert.Kernel11Ideal Facts₀
open Cert.Softmax (lane)
open Cert.KernelIdeal.Att (ofBits_neg_inf chunk_le select_bool)

variable [Facts]

/-- The scale the kernel multiplies its queries by. -/
def scaleR : ℝ := (Real.sqrt 192)⁻¹ * (Real.log 2)⁻¹

theorem named_scale : (Named.named κ "scale11" 0x3DD53B95#32 : Ideal .f32) = ((scaleR : ℝ) : EReal) := rfl
theorem named_mask : (Named.named κ "mask11" 0xF149F2CA#32 : Ideal .f32) = (⊥ : EReal) := rfl
theorem scores_apply (q x : Vec Ideal S256x128 .bf16) (k y : Vec Ideal S512x128 .bf16) (i : Fin 256) (j : Fin 512) :
    scores q x k y (ix2 i j) = ∑ d : Fin 256, scaled q x (ix2 i d) * keyMat k y (ix2 j d) := by
  pointwise [scores]

theorem scaled_lo (q x : Vec Ideal S256x128 .bf16) (i : Fin 256) (d : Fin 256) (d' : Fin 128) (h : d.val = d'.val) :
    scaled q x (ix2 i d) = q (ix2 i d') * ((scaleR : ℝ) : EReal) := by
  have hd := d'.isLt
  pointwise [scaled, named_scale]
  rw [dif_pos (by omega)]
  simp only [h]

theorem scaled_hi (q x : Vec Ideal S256x128 .bf16) (i : Fin 256) (d : Fin 256) (d' : Fin 128) (h : d.val = 128 + d'.val) :
    scaled q x (ix2 i d) = x (ix2 i d') * ((scaleR : ℝ) : EReal) := by
  have hd := d'.isLt
  pointwise [scaled, named_scale]
  rw [dif_neg (by omega)]
  have e : d.val - 128 = d'.val := by omega
  simp only [e]

theorem keyMat_lo (k y : Vec Ideal S512x128 .bf16) (j : Fin 512) (d : Fin 256) (d' : Fin 128) (h : d.val = d'.val) :
    keyMat k y (ix2 j d) = k (ix2 j d') := by
  have hd := d'.isLt
  pointwise [keyMat]
  rw [dif_pos (by omega)]
  simp only [h]

theorem keyMat_hi (k y : Vec Ideal S512x128 .bf16) (j : Fin 512) (d : Fin 256) (d' : Fin 128) (h : d.val = 128 + d'.val) :
    keyMat k y (ix2 j d) = y (ix2 j d') := by
  have hd := d'.isLt
  pointwise [keyMat]
  rw [dif_neg (by omega)]
  have e : d.val - 128 = d'.val := by omega
  simp only [e]

theorem valMat_lo (v : Vec Ideal S512x128 .bf16) (j : Fin 512) (d : Fin 256) (d' : Fin 128) (h : d.val = d'.val) :
    valMat v (ix2 j d) = v (ix2 j d') := by
  have hd := d'.isLt
  pointwise [valMat]
  rw [dif_pos (by omega)]
  simp only [h]

theorem valMat_hi (v : Vec Ideal S512x128 .bf16) (j : Fin 512) (d : Fin 256) (h : 128 ≤ d.val) :
    valMat v (ix2 j d) = (1 : EReal) := by
  pointwise [valMat]
  rw [dif_neg (by omega)]

theorem masked_apply (qi ki r : ℕ) (hk : ki < 8) (hq : qi < 8) (s : FVec Ideal S256x512 .f32) (i : Fin 256) (j : Fin 512) (hr : r ≤ 256) :
    masked (BitVec.ofNat 32 qi) (BitVec.ofNat 32 ki) (BitVec.ofNat 32 r) s (ix2 i j)
      = if (512 * ki + j.val) / 64 ≤ (512 * qi + (r + i.val)) / 64 then s (ix2 i j) else ⊥ := by
  pointwise [masked, named_mask]
  rw [chunk_le ki j.val qi r i.val hk j.isLt hq (by have := i.isLt; omega), select_bool]

theorem newMax_apply (s : FVec Ideal S256x512 .f32) (m : Vec Ideal S1x256x128 .f32) (i : Fin 256) (c : Fin 128) :
    newMax s m (ix2 i c) = max (m (ix3 0 i c)) (Finset.univ.fold max ⊥ fun j : Fin 512 => s (ix2 i j)) := by
  pointwise [newMax]
  rw [ofBits_neg_inf]

theorem keep_apply (s : FVec Ideal S256x512 .f32) (m : Vec Ideal S1x256x128 .f32) (i : Fin 256) (c : Fin 128) :
    keep s m (ix2 i c) = Ideal.exp2 (m (ix3 0 i c) - newMax s m (ix2 i c)) := by
  pointwise [keep]; rfl

theorem weights_apply (s : FVec Ideal S256x512 .f32) (m : Vec Ideal S1x256x128 .f32) (i : Fin 256) (j : Fin 512) :
    weights s m (ix2 i j) = Ideal.exp2 (s (ix2 i j) - newMax s m (ix2 i (lane j))) := by
  pointwise [weights]
  have hj : j.val < 512 := j.isLt
  refine congrArg (fun x => Ideal.exp2 (s (ix2 i j) - x)) ?_
  have e : ∀ c : Fin 128, c.val = j.val % 128 → newMax s m (ix2 i c) = newMax s m (ix2 i (lane j)) := fun c hc => by
    rw [show c = lane j from Fin.ext hc]
  split
  · exact e _ (by simp only; omega)
  · split
    · exact e _ (by simp only; omega)
    · split
      · exact e _ (by simp only; omega)
      · exact e _ (by simp only; omega)

theorem newAcc_apply (s : FVec Ideal S256x512 .f32) (m : Vec Ideal S1x256x128 .f32) (v : Vec Ideal S512x128 .bf16) (a : Vec Ideal S1x256x256 .f32)
    (i : Fin 256) (e : Fin 256) :
    newAcc s m v a (ix3 0 i e) = keep s m (ix2 i (lane e)) * a (ix3 0 i e) + ∑ j : Fin 512, weights s m (ix2 i j) * valMat v (ix2 j e) := by
  pointwise [newAcc]
  have he : e.val < 256 := e.isLt
  refine congrArg (fun x => x * a (ix3 0 i e) + ∑ j : Fin 512, weights s m (ix2 i j) * valMat v (ix2 j e)) ?_
  have h : ∀ c : Fin 128, c.val = e.val % 128 → keep s m (ix2 i c) = keep s m (ix2 i (lane e)) := fun c hc => by
    rw [show c = lane e from Fin.ext hc]
  split
  · exact h _ (by simp only; omega)
  · exact h _ (by simp only; omega)

theorem putMax_apply (s : FVec Ideal S256x512 .f32) (m : Vec Ideal S1x256x128 .f32) (i : Fin 256) (c : Fin 128) :
    putMax s m (ix3 0 i c) = newMax s m (ix2 i c) := by
  pointwise [putMax]

theorem quot_apply (a l : Vec Ideal S1x512x128 .f32) (i : Fin 512) (e : Fin 128) :
    quot a l (ix2 i e) = Ideal.div (a (ix3 0 i e)) (l (ix3 0 i e)) := by
  pointwise [quot]

end Cert.Kernel11Ideal.Lat
end
-- ==== Proof.LatBlocks.lean ====
/- The running arrays by blocks: what one step of eight heads leaves in each half of each head. -/
module

public import proofs.«01_k».proof.Proof.LatSteps

@[expose] public section

set_option maxRecDepth 16384

noncomputable section

namespace Cert.Kernel11Ideal.Lat

open Idealize.ShloMosaic
open Cert.Kernel11Ideal Facts₀
open VecWindow (window put)

variable {F : FTy → Type} [FloatOps F] [Named F] [Facts]

/-- One half of one head of the running arrays. -/
structure Blk (F : FTy → Type) where
  m : Vec F S1x256x128 .f32
  a : Vec F S1x256x256 .f32

/-- The block of head `g` at row `r`. -/
def blkOf (r g : ℕ) (hr : r ≤ 256) (hg : g < 8) (st : St F) : Blk F where
  m := window st.m ![g, r, 0] S1x256x128.size (inbM r g hr hg)
  a := window st.a ![g, r, 0] S1x256x256.size (inbA r g hr hg)

/-- What a step makes of one block. -/
def nextBlk (mk : FVec F S256x512 .f32 → FVec F S256x512 .f32) (r g : ℕ) (hr : r ≤ 256) (hg : g < 8)
    (I : In F) (b : Blk F) : Blk F where
  m := putMax (mk (scoresAt r g hr hg I)) b.m
  a := newAcc (mk (scoresAt r g hr hg I)) b.m (window I.v ![0, 128 * g] S512x128.size (inbK g hg)) b.a

theorem blkOf_half (mk : FVec F S256x512 .f32 → FVec F S256x512 .f32) (r g : ℕ) (hr : r ≤ 256) (hg : g < 8)
    (I : In F) (st : St F) :
    blkOf r g hr hg (halfS mk r g hr hg I st) = nextBlk mk r g hr hg I (blkOf r g hr hg st) := by
  unfold blkOf nextBlk halfS
  rw [VecWindow.window_put_same, VecWindow.window_put_same]

theorem blkOf_other (mk : FVec F S256x512 .f32 → FVec F S256x512 .f32) (r g r' g' : ℕ) (hr : r ≤ 256) (hg : g < 8) (hr' : r' ≤ 256) (hg' : g' < 8)
    (I : In F) (st : St F) (h : g' ≠ g ∨ r' + 256 ≤ r ∨ r + 256 ≤ r') :
    blkOf r' g' hr' hg' (halfS mk r g hr hg I st) = blkOf r' g' hr' hg' st := by
  unfold blkOf halfS
  rcases h with h | h
  · have h0 : g' + 1 ≤ g ∨ g + 1 ≤ g' := by omega
    rw [VecWindow.window_put_of_disjoint _ _ _ _ _ _ _ 0 h0, VecWindow.window_put_of_disjoint _ _ _ _ _ _ _ 0 h0]
  · rw [VecWindow.window_put_of_disjoint _ _ _ _ _ _ _ 1 h, VecWindow.window_put_of_disjoint _ _ _ _ _ _ _ 1 h]

variable (mk0 mk1 : FVec F S256x512 .f32 → FVec F S256x512 .f32) (I : In F) (st : St F)

theorem blkOf_head_ne (r g g' : ℕ) (hr : r ≤ 256) (hg : g < 8) (hg' : g' < 8) (h : g' ≠ g) :
    blkOf r g' hr hg' (headS mk0 mk1 g hg I st) = blkOf r g' hr hg' st := by
  unfold headS
  rw [blkOf_other _ _ _ _ _ _ _ _ _ _ _ (.inl h), blkOf_other _ _ _ _ _ _ _ _ _ _ _ (.inl h)]

theorem blkOf_head0 (g : ℕ) (hg : g < 8) (h0 : 0 ≤ 256) :
    blkOf 0 g h0 hg (headS mk0 mk1 g hg I st) = nextBlk mk0 0 g h0 hg I (blkOf 0 g h0 hg st) := by
  unfold headS
  rw [blkOf_other _ _ _ _ _ _ _ _ _ _ _ (.inr (.inl (by omega))), blkOf_half]

theorem blkOf_head1 (g : ℕ) (hg : g < 8) (h0 : 256 ≤ 256) :
    blkOf 256 g h0 hg (headS mk0 mk1 g hg I st) = nextBlk mk1 256 g h0 hg I (blkOf 256 g h0 hg st) := by
  unfold headS
  rw [blkOf_half, blkOf_other _ _ _ _ _ _ _ _ _ _ _ (.inr (.inr (by omega)))]

/-- A step on a first half. -/
theorem blkOf_step0 (g : ℕ) (hg : g < 8) (h0 : 0 ≤ 256) :
    blkOf 0 g h0 hg (stepS mk0 mk1 I st) = nextBlk mk0 0 g h0 hg I (blkOf 0 g h0 hg st) := by
  unfold stepS
  match g, hg with
  | 0, hg => simp (disch := decide) only [blkOf_head0, blkOf_head_ne]
  | 1, hg => simp (disch := decide) only [blkOf_head0, blkOf_head_ne]
  | 2, hg => simp (disch := decide) only [blkOf_head0, blkOf_head_ne]
  | 3, hg => simp (disch := decide) only [blkOf_head0, blkOf_head_ne]
  | 4, hg => simp (disch := decide) only [blkOf_head0, blkOf_head_ne]
  | 5, hg => simp (disch := decide) only [blkOf_head0, blkOf_head_ne]
  | 6, hg => simp (disch := decide) only [blkOf_head0, blkOf_head_ne]
  | 7, hg => simp (disch := decide) only [blkOf_head0, blkOf_head_ne]
  | n + 8, hg => exact absurd hg (by omega)

/-- A step on a second half. -/
theorem blkOf_step1 (g : ℕ) (hg : g < 8) (h0 : 256 ≤ 256) :
    blkOf 256 g h0 hg (stepS mk0 mk1 I st) = nextBlk mk1 256 g h0 hg I (blkOf 256 g h0 hg st) := by
  unfold stepS
  match g, hg with
  | 0, hg => simp (disch := decide) only [blkOf_head1, blkOf_head_ne]
  | 1, hg => simp (disch := decide) only [blkOf_head1, blkOf_head_ne]
  | 2, hg => simp (disch := decide) only [blkOf_head1, blkOf_head_ne]
  | 3, hg => simp (disch := decide) only [blkOf_head1, blkOf_head_ne]
  | 4, hg => simp (disch := decide) only [blkOf_head1, blkOf_head_ne]
  | 5, hg => simp (disch := decide) only [blkOf_head1, blkOf_head_ne]
  | 6, hg => simp (disch := decide) only [blkOf_head1, blkOf_head_ne]
  | 7, hg => simp (disch := decide) only [blkOf_head1, blkOf_head_ne]
  | n + 8, hg => exact absurd hg (by omega)

end Cert.Kernel11Ideal.Lat
end
-- ==== Proof.LatValue.lean ====
/- One block of the running arrays over the extended reals: a step adds its tile of keys to every row. -/
module

public import proofs.«01_k».proof.Proof.Value
public import proofs.«01_k».proof.Proof.LatHalf
public import proofs.«01_k».proof.Proof.LatBlocks

@[expose] public section

set_option maxRecDepth 16384

noncomputable section

namespace Cert.Kernel11Ideal.Lat

open Idealize.ShloMosaic
open Cert.Kernel11Ideal Facts₀
open Cert.Softmax (lane Row sc wt)
open Cert.KernelIdeal.Att (window2)
open VecWindow (window put)

variable [Facts]

/-- The column of the sums of weights that a lane holds. -/
def onesLane (c : Fin 128) : Fin 256 := ⟨128 + c.val, by omega⟩

theorem lane_ones (c : Fin 128) : lane (onesLane c) = c := Fin.ext (by show (128 + c.val) % 128 = c.val; omega)

/-- Row `i` of a block holds the first `n` keys' sums. -/
def RowB (E : ℕ → ℝ) (W : Fin 256 → ℕ → EReal) (n : ℕ) (i : Fin 256) (b : Blk Ideal) : Prop :=
  Row E W n (fun c => b.m (ix3 0 i c)) (fun c => b.a (ix3 0 i (onesLane c))) (fun e => b.a (ix3 0 i e))

theorem next_row (mk : FVec Ideal S256x512 .f32 → FVec Ideal S256x512 .f32) (r g : ℕ) (hr : r ≤ 256) (hg : g < 8)
    (I : In Ideal) (b : Blk Ideal) (n : ℕ) (i : Fin 256) (p : ℕ → Prop) [DecidablePred p] (R : ℕ → ℝ)
    (W : Fin 256 → ℕ → EReal) (h : RowB (fun j => wt (p j) (R j)) W n i b)
    (hs : ∀ j : Fin 512, mk (scoresAt r g hr hg I) (ix2 i j) = sc (p (n + j.val)) (R (n + j.val)))
    (hV : ∀ (j : Fin 512) (e : Fin 256), valMat (window I.v ![0, 128 * g] S512x128.size (inbK g hg)) (ix2 j e) = W e (n + j.val))
    (h0 : n = 0 → p 0) :
    RowB (fun j => wt (p j) (R j)) W (n + 512) i (nextBlk mk r g hr hg I b) := by
  refine Cert.Softmax.step _ W n p R (fun _ => rfl) _ _ _ _ _ _ h (fun j => mk (scoresAt r g hr hg I) (ix2 i j)) hs
    (Finset.univ.fold max ⊥ fun j : Fin 512 => mk (scoresAt r g hr hg I) (ix2 i j)) ?_ ?_ ?_ ?_ ?_
  · refine ne_of_lt (Finset.fold_max_lt _ |>.2 ⟨bot_lt_top, fun j _ => ?_⟩)
    rw [hs]; exact lt_top_iff_ne_top.2 (Cert.Softmax.sc_ne_top _ _)
  · intro hn
    refine ne_of_gt (Finset.lt_fold_max _ |>.2 (.inr ⟨0, Finset.mem_univ _, ?_⟩))
    rw [hs]
    have e : n + (0 : Fin 512).val = 0 := by rw [hn]; rfl
    rw [e]
    unfold sc; rw [if_pos (h0 hn)]; exact EReal.bot_lt_coe _
  · intro c
    exact (putMax_apply _ _ i c).trans (newMax_apply _ _ i c)
  · intro c
    refine (newAcc_apply _ _ _ _ i (onesLane c)).trans ?_
    rw [keep_apply, lane_ones]
    refine congrArg₂ (· + ·) ?_ (Finset.sum_congr rfl fun j _ => ?_)
    · exact congrArg (fun x => Ideal.exp2 (b.m (ix3 0 i c) - x) * b.a (ix3 0 i (onesLane c))) (putMax_apply _ _ i c).symm
    · rw [weights_apply, valMat_hi _ j (onesLane c) (Nat.le_add_right _ _), mul_one]
      exact congrArg (fun x => Ideal.exp2 (mk (scoresAt r g hr hg I) (ix2 i j) - x)) (putMax_apply _ _ i _).symm
  · intro e
    refine (newAcc_apply _ _ _ _ i e).trans ?_
    rw [keep_apply]
    refine congrArg₂ (· + ·) ?_ (Finset.sum_congr rfl fun j _ => ?_)
    · exact congrArg (fun x => Ideal.exp2 (b.m (ix3 0 i (lane e)) - x) * b.a (ix3 0 i e)) (putMax_apply _ _ i _).symm
    · rw [weights_apply]
      exact congrArg₂ (fun x y => Ideal.exp2 (mk (scoresAt r g hr hg I) (ix2 i j) - x) * y) (putMax_apply _ _ i _).symm (hV j e)

/-- The scores of real queries and keys. -/
theorem scoresAt_apply (r g : ℕ) (hr : r ≤ 256) (hg : g < 8) (I : In Ideal) (i : Fin 256) (j : Fin 512)
    (x y : ℕ → ℝ)
    (hQ : ∀ (d : Fin 128) (i' : Fin 512) (d' : Fin 1024), i'.val = r + i.val → d'.val = 128 * g + d.val → I.q (ix2 i' d') = ((x d.val : ℝ) : EReal))
    (hX : ∀ (d : Fin 128) (i' : Fin 512) (d' : Fin 1024), i'.val = r + i.val → d'.val = 128 * g + d.val → I.x (ix2 i' d') = ((x (128 + d.val) : ℝ) : EReal))
    (hK : ∀ (d : Fin 128) (d' : Fin 1024), d'.val = 128 * g + d.val → I.k (ix2 j d') = ((y d.val : ℝ) : EReal))
    (hY : ∀ d : Fin 128, I.y (ix2 j d) = ((y (128 + d.val) : ℝ) : EReal)) :
    scoresAt r g hr hg I (ix2 i j) = ((scaleR * ∑ d ∈ Finset.range 256, x d * y d : ℝ) : EReal) := by
  unfold scoresAt
  rw [scores_apply, Finset.mul_sum, Finset.sum_range, Cert.Softmax.coe_sum]
  refine Finset.sum_congr rfl fun d _ => ?_
  have hi : r + i.val < 512 := by have := i.isLt; omega
  have hd := d.isLt
  by_cases hl : d.val < 128
  · have hn : 128 * g + d.val < 1024 := by omega
    rw [scaled_lo _ _ i d ⟨d.val, hl⟩ rfl, keyMat_lo _ _ j d ⟨d.val, hl⟩ rfl]
    have e1 : window I.q ![r, 128 * g] S256x128.size (inbQ r g hr hg) (ix2 i (⟨d.val, hl⟩ : Fin 128)) = ((x d.val : ℝ) : EReal) :=
      (window2 I.q r (128 * g) (inbQ r g hr hg) i ⟨d.val, hl⟩ ⟨r + i.val, hi⟩ ⟨128 * g + d.val, hn⟩ rfl rfl).trans (hQ ⟨d.val, hl⟩ _ _ rfl rfl)
    have e2 : window I.k ![0, 128 * g] S512x128.size (inbK g hg) (ix2 j (⟨d.val, hl⟩ : Fin 128)) = ((y d.val : ℝ) : EReal) :=
      (window2 I.k 0 (128 * g) (inbK g hg) j ⟨d.val, hl⟩ j ⟨128 * g + d.val, hn⟩ (by omega) rfl).trans (hK ⟨d.val, hl⟩ _ rfl)
    rw [e1, e2, ← EReal.coe_mul, ← EReal.coe_mul]
    congr 1; ring
  · have hd' : d.val - 128 < 128 := by omega
    have hs : d.val = 128 + (d.val - 128) := by omega
    have hn : 128 * g + (d.val - 128) < 1024 := by omega
    rw [scaled_hi _ _ i d ⟨d.val - 128, hd'⟩ hs, keyMat_hi _ _ j d ⟨d.val - 128, hd'⟩ hs]
    have e1 : window I.x ![r, 128 * g] S256x128.size (inbQ r g hr hg) (ix2 i (⟨d.val - 128, hd'⟩ : Fin 128)) = ((x d.val : ℝ) : EReal) := by
      refine ((window2 I.x r (128 * g) (inbQ r g hr hg) i ⟨d.val - 128, hd'⟩ ⟨r + i.val, hi⟩ ⟨128 * g + (d.val - 128), hn⟩ rfl rfl).trans
        (hX ⟨d.val - 128, hd'⟩ _ _ rfl rfl)).trans ?_
      rw [← hs]
    have e2 : window I.y ![0, 0] S512x128.size inbX (ix2 j (⟨d.val - 128, hd'⟩ : Fin 128)) = ((y d.val : ℝ) : EReal) := by
      refine ((window2 I.y 0 0 inbX j ⟨d.val - 128, hd'⟩ j ⟨d.val - 128, hd'⟩ (by omega) (by simp only; omega)).trans (hY ⟨d.val - 128, hd'⟩)).trans ?_
      rw [← hs]
    rw [e1, e2, ← EReal.coe_mul, ← EReal.coe_mul]
    congr 1; ring

end Cert.Kernel11Ideal.Lat
end
-- ==== Proof.LatReads.lean ====
/- The blocks a point reads, as elements of the arguments. -/
module

public import proofs.«01_k».proof.Proof.LatFrame
public import Idealize.ShloMosaic.Lib.Pointwise
public import Idealize.ShloMosaic.Lib.Claim

@[expose] public section

set_option maxRecDepth 16384

noncomputable section

namespace Cert.Kernel11Ideal.Lat

open Idealize.ShloMosaic Idealize.ShloMosaic.TcCoe
open Idealize.ShloMosaic.Pipeline
open Idealize.SL Idealize.SL.Sem
open Cert.Kernel11Ideal Facts₀ Facts

variable (m : (ℓ : Loc nD τ sig) → Buf (Elt Ideal) ℓ) (c : Dev nD)

/-- The queries, the keys beside the values, and the shared keys a device is given. -/
def argQ : S2x4096x8x192.Idx → EReal := m ((c.tc : Thread nD τ).loc main_arg0)
@[inherit_doc argQ] def argKV : S2x4096x8x256.Idx → EReal := m ((c.tc : Thread nD τ).loc main_arg1)
@[inherit_doc argQ] def argP : S2x4096x64.Idx → EReal := m ((c.tc : Thread nD τ).loc main_arg2)

theorem V_q : V m c main_v2 = (truncf .bf16 (shapeCast S8192x1024 (extractStridedSlice S2x4096x8x128 ![0, 0, 0, 0] (argQ m c) slices_S2x4096x8x192_S2x4096x8x128_0_0_0_0)
      shapeCasts_S2x4096x8x128_S8192x1024 : FVec Ideal S8192x1024 .f32) bitsLt_bf16_f32 : FVec Ideal S8192x1024 .bf16) := by
  unfold V
  simp only [hostOps, Gen.hostOps0, Gen.hostOps0_1, Gen.hostOps0_2, Gen.hostOps0_3, Gen.hostOps0_4, List.flatten_cons, List.flatten_nil, List.cons_append, List.nil_append, List.append_nil]
  after_results
  rfl

theorem V_x : V m c main_v6 = (truncf .bf16 (shapeCast S8192x1024 (pad S2x4096x8x128 ![0, 0, 0, 0] ![0, 0, 0, 64] ![0, 0, 0, 0]
      (extractStridedSlice S2x4096x8x64 ![0, 0, 0, 128] (argQ m c) slices_S2x4096x8x192_S2x4096x8x64_0_0_0_128) (sitofp .f32 (constantI S_ 32 0#32) : FVec Ideal S_ .f32)
      pads_S2x4096x8x64_S2x4096x8x128_000_000_000_0640 h_S_) shapeCasts_S2x4096x8x128_S8192x1024 : FVec Ideal S8192x1024 .f32) bitsLt_bf16_f32 : FVec Ideal S8192x1024 .bf16) := by
  unfold V
  simp only [hostOps, Gen.hostOps0, Gen.hostOps0_1, Gen.hostOps0_2, Gen.hostOps0_3, Gen.hostOps0_4, List.flatten_cons, List.flatten_nil, List.cons_append, List.nil_append, List.append_nil]
  after_results
  rfl

theorem V_y : V m c main_v9 = (truncf .bf16 (shapeCast S8192x128 (pad S2x4096x128 ![0, 0, 0] ![0, 0, 64] ![0, 0, 0]
      (argP m c) (sitofp .f32 (constantI S_ 32 0#32) : FVec Ideal S_ .f32)
      pads_S2x4096x64_S2x4096x128_000_000_0640 h_S_) shapeCasts_S2x4096x128_S8192x128 : FVec Ideal S8192x128 .f32) bitsLt_bf16_f32 : FVec Ideal S8192x128 .bf16) := by
  unfold V
  simp only [hostOps, Gen.hostOps0, Gen.hostOps0_1, Gen.hostOps0_2, Gen.hostOps0_3, Gen.hostOps0_4, List.flatten_cons, List.flatten_nil, List.cons_append, List.nil_append, List.append_nil]
  after_results
  rfl

theorem V_kv : V m c main_v15 = (truncf .bf16 (concatenate S8192x2048 1
      [⟨S8192x1024, shapeCast S8192x1024 (extractStridedSlice S2x4096x8x128 ![0, 0, 0, 0] (argKV m c) slices_S2x4096x8x256_S2x4096x8x128_0_0_0_0) shapeCasts_S2x4096x8x128_S8192x1024⟩,
       ⟨S8192x1024, shapeCast S8192x1024 (extractStridedSlice S2x4096x8x128 ![0, 0, 0, 128] (argKV m c) slices_S2x4096x8x256_S2x4096x8x128_0_0_0_128) shapeCasts_S2x4096x8x128_S8192x1024⟩]
      concatenates_S8192x1024_S8192x1024_S8192x2048_d1
      : FVec Ideal S8192x2048 .f32) bitsLt_bf16_f32 : FVec Ideal S8192x2048 .bf16) := by
  unfold V
  simp only [hostOps, Gen.hostOps0, Gen.hostOps0_1, Gen.hostOps0_2, Gen.hostOps0_3, Gen.hostOps0_4, List.flatten_cons, List.flatten_nil, List.cons_append, List.nil_append, List.append_nil]
  after_results
  rfl

/-! ## The arguments by natural numbers -/

/-- One number of the queries: batch `b`, position `s`, head `g`, lane `d`. -/
def atQ (x : S2x4096x8x192.Idx → EReal) (b s g d : ℕ) : EReal :=
  x (ix4 ⟨b % 2, Nat.mod_lt _ (by decide)⟩ ⟨s % 4096, Nat.mod_lt _ (by decide)⟩ ⟨g % 8, Nat.mod_lt _ (by decide)⟩ ⟨d % 192, Nat.mod_lt _ (by decide)⟩)
/-- One number of the keys and values. -/
def atV (x : S2x4096x8x256.Idx → EReal) (b s g d : ℕ) : EReal :=
  x (ix4 ⟨b % 2, Nat.mod_lt _ (by decide)⟩ ⟨s % 4096, Nat.mod_lt _ (by decide)⟩ ⟨g % 8, Nat.mod_lt _ (by decide)⟩ ⟨d % 256, Nat.mod_lt _ (by decide)⟩)
/-- One number of the shared keys. -/
def atP (x : S2x4096x64.Idx → EReal) (b s d : ℕ) : EReal :=
  x (ix3 ⟨b % 2, Nat.mod_lt _ (by decide)⟩ ⟨s % 4096, Nat.mod_lt _ (by decide)⟩ ⟨d % 64, Nat.mod_lt _ (by decide)⟩)

theorem pad_zero : FloatOps.sitofp (F := Ideal) .f32 (0#32) = (0 : EReal) := by
  show ((((0#32).toInt : ℤ) : ℝ) : EReal) = 0
  simp

theorem V_q_at (r : Fin 8192) (n : Fin 1024) (b s g d : ℕ) (hr : r.val = 4096 * b + s) (hs : s < 4096) (hn : n.val = 128 * g + d) (hd : d < 128) :
    (V m c main_v2 : S8192x1024.Idx → EReal) (ix2 r n) = atQ (argQ m c) b s g d := by
  have hr' := r.isLt
  have hn' := n.isLt
  rw [V_q]
  unfold atQ
  pointwise
  congr 1
  congr 1 <;> apply Fin.ext <;> simp only <;> omega

theorem V_x_lo (r : Fin 8192) (n : Fin 1024) (b s g d : ℕ) (hr : r.val = 4096 * b + s) (hs : s < 4096) (hn : n.val = 128 * g + d) (hd : d < 64) :
    (V m c main_v6 : S8192x1024.Idx → EReal) (ix2 r n) = atQ (argQ m c) b s g (128 + d) := by
  have hr' := r.isLt
  have hn' := n.isLt
  rw [V_x]
  unfold atQ
  pointwise
  rw [dif_pos (by omega)]
  congr 1
  congr 1 <;> apply Fin.ext <;> simp only <;> omega

theorem V_x_hi (r : Fin 8192) (n : Fin 1024) (g d : ℕ) (hn : n.val = 128 * g + d) (hd : 64 ≤ d) (hd' : d < 128) :
    (V m c main_v6 : S8192x1024.Idx → EReal) (ix2 r n) = (0 : EReal) := by
  have hr' := r.isLt
  have hn' := n.isLt
  rw [V_x]
  pointwise
  rw [dif_neg (by omega)]
  exact pad_zero

theorem V_y_lo (r : Fin 8192) (n : Fin 128) (b s : ℕ) (hr : r.val = 4096 * b + s) (hs : s < 4096) (hd : n.val < 64) :
    (V m c main_v9 : S8192x128.Idx → EReal) (ix2 r n) = atP (argP m c) b s n.val := by
  have hr' := r.isLt
  rw [V_y]
  unfold atP
  pointwise
  rw [dif_pos (by omega)]
  congr 1
  congr 1 <;> apply Fin.ext <;> simp only <;> omega

theorem V_y_hi (r : Fin 8192) (n : Fin 128) (hd : 64 ≤ n.val) :
    (V m c main_v9 : S8192x128.Idx → EReal) (ix2 r n) = (0 : EReal) := by
  have hr' := r.isLt
  rw [V_y]
  pointwise
  rw [dif_neg (by omega)]
  exact pad_zero

theorem V_k_at (r : Fin 8192) (n : Fin 2048) (b s g d : ℕ) (hr : r.val = 4096 * b + s) (hs : s < 4096) (hn : n.val = 128 * g + d) (hg : g < 8) (hd : d < 128) :
    (V m c main_v15 : S8192x2048.Idx → EReal) (ix2 r n) = atV (argKV m c) b s g d := by
  have hr' := r.isLt
  rw [V_kv]
  unfold atV
  pointwise
  rw [dif_pos (by omega)]
  congr 1
  congr 1 <;> apply Fin.ext <;> simp only <;> omega

theorem V_v_at (r : Fin 8192) (n : Fin 2048) (b s g d : ℕ) (hr : r.val = 4096 * b + s) (hs : s < 4096) (hn : n.val = 1024 + 128 * g + d) (hg : g < 8) (hd : d < 128) :
    (V m c main_v15 : S8192x2048.Idx → EReal) (ix2 r n) = atV (argKV m c) b s g (128 + d) := by
  have hr' := r.isLt
  rw [V_kv]
  unfold atV
  pointwise
  rw [dif_neg (by omega)]
  congr 1
  congr 1 <;> apply Fin.ext <;> simp only <;> omega

/-! ## The blocks as elements of those arrays -/

theorem blkQ_apply (t : Fin grid0.N) (i : Fin 512) (n : Fin 1024) (r : Fin 8192) (n' : Fin 1024)
    (hr : r.val = 512 * (8 * ((grid0.coords t 0 : Fin 2) : ℕ) + qn (grid0.coords t 2)) + i.val) (hn : n'.val = 0 * 1024 + n.val) :
    blkQ m c t (ix2 i n) = (V m c main_v2 : S8192x1024.Idx → EReal) (ix2 r n') := by
  refine congrArg (V m c main_v2 : S8192x1024.Idx → EReal) (funext fun a => Fin.ext ?_)
  have e : ((cfgT (F := Ideal)).win 0).index t = ![8 * ((grid0.coords t 0 : Fin 2) : ℕ) + qn (grid0.coords t 2), 0] := ix_q (F := Ideal) (grid0.coords t)
  refine (Pipeline.Window.rect_emb_val ((cfgT (F := Ideal)).win 0) t (ix2 i n) a).trans ?_
  rw [e]
  match a with
  | ⟨0, _⟩ => exact show (8 * ((grid0.coords t 0 : Fin 2) : ℕ) + qn (grid0.coords t 2)) * 512 + i.val = r.val by omega
  | ⟨1, _⟩ => exact show 0 * 1024 + n.val = n'.val by omega

theorem blkK_apply (t : Fin grid0.N) (i : Fin 512) (n : Fin 1024) (r : Fin 8192) (n' : Fin 2048)
    (hr : r.val = 512 * (8 * ((grid0.coords t 0 : Fin 2) : ℕ) + kn (grid0.coords t 2)) + i.val) (hn : n'.val = 0 * 1024 + n.val) :
    blkK m c t (ix2 i n) = (V m c main_v15 : S8192x2048.Idx → EReal) (ix2 r n') := by
  refine congrArg (V m c main_v15 : S8192x2048.Idx → EReal) (funext fun a => Fin.ext ?_)
  have e : ((cfgT (F := Ideal)).win 1).index t = ![8 * ((grid0.coords t 0 : Fin 2) : ℕ) + kn (grid0.coords t 2), 0] := ix_k (F := Ideal) (grid0.coords t)
  refine (Pipeline.Window.rect_emb_val ((cfgT (F := Ideal)).win 1) t (ix2 i n) a).trans ?_
  rw [e]
  match a with
  | ⟨0, _⟩ => exact show (8 * ((grid0.coords t 0 : Fin 2) : ℕ) + kn (grid0.coords t 2)) * 512 + i.val = r.val by omega
  | ⟨1, _⟩ => exact show 0 * 1024 + n.val = n'.val by omega

theorem blkV_apply (t : Fin grid0.N) (i : Fin 512) (n : Fin 1024) (r : Fin 8192) (n' : Fin 2048)
    (hr : r.val = 512 * (8 * ((grid0.coords t 0 : Fin 2) : ℕ) + kn (grid0.coords t 2)) + i.val) (hn : n'.val = 1 * 1024 + n.val) :
    blkV m c t (ix2 i n) = (V m c main_v15 : S8192x2048.Idx → EReal) (ix2 r n') := by
  refine congrArg (V m c main_v15 : S8192x2048.Idx → EReal) (funext fun a => Fin.ext ?_)
  have e : ((cfgT (F := Ideal)).win 2).index t = ![8 * ((grid0.coords t 0 : Fin 2) : ℕ) + kn (grid0.coords t 2), 1] := ix_v (F := Ideal) (grid0.coords t)
  refine (Pipeline.Window.rect_emb_val ((cfgT (F := Ideal)).win 2) t (ix2 i n) a).trans ?_
  rw [e]
  match a with
  | ⟨0, _⟩ => exact show (8 * ((grid0.coords t 0 : Fin 2) : ℕ) + kn (grid0.coords t 2)) * 512 + i.val = r.val by omega
  | ⟨1, _⟩ => exact show 1 * 1024 + n.val = n'.val by omega

theorem blkX_apply (t : Fin grid0.N) (i : Fin 512) (n : Fin 1024) (r : Fin 8192) (n' : Fin 1024)
    (hr : r.val = 512 * (8 * ((grid0.coords t 0 : Fin 2) : ℕ) + qn (grid0.coords t 2)) + i.val) (hn : n'.val = 0 * 1024 + n.val) :
    blkX m c t (ix2 i n) = (V m c main_v6 : S8192x1024.Idx → EReal) (ix2 r n') := by
  refine congrArg (V m c main_v6 : S8192x1024.Idx → EReal) (funext fun a => Fin.ext ?_)
  have e : ((cfgT (F := Ideal)).win 3).index t = ![8 * ((grid0.coords t 0 : Fin 2) : ℕ) + qn (grid0.coords t 2), 0] := ix_x (F := Ideal) (grid0.coords t)
  refine (Pipeline.Window.rect_emb_val ((cfgT (F := Ideal)).win 3) t (ix2 i n) a).trans ?_
  rw [e]
  match a with
  | ⟨0, _⟩ => exact show (8 * ((grid0.coords t 0 : Fin 2) : ℕ) + qn (grid0.coords t 2)) * 512 + i.val = r.val by omega
  | ⟨1, _⟩ => exact show 0 * 1024 + n.val = n'.val by omega

theorem blkY_apply (t : Fin grid0.N) (i : Fin 512) (n : Fin 128) (r : Fin 8192) (n' : Fin 128)
    (hr : r.val = 512 * (8 * ((grid0.coords t 0 : Fin 2) : ℕ) + kn (grid0.coords t 2)) + i.val) (hn : n'.val = 0 * 128 + n.val) :
    blkY m c t (ix2 i n) = (V m c main_v9 : S8192x128.Idx → EReal) (ix2 r n') := by
  refine congrArg (V m c main_v9 : S8192x128.Idx → EReal) (funext fun a => Fin.ext ?_)
  have e : ((cfgT (F := Ideal)).win 4).index t = ![8 * ((grid0.coords t 0 : Fin 2) : ℕ) + kn (grid0.coords t 2), 0] := ix_y (F := Ideal) (grid0.coords t)
  refine (Pipeline.Window.rect_emb_val ((cfgT (F := Ideal)).win 4) t (ix2 i n) a).trans ?_
  rw [e]
  match a with
  | ⟨0, _⟩ => exact show (8 * ((grid0.coords t 0 : Fin 2) : ℕ) + kn (grid0.coords t 2)) * 512 + i.val = r.val by omega
  | ⟨1, _⟩ => exact show 0 * 128 + n.val = n'.val by omega

/-- A point's batch. -/
def bn (t : Fin grid0.N) : ℕ := ((grid0.coords t 0 : Fin 2) : ℕ)
theorem bn_lt (t : Fin grid0.N) : bn t < 2 := (grid0.coords t 0 : Fin 2).isLt

theorem blkQ_at (t : Fin grid0.N) (i : Fin 512) (n : Fin 1024) (g d : ℕ) (hg : g < 8) (hd : d < 128) (hn : n.val = 128 * g + d) :
    blkQ m c t (ix2 i n) = atQ (argQ m c) (bn t) (512 * qn (grid0.coords t 2) + i.val) g d := by
  have hb := bn_lt t
  have hq := qn_lt (grid0.coords t 2)
  have hi : i.val < 512 := i.isLt
  have hlt : 512 * (8 * bn t + qn (grid0.coords t 2)) + i.val < 8192 := by omega
  rw [blkQ_apply m c t i n ⟨_, hlt⟩ ⟨0 + n.val, by omega⟩ rfl (by simp only)]
  exact V_q_at m c _ _ (bn t) (512 * qn (grid0.coords t 2) + i.val) g d (by simp only; omega) (by omega) (by simp only; omega) hd

theorem blkX_lo (t : Fin grid0.N) (i : Fin 512) (n : Fin 1024) (g d : ℕ) (hg : g < 8) (hd : d < 64) (hn : n.val = 128 * g + d) :
    blkX m c t (ix2 i n) = atQ (argQ m c) (bn t) (512 * qn (grid0.coords t 2) + i.val) g (128 + d) := by
  have hb := bn_lt t
  have hq := qn_lt (grid0.coords t 2)
  have hi : i.val < 512 := i.isLt
  have hlt : 512 * (8 * bn t + qn (grid0.coords t 2)) + i.val < 8192 := by omega
  rw [blkX_apply m c t i n ⟨_, hlt⟩ ⟨0 + n.val, by omega⟩ rfl (by simp only)]
  exact V_x_lo m c _ _ (bn t) (512 * qn (grid0.coords t 2) + i.val) g d (by simp only; omega) (by omega) (by simp only; omega) hd

theorem blkX_hi (t : Fin grid0.N) (i : Fin 512) (n : Fin 1024) (g d : ℕ) (hg : g < 8) (hd : 64 ≤ d) (hd' : d < 128) (hn : n.val = 128 * g + d) :
    blkX m c t (ix2 i n) = (0 : EReal) := by
  have hb := bn_lt t
  have hq := qn_lt (grid0.coords t 2)
  have hi : i.val < 512 := i.isLt
  have hlt : 512 * (8 * bn t + qn (grid0.coords t 2)) + i.val < 8192 := by omega
  rw [blkX_apply m c t i n ⟨_, hlt⟩ ⟨0 + n.val, by omega⟩ rfl (by simp only)]
  exact V_x_hi m c _ _ g d (by simp only; omega) hd hd'

theorem blkK_at (t : Fin grid0.N) (i : Fin 512) (n : Fin 1024) (g d : ℕ) (hg : g < 8) (hd : d < 128) (hn : n.val = 128 * g + d) :
    blkK m c t (ix2 i n) = atV (argKV m c) (bn t) (512 * kn (grid0.coords t 2) + i.val) g d := by
  have hb := bn_lt t
  have hq := kn_lt (grid0.coords t 2)
  have hi : i.val < 512 := i.isLt
  have hlt : 512 * (8 * bn t + kn (grid0.coords t 2)) + i.val < 8192 := by omega
  rw [blkK_apply m c t i n ⟨_, hlt⟩ ⟨0 + n.val, by omega⟩ rfl (by simp only)]
  exact V_k_at m c _ _ (bn t) (512 * kn (grid0.coords t 2) + i.val) g d (by simp only; omega) (by omega) (by simp only; omega) hg hd

theorem blkV_at (t : Fin grid0.N) (i : Fin 512) (n : Fin 1024) (g d : ℕ) (hg : g < 8) (hd : d < 128) (hn : n.val = 128 * g + d) :
    blkV m c t (ix2 i n) = atV (argKV m c) (bn t) (512 * kn (grid0.coords t 2) + i.val) g (128 + d) := by
  have hb := bn_lt t
  have hq := kn_lt (grid0.coords t 2)
  have hi : i.val < 512 := i.isLt
  have hlt : 512 * (8 * bn t + kn (grid0.coords t 2)) + i.val < 8192 := by omega
  rw [blkV_apply m c t i n ⟨_, hlt⟩ ⟨1024 + n.val, by omega⟩ rfl (by simp only)]
  exact V_v_at m c _ _ (bn t) (512 * kn (grid0.coords t 2) + i.val) g d (by simp only; omega) (by omega) (by simp only; omega) hg hd

theorem blkY_lo (t : Fin grid0.N) (i : Fin 512) (n : Fin 128) (hd : n.val < 64) :
    blkY m c t (ix2 i n) = atP (argP m c) (bn t) (512 * kn (grid0.coords t 2) + i.val) n.val := by
  have hb := bn_lt t
  have hq := kn_lt (grid0.coords t 2)
  have hi : i.val < 512 := i.isLt
  have hlt : 512 * (8 * bn t + kn (grid0.coords t 2)) + i.val < 8192 := by omega
  rw [blkY_apply m c t i n ⟨_, hlt⟩ n rfl (by omega)]
  exact V_y_lo m c _ _ (bn t) (512 * kn (grid0.coords t 2) + i.val) (by simp only; omega) (by omega) hd

theorem blkY_hi (t : Fin grid0.N) (i : Fin 512) (n : Fin 128) (hd : 64 ≤ n.val) :
    blkY m c t (ix2 i n) = (0 : EReal) := by
  have hb := bn_lt t
  have hq := kn_lt (grid0.coords t 2)
  have hi : i.val < 512 := i.isLt
  have hlt : 512 * (8 * bn t + kn (grid0.coords t 2)) + i.val < 8192 := by omega
  rw [blkY_apply m c t i n ⟨_, hlt⟩ n rfl (by omega)]
  exact V_y_hi m c _ _ hd

end Cert.Kernel11Ideal.Lat
end
-- ==== Proof.LatTraj.lean ====
/- The running arrays along the schedule: after a tile of keys every row holds the sums over the keys so far. -/
module

public import proofs.«01_k».proof.Proof.LatValue
public import proofs.«01_k».proof.Proof.LatReads

@[expose] public section

set_option maxRecDepth 16384

noncomputable section

namespace Cert.Kernel11Ideal.Lat

open Idealize.ShloMosaic Idealize.ShloMosaic.TcCoe
open Idealize.SL Idealize.SL.Sem
open Cert.Kernel11Ideal Facts₀ Facts
open Cert.Softmax (lane Row sc wt)
open Cert.KernelIdeal.Att (window2)
open VecWindow (window put)

/-! ## The attention's numbers -/

section Gold

variable (q : S2x4096x8x192.Idx → EReal) (kv : S2x4096x8x256.Idx → EReal) (kp : S2x4096x64.Idx → EReal)

/-- A key: a head's own lanes, then the lanes every head shares. -/
def atK (b s g d : ℕ) : EReal := if d < 128 then atV kv b s g d else atP kp b s (d - 128)
/-- The product of a query and a key. -/
def dotR (b g s j : ℕ) : ℝ := ∑ d ∈ Finset.range 192, (atQ q b s g d).toReal * (atK kv kp b j g d).toReal
/-- A key's weight for a query: a power of two where the key's chunk is not after the query's. -/
def wgt (b g s : ℕ) : ℕ → ℝ := fun j => wt (j / 64 ≤ s / 64) (scaleR * dotR q kv kp b g s j)
/-- A key's value. -/
def vals (b g : ℕ) (e j : ℕ) : EReal := atV kv b j g (128 + e)
/-- The columns that are summed: a key's values, then ones. -/
def cols (b g : ℕ) (e : Fin 256) (j : ℕ) : EReal := if e.val < 128 then vals kv b g e.val j else 1
/-- The attention's result: the weighted values over the weights, over the keys up to the query's tile. -/
def gold (b s g e : ℕ) : EReal :=
  (∑ j ∈ Finset.range (512 * (s / 512 + 1)), (wgt q kv kp b g s j : EReal) * vals kv b g e j)
    * (((∑ j ∈ Finset.range (512 * (s / 512 + 1)), wgt q kv kp b g s j)⁻¹ : ℝ) : EReal)

theorem wgt_sum_pos (b g s : ℕ) (n : ℕ) (hn : 0 < n) : 0 < ∑ j ∈ Finset.range n, wgt q kv kp b g s j := by
  refine Finset.sum_pos' (fun j _ => Cert.Softmax.wt_nonneg _ _) ⟨0, Finset.mem_range.2 hn, Cert.Softmax.wt_pos ?_ _⟩
  show 0 / 64 ≤ s / 64
  omega

/-- A query's and a key's lanes with the zeros the kernel adds after them. -/
def padQ (b s g d : ℕ) : ℝ := if d < 192 then (atQ q b s g d).toReal else 0
@[inherit_doc padQ] def padK (b s g d : ℕ) : ℝ := if d < 192 then (atK kv kp b s g d).toReal else 0

/-- The added zeros add nothing. -/
theorem dot_pad (b g s j : ℕ) : ∑ d ∈ Finset.range 256, padQ q b s g d * padK kv kp b j g d = dotR q kv kp b g s j := by
  rw [show 256 = 192 + 64 from rfl, Finset.sum_range_add, dotR]
  have h0 : ∑ x ∈ Finset.range 64, padQ q b s g (192 + x) * padK kv kp b j g (192 + x) = 0 :=
    Finset.sum_eq_zero fun x _ => by unfold padQ; rw [if_neg (by omega), zero_mul]
  rw [h0, add_zero]
  refine Finset.sum_congr rfl fun d hd => ?_
  have hd' := Finset.mem_range.1 hd
  unfold padQ padK
  rw [if_pos hd', if_pos hd']

end Gold

/-- Every element is a number. -/
def RealQ (x : S2x4096x8x192.Idx → EReal) : Prop := ∀ i, x i ≠ ⊤ ∧ x i ≠ ⊥
/-- Every key a head has of its own is a number: the first 128 lanes. -/
def RealV (x : S2x4096x8x256.Idx → EReal) : Prop := ∀ b s g d, d < 128 → atV x b s g d ≠ ⊤ ∧ atV x b s g d ≠ ⊥
@[inherit_doc RealQ] def RealP (x : S2x4096x64.Idx → EReal) : Prop := ∀ i, x i ≠ ⊤ ∧ x i ≠ ⊥

theorem atQ_coe (x : S2x4096x8x192.Idx → EReal) (h : RealQ x) (b s g d : ℕ) : atQ x b s g d = (((atQ x b s g d).toReal : ℝ) : EReal) :=
  (EReal.coe_toReal (h _).1 (h _).2).symm

theorem atK_coe (kv : S2x4096x8x256.Idx → EReal) (kp : S2x4096x64.Idx → EReal) (hv : RealV kv) (hp : RealP kp) (b s g d : ℕ) :
    atK kv kp b s g d = (((atK kv kp b s g d).toReal : ℝ) : EReal) := by
  unfold atK
  split
  · rename_i h
    exact (EReal.coe_toReal (hv b s g d h).1 (hv b s g d h).2).symm
  · exact (EReal.coe_toReal (hp _).1 (hp _).2).symm

variable (m : (ℓ : Loc nD τ sig) → Buf (Elt Ideal) ℓ) (c : Dev nD)

theorem scores_at (hq : RealQ (argQ m c)) (hv : RealV (argKV m c)) (hp : RealP (argP m c)) (t : Fin grid0.N) (r g : ℕ) (hr : r ≤ 256) (hg : g < 8) (i : Fin 256) (j : Fin 512) :
    scoresAt r g hr hg (blkI m c t) (ix2 i j)
      = ((scaleR * dotR (argQ m c) (argKV m c) (argP m c) (bn t) g (512 * qn (grid0.coords t 2) + (r + i.val)) (512 * kn (grid0.coords t 2) + j.val) : ℝ) : EReal) := by
  rw [← dot_pad]
  refine scoresAt_apply r g hr hg _ i j (padQ (argQ m c) (bn t) (512 * qn (grid0.coords t 2) + (r + i.val)) g)
    (padK (argKV m c) (argP m c) (bn t) (512 * kn (grid0.coords t 2) + j.val) g) ?_ ?_ ?_ ?_
  · intro d i' d' hi hd
    have hlt := d.isLt
    refine (blkQ_at m c t i' d' g d.val hg d.isLt hd).trans ?_
    rw [hi]
    unfold padQ
    rw [if_pos (by omega)]
    exact atQ_coe _ hq _ _ _ _
  · intro d i' d' hi hd
    have hlt := d.isLt
    unfold padQ
    by_cases hl : d.val < 64
    · refine (blkX_lo m c t i' d' g d.val hg hl hd).trans ?_
      rw [hi, if_pos (by omega)]
      exact atQ_coe _ hq _ _ _ _
    · rw [if_neg (by omega)]
      exact blkX_hi m c t i' d' g d.val hg (by omega) d.isLt hd
  · intro d d' hd
    have hlt := d.isLt
    have e := atK_coe _ _ hv hp (bn t) (512 * kn (grid0.coords t 2) + j.val) g d.val
    unfold padK
    rw [if_pos (by omega), ← e]
    unfold atK
    rw [if_pos hlt]
    exact blkK_at m c t j d' g d.val hg d.isLt hd
  · intro d
    have hlt := d.isLt
    unfold padK
    by_cases hl : d.val < 64
    · have e := atK_coe _ _ hv hp (bn t) (512 * kn (grid0.coords t 2) + j.val) g (128 + d.val)
      rw [if_pos (by omega), ← e]
      unfold atK
      rw [if_neg (by omega), Nat.add_sub_cancel_left]
      exact blkY_lo m c t j d hl
    · rw [if_neg (by omega)]
      exact blkY_hi m c t j d (by omega)

theorem cols_at (t : Fin grid0.N) (g : ℕ) (hg : g < 8) (j : Fin 512) (e : Fin 256) :
    valMat (window (blkI m c t).v ![0, 128 * g] S512x128.size (inbK g hg)) (ix2 j e) = cols (argKV m c) (bn t) g e (512 * kn (grid0.coords t 2) + j.val) := by
  unfold cols
  by_cases h : e.val < 128
  · have he : 128 * g + e.val < 1024 := by omega
    rw [if_pos h, valMat_lo _ j e ⟨e.val, h⟩ rfl]
    refine (window2 (blkI m c t).v 0 (128 * g) (inbK g hg) j (⟨e.val, h⟩ : Fin 128) j ⟨128 * g + e.val, he⟩ (by omega) rfl).trans ?_
    exact blkV_at m c t j ⟨128 * g + e.val, he⟩ g e.val hg h rfl
  · rw [if_neg h, valMat_hi _ j e (by omega)]

/-- The row that a half's row is among the positions. -/
def pos (t : Fin grid0.N) (r : ℕ) (i : Fin 256) : ℕ := 512 * qn (grid0.coords t 2) + (r + i.val)

/-- After `n` keys, a row of a half of a head. -/
def RowAt (t : Fin grid0.N) (r g : ℕ) (hr : r ≤ 256) (hg : g < 8) (i : Fin 256) (n : ℕ) (st : St Ideal) : Prop :=
  RowB (wgt (argQ m c) (argKV m c) (argP m c) (bn t) g (pos t r i)) (cols (argKV m c) (bn t) g) n i (blkOf r g hr hg st)

theorem init_row (t : Fin grid0.N) (r g : ℕ) (hr : r ≤ 256) (hg : g < 8) (i : Fin 256) : RowAt m c t r g hr hg i 0 (initS (F := Ideal)) :=
  .inl ⟨rfl, fun _ => rfl, fun _ => Ideal.ofBits_zero_f32, fun _ => Ideal.ofBits_zero_f32⟩

/-- A half's step where the keys' tile lies wholly before the queries'. -/
theorem below_row (hq : RealQ (argQ m c)) (hv : RealV (argKV m c)) (hp : RealP (argP m c)) (t : Fin grid0.N) (h : kn (grid0.coords t 2) ≠ qn (grid0.coords t 2))
    (r g : ℕ) (hr : r ≤ 256) (hg : g < 8) (i : Fin 256) (b : Blk Ideal)
    (hb : RowB (wgt (argQ m c) (argKV m c) (argP m c) (bn t) g (pos t r i)) (cols (argKV m c) (bn t) g) (512 * kn (grid0.coords t 2)) i b) :
    RowB (wgt (argQ m c) (argKV m c) (argP m c) (bn t) g (pos t r i)) (cols (argKV m c) (bn t) g) (512 * kn (grid0.coords t 2) + 512) i
      (nextBlk id r g hr hg (blkI m c t) b) := by
  have hle := kn_le (grid0.coords t 2)
  refine next_row id r g hr hg _ b _ i (fun j => j / 64 ≤ pos t r i / 64) (fun j => scaleR * dotR (argQ m c) (argKV m c) (argP m c) (bn t) g (pos t r i) j)
    _ hb (fun j => ?_) (fun j e => cols_at m c t g hg j e) (fun _ => by show 0 / 64 ≤ _; omega)
  refine (scores_at m c hq hv hp t r g hr hg i j).trans ?_
  have hj := j.isLt
  unfold sc
  rw [if_pos (by unfold pos; omega)]
  rfl

/-- A half's step on the tiles' diagonal. -/
theorem diag_row (hq : RealQ (argQ m c)) (hv : RealV (argKV m c)) (hp : RealP (argP m c)) (t : Fin grid0.N)
    (r g : ℕ) (hr : r ≤ 256) (hg : g < 8) (i : Fin 256) (b : Blk Ideal)
    (hb : RowB (wgt (argQ m c) (argKV m c) (argP m c) (bn t) g (pos t r i)) (cols (argKV m c) (bn t) g) (512 * kn (grid0.coords t 2)) i b) :
    RowB (wgt (argQ m c) (argKV m c) (argP m c) (bn t) g (pos t r i)) (cols (argKV m c) (bn t) g) (512 * kn (grid0.coords t 2) + 512) i
      (nextBlk (masked (BitVec.ofNat 32 (qn (grid0.coords t 2))) (BitVec.ofNat 32 (kn (grid0.coords t 2))) (BitVec.ofNat 32 r)) r g hr hg
        (blkI m c t) b) := by
  refine next_row _ r g hr hg _ b _ i (fun j => j / 64 ≤ pos t r i / 64) (fun j => scaleR * dotR (argQ m c) (argKV m c) (argP m c) (bn t) g (pos t r i) j)
    _ hb (fun j => ?_) (fun j e => cols_at m c t g hg j e) (fun _ => by show 0 / 64 ≤ _; omega)
  refine (masked_apply _ _ _ (kn_lt _) (qn_lt _) _ i j hr).trans ?_
  exact congrArg (fun x : EReal => if (512 * kn (grid0.coords t 2) + j.val) / 64 ≤ pos t r i / 64 then x else ⊥) (scores_at m c hq hv hp t r g hr hg i j)

/-- A point's step on a half. -/
theorem step_row (hq : RealQ (argQ m c)) (hv : RealV (argKV m c)) (hp : RealP (argP m c)) (t : Fin grid0.N) (r g : ℕ) (hr : r ≤ 256) (hg : g < 8) (h2 : r = 0 ∨ r = 256) (i : Fin 256)
    (st : St Ideal) (hs : kn (grid0.coords t 2) ≠ 0 → RowAt m c t r g hr hg i (512 * kn (grid0.coords t 2)) st) :
    RowAt m c t r g hr hg i (512 * kn (grid0.coords t 2) + 512) (stepAt m c t st) := by
  unfold stepAt pointS
  rw [wd_lit, wd_lit, wd_lit, wd_lit]
  have h1 : RowAt m c t r g hr hg i (512 * kn (grid0.coords t 2)) (if isOne (lit2 (grid0.coords t 2)) = 1#1 then initS else st) := by
    by_cases h0 : kn (grid0.coords t 2) = 0
    · rw [if_pos ((first_iff _).2 h0), h0]; exact init_row m c t r g hr hg i
    · rw [if_neg (fun hh => h0 ((first_iff _).1 hh))]; exact hs h0
  generalize (if isOne (lit2 (grid0.coords t 2)) = 1#1 then (initS : St Ideal) else st) = st1 at h1
  by_cases hd : kn (grid0.coords t 2) = qn (grid0.coords t 2)
  · simp only [if_pos ((diag_iff _).2 hd), if_neg (fun hh => (below_iff _).1 hh hd)]
    suffices gen : ∀ x y : BitVec 32, x = BitVec.ofNat 32 (qn (grid0.coords t 2)) → y = BitVec.ofNat 32 (kn (grid0.coords t 2)) →
        RowAt m c t r g hr hg i (512 * kn (grid0.coords t 2) + 512) (stepS (masked x y 0#32) (masked x y 256#32) (blkI m c t) st1) from
      gen _ _ (lit0_eq _) (lit1_eq _)
    rintro _ _ rfl rfl
    rcases h2 with rfl | rfl
    · have := diag_row m c hq hv hp t 0 g hr hg i _ h1
      unfold RowAt
      rw [blkOf_step0]; exact this
    · have := diag_row m c hq hv hp t 256 g hr hg i _ h1
      unfold RowAt
      rw [blkOf_step1]; exact this
  · simp only [if_neg (fun hh => hd ((diag_iff _).1 hh)), if_pos ((below_iff _).2 hd)]
    rcases h2 with rfl | rfl
    · have := below_row m c hq hv hp t hd 0 g hr hg i _ h1
      unfold RowAt
      rw [blkOf_step0]; exact this
    · have := below_row m c hq hv hp t hd 256 g hr hg i _ h1
      unfold RowAt
      rw [blkOf_step1]; exact this

theorem prev_point : ∀ t : Fin grid0.N, kn (grid0.coords t 2) ≠ 0 → ∃ h : t.val - 1 < grid0.N, 0 < t.val
    ∧ ((grid0.coords ⟨t.val - 1, h⟩ 0 : Fin 2) : ℕ) = ((grid0.coords t 0 : Fin 2) : ℕ)
    ∧ qn (grid0.coords ⟨t.val - 1, h⟩ 2) = qn (grid0.coords t 2) ∧ kn (grid0.coords ⟨t.val - 1, h⟩ 2) + 1 = kn (grid0.coords t 2) := by decide +kernel

/-- After every point, every row of every half of every head holds the keys so far. -/
theorem traj_row (hq : RealQ (argQ m c)) (hv : RealV (argKV m c)) (hp : RealP (argP m c)) (r g : ℕ) (hr : r ≤ 256) (hg : g < 8) (h2 : r = 0 ∨ r = 256) (i : Fin 256) :
    ∀ n : ℕ, ∀ t : Fin grid0.N, t.val = n → RowAt m c t r g hr hg i (512 * kn (grid0.coords t 2) + 512) (traj m c (t.val + 1)) := by
  intro n
  induction n with
  | zero =>
    intro t ht
    have e : traj m c (t.val + 1) = stepAt m c t (traj m c t.val) := dif_pos t.isLt
    rw [e]
    exact step_row m c hq hv hp t r g hr hg h2 i _ fun h => by obtain ⟨_, hpos, _⟩ := prev_point t h; omega
  | succ n ih =>
    intro t ht
    have e : traj m c (t.val + 1) = stepAt m c t (traj m c t.val) := dif_pos t.isLt
    rw [e]
    refine step_row m c hq hv hp t r g hr hg h2 i _ fun h => ?_
    obtain ⟨hl, hpos, hb, hqn, hkn⟩ := prev_point t h
    have := ih ⟨t.val - 1, hl⟩ (by show t.val - 1 = n; omega)
    unfold RowAt pos bn at this ⊢
    rw [hb, hqn] at this
    have e1 : t.val - 1 + 1 = t.val := by omega
    have e2 : 512 * kn (grid0.coords ⟨t.val - 1, hl⟩ 2) + 512 = 512 * kn (grid0.coords t 2) := by omega
    rw [e2] at this
    simp only [e1] at this
    exact this

end Cert.Kernel11Ideal.Lat
end
-- ==== Proof.LatOut.lean ====
/- The kernel's result: every element is the attention's weighted mean of the values. -/
module

public import proofs.«01_k».proof.Proof.Out
public import proofs.«01_k».proof.Proof.LatTraj
public import proofs.«01_k».proof.Proof.LatRun
public import Idealize.ShloMosaic.Lib.Pipeline.ValueKit

@[expose] public section

set_option maxRecDepth 16384

noncomputable section

namespace Cert.Kernel11Ideal.Lat

open Idealize.ShloMosaic Idealize.ShloMosaic.TcCoe
open Idealize.ShloMosaic.Pipeline
open Idealize.SL Idealize.SL.Sem
open Cert.Kernel11Ideal Facts₀ Facts
open Cert.Softmax (lane Row sc wt)
open Cert.KernelIdeal.Att (window3)
open VecWindow (window put)

variable (m : (ℓ : Loc nD τ sig) → Buf (Elt Ideal) ℓ) (c : Dev nD)

/-- The attention's result as one array: position, then head and column. -/
def goldArr (q : S2x4096x8x192.Idx → EReal) (kv : S2x4096x8x256.Idx → EReal) (kp : S2x4096x64.Idx → EReal) : S8192x1024.Idx → EReal := fun y =>
  gold q kv kp ((y 0).val / 4096) ((y 0).val % 4096) ((y 1).val / 128) ((y 1).val % 128)

/-- A column of the values among the columns that are summed. -/
def valLane (e : Fin 128) : Fin 256 := ⟨e.val, by omega⟩

/-- An element of a head's result, from a half's block. -/
theorem quotS_blk (st : St Ideal) (r g : ℕ) (hr : r ≤ 256) (hg : g < 8) (i : Fin 256) (i' : Fin 512) (hi : i'.val = r + i.val) (e : Fin 128) :
    quotS st g hg (ix2 i' e) = Ideal.div ((blkOf r g hr hg st).a (ix3 0 i (valLane e))) ((blkOf r g hr hg st).a (ix3 0 i (onesLane e))) := by
  unfold quotS
  refine (quot_apply _ _ i' e).trans ?_
  have ha : window st.a ![g, 0, 0] S1x512x128.size (inbN g 0 hg (by omega)) (ix3 0 i' e) = (blkOf r g hr hg st).a (ix3 0 i (valLane e)) :=
    (window3 st.a g 0 0 (inbN g 0 hg (by omega)) 0 i' e ⟨g, hg⟩ i' (valLane e) rfl (by omega) (Nat.zero_add _).symm).trans
      (window3 st.a g r 0 (inbA r g hr hg) 0 i (valLane e) ⟨g, hg⟩ i' (valLane e) rfl hi (by omega)).symm
  have hl : window st.a ![g, 0, 128] S1x512x128.size (inbN g 128 hg (by omega)) (ix3 0 i' e) = (blkOf r g hr hg st).a (ix3 0 i (onesLane e)) :=
    (window3 st.a g 0 128 (inbN g 128 hg (by omega)) 0 i' e ⟨g, hg⟩ i' (onesLane e) rfl (by omega) rfl).trans
      (window3 st.a g r 0 (inbA r g hr hg) 0 i (onesLane e) ⟨g, hg⟩ i' (onesLane e) rfl hi (by omega)).symm
  exact congrArg₂ Ideal.div ha hl

/-- The result of a head where a tile of queries ends. -/
theorem quot_gold (hq : RealQ (argQ m c)) (hv : RealV (argKV m c)) (hp : RealP (argP m c)) (t : Fin grid0.N) (h : kn (grid0.coords t 2) = qn (grid0.coords t 2))
    (g : ℕ) (hg : g < 8) (i' : Fin 512) (e : Fin 128) :
    quotS (traj m c (t.val + 1)) g hg (ix2 i' e) = gold (argQ m c) (argKV m c) (argP m c) (bn t) (512 * qn (grid0.coords t 2) + i'.val) g e.val := by
  have hi' := i'.isLt
  obtain ⟨r, i, hr, h2, hi⟩ : ∃ (r : ℕ) (i : Fin 256), r ≤ 256 ∧ (r = 0 ∨ r = 256) ∧ i'.val = r + i.val := by
    by_cases hlt : i'.val < 256
    · exact ⟨0, ⟨i'.val, hlt⟩, by omega, .inl rfl, by simp only; omega⟩
    · exact ⟨256, ⟨i'.val - 256, by omega⟩, by omega, .inr rfl, by simp only; omega⟩
  rw [quotS_blk _ r g hr hg i i' hi e]
  have hrow := traj_row m c hq hv hp r g hr hg h2 i t.val t rfl
  unfold RowAt at hrow
  have hpos : pos t r i = 512 * qn (grid0.coords t 2) + i'.val := by unfold pos; omega
  have hn : 512 * kn (grid0.coords t 2) + 512 = 512 * ((512 * qn (grid0.coords t 2) + i'.val) / 512 + 1) := by omega
  rw [hpos, hn] at hrow
  refine (Cert.Softmax.quotient _ _ _ (by omega) _ _ _ hrow (wgt_sum_pos _ _ _ _ _ _ _ (by omega)) (valLane e) e).trans ?_
  unfold gold cols
  simp only [show (valLane e).val < 128 from e.isLt, if_true]
  rfl

/-- The block that a point writes back is the attention's result there. -/
theorem out_gold (hq : RealQ (argQ m c)) (hv : RealV (argKV m c)) (hp : RealP (argP m c)) (t : Fin grid0.N) (h : kn (grid0.coords t 2) = qn (grid0.coords t 2))
    (i : Fin 512) (n : Fin 1024) :
    outBlk m c t (ix2 i n) = gold (argQ m c) (argKV m c) (argP m c) (bn t) (512 * qn (grid0.coords t 2) + i.val) (n.val / 128) (n.val % 128) := by
  have hn := n.isLt
  have hg : n.val / 128 < 8 := by omega
  unfold outBlk
  refine (lastS_at _ _ (ix2 i n) (n.val / 128) hg rfl).trans ?_
  refine Eq.trans ?_ (quot_gold m c hq hv hp t h (n.val / 128) hg i ⟨n.val % 128, Nat.mod_lt _ (by decide)⟩)
  refine congrArg (quotS (traj m c (t.val + 1)) (n.val / 128) hg) (funext fun a => ?_)
  match a with
  | ⟨0, _⟩ => exact Fin.ext (show i.val - 0 = i.val by omega)
  | ⟨1, _⟩ => exact Fin.ext (show n.val - 128 * (n.val / 128) = n.val % 128 by omega)

theorem cover_point : ∀ (b : Fin 2) (q : Fin 8), ∃ t : Fin grid0.N, kn (grid0.coords t 2) = qn (grid0.coords t 2)
    ∧ ((grid0.coords t 0 : Fin 2) : ℕ) = b.val ∧ qn (grid0.coords t 2) = q.val := by decide +kernel

/-- Where a point's block lies in the result. -/
theorem out_row (t : Fin grid0.N) (y : S512x1024.Idx) (a : Fin 2) :
    ((((cfgT (F := Ideal)).win 5).blk t).view.emb y a : ℕ) = ![8 * ((grid0.coords t 0 : Fin 2) : ℕ) + qn (grid0.coords t 2), 0] a * ![512, 1024] a + (y a).val := by
  refine (Pipeline.Window.rect_emb_val ((cfgT (F := Ideal)).win 5) t y a).trans ?_
  rw [index_o]
  match a with
  | ⟨0, _⟩ => rfl
  | ⟨1, _⟩ => rfl

theorem gold_emb (t : Fin grid0.N) (i : Fin 512) (n : Fin 1024) (y : S8192x1024.Idx)
    (h0 : (y 0).val = 4096 * bn t + (512 * qn (grid0.coords t 2) + i.val)) (h1 : (y 1).val = n.val) :
    goldArr (argQ m c) (argKV m c) (argP m c) y = gold (argQ m c) (argKV m c) (argP m c) (bn t) (512 * qn (grid0.coords t 2) + i.val) (n.val / 128) (n.val % 128) := by
  have hq := qn_lt (grid0.coords t 2)
  have hi := i.isLt
  unfold goldArr
  have e0 : (y 0).val / 4096 = bn t := by omega
  have e1 : (y 0).val % 4096 = 512 * qn (grid0.coords t 2) + i.val := by omega
  simp only [e0, e1, h1]

/-- The kernel's result. -/
theorem result_gold (hq : RealQ (argQ m c)) (hv : RealV (argKV m c)) (hp : RealP (argP m c)) : result m c = goldArr (argQ m c) (argKV m c) (argP m c) := by
  refine (dat m c).arrAt_eq_of_emb 5 (goldArr (argQ m c) (argKV m c) (argP m c)) (fun t hf y => ?_) (fun x => ?_)
  · rw [flush_o] at hf
    have hd := of_decide_eq_true hf
    obtain ⟨i, n, rfl⟩ : ∃ (i : Fin 512) (n : Fin 1024), y = (ix2 i n : S512x1024.Idx) :=
      ⟨y 0, y 1, funext fun a => by match a with | ⟨0, _⟩ => rfl | ⟨1, _⟩ => rfl⟩
    refine (out_gold m c hq hv hp t hd i n).trans ?_
    refine (gold_emb m c t i n _ ?_ ?_).symm
    · exact (out_row t (ix2 i n) 0).trans (by show (8 * bn t + qn (grid0.coords t 2)) * 512 + i.val = _; omega)
    · exact (out_row t (ix2 i n) 1).trans (by show 0 * 1024 + n.val = _; omega)
  · have h0 : (x 0).val < 8192 := (x 0).isLt
    have h1 : (x 1).val < 1024 := (x 1).isLt
    obtain ⟨t, hd, hb, hqn⟩ := cover_point ⟨(x 0).val / 4096, by omega⟩ ⟨(x 0).val % 4096 / 512, by omega⟩
    refine ⟨t, by rw [flush_o]; exact decide_eq_true hd, ?_⟩
    have e : x = (((cfgT (F := Ideal)).win 5).blk t).view.emb (ix2 (⟨(x 0).val % 512, Nat.mod_lt _ (by decide)⟩ : Fin 512) (⟨(x 1).val, h1⟩ : Fin 1024)) := by
      refine funext fun a => Fin.ext ((out_row t _ a).trans ?_).symm
      match a with
      | ⟨0, _⟩ => exact show (8 * ((grid0.coords t 0 : Fin 2) : ℕ) + qn (grid0.coords t 2)) * 512 + (x 0).val % 512 = (x 0).val by rw [hb, hqn]; simp only; omega
      | ⟨1, _⟩ => exact show 0 * 1024 + (x 1).val = (x 1).val by omega
    rw [e]
    exact (((cfgT (F := Ideal)).win 5).blk t).view.emb_mem_set _

end Cert.Kernel11Ideal.Lat
end
-- ==== Proof.LatRef.lean ====
/- The reference's value, element by element. -/
module

public import proofs.«01_k».proof.Proof.Gen.Reference11Ideal.Read
public import proofs.«01_k».proof.Proof.Ref
public import Idealize.ShloMosaic.Lib.Pointwise

@[expose] public section

set_option maxRecDepth 16384

noncomputable section

namespace Cert.Reference11Ideal.Lat

open Idealize.ShloMosaic
open Cert.Reference11Ideal Cert.Reference11Ideal.Read Facts₀
open Cert.Softmax (sc wt)
open Cert.ReferenceIdeal.Att (div_word le_word ofBits_neg_inf reduce_real)

variable (q : S2x4096x8x192.Idx → EReal) (kv : S2x4096x8x256.Idx → EReal) (kp : S2x4096x64.Idx → EReal)

theorem ofBits_192 : (Ideal.ofBits .f32 0x43400000#32 : EReal) = ((192 : ℝ) : EReal) := by
  simp [Ideal.ofBits, Ideal.ieee]
  norm_num
  rw [← EReal.coe_mul]
  norm_num

/-- The mask: whether a key's chunk is not after the query's. -/
theorem mask_apply (b : Fin 2) (h : Fin 8) (s j : Fin 4096) :
    val_main_call0_v1 (F := Ideal) (ix4 b h s j) = BitVec.ofBool (decide (j.val / 64 ≤ s.val / 64)) := by
  have e : val_main_call0_v1 (F := Ideal) (ix4 b h s j)
      = IntOp.cmpi .sle (IntOp.divsi .host (BitVec.ofNat 32 j.val) 64#32) (IntOp.divsi .host (BitVec.ofNat 32 s.val) 64#32) := by
    pointwise [val_main_call0_v1, val_main_v18, val_main_v16, val_main_v17, val_main_v12, val_main_v15, val_main_v10, val_main_v11, val_main_v13, val_main_v14, val_main_c, val_main_c_0, val_main_v5]
  rw [e, div_word j, div_word s]
  exact le_word ⟨j.val / 64, by omega⟩ ⟨s.val / 64, by omega⟩

theorem dot_apply (b : Fin 2) (h : Fin 8) (s j : Fin 4096) :
    val_main_v6 (F := Ideal) q kv kp (ix4 b h s j) = ∑ d : Fin 192, q (ix4 b s h d) * val_main_v3 (F := Ideal) kv kp (ix4 b j h d) := by
  pointwise [val_main_v6]

theorem key_lo (b : Fin 2) (j : Fin 4096) (h : Fin 8) (d : Fin 192) (hd : d.val < 128) :
    val_main_v3 (F := Ideal) kv kp (ix4 b j h d) = kv (ix4 b j h ⟨d.val, by omega⟩) := by
  pointwise [val_main_v3, val_main_v2]
  rw [dif_pos hd]

theorem key_hi (b : Fin 2) (j : Fin 4096) (h : Fin 8) (d : Fin 192) (hd : 128 ≤ d.val) :
    val_main_v3 (F := Ideal) kv kp (ix4 b j h d) = kp (ix3 b j ⟨d.val - 128, by omega⟩) := by
  pointwise [val_main_v3, val_main_v1, val_main_v0]
  rw [dif_neg (by omega)]

theorem root_apply (b : Fin 2) (h : Fin 8) (s j : Fin 4096) :
    val_main_v8 (F := Ideal) (ix4 b h s j) = ((Real.sqrt 192 : ℝ) : EReal) := by
  have e : val_main_v8 (F := Ideal) (ix4 b h s j) = Ideal.sqrt (Ideal.ofBits .f32 0x43400000#32) := by
    pointwise [val_main_v8, val_main_v7, val_main_cst]
  rw [e, ofBits_192]
  exact (Ideal.sqrt_coe _).trans (if_neg (by norm_num))

/-- The masked score of a real product. -/
theorem score_apply (b : Fin 2) (h : Fin 8) (s j : Fin 4096) (x : ℝ)
    (hx : ∑ d : Fin 192, q (ix4 b s h d) * val_main_v3 (F := Ideal) kv kp (ix4 b j h d) = ((x : ℝ) : EReal)) :
    val_main_v19 (F := Ideal) q kv kp (ix4 b h s j) = sc (j.val / 64 ≤ s.val / 64) (x * (1 / Real.sqrt 192)) := by
  rw [val_main_v19_apply, mask_apply, val_main_v9_apply, dot_apply, root_apply, hx, val_main_call0_v2_apply, val_main_call0_v0_apply, val_main_cst_1_apply]
  have hn : FloatOps.hostDivf (F := Ideal) (φ := .f32) ((x : ℝ) : EReal) ((Real.sqrt 192 : ℝ) : EReal) = ((x * (1 / Real.sqrt 192) : ℝ) : EReal) := by
    show Ideal.div _ _ = _
    rw [Ideal.div_coe (by positivity), EReal.coe_mul]
  rw [hn]
  by_cases hp : j.val / 64 ≤ s.val / 64
  · unfold sc; rw [decide_eq_true hp, if_pos hp]; rfl
  · unfold sc; rw [decide_eq_false hp, if_neg hp]; exact ofBits_neg_inf

/-- A row's maximum is a number. -/
theorem max_real (b : Fin 2) (h : Fin 8) (s : Fin 4096) (hy : ∀ i, val_main_v19 (F := Ideal) q kv kp i ≠ ⊤)
    (hb : val_main_v19 (F := Ideal) q kv kp (ix4 b h s 0) ≠ ⊥) :
    ∃ ρ : ℝ, val_main_v22 (F := Ideal) q kv kp (ix3 b h s) = (ρ : EReal) := by
  obtain ⟨ρ, hρ⟩ := reduce_real (val_main_v19 (F := Ideal) q kv kp) (val_main_cst_2 (F := Ideal)) reducesTo_S2x8x4096x4096_S2x8x4096_d3 h_S_
    (ix3 b h s) ofBits_neg_inf hy (ix4 b h s 0)
    (funext fun a => Fin.ext (by match a with | ⟨0, _⟩ => rfl | ⟨1, _⟩ => rfl | ⟨2, _⟩ => rfl)) hb
  refine ⟨ρ, ?_⟩
  have e : val_main_v20 (F := Ideal) q kv kp (ix3 b h s) = (ρ : EReal) := hρ
  rw [val_main_v22_apply, e, val_main_v21_apply, val_main_cst_3_apply]
  show max (Ideal.ofBits .f32 0xFF800000#32 : EReal) _ = _
  rw [ofBits_neg_inf, max_eq_right bot_le]

theorem exp_apply (b : Fin 2) (h : Fin 8) (s j : Fin 4096) :
    val_main_v26 (F := Ideal) q kv kp (ix4 b h s j) = Ideal.exp (val_main_v19 (F := Ideal) q kv kp (ix4 b h s j) - val_main_v22 (F := Ideal) q kv kp (ix3 b h s)) := by
  pointwise [val_main_v26, val_main_v25, val_main_v24, val_main_v23]

theorem prob_apply (b : Fin 2) (h : Fin 8) (s j : Fin 4096) :
    val_main_v30 (F := Ideal) q kv kp (ix4 b h s j) = Ideal.div (val_main_v26 (F := Ideal) q kv kp (ix4 b h s j)) (0 + ∑ i : Fin 4096, val_main_v26 (F := Ideal) q kv kp (ix4 b h s i)) := by
  pointwise [val_main_v30, val_main_v29, val_main_v28, val_main_v27, val_main_cst_4]

theorem out_apply (r : Fin 8192) (n : Fin 1024) :
    val_main_v34 (F := Ideal) q kv kp (ix2 r n)
      = ∑ j : Fin 4096, kv (ix4 ⟨r.val / 4096, by omega⟩ j ⟨n.val / 128, by omega⟩ ⟨128 + n.val % 128, by omega⟩)
          * val_main_v30 (F := Ideal) q kv kp (ix4 ⟨r.val / 4096, by omega⟩ ⟨n.val / 128, by omega⟩ ⟨r.val % 4096, by omega⟩ j) := by
  pointwise [val_main_v34, val_main_v33, val_main_v32, val_main_v31, val_main_v4]

end Cert.Reference11Ideal.Lat
end
-- ==== Proof.LatRefValue.lean ====
/- The reference's result: the same weighted mean of the values as the kernel's. -/
module

public import proofs.«01_k».proof.Proof.LatTraj
public import proofs.«01_k».proof.Proof.LatRef

@[expose] public section

set_option maxRecDepth 16384

noncomputable section

namespace Cert.Reference11Ideal.Lat

open Idealize.ShloMosaic
open Cert.Reference11Ideal Cert.Reference11Ideal.Read Facts₀
open Cert.Softmax (sc wt)
open Cert.Kernel11Ideal.Lat (dotR wgt vals gold atQ atV atP atK atQ_coe atK_coe RealQ RealV RealP scaleR wgt_sum_pos)

variable (q : S2x4096x8x192.Idx → EReal) (kv : S2x4096x8x256.Idx → EReal) (kp : S2x4096x64.Idx → EReal)

theorem query_at (b : Fin 2) (s : Fin 4096) (h : Fin 8) (d : Fin 192) : q (ix4 b s h d) = atQ q b.val s.val h.val d.val := by
  have hb := b.isLt; have hs := s.isLt; have hh := h.isLt; have hd := d.isLt
  unfold atQ
  congr 1
  congr 1 <;> apply Fin.ext <;> simp only <;> omega

theorem value_at (b : Fin 2) (s : Fin 4096) (h : Fin 8) (d : Fin 256) : kv (ix4 b s h d) = atV kv b.val s.val h.val d.val := by
  have hb := b.isLt; have hs := s.isLt; have hh := h.isLt; have hd := d.isLt
  unfold atV
  congr 1
  congr 1 <;> apply Fin.ext <;> simp only <;> omega

theorem shared_at (b : Fin 2) (s : Fin 4096) (d : Fin 64) : kp (ix3 b s d) = atP kp b.val s.val d.val := by
  have hb := b.isLt; have hs := s.isLt; have hd := d.isLt
  unfold atP
  congr 1
  congr 1 <;> apply Fin.ext <;> simp only <;> omega

theorem key_at (b : Fin 2) (j : Fin 4096) (h : Fin 8) (d : Fin 192) :
    val_main_v3 (F := Ideal) kv kp (ix4 b j h d) = atK kv kp b.val j.val h.val d.val := by
  unfold atK
  by_cases hd : d.val < 128
  · rw [if_pos hd, key_lo kv kp b j h d hd]; exact value_at kv b j h _
  · rw [if_neg hd, key_hi kv kp b j h d (by omega)]; exact shared_at kp b j _

theorem dot_real (hq : RealQ q) (hv : RealV kv) (hp : RealP kp) (b : Fin 2) (h : Fin 8) (s j : Fin 4096) :
    ∑ d : Fin 192, q (ix4 b s h d) * val_main_v3 (F := Ideal) kv kp (ix4 b j h d) = ((dotR q kv kp b.val h.val s.val j.val : ℝ) : EReal) := by
  unfold dotR
  rw [Finset.sum_range, Cert.Softmax.coe_sum]
  refine Finset.sum_congr rfl fun d _ => ?_
  rw [query_at q, key_at kv kp, EReal.coe_mul, ← atQ_coe q hq, ← atK_coe kv kp hv hp]

theorem score_real (hq : RealQ q) (hv : RealV kv) (hp : RealP kp) (b : Fin 2) (h : Fin 8) (s j : Fin 4096) :
    val_main_v19 (F := Ideal) q kv kp (ix4 b h s j) = sc (j.val / 64 ≤ s.val / 64) (dotR q kv kp b.val h.val s.val j.val * (1 / Real.sqrt 192)) :=
  score_apply q kv kp b h s j _ (dot_real q kv kp hq hv hp b h s j)

theorem scale_eq (x : ℝ) : x * (1 / Real.sqrt 192) * (Real.log 2)⁻¹ = scaleR * x := by
  unfold scaleR
  rw [one_div]; ring

theorem exp_real (hq : RealQ q) (hv : RealV kv) (hp : RealP kp) (b : Fin 2) (h : Fin 8) (s : Fin 4096) :
    ∃ ρ : ℝ, ∀ j : Fin 4096, val_main_v26 (F := Ideal) q kv kp (ix4 b h s j) = ((Real.exp (-ρ) * wgt q kv kp b.val h.val s.val j.val : ℝ) : EReal) := by
  obtain ⟨ρ, hρ⟩ := max_real q kv kp b h s (fun i => by
      obtain ⟨b', h', s', j', rfl⟩ : ∃ b' h' s' j', i = ix4 b' h' s' j' :=
        ⟨i 0, i 1, i 2, i 3, funext fun a => by match a with | ⟨0, _⟩ => rfl | ⟨1, _⟩ => rfl | ⟨2, _⟩ => rfl | ⟨3, _⟩ => rfl⟩
      rw [score_real q kv kp hq hv hp b' h' s' j']
      exact Cert.Softmax.sc_ne_top _ _) (by
      rw [score_real q kv kp hq hv hp b h s 0]
      unfold sc
      rw [if_pos (show ((0 : Fin 4096) : ℕ) / 64 ≤ s.val / 64 from by simp)]
      exact EReal.coe_ne_bot _)
  refine ⟨ρ, fun j => ?_⟩
  rw [exp_apply, hρ, score_real q kv kp hq hv hp b h s j, Cert.Softmax.exp_sub, scale_eq]
  rfl

theorem prob_gold (hq : RealQ q) (hv : RealV kv) (hp : RealP kp) (b : Fin 2) (h : Fin 8) (s : Fin 4096) (w : ℕ → EReal) :
    ∑ j : Fin 4096, w j.val * val_main_v30 (F := Ideal) q kv kp (ix4 b h s j)
      = (∑ j ∈ Finset.range (512 * (s.val / 512 + 1)), (wgt q kv kp b.val h.val s.val j : EReal) * w j)
        * (((∑ j ∈ Finset.range (512 * (s.val / 512 + 1)), wgt q kv kp b.val h.val s.val j)⁻¹ : ℝ) : EReal) := by
  obtain ⟨ρ, hρ⟩ := exp_real q kv kp hq hv hp b h s
  have hs := s.isLt
  refine (Finset.sum_congr rfl fun j _ => congrArg (w j.val * ·) (prob_apply q kv kp b h s j)).trans ?_
  refine Cert.Softmax.plain (wgt q kv kp b.val h.val s.val) (512 * (s.val / 512 + 1)) 4096 (by omega) w (fun j => Cert.Softmax.wt_nonneg _ _) (fun j hj => ?_)
    (wgt_sum_pos _ _ _ _ _ _ _ (by omega)) (Real.exp (-ρ)) (Real.exp_pos _) (fun j => val_main_v26 (F := Ideal) q kv kp (ix4 b h s j)) hρ
  exact Cert.Softmax.wt_zero (by omega) _

/-- The reference's result, element by element. -/
theorem out_gold (hq : RealQ q) (hv : RealV kv) (hp : RealP kp) (r : Fin 8192) (n : Fin 1024) :
    val_main_v34 (F := Ideal) q kv kp (ix2 r n) = gold q kv kp (r.val / 4096) (r.val % 4096) (n.val / 128) (n.val % 128) := by
  rw [out_apply]
  refine (Finset.sum_congr rfl fun j _ => congrArg (· * _) (value_at kv _ j _ _)).trans ?_
  exact prob_gold q kv kp hq hv hp _ _ _ (vals kv (r.val / 4096) (n.val / 128) (n.val % 128))

end Cert.Reference11Ideal.Lat
end
-- ==== Proof.LatFinite.lean ====
/- What the latent attention's precondition says: every query and every key is a real number. -/
module

public import proofs.«01_k».proof.Defs
public import proofs.«01_k».proof.Proof.Finite
public import proofs.«01_k».proof.Proof.LatTraj
public import Idealize.ShloMosaic.Lib.ReduceAll

@[expose] public section

noncomputable section

namespace Cert.LatFinite

open Idealize.ShloMosaic
open Cert.Finite (real_of_lt and_one)
open Cert.Kernel11Ideal.Lat (RealQ RealV RealP atV)

/-- The predicate's shape relations. -/
theorem facts : Cert.Pre_finite11.Facts := ⟨by decide, by decide, by decide, by decide, by decide, by decide, by decide, by decide⟩

/-- A head's own key among the first 128 lanes. -/
theorem slice_at (x : Cert.Pre_finite11.S2x4096x8x256.Idx → EReal)
    (hs : Cert.Pre_finite11.S2x4096x8x256.Slices ![0, 0, 0, 0] Cert.Pre_finite11.S2x4096x8x128) (b s g d : ℕ) (hd : d < 128) :
    (extractStridedSlice Cert.Pre_finite11.S2x4096x8x128 ![0, 0, 0, 0] x hs : Cert.Pre_finite11.S2x4096x8x128.Idx → EReal)
      (ix4 ⟨b % 2, Nat.mod_lt _ (by decide)⟩ ⟨s % 4096, Nat.mod_lt _ (by decide)⟩ ⟨g % 8, Nat.mod_lt _ (by decide)⟩ ⟨d, hd⟩) = atV x b s g d := by
  refine congrArg x (funext fun a => Fin.ext ?_)
  match a with
  | ⟨0, _⟩ => exact Nat.zero_add _
  | ⟨1, _⟩ => exact Nat.zero_add _
  | ⟨2, _⟩ => exact Nat.zero_add _
  | ⟨3, _⟩ => exact (Nat.zero_add _).trans (Nat.mod_eq_of_lt (show d < 256 by omega)).symm

/-- Where the predicate is one, the queries and the keys are real. -/
theorem real [hP : Cert.Pre_finite11.Facts] (q : Cert.Pre_finite11.S2x4096x8x192.Idx → EReal) (kv : Cert.Pre_finite11.S2x4096x8x256.Idx → EReal)
    (kp : Cert.Pre_finite11.S2x4096x64.Idx → EReal)
    (h : Cert.Pre_finite11.fn (F := Ideal) q kv kp = fun _ => 1#1) : RealQ q ∧ RealV kv ∧ RealP kp := by
  have hs : Subsingleton Cert.Pre_finite11.S_.Idx := ⟨fun a b => funext fun i => i.elim0⟩
  obtain ⟨h12, h3⟩ := and_one _ _ (congrFun h ix0)
  obtain ⟨h1, h2⟩ := and_one _ _ h12
  refine ⟨fun i => real_of_lt _ (Host.reduce_andi_all _ _ _ _ _ h1 i), fun b s g d hd => ?_, fun i => real_of_lt _ (Host.reduce_andi_all _ _ _ _ _ h3 i)⟩
  rw [← slice_at kv hP.slices_S2x4096x8x256_S2x4096x8x128_0_0_0_0 b s g d hd]
  exact real_of_lt _ (Host.reduce_andi_all _ _ _ _ _ h2 _)

end Cert.LatFinite
end
-- ==== Proof.Latent.lean ====
/- The latent attention's claims: its runs, its named constants, and its result equal to the reference's. -/
module

public import proofs.«01_k».proof.Defs
public import proofs.«01_k».proof.Proof.Gen.Reference11Ideal.Run
public import proofs.«01_k».proof.Proof.Gen.Reference11Ideal.Read
public import proofs.«01_k».proof.Proof.Exact
public import proofs.«01_k».proof.Proof.LatOut
public import proofs.«01_k».proof.Proof.LatRefValue
public import proofs.«01_k».proof.Proof.LatFinite

@[expose] public section

noncomputable section

namespace Cert.Latent

open Idealize.ShloMosaic Idealize.SL.Sem

/-- The kernel's run, its arguments unchanged and every counter at zero. -/
theorem frame_p : Cert.quiescent_Kernel11 := Cert.Exact.frame11

/-- The same of the idealized kernel. -/
theorem frame_pi : Cert.quiescent_Kernel11Ideal := fun m g _ =>
  (θ_run Cert.Kernel11Ideal.defs _ _).mono (fun r hr => ⟨fun c => (hr.1 c).2, hr.2⟩) (Cert.Kernel11Ideal.Lat.run m g)

/-- The same of the reference, which declares no counter. -/
theorem frame_ri : Cert.quiescent_Reference11Ideal := fun m g _ =>
  (θ_run Cert.Reference11Ideal.defs _ _).mono (fun r hr => ⟨fun c => (hr c).2, sem_eq_zero_of_no_sems (by decide) r.2⟩) (Cert.Reference11Ideal.Value.run m g)

/-- The two named constants. -/
theorem named : Cert.preserves_Kernel11_Kernel11Ideal :=
  ⟨IdealRules.named_const.statement Cert.Kernel11Ideal.κ "mask11" .f32 0xF149F2CA#32 ⊥ rfl,
    IdealRules.named_const.statement Cert.Kernel11Ideal.κ "scale11" .f32 0x3DD53B95#32 (((Real.sqrt 192)⁻¹ * (Real.log 2)⁻¹ : ℝ) : EReal) rfl⟩

/-- The two programs' results, where every query and every key is real. -/
theorem equal : Cert.algebraic_Kernel11Ideal_Reference11Ideal_pre_finite11 (hPre_finite11 := Cert.LatFinite.facts) := by
  intro m g m' g' hpre hargs
  refine ⟨fun c => Cert.Kernel11Ideal.Lat.result m c, (θ_run Cert.Kernel11Ideal.defs _ _).mono (fun r hr => hr.1) (Cert.Kernel11Ideal.Lat.run m g),
    (θ_run Cert.Reference11Ideal.defs _ _).mono (fun r hr c => ⟨(hr c).1.trans ?_, (hr c).2⟩) (Cert.Reference11Ideal.Value.run m' g')⟩
  obtain ⟨hq, hv, hp⟩ := Cert.LatFinite.real (hP := Cert.LatFinite.facts) _ _ _ (hpre c)
  obtain ⟨e0, e1, e2⟩ := hargs c
  rw [Cert.Reference11Ideal.Read.val_main_v34_eq, e0, e1, e2]
  refine Eq.trans ?_ (Cert.Kernel11Ideal.Lat.result_gold m c hq hv hp).symm
  funext y
  obtain ⟨r, n, rfl⟩ : ∃ (r : Fin 8192) (n : Fin 1024), y = ix2 r n := ⟨y 0, y 1, funext fun a => by match a with | ⟨0, _⟩ => rfl | ⟨1, _⟩ => rfl⟩
  exact Cert.Reference11Ideal.Lat.out_gold _ _ _ hq hv hp r n

end Cert.Latent

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.Exact
public import proofs.«01_k».proof.Proof.Out
public import proofs.«01_k».proof.Proof.RefValue
public import proofs.«01_k».proof.Proof.Finite
public import proofs.«01_k».proof.Proof.Calls
public import proofs.«01_k».proof.Proof.Latent

@[expose] public section

noncomputable section

namespace Cert.Proof

open Idealize.ShloMosaic Idealize.SL.Sem

/-- The kernel's run, its arguments unchanged and every counter at zero. -/
theorem frame_p : Cert.quiescent_Kernel := Cert.Exact.frame

/-- The same of the idealized kernel. -/
theorem frame_pi : Cert.quiescent_KernelIdeal := fun m g _ =>
  (θ_run Cert.KernelIdeal.defs _ _).mono (fun r hr => ⟨fun c => (hr.1 c).2, hr.2⟩) (Cert.KernelIdeal.Att.run m g)

/-- The same of the reference, which declares no counter. -/
theorem frame_ri : Cert.quiescent_ReferenceIdeal := fun m g _ =>
  (θ_run Cert.ReferenceIdeal.defs _ _).mono (fun r hr => ⟨fun c => (hr c).2, sem_eq_zero_of_no_sems (by decide) r.2⟩) (Cert.ReferenceIdeal.Value.run m g)

/-- The two named constants. -/
theorem named : Cert.preserves_Kernel_KernelIdeal :=
  ⟨IdealRules.named_const.statement Cert.KernelIdeal.κ "mask" .f32 0xF149F2CA#32 ⊥ rfl,
    IdealRules.named_const.statement Cert.KernelIdeal.κ "scale2" .f32 0x3E0293EE#32 (((Real.sqrt 128)⁻¹ * (Real.log 2)⁻¹ : ℝ) : EReal) rfl⟩

/-- The two programs' results, where every query and every key is real. -/
theorem equal : Cert.algebraic_KernelIdeal_ReferenceIdeal_pre_finite (hPre_finite := Cert.Finite.facts) := by
  intro m g m' g' hpre hargs
  refine ⟨fun c => Cert.KernelIdeal.Att.result m c, (θ_run Cert.KernelIdeal.defs _ _).mono (fun r hr => hr.1) (Cert.KernelIdeal.Att.run m g),
    (θ_run Cert.ReferenceIdeal.defs _ _).mono (fun r hr c => ⟨(hr c).1.trans ?_, (hr c).2⟩) (Cert.ReferenceIdeal.Value.run m' g')⟩
  obtain ⟨hq, hk⟩ := Cert.Finite.real (hP := Cert.Finite.facts) _ _ _ (hpre c)
  obtain ⟨e0, e1, e2⟩ := hargs c
  rw [Cert.ReferenceIdeal.Read.val_main_v29_eq, e0, e1, e2]
  refine Eq.trans ?_ (Cert.KernelIdeal.Att.result_gold m c hq hk).symm
  funext y
  obtain ⟨r, n, rfl⟩ := Cert.Kernel3Ideal.Val.exists_ix2 y
  exact Cert.ReferenceIdeal.Att.out_gold _ _ _ hq hk r n

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts,
    Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts,
    Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Finite.facts, Cert.LatFinite.facts, frame_p, frame_pi, fun m g _ => frame_pi m g trivial, frame_ri, fun m g _ => frame_ri m g trivial,
    Cert.Further.frame2, fun m g _ => Cert.Kernel2Ideal.Gen.frame m g, Cert.Further.frame_r2, Cert.Further.frame3, fun m g _ => Cert.Kernel3Ideal.Gen.frame m g, Cert.Further.frame_r3, Cert.Further.frame4, fun m g _ => Cert.Kernel4Ideal.Gen.frame m g, Cert.Further.frame_r4, Cert.Further.frame5, fun m g _ => Cert.Kernel5Ideal.Gen.frame m g, Cert.Further.frame_r5,
    Cert.Further.frame6, fun m g _ => Cert.Kernel6Ideal.Gen.frame m g, Cert.Further.frame_r6, Cert.Further.frame7, fun m g _ => Cert.Kernel7Ideal.Gen.frame m g, Cert.Further.frame_r7, Cert.Further.frame8, fun m g _ => Cert.Kernel8Ideal.Gen.frame m g, Cert.Further.frame_r8, Cert.Further.frame9, fun m g _ => Cert.Kernel9Ideal.Gen.frame m g, Cert.Further.frame_r9, Cert.Further.frame10, fun m g _ => Cert.Kernel10Ideal.Gen.frame m g, Cert.Further.frame_r10,
    Cert.Latent.frame_p, Cert.Latent.frame_pi, fun m g _ => Cert.Latent.frame_pi m g trivial, Cert.Latent.frame_ri, fun m g _ => Cert.Latent.frame_ri m g trivial,
    Cert.Further.frame12, fun m g _ => Cert.Kernel12Ideal.Gen.frame m g, Cert.Further.frame_r12, Cert.Further.frame13, fun m g _ => Cert.Kernel13Ideal.Gen.frame m g, Cert.Further.frame_r13, Cert.Further.frame14, fun m g _ => Cert.Kernel14Ideal.Gen.frame m g, Cert.Further.frame_r14, Cert.Further.frame15, fun m g _ => Cert.Kernel15Ideal.Gen.frame m g, Cert.Further.frame_r15, Cert.Further.frame16, fun m g _ => Cert.Kernel16Ideal.Gen.frame m g, Cert.Further.frame_r16, Cert.Further.frame17, fun m g _ => Cert.Kernel17Ideal.Gen.frame m g, Cert.Further.frame_r17,
    named, equal, trivial, Cert.Further.equal2, trivial, Cert.Further.equal3, trivial, Cert.Further.equal4, trivial, Cert.Further.equal5,
    trivial, Cert.Further.equal6, trivial, Cert.Further.equal7, trivial, Cert.Further.equal8, trivial, Cert.Further.equal9, trivial, Cert.Further.equal10, Cert.Latent.named, Cert.Latent.equal, trivial, Cert.Further.equal12, trivial, Cert.Further.equal13, trivial, Cert.Further.equal14, trivial, Cert.Further.equal15, trivial, Cert.Further.equal16, trivial, Cert.Further.equal17⟩

end Cert.Proof

end
